-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12)
      ∧ r.2.mem ((c.tc : Thread Cert.Kernel17.nD Cert.Kernel17.τ).loc Cert.Kernel17.main_arg13) = m ((c.tc : Thread Cert.Kernel17.nD Cert.Kernel17.τ).loc Cert.Kernel17.main_arg13)
      ∧ r.2.mem ((c.tc : Thread Cert.Kernel17.nD Cert.Kernel17.τ).loc Cert.Kernel17.main_arg14) = m ((c.tc : Thread Cert.Kernel17.nD Cert.Kernel17.τ).loc Cert.Kernel17.main_arg14)
      ∧ r.2.mem ((c.tc : Thread Cert.Kernel17.nD Cert.Kernel17.τ).loc Cert.Kernel17.main_arg15) = m ((c.tc : Thread Cert.Kernel17.nD Cert.Kernel17.τ).loc Cert.Kernel17.main_arg15)
      ∧ r.2.mem ((c.tc : Thread Cert.Kernel17.nD Cert.Kernel17.τ).loc Cert.Kernel17.main_arg16) = m ((c.tc : Thread Cert.Kernel17.nD Cert.Kernel17.τ).loc Cert.Kernel17.main_arg16)
      ∧ r.2.mem ((c.tc : Thread Cert.Kernel17.nD Cert.Kernel17.τ).loc Cert.Kernel17.main_arg17) = m ((c.tc : Thread Cert.Kernel17.nD Cert.Kernel17.τ).loc Cert.Kernel17.main_arg17)
      ∧ r.2.mem ((c.tc : Thread Cert.Kernel17.nD Cert.Kernel17.τ).loc Cert.Kernel17.main_arg18) = m ((c.tc : Thread Cert.Kernel17.nD Cert.Kernel17.τ).loc Cert.Kernel17.main_arg18)
      ∧ r.2.mem ((c.tc : Thread Cert.Kernel17.nD Cert.Kernel17.τ).loc Cert.Kernel17.main_arg19) = m ((c.tc : Thread Cert.Kernel17.nD Cert.Kernel17.τ).loc Cert.Kernel17.main_arg19)
      ∧ r.2.mem ((c.tc : Thread Cert.Kernel17.nD Cert.Kernel17.τ).loc Cert.Kernel17.main_arg20) = m ((c.tc : Thread Cert.Kernel17.nD Cert.Kernel17.τ).loc Cert.Kernel17.main_arg20)
      ∧ r.2.mem ((c.tc : Thread Cert.Kernel17.nD Cert.Kernel17.τ).loc Cert.Kernel17.main_arg21) = m ((c.tc : Thread Cert.Kernel17.nD Cert.Kernel17.τ).loc Cert.Kernel17.main_arg21)
      ∧ r.2.mem ((c.tc : Thread Cert.Kernel17.nD Cert.Kernel17.τ).loc Cert.Kernel17.main_arg22) = m ((c.tc : Thread Cert.Kernel17.nD Cert.Kernel17.τ).loc Cert.Kernel17.main_arg22)
      ∧ r.2.mem ((c.tc : Thread Cert.Kernel17.nD Cert.Kernel17.τ).loc Cert.Kernel17.main_arg23) = m ((c.tc : Thread Cert.Kernel17.nD Cert.Kernel17.τ).loc Cert.Kernel17.main_arg23)
      ∧ r.2.mem ((c.tc : Thread Cert.Kernel17.nD Cert.Kernel17.τ).loc Cert.Kernel17.main_arg24) = m ((c.tc : Thread Cert.Kernel17.nD Cert.Kernel17.τ).loc Cert.Kernel17.main_arg24)
      ∧ r.2.mem ((c.tc : Thread Cert.Kernel17.nD Cert.Kernel17.τ).loc Cert.Kernel17.main_arg25) = m ((c.tc : Thread Cert.Kernel17.nD Cert.Kernel17.τ).loc Cert.Kernel17.main_arg25)
      ∧ r.2.mem ((c.tc : Thread Cert.Kernel17.nD Cert.Kernel17.τ).loc Cert.Kernel17.main_arg26) = m ((c.tc : Thread Cert.Kernel17.nD Cert.Kernel17.τ).loc Cert.Kernel17.main_arg26)
      ∧ r.2.mem ((c.tc : Thread Cert.Kernel17.nD Cert.Kernel17.τ).loc Cert.Kernel17.main_arg27) = m ((c.tc : Thread Cert.Kernel17.nD Cert.Kernel17.τ).loc Cert.Kernel17.main_arg27)
      ∧ r.2.mem ((c.tc : Thread Cert.Kernel17.nD Cert.Kernel17.τ).loc Cert.Kernel17.main_arg28) = m ((c.tc : Thread Cert.Kernel17.nD Cert.Kernel17.τ).loc Cert.Kernel17.main_arg28)
      ∧ r.2.mem ((c.tc : Thread Cert.Kernel17.nD Cert.Kernel17.τ).loc Cert.Kernel17.main_arg29) = m ((c.tc : Thread Cert.Kernel17.nD Cert.Kernel17.τ).loc Cert.Kernel17.main_arg29)
      ∧ r.2.mem ((c.tc : Thread Cert.Kernel17.nD Cert.Kernel17.τ).loc Cert.Kernel17.main_arg30) = m ((c.tc : Thread Cert.Kernel17.nD Cert.Kernel17.τ).loc Cert.Kernel17.main_arg30)
      ∧ r.2.mem ((c.tc : Thread Cert.Kernel17.nD Cert.Kernel17.τ).loc Cert.Kernel17.main_arg31) = m ((c.tc : Thread Cert.Kernel17.nD Cert.Kernel17.τ).loc Cert.Kernel17.main_arg31)
      ∧ r.2.mem ((c.tc : Thread Cert.Kernel17.nD Cert.Kernel17.τ).loc Cert.Kernel17.main_arg32) = m ((c.tc : Thread Cert.Kernel17.nD Cert.Kernel17.τ).loc Cert.Kernel17.main_arg32)
      ∧ r.2.mem ((c.tc : Thread Cert.Kernel17.nD Cert.Kernel17.τ).loc Cert.Kernel17.main_arg33) = m ((c.tc : Thread Cert.Kernel17.nD Cert.Kernel17.τ).loc Cert.Kernel17.main_arg33)
      ∧ r.2.mem ((c.tc : Thread Cert.Kernel17.nD Cert.Kernel17.τ).loc Cert.Kernel17.main_arg34) = m ((c.tc : Thread Cert.Kernel17.nD Cert.Kernel17.τ).loc Cert.Kernel17.main_arg34)
      ∧ r.2.mem ((c.tc : Thread Cert.Kernel17.nD Cert.Kernel17.τ).loc Cert.Kernel17.main_arg35) = m ((c.tc : Thread Cert.Kernel17.nD Cert.Kernel17.τ).loc Cert.Kernel17.main_arg35)
      ∧ r.2.mem ((c.tc : Thread Cert.Kernel17.nD Cert.Kernel17.τ).loc Cert.Kernel17.main_arg36) = m ((c.tc : Thread Cert.Kernel17.nD Cert.Kernel17.τ).loc Cert.Kernel17.main_arg36)
      ∧ r.2.mem ((c.tc : Thread Cert.Kernel17.nD Cert.Kernel17.τ).loc Cert.Kernel17.main_arg37) = m ((c.tc : Thread Cert.Kernel17.nD Cert.Kernel17.τ).loc Cert.Kernel17.main_arg37)
      ∧ r.2.mem ((c.tc : Thread Cert.Kernel17.nD Cert.Kernel17.τ).loc Cert.Kernel17.main_arg38) = m ((c.tc : Thread Cert.Kernel17.nD Cert.Kernel17.τ).loc Cert.Kernel17.main_arg38)
      ∧ r.2.mem ((c.tc : Thread Cert.Kernel17.nD Cert.Kernel17.τ).loc Cert.Kernel17.main_arg39) = m ((c.tc : Thread Cert.Kernel17.nD Cert.Kernel17.τ).loc Cert.Kernel17.main_arg39)
      ∧ r.2.mem ((c.tc : Thread Cert.Kernel17.nD Cert.Kernel17.τ).loc Cert.Kernel17.main_arg40) = m ((c.tc : Thread Cert.Kernel17.nD Cert.Kernel17.τ).loc Cert.Kernel17.main_arg40)
      ∧ r.2.mem ((c.tc : Thread Cert.Kernel17.nD Cert.Kernel17.τ).loc Cert.Kernel17.main_arg41) = m ((c.tc : Thread Cert.Kernel17.nD Cert.Kernel17.τ).loc Cert.Kernel17.main_arg41)
      ∧ r.2.mem ((c.tc : Thread Cert.Kernel17.nD Cert.Kernel17.τ).loc Cert.Kernel17.main_arg42) = m ((c.tc : Thread Cert.Kernel17.nD Cert.Kernel17.τ).loc Cert.Kernel17.main_arg42)
      ∧ r.2.mem ((c.tc : Thread Cert.Kernel17.nD Cert.Kernel17.τ).loc Cert.Kernel17.main_arg43) = m ((c.tc : Thread Cert.Kernel17.nD Cert.Kernel17.τ).loc Cert.Kernel17.main_arg43)
      ∧ r.2.mem ((c.tc : Thread Cert.Kernel17.nD Cert.Kernel17.τ).loc Cert.Kernel17.main_arg44) = m ((c.tc : Thread Cert.Kernel17.nD Cert.Kernel17.τ).loc Cert.Kernel17.main_arg44)
      ∧ r.2.mem ((c.tc : Thread Cert.Kernel17.nD Cert.Kernel17.τ).loc Cert.Kernel17.main_arg45) = m ((c.tc : Thread Cert.Kernel17.nD Cert.Kernel17.τ).loc Cert.Kernel17.main_arg45)
      ∧ r.2.mem ((c.tc : Thread Cert.Kernel17.nD Cert.Kernel17.τ).loc Cert.Kernel17.main_arg46) = m ((c.tc : Thread Cert.Kernel17.nD Cert.Kernel17.τ).loc Cert.Kernel17.main_arg46)
      ∧ r.2.mem ((c.tc : Thread Cert.Kernel17.nD Cert.Kernel17.τ).loc Cert.Kernel17.main_arg47) = m ((c.tc : Thread Cert.Kernel17.nD Cert.Kernel17.τ).loc Cert.Kernel17.main_arg47)
      ∧ r.2.mem ((c.tc : Thread Cert.Kernel17.nD Cert.Kernel17.τ).loc Cert.Kernel17.main_arg48) = m ((c.tc : Thread Cert.Kernel17.nD Cert.Kernel17.τ).loc Cert.Kernel17.main_arg48)
      ∧ r.2.mem ((c.tc : Thread Cert.Kernel17.nD Cert.Kernel17.τ).loc Cert.Kernel17.main_arg49) = m ((c.tc : Thread Cert.Kernel17.nD Cert.Kernel17.τ).loc Cert.Kernel17.main_arg49)
      ∧ r.2.mem ((c.tc : Thread Cert.Kernel17.nD Cert.Kernel17.τ).loc Cert.Kernel17.main_arg50) = m ((c.tc : Thread Cert.Kernel17.nD Cert.Kernel17.τ).loc Cert.Kernel17.main_arg50)
      ∧ r.2.mem ((c.tc : Thread Cert.Kernel17.nD Cert.Kernel17.τ).loc Cert.Kernel17.main_arg51) = m ((c.tc : Thread Cert.Kernel17.nD Cert.Kernel17.τ).loc Cert.Kernel17.main_arg51)
      ∧ r.2.mem ((c.tc : Thread Cert.Kernel17.nD Cert.Kernel17.τ).loc Cert.Kernel17.main_arg52) = m ((c.tc : Thread Cert.Kernel17.nD Cert.Kernel17.τ).loc Cert.Kernel17.main_arg52)
      ∧ r.2.mem ((c.tc : Thread Cert.Kernel17.nD Cert.Kernel17.τ).loc Cert.Kernel17.main_arg53) = m ((c.tc : Thread Cert.Kernel17.nD Cert.Kernel17.τ).loc Cert.Kernel17.main_arg53)
      ∧ r.2.mem ((c.tc : Thread Cert.Kernel17.nD Cert.Kernel17.τ).loc Cert.Kernel17.main_arg54) = m ((c.tc : Thread Cert.Kernel17.nD Cert.Kernel17.τ).loc Cert.Kernel17.main_arg54)
      ∧ r.2.mem ((c.tc : Thread Cert.Kernel17.nD Cert.Kernel17.τ).loc Cert.Kernel17.main_arg55) = m ((c.tc : Thread Cert.Kernel17.nD Cert.Kernel17.τ).loc Cert.Kernel17.main_arg55)
      ∧ r.2.mem ((c.tc : Thread Cert.Kernel17.nD Cert.Kernel17.τ).loc Cert.Kernel17.main_arg56) = m ((c.tc : Thread Cert.Kernel17.nD Cert.Kernel17.τ).loc Cert.Kernel17.main_arg56)
      ∧ r.2.mem ((c.tc : Thread Cert.Kernel17.nD Cert.Kernel17.τ).loc Cert.Kernel17.main_arg57) = m ((c.tc : Thread Cert.Kernel17.nD Cert.Kernel17.τ).loc Cert.Kernel17.main_arg57)
      ∧ r.2.mem ((c.tc : Thread Cert.Kernel17.nD Cert.Kernel17.τ).loc Cert.Kernel17.main_arg58) = m ((c.tc : Thread Cert.Kernel17.nD Cert.Kernel17.τ).loc Cert.Kernel17.main_arg58)
      ∧ r.2.mem ((c.tc : Thread Cert.Kernel17.nD Cert.Kernel17.τ).loc Cert.Kernel17.main_arg59) = m ((c.tc : Thread Cert.Kernel17.nD Cert.Kernel17.τ).loc Cert.Kernel17.main_arg59)
      ∧ r.2.mem ((c.tc : Thread Cert.Kernel17.nD Cert.Kernel17.τ).loc Cert.Kernel17.main_arg60) = m ((c.tc : Thread Cert.Kernel17.nD Cert.Kernel17.τ).loc Cert.Kernel17.main_arg60)
      ∧ r.2.mem ((c.tc : Thread Cert.Kernel17.nD Cert.Kernel17.τ).loc Cert.Kernel17.main_arg61) = m ((c.tc : Thread Cert.Kernel17.nD Cert.Kernel17.τ).loc Cert.Kernel17.main_arg61)
      ∧ r.2.mem ((c.tc : Thread Cert.Kernel17.nD Cert.Kernel17.τ).loc Cert.Kernel17.main_arg62) = m ((c.tc : Thread Cert.Kernel17.nD Cert.Kernel17.τ).loc Cert.Kernel17.main_arg62)
      ∧ r.2.mem ((c.tc : Thread Cert.Kernel17.nD Cert.Kernel17.τ).loc Cert.Kernel17.main_arg63) = m ((c.tc : Thread Cert.Kernel17.nD Cert.Kernel17.τ).loc Cert.Kernel17.main_arg63)
      ∧ r.2.mem ((c.tc : Thread Cert.Kernel17.nD Cert.Kernel17.τ).loc Cert.Kernel17.main_arg64) = m ((c.tc : Thread Cert.Kernel17.nD Cert.Kernel17.τ).loc Cert.Kernel17.main_arg64)
      ∧ r.2.mem ((c.tc : Thread Cert.Kernel17.nD Cert.Kernel17.τ).loc Cert.Kernel17.main_arg65) = m ((c.tc : Thread Cert.Kernel17.nD Cert.Kernel17.τ).loc Cert.Kernel17.main_arg65)
      ∧ r.2.mem ((c.tc : Thread Cert.Kernel17.nD Cert.Kernel17.τ).loc Cert.Kernel17.main_arg66) = m ((c.tc : Thread Cert.Kernel17.nD Cert.Kernel17.τ).loc Cert.Kernel17.main_arg66)
      ∧ r.2.mem ((c.tc : Thread Cert.Kernel17.nD Cert.Kernel17.τ).loc Cert.Kernel17.main_arg67) = m ((c.tc : Thread Cert.Kernel17.nD Cert.Kernel17.τ).loc Cert.Kernel17.main_arg67)
      ∧ r.2.mem ((c.tc : Thread Cert.Kernel17.nD Cert.Kernel17.τ).loc Cert.Kernel17.main_arg68) = m ((c.tc : Thread Cert.Kernel17.nD Cert.Kernel17.τ).loc Cert.Kernel17.main_arg68)
      ∧ r.2.mem ((c.tc : Thread Cert.Kernel17.nD Cert.Kernel17.τ).loc Cert.Kernel17.main_arg69) = m ((c.tc : Thread Cert.Kernel17.nD Cert.Kernel17.τ).loc Cert.Kernel17.main_arg69)
      ∧ r.2.mem ((c.tc : Thread Cert.Kernel17.nD Cert.Kernel17.τ).loc Cert.Kernel17.main_arg70) = m ((c.tc : Thread Cert.Kernel17.nD Cert.Kernel17.τ).loc Cert.Kernel17.main_arg70)
      ∧ r.2.mem ((c.tc : Thread Cert.Kernel17.nD Cert.Kernel17.τ).loc Cert.Kernel17.main_arg71) = m ((c.tc : Thread Cert.Kernel17.nD Cert.Kernel17.τ).loc Cert.Kernel17.main_arg71)
      ∧ r.2.mem ((c.tc : Thread Cert.Kernel17.nD Cert.Kernel17.τ).loc Cert.Kernel17.main_arg72) = m ((c.tc : Thread Cert.Kernel17.nD Cert.Kernel17.τ).loc Cert.Kernel17.main_arg72)
      ∧ r.2.mem ((c.tc : Thread Cert.Kernel17.nD Cert.Kernel17.τ).loc Cert.Kernel17.main_arg73) = m ((c.tc : Thread Cert.Kernel17.nD Cert.Kernel17.τ).loc Cert.Kernel17.main_arg73)
      ∧ r.2.mem ((c.tc : Thread Cert.Kernel17.nD Cert.Kernel17.τ).loc Cert.Kernel17.main_arg74) = m ((c.tc : Thread Cert.Kernel17.nD Cert.Kernel17.τ).loc Cert.Kernel17.main_arg74)
      ∧ r.2.mem ((c.tc : Thread Cert.Kernel17.nD Cert.Kernel17.τ).loc Cert.Kernel17.main_arg75) = m ((c.tc : Thread Cert.Kernel17.nD Cert.Kernel17.τ).loc Cert.Kernel17.main_arg75)
      ∧ r.2.mem ((c.tc : Thread Cert.Kernel17.nD Cert.Kernel17.τ).loc Cert.Kernel17.main_arg76) = m ((c.tc : Thread Cert.Kernel17.nD Cert.Kernel17.τ).loc Cert.Kernel17.main_arg76)
      ∧ r.2.mem ((c.tc : Thread Cert.Kernel17.nD Cert.Kernel17.τ).loc Cert.Kernel17.main_arg77) = m ((c.tc : Thread Cert.Kernel17.nD Cert.Kernel17.τ).loc Cert.Kernel17.main_arg77)
      ∧ r.2.mem ((c.tc : Thread Cert.Kernel17.nD Cert.Kernel17.τ).loc Cert.Kernel17.main_arg78) = m ((c.tc : Thread Cert.Kernel17.nD Cert.Kernel17.τ).loc Cert.Kernel17.main_arg78)
      ∧ r.2.mem ((c.tc : Thread Cert.Kernel17.nD Cert.Kernel17.τ).loc Cert.Kernel17.main_arg79) = m ((c.tc : Thread Cert.Kernel17.nD Cert.Kernel17.τ).loc Cert.Kernel17.main_arg79)
      ∧ r.2.mem ((c.tc : Thread Cert.Kernel17.nD Cert.Kernel17.τ).loc Cert.Kernel17.main_arg80) = m ((c.tc : Thread Cert.Kernel17.nD Cert.Kernel17.τ).loc Cert.Kernel17.main_arg80)
      ∧ r.2.mem ((c.tc : Thread Cert.Kernel17.nD Cert.Kernel17.τ).loc Cert.Kernel17.main_arg81) = m ((c.tc : Thread Cert.Kernel17.nD Cert.Kernel17.τ).loc Cert.Kernel17.main_arg81)
      ∧ r.2.mem ((c.tc : Thread Cert.Kernel17.nD Cert.Kernel17.τ).loc Cert.Kernel17.main_arg82) = m ((c.tc : Thread Cert.Kernel17.nD Cert.Kernel17.τ).loc Cert.Kernel17.main_arg82)
      ∧ r.2.mem ((c.tc : Thread Cert.Kernel17.nD Cert.Kernel17.τ).loc Cert.Kernel17.main_arg83) = m ((c.tc : Thread Cert.Kernel17.nD Cert.Kernel17.τ).loc Cert.Kernel17.main_arg83)
      ∧ r.2.mem ((c.tc : Thread Cert.Kernel17.nD Cert.Kernel17.τ).loc Cert.Kernel17.main_arg84) = m ((c.tc : Thread Cert.Kernel17.nD Cert.Kernel17.τ).loc Cert.Kernel17.main_arg84)
      ∧ r.2.mem ((c.tc : Thread Cert.Kernel17.nD Cert.Kernel17.τ).loc Cert.Kernel17.main_arg85) = m ((c.tc : Thread Cert.Kernel17.nD Cert.Kernel17.τ).loc Cert.Kernel17.main_arg85)
      ∧ r.2.mem ((c.tc : Thread Cert.Kernel17.nD Cert.Kernel17.τ).loc Cert.Kernel17.main_arg86) = m ((c.tc : Thread Cert.Kernel17.nD Cert.Kernel17.τ).loc Cert.Kernel17.main_arg86)
      ∧ r.2.mem ((c.tc : Thread Cert.Kernel17.nD Cert.Kernel17.τ).loc Cert.Kernel17.main_arg87) = m ((c.tc : Thread Cert.Kernel17.nD Cert.Kernel17.τ).loc Cert.Kernel17.main_arg87))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
      ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
      ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
      ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
      ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
      ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
      ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18)
      ∧ r.2.mem ((c.tc : Thread Cert.Kernel17Ideal.nD Cert.Kernel17Ideal.τ).loc Cert.Kernel17Ideal.main_arg19) = m ((c.tc : Thread Cert.Kernel17Ideal.nD Cert.Kernel17Ideal.τ).loc Cert.Kernel17Ideal.main_arg19)
      ∧ r.2.mem ((c.tc : Thread Cert.Kernel17Ideal.nD Cert.Kernel17Ideal.τ).loc Cert.Kernel17Ideal.main_arg20) = m ((c.tc : Thread Cert.Kernel17Ideal.nD Cert.Kernel17Ideal.τ).loc Cert.Kernel17Ideal.main_arg20)
      ∧ r.2.mem ((c.tc : Thread Cert.Kernel17Ideal.nD Cert.Kernel17Ideal.τ).loc Cert.Kernel17Ideal.main_arg21) = m ((c.tc : Thread Cert.Kernel17Ideal.nD Cert.Kernel17Ideal.τ).loc Cert.Kernel17Ideal.main_arg21)
      ∧ r.2.mem ((c.tc : Thread Cert.Kernel17Ideal.nD Cert.Kernel17Ideal.τ).loc Cert.Kernel17Ideal.main_arg22) = m ((c.tc : Thread Cert.Kernel17Ideal.nD Cert.Kernel17Ideal.τ).loc Cert.Kernel17Ideal.main_arg22)
      ∧ r.2.mem ((c.tc : Thread Cert.Kernel17Ideal.nD Cert.Kernel17Ideal.τ).loc Cert.Kernel17Ideal.main_arg23) = m ((c.tc : Thread Cert.Kernel17Ideal.nD Cert.Kernel17Ideal.τ).loc Cert.Kernel17Ideal.main_arg23)
      ∧ r.2.mem ((c.tc : Thread Cert.Kernel17Ideal.nD Cert.Kernel17Ideal.τ).loc Cert.Kernel17Ideal.main_arg24) = m ((c.tc : Thread Cert.Kernel17Ideal.nD Cert.Kernel17Ideal.τ).loc Cert.Kernel17Ideal.main_arg24)
      ∧ r.2.mem ((c.tc : Thread Cert.Kernel17Ideal.nD Cert.Kernel17Ideal.τ).loc Cert.Kernel17Ideal.main_arg25) = m ((c.tc : Thread Cert.Kernel17Ideal.nD Cert.Kernel17Ideal.τ).loc Cert.Kernel17Ideal.main_arg25)
      ∧ r.2.mem ((c.tc : Thread Cert.Kernel17Ideal.nD Cert.Kernel17Ideal.τ).loc Cert.Kernel17Ideal.main_arg26) = m ((c.tc : Thread Cert.Kernel17Ideal.nD Cert.Kernel17Ideal.τ).loc Cert.Kernel17Ideal.main_arg26)
      ∧ r.2.mem ((c.tc : Thread Cert.Kernel17Ideal.nD Cert.Kernel17Ideal.τ).loc Cert.Kernel17Ideal.main_arg27) = m ((c.tc : Thread Cert.Kernel17Ideal.nD Cert.Kernel17Ideal.τ).loc Cert.Kernel17Ideal.main_arg27)
      ∧ r.2.mem ((c.tc : Thread Cert.Kernel17Ideal.nD Cert.Kernel17Ideal.τ).loc Cert.Kernel17Ideal.main_arg28) = m ((c.tc : Thread Cert.Kernel17Ideal.nD Cert.Kernel17Ideal.τ).loc Cert.Kernel17Ideal.main_arg28)
      ∧ r.2.mem ((c.tc : Thread Cert.Kernel17Ideal.nD Cert.Kernel17Ideal.τ).loc Cert.Kernel17Ideal.main_arg29) = m ((c.tc : Thread Cert.Kernel17Ideal.nD Cert.Kernel17Ideal.τ).loc Cert.Kernel17Ideal.main_arg29)
      ∧ r.2.mem ((c.tc : Thread Cert.Kernel17Ideal.nD Cert.Kernel17Ideal.τ).loc Cert.Kernel17Ideal.main_arg30) = m ((c.tc : Thread Cert.Kernel17Ideal.nD Cert.Kernel17Ideal.τ).loc Cert.Kernel17Ideal.main_arg30)
      ∧ r.2.mem ((c.tc : Thread Cert.Kernel17Ideal.nD Cert.Kernel17Ideal.τ).loc Cert.Kernel17Ideal.main_arg31) = m ((c.tc : Thread Cert.Kernel17Ideal.nD Cert.Kernel17Ideal.τ).loc Cert.Kernel17Ideal.main_arg31)
      ∧ r.2.mem ((c.tc : Thread Cert.Kernel17Ideal.nD Cert.Kernel17Ideal.τ).loc Cert.Kernel17Ideal.main_arg32) = m ((c.tc : Thread Cert.Kernel17Ideal.nD Cert.Kernel17Ideal.τ).loc Cert.Kernel17Ideal.main_arg32)
      ∧ r.2.mem ((c.tc : Thread Cert.Kernel17Ideal.nD Cert.Kernel17Ideal.τ).loc Cert.Kernel17Ideal.main_arg33) = m ((c.tc : Thread Cert.Kernel17Ideal.nD Cert.Kernel17Ideal.τ).loc Cert.Kernel17Ideal.main_arg33)
      ∧ r.2.mem ((c.tc : Thread Cert.Kernel17Ideal.nD Cert.Kernel17Ideal.τ).loc Cert.Kernel17Ideal.main_arg34) = m ((c.tc : Thread Cert.Kernel17Ideal.nD Cert.Kernel17Ideal.τ).loc Cert.Kernel17Ideal.main_arg34)
      ∧ r.2.mem ((c.tc : Thread Cert.Kernel17Ideal.nD Cert.Kernel17Ideal.τ).loc Cert.Kernel17Ideal.main_arg35) = m ((c.tc : Thread Cert.Kernel17Ideal.nD Cert.Kernel17Ideal.τ).loc Cert.Kernel17Ideal.main_arg35)
      ∧ r.2.mem ((c.tc : Thread Cert.Kernel17Ideal.nD Cert.Kernel17Ideal.τ).loc Cert.Kernel17Ideal.main_arg36) = m ((c.tc : Thread Cert.Kernel17Ideal.nD Cert.Kernel17Ideal.τ).loc Cert.Kernel17Ideal.main_arg36)
      ∧ r.2.mem ((c.tc : Thread Cert.Kernel17Ideal.nD Cert.Kernel17Ideal.τ).loc Cert.Kernel17Ideal.main_arg37) = m ((c.tc : Thread Cert.Kernel17Ideal.nD Cert.Kernel17Ideal.τ).loc Cert.Kernel17Ideal.main_arg37)
      ∧ r.2.mem ((c.tc : Thread Cert.Kernel17Ideal.nD Cert.Kernel17Ideal.τ).loc Cert.Kernel17Ideal.main_arg38) = m ((c.tc : Thread Cert.Kernel17Ideal.nD Cert.Kernel17Ideal.τ).loc Cert.Kernel17Ideal.main_arg38)
      ∧ r.2.mem ((c.tc : Thread Cert.Kernel17Ideal.nD Cert.Kernel17Ideal.τ).loc Cert.Kernel17Ideal.main_arg39) = m ((c.tc : Thread Cert.Kernel17Ideal.nD Cert.Kernel17Ideal.τ).loc Cert.Kernel17Ideal.main_arg39)
      ∧ r.2.mem ((c.tc : Thread Cert.Kernel17Ideal.nD Cert.Kernel17Ideal.τ).loc Cert.Kernel17Ideal.main_arg40) = m ((c.tc : Thread Cert.Kernel17Ideal.nD Cert.Kernel17Ideal.τ).loc Cert.Kernel17Ideal.main_arg40)
      ∧ r.2.mem ((c.tc : Thread Cert.Kernel17Ideal.nD Cert.Kernel17Ideal.τ).loc Cert.Kernel17Ideal.main_arg41) = m ((c.tc : Thread Cert.Kernel17Ideal.nD Cert.Kernel17Ideal.τ).loc Cert.Kernel17Ideal.main_arg41)
      ∧ r.2.mem ((c.tc : Thread Cert.Kernel17Ideal.nD Cert.Kernel17Ideal.τ).loc Cert.Kernel17Ideal.main_arg42) = m ((c.tc : Thread Cert.Kernel17Ideal.nD Cert.Kernel17Ideal.τ).loc Cert.Kernel17Ideal.main_arg42)
      ∧ r.2.mem ((c.tc : Thread Cert.Kernel17Ideal.nD Cert.Kernel17Ideal.τ).loc Cert.Kernel17Ideal.main_arg43) = m ((c.tc : Thread Cert.Kernel17Ideal.nD Cert.Kernel17Ideal.τ).loc Cert.Kernel17Ideal.main_arg43)
      ∧ r.2.mem ((c.tc : Thread Cert.Kernel17Ideal.nD Cert.Kernel17Ideal.τ).loc Cert.Kernel17Ideal.main_arg44) = m ((c.tc : Thread Cert.Kernel17Ideal.nD Cert.Kernel17Ideal.τ).loc Cert.Kernel17Ideal.main_arg44)
      ∧ r.2.mem ((c.tc : Thread Cert.Kernel17Ideal.nD Cert.Kernel17Ideal.τ).loc Cert.Kernel17Ideal.main_arg45) = m ((c.tc : Thread Cert.Kernel17Ideal.nD Cert.Kernel17Ideal.τ).loc Cert.Kernel17Ideal.main_arg45)
      ∧ r.2.mem ((c.tc : Thread Cert.Kernel17Ideal.nD Cert.Kernel17Ideal.τ).loc Cert.Kernel17Ideal.main_arg46) = m ((c.tc : Thread Cert.Kernel17Ideal.nD Cert.Kernel17Ideal.τ).loc Cert.Kernel17Ideal.main_arg46)
      ∧ r.2.mem ((c.tc : Thread Cert.Kernel17Ideal.nD Cert.Kernel17Ideal.τ).loc Cert.Kernel17Ideal.main_arg47) = m ((c.tc : Thread Cert.Kernel17Ideal.nD Cert.Kernel17Ideal.τ).loc Cert.Kernel17Ideal.main_arg47)
      ∧ r.2.mem ((c.tc : Thread Cert.Kernel17Ideal.nD Cert.Kernel17Ideal.τ).loc Cert.Kernel17Ideal.main_arg48) = m ((c.tc : Thread Cert.Kernel17Ideal.nD Cert.Kernel17Ideal.τ).loc Cert.Kernel17Ideal.main_arg48)
      ∧ r.2.mem ((c.tc : Thread Cert.Kernel17Ideal.nD Cert.Kernel17Ideal.τ).loc Cert.Kernel17Ideal.main_arg49) = m ((c.tc : Thread Cert.Kernel17Ideal.nD Cert.Kernel17Ideal.τ).loc Cert.Kernel17Ideal.main_arg49)
      ∧ r.2.mem ((c.tc : Thread Cert.Kernel17Ideal.nD Cert.Kernel17Ideal.τ).loc Cert.Kernel17Ideal.main_arg50) = m ((c.tc : Thread Cert.Kernel17Ideal.nD Cert.Kernel17Ideal.τ).loc Cert.Kernel17Ideal.main_arg50)
      ∧ r.2.mem ((c.tc : Thread Cert.Kernel17Ideal.nD Cert.Kernel17Ideal.τ).loc Cert.Kernel17Ideal.main_arg51) = m ((c.tc : Thread Cert.Kernel17Ideal.nD Cert.Kernel17Ideal.τ).loc Cert.Kernel17Ideal.main_arg51)
      ∧ r.2.mem ((c.tc : Thread Cert.Kernel17Ideal.nD Cert.Kernel17Ideal.τ).loc Cert.Kernel17Ideal.main_arg52) = m ((c.tc : Thread Cert.Kernel17Ideal.nD Cert.Kernel17Ideal.τ).loc Cert.Kernel17Ideal.main_arg52)
      ∧ r.2.mem ((c.tc : Thread Cert.Kernel17Ideal.nD Cert.Kernel17Ideal.τ).loc Cert.Kernel17Ideal.main_arg53) = m ((c.tc : Thread Cert.Kernel17Ideal.nD Cert.Kernel17Ideal.τ).loc Cert.Kernel17Ideal.main_arg53)
      ∧ r.2.mem ((c.tc : Thread Cert.Kernel17Ideal.nD Cert.Kernel17Ideal.τ).loc Cert.Kernel17Ideal.main_arg54) = m ((c.tc : Thread Cert.Kernel17Ideal.nD Cert.Kernel17Ideal.τ).loc Cert.Kernel17Ideal.main_arg54)
      ∧ r.2.mem ((c.tc : Thread Cert.Kernel17Ideal.nD Cert.Kernel17Ideal.τ).loc Cert.Kernel17Ideal.main_arg55) = m ((c.tc : Thread Cert.Kernel17Ideal.nD Cert.Kernel17Ideal.τ).loc Cert.Kernel17Ideal.main_arg55)
      ∧ r.2.mem ((c.tc : Thread Cert.Kernel17Ideal.nD Cert.Kernel17Ideal.τ).loc Cert.Kernel17Ideal.main_arg56) = m ((c.tc : Thread Cert.Kernel17Ideal.nD Cert.Kernel17Ideal.τ).loc Cert.Kernel17Ideal.main_arg56)
      ∧ r.2.mem ((c.tc : Thread Cert.Kernel17Ideal.nD Cert.Kernel17Ideal.τ).loc Cert.Kernel17Ideal.main_arg57) = m ((c.tc : Thread Cert.Kernel17Ideal.nD Cert.Kernel17Ideal.τ).loc Cert.Kernel17Ideal.main_arg57)
      ∧ r.2.mem ((c.tc : Thread Cert.Kernel17Ideal.nD Cert.Kernel17Ideal.τ).loc Cert.Kernel17Ideal.main_arg58) = m ((c.tc : Thread Cert.Kernel17Ideal.nD Cert.Kernel17Ideal.τ).loc Cert.Kernel17Ideal.main_arg58)
      ∧ r.2.mem ((c.tc : Thread Cert.Kernel17Ideal.nD Cert.Kernel17Ideal.τ).loc Cert.Kernel17Ideal.main_arg59) = m ((c.tc : Thread Cert.Kernel17Ideal.nD Cert.Kernel17Ideal.τ).loc Cert.Kernel17Ideal.main_arg59)
      ∧ r.2.mem ((c.tc : Thread Cert.Kernel17Ideal.nD Cert.Kernel17Ideal.τ).loc Cert.Kernel17Ideal.main_arg60) = m ((c.tc : Thread Cert.Kernel17Ideal.nD Cert.Kernel17Ideal.τ).loc Cert.Kernel17Ideal.main_arg60)
      ∧ r.2.mem ((c.tc : Thread Cert.Kernel17Ideal.nD Cert.Kernel17Ideal.τ).loc Cert.Kernel17Ideal.main_arg61) = m ((c.tc : Thread Cert.Kernel17Ideal.nD Cert.Kernel17Ideal.τ).loc Cert.Kernel17Ideal.main_arg61)
      ∧ r.2.mem ((c.tc : Thread Cert.Kernel17Ideal.nD Cert.Kernel17Ideal.τ).loc Cert.Kernel17Ideal.main_arg62) = m ((c.tc : Thread Cert.Kernel17Ideal.nD Cert.Kernel17Ideal.τ).loc Cert.Kernel17Ideal.main_arg62)
      ∧ r.2.mem ((c.tc : Thread Cert.Kernel17Ideal.nD Cert.Kernel17Ideal.τ).loc Cert.Kernel17Ideal.main_arg63) = m ((c.tc : Thread Cert.Kernel17Ideal.nD Cert.Kernel17Ideal.τ).loc Cert.Kernel17Ideal.main_arg63)
      ∧ r.2.mem ((c.tc : Thread Cert.Kernel17Ideal.nD Cert.Kernel17Ideal.τ).loc Cert.Kernel17Ideal.main_arg64) = m ((c.tc : Thread Cert.Kernel17Ideal.nD Cert.Kernel17Ideal.τ).loc Cert.Kernel17Ideal.main_arg64)
      ∧ r.2.mem ((c.tc : Thread Cert.Kernel17Ideal.nD Cert.Kernel17Ideal.τ).loc Cert.Kernel17Ideal.main_arg65) = m ((c.tc : Thread Cert.Kernel17Ideal.nD Cert.Kernel17Ideal.τ).loc Cert.Kernel17Ideal.main_arg65)
      ∧ r.2.mem ((c.tc : Thread Cert.Kernel17Ideal.nD Cert.Kernel17Ideal.τ).loc Cert.Kernel17Ideal.main_arg66) = m ((c.tc : Thread Cert.Kernel17Ideal.nD Cert.Kernel17Ideal.τ).loc Cert.Kernel17Ideal.main_arg66)
      ∧ r.2.mem ((c.tc : Thread Cert.Kernel17Ideal.nD Cert.Kernel17Ideal.τ).loc Cert.Kernel17Ideal.main_arg67) = m ((c.tc : Thread Cert.Kernel17Ideal.nD Cert.Kernel17Ideal.τ).loc Cert.Kernel17Ideal.main_arg67)
      ∧ r.2.mem ((c.tc : Thread Cert.Kernel17Ideal.nD Cert.Kernel17Ideal.τ).loc Cert.Kernel17Ideal.main_arg68) = m ((c.tc : Thread Cert.Kernel17Ideal.nD Cert.Kernel17Ideal.τ).loc Cert.Kernel17Ideal.main_arg68)
      ∧ r.2.mem ((c.tc : Thread Cert.Kernel17Ideal.nD Cert.Kernel17Ideal.τ).loc Cert.Kernel17Ideal.main_arg69) = m ((c.tc : Thread Cert.Kernel17Ideal.nD Cert.Kernel17Ideal.τ).loc Cert.Kernel17Ideal.main_arg69)
      ∧ r.2.mem ((c.tc : Thread Cert.Kernel17Ideal.nD Cert.Kernel17Ideal.τ).loc Cert.Kernel17Ideal.main_arg70) = m ((c.tc : Thread Cert.Kernel17Ideal.nD Cert.Kernel17Ideal.τ).loc Cert.Kernel17Ideal.main_arg70)
      ∧ r.2.mem ((c.tc : Thread Cert.Kernel17Ideal.nD Cert.Kernel17Ideal.τ).loc Cert.Kernel17Ideal.main_arg71) = m ((c.tc : Thread Cert.Kernel17Ideal.nD Cert.Kernel17Ideal.τ).loc Cert.Kernel17Ideal.main_arg71)
      ∧ r.2.mem ((c.tc : Thread Cert.Kernel17Ideal.nD Cert.Kernel17Ideal.τ).loc Cert.Kernel17Ideal.main_arg72) = m ((c.tc : Thread Cert.Kernel17Ideal.nD Cert.Kernel17Ideal.τ).loc Cert.Kernel17Ideal.main_arg72)
      ∧ r.2.mem ((c.tc : Thread Cert.Kernel17Ideal.nD Cert.Kernel17Ideal.τ).loc Cert.Kernel17Ideal.main_arg73) = m ((c.tc : Thread Cert.Kernel17Ideal.nD Cert.Kernel17Ideal.τ).loc Cert.Kernel17Ideal.main_arg73)
      ∧ r.2.mem ((c.tc : Thread Cert.Kernel17Ideal.nD Cert.Kernel17Ideal.τ).loc Cert.Kernel17Ideal.main_arg74) = m ((c.tc : Thread Cert.Kernel17Ideal.nD Cert.Kernel17Ideal.τ).loc Cert.Kernel17Ideal.main_arg74)
      ∧ r.2.mem ((c.tc : Thread Cert.Kernel17Ideal.nD Cert.Kernel17Ideal.τ).loc Cert.Kernel17Ideal.main_arg75) = m ((c.tc : Thread Cert.Kernel17Ideal.nD Cert.Kernel17Ideal.τ).loc Cert.Kernel17Ideal.main_arg75)
      ∧ r.2.mem ((c.tc : Thread Cert.Kernel17Ideal.nD Cert.Kernel17Ideal.τ).loc Cert.Kernel17Ideal.main_arg76) = m ((c.tc : Thread Cert.Kernel17Ideal.nD Cert.Kernel17Ideal.τ).loc Cert.Kernel17Ideal.main_arg76)
      ∧ r.2.mem ((c.tc : Thread Cert.Kernel17Ideal.nD Cert.Kernel17Ideal.τ).loc Cert.Kernel17Ideal.main_arg77) = m ((c.tc : Thread Cert.Kernel17Ideal.nD Cert.Kernel17Ideal.τ).loc Cert.Kernel17Ideal.main_arg77)
      ∧ r.2.mem ((c.tc : Thread Cert.Kernel17Ideal.nD Cert.Kernel17Ideal.τ).loc Cert.Kernel17Ideal.main_arg78) = m ((c.tc : Thread Cert.Kernel17Ideal.nD Cert.Kernel17Ideal.τ).loc Cert.Kernel17Ideal.main_arg78)
      ∧ r.2.mem ((c.tc : Thread Cert.Kernel17Ideal.nD Cert.Kernel17Ideal.τ).loc Cert.Kernel17Ideal.main_arg79) = m ((c.tc : Thread Cert.Kernel17Ideal.nD Cert.Kernel17Ideal.τ).loc Cert.Kernel17Ideal.main_arg79)
      ∧ r.2.mem ((c.tc : Thread Cert.Kernel17Ideal.nD Cert.Kernel17Ideal.τ).loc Cert.Kernel17Ideal.main_arg80) = m ((c.tc : Thread Cert.Kernel17Ideal.nD Cert.Kernel17Ideal.τ).loc Cert.Kernel17Ideal.main_arg80)
      ∧ r.2.mem ((c.tc : Thread Cert.Kernel17Ideal.nD Cert.Kernel17Ideal.τ).loc Cert.Kernel17Ideal.main_arg81) = m ((c.tc : Thread Cert.Kernel17Ideal.nD Cert.Kernel17Ideal.τ).loc Cert.Kernel17Ideal.main_arg81)
      ∧ r.2.mem ((c.tc : Thread Cert.Kernel17Ideal.nD Cert.Kernel17Ideal.τ).loc Cert.Kernel17Ideal.main_arg82) = m ((c.tc : Thread Cert.Kernel17Ideal.nD Cert.Kernel17Ideal.τ).loc Cert.Kernel17Ideal.main_arg82)
      ∧ r.2.mem ((c.tc : Thread Cert.Kernel17Ideal.nD Cert.Kernel17Ideal.τ).loc Cert.Kernel17Ideal.main_arg83) = m ((c.tc : Thread Cert.Kernel17Ideal.nD Cert.Kernel17Ideal.τ).loc Cert.Kernel17Ideal.main_arg83)
      ∧ r.2.mem ((c.tc : Thread Cert.Kernel17Ideal.nD Cert.Kernel17Ideal.τ).loc Cert.Kernel17Ideal.main_arg84) = m ((c.tc : Thread Cert.Kernel17Ideal.nD Cert.Kernel17Ideal.τ).loc Cert.Kernel17Ideal.main_arg84)
      ∧ r.2.mem ((c.tc : Thread Cert.Kernel17Ideal.nD Cert.Kernel17Ideal.τ).loc Cert.Kernel17Ideal.main_arg85) = m ((c.tc : Thread Cert.Kernel17Ideal.nD Cert.Kernel17Ideal.τ).loc Cert.Kernel17Ideal.main_arg85)
      ∧ r.2.mem ((c.tc : Thread Cert.Kernel17Ideal.nD Cert.Kernel17Ideal.τ).loc Cert.Kernel17Ideal.main_arg86) = m ((c.tc : Thread Cert.Kernel17Ideal.nD Cert.Kernel17Ideal.τ).loc Cert.Kernel17Ideal.main_arg86)
      ∧ r.2.mem ((c.tc : Thread Cert.Kernel17Ideal.nD Cert.Kernel17Ideal.τ).loc Cert.Kernel17Ideal.main_arg87) = m ((c.tc : Thread Cert.Kernel17Ideal.nD Cert.Kernel17Ideal.τ).loc Cert.Kernel17Ideal.main_arg87))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12)
      ∧ r.2.mem ((c.tc : Thread Cert.Reference17Ideal.nD Cert.Reference17Ideal.τ).loc Cert.Reference17Ideal.main_arg13) = m ((c.tc : Thread Cert.Reference17Ideal.nD Cert.Reference17Ideal.τ).loc Cert.Reference17Ideal.main_arg13)
      ∧ r.2.mem ((c.tc : Thread Cert.Reference17Ideal.nD Cert.Reference17Ideal.τ).loc Cert.Reference17Ideal.main_arg14) = m ((c.tc : Thread Cert.Reference17Ideal.nD Cert.Reference17Ideal.τ).loc Cert.Reference17Ideal.main_arg14)
      ∧ r.2.mem ((c.tc : Thread Cert.Reference17Ideal.nD Cert.Reference17Ideal.τ).loc Cert.Reference17Ideal.main_arg15) = m ((c.tc : Thread Cert.Reference17Ideal.nD Cert.Reference17Ideal.τ).loc Cert.Reference17Ideal.main_arg15)
      ∧ r.2.mem ((c.tc : Thread Cert.Reference17Ideal.nD Cert.Reference17Ideal.τ).loc Cert.Reference17Ideal.main_arg16) = m ((c.tc : Thread Cert.Reference17Ideal.nD Cert.Reference17Ideal.τ).loc Cert.Reference17Ideal.main_arg16)
      ∧ r.2.mem ((c.tc : Thread Cert.Reference17Ideal.nD Cert.Reference17Ideal.τ).loc Cert.Reference17Ideal.main_arg17) = m ((c.tc : Thread Cert.Reference17Ideal.nD Cert.Reference17Ideal.τ).loc Cert.Reference17Ideal.main_arg17)
      ∧ r.2.mem ((c.tc : Thread Cert.Reference17Ideal.nD Cert.Reference17Ideal.τ).loc Cert.Reference17Ideal.main_arg18) = m ((c.tc : Thread Cert.Reference17Ideal.nD Cert.Reference17Ideal.τ).loc Cert.Reference17Ideal.main_arg18)
      ∧ r.2.mem ((c.tc : Thread Cert.Reference17Ideal.nD Cert.Reference17Ideal.τ).loc Cert.Reference17Ideal.main_arg19) = m ((c.tc : Thread Cert.Reference17Ideal.nD Cert.Reference17Ideal.τ).loc Cert.Reference17Ideal.main_arg19)
      ∧ r.2.mem ((c.tc : Thread Cert.Reference17Ideal.nD Cert.Reference17Ideal.τ).loc Cert.Reference17Ideal.main_arg20) = m ((c.tc : Thread Cert.Reference17Ideal.nD Cert.Reference17Ideal.τ).loc Cert.Reference17Ideal.main_arg20)
      ∧ r.2.mem ((c.tc : Thread Cert.Reference17Ideal.nD Cert.Reference17Ideal.τ).loc Cert.Reference17Ideal.main_arg21) = m ((c.tc : Thread Cert.Reference17Ideal.nD Cert.Reference17Ideal.τ).loc Cert.Reference17Ideal.main_arg21)
      ∧ r.2.mem ((c.tc : Thread Cert.Reference17Ideal.nD Cert.Reference17Ideal.τ).loc Cert.Reference17Ideal.main_arg22) = m ((c.tc : Thread Cert.Reference17Ideal.nD Cert.Reference17Ideal.τ).loc Cert.Reference17Ideal.main_arg22)
      ∧ r.2.mem ((c.tc : Thread Cert.Reference17Ideal.nD Cert.Reference17Ideal.τ).loc Cert.Reference17Ideal.main_arg23) = m ((c.tc : Thread Cert.Reference17Ideal.nD Cert.Reference17Ideal.τ).loc Cert.Reference17Ideal.main_arg23)
      ∧ r.2.mem ((c.tc : Thread Cert.Reference17Ideal.nD Cert.Reference17Ideal.τ).loc Cert.Reference17Ideal.main_arg24) = m ((c.tc : Thread Cert.Reference17Ideal.nD Cert.Reference17Ideal.τ).loc Cert.Reference17Ideal.main_arg24)
      ∧ r.2.mem ((c.tc : Thread Cert.Reference17Ideal.nD Cert.Reference17Ideal.τ).loc Cert.Reference17Ideal.main_arg25) = m ((c.tc : Thread Cert.Reference17Ideal.nD Cert.Reference17Ideal.τ).loc Cert.Reference17Ideal.main_arg25)
      ∧ r.2.mem ((c.tc : Thread Cert.Reference17Ideal.nD Cert.Reference17Ideal.τ).loc Cert.Reference17Ideal.main_arg26) = m ((c.tc : Thread Cert.Reference17Ideal.nD Cert.Reference17Ideal.τ).loc Cert.Reference17Ideal.main_arg26)
      ∧ r.2.mem ((c.tc : Thread Cert.Reference17Ideal.nD Cert.Reference17Ideal.τ).loc Cert.Reference17Ideal.main_arg27) = m ((c.tc : Thread Cert.Reference17Ideal.nD Cert.Reference17Ideal.τ).loc Cert.Reference17Ideal.main_arg27)
      ∧ r.2.mem ((c.tc : Thread Cert.Reference17Ideal.nD Cert.Reference17Ideal.τ).loc Cert.Reference17Ideal.main_arg28) = m ((c.tc : Thread Cert.Reference17Ideal.nD Cert.Reference17Ideal.τ).loc Cert.Reference17Ideal.main_arg28)
      ∧ r.2.mem ((c.tc : Thread Cert.Reference17Ideal.nD Cert.Reference17Ideal.τ).loc Cert.Reference17Ideal.main_arg29) = m ((c.tc : Thread Cert.Reference17Ideal.nD Cert.Reference17Ideal.τ).loc Cert.Reference17Ideal.main_arg29)
      ∧ r.2.mem ((c.tc : Thread Cert.Reference17Ideal.nD Cert.Reference17Ideal.τ).loc Cert.Reference17Ideal.main_arg30) = m ((c.tc : Thread Cert.Reference17Ideal.nD Cert.Reference17Ideal.τ).loc Cert.Reference17Ideal.main_arg30)
      ∧ r.2.mem ((c.tc : Thread Cert.Reference17Ideal.nD Cert.Reference17Ideal.τ).loc Cert.Reference17Ideal.main_arg31) = m ((c.tc : Thread Cert.Reference17Ideal.nD Cert.Reference17Ideal.τ).loc Cert.Reference17Ideal.main_arg31)
      ∧ r.2.mem ((c.tc : Thread Cert.Reference17Ideal.nD Cert.Reference17Ideal.τ).loc Cert.Reference17Ideal.main_arg32) = m ((c.tc : Thread Cert.Reference17Ideal.nD Cert.Reference17Ideal.τ).loc Cert.Reference17Ideal.main_arg32)
      ∧ r.2.mem ((c.tc : Thread Cert.Reference17Ideal.nD Cert.Reference17Ideal.τ).loc Cert.Reference17Ideal.main_arg33) = m ((c.tc : Thread Cert.Reference17Ideal.nD Cert.Reference17Ideal.τ).loc Cert.Reference17Ideal.main_arg33)
      ∧ r.2.mem ((c.tc : Thread Cert.Reference17Ideal.nD Cert.Reference17Ideal.τ).loc Cert.Reference17Ideal.main_arg34) = m ((c.tc : Thread Cert.Reference17Ideal.nD Cert.Reference17Ideal.τ).loc Cert.Reference17Ideal.main_arg34)
      ∧ r.2.mem ((c.tc : Thread Cert.Reference17Ideal.nD Cert.Reference17Ideal.τ).loc Cert.Reference17Ideal.main_arg35) = m ((c.tc : Thread Cert.Reference17Ideal.nD Cert.Reference17Ideal.τ).loc Cert.Reference17Ideal.main_arg35)
      ∧ r.2.mem ((c.tc : Thread Cert.Reference17Ideal.nD Cert.Reference17Ideal.τ).loc Cert.Reference17Ideal.main_arg36) = m ((c.tc : Thread Cert.Reference17Ideal.nD Cert.Reference17Ideal.τ).loc Cert.Reference17Ideal.main_arg36)
      ∧ r.2.mem ((c.tc : Thread Cert.Reference17Ideal.nD Cert.Reference17Ideal.τ).loc Cert.Reference17Ideal.main_arg37) = m ((c.tc : Thread Cert.Reference17Ideal.nD Cert.Reference17Ideal.τ).loc Cert.Reference17Ideal.main_arg37)
      ∧ r.2.mem ((c.tc : Thread Cert.Reference17Ideal.nD Cert.Reference17Ideal.τ).loc Cert.Reference17Ideal.main_arg38) = m ((c.tc : Thread Cert.Reference17Ideal.nD Cert.Reference17Ideal.τ).loc Cert.Reference17Ideal.main_arg38)
      ∧ r.2.mem ((c.tc : Thread Cert.Reference17Ideal.nD Cert.Reference17Ideal.τ).loc Cert.Reference17Ideal.main_arg39) = m ((c.tc : Thread Cert.Reference17Ideal.nD Cert.Reference17Ideal.τ).loc Cert.Reference17Ideal.main_arg39)
      ∧ r.2.mem ((c.tc : Thread Cert.Reference17Ideal.nD Cert.Reference17Ideal.τ).loc Cert.Reference17Ideal.main_arg40) = m ((c.tc : Thread Cert.Reference17Ideal.nD Cert.Reference17Ideal.τ).loc Cert.Reference17Ideal.main_arg40)
      ∧ r.2.mem ((c.tc : Thread Cert.Reference17Ideal.nD Cert.Reference17Ideal.τ).loc Cert.Reference17Ideal.main_arg41) = m ((c.tc : Thread Cert.Reference17Ideal.nD Cert.Reference17Ideal.τ).loc Cert.Reference17Ideal.main_arg41)
      ∧ r.2.mem ((c.tc : Thread Cert.Reference17Ideal.nD Cert.Reference17Ideal.τ).loc Cert.Reference17Ideal.main_arg42) = m ((c.tc : Thread Cert.Reference17Ideal.nD Cert.Reference17Ideal.τ).loc Cert.Reference17Ideal.main_arg42)
      ∧ r.2.mem ((c.tc : Thread Cert.Reference17Ideal.nD Cert.Reference17Ideal.τ).loc Cert.Reference17Ideal.main_arg43) = m ((c.tc : Thread Cert.Reference17Ideal.nD Cert.Reference17Ideal.τ).loc Cert.Reference17Ideal.main_arg43)
      ∧ r.2.mem ((c.tc : Thread Cert.Reference17Ideal.nD Cert.Reference17Ideal.τ).loc Cert.Reference17Ideal.main_arg44) = m ((c.tc : Thread Cert.Reference17Ideal.nD Cert.Reference17Ideal.τ).loc Cert.Reference17Ideal.main_arg44)
      ∧ r.2.mem ((c.tc : Thread Cert.Reference17Ideal.nD Cert.Reference17Ideal.τ).loc Cert.Reference17Ideal.main_arg45) = m ((c.tc : Thread Cert.Reference17Ideal.nD Cert.Reference17Ideal.τ).loc Cert.Reference17Ideal.main_arg45)
      ∧ r.2.mem ((c.tc : Thread Cert.Reference17Ideal.nD Cert.Reference17Ideal.τ).loc Cert.Reference17Ideal.main_arg46) = m ((c.tc : Thread Cert.Reference17Ideal.nD Cert.Reference17Ideal.τ).loc Cert.Reference17Ideal.main_arg46)
      ∧ r.2.mem ((c.tc : Thread Cert.Reference17Ideal.nD Cert.Reference17Ideal.τ).loc Cert.Reference17Ideal.main_arg47) = m ((c.tc : Thread Cert.Reference17Ideal.nD Cert.Reference17Ideal.τ).loc Cert.Reference17Ideal.main_arg47)
      ∧ r.2.mem ((c.tc : Thread Cert.Reference17Ideal.nD Cert.Reference17Ideal.τ).loc Cert.Reference17Ideal.main_arg48) = m ((c.tc : Thread Cert.Reference17Ideal.nD Cert.Reference17Ideal.τ).loc Cert.Reference17Ideal.main_arg48)
      ∧ r.2.mem ((c.tc : Thread Cert.Reference17Ideal.nD Cert.Reference17Ideal.τ).loc Cert.Reference17Ideal.main_arg49) = m ((c.tc : Thread Cert.Reference17Ideal.nD Cert.Reference17Ideal.τ).loc Cert.Reference17Ideal.main_arg49)
      ∧ r.2.mem ((c.tc : Thread Cert.Reference17Ideal.nD Cert.Reference17Ideal.τ).loc Cert.Reference17Ideal.main_arg50) = m ((c.tc : Thread Cert.Reference17Ideal.nD Cert.Reference17Ideal.τ).loc Cert.Reference17Ideal.main_arg50)
      ∧ r.2.mem ((c.tc : Thread Cert.Reference17Ideal.nD Cert.Reference17Ideal.τ).loc Cert.Reference17Ideal.main_arg51) = m ((c.tc : Thread Cert.Reference17Ideal.nD Cert.Reference17Ideal.τ).loc Cert.Reference17Ideal.main_arg51)
      ∧ r.2.mem ((c.tc : Thread Cert.Reference17Ideal.nD Cert.Reference17Ideal.τ).loc Cert.Reference17Ideal.main_arg52) = m ((c.tc : Thread Cert.Reference17Ideal.nD Cert.Reference17Ideal.τ).loc Cert.Reference17Ideal.main_arg52)
      ∧ r.2.mem ((c.tc : Thread Cert.Reference17Ideal.nD Cert.Reference17Ideal.τ).loc Cert.Reference17Ideal.main_arg53) = m ((c.tc : Thread Cert.Reference17Ideal.nD Cert.Reference17Ideal.τ).loc Cert.Reference17Ideal.main_arg53)
      ∧ r.2.mem ((c.tc : Thread Cert.Reference17Ideal.nD Cert.Reference17Ideal.τ).loc Cert.Reference17Ideal.main_arg54) = m ((c.tc : Thread Cert.Reference17Ideal.nD Cert.Reference17Ideal.τ).loc Cert.Reference17Ideal.main_arg54)
      ∧ r.2.mem ((c.tc : Thread Cert.Reference17Ideal.nD Cert.Reference17Ideal.τ).loc Cert.Reference17Ideal.main_arg55) = m ((c.tc : Thread Cert.Reference17Ideal.nD Cert.Reference17Ideal.τ).loc Cert.Reference17Ideal.main_arg55)
      ∧ r.2.mem ((c.tc : Thread Cert.Reference17Ideal.nD Cert.Reference17Ideal.τ).loc Cert.Reference17Ideal.main_arg56) = m ((c.tc : Thread Cert.Reference17Ideal.nD Cert.Reference17Ideal.τ).loc Cert.Reference17Ideal.main_arg56)
      ∧ r.2.mem ((c.tc : Thread Cert.Reference17Ideal.nD Cert.Reference17Ideal.τ).loc Cert.Reference17Ideal.main_arg57) = m ((c.tc : Thread Cert.Reference17Ideal.nD Cert.Reference17Ideal.τ).loc Cert.Reference17Ideal.main_arg57)
      ∧ r.2.mem ((c.tc : Thread Cert.Reference17Ideal.nD Cert.Reference17Ideal.τ).loc Cert.Reference17Ideal.main_arg58) = m ((c.tc : Thread Cert.Reference17Ideal.nD Cert.Reference17Ideal.τ).loc Cert.Reference17Ideal.main_arg58)
      ∧ r.2.mem ((c.tc : Thread Cert.Reference17Ideal.nD Cert.Reference17Ideal.τ).loc Cert.Reference17Ideal.main_arg59) = m ((c.tc : Thread Cert.Reference17Ideal.nD Cert.Reference17Ideal.τ).loc Cert.Reference17Ideal.main_arg59)
      ∧ r.2.mem ((c.tc : Thread Cert.Reference17Ideal.nD Cert.Reference17Ideal.τ).loc Cert.Reference17Ideal.main_arg60) = m ((c.tc : Thread Cert.Reference17Ideal.nD Cert.Reference17Ideal.τ).loc Cert.Reference17Ideal.main_arg60)
      ∧ r.2.mem ((c.tc : Thread Cert.Reference17Ideal.nD Cert.Reference17Ideal.τ).loc Cert.Reference17Ideal.main_arg61) = m ((c.tc : Thread Cert.Reference17Ideal.nD Cert.Reference17Ideal.τ).loc Cert.Reference17Ideal.main_arg61)
      ∧ r.2.mem ((c.tc : Thread Cert.Reference17Ideal.nD Cert.Reference17Ideal.τ).loc Cert.Reference17Ideal.main_arg62) = m ((c.tc : Thread Cert.Reference17Ideal.nD Cert.Reference17Ideal.τ).loc Cert.Reference17Ideal.main_arg62)
      ∧ r.2.mem ((c.tc : Thread Cert.Reference17Ideal.nD Cert.Reference17Ideal.τ).loc Cert.Reference17Ideal.main_arg63) = m ((c.tc : Thread Cert.Reference17Ideal.nD Cert.Reference17Ideal.τ).loc Cert.Reference17Ideal.main_arg63)
      ∧ r.2.mem ((c.tc : Thread Cert.Reference17Ideal.nD Cert.Reference17Ideal.τ).loc Cert.Reference17Ideal.main_arg64) = m ((c.tc : Thread Cert.Reference17Ideal.nD Cert.Reference17Ideal.τ).loc Cert.Reference17Ideal.main_arg64)
      ∧ r.2.mem ((c.tc : Thread Cert.Reference17Ideal.nD Cert.Reference17Ideal.τ).loc Cert.Reference17Ideal.main_arg65) = m ((c.tc : Thread Cert.Reference17Ideal.nD Cert.Reference17Ideal.τ).loc Cert.Reference17Ideal.main_arg65)
      ∧ r.2.mem ((c.tc : Thread Cert.Reference17Ideal.nD Cert.Reference17Ideal.τ).loc Cert.Reference17Ideal.main_arg66) = m ((c.tc : Thread Cert.Reference17Ideal.nD Cert.Reference17Ideal.τ).loc Cert.Reference17Ideal.main_arg66)
      ∧ r.2.mem ((c.tc : Thread Cert.Reference17Ideal.nD Cert.Reference17Ideal.τ).loc Cert.Reference17Ideal.main_arg67) = m ((c.tc : Thread Cert.Reference17Ideal.nD Cert.Reference17Ideal.τ).loc Cert.Reference17Ideal.main_arg67)
      ∧ r.2.mem ((c.tc : Thread Cert.Reference17Ideal.nD Cert.Reference17Ideal.τ).loc Cert.Reference17Ideal.main_arg68) = m ((c.tc : Thread Cert.Reference17Ideal.nD Cert.Reference17Ideal.τ).loc Cert.Reference17Ideal.main_arg68)
      ∧ r.2.mem ((c.tc : Thread Cert.Reference17Ideal.nD Cert.Reference17Ideal.τ).loc Cert.Reference17Ideal.main_arg69) = m ((c.tc : Thread Cert.Reference17Ideal.nD Cert.Reference17Ideal.τ).loc Cert.Reference17Ideal.main_arg69)
      ∧ r.2.mem ((c.tc : Thread Cert.Reference17Ideal.nD Cert.Reference17Ideal.τ).loc Cert.Reference17Ideal.main_arg70) = m ((c.tc : Thread Cert.Reference17Ideal.nD Cert.Reference17Ideal.τ).loc Cert.Reference17Ideal.main_arg70)
      ∧ r.2.mem ((c.tc : Thread Cert.Reference17Ideal.nD Cert.Reference17Ideal.τ).loc Cert.Reference17Ideal.main_arg71) = m ((c.tc : Thread Cert.Reference17Ideal.nD Cert.Reference17Ideal.τ).loc Cert.Reference17Ideal.main_arg71)
      ∧ r.2.mem ((c.tc : Thread Cert.Reference17Ideal.nD Cert.Reference17Ideal.τ).loc Cert.Reference17Ideal.main_arg72) = m ((c.tc : Thread Cert.Reference17Ideal.nD Cert.Reference17Ideal.τ).loc Cert.Reference17Ideal.main_arg72)
      ∧ r.2.mem ((c.tc : Thread Cert.Reference17Ideal.nD Cert.Reference17Ideal.τ).loc Cert.Reference17Ideal.main_arg73) = m ((c.tc : Thread Cert.Reference17Ideal.nD Cert.Reference17Ideal.τ).loc Cert.Reference17Ideal.main_arg73)
      ∧ r.2.mem ((c.tc : Thread Cert.Reference17Ideal.nD Cert.Reference17Ideal.τ).loc Cert.Reference17Ideal.main_arg74) = m ((c.tc : Thread Cert.Reference17Ideal.nD Cert.Reference17Ideal.τ).loc Cert.Reference17Ideal.main_arg74)
      ∧ r.2.mem ((c.tc : Thread Cert.Reference17Ideal.nD Cert.Reference17Ideal.τ).loc Cert.Reference17Ideal.main_arg75) = m ((c.tc : Thread Cert.Reference17Ideal.nD Cert.Reference17Ideal.τ).loc Cert.Reference17Ideal.main_arg75)
      ∧ r.2.mem ((c.tc : Thread Cert.Reference17Ideal.nD Cert.Reference17Ideal.τ).loc Cert.Reference17Ideal.main_arg76) = m ((c.tc : Thread Cert.Reference17Ideal.nD Cert.Reference17Ideal.τ).loc Cert.Reference17Ideal.main_arg76)
      ∧ r.2.mem ((c.tc : Thread Cert.Reference17Ideal.nD Cert.Reference17Ideal.τ).loc Cert.Reference17Ideal.main_arg77) = m ((c.tc : Thread Cert.Reference17Ideal.nD Cert.Reference17Ideal.τ).loc Cert.Reference17Ideal.main_arg77)
      ∧ r.2.mem ((c.tc : Thread Cert.Reference17Ideal.nD Cert.Reference17Ideal.τ).loc Cert.Reference17Ideal.main_arg78) = m ((c.tc : Thread Cert.Reference17Ideal.nD Cert.Reference17Ideal.τ).loc Cert.Reference17Ideal.main_arg78)
      ∧ r.2.mem ((c.tc : Thread Cert.Reference17Ideal.nD Cert.Reference17Ideal.τ).loc Cert.Reference17Ideal.main_arg79) = m ((c.tc : Thread Cert.Reference17Ideal.nD Cert.Reference17Ideal.τ).loc Cert.Reference17Ideal.main_arg79)
      ∧ r.2.mem ((c.tc : Thread Cert.Reference17Ideal.nD Cert.Reference17Ideal.τ).loc Cert.Reference17Ideal.main_arg80) = m ((c.tc : Thread Cert.Reference17Ideal.nD Cert.Reference17Ideal.τ).loc Cert.Reference17Ideal.main_arg80)
      ∧ r.2.mem ((c.tc : Thread Cert.Reference17Ideal.nD Cert.Reference17Ideal.τ).loc Cert.Reference17Ideal.main_arg81) = m ((c.tc : Thread Cert.Reference17Ideal.nD Cert.Reference17Ideal.τ).loc Cert.Reference17Ideal.main_arg81)
      ∧ r.2.mem ((c.tc : Thread Cert.Reference17Ideal.nD Cert.Reference17Ideal.τ).loc Cert.Reference17Ideal.main_arg82) = m ((c.tc : Thread Cert.Reference17Ideal.nD Cert.Reference17Ideal.τ).loc Cert.Reference17Ideal.main_arg82)
      ∧ r.2.mem ((c.tc : Thread Cert.Reference17Ideal.nD Cert.Reference17Ideal.τ).loc Cert.Reference17Ideal.main_arg83) = m ((c.tc : Thread Cert.Reference17Ideal.nD Cert.Reference17Ideal.τ).loc Cert.Reference17Ideal.main_arg83)
      ∧ r.2.mem ((c.tc : Thread Cert.Reference17Ideal.nD Cert.Reference17Ideal.τ).loc Cert.Reference17Ideal.main_arg84) = m ((c.tc : Thread Cert.Reference17Ideal.nD Cert.Reference17Ideal.τ).loc Cert.Reference17Ideal.main_arg84)
      ∧ r.2.mem ((c.tc : Thread Cert.Reference17Ideal.nD Cert.Reference17Ideal.τ).loc Cert.Reference17Ideal.main_arg85) = m ((c.tc : Thread Cert.Reference17Ideal.nD Cert.Reference17Ideal.τ).loc Cert.Reference17Ideal.main_arg85)
      ∧ r.2.mem ((c.tc : Thread Cert.Reference17Ideal.nD Cert.Reference17Ideal.τ).loc Cert.Reference17Ideal.main_arg86) = m ((c.tc : Thread Cert.Reference17Ideal.nD Cert.Reference17Ideal.τ).loc Cert.Reference17Ideal.main_arg86)
      ∧ r.2.mem ((c.tc : Thread Cert.Reference17Ideal.nD Cert.Reference17Ideal.τ).loc Cert.Reference17Ideal.main_arg87) = m ((c.tc : Thread Cert.Reference17Ideal.nD Cert.Reference17Ideal.τ).loc Cert.Reference17Ideal.main_arg87))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11)
      ∧ r.2.mem ((c.tc : Thread Cert.Kernel25.nD Cert.Kernel25.τ).loc Cert.Kernel25.main_arg12) = m ((c.tc : Thread Cert.Kernel25.nD Cert.Kernel25.τ).loc Cert.Kernel25.main_arg12))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
      ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11)
      ∧ r.2.mem ((c.tc : Thread Cert.Reference25Ideal.nD Cert.Reference25Ideal.τ).loc Cert.Reference25Ideal.main_arg12) = m ((c.tc : Thread Cert.Reference25Ideal.nD Cert.Reference25Ideal.τ).loc Cert.Reference25Ideal.main_arg12))
      ∧ r.2.sem = fun _ => 0)

def preserves_Kernel_KernelIdeal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def preserves_Kernel8_Kernel8Ideal : Prop :=
  True

def preserves_Kernel9_Kernel9Ideal : Prop :=
  True

def preserves_Kernel10_Kernel10Ideal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v13) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel2_Kernel2Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)
      ∧ m' ((c.tc : Thread Cert.Reference17Ideal.nD Cert.Reference17Ideal.τ).loc Cert.Reference17Ideal.main_arg13) = m ((c.tc : Thread Cert.Kernel17Ideal.nD Cert.Kernel17Ideal.τ).loc Cert.Kernel17Ideal.main_arg13)
      ∧ m' ((c.tc : Thread Cert.Reference17Ideal.nD Cert.Reference17Ideal.τ).loc Cert.Reference17Ideal.main_arg14) = m ((c.tc : Thread Cert.Kernel17Ideal.nD Cert.Kernel17Ideal.τ).loc Cert.Kernel17Ideal.main_arg14)
      ∧ m' ((c.tc : Thread Cert.Reference17Ideal.nD Cert.Reference17Ideal.τ).loc Cert.Reference17Ideal.main_arg15) = m ((c.tc : Thread Cert.Kernel17Ideal.nD Cert.Kernel17Ideal.τ).loc Cert.Kernel17Ideal.main_arg15)
      ∧ m' ((c.tc : Thread Cert.Reference17Ideal.nD Cert.Reference17Ideal.τ).loc Cert.Reference17Ideal.main_arg16) = m ((c.tc : Thread Cert.Kernel17Ideal.nD Cert.Kernel17Ideal.τ).loc Cert.Kernel17Ideal.main_arg16)
      ∧ m' ((c.tc : Thread Cert.Reference17Ideal.nD Cert.Reference17Ideal.τ).loc Cert.Reference17Ideal.main_arg17) = m ((c.tc : Thread Cert.Kernel17Ideal.nD Cert.Kernel17Ideal.τ).loc Cert.Kernel17Ideal.main_arg17)
      ∧ m' ((c.tc : Thread Cert.Reference17Ideal.nD Cert.Reference17Ideal.τ).loc Cert.Reference17Ideal.main_arg18) = m ((c.tc : Thread Cert.Kernel17Ideal.nD Cert.Kernel17Ideal.τ).loc Cert.Kernel17Ideal.main_arg18)
      ∧ m' ((c.tc : Thread Cert.Reference17Ideal.nD Cert.Reference17Ideal.τ).loc Cert.Reference17Ideal.main_arg19) = m ((c.tc : Thread Cert.Kernel17Ideal.nD Cert.Kernel17Ideal.τ).loc Cert.Kernel17Ideal.main_arg19)
      ∧ m' ((c.tc : Thread Cert.Reference17Ideal.nD Cert.Reference17Ideal.τ).loc Cert.Reference17Ideal.main_arg20) = m ((c.tc : Thread Cert.Kernel17Ideal.nD Cert.Kernel17Ideal.τ).loc Cert.Kernel17Ideal.main_arg20)
      ∧ m' ((c.tc : Thread Cert.Reference17Ideal.nD Cert.Reference17Ideal.τ).loc Cert.Reference17Ideal.main_arg21) = m ((c.tc : Thread Cert.Kernel17Ideal.nD Cert.Kernel17Ideal.τ).loc Cert.Kernel17Ideal.main_arg21)
      ∧ m' ((c.tc : Thread Cert.Reference17Ideal.nD Cert.Reference17Ideal.τ).loc Cert.Reference17Ideal.main_arg22) = m ((c.tc : Thread Cert.Kernel17Ideal.nD Cert.Kernel17Ideal.τ).loc Cert.Kernel17Ideal.main_arg22)
      ∧ m' ((c.tc : Thread Cert.Reference17Ideal.nD Cert.Reference17Ideal.τ).loc Cert.Reference17Ideal.main_arg23) = m ((c.tc : Thread Cert.Kernel17Ideal.nD Cert.Kernel17Ideal.τ).loc Cert.Kernel17Ideal.main_arg23)
      ∧ m' ((c.tc : Thread Cert.Reference17Ideal.nD Cert.Reference17Ideal.τ).loc Cert.Reference17Ideal.main_arg24) = m ((c.tc : Thread Cert.Kernel17Ideal.nD Cert.Kernel17Ideal.τ).loc Cert.Kernel17Ideal.main_arg24)
      ∧ m' ((c.tc : Thread Cert.Reference17Ideal.nD Cert.Reference17Ideal.τ).loc Cert.Reference17Ideal.main_arg25) = m ((c.tc : Thread Cert.Kernel17Ideal.nD Cert.Kernel17Ideal.τ).loc Cert.Kernel17Ideal.main_arg25)
      ∧ m' ((c.tc : Thread Cert.Reference17Ideal.nD Cert.Reference17Ideal.τ).loc Cert.Reference17Ideal.main_arg26) = m ((c.tc : Thread Cert.Kernel17Ideal.nD Cert.Kernel17Ideal.τ).loc Cert.Kernel17Ideal.main_arg26)
      ∧ m' ((c.tc : Thread Cert.Reference17Ideal.nD Cert.Reference17Ideal.τ).loc Cert.Reference17Ideal.main_arg27) = m ((c.tc : Thread Cert.Kernel17Ideal.nD Cert.Kernel17Ideal.τ).loc Cert.Kernel17Ideal.main_arg27)
      ∧ m' ((c.tc : Thread Cert.Reference17Ideal.nD Cert.Reference17Ideal.τ).loc Cert.Reference17Ideal.main_arg28) = m ((c.tc : Thread Cert.Kernel17Ideal.nD Cert.Kernel17Ideal.τ).loc Cert.Kernel17Ideal.main_arg28)
      ∧ m' ((c.tc : Thread Cert.Reference17Ideal.nD Cert.Reference17Ideal.τ).loc Cert.Reference17Ideal.main_arg29) = m ((c.tc : Thread Cert.Kernel17Ideal.nD Cert.Kernel17Ideal.τ).loc Cert.Kernel17Ideal.main_arg29)
      ∧ m' ((c.tc : Thread Cert.Reference17Ideal.nD Cert.Reference17Ideal.τ).loc Cert.Reference17Ideal.main_arg30) = m ((c.tc : Thread Cert.Kernel17Ideal.nD Cert.Kernel17Ideal.τ).loc Cert.Kernel17Ideal.main_arg30)
      ∧ m' ((c.tc : Thread Cert.Reference17Ideal.nD Cert.Reference17Ideal.τ).loc Cert.Reference17Ideal.main_arg31) = m ((c.tc : Thread Cert.Kernel17Ideal.nD Cert.Kernel17Ideal.τ).loc Cert.Kernel17Ideal.main_arg31)
      ∧ m' ((c.tc : Thread Cert.Reference17Ideal.nD Cert.Reference17Ideal.τ).loc Cert.Reference17Ideal.main_arg32) = m ((c.tc : Thread Cert.Kernel17Ideal.nD Cert.Kernel17Ideal.τ).loc Cert.Kernel17Ideal.main_arg32)
      ∧ m' ((c.tc : Thread Cert.Reference17Ideal.nD Cert.Reference17Ideal.τ).loc Cert.Reference17Ideal.main_arg33) = m ((c.tc : Thread Cert.Kernel17Ideal.nD Cert.Kernel17Ideal.τ).loc Cert.Kernel17Ideal.main_arg33)
      ∧ m' ((c.tc : Thread Cert.Reference17Ideal.nD Cert.Reference17Ideal.τ).loc Cert.Reference17Ideal.main_arg34) = m ((c.tc : Thread Cert.Kernel17Ideal.nD Cert.Kernel17Ideal.τ).loc Cert.Kernel17Ideal.main_arg34)
      ∧ m' ((c.tc : Thread Cert.Reference17Ideal.nD Cert.Reference17Ideal.τ).loc Cert.Reference17Ideal.main_arg35) = m ((c.tc : Thread Cert.Kernel17Ideal.nD Cert.Kernel17Ideal.τ).loc Cert.Kernel17Ideal.main_arg35)
      ∧ m' ((c.tc : Thread Cert.Reference17Ideal.nD Cert.Reference17Ideal.τ).loc Cert.Reference17Ideal.main_arg36) = m ((c.tc : Thread Cert.Kernel17Ideal.nD Cert.Kernel17Ideal.τ).loc Cert.Kernel17Ideal.main_arg36)
      ∧ m' ((c.tc : Thread Cert.Reference17Ideal.nD Cert.Reference17Ideal.τ).loc Cert.Reference17Ideal.main_arg37) = m ((c.tc : Thread Cert.Kernel17Ideal.nD Cert.Kernel17Ideal.τ).loc Cert.Kernel17Ideal.main_arg37)
      ∧ m' ((c.tc : Thread Cert.Reference17Ideal.nD Cert.Reference17Ideal.τ).loc Cert.Reference17Ideal.main_arg38) = m ((c.tc : Thread Cert.Kernel17Ideal.nD Cert.Kernel17Ideal.τ).loc Cert.Kernel17Ideal.main_arg38)
      ∧ m' ((c.tc : Thread Cert.Reference17Ideal.nD Cert.Reference17Ideal.τ).loc Cert.Reference17Ideal.main_arg39) = m ((c.tc : Thread Cert.Kernel17Ideal.nD Cert.Kernel17Ideal.τ).loc Cert.Kernel17Ideal.main_arg39)
      ∧ m' ((c.tc : Thread Cert.Reference17Ideal.nD Cert.Reference17Ideal.τ).loc Cert.Reference17Ideal.main_arg40) = m ((c.tc : Thread Cert.Kernel17Ideal.nD Cert.Kernel17Ideal.τ).loc Cert.Kernel17Ideal.main_arg40)
      ∧ m' ((c.tc : Thread Cert.Reference17Ideal.nD Cert.Reference17Ideal.τ).loc Cert.Reference17Ideal.main_arg41) = m ((c.tc : Thread Cert.Kernel17Ideal.nD Cert.Kernel17Ideal.τ).loc Cert.Kernel17Ideal.main_arg41)
      ∧ m' ((c.tc : Thread Cert.Reference17Ideal.nD Cert.Reference17Ideal.τ).loc Cert.Reference17Ideal.main_arg42) = m ((c.tc : Thread Cert.Kernel17Ideal.nD Cert.Kernel17Ideal.τ).loc Cert.Kernel17Ideal.main_arg42)
      ∧ m' ((c.tc : Thread Cert.Reference17Ideal.nD Cert.Reference17Ideal.τ).loc Cert.Reference17Ideal.main_arg43) = m ((c.tc : Thread Cert.Kernel17Ideal.nD Cert.Kernel17Ideal.τ).loc Cert.Kernel17Ideal.main_arg43)
      ∧ m' ((c.tc : Thread Cert.Reference17Ideal.nD Cert.Reference17Ideal.τ).loc Cert.Reference17Ideal.main_arg44) = m ((c.tc : Thread Cert.Kernel17Ideal.nD Cert.Kernel17Ideal.τ).loc Cert.Kernel17Ideal.main_arg44)
      ∧ m' ((c.tc : Thread Cert.Reference17Ideal.nD Cert.Reference17Ideal.τ).loc Cert.Reference17Ideal.main_arg45) = m ((c.tc : Thread Cert.Kernel17Ideal.nD Cert.Kernel17Ideal.τ).loc Cert.Kernel17Ideal.main_arg45)
      ∧ m' ((c.tc : Thread Cert.Reference17Ideal.nD Cert.Reference17Ideal.τ).loc Cert.Reference17Ideal.main_arg46) = m ((c.tc : Thread Cert.Kernel17Ideal.nD Cert.Kernel17Ideal.τ).loc Cert.Kernel17Ideal.main_arg46)
      ∧ m' ((c.tc : Thread Cert.Reference17Ideal.nD Cert.Reference17Ideal.τ).loc Cert.Reference17Ideal.main_arg47) = m ((c.tc : Thread Cert.Kernel17Ideal.nD Cert.Kernel17Ideal.τ).loc Cert.Kernel17Ideal.main_arg47)
      ∧ m' ((c.tc : Thread Cert.Reference17Ideal.nD Cert.Reference17Ideal.τ).loc Cert.Reference17Ideal.main_arg48) = m ((c.tc : Thread Cert.Kernel17Ideal.nD Cert.Kernel17Ideal.τ).loc Cert.Kernel17Ideal.main_arg48)
      ∧ m' ((c.tc : Thread Cert.Reference17Ideal.nD Cert.Reference17Ideal.τ).loc Cert.Reference17Ideal.main_arg49) = m ((c.tc : Thread Cert.Kernel17Ideal.nD Cert.Kernel17Ideal.τ).loc Cert.Kernel17Ideal.main_arg49)
      ∧ m' ((c.tc : Thread Cert.Reference17Ideal.nD Cert.Reference17Ideal.τ).loc Cert.Reference17Ideal.main_arg50) = m ((c.tc : Thread Cert.Kernel17Ideal.nD Cert.Kernel17Ideal.τ).loc Cert.Kernel17Ideal.main_arg50)
      ∧ m' ((c.tc : Thread Cert.Reference17Ideal.nD Cert.Reference17Ideal.τ).loc Cert.Reference17Ideal.main_arg51) = m ((c.tc : Thread Cert.Kernel17Ideal.nD Cert.Kernel17Ideal.τ).loc Cert.Kernel17Ideal.main_arg51)
      ∧ m' ((c.tc : Thread Cert.Reference17Ideal.nD Cert.Reference17Ideal.τ).loc Cert.Reference17Ideal.main_arg52) = m ((c.tc : Thread Cert.Kernel17Ideal.nD Cert.Kernel17Ideal.τ).loc Cert.Kernel17Ideal.main_arg52)
      ∧ m' ((c.tc : Thread Cert.Reference17Ideal.nD Cert.Reference17Ideal.τ).loc Cert.Reference17Ideal.main_arg53) = m ((c.tc : Thread Cert.Kernel17Ideal.nD Cert.Kernel17Ideal.τ).loc Cert.Kernel17Ideal.main_arg53)
      ∧ m' ((c.tc : Thread Cert.Reference17Ideal.nD Cert.Reference17Ideal.τ).loc Cert.Reference17Ideal.main_arg54) = m ((c.tc : Thread Cert.Kernel17Ideal.nD Cert.Kernel17Ideal.τ).loc Cert.Kernel17Ideal.main_arg54)
      ∧ m' ((c.tc : Thread Cert.Reference17Ideal.nD Cert.Reference17Ideal.τ).loc Cert.Reference17Ideal.main_arg55) = m ((c.tc : Thread Cert.Kernel17Ideal.nD Cert.Kernel17Ideal.τ).loc Cert.Kernel17Ideal.main_arg55)
      ∧ m' ((c.tc : Thread Cert.Reference17Ideal.nD Cert.Reference17Ideal.τ).loc Cert.Reference17Ideal.main_arg56) = m ((c.tc : Thread Cert.Kernel17Ideal.nD Cert.Kernel17Ideal.τ).loc Cert.Kernel17Ideal.main_arg56)
      ∧ m' ((c.tc : Thread Cert.Reference17Ideal.nD Cert.Reference17Ideal.τ).loc Cert.Reference17Ideal.main_arg57) = m ((c.tc : Thread Cert.Kernel17Ideal.nD Cert.Kernel17Ideal.τ).loc Cert.Kernel17Ideal.main_arg57)
      ∧ m' ((c.tc : Thread Cert.Reference17Ideal.nD Cert.Reference17Ideal.τ).loc Cert.Reference17Ideal.main_arg58) = m ((c.tc : Thread Cert.Kernel17Ideal.nD Cert.Kernel17Ideal.τ).loc Cert.Kernel17Ideal.main_arg58)
      ∧ m' ((c.tc : Thread Cert.Reference17Ideal.nD Cert.Reference17Ideal.τ).loc Cert.Reference17Ideal.main_arg59) = m ((c.tc : Thread Cert.Kernel17Ideal.nD Cert.Kernel17Ideal.τ).loc Cert.Kernel17Ideal.main_arg59)
      ∧ m' ((c.tc : Thread Cert.Reference17Ideal.nD Cert.Reference17Ideal.τ).loc Cert.Reference17Ideal.main_arg60) = m ((c.tc : Thread Cert.Kernel17Ideal.nD Cert.Kernel17Ideal.τ).loc Cert.Kernel17Ideal.main_arg60)
      ∧ m' ((c.tc : Thread Cert.Reference17Ideal.nD Cert.Reference17Ideal.τ).loc Cert.Reference17Ideal.main_arg61) = m ((c.tc : Thread Cert.Kernel17Ideal.nD Cert.Kernel17Ideal.τ).loc Cert.Kernel17Ideal.main_arg61)
      ∧ m' ((c.tc : Thread Cert.Reference17Ideal.nD Cert.Reference17Ideal.τ).loc Cert.Reference17Ideal.main_arg62) = m ((c.tc : Thread Cert.Kernel17Ideal.nD Cert.Kernel17Ideal.τ).loc Cert.Kernel17Ideal.main_arg62)
      ∧ m' ((c.tc : Thread Cert.Reference17Ideal.nD Cert.Reference17Ideal.τ).loc Cert.Reference17Ideal.main_arg63) = m ((c.tc : Thread Cert.Kernel17Ideal.nD Cert.Kernel17Ideal.τ).loc Cert.Kernel17Ideal.main_arg63)
      ∧ m' ((c.tc : Thread Cert.Reference17Ideal.nD Cert.Reference17Ideal.τ).loc Cert.Reference17Ideal.main_arg64) = m ((c.tc : Thread Cert.Kernel17Ideal.nD Cert.Kernel17Ideal.τ).loc Cert.Kernel17Ideal.main_arg64)
      ∧ m' ((c.tc : Thread Cert.Reference17Ideal.nD Cert.Reference17Ideal.τ).loc Cert.Reference17Ideal.main_arg65) = m ((c.tc : Thread Cert.Kernel17Ideal.nD Cert.Kernel17Ideal.τ).loc Cert.Kernel17Ideal.main_arg65)
      ∧ m' ((c.tc : Thread Cert.Reference17Ideal.nD Cert.Reference17Ideal.τ).loc Cert.Reference17Ideal.main_arg66) = m ((c.tc : Thread Cert.Kernel17Ideal.nD Cert.Kernel17Ideal.τ).loc Cert.Kernel17Ideal.main_arg66)
      ∧ m' ((c.tc : Thread Cert.Reference17Ideal.nD Cert.Reference17Ideal.τ).loc Cert.Reference17Ideal.main_arg67) = m ((c.tc : Thread Cert.Kernel17Ideal.nD Cert.Kernel17Ideal.τ).loc Cert.Kernel17Ideal.main_arg67)
      ∧ m' ((c.tc : Thread Cert.Reference17Ideal.nD Cert.Reference17Ideal.τ).loc Cert.Reference17Ideal.main_arg68) = m ((c.tc : Thread Cert.Kernel17Ideal.nD Cert.Kernel17Ideal.τ).loc Cert.Kernel17Ideal.main_arg68)
      ∧ m' ((c.tc : Thread Cert.Reference17Ideal.nD Cert.Reference17Ideal.τ).loc Cert.Reference17Ideal.main_arg69) = m ((c.tc : Thread Cert.Kernel17Ideal.nD Cert.Kernel17Ideal.τ).loc Cert.Kernel17Ideal.main_arg69)
      ∧ m' ((c.tc : Thread Cert.Reference17Ideal.nD Cert.Reference17Ideal.τ).loc Cert.Reference17Ideal.main_arg70) = m ((c.tc : Thread Cert.Kernel17Ideal.nD Cert.Kernel17Ideal.τ).loc Cert.Kernel17Ideal.main_arg70)
      ∧ m' ((c.tc : Thread Cert.Reference17Ideal.nD Cert.Reference17Ideal.τ).loc Cert.Reference17Ideal.main_arg71) = m ((c.tc : Thread Cert.Kernel17Ideal.nD Cert.Kernel17Ideal.τ).loc Cert.Kernel17Ideal.main_arg71)
      ∧ m' ((c.tc : Thread Cert.Reference17Ideal.nD Cert.Reference17Ideal.τ).loc Cert.Reference17Ideal.main_arg72) = m ((c.tc : Thread Cert.Kernel17Ideal.nD Cert.Kernel17Ideal.τ).loc Cert.Kernel17Ideal.main_arg72)
      ∧ m' ((c.tc : Thread Cert.Reference17Ideal.nD Cert.Reference17Ideal.τ).loc Cert.Reference17Ideal.main_arg73) = m ((c.tc : Thread Cert.Kernel17Ideal.nD Cert.Kernel17Ideal.τ).loc Cert.Kernel17Ideal.main_arg73)
      ∧ m' ((c.tc : Thread Cert.Reference17Ideal.nD Cert.Reference17Ideal.τ).loc Cert.Reference17Ideal.main_arg74) = m ((c.tc : Thread Cert.Kernel17Ideal.nD Cert.Kernel17Ideal.τ).loc Cert.Kernel17Ideal.main_arg74)
      ∧ m' ((c.tc : Thread Cert.Reference17Ideal.nD Cert.Reference17Ideal.τ).loc Cert.Reference17Ideal.main_arg75) = m ((c.tc : Thread Cert.Kernel17Ideal.nD Cert.Kernel17Ideal.τ).loc Cert.Kernel17Ideal.main_arg75)
      ∧ m' ((c.tc : Thread Cert.Reference17Ideal.nD Cert.Reference17Ideal.τ).loc Cert.Reference17Ideal.main_arg76) = m ((c.tc : Thread Cert.Kernel17Ideal.nD Cert.Kernel17Ideal.τ).loc Cert.Kernel17Ideal.main_arg76)
      ∧ m' ((c.tc : Thread Cert.Reference17Ideal.nD Cert.Reference17Ideal.τ).loc Cert.Reference17Ideal.main_arg77) = m ((c.tc : Thread Cert.Kernel17Ideal.nD Cert.Kernel17Ideal.τ).loc Cert.Kernel17Ideal.main_arg77)
      ∧ m' ((c.tc : Thread Cert.Reference17Ideal.nD Cert.Reference17Ideal.τ).loc Cert.Reference17Ideal.main_arg78) = m ((c.tc : Thread Cert.Kernel17Ideal.nD Cert.Kernel17Ideal.τ).loc Cert.Kernel17Ideal.main_arg78)
      ∧ m' ((c.tc : Thread Cert.Reference17Ideal.nD Cert.Reference17Ideal.τ).loc Cert.Reference17Ideal.main_arg79) = m ((c.tc : Thread Cert.Kernel17Ideal.nD Cert.Kernel17Ideal.τ).loc Cert.Kernel17Ideal.main_arg79)
      ∧ m' ((c.tc : Thread Cert.Reference17Ideal.nD Cert.Reference17Ideal.τ).loc Cert.Reference17Ideal.main_arg80) = m ((c.tc : Thread Cert.Kernel17Ideal.nD Cert.Kernel17Ideal.τ).loc Cert.Kernel17Ideal.main_arg80)
      ∧ m' ((c.tc : Thread Cert.Reference17Ideal.nD Cert.Reference17Ideal.τ).loc Cert.Reference17Ideal.main_arg81) = m ((c.tc : Thread Cert.Kernel17Ideal.nD Cert.Kernel17Ideal.τ).loc Cert.Kernel17Ideal.main_arg81)
      ∧ m' ((c.tc : Thread Cert.Reference17Ideal.nD Cert.Reference17Ideal.τ).loc Cert.Reference17Ideal.main_arg82) = m ((c.tc : Thread Cert.Kernel17Ideal.nD Cert.Kernel17Ideal.τ).loc Cert.Kernel17Ideal.main_arg82)
      ∧ m' ((c.tc : Thread Cert.Reference17Ideal.nD Cert.Reference17Ideal.τ).loc Cert.Reference17Ideal.main_arg83) = m ((c.tc : Thread Cert.Kernel17Ideal.nD Cert.Kernel17Ideal.τ).loc Cert.Kernel17Ideal.main_arg83)
      ∧ m' ((c.tc : Thread Cert.Reference17Ideal.nD Cert.Reference17Ideal.τ).loc Cert.Reference17Ideal.main_arg84) = m ((c.tc : Thread Cert.Kernel17Ideal.nD Cert.Kernel17Ideal.τ).loc Cert.Kernel17Ideal.main_arg84)
      ∧ m' ((c.tc : Thread Cert.Reference17Ideal.nD Cert.Reference17Ideal.τ).loc Cert.Reference17Ideal.main_arg85) = m ((c.tc : Thread Cert.Kernel17Ideal.nD Cert.Kernel17Ideal.τ).loc Cert.Kernel17Ideal.main_arg85)
      ∧ m' ((c.tc : Thread Cert.Reference17Ideal.nD Cert.Reference17Ideal.τ).loc Cert.Reference17Ideal.main_arg86) = m ((c.tc : Thread Cert.Kernel17Ideal.nD Cert.Kernel17Ideal.τ).loc Cert.Kernel17Ideal.main_arg86)
      ∧ m' ((c.tc : Thread Cert.Reference17Ideal.nD Cert.Reference17Ideal.τ).loc Cert.Reference17Ideal.main_arg87) = m ((c.tc : Thread Cert.Kernel17Ideal.nD Cert.Kernel17Ideal.τ).loc Cert.Kernel17Ideal.main_arg87)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)) (v9 : (c : Dev Cert.Kernel17Ideal.nD) → Buf (Elt Ideal) ((c.tc : Thread Cert.Kernel17Ideal.nD Cert.Kernel17Ideal.τ).loc Cert.Kernel17Ideal.main_v0_9)) (v10 : (c : Dev Cert.Kernel17Ideal.nD) → Buf (Elt Ideal) ((c.tc : Thread Cert.Kernel17Ideal.nD Cert.Kernel17Ideal.τ).loc Cert.Kernel17Ideal.main_v0_10)) (v11 : (c : Dev Cert.Kernel17Ideal.nD) → Buf (Elt Ideal) ((c.tc : Thread Cert.Kernel17Ideal.nD Cert.Kernel17Ideal.τ).loc Cert.Kernel17Ideal.main_v0_11)) (v12 : (c : Dev Cert.Kernel17Ideal.nD) → Buf (Elt Ideal) ((c.tc : Thread Cert.Kernel17Ideal.nD Cert.Kernel17Ideal.τ).loc Cert.Kernel17Ideal.main_v0_12)) (v13 : (c : Dev Cert.Kernel17Ideal.nD) → Buf (Elt Ideal) ((c.tc : Thread Cert.Kernel17Ideal.nD Cert.Kernel17Ideal.τ).loc Cert.Kernel17Ideal.main_v0_13)) (v14 : (c : Dev Cert.Kernel17Ideal.nD) → Buf (Elt Ideal) ((c.tc : Thread Cert.Kernel17Ideal.nD Cert.Kernel17Ideal.τ).loc Cert.Kernel17Ideal.main_v0_14)) (v15 : (c : Dev Cert.Kernel17Ideal.nD) → Buf (Elt Ideal) ((c.tc : Thread Cert.Kernel17Ideal.nD Cert.Kernel17Ideal.τ).loc Cert.Kernel17Ideal.main_v0_15)) (v16 : (c : Dev Cert.Kernel17Ideal.nD) → Buf (Elt Ideal) ((c.tc : Thread Cert.Kernel17Ideal.nD Cert.Kernel17Ideal.τ).loc Cert.Kernel17Ideal.main_v0_16)) (v17 : (c : Dev Cert.Kernel17Ideal.nD) → Buf (Elt Ideal) ((c.tc : Thread Cert.Kernel17Ideal.nD Cert.Kernel17Ideal.τ).loc Cert.Kernel17Ideal.main_v0_17)) (v18 : (c : Dev Cert.Kernel17Ideal.nD) → Buf (Elt Ideal) ((c.tc : Thread Cert.Kernel17Ideal.nD Cert.Kernel17Ideal.τ).loc Cert.Kernel17Ideal.main_v0_18)) (v19 : (c : Dev Cert.Kernel17Ideal.nD) → Buf (Elt Ideal) ((c.tc : Thread Cert.Kernel17Ideal.nD Cert.Kernel17Ideal.τ).loc Cert.Kernel17Ideal.main_v0_19)) (v20 : (c : Dev Cert.Kernel17Ideal.nD) → Buf (Elt Ideal) ((c.tc : Thread Cert.Kernel17Ideal.nD Cert.Kernel17Ideal.τ).loc Cert.Kernel17Ideal.main_v0_20)) (v21 : (c : Dev Cert.Kernel17Ideal.nD) → Buf (Elt Ideal) ((c.tc : Thread Cert.Kernel17Ideal.nD Cert.Kernel17Ideal.τ).loc Cert.Kernel17Ideal.main_v0_21)) (v22 : (c : Dev Cert.Kernel17Ideal.nD) → Buf (Elt Ideal) ((c.tc : Thread Cert.Kernel17Ideal.nD Cert.Kernel17Ideal.τ).loc Cert.Kernel17Ideal.main_v0_22)) (v23 : (c : Dev Cert.Kernel17Ideal.nD) → Buf (Elt Ideal) ((c.tc : Thread Cert.Kernel17Ideal.nD Cert.Kernel17Ideal.τ).loc Cert.Kernel17Ideal.main_v0_23)) (v24 : (c : Dev Cert.Kernel17Ideal.nD) → Buf (Elt Ideal) ((c.tc : Thread Cert.Kernel17Ideal.nD Cert.Kernel17Ideal.τ).loc Cert.Kernel17Ideal.main_v0_24)) (v25 : (c : Dev Cert.Kernel17Ideal.nD) → Buf (Elt Ideal) ((c.tc : Thread Cert.Kernel17Ideal.nD Cert.Kernel17Ideal.τ).loc Cert.Kernel17Ideal.main_v0_25)) (v26 : (c : Dev Cert.Kernel17Ideal.nD) → Buf (Elt Ideal) ((c.tc : Thread Cert.Kernel17Ideal.nD Cert.Kernel17Ideal.τ).loc Cert.Kernel17Ideal.main_v0_26)) (v27 : (c : Dev Cert.Kernel17Ideal.nD) → Buf (Elt Ideal) ((c.tc : Thread Cert.Kernel17Ideal.nD Cert.Kernel17Ideal.τ).loc Cert.Kernel17Ideal.main_v0_27)) (v28 : (c : Dev Cert.Kernel17Ideal.nD) → Buf (Elt Ideal) ((c.tc : Thread Cert.Kernel17Ideal.nD Cert.Kernel17Ideal.τ).loc Cert.Kernel17Ideal.main_v0_28)) (v29 : (c : Dev Cert.Kernel17Ideal.nD) → Buf (Elt Ideal) ((c.tc : Thread Cert.Kernel17Ideal.nD Cert.Kernel17Ideal.τ).loc Cert.Kernel17Ideal.main_v0_29)) (v30 : (c : Dev Cert.Kernel17Ideal.nD) → Buf (Elt Ideal) ((c.tc : Thread Cert.Kernel17Ideal.nD Cert.Kernel17Ideal.τ).loc Cert.Kernel17Ideal.main_v0_30)) (v31 : (c : Dev Cert.Kernel17Ideal.nD) → Buf (Elt Ideal) ((c.tc : Thread Cert.Kernel17Ideal.nD Cert.Kernel17Ideal.τ).loc Cert.Kernel17Ideal.main_v0_31)) (v32 : (c : Dev Cert.Kernel17Ideal.nD) → Buf (Elt Ideal) ((c.tc : Thread Cert.Kernel17Ideal.nD Cert.Kernel17Ideal.τ).loc Cert.Kernel17Ideal.main_v0_32)) (v33 : (c : Dev Cert.Kernel17Ideal.nD) → Buf (Elt Ideal) ((c.tc : Thread Cert.Kernel17Ideal.nD Cert.Kernel17Ideal.τ).loc Cert.Kernel17Ideal.main_v0_33)) (v34 : (c : Dev Cert.Kernel17Ideal.nD) → Buf (Elt Ideal) ((c.tc : Thread Cert.Kernel17Ideal.nD Cert.Kernel17Ideal.τ).loc Cert.Kernel17Ideal.main_v0_34)) (v35 : (c : Dev Cert.Kernel17Ideal.nD) → Buf (Elt Ideal) ((c.tc : Thread Cert.Kernel17Ideal.nD Cert.Kernel17Ideal.τ).loc Cert.Kernel17Ideal.main_v0_35)) (v36 : (c : Dev Cert.Kernel17Ideal.nD) → Buf (Elt Ideal) ((c.tc : Thread Cert.Kernel17Ideal.nD Cert.Kernel17Ideal.τ).loc Cert.Kernel17Ideal.main_v0_36)) (v37 : (c : Dev Cert.Kernel17Ideal.nD) → Buf (Elt Ideal) ((c.tc : Thread Cert.Kernel17Ideal.nD Cert.Kernel17Ideal.τ).loc Cert.Kernel17Ideal.main_v0_37)) (v38 : (c : Dev Cert.Kernel17Ideal.nD) → Buf (Elt Ideal) ((c.tc : Thread Cert.Kernel17Ideal.nD Cert.Kernel17Ideal.τ).loc Cert.Kernel17Ideal.main_v0_38)) (v39 : (c : Dev Cert.Kernel17Ideal.nD) → Buf (Elt Ideal) ((c.tc : Thread Cert.Kernel17Ideal.nD Cert.Kernel17Ideal.τ).loc Cert.Kernel17Ideal.main_v0_39)) (v40 : (c : Dev Cert.Kernel17Ideal.nD) → Buf (Elt Ideal) ((c.tc : Thread Cert.Kernel17Ideal.nD Cert.Kernel17Ideal.τ).loc Cert.Kernel17Ideal.main_v0_40)) (v41 : (c : Dev Cert.Kernel17Ideal.nD) → Buf (Elt Ideal) ((c.tc : Thread Cert.Kernel17Ideal.nD Cert.Kernel17Ideal.τ).loc Cert.Kernel17Ideal.main_v0_41)) (v42 : (c : Dev Cert.Kernel17Ideal.nD) → Buf (Elt Ideal) ((c.tc : Thread Cert.Kernel17Ideal.nD Cert.Kernel17Ideal.τ).loc Cert.Kernel17Ideal.main_v0_42)) (v43 : (c : Dev Cert.Kernel17Ideal.nD) → Buf (Elt Ideal) ((c.tc : Thread Cert.Kernel17Ideal.nD Cert.Kernel17Ideal.τ).loc Cert.Kernel17Ideal.main_v0_43)) (v44 : (c : Dev Cert.Kernel17Ideal.nD) → Buf (Elt Ideal) ((c.tc : Thread Cert.Kernel17Ideal.nD Cert.Kernel17Ideal.τ).loc Cert.Kernel17Ideal.main_v0_44)) (v45 : (c : Dev Cert.Kernel17Ideal.nD) → Buf (Elt Ideal) ((c.tc : Thread Cert.Kernel17Ideal.nD Cert.Kernel17Ideal.τ).loc Cert.Kernel17Ideal.main_v0_45)) (v46 : (c : Dev Cert.Kernel17Ideal.nD) → Buf (Elt Ideal) ((c.tc : Thread Cert.Kernel17Ideal.nD Cert.Kernel17Ideal.τ).loc Cert.Kernel17Ideal.main_v0_46)) (v47 : (c : Dev Cert.Kernel17Ideal.nD) → Buf (Elt Ideal) ((c.tc : Thread Cert.Kernel17Ideal.nD Cert.Kernel17Ideal.τ).loc Cert.Kernel17Ideal.main_v0_47)) (v48 : (c : Dev Cert.Kernel17Ideal.nD) → Buf (Elt Ideal) ((c.tc : Thread Cert.Kernel17Ideal.nD Cert.Kernel17Ideal.τ).loc Cert.Kernel17Ideal.main_v0_48)) (v49 : (c : Dev Cert.Kernel17Ideal.nD) → Buf (Elt Ideal) ((c.tc : Thread Cert.Kernel17Ideal.nD Cert.Kernel17Ideal.τ).loc Cert.Kernel17Ideal.main_v0_49)) (v50 : (c : Dev Cert.Kernel17Ideal.nD) → Buf (Elt Ideal) ((c.tc : Thread Cert.Kernel17Ideal.nD Cert.Kernel17Ideal.τ).loc Cert.Kernel17Ideal.main_v0_50)) (v51 : (c : Dev Cert.Kernel17Ideal.nD) → Buf (Elt Ideal) ((c.tc : Thread Cert.Kernel17Ideal.nD Cert.Kernel17Ideal.τ).loc Cert.Kernel17Ideal.main_v0_51)) (v52 : (c : Dev Cert.Kernel17Ideal.nD) → Buf (Elt Ideal) ((c.tc : Thread Cert.Kernel17Ideal.nD Cert.Kernel17Ideal.τ).loc Cert.Kernel17Ideal.main_v0_52)) (v53 : (c : Dev Cert.Kernel17Ideal.nD) → Buf (Elt Ideal) ((c.tc : Thread Cert.Kernel17Ideal.nD Cert.Kernel17Ideal.τ).loc Cert.Kernel17Ideal.main_v0_53)) (v54 : (c : Dev Cert.Kernel17Ideal.nD) → Buf (Elt Ideal) ((c.tc : Thread Cert.Kernel17Ideal.nD Cert.Kernel17Ideal.τ).loc Cert.Kernel17Ideal.main_v0_54)) (v55 : (c : Dev Cert.Kernel17Ideal.nD) → Buf (Elt Ideal) ((c.tc : Thread Cert.Kernel17Ideal.nD Cert.Kernel17Ideal.τ).loc Cert.Kernel17Ideal.main_v0_55)) (v56 : (c : Dev Cert.Kernel17Ideal.nD) → Buf (Elt Ideal) ((c.tc : Thread Cert.Kernel17Ideal.nD Cert.Kernel17Ideal.τ).loc Cert.Kernel17Ideal.main_v0_56)) (v57 : (c : Dev Cert.Kernel17Ideal.nD) → Buf (Elt Ideal) ((c.tc : Thread Cert.Kernel17Ideal.nD Cert.Kernel17Ideal.τ).loc Cert.Kernel17Ideal.main_v0_57)) (v58 : (c : Dev Cert.Kernel17Ideal.nD) → Buf (Elt Ideal) ((c.tc : Thread Cert.Kernel17Ideal.nD Cert.Kernel17Ideal.τ).loc Cert.Kernel17Ideal.main_v0_58)) (v59 : (c : Dev Cert.Kernel17Ideal.nD) → Buf (Elt Ideal) ((c.tc : Thread Cert.Kernel17Ideal.nD Cert.Kernel17Ideal.τ).loc Cert.Kernel17Ideal.main_v0_59)) (v60 : (c : Dev Cert.Kernel17Ideal.nD) → Buf (Elt Ideal) ((c.tc : Thread Cert.Kernel17Ideal.nD Cert.Kernel17Ideal.τ).loc Cert.Kernel17Ideal.main_v0_60)) (v61 : (c : Dev Cert.Kernel17Ideal.nD) → Buf (Elt Ideal) ((c.tc : Thread Cert.Kernel17Ideal.nD Cert.Kernel17Ideal.τ).loc Cert.Kernel17Ideal.main_v0_61)) (v62 : (c : Dev Cert.Kernel17Ideal.nD) → Buf (Elt Ideal) ((c.tc : Thread Cert.Kernel17Ideal.nD Cert.Kernel17Ideal.τ).loc Cert.Kernel17Ideal.main_v0_62)) (v63 : (c : Dev Cert.Kernel17Ideal.nD) → Buf (Elt Ideal) ((c.tc : Thread Cert.Kernel17Ideal.nD Cert.Kernel17Ideal.τ).loc Cert.Kernel17Ideal.main_v0_63)) (v64 : (c : Dev Cert.Kernel17Ideal.nD) → Buf (Elt Ideal) ((c.tc : Thread Cert.Kernel17Ideal.nD Cert.Kernel17Ideal.τ).loc Cert.Kernel17Ideal.main_v0_64)) (v65 : (c : Dev Cert.Kernel17Ideal.nD) → Buf (Elt Ideal) ((c.tc : Thread Cert.Kernel17Ideal.nD Cert.Kernel17Ideal.τ).loc Cert.Kernel17Ideal.main_v0_65)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_v0_9) = v9 c
          ∧ r.2.mem ((c.tc : Thread Cert.Kernel17Ideal.nD Cert.Kernel17Ideal.τ).loc Cert.Kernel17Ideal.main_v0_10) = v10 c
          ∧ r.2.mem ((c.tc : Thread Cert.Kernel17Ideal.nD Cert.Kernel17Ideal.τ).loc Cert.Kernel17Ideal.main_v0_11) = v11 c
          ∧ r.2.mem ((c.tc : Thread Cert.Kernel17Ideal.nD Cert.Kernel17Ideal.τ).loc Cert.Kernel17Ideal.main_v0_12) = v12 c
          ∧ r.2.mem ((c.tc : Thread Cert.Kernel17Ideal.nD Cert.Kernel17Ideal.τ).loc Cert.Kernel17Ideal.main_v0_13) = v13 c
          ∧ r.2.mem ((c.tc : Thread Cert.Kernel17Ideal.nD Cert.Kernel17Ideal.τ).loc Cert.Kernel17Ideal.main_v0_14) = v14 c
          ∧ r.2.mem ((c.tc : Thread Cert.Kernel17Ideal.nD Cert.Kernel17Ideal.τ).loc Cert.Kernel17Ideal.main_v0_15) = v15 c
          ∧ r.2.mem ((c.tc : Thread Cert.Kernel17Ideal.nD Cert.Kernel17Ideal.τ).loc Cert.Kernel17Ideal.main_v0_16) = v16 c
          ∧ r.2.mem ((c.tc : Thread Cert.Kernel17Ideal.nD Cert.Kernel17Ideal.τ).loc Cert.Kernel17Ideal.main_v0_17) = v17 c
          ∧ r.2.mem ((c.tc : Thread Cert.Kernel17Ideal.nD Cert.Kernel17Ideal.τ).loc Cert.Kernel17Ideal.main_v0_18) = v18 c
          ∧ r.2.mem ((c.tc : Thread Cert.Kernel17Ideal.nD Cert.Kernel17Ideal.τ).loc Cert.Kernel17Ideal.main_v0_19) = v19 c
          ∧ r.2.mem ((c.tc : Thread Cert.Kernel17Ideal.nD Cert.Kernel17Ideal.τ).loc Cert.Kernel17Ideal.main_v0_20) = v20 c
          ∧ r.2.mem ((c.tc : Thread Cert.Kernel17Ideal.nD Cert.Kernel17Ideal.τ).loc Cert.Kernel17Ideal.main_v0_21) = v21 c
          ∧ r.2.mem ((c.tc : Thread Cert.Kernel17Ideal.nD Cert.Kernel17Ideal.τ).loc Cert.Kernel17Ideal.main_v0_22) = v22 c
          ∧ r.2.mem ((c.tc : Thread Cert.Kernel17Ideal.nD Cert.Kernel17Ideal.τ).loc Cert.Kernel17Ideal.main_v0_23) = v23 c
          ∧ r.2.mem ((c.tc : Thread Cert.Kernel17Ideal.nD Cert.Kernel17Ideal.τ).loc Cert.Kernel17Ideal.main_v0_24) = v24 c
          ∧ r.2.mem ((c.tc : Thread Cert.Kernel17Ideal.nD Cert.Kernel17Ideal.τ).loc Cert.Kernel17Ideal.main_v0_25) = v25 c
          ∧ r.2.mem ((c.tc : Thread Cert.Kernel17Ideal.nD Cert.Kernel17Ideal.τ).loc Cert.Kernel17Ideal.main_v0_26) = v26 c
          ∧ r.2.mem ((c.tc : Thread Cert.Kernel17Ideal.nD Cert.Kernel17Ideal.τ).loc Cert.Kernel17Ideal.main_v0_27) = v27 c
          ∧ r.2.mem ((c.tc : Thread Cert.Kernel17Ideal.nD Cert.Kernel17Ideal.τ).loc Cert.Kernel17Ideal.main_v0_28) = v28 c
          ∧ r.2.mem ((c.tc : Thread Cert.Kernel17Ideal.nD Cert.Kernel17Ideal.τ).loc Cert.Kernel17Ideal.main_v0_29) = v29 c
          ∧ r.2.mem ((c.tc : Thread Cert.Kernel17Ideal.nD Cert.Kernel17Ideal.τ).loc Cert.Kernel17Ideal.main_v0_30) = v30 c
          ∧ r.2.mem ((c.tc : Thread Cert.Kernel17Ideal.nD Cert.Kernel17Ideal.τ).loc Cert.Kernel17Ideal.main_v0_31) = v31 c
          ∧ r.2.mem ((c.tc : Thread Cert.Kernel17Ideal.nD Cert.Kernel17Ideal.τ).loc Cert.Kernel17Ideal.main_v0_32) = v32 c
          ∧ r.2.mem ((c.tc : Thread Cert.Kernel17Ideal.nD Cert.Kernel17Ideal.τ).loc Cert.Kernel17Ideal.main_v0_33) = v33 c
          ∧ r.2.mem ((c.tc : Thread Cert.Kernel17Ideal.nD Cert.Kernel17Ideal.τ).loc Cert.Kernel17Ideal.main_v0_34) = v34 c
          ∧ r.2.mem ((c.tc : Thread Cert.Kernel17Ideal.nD Cert.Kernel17Ideal.τ).loc Cert.Kernel17Ideal.main_v0_35) = v35 c
          ∧ r.2.mem ((c.tc : Thread Cert.Kernel17Ideal.nD Cert.Kernel17Ideal.τ).loc Cert.Kernel17Ideal.main_v0_36) = v36 c
          ∧ r.2.mem ((c.tc : Thread Cert.Kernel17Ideal.nD Cert.Kernel17Ideal.τ).loc Cert.Kernel17Ideal.main_v0_37) = v37 c
          ∧ r.2.mem ((c.tc : Thread Cert.Kernel17Ideal.nD Cert.Kernel17Ideal.τ).loc Cert.Kernel17Ideal.main_v0_38) = v38 c
          ∧ r.2.mem ((c.tc : Thread Cert.Kernel17Ideal.nD Cert.Kernel17Ideal.τ).loc Cert.Kernel17Ideal.main_v0_39) = v39 c
          ∧ r.2.mem ((c.tc : Thread Cert.Kernel17Ideal.nD Cert.Kernel17Ideal.τ).loc Cert.Kernel17Ideal.main_v0_40) = v40 c
          ∧ r.2.mem ((c.tc : Thread Cert.Kernel17Ideal.nD Cert.Kernel17Ideal.τ).loc Cert.Kernel17Ideal.main_v0_41) = v41 c
          ∧ r.2.mem ((c.tc : Thread Cert.Kernel17Ideal.nD Cert.Kernel17Ideal.τ).loc Cert.Kernel17Ideal.main_v0_42) = v42 c
          ∧ r.2.mem ((c.tc : Thread Cert.Kernel17Ideal.nD Cert.Kernel17Ideal.τ).loc Cert.Kernel17Ideal.main_v0_43) = v43 c
          ∧ r.2.mem ((c.tc : Thread Cert.Kernel17Ideal.nD Cert.Kernel17Ideal.τ).loc Cert.Kernel17Ideal.main_v0_44) = v44 c
          ∧ r.2.mem ((c.tc : Thread Cert.Kernel17Ideal.nD Cert.Kernel17Ideal.τ).loc Cert.Kernel17Ideal.main_v0_45) = v45 c
          ∧ r.2.mem ((c.tc : Thread Cert.Kernel17Ideal.nD Cert.Kernel17Ideal.τ).loc Cert.Kernel17Ideal.main_v0_46) = v46 c
          ∧ r.2.mem ((c.tc : Thread Cert.Kernel17Ideal.nD Cert.Kernel17Ideal.τ).loc Cert.Kernel17Ideal.main_v0_47) = v47 c
          ∧ r.2.mem ((c.tc : Thread Cert.Kernel17Ideal.nD Cert.Kernel17Ideal.τ).loc Cert.Kernel17Ideal.main_v0_48) = v48 c
          ∧ r.2.mem ((c.tc : Thread Cert.Kernel17Ideal.nD Cert.Kernel17Ideal.τ).loc Cert.Kernel17Ideal.main_v0_49) = v49 c
          ∧ r.2.mem ((c.tc : Thread Cert.Kernel17Ideal.nD Cert.Kernel17Ideal.τ).loc Cert.Kernel17Ideal.main_v0_50) = v50 c
          ∧ r.2.mem ((c.tc : Thread Cert.Kernel17Ideal.nD Cert.Kernel17Ideal.τ).loc Cert.Kernel17Ideal.main_v0_51) = v51 c
          ∧ r.2.mem ((c.tc : Thread Cert.Kernel17Ideal.nD Cert.Kernel17Ideal.τ).loc Cert.Kernel17Ideal.main_v0_52) = v52 c
          ∧ r.2.mem ((c.tc : Thread Cert.Kernel17Ideal.nD Cert.Kernel17Ideal.τ).loc Cert.Kernel17Ideal.main_v0_53) = v53 c
          ∧ r.2.mem ((c.tc : Thread Cert.Kernel17Ideal.nD Cert.Kernel17Ideal.τ).loc Cert.Kernel17Ideal.main_v0_54) = v54 c
          ∧ r.2.mem ((c.tc : Thread Cert.Kernel17Ideal.nD Cert.Kernel17Ideal.τ).loc Cert.Kernel17Ideal.main_v0_55) = v55 c
          ∧ r.2.mem ((c.tc : Thread Cert.Kernel17Ideal.nD Cert.Kernel17Ideal.τ).loc Cert.Kernel17Ideal.main_v0_56) = v56 c
          ∧ r.2.mem ((c.tc : Thread Cert.Kernel17Ideal.nD Cert.Kernel17Ideal.τ).loc Cert.Kernel17Ideal.main_v0_57) = v57 c
          ∧ r.2.mem ((c.tc : Thread Cert.Kernel17Ideal.nD Cert.Kernel17Ideal.τ).loc Cert.Kernel17Ideal.main_v0_58) = v58 c
          ∧ r.2.mem ((c.tc : Thread Cert.Kernel17Ideal.nD Cert.Kernel17Ideal.τ).loc Cert.Kernel17Ideal.main_v0_59) = v59 c
          ∧ r.2.mem ((c.tc : Thread Cert.Kernel17Ideal.nD Cert.Kernel17Ideal.τ).loc Cert.Kernel17Ideal.main_v0_60) = v60 c
          ∧ r.2.mem ((c.tc : Thread Cert.Kernel17Ideal.nD Cert.Kernel17Ideal.τ).loc Cert.Kernel17Ideal.main_v0_61) = v61 c
          ∧ r.2.mem ((c.tc : Thread Cert.Kernel17Ideal.nD Cert.Kernel17Ideal.τ).loc Cert.Kernel17Ideal.main_v0_62) = v62 c
          ∧ r.2.mem ((c.tc : Thread Cert.Kernel17Ideal.nD Cert.Kernel17Ideal.τ).loc Cert.Kernel17Ideal.main_v0_63) = v63 c
          ∧ r.2.mem ((c.tc : Thread Cert.Kernel17Ideal.nD Cert.Kernel17Ideal.τ).loc Cert.Kernel17Ideal.main_v0_64) = v64 c
          ∧ r.2.mem ((c.tc : Thread Cert.Kernel17Ideal.nD Cert.Kernel17Ideal.τ).loc Cert.Kernel17Ideal.main_v0_65) = v65 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
          ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
          ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
          ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15)
          ∧ r.2.mem ((c.tc : Thread Cert.Kernel17Ideal.nD Cert.Kernel17Ideal.τ).loc Cert.Kernel17Ideal.main_arg16) = m ((c.tc : Thread Cert.Kernel17Ideal.nD Cert.Kernel17Ideal.τ).loc Cert.Kernel17Ideal.main_arg16)
          ∧ r.2.mem ((c.tc : Thread Cert.Kernel17Ideal.nD Cert.Kernel17Ideal.τ).loc Cert.Kernel17Ideal.main_arg17) = m ((c.tc : Thread Cert.Kernel17Ideal.nD Cert.Kernel17Ideal.τ).loc Cert.Kernel17Ideal.main_arg17)
          ∧ r.2.mem ((c.tc : Thread Cert.Kernel17Ideal.nD Cert.Kernel17Ideal.τ).loc Cert.Kernel17Ideal.main_arg18) = m ((c.tc : Thread Cert.Kernel17Ideal.nD Cert.Kernel17Ideal.τ).loc Cert.Kernel17Ideal.main_arg18)
          ∧ r.2.mem ((c.tc : Thread Cert.Kernel17Ideal.nD Cert.Kernel17Ideal.τ).loc Cert.Kernel17Ideal.main_arg19) = m ((c.tc : Thread Cert.Kernel17Ideal.nD Cert.Kernel17Ideal.τ).loc Cert.Kernel17Ideal.main_arg19)
          ∧ r.2.mem ((c.tc : Thread Cert.Kernel17Ideal.nD Cert.Kernel17Ideal.τ).loc Cert.Kernel17Ideal.main_arg20) = m ((c.tc : Thread Cert.Kernel17Ideal.nD Cert.Kernel17Ideal.τ).loc Cert.Kernel17Ideal.main_arg20)
          ∧ r.2.mem ((c.tc : Thread Cert.Kernel17Ideal.nD Cert.Kernel17Ideal.τ).loc Cert.Kernel17Ideal.main_arg21) = m ((c.tc : Thread Cert.Kernel17Ideal.nD Cert.Kernel17Ideal.τ).loc Cert.Kernel17Ideal.main_arg21)
          ∧ r.2.mem ((c.tc : Thread Cert.Kernel17Ideal.nD Cert.Kernel17Ideal.τ).loc Cert.Kernel17Ideal.main_arg22) = m ((c.tc : Thread Cert.Kernel17Ideal.nD Cert.Kernel17Ideal.τ).loc Cert.Kernel17Ideal.main_arg22)
          ∧ r.2.mem ((c.tc : Thread Cert.Kernel17Ideal.nD Cert.Kernel17Ideal.τ).loc Cert.Kernel17Ideal.main_arg23) = m ((c.tc : Thread Cert.Kernel17Ideal.nD Cert.Kernel17Ideal.τ).loc Cert.Kernel17Ideal.main_arg23)
          ∧ r.2.mem ((c.tc : Thread Cert.Kernel17Ideal.nD Cert.Kernel17Ideal.τ).loc Cert.Kernel17Ideal.main_arg24) = m ((c.tc : Thread Cert.Kernel17Ideal.nD Cert.Kernel17Ideal.τ).loc Cert.Kernel17Ideal.main_arg24)
          ∧ r.2.mem ((c.tc : Thread Cert.Kernel17Ideal.nD Cert.Kernel17Ideal.τ).loc Cert.Kernel17Ideal.main_arg25) = m ((c.tc : Thread Cert.Kernel17Ideal.nD Cert.Kernel17Ideal.τ).loc Cert.Kernel17Ideal.main_arg25)
          ∧ r.2.mem ((c.tc : Thread Cert.Kernel17Ideal.nD Cert.Kernel17Ideal.τ).loc Cert.Kernel17Ideal.main_arg26) = m ((c.tc : Thread Cert.Kernel17Ideal.nD Cert.Kernel17Ideal.τ).loc Cert.Kernel17Ideal.main_arg26)
          ∧ r.2.mem ((c.tc : Thread Cert.Kernel17Ideal.nD Cert.Kernel17Ideal.τ).loc Cert.Kernel17Ideal.main_arg27) = m ((c.tc : Thread Cert.Kernel17Ideal.nD Cert.Kernel17Ideal.τ).loc Cert.Kernel17Ideal.main_arg27)
          ∧ r.2.mem ((c.tc : Thread Cert.Kernel17Ideal.nD Cert.Kernel17Ideal.τ).loc Cert.Kernel17Ideal.main_arg28) = m ((c.tc : Thread Cert.Kernel17Ideal.nD Cert.Kernel17Ideal.τ).loc Cert.Kernel17Ideal.main_arg28)
          ∧ r.2.mem ((c.tc : Thread Cert.Kernel17Ideal.nD Cert.Kernel17Ideal.τ).loc Cert.Kernel17Ideal.main_arg29) = m ((c.tc : Thread Cert.Kernel17Ideal.nD Cert.Kernel17Ideal.τ).loc Cert.Kernel17Ideal.main_arg29)
          ∧ r.2.mem ((c.tc : Thread Cert.Kernel17Ideal.nD Cert.Kernel17Ideal.τ).loc Cert.Kernel17Ideal.main_arg30) = m ((c.tc : Thread Cert.Kernel17Ideal.nD Cert.Kernel17Ideal.τ).loc Cert.Kernel17Ideal.main_arg30)
          ∧ r.2.mem ((c.tc : Thread Cert.Kernel17Ideal.nD Cert.Kernel17Ideal.τ).loc Cert.Kernel17Ideal.main_arg31) = m ((c.tc : Thread Cert.Kernel17Ideal.nD Cert.Kernel17Ideal.τ).loc Cert.Kernel17Ideal.main_arg31)
          ∧ r.2.mem ((c.tc : Thread Cert.Kernel17Ideal.nD Cert.Kernel17Ideal.τ).loc Cert.Kernel17Ideal.main_arg32) = m ((c.tc : Thread Cert.Kernel17Ideal.nD Cert.Kernel17Ideal.τ).loc Cert.Kernel17Ideal.main_arg32)
          ∧ r.2.mem ((c.tc : Thread Cert.Kernel17Ideal.nD Cert.Kernel17Ideal.τ).loc Cert.Kernel17Ideal.main_arg33) = m ((c.tc : Thread Cert.Kernel17Ideal.nD Cert.Kernel17Ideal.τ).loc Cert.Kernel17Ideal.main_arg33)
          ∧ r.2.mem ((c.tc : Thread Cert.Kernel17Ideal.nD Cert.Kernel17Ideal.τ).loc Cert.Kernel17Ideal.main_arg34) = m ((c.tc : Thread Cert.Kernel17Ideal.nD Cert.Kernel17Ideal.τ).loc Cert.Kernel17Ideal.main_arg34)
          ∧ r.2.mem ((c.tc : Thread Cert.Kernel17Ideal.nD Cert.Kernel17Ideal.τ).loc Cert.Kernel17Ideal.main_arg35) = m ((c.tc : Thread Cert.Kernel17Ideal.nD Cert.Kernel17Ideal.τ).loc Cert.Kernel17Ideal.main_arg35)
          ∧ r.2.mem ((c.tc : Thread Cert.Kernel17Ideal.nD Cert.Kernel17Ideal.τ).loc Cert.Kernel17Ideal.main_arg36) = m ((c.tc : Thread Cert.Kernel17Ideal.nD Cert.Kernel17Ideal.τ).loc Cert.Kernel17Ideal.main_arg36)
          ∧ r.2.mem ((c.tc : Thread Cert.Kernel17Ideal.nD Cert.Kernel17Ideal.τ).loc Cert.Kernel17Ideal.main_arg37) = m ((c.tc : Thread Cert.Kernel17Ideal.nD Cert.Kernel17Ideal.τ).loc Cert.Kernel17Ideal.main_arg37)
          ∧ r.2.mem ((c.tc : Thread Cert.Kernel17Ideal.nD Cert.Kernel17Ideal.τ).loc Cert.Kernel17Ideal.main_arg38) = m ((c.tc : Thread Cert.Kernel17Ideal.nD Cert.Kernel17Ideal.τ).loc Cert.Kernel17Ideal.main_arg38)
          ∧ r.2.mem ((c.tc : Thread Cert.Kernel17Ideal.nD Cert.Kernel17Ideal.τ).loc Cert.Kernel17Ideal.main_arg39) = m ((c.tc : Thread Cert.Kernel17Ideal.nD Cert.Kernel17Ideal.τ).loc Cert.Kernel17Ideal.main_arg39)
          ∧ r.2.mem ((c.tc : Thread Cert.Kernel17Ideal.nD Cert.Kernel17Ideal.τ).loc Cert.Kernel17Ideal.main_arg40) = m ((c.tc : Thread Cert.Kernel17Ideal.nD Cert.Kernel17Ideal.τ).loc Cert.Kernel17Ideal.main_arg40)
          ∧ r.2.mem ((c.tc : Thread Cert.Kernel17Ideal.nD Cert.Kernel17Ideal.τ).loc Cert.Kernel17Ideal.main_arg41) = m ((c.tc : Thread Cert.Kernel17Ideal.nD Cert.Kernel17Ideal.τ).loc Cert.Kernel17Ideal.main_arg41)
          ∧ r.2.mem ((c.tc : Thread Cert.Kernel17Ideal.nD Cert.Kernel17Ideal.τ).loc Cert.Kernel17Ideal.main_arg42) = m ((c.tc : Thread Cert.Kernel17Ideal.nD Cert.Kernel17Ideal.τ).loc Cert.Kernel17Ideal.main_arg42)
          ∧ r.2.mem ((c.tc : Thread Cert.Kernel17Ideal.nD Cert.Kernel17Ideal.τ).loc Cert.Kernel17Ideal.main_arg43) = m ((c.tc : Thread Cert.Kernel17Ideal.nD Cert.Kernel17Ideal.τ).loc Cert.Kernel17Ideal.main_arg43)
          ∧ r.2.mem ((c.tc : Thread Cert.Kernel17Ideal.nD Cert.Kernel17Ideal.τ).loc Cert.Kernel17Ideal.main_arg44) = m ((c.tc : Thread Cert.Kernel17Ideal.nD Cert.Kernel17Ideal.τ).loc Cert.Kernel17Ideal.main_arg44)
          ∧ r.2.mem ((c.tc : Thread Cert.Kernel17Ideal.nD Cert.Kernel17Ideal.τ).loc Cert.Kernel17Ideal.main_arg45) = m ((c.tc : Thread Cert.Kernel17Ideal.nD Cert.Kernel17Ideal.τ).loc Cert.Kernel17Ideal.main_arg45)
          ∧ r.2.mem ((c.tc : Thread Cert.Kernel17Ideal.nD Cert.Kernel17Ideal.τ).loc Cert.Kernel17Ideal.main_arg46) = m ((c.tc : Thread Cert.Kernel17Ideal.nD Cert.Kernel17Ideal.τ).loc Cert.Kernel17Ideal.main_arg46)
          ∧ r.2.mem ((c.tc : Thread Cert.Kernel17Ideal.nD Cert.Kernel17Ideal.τ).loc Cert.Kernel17Ideal.main_arg47) = m ((c.tc : Thread Cert.Kernel17Ideal.nD Cert.Kernel17Ideal.τ).loc Cert.Kernel17Ideal.main_arg47)
          ∧ r.2.mem ((c.tc : Thread Cert.Kernel17Ideal.nD Cert.Kernel17Ideal.τ).loc Cert.Kernel17Ideal.main_arg48) = m ((c.tc : Thread Cert.Kernel17Ideal.nD Cert.Kernel17Ideal.τ).loc Cert.Kernel17Ideal.main_arg48)
          ∧ r.2.mem ((c.tc : Thread Cert.Kernel17Ideal.nD Cert.Kernel17Ideal.τ).loc Cert.Kernel17Ideal.main_arg49) = m ((c.tc : Thread Cert.Kernel17Ideal.nD Cert.Kernel17Ideal.τ).loc Cert.Kernel17Ideal.main_arg49)
          ∧ r.2.mem ((c.tc : Thread Cert.Kernel17Ideal.nD Cert.Kernel17Ideal.τ).loc Cert.Kernel17Ideal.main_arg50) = m ((c.tc : Thread Cert.Kernel17Ideal.nD Cert.Kernel17Ideal.τ).loc Cert.Kernel17Ideal.main_arg50)
          ∧ r.2.mem ((c.tc : Thread Cert.Kernel17Ideal.nD Cert.Kernel17Ideal.τ).loc Cert.Kernel17Ideal.main_arg51) = m ((c.tc : Thread Cert.Kernel17Ideal.nD Cert.Kernel17Ideal.τ).loc Cert.Kernel17Ideal.main_arg51)
          ∧ r.2.mem ((c.tc : Thread Cert.Kernel17Ideal.nD Cert.Kernel17Ideal.τ).loc Cert.Kernel17Ideal.main_arg52) = m ((c.tc : Thread Cert.Kernel17Ideal.nD Cert.Kernel17Ideal.τ).loc Cert.Kernel17Ideal.main_arg52)
          ∧ r.2.mem ((c.tc : Thread Cert.Kernel17Ideal.nD Cert.Kernel17Ideal.τ).loc Cert.Kernel17Ideal.main_arg53) = m ((c.tc : Thread Cert.Kernel17Ideal.nD Cert.Kernel17Ideal.τ).loc Cert.Kernel17Ideal.main_arg53)
          ∧ r.2.mem ((c.tc : Thread Cert.Kernel17Ideal.nD Cert.Kernel17Ideal.τ).loc Cert.Kernel17Ideal.main_arg54) = m ((c.tc : Thread Cert.Kernel17Ideal.nD Cert.Kernel17Ideal.τ).loc Cert.Kernel17Ideal.main_arg54)
          ∧ r.2.mem ((c.tc : Thread Cert.Kernel17Ideal.nD Cert.Kernel17Ideal.τ).loc Cert.Kernel17Ideal.main_arg55) = m ((c.tc : Thread Cert.Kernel17Ideal.nD Cert.Kernel17Ideal.τ).loc Cert.Kernel17Ideal.main_arg55)
          ∧ r.2.mem ((c.tc : Thread Cert.Kernel17Ideal.nD Cert.Kernel17Ideal.τ).loc Cert.Kernel17Ideal.main_arg56) = m ((c.tc : Thread Cert.Kernel17Ideal.nD Cert.Kernel17Ideal.τ).loc Cert.Kernel17Ideal.main_arg56)
          ∧ r.2.mem ((c.tc : Thread Cert.Kernel17Ideal.nD Cert.Kernel17Ideal.τ).loc Cert.Kernel17Ideal.main_arg57) = m ((c.tc : Thread Cert.Kernel17Ideal.nD Cert.Kernel17Ideal.τ).loc Cert.Kernel17Ideal.main_arg57)
          ∧ r.2.mem ((c.tc : Thread Cert.Kernel17Ideal.nD Cert.Kernel17Ideal.τ).loc Cert.Kernel17Ideal.main_arg58) = m ((c.tc : Thread Cert.Kernel17Ideal.nD Cert.Kernel17Ideal.τ).loc Cert.Kernel17Ideal.main_arg58)
          ∧ r.2.mem ((c.tc : Thread Cert.Kernel17Ideal.nD Cert.Kernel17Ideal.τ).loc Cert.Kernel17Ideal.main_arg59) = m ((c.tc : Thread Cert.Kernel17Ideal.nD Cert.Kernel17Ideal.τ).loc Cert.Kernel17Ideal.main_arg59)
          ∧ r.2.mem ((c.tc : Thread Cert.Kernel17Ideal.nD Cert.Kernel17Ideal.τ).loc Cert.Kernel17Ideal.main_arg60) = m ((c.tc : Thread Cert.Kernel17Ideal.nD Cert.Kernel17Ideal.τ).loc Cert.Kernel17Ideal.main_arg60)
          ∧ r.2.mem ((c.tc : Thread Cert.Kernel17Ideal.nD Cert.Kernel17Ideal.τ).loc Cert.Kernel17Ideal.main_arg61) = m ((c.tc : Thread Cert.Kernel17Ideal.nD Cert.Kernel17Ideal.τ).loc Cert.Kernel17Ideal.main_arg61)
          ∧ r.2.mem ((c.tc : Thread Cert.Kernel17Ideal.nD Cert.Kernel17Ideal.τ).loc Cert.Kernel17Ideal.main_arg62) = m ((c.tc : Thread Cert.Kernel17Ideal.nD Cert.Kernel17Ideal.τ).loc Cert.Kernel17Ideal.main_arg62)
          ∧ r.2.mem ((c.tc : Thread Cert.Kernel17Ideal.nD Cert.Kernel17Ideal.τ).loc Cert.Kernel17Ideal.main_arg63) = m ((c.tc : Thread Cert.Kernel17Ideal.nD Cert.Kernel17Ideal.τ).loc Cert.Kernel17Ideal.main_arg63)
          ∧ r.2.mem ((c.tc : Thread Cert.Kernel17Ideal.nD Cert.Kernel17Ideal.τ).loc Cert.Kernel17Ideal.main_arg64) = m ((c.tc : Thread Cert.Kernel17Ideal.nD Cert.Kernel17Ideal.τ).loc Cert.Kernel17Ideal.main_arg64)
          ∧ r.2.mem ((c.tc : Thread Cert.Kernel17Ideal.nD Cert.Kernel17Ideal.τ).loc Cert.Kernel17Ideal.main_arg65) = m ((c.tc : Thread Cert.Kernel17Ideal.nD Cert.Kernel17Ideal.τ).loc Cert.Kernel17Ideal.main_arg65)
          ∧ r.2.mem ((c.tc : Thread Cert.Kernel17Ideal.nD Cert.Kernel17Ideal.τ).loc Cert.Kernel17Ideal.main_arg66) = m ((c.tc : Thread Cert.Kernel17Ideal.nD Cert.Kernel17Ideal.τ).loc Cert.Kernel17Ideal.main_arg66)
          ∧ r.2.mem ((c.tc : Thread Cert.Kernel17Ideal.nD Cert.Kernel17Ideal.τ).loc Cert.Kernel17Ideal.main_arg67) = m ((c.tc : Thread Cert.Kernel17Ideal.nD Cert.Kernel17Ideal.τ).loc Cert.Kernel17Ideal.main_arg67)
          ∧ r.2.mem ((c.tc : Thread Cert.Kernel17Ideal.nD Cert.Kernel17Ideal.τ).loc Cert.Kernel17Ideal.main_arg68) = m ((c.tc : Thread Cert.Kernel17Ideal.nD Cert.Kernel17Ideal.τ).loc Cert.Kernel17Ideal.main_arg68)
          ∧ r.2.mem ((c.tc : Thread Cert.Kernel17Ideal.nD Cert.Kernel17Ideal.τ).loc Cert.Kernel17Ideal.main_arg69) = m ((c.tc : Thread Cert.Kernel17Ideal.nD Cert.Kernel17Ideal.τ).loc Cert.Kernel17Ideal.main_arg69)
          ∧ r.2.mem ((c.tc : Thread Cert.Kernel17Ideal.nD Cert.Kernel17Ideal.τ).loc Cert.Kernel17Ideal.main_arg70) = m ((c.tc : Thread Cert.Kernel17Ideal.nD Cert.Kernel17Ideal.τ).loc Cert.Kernel17Ideal.main_arg70)
          ∧ r.2.mem ((c.tc : Thread Cert.Kernel17Ideal.nD Cert.Kernel17Ideal.τ).loc Cert.Kernel17Ideal.main_arg71) = m ((c.tc : Thread Cert.Kernel17Ideal.nD Cert.Kernel17Ideal.τ).loc Cert.Kernel17Ideal.main_arg71)
          ∧ r.2.mem ((c.tc : Thread Cert.Kernel17Ideal.nD Cert.Kernel17Ideal.τ).loc Cert.Kernel17Ideal.main_arg72) = m ((c.tc : Thread Cert.Kernel17Ideal.nD Cert.Kernel17Ideal.τ).loc Cert.Kernel17Ideal.main_arg72)
          ∧ r.2.mem ((c.tc : Thread Cert.Kernel17Ideal.nD Cert.Kernel17Ideal.τ).loc Cert.Kernel17Ideal.main_arg73) = m ((c.tc : Thread Cert.Kernel17Ideal.nD Cert.Kernel17Ideal.τ).loc Cert.Kernel17Ideal.main_arg73)
          ∧ r.2.mem ((c.tc : Thread Cert.Kernel17Ideal.nD Cert.Kernel17Ideal.τ).loc Cert.Kernel17Ideal.main_arg74) = m ((c.tc : Thread Cert.Kernel17Ideal.nD Cert.Kernel17Ideal.τ).loc Cert.Kernel17Ideal.main_arg74)
          ∧ r.2.mem ((c.tc : Thread Cert.Kernel17Ideal.nD Cert.Kernel17Ideal.τ).loc Cert.Kernel17Ideal.main_arg75) = m ((c.tc : Thread Cert.Kernel17Ideal.nD Cert.Kernel17Ideal.τ).loc Cert.Kernel17Ideal.main_arg75)
          ∧ r.2.mem ((c.tc : Thread Cert.Kernel17Ideal.nD Cert.Kernel17Ideal.τ).loc Cert.Kernel17Ideal.main_arg76) = m ((c.tc : Thread Cert.Kernel17Ideal.nD Cert.Kernel17Ideal.τ).loc Cert.Kernel17Ideal.main_arg76)
          ∧ r.2.mem ((c.tc : Thread Cert.Kernel17Ideal.nD Cert.Kernel17Ideal.τ).loc Cert.Kernel17Ideal.main_arg77) = m ((c.tc : Thread Cert.Kernel17Ideal.nD Cert.Kernel17Ideal.τ).loc Cert.Kernel17Ideal.main_arg77)
          ∧ r.2.mem ((c.tc : Thread Cert.Kernel17Ideal.nD Cert.Kernel17Ideal.τ).loc Cert.Kernel17Ideal.main_arg78) = m ((c.tc : Thread Cert.Kernel17Ideal.nD Cert.Kernel17Ideal.τ).loc Cert.Kernel17Ideal.main_arg78)
          ∧ r.2.mem ((c.tc : Thread Cert.Kernel17Ideal.nD Cert.Kernel17Ideal.τ).loc Cert.Kernel17Ideal.main_arg79) = m ((c.tc : Thread Cert.Kernel17Ideal.nD Cert.Kernel17Ideal.τ).loc Cert.Kernel17Ideal.main_arg79)
          ∧ r.2.mem ((c.tc : Thread Cert.Kernel17Ideal.nD Cert.Kernel17Ideal.τ).loc Cert.Kernel17Ideal.main_arg80) = m ((c.tc : Thread Cert.Kernel17Ideal.nD Cert.Kernel17Ideal.τ).loc Cert.Kernel17Ideal.main_arg80)
          ∧ r.2.mem ((c.tc : Thread Cert.Kernel17Ideal.nD Cert.Kernel17Ideal.τ).loc Cert.Kernel17Ideal.main_arg81) = m ((c.tc : Thread Cert.Kernel17Ideal.nD Cert.Kernel17Ideal.τ).loc Cert.Kernel17Ideal.main_arg81)
          ∧ r.2.mem ((c.tc : Thread Cert.Kernel17Ideal.nD Cert.Kernel17Ideal.τ).loc Cert.Kernel17Ideal.main_arg82) = m ((c.tc : Thread Cert.Kernel17Ideal.nD Cert.Kernel17Ideal.τ).loc Cert.Kernel17Ideal.main_arg82)
          ∧ r.2.mem ((c.tc : Thread Cert.Kernel17Ideal.nD Cert.Kernel17Ideal.τ).loc Cert.Kernel17Ideal.main_arg83) = m ((c.tc : Thread Cert.Kernel17Ideal.nD Cert.Kernel17Ideal.τ).loc Cert.Kernel17Ideal.main_arg83)
          ∧ r.2.mem ((c.tc : Thread Cert.Kernel17Ideal.nD Cert.Kernel17Ideal.τ).loc Cert.Kernel17Ideal.main_arg84) = m ((c.tc : Thread Cert.Kernel17Ideal.nD Cert.Kernel17Ideal.τ).loc Cert.Kernel17Ideal.main_arg84)
          ∧ r.2.mem ((c.tc : Thread Cert.Kernel17Ideal.nD Cert.Kernel17Ideal.τ).loc Cert.Kernel17Ideal.main_arg85) = m ((c.tc : Thread Cert.Kernel17Ideal.nD Cert.Kernel17Ideal.τ).loc Cert.Kernel17Ideal.main_arg85)
          ∧ r.2.mem ((c.tc : Thread Cert.Kernel17Ideal.nD Cert.Kernel17Ideal.τ).loc Cert.Kernel17Ideal.main_arg86) = m ((c.tc : Thread Cert.Kernel17Ideal.nD Cert.Kernel17Ideal.τ).loc Cert.Kernel17Ideal.main_arg86)
          ∧ r.2.mem ((c.tc : Thread Cert.Kernel17Ideal.nD Cert.Kernel17Ideal.τ).loc Cert.Kernel17Ideal.main_arg87) = m ((c.tc : Thread Cert.Kernel17Ideal.nD Cert.Kernel17Ideal.τ).loc Cert.Kernel17Ideal.main_arg87))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v47) = v1 c
          ∧ r.2.mem ((c.tc : Thread Cert.Reference17Ideal.nD Cert.Reference17Ideal.τ).loc Cert.Reference17Ideal.main_v71) = v2 c
          ∧ r.2.mem ((c.tc : Thread Cert.Reference17Ideal.nD Cert.Reference17Ideal.τ).loc Cert.Reference17Ideal.main_v95) = v3 c
          ∧ r.2.mem ((c.tc : Thread Cert.Reference17Ideal.nD Cert.Reference17Ideal.τ).loc Cert.Reference17Ideal.main_v119) = v4 c
          ∧ r.2.mem ((c.tc : Thread Cert.Reference17Ideal.nD Cert.Reference17Ideal.τ).loc Cert.Reference17Ideal.main_v143) = v5 c
          ∧ r.2.mem ((c.tc : Thread Cert.Reference17Ideal.nD Cert.Reference17Ideal.τ).loc Cert.Reference17Ideal.main_v167) = v6 c
          ∧ r.2.mem ((c.tc : Thread Cert.Reference17Ideal.nD Cert.Reference17Ideal.τ).loc Cert.Reference17Ideal.main_v191) = v7 c
          ∧ r.2.mem ((c.tc : Thread Cert.Reference17Ideal.nD Cert.Reference17Ideal.τ).loc Cert.Reference17Ideal.main_v215) = v8 c
          ∧ r.2.mem ((c.tc : Thread Cert.Reference17Ideal.nD Cert.Reference17Ideal.τ).loc Cert.Reference17Ideal.main_v239) = v9 c
          ∧ r.2.mem ((c.tc : Thread Cert.Reference17Ideal.nD Cert.Reference17Ideal.τ).loc Cert.Reference17Ideal.main_v263) = v10 c
          ∧ r.2.mem ((c.tc : Thread Cert.Reference17Ideal.nD Cert.Reference17Ideal.τ).loc Cert.Reference17Ideal.main_v287) = v11 c
          ∧ r.2.mem ((c.tc : Thread Cert.Reference17Ideal.nD Cert.Reference17Ideal.τ).loc Cert.Reference17Ideal.main_v311) = v12 c
          ∧ r.2.mem ((c.tc : Thread Cert.Reference17Ideal.nD Cert.Reference17Ideal.τ).loc Cert.Reference17Ideal.main_v335) = v13 c
          ∧ r.2.mem ((c.tc : Thread Cert.Reference17Ideal.nD Cert.Reference17Ideal.τ).loc Cert.Reference17Ideal.main_v359) = v14 c
          ∧ r.2.mem ((c.tc : Thread Cert.Reference17Ideal.nD Cert.Reference17Ideal.τ).loc Cert.Reference17Ideal.main_v383) = v15 c
          ∧ r.2.mem ((c.tc : Thread Cert.Reference17Ideal.nD Cert.Reference17Ideal.τ).loc Cert.Reference17Ideal.main_v407) = v16 c
          ∧ r.2.mem ((c.tc : Thread Cert.Reference17Ideal.nD Cert.Reference17Ideal.τ).loc Cert.Reference17Ideal.main_v431) = v17 c
          ∧ r.2.mem ((c.tc : Thread Cert.Reference17Ideal.nD Cert.Reference17Ideal.τ).loc Cert.Reference17Ideal.main_v455) = v18 c
          ∧ r.2.mem ((c.tc : Thread Cert.Reference17Ideal.nD Cert.Reference17Ideal.τ).loc Cert.Reference17Ideal.main_v479) = v19 c
          ∧ r.2.mem ((c.tc : Thread Cert.Reference17Ideal.nD Cert.Reference17Ideal.τ).loc Cert.Reference17Ideal.main_v503) = v20 c
          ∧ r.2.mem ((c.tc : Thread Cert.Reference17Ideal.nD Cert.Reference17Ideal.τ).loc Cert.Reference17Ideal.main_v527) = v21 c
          ∧ r.2.mem ((c.tc : Thread Cert.Reference17Ideal.nD Cert.Reference17Ideal.τ).loc Cert.Reference17Ideal.main_v4) = v22 c
          ∧ r.2.mem ((c.tc : Thread Cert.Reference17Ideal.nD Cert.Reference17Ideal.τ).loc Cert.Reference17Ideal.main_v28) = v23 c
          ∧ r.2.mem ((c.tc : Thread Cert.Reference17Ideal.nD Cert.Reference17Ideal.τ).loc Cert.Reference17Ideal.main_v52) = v24 c
          ∧ r.2.mem ((c.tc : Thread Cert.Reference17Ideal.nD Cert.Reference17Ideal.τ).loc Cert.Reference17Ideal.main_v76) = v25 c
          ∧ r.2.mem ((c.tc : Thread Cert.Reference17Ideal.nD Cert.Reference17Ideal.τ).loc Cert.Reference17Ideal.main_v100) = v26 c
          ∧ r.2.mem ((c.tc : Thread Cert.Reference17Ideal.nD Cert.Reference17Ideal.τ).loc Cert.Reference17Ideal.main_v124) = v27 c
          ∧ r.2.mem ((c.tc : Thread Cert.Reference17Ideal.nD Cert.Reference17Ideal.τ).loc Cert.Reference17Ideal.main_v148) = v28 c
          ∧ r.2.mem ((c.tc : Thread Cert.Reference17Ideal.nD Cert.Reference17Ideal.τ).loc Cert.Reference17Ideal.main_v172) = v29 c
          ∧ r.2.mem ((c.tc : Thread Cert.Reference17Ideal.nD Cert.Reference17Ideal.τ).loc Cert.Reference17Ideal.main_v196) = v30 c
          ∧ r.2.mem ((c.tc : Thread Cert.Reference17Ideal.nD Cert.Reference17Ideal.τ).loc Cert.Reference17Ideal.main_v220) = v31 c
          ∧ r.2.mem ((c.tc : Thread Cert.Reference17Ideal.nD Cert.Reference17Ideal.τ).loc Cert.Reference17Ideal.main_v244) = v32 c
          ∧ r.2.mem ((c.tc : Thread Cert.Reference17Ideal.nD Cert.Reference17Ideal.τ).loc Cert.Reference17Ideal.main_v268) = v33 c
          ∧ r.2.mem ((c.tc : Thread Cert.Reference17Ideal.nD Cert.Reference17Ideal.τ).loc Cert.Reference17Ideal.main_v292) = v34 c
          ∧ r.2.mem ((c.tc : Thread Cert.Reference17Ideal.nD Cert.Reference17Ideal.τ).loc Cert.Reference17Ideal.main_v316) = v35 c
          ∧ r.2.mem ((c.tc : Thread Cert.Reference17Ideal.nD Cert.Reference17Ideal.τ).loc Cert.Reference17Ideal.main_v340) = v36 c
          ∧ r.2.mem ((c.tc : Thread Cert.Reference17Ideal.nD Cert.Reference17Ideal.τ).loc Cert.Reference17Ideal.main_v364) = v37 c
          ∧ r.2.mem ((c.tc : Thread Cert.Reference17Ideal.nD Cert.Reference17Ideal.τ).loc Cert.Reference17Ideal.main_v388) = v38 c
          ∧ r.2.mem ((c.tc : Thread Cert.Reference17Ideal.nD Cert.Reference17Ideal.τ).loc Cert.Reference17Ideal.main_v412) = v39 c
          ∧ r.2.mem ((c.tc : Thread Cert.Reference17Ideal.nD Cert.Reference17Ideal.τ).loc Cert.Reference17Ideal.main_v436) = v40 c
          ∧ r.2.mem ((c.tc : Thread Cert.Reference17Ideal.nD Cert.Reference17Ideal.τ).loc Cert.Reference17Ideal.main_v460) = v41 c
          ∧ r.2.mem ((c.tc : Thread Cert.Reference17Ideal.nD Cert.Reference17Ideal.τ).loc Cert.Reference17Ideal.main_v484) = v42 c
          ∧ r.2.mem ((c.tc : Thread Cert.Reference17Ideal.nD Cert.Reference17Ideal.τ).loc Cert.Reference17Ideal.main_v508) = v43 c
          ∧ r.2.mem ((c.tc : Thread Cert.Reference17Ideal.nD Cert.Reference17Ideal.τ).loc Cert.Reference17Ideal.main_v10) = v44 c
          ∧ r.2.mem ((c.tc : Thread Cert.Reference17Ideal.nD Cert.Reference17Ideal.τ).loc Cert.Reference17Ideal.main_v34) = v45 c
          ∧ r.2.mem ((c.tc : Thread Cert.Reference17Ideal.nD Cert.Reference17Ideal.τ).loc Cert.Reference17Ideal.main_v58) = v46 c
          ∧ r.2.mem ((c.tc : Thread Cert.Reference17Ideal.nD Cert.Reference17Ideal.τ).loc Cert.Reference17Ideal.main_v82) = v47 c
          ∧ r.2.mem ((c.tc : Thread Cert.Reference17Ideal.nD Cert.Reference17Ideal.τ).loc Cert.Reference17Ideal.main_v106) = v48 c
          ∧ r.2.mem ((c.tc : Thread Cert.Reference17Ideal.nD Cert.Reference17Ideal.τ).loc Cert.Reference17Ideal.main_v130) = v49 c
          ∧ r.2.mem ((c.tc : Thread Cert.Reference17Ideal.nD Cert.Reference17Ideal.τ).loc Cert.Reference17Ideal.main_v154) = v50 c
          ∧ r.2.mem ((c.tc : Thread Cert.Reference17Ideal.nD Cert.Reference17Ideal.τ).loc Cert.Reference17Ideal.main_v178) = v51 c
          ∧ r.2.mem ((c.tc : Thread Cert.Reference17Ideal.nD Cert.Reference17Ideal.τ).loc Cert.Reference17Ideal.main_v202) = v52 c
          ∧ r.2.mem ((c.tc : Thread Cert.Reference17Ideal.nD Cert.Reference17Ideal.τ).loc Cert.Reference17Ideal.main_v226) = v53 c
          ∧ r.2.mem ((c.tc : Thread Cert.Reference17Ideal.nD Cert.Reference17Ideal.τ).loc Cert.Reference17Ideal.main_v250) = v54 c
          ∧ r.2.mem ((c.tc : Thread Cert.Reference17Ideal.nD Cert.Reference17Ideal.τ).loc Cert.Reference17Ideal.main_v274) = v55 c
          ∧ r.2.mem ((c.tc : Thread Cert.Reference17Ideal.nD Cert.Reference17Ideal.τ).loc Cert.Reference17Ideal.main_v298) = v56 c
          ∧ r.2.mem ((c.tc : Thread Cert.Reference17Ideal.nD Cert.Reference17Ideal.τ).loc Cert.Reference17Ideal.main_v322) = v57 c
          ∧ r.2.mem ((c.tc : Thread Cert.Reference17Ideal.nD Cert.Reference17Ideal.τ).loc Cert.Reference17Ideal.main_v346) = v58 c
          ∧ r.2.mem ((c.tc : Thread Cert.Reference17Ideal.nD Cert.Reference17Ideal.τ).loc Cert.Reference17Ideal.main_v370) = v59 c
          ∧ r.2.mem ((c.tc : Thread Cert.Reference17Ideal.nD Cert.Reference17Ideal.τ).loc Cert.Reference17Ideal.main_v394) = v60 c
          ∧ r.2.mem ((c.tc : Thread Cert.Reference17Ideal.nD Cert.Reference17Ideal.τ).loc Cert.Reference17Ideal.main_v418) = v61 c
          ∧ r.2.mem ((c.tc : Thread Cert.Reference17Ideal.nD Cert.Reference17Ideal.τ).loc Cert.Reference17Ideal.main_v442) = v62 c
          ∧ r.2.mem ((c.tc : Thread Cert.Reference17Ideal.nD Cert.Reference17Ideal.τ).loc Cert.Reference17Ideal.main_v466) = v63 c
          ∧ r.2.mem ((c.tc : Thread Cert.Reference17Ideal.nD Cert.Reference17Ideal.τ).loc Cert.Reference17Ideal.main_v490) = v64 c
          ∧ r.2.mem ((c.tc : Thread Cert.Reference17Ideal.nD Cert.Reference17Ideal.τ).loc Cert.Reference17Ideal.main_v514) = v65 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12)
          ∧ r.2.mem ((c.tc : Thread Cert.Reference17Ideal.nD Cert.Reference17Ideal.τ).loc Cert.Reference17Ideal.main_arg13) = m' ((c.tc : Thread Cert.Reference17Ideal.nD Cert.Reference17Ideal.τ).loc Cert.Reference17Ideal.main_arg13)
          ∧ r.2.mem ((c.tc : Thread Cert.Reference17Ideal.nD Cert.Reference17Ideal.τ).loc Cert.Reference17Ideal.main_arg14) = m' ((c.tc : Thread Cert.Reference17Ideal.nD Cert.Reference17Ideal.τ).loc Cert.Reference17Ideal.main_arg14)
          ∧ r.2.mem ((c.tc : Thread Cert.Reference17Ideal.nD Cert.Reference17Ideal.τ).loc Cert.Reference17Ideal.main_arg15) = m' ((c.tc : Thread Cert.Reference17Ideal.nD Cert.Reference17Ideal.τ).loc Cert.Reference17Ideal.main_arg15)
          ∧ r.2.mem ((c.tc : Thread Cert.Reference17Ideal.nD Cert.Reference17Ideal.τ).loc Cert.Reference17Ideal.main_arg16) = m' ((c.tc : Thread Cert.Reference17Ideal.nD Cert.Reference17Ideal.τ).loc Cert.Reference17Ideal.main_arg16)
          ∧ r.2.mem ((c.tc : Thread Cert.Reference17Ideal.nD Cert.Reference17Ideal.τ).loc Cert.Reference17Ideal.main_arg17) = m' ((c.tc : Thread Cert.Reference17Ideal.nD Cert.Reference17Ideal.τ).loc Cert.Reference17Ideal.main_arg17)
          ∧ r.2.mem ((c.tc : Thread Cert.Reference17Ideal.nD Cert.Reference17Ideal.τ).loc Cert.Reference17Ideal.main_arg18) = m' ((c.tc : Thread Cert.Reference17Ideal.nD Cert.Reference17Ideal.τ).loc Cert.Reference17Ideal.main_arg18)
          ∧ r.2.mem ((c.tc : Thread Cert.Reference17Ideal.nD Cert.Reference17Ideal.τ).loc Cert.Reference17Ideal.main_arg19) = m' ((c.tc : Thread Cert.Reference17Ideal.nD Cert.Reference17Ideal.τ).loc Cert.Reference17Ideal.main_arg19)
          ∧ r.2.mem ((c.tc : Thread Cert.Reference17Ideal.nD Cert.Reference17Ideal.τ).loc Cert.Reference17Ideal.main_arg20) = m' ((c.tc : Thread Cert.Reference17Ideal.nD Cert.Reference17Ideal.τ).loc Cert.Reference17Ideal.main_arg20)
          ∧ r.2.mem ((c.tc : Thread Cert.Reference17Ideal.nD Cert.Reference17Ideal.τ).loc Cert.Reference17Ideal.main_arg21) = m' ((c.tc : Thread Cert.Reference17Ideal.nD Cert.Reference17Ideal.τ).loc Cert.Reference17Ideal.main_arg21)
          ∧ r.2.mem ((c.tc : Thread Cert.Reference17Ideal.nD Cert.Reference17Ideal.τ).loc Cert.Reference17Ideal.main_arg22) = m' ((c.tc : Thread Cert.Reference17Ideal.nD Cert.Reference17Ideal.τ).loc Cert.Reference17Ideal.main_arg22)
          ∧ r.2.mem ((c.tc : Thread Cert.Reference17Ideal.nD Cert.Reference17Ideal.τ).loc Cert.Reference17Ideal.main_arg23) = m' ((c.tc : Thread Cert.Reference17Ideal.nD Cert.Reference17Ideal.τ).loc Cert.Reference17Ideal.main_arg23)
          ∧ r.2.mem ((c.tc : Thread Cert.Reference17Ideal.nD Cert.Reference17Ideal.τ).loc Cert.Reference17Ideal.main_arg24) = m' ((c.tc : Thread Cert.Reference17Ideal.nD Cert.Reference17Ideal.τ).loc Cert.Reference17Ideal.main_arg24)
          ∧ r.2.mem ((c.tc : Thread Cert.Reference17Ideal.nD Cert.Reference17Ideal.τ).loc Cert.Reference17Ideal.main_arg25) = m' ((c.tc : Thread Cert.Reference17Ideal.nD Cert.Reference17Ideal.τ).loc Cert.Reference17Ideal.main_arg25)
          ∧ r.2.mem ((c.tc : Thread Cert.Reference17Ideal.nD Cert.Reference17Ideal.τ).loc Cert.Reference17Ideal.main_arg26) = m' ((c.tc : Thread Cert.Reference17Ideal.nD Cert.Reference17Ideal.τ).loc Cert.Reference17Ideal.main_arg26)
          ∧ r.2.mem ((c.tc : Thread Cert.Reference17Ideal.nD Cert.Reference17Ideal.τ).loc Cert.Reference17Ideal.main_arg27) = m' ((c.tc : Thread Cert.Reference17Ideal.nD Cert.Reference17Ideal.τ).loc Cert.Reference17Ideal.main_arg27)
          ∧ r.2.mem ((c.tc : Thread Cert.Reference17Ideal.nD Cert.Reference17Ideal.τ).loc Cert.Reference17Ideal.main_arg28) = m' ((c.tc : Thread Cert.Reference17Ideal.nD Cert.Reference17Ideal.τ).loc Cert.Reference17Ideal.main_arg28)
          ∧ r.2.mem ((c.tc : Thread Cert.Reference17Ideal.nD Cert.Reference17Ideal.τ).loc Cert.Reference17Ideal.main_arg29) = m' ((c.tc : Thread Cert.Reference17Ideal.nD Cert.Reference17Ideal.τ).loc Cert.Reference17Ideal.main_arg29)
          ∧ r.2.mem ((c.tc : Thread Cert.Reference17Ideal.nD Cert.Reference17Ideal.τ).loc Cert.Reference17Ideal.main_arg30) = m' ((c.tc : Thread Cert.Reference17Ideal.nD Cert.Reference17Ideal.τ).loc Cert.Reference17Ideal.main_arg30)
          ∧ r.2.mem ((c.tc : Thread Cert.Reference17Ideal.nD Cert.Reference17Ideal.τ).loc Cert.Reference17Ideal.main_arg31) = m' ((c.tc : Thread Cert.Reference17Ideal.nD Cert.Reference17Ideal.τ).loc Cert.Reference17Ideal.main_arg31)
          ∧ r.2.mem ((c.tc : Thread Cert.Reference17Ideal.nD Cert.Reference17Ideal.τ).loc Cert.Reference17Ideal.main_arg32) = m' ((c.tc : Thread Cert.Reference17Ideal.nD Cert.Reference17Ideal.τ).loc Cert.Reference17Ideal.main_arg32)
          ∧ r.2.mem ((c.tc : Thread Cert.Reference17Ideal.nD Cert.Reference17Ideal.τ).loc Cert.Reference17Ideal.main_arg33) = m' ((c.tc : Thread Cert.Reference17Ideal.nD Cert.Reference17Ideal.τ).loc Cert.Reference17Ideal.main_arg33)
          ∧ r.2.mem ((c.tc : Thread Cert.Reference17Ideal.nD Cert.Reference17Ideal.τ).loc Cert.Reference17Ideal.main_arg34) = m' ((c.tc : Thread Cert.Reference17Ideal.nD Cert.Reference17Ideal.τ).loc Cert.Reference17Ideal.main_arg34)
          ∧ r.2.mem ((c.tc : Thread Cert.Reference17Ideal.nD Cert.Reference17Ideal.τ).loc Cert.Reference17Ideal.main_arg35) = m' ((c.tc : Thread Cert.Reference17Ideal.nD Cert.Reference17Ideal.τ).loc Cert.Reference17Ideal.main_arg35)
          ∧ r.2.mem ((c.tc : Thread Cert.Reference17Ideal.nD Cert.Reference17Ideal.τ).loc Cert.Reference17Ideal.main_arg36) = m' ((c.tc : Thread Cert.Reference17Ideal.nD Cert.Reference17Ideal.τ).loc Cert.Reference17Ideal.main_arg36)
          ∧ r.2.mem ((c.tc : Thread Cert.Reference17Ideal.nD Cert.Reference17Ideal.τ).loc Cert.Reference17Ideal.main_arg37) = m' ((c.tc : Thread Cert.Reference17Ideal.nD Cert.Reference17Ideal.τ).loc Cert.Reference17Ideal.main_arg37)
          ∧ r.2.mem ((c.tc : Thread Cert.Reference17Ideal.nD Cert.Reference17Ideal.τ).loc Cert.Reference17Ideal.main_arg38) = m' ((c.tc : Thread Cert.Reference17Ideal.nD Cert.Reference17Ideal.τ).loc Cert.Reference17Ideal.main_arg38)
          ∧ r.2.mem ((c.tc : Thread Cert.Reference17Ideal.nD Cert.Reference17Ideal.τ).loc Cert.Reference17Ideal.main_arg39) = m' ((c.tc : Thread Cert.Reference17Ideal.nD Cert.Reference17Ideal.τ).loc Cert.Reference17Ideal.main_arg39)
          ∧ r.2.mem ((c.tc : Thread Cert.Reference17Ideal.nD Cert.Reference17Ideal.τ).loc Cert.Reference17Ideal.main_arg40) = m' ((c.tc : Thread Cert.Reference17Ideal.nD Cert.Reference17Ideal.τ).loc Cert.Reference17Ideal.main_arg40)
          ∧ r.2.mem ((c.tc : Thread Cert.Reference17Ideal.nD Cert.Reference17Ideal.τ).loc Cert.Reference17Ideal.main_arg41) = m' ((c.tc : Thread Cert.Reference17Ideal.nD Cert.Reference17Ideal.τ).loc Cert.Reference17Ideal.main_arg41)
          ∧ r.2.mem ((c.tc : Thread Cert.Reference17Ideal.nD Cert.Reference17Ideal.τ).loc Cert.Reference17Ideal.main_arg42) = m' ((c.tc : Thread Cert.Reference17Ideal.nD Cert.Reference17Ideal.τ).loc Cert.Reference17Ideal.main_arg42)
          ∧ r.2.mem ((c.tc : Thread Cert.Reference17Ideal.nD Cert.Reference17Ideal.τ).loc Cert.Reference17Ideal.main_arg43) = m' ((c.tc : Thread Cert.Reference17Ideal.nD Cert.Reference17Ideal.τ).loc Cert.Reference17Ideal.main_arg43)
          ∧ r.2.mem ((c.tc : Thread Cert.Reference17Ideal.nD Cert.Reference17Ideal.τ).loc Cert.Reference17Ideal.main_arg44) = m' ((c.tc : Thread Cert.Reference17Ideal.nD Cert.Reference17Ideal.τ).loc Cert.Reference17Ideal.main_arg44)
          ∧ r.2.mem ((c.tc : Thread Cert.Reference17Ideal.nD Cert.Reference17Ideal.τ).loc Cert.Reference17Ideal.main_arg45) = m' ((c.tc : Thread Cert.Reference17Ideal.nD Cert.Reference17Ideal.τ).loc Cert.Reference17Ideal.main_arg45)
          ∧ r.2.mem ((c.tc : Thread Cert.Reference17Ideal.nD Cert.Reference17Ideal.τ).loc Cert.Reference17Ideal.main_arg46) = m' ((c.tc : Thread Cert.Reference17Ideal.nD Cert.Reference17Ideal.τ).loc Cert.Reference17Ideal.main_arg46)
          ∧ r.2.mem ((c.tc : Thread Cert.Reference17Ideal.nD Cert.Reference17Ideal.τ).loc Cert.Reference17Ideal.main_arg47) = m' ((c.tc : Thread Cert.Reference17Ideal.nD Cert.Reference17Ideal.τ).loc Cert.Reference17Ideal.main_arg47)
          ∧ r.2.mem ((c.tc : Thread Cert.Reference17Ideal.nD Cert.Reference17Ideal.τ).loc Cert.Reference17Ideal.main_arg48) = m' ((c.tc : Thread Cert.Reference17Ideal.nD Cert.Reference17Ideal.τ).loc Cert.Reference17Ideal.main_arg48)
          ∧ r.2.mem ((c.tc : Thread Cert.Reference17Ideal.nD Cert.Reference17Ideal.τ).loc Cert.Reference17Ideal.main_arg49) = m' ((c.tc : Thread Cert.Reference17Ideal.nD Cert.Reference17Ideal.τ).loc Cert.Reference17Ideal.main_arg49)
          ∧ r.2.mem ((c.tc : Thread Cert.Reference17Ideal.nD Cert.Reference17Ideal.τ).loc Cert.Reference17Ideal.main_arg50) = m' ((c.tc : Thread Cert.Reference17Ideal.nD Cert.Reference17Ideal.τ).loc Cert.Reference17Ideal.main_arg50)
          ∧ r.2.mem ((c.tc : Thread Cert.Reference17Ideal.nD Cert.Reference17Ideal.τ).loc Cert.Reference17Ideal.main_arg51) = m' ((c.tc : Thread Cert.Reference17Ideal.nD Cert.Reference17Ideal.τ).loc Cert.Reference17Ideal.main_arg51)
          ∧ r.2.mem ((c.tc : Thread Cert.Reference17Ideal.nD Cert.Reference17Ideal.τ).loc Cert.Reference17Ideal.main_arg52) = m' ((c.tc : Thread Cert.Reference17Ideal.nD Cert.Reference17Ideal.τ).loc Cert.Reference17Ideal.main_arg52)
          ∧ r.2.mem ((c.tc : Thread Cert.Reference17Ideal.nD Cert.Reference17Ideal.τ).loc Cert.Reference17Ideal.main_arg53) = m' ((c.tc : Thread Cert.Reference17Ideal.nD Cert.Reference17Ideal.τ).loc Cert.Reference17Ideal.main_arg53)
          ∧ r.2.mem ((c.tc : Thread Cert.Reference17Ideal.nD Cert.Reference17Ideal.τ).loc Cert.Reference17Ideal.main_arg54) = m' ((c.tc : Thread Cert.Reference17Ideal.nD Cert.Reference17Ideal.τ).loc Cert.Reference17Ideal.main_arg54)
          ∧ r.2.mem ((c.tc : Thread Cert.Reference17Ideal.nD Cert.Reference17Ideal.τ).loc Cert.Reference17Ideal.main_arg55) = m' ((c.tc : Thread Cert.Reference17Ideal.nD Cert.Reference17Ideal.τ).loc Cert.Reference17Ideal.main_arg55)
          ∧ r.2.mem ((c.tc : Thread Cert.Reference17Ideal.nD Cert.Reference17Ideal.τ).loc Cert.Reference17Ideal.main_arg56) = m' ((c.tc : Thread Cert.Reference17Ideal.nD Cert.Reference17Ideal.τ).loc Cert.Reference17Ideal.main_arg56)
          ∧ r.2.mem ((c.tc : Thread Cert.Reference17Ideal.nD Cert.Reference17Ideal.τ).loc Cert.Reference17Ideal.main_arg57) = m' ((c.tc : Thread Cert.Reference17Ideal.nD Cert.Reference17Ideal.τ).loc Cert.Reference17Ideal.main_arg57)
          ∧ r.2.mem ((c.tc : Thread Cert.Reference17Ideal.nD Cert.Reference17Ideal.τ).loc Cert.Reference17Ideal.main_arg58) = m' ((c.tc : Thread Cert.Reference17Ideal.nD Cert.Reference17Ideal.τ).loc Cert.Reference17Ideal.main_arg58)
          ∧ r.2.mem ((c.tc : Thread Cert.Reference17Ideal.nD Cert.Reference17Ideal.τ).loc Cert.Reference17Ideal.main_arg59) = m' ((c.tc : Thread Cert.Reference17Ideal.nD Cert.Reference17Ideal.τ).loc Cert.Reference17Ideal.main_arg59)
          ∧ r.2.mem ((c.tc : Thread Cert.Reference17Ideal.nD Cert.Reference17Ideal.τ).loc Cert.Reference17Ideal.main_arg60) = m' ((c.tc : Thread Cert.Reference17Ideal.nD Cert.Reference17Ideal.τ).loc Cert.Reference17Ideal.main_arg60)
          ∧ r.2.mem ((c.tc : Thread Cert.Reference17Ideal.nD Cert.Reference17Ideal.τ).loc Cert.Reference17Ideal.main_arg61) = m' ((c.tc : Thread Cert.Reference17Ideal.nD Cert.Reference17Ideal.τ).loc Cert.Reference17Ideal.main_arg61)
          ∧ r.2.mem ((c.tc : Thread Cert.Reference17Ideal.nD Cert.Reference17Ideal.τ).loc Cert.Reference17Ideal.main_arg62) = m' ((c.tc : Thread Cert.Reference17Ideal.nD Cert.Reference17Ideal.τ).loc Cert.Reference17Ideal.main_arg62)
          ∧ r.2.mem ((c.tc : Thread Cert.Reference17Ideal.nD Cert.Reference17Ideal.τ).loc Cert.Reference17Ideal.main_arg63) = m' ((c.tc : Thread Cert.Reference17Ideal.nD Cert.Reference17Ideal.τ).loc Cert.Reference17Ideal.main_arg63)
          ∧ r.2.mem ((c.tc : Thread Cert.Reference17Ideal.nD Cert.Reference17Ideal.τ).loc Cert.Reference17Ideal.main_arg64) = m' ((c.tc : Thread Cert.Reference17Ideal.nD Cert.Reference17Ideal.τ).loc Cert.Reference17Ideal.main_arg64)
          ∧ r.2.mem ((c.tc : Thread Cert.Reference17Ideal.nD Cert.Reference17Ideal.τ).loc Cert.Reference17Ideal.main_arg65) = m' ((c.tc : Thread Cert.Reference17Ideal.nD Cert.Reference17Ideal.τ).loc Cert.Reference17Ideal.main_arg65)
          ∧ r.2.mem ((c.tc : Thread Cert.Reference17Ideal.nD Cert.Reference17Ideal.τ).loc Cert.Reference17Ideal.main_arg66) = m' ((c.tc : Thread Cert.Reference17Ideal.nD Cert.Reference17Ideal.τ).loc Cert.Reference17Ideal.main_arg66)
          ∧ r.2.mem ((c.tc : Thread Cert.Reference17Ideal.nD Cert.Reference17Ideal.τ).loc Cert.Reference17Ideal.main_arg67) = m' ((c.tc : Thread Cert.Reference17Ideal.nD Cert.Reference17Ideal.τ).loc Cert.Reference17Ideal.main_arg67)
          ∧ r.2.mem ((c.tc : Thread Cert.Reference17Ideal.nD Cert.Reference17Ideal.τ).loc Cert.Reference17Ideal.main_arg68) = m' ((c.tc : Thread Cert.Reference17Ideal.nD Cert.Reference17Ideal.τ).loc Cert.Reference17Ideal.main_arg68)
          ∧ r.2.mem ((c.tc : Thread Cert.Reference17Ideal.nD Cert.Reference17Ideal.τ).loc Cert.Reference17Ideal.main_arg69) = m' ((c.tc : Thread Cert.Reference17Ideal.nD Cert.Reference17Ideal.τ).loc Cert.Reference17Ideal.main_arg69)
          ∧ r.2.mem ((c.tc : Thread Cert.Reference17Ideal.nD Cert.Reference17Ideal.τ).loc Cert.Reference17Ideal.main_arg70) = m' ((c.tc : Thread Cert.Reference17Ideal.nD Cert.Reference17Ideal.τ).loc Cert.Reference17Ideal.main_arg70)
          ∧ r.2.mem ((c.tc : Thread Cert.Reference17Ideal.nD Cert.Reference17Ideal.τ).loc Cert.Reference17Ideal.main_arg71) = m' ((c.tc : Thread Cert.Reference17Ideal.nD Cert.Reference17Ideal.τ).loc Cert.Reference17Ideal.main_arg71)
          ∧ r.2.mem ((c.tc : Thread Cert.Reference17Ideal.nD Cert.Reference17Ideal.τ).loc Cert.Reference17Ideal.main_arg72) = m' ((c.tc : Thread Cert.Reference17Ideal.nD Cert.Reference17Ideal.τ).loc Cert.Reference17Ideal.main_arg72)
          ∧ r.2.mem ((c.tc : Thread Cert.Reference17Ideal.nD Cert.Reference17Ideal.τ).loc Cert.Reference17Ideal.main_arg73) = m' ((c.tc : Thread Cert.Reference17Ideal.nD Cert.Reference17Ideal.τ).loc Cert.Reference17Ideal.main_arg73)
          ∧ r.2.mem ((c.tc : Thread Cert.Reference17Ideal.nD Cert.Reference17Ideal.τ).loc Cert.Reference17Ideal.main_arg74) = m' ((c.tc : Thread Cert.Reference17Ideal.nD Cert.Reference17Ideal.τ).loc Cert.Reference17Ideal.main_arg74)
          ∧ r.2.mem ((c.tc : Thread Cert.Reference17Ideal.nD Cert.Reference17Ideal.τ).loc Cert.Reference17Ideal.main_arg75) = m' ((c.tc : Thread Cert.Reference17Ideal.nD Cert.Reference17Ideal.τ).loc Cert.Reference17Ideal.main_arg75)
          ∧ r.2.mem ((c.tc : Thread Cert.Reference17Ideal.nD Cert.Reference17Ideal.τ).loc Cert.Reference17Ideal.main_arg76) = m' ((c.tc : Thread Cert.Reference17Ideal.nD Cert.Reference17Ideal.τ).loc Cert.Reference17Ideal.main_arg76)
          ∧ r.2.mem ((c.tc : Thread Cert.Reference17Ideal.nD Cert.Reference17Ideal.τ).loc Cert.Reference17Ideal.main_arg77) = m' ((c.tc : Thread Cert.Reference17Ideal.nD Cert.Reference17Ideal.τ).loc Cert.Reference17Ideal.main_arg77)
          ∧ r.2.mem ((c.tc : Thread Cert.Reference17Ideal.nD Cert.Reference17Ideal.τ).loc Cert.Reference17Ideal.main_arg78) = m' ((c.tc : Thread Cert.Reference17Ideal.nD Cert.Reference17Ideal.τ).loc Cert.Reference17Ideal.main_arg78)
          ∧ r.2.mem ((c.tc : Thread Cert.Reference17Ideal.nD Cert.Reference17Ideal.τ).loc Cert.Reference17Ideal.main_arg79) = m' ((c.tc : Thread Cert.Reference17Ideal.nD Cert.Reference17Ideal.τ).loc Cert.Reference17Ideal.main_arg79)
          ∧ r.2.mem ((c.tc : Thread Cert.Reference17Ideal.nD Cert.Reference17Ideal.τ).loc Cert.Reference17Ideal.main_arg80) = m' ((c.tc : Thread Cert.Reference17Ideal.nD Cert.Reference17Ideal.τ).loc Cert.Reference17Ideal.main_arg80)
          ∧ r.2.mem ((c.tc : Thread Cert.Reference17Ideal.nD Cert.Reference17Ideal.τ).loc Cert.Reference17Ideal.main_arg81) = m' ((c.tc : Thread Cert.Reference17Ideal.nD Cert.Reference17Ideal.τ).loc Cert.Reference17Ideal.main_arg81)
          ∧ r.2.mem ((c.tc : Thread Cert.Reference17Ideal.nD Cert.Reference17Ideal.τ).loc Cert.Reference17Ideal.main_arg82) = m' ((c.tc : Thread Cert.Reference17Ideal.nD Cert.Reference17Ideal.τ).loc Cert.Reference17Ideal.main_arg82)
          ∧ r.2.mem ((c.tc : Thread Cert.Reference17Ideal.nD Cert.Reference17Ideal.τ).loc Cert.Reference17Ideal.main_arg83) = m' ((c.tc : Thread Cert.Reference17Ideal.nD Cert.Reference17Ideal.τ).loc Cert.Reference17Ideal.main_arg83)
          ∧ r.2.mem ((c.tc : Thread Cert.Reference17Ideal.nD Cert.Reference17Ideal.τ).loc Cert.Reference17Ideal.main_arg84) = m' ((c.tc : Thread Cert.Reference17Ideal.nD Cert.Reference17Ideal.τ).loc Cert.Reference17Ideal.main_arg84)
          ∧ r.2.mem ((c.tc : Thread Cert.Reference17Ideal.nD Cert.Reference17Ideal.τ).loc Cert.Reference17Ideal.main_arg85) = m' ((c.tc : Thread Cert.Reference17Ideal.nD Cert.Reference17Ideal.τ).loc Cert.Reference17Ideal.main_arg85)
          ∧ r.2.mem ((c.tc : Thread Cert.Reference17Ideal.nD Cert.Reference17Ideal.τ).loc Cert.Reference17Ideal.main_arg86) = m' ((c.tc : Thread Cert.Reference17Ideal.nD Cert.Reference17Ideal.τ).loc Cert.Reference17Ideal.main_arg86)
          ∧ r.2.mem ((c.tc : Thread Cert.Reference17Ideal.nD Cert.Reference17Ideal.τ).loc Cert.Reference17Ideal.main_arg87) = m' ((c.tc : Thread Cert.Reference17Ideal.nD Cert.Reference17Ideal.τ).loc Cert.Reference17Ideal.main_arg87))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_v15) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v3) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v7) = v3 c
          ∧ r.2.mem ((c.tc : Thread Cert.Reference21Ideal.nD Cert.Reference21Ideal.τ).loc Cert.Reference21Ideal.main_v9) = v4 c
          ∧ r.2.mem ((c.tc : Thread Cert.Reference21Ideal.nD Cert.Reference21Ideal.τ).loc Cert.Reference21Ideal.main_v11) = v5 c
          ∧ r.2.mem ((c.tc : Thread Cert.Reference21Ideal.nD Cert.Reference21Ideal.τ).loc Cert.Reference21Ideal.main_v13) = v6 c
          ∧ r.2.mem ((c.tc : Thread Cert.Reference21Ideal.nD Cert.Reference21Ideal.τ).loc Cert.Reference21Ideal.main_v15) = v7 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v11) = v0 c
          ∧ r.2.mem ((c.tc : Thread Cert.Reference22Ideal.nD Cert.Reference22Ideal.τ).loc Cert.Reference22Ideal.main_v10) = v1 c
          ∧ r.2.mem ((c.tc : Thread Cert.Reference22Ideal.nD Cert.Reference22Ideal.τ).loc Cert.Reference22Ideal.main_v35) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v35) = v0 c
          ∧ r.2.mem ((c.tc : Thread Cert.Reference23Ideal.nD Cert.Reference23Ideal.τ).loc Cert.Reference23Ideal.main_v10) = v1 c
          ∧ r.2.mem ((c.tc : Thread Cert.Reference23Ideal.nD Cert.Reference23Ideal.τ).loc Cert.Reference23Ideal.main_v34) = v2 c
          ∧ r.2.mem ((c.tc : Thread Cert.Reference23Ideal.nD Cert.Reference23Ideal.τ).loc Cert.Reference23Ideal.main_v44) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)) →
    ∃ (v0 : (c : Dev Cert.Kernel24Ideal.nD) → Buf (Elt Ideal) ((c.tc : Thread Cert.Kernel24Ideal.nD Cert.Kernel24Ideal.τ).loc Cert.Kernel24Ideal.main_v21)) (v1 : (c : Dev Cert.Kernel24Ideal.nD) → Buf (Elt Ideal) ((c.tc : Thread Cert.Kernel24Ideal.nD Cert.Kernel24Ideal.τ).loc Cert.Kernel24Ideal.main_v59)) (v2 : (c : Dev Cert.Kernel24Ideal.nD) → Buf (Elt Ideal) ((c.tc : Thread Cert.Kernel24Ideal.nD Cert.Kernel24Ideal.τ).loc Cert.Kernel24Ideal.main_v36)) (v3 : (c : Dev Cert.Kernel24Ideal.nD) → Buf (Elt Ideal) ((c.tc : Thread Cert.Kernel24Ideal.nD Cert.Kernel24Ideal.τ).loc Cert.Kernel24Ideal.main_v50)) (v4 : (c : Dev Cert.Kernel24Ideal.nD) → Buf (Elt Ideal) ((c.tc : Thread Cert.Kernel24Ideal.nD Cert.Kernel24Ideal.τ).loc Cert.Kernel24Ideal.main_v49)) (v5 : (c : Dev Cert.Kernel24Ideal.nD) → Buf (Elt Ideal) ((c.tc : Thread Cert.Kernel24Ideal.nD Cert.Kernel24Ideal.τ).loc Cert.Kernel24Ideal.main_v41)) (v6 : (c : Dev Cert.Kernel24Ideal.nD) → Buf (Elt Ideal) ((c.tc : Thread Cert.Kernel24Ideal.nD Cert.Kernel24Ideal.τ).loc Cert.Kernel24Ideal.main_v43)) (v7 : (c : Dev Cert.Kernel24Ideal.nD) → Buf (Elt Ideal) ((c.tc : Thread Cert.Kernel24Ideal.nD Cert.Kernel24Ideal.τ).loc Cert.Kernel24Ideal.main_v45)) (v8 : (c : Dev Cert.Kernel24Ideal.nD) → Buf (Elt Ideal) ((c.tc : Thread Cert.Kernel24Ideal.nD Cert.Kernel24Ideal.τ).loc Cert.Kernel24Ideal.main_v47)) (v9 : (c : Dev Cert.Kernel24Ideal.nD) → Buf (Elt Ideal) ((c.tc : Thread Cert.Kernel24Ideal.nD Cert.Kernel24Ideal.τ).loc Cert.Kernel24Ideal.main_v62)) (v10 : (c : Dev Cert.Kernel24Ideal.nD) → Buf (Elt Ideal) ((c.tc : Thread Cert.Kernel24Ideal.nD Cert.Kernel24Ideal.τ).loc Cert.Kernel24Ideal.main_v65)) (v11 : (c : Dev Cert.Kernel24Ideal.nD) → Buf (Elt Ideal) ((c.tc : Thread Cert.Kernel24Ideal.nD Cert.Kernel24Ideal.τ).loc Cert.Kernel24Ideal.main_v52)) (v12 : (c : Dev Cert.Kernel24Ideal.nD) → Buf (Elt Ideal) ((c.tc : Thread Cert.Kernel24Ideal.nD Cert.Kernel24Ideal.τ).loc Cert.Kernel24Ideal.main_v54)) (v13 : (c : Dev Cert.Kernel24Ideal.nD) → Buf (Elt Ideal) ((c.tc : Thread Cert.Kernel24Ideal.nD Cert.Kernel24Ideal.τ).loc Cert.Kernel24Ideal.main_v23)) (v14 : (c : Dev Cert.Kernel24Ideal.nD) → Buf (Elt Ideal) ((c.tc : Thread Cert.Kernel24Ideal.nD Cert.Kernel24Ideal.τ).loc Cert.Kernel24Ideal.main_v25)) (v15 : (c : Dev Cert.Kernel24Ideal.nD) → Buf (Elt Ideal) ((c.tc : Thread Cert.Kernel24Ideal.nD Cert.Kernel24Ideal.τ).loc Cert.Kernel24Ideal.main_v27)) (v16 : (c : Dev Cert.Kernel24Ideal.nD) → Buf (Elt Ideal) ((c.tc : Thread Cert.Kernel24Ideal.nD Cert.Kernel24Ideal.τ).loc Cert.Kernel24Ideal.main_v29)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v21) = v0 c
          ∧ r.2.mem ((c.tc : Thread Cert.Kernel24Ideal.nD Cert.Kernel24Ideal.τ).loc Cert.Kernel24Ideal.main_v59) = v1 c
          ∧ r.2.mem ((c.tc : Thread Cert.Kernel24Ideal.nD Cert.Kernel24Ideal.τ).loc Cert.Kernel24Ideal.main_v36) = v2 c
          ∧ r.2.mem ((c.tc : Thread Cert.Kernel24Ideal.nD Cert.Kernel24Ideal.τ).loc Cert.Kernel24Ideal.main_v50) = v3 c
          ∧ r.2.mem ((c.tc : Thread Cert.Kernel24Ideal.nD Cert.Kernel24Ideal.τ).loc Cert.Kernel24Ideal.main_v49) = v4 c
          ∧ r.2.mem ((c.tc : Thread Cert.Kernel24Ideal.nD Cert.Kernel24Ideal.τ).loc Cert.Kernel24Ideal.main_v41) = v5 c
          ∧ r.2.mem ((c.tc : Thread Cert.Kernel24Ideal.nD Cert.Kernel24Ideal.τ).loc Cert.Kernel24Ideal.main_v43) = v6 c
          ∧ r.2.mem ((c.tc : Thread Cert.Kernel24Ideal.nD Cert.Kernel24Ideal.τ).loc Cert.Kernel24Ideal.main_v45) = v7 c
          ∧ r.2.mem ((c.tc : Thread Cert.Kernel24Ideal.nD Cert.Kernel24Ideal.τ).loc Cert.Kernel24Ideal.main_v47) = v8 c
          ∧ r.2.mem ((c.tc : Thread Cert.Kernel24Ideal.nD Cert.Kernel24Ideal.τ).loc Cert.Kernel24Ideal.main_v62) = v9 c
          ∧ r.2.mem ((c.tc : Thread Cert.Kernel24Ideal.nD Cert.Kernel24Ideal.τ).loc Cert.Kernel24Ideal.main_v65) = v10 c
          ∧ r.2.mem ((c.tc : Thread Cert.Kernel24Ideal.nD Cert.Kernel24Ideal.τ).loc Cert.Kernel24Ideal.main_v52) = v11 c
          ∧ r.2.mem ((c.tc : Thread Cert.Kernel24Ideal.nD Cert.Kernel24Ideal.τ).loc Cert.Kernel24Ideal.main_v54) = v12 c
          ∧ r.2.mem ((c.tc : Thread Cert.Kernel24Ideal.nD Cert.Kernel24Ideal.τ).loc Cert.Kernel24Ideal.main_v23) = v13 c
          ∧ r.2.mem ((c.tc : Thread Cert.Kernel24Ideal.nD Cert.Kernel24Ideal.τ).loc Cert.Kernel24Ideal.main_v25) = v14 c
          ∧ r.2.mem ((c.tc : Thread Cert.Kernel24Ideal.nD Cert.Kernel24Ideal.τ).loc Cert.Kernel24Ideal.main_v27) = v15 c
          ∧ r.2.mem ((c.tc : Thread Cert.Kernel24Ideal.nD Cert.Kernel24Ideal.τ).loc Cert.Kernel24Ideal.main_v29) = v16 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v21) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v34) = v2 c
          ∧ r.2.mem ((c.tc : Thread Cert.Reference24Ideal.nD Cert.Reference24Ideal.τ).loc Cert.Reference24Ideal.main_v37) = v3 c
          ∧ r.2.mem ((c.tc : Thread Cert.Reference24Ideal.nD Cert.Reference24Ideal.τ).loc Cert.Reference24Ideal.main_v39) = v4 c
          ∧ r.2.mem ((c.tc : Thread Cert.Reference24Ideal.nD Cert.Reference24Ideal.τ).loc Cert.Reference24Ideal.main_v45) = v5 c
          ∧ r.2.mem ((c.tc : Thread Cert.Reference24Ideal.nD Cert.Reference24Ideal.τ).loc Cert.Reference24Ideal.main_v47) = v6 c
          ∧ r.2.mem ((c.tc : Thread Cert.Reference24Ideal.nD Cert.Reference24Ideal.τ).loc Cert.Reference24Ideal.main_v49) = v7 c
          ∧ r.2.mem ((c.tc : Thread Cert.Reference24Ideal.nD Cert.Reference24Ideal.τ).loc Cert.Reference24Ideal.main_v51) = v8 c
          ∧ r.2.mem ((c.tc : Thread Cert.Reference24Ideal.nD Cert.Reference24Ideal.τ).loc Cert.Reference24Ideal.main_v53) = v9 c
          ∧ r.2.mem ((c.tc : Thread Cert.Reference24Ideal.nD Cert.Reference24Ideal.τ).loc Cert.Reference24Ideal.main_v56) = v10 c
          ∧ r.2.mem ((c.tc : Thread Cert.Reference24Ideal.nD Cert.Reference24Ideal.τ).loc Cert.Reference24Ideal.main_v58) = v11 c
          ∧ r.2.mem ((c.tc : Thread Cert.Reference24Ideal.nD Cert.Reference24Ideal.τ).loc Cert.Reference24Ideal.main_v60) = v12 c
          ∧ r.2.mem ((c.tc : Thread Cert.Reference24Ideal.nD Cert.Reference24Ideal.τ).loc Cert.Reference24Ideal.main_v62) = v13 c
          ∧ r.2.mem ((c.tc : Thread Cert.Reference24Ideal.nD Cert.Reference24Ideal.τ).loc Cert.Reference24Ideal.main_v64) = v14 c
          ∧ r.2.mem ((c.tc : Thread Cert.Reference24Ideal.nD Cert.Reference24Ideal.τ).loc Cert.Reference24Ideal.main_v66) = v15 c
          ∧ r.2.mem ((c.tc : Thread Cert.Reference24Ideal.nD Cert.Reference24Ideal.τ).loc Cert.Reference24Ideal.main_v68) = v16 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)
      ∧ m' ((c.tc : Thread Cert.Reference25Ideal.nD Cert.Reference25Ideal.τ).loc Cert.Reference25Ideal.main_arg12) = m ((c.tc : Thread Cert.Kernel25Ideal.nD Cert.Kernel25Ideal.τ).loc Cert.Kernel25Ideal.main_arg12)) →
    ∃ (v0 : (c : Dev Cert.Kernel25Ideal.nD) → Buf (Elt Ideal) ((c.tc : Thread Cert.Kernel25Ideal.nD Cert.Kernel25Ideal.τ).loc Cert.Kernel25Ideal.main_v161)) (v1 : (c : Dev Cert.Kernel25Ideal.nD) → Buf (Elt Ideal) ((c.tc : Thread Cert.Kernel25Ideal.nD Cert.Kernel25Ideal.τ).loc Cert.Kernel25Ideal.main_v153)) (v2 : (c : Dev Cert.Kernel25Ideal.nD) → Buf (Elt Ideal) ((c.tc : Thread Cert.Kernel25Ideal.nD Cert.Kernel25Ideal.τ).loc Cert.Kernel25Ideal.main_v163)) (v3 : (c : Dev Cert.Kernel25Ideal.nD) → Buf (Elt Ideal) ((c.tc : Thread Cert.Kernel25Ideal.nD Cert.Kernel25Ideal.τ).loc Cert.Kernel25Ideal.main_v95)) (v4 : (c : Dev Cert.Kernel25Ideal.nD) → Buf (Elt Ideal) ((c.tc : Thread Cert.Kernel25Ideal.nD Cert.Kernel25Ideal.τ).loc Cert.Kernel25Ideal.main_v87)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v161) = v0 c
          ∧ r.2.mem ((c.tc : Thread Cert.Kernel25Ideal.nD Cert.Kernel25Ideal.τ).loc Cert.Kernel25Ideal.main_v153) = v1 c
          ∧ r.2.mem ((c.tc : Thread Cert.Kernel25Ideal.nD Cert.Kernel25Ideal.τ).loc Cert.Kernel25Ideal.main_v163) = v2 c
          ∧ r.2.mem ((c.tc : Thread Cert.Kernel25Ideal.nD Cert.Kernel25Ideal.τ).loc Cert.Kernel25Ideal.main_v95) = v3 c
          ∧ r.2.mem ((c.tc : Thread Cert.Kernel25Ideal.nD Cert.Kernel25Ideal.τ).loc Cert.Kernel25Ideal.main_v87) = v4 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
          ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v156) = v0 c
          ∧ r.2.mem ((c.tc : Thread Cert.Reference25Ideal.nD Cert.Reference25Ideal.τ).loc Cert.Reference25Ideal.main_v148) = v1 c
          ∧ r.2.mem ((c.tc : Thread Cert.Reference25Ideal.nD Cert.Reference25Ideal.τ).loc Cert.Reference25Ideal.main_v158) = v2 c
          ∧ r.2.mem ((c.tc : Thread Cert.Reference25Ideal.nD Cert.Reference25Ideal.τ).loc Cert.Reference25Ideal.main_v90) = v3 c
          ∧ r.2.mem ((c.tc : Thread Cert.Reference25Ideal.nD Cert.Reference25Ideal.τ).loc Cert.Reference25Ideal.main_v82) = v4 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11)
          ∧ r.2.mem ((c.tc : Thread Cert.Reference25Ideal.nD Cert.Reference25Ideal.τ).loc Cert.Reference25Ideal.main_arg12) = m' ((c.tc : Thread Cert.Reference25Ideal.nD Cert.Reference25Ideal.τ).loc Cert.Reference25Ideal.main_arg12))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel2 : Cert.Kernel2.Facts) (hKernel2Ideal : Cert.Kernel2Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel2 (hKernel2 := hKernel2)
    ∧ quiescent_Kernel2Ideal (hKernel2Ideal := hKernel2Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ preserves_Kernel8_Kernel8Ideal
    ∧ preserves_Kernel9_Kernel9Ideal
    ∧ preserves_Kernel10_Kernel10Ideal
    ∧ algebraic_KernelIdeal_ReferenceIdeal (hKernelIdeal := hKernelIdeal) (hReferenceIdeal := hReferenceIdeal)
    ∧ algebraic_Kernel4Ideal_Reference4Ideal (hKernel4Ideal := hKernel4Ideal) (hReference4Ideal := hReference4Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
    ∧ algebraic_Kernel9Ideal_Reference9Ideal (hKernel9Ideal := hKernel9Ideal) (hReference9Ideal := hReference9Ideal)
    ∧ algebraic_Kernel10Ideal_Reference10Ideal (hKernel10Ideal := hKernel10Ideal) (hReference10Ideal := hReference10Ideal)
    ∧ preserves_Kernel2_Kernel2Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S8192x2816 : Shape := ⟨2, ![8192, 2816]⟩
abbrev S2816x1024 : Shape := ⟨2, ![2816, 1024]⟩
abbrev S8192x1024 : Shape := ⟨2, ![8192, 1024]⟩
abbrev S8x1024 : Shape := ⟨2, ![8, 1024]⟩
abbrev S512x2816 : Shape := ⟨2, ![512, 2816]⟩
abbrev S512x1024 : Shape := ⟨2, ![512, 1024]⟩
abbrev S1x1024 : Shape := ⟨2, ![1, 1024]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S8192x1024, .f32⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x2816 : Shape := ⟨2, ![8192, 2816]⟩
abbrev S2816x1024 : Shape := ⟨2, ![2816, 1024]⟩
abbrev S8192x1024 : Shape := ⟨2, ![8192, 1024]⟩
abbrev S8x1024 : Shape := ⟨2, ![8, 1024]⟩
abbrev S1x1024 : Shape := ⟨2, ![1, 1024]⟩
abbrev S_ : Shape := ⟨0, ![]⟩
abbrev S1024x2816 : Shape := ⟨2, ![1024, 2816]⟩
abbrev S1024 : Shape := ⟨1, ![1024]⟩
abbrev S6x1024 : Shape := ⟨2, ![6, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S8192x2816, .f32⟩
  | .hbm, ⟨8, _⟩ => ⟨S2816x1024, .f32⟩
  | .hbm, ⟨9, _⟩ => ⟨S8192x2816, .f32⟩
  | .hbm, ⟨10, _⟩ => ⟨S2816x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S8192x2816, .f32⟩
  | .hbm, ⟨25, _⟩ => ⟨S1024x2816, .f32⟩
  | .hbm, ⟨26, _⟩ => ⟨S8192x2816, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S6x1024, .f32⟩
  | .hbm, ⟨45, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8x1024 : Shape := ⟨2, ![8, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x1024 : Shape := ⟨2, ![8192, 1024]⟩
abbrev S8x1024 : Shape := ⟨2, ![8, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .bf16⟩
  | .hbm, ⟨96, _⟩ => ⟨S_, .f32⟩
  | .hbm, ⟨97, _⟩ => ⟨S5x1024, .f32⟩
  | .hbm, ⟨98, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1792 : Shape := ⟨2, ![8192, 1792]⟩
abbrev S8192x1024 : Shape := ⟨2, ![8192, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1792 : Shape := ⟨2, ![8192, 1792]⟩
abbrev S8192x1024 : Shape := ⟨2, ![8192, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 9
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S8192x1792, .f32⟩
  | .hbm, ⟨3, _⟩ => ⟨S8192x1024, .f32⟩
  | .hbm, ⟨4, _⟩ => ⟨S_, .f32⟩
  | .hbm, ⟨5, _⟩ => ⟨S1792x1024, .f32⟩
  | .hbm, ⟨6, _⟩ => ⟨S8192x1024, .f32⟩
  | .hbm, ⟨7, _⟩ => ⟨S1024x1792, .f32⟩
  | .hbm, ⟨8, _⟩ => ⟨S1792x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1792 : Shape := ⟨2, ![8192, 1792]⟩
abbrev S1792x1024 : Shape := ⟨2, ![1792, 1024]⟩
abbrev S8192x1024 : Shape := ⟨2, ![8192, 1024]⟩
abbrev S8x1024 : Shape := ⟨2, ![8, 1024]⟩
abbrev S512x1792 : Shape := ⟨2, ![512, 1792]⟩
abbrev S512x1024 : Shape := ⟨2, ![512, 1024]⟩
abbrev S1x1024 : Shape := ⟨2, ![1, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S8x1024, .f32⟩
  | .hbm, ⟨5, _⟩ => ⟨S8192x1024, .f32⟩
  | .hbm, ⟨6, _⟩ => ⟨S8x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x1792 : Shape := ⟨2, ![8192, 1792]⟩
abbrev S1792x1024 : Shape := ⟨2, ![1792, 1024]⟩
abbrev S8192x1024 : Shape := ⟨2, ![8192, 1024]⟩
abbrev S8x1024 : Shape := ⟨2, ![8, 1024]⟩
abbrev S1x1024 : Shape := ⟨2, ![1, 1024]⟩
abbrev S_ : Shape := ⟨0, ![]⟩
abbrev S1024x1792 : Shape := ⟨2, ![1024, 1792]⟩
abbrev S1024 : Shape := ⟨1, ![1024]⟩
abbrev S6x1024 : Shape := ⟨2, ![6, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S8x1024, .f32⟩
  | .hbm, ⟨5, _⟩ => ⟨S8192x1792, .f32⟩
  | .hbm, ⟨6, _⟩ => ⟨S1792x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S1024x1792, .f32⟩
  | .hbm, ⟨20, _⟩ => ⟨S8192x1792, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S6x1024, .f32⟩
  | .hbm, ⟨37, _⟩ => ⟨S8x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel9.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel10.lean ====
abbrev S8192x1024 : Shape := ⟨2, ![8192, 1024]⟩
abbrev S8x1024 : Shape := ⟨2, ![8, 1024]⟩
abbrev S1792x1024 : Shape := ⟨2, ![1792, 1024]⟩
abbrev S1x1792 : Shape := ⟨2, ![1, 1792]⟩
abbrev S8192x1792 : Shape := ⟨2, ![8192, 1792]⟩
abbrev S512x1024 : Shape := ⟨2, ![512, 1024]⟩
abbrev S512x1792 : Shape := ⟨2, ![512, 1792]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S1792x1024, .bf16⟩
  | .hbm, ⟨3, _⟩ => ⟨S1x1792, .f32⟩
  | .hbm, ⟨4, _⟩ => ⟨S8192x1792, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1792x1024, .bf16⟩
  | .local _ .vmem, ⟨4, _⟩ => ⟨S1x1792, .f32⟩
  | .local _ .vmem, ⟨5, _⟩ => ⟨S512x1792, .f32⟩
  | .local _ .vmem, ⟨6, _⟩ => ⟨S512x1792, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S8x1024 : Shape := ⟨2, ![8, 1024]⟩
abbrev S1792x1024 : Shape := ⟨2, ![1792, 1024]⟩
abbrev S1x1792 : Shape := ⟨2, ![1, 1792]⟩
abbrev S1x1024 : Shape := ⟨2, ![1, 1024]⟩
abbrev S_ : Shape := ⟨0, ![]⟩
abbrev S1024x1792 : Shape := ⟨2, ![1024, 1792]⟩
abbrev S8192x1792 : Shape := ⟨2, ![8192, 1792]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S1792x1024, .bf16⟩
  | .hbm, ⟨3, _⟩ => ⟨S1x1792, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1792x1024, .f32⟩
  | .hbm, ⟨14, _⟩ => ⟨S1024x1792, .f32⟩
  | .hbm, ⟨15, _⟩ => ⟨S8192x1792, .f32⟩
  | .hbm, ⟨16, _⟩ => ⟨S8192x1792, .f32⟩
  | .hbm, ⟨17, _⟩ => ⟨S8192x1792, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel2.lean ====
abbrev S8192x1792 : Shape := ⟨2, ![8192, 1792]⟩
abbrev S8192x1024 : Shape := ⟨2, ![8192, 1024]⟩
abbrev S8192x256 : Shape := ⟨2, ![8192, 256]⟩
abbrev S128x2048 : Shape := ⟨2, ![128, 2048]⟩
abbrev S256x2048 : Shape := ⟨2, ![256, 2048]⟩
abbrev S2048x256 : Shape := ⟨2, ![2048, 256]⟩
abbrev S32x2048 : Shape := ⟨2, ![32, 2048]⟩
abbrev S8x256 : Shape := ⟨2, ![8, 256]⟩
abbrev S256x256 : Shape := ⟨2, ![256, 256]⟩
abbrev S256x128 : Shape := ⟨2, ![256, 128]⟩
abbrev S8x2048 : Shape := ⟨2, ![8, 2048]⟩
abbrev S512x256 : Shape := ⟨2, ![512, 256]⟩
abbrev S520x2048 : Shape := ⟨2, ![520, 2048]⟩
abbrev S512x2048 : Shape := ⟨2, ![512, 2048]⟩
abbrev S1x256 : Shape := ⟨2, ![1, 256]⟩
abbrev S256 : Shape := ⟨1, ![256]⟩
abbrev S8x128 : Shape := ⟨2, ![8, 128]⟩
abbrev S1x128 : Shape := ⟨2, ![1, 128]⟩
abbrev S512x1024 : Shape := ⟨2, ![512, 1024]⟩
abbrev S1x1024 : Shape := ⟨2, ![1, 1024]⟩
abbrev S1024 : Shape := ⟨1, ![1024]⟩
abbrev S16x64 : Shape := ⟨2, ![16, 64]⟩

abbrev nBuf : Space → Nat
  | .hbm => 17
  | .vmem => 27
  | .smem => 0
  | _ => 0

abbrev bufTy : (tb : Table) → Fin (tcTables nBuf tb) → BufTy
  | .hbm, ⟨0, _⟩ => ⟨S8192x1792, .f32⟩
  | .hbm, ⟨1, _⟩ => ⟨S8192x1792, .bf16⟩
  | .hbm, ⟨2, _⟩ => ⟨S8192x1024, .f32⟩
  | .hbm, ⟨3, _⟩ => ⟨S8192x256, .f32⟩
  | .hbm, ⟨4, _⟩ => ⟨S128x2048, .f32⟩
  | .hbm, ⟨5, _⟩ => ⟨S256x2048, .bf16⟩
  | .hbm, ⟨6, _⟩ => ⟨S2048x256, .bf16⟩
  | .hbm, ⟨7, _⟩ => ⟨S32x2048, .f32⟩
  | .hbm, ⟨8, _⟩ => ⟨S32x2048, .f32⟩
  | .hbm, ⟨9, _⟩ => ⟨S8x256, .f32⟩
  | .hbm, ⟨10, _⟩ => ⟨S256x256, .bf16⟩
  | .hbm, ⟨11, _⟩ => ⟨S8192x1792, .bf16⟩
  | .hbm, ⟨12, _⟩ => ⟨S256x128, .f32⟩
  | .hbm, ⟨13, _⟩ => ⟨S256x128, .f32⟩
  | .hbm, ⟨14, _⟩ => ⟨S8x2048, .f32⟩
  | .hbm, ⟨15, _⟩ => ⟨S256x256, .f32⟩
  | .hbm, ⟨16, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x2048, .f32⟩
  | .local _ .vmem, ⟨7, _⟩ => ⟨S8x2048, .f32⟩
  | .local _ .vmem, ⟨8, _⟩ => ⟨S256x2048, .bf16⟩
  | .local _ .vmem, ⟨9, _⟩ => ⟨S2048x256, .bf16⟩
  | .local _ .vmem, ⟨10, _⟩ => ⟨S32x2048, .f32⟩
  | .local _ .vmem, ⟨11, _⟩ => ⟨S32x2048, .f32⟩
  | .local _ .vmem, ⟨12, _⟩ => ⟨S8x256, .f32⟩
  | .local _ .vmem, ⟨13, _⟩ => ⟨S256x256, .bf16⟩
  | .local _ .vmem, ⟨14, _⟩ => ⟨S512x256, .bf16⟩
  | .local _ .vmem, ⟨15, _⟩ => ⟨S512x256, .bf16⟩
  | .local _ .vmem, ⟨16, _⟩ => ⟨S256x128, .f32⟩
  | .local _ .vmem, ⟨17, _⟩ => ⟨S256x128, .f32⟩
  | .local _ .vmem, ⟨18, _⟩ => ⟨S8x2048, .f32⟩
  | .local _ .vmem, ⟨19, _⟩ => ⟨S256x256, .f32⟩
  | .local _ .vmem, ⟨20, _⟩ => ⟨S8x256, .f32⟩
  | .local _ .vmem, ⟨21, _⟩ => ⟨S520x2048, .f32⟩
  | .local _ .vmem, ⟨22, _⟩ => ⟨S512x2048, .f32⟩
  | .local _ .vmem, ⟨23, _⟩ => ⟨S8x2048, .f32⟩
  | .local _ .vmem, ⟨24, _⟩ => ⟨S8x2048, .f32⟩
  | .local _ .vmem, ⟨25, _⟩ => ⟨S256x2048, .f32⟩
  | .local _ .vmem, ⟨26, _⟩ => ⟨S256x2048, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_71 : BitVec 32 := 0#32
  let c64_i32 : BitVec 32 := 64#32
  let v111 : BitVec 32 := Scalar.addi c0_i32_71 c64_i32
  let c1_i32 : BitVec 32 := 1#32
  ⟨c0_i32_71, v111, c1_i32⟩
def k0_mult1 (k0_t1 : Fin k0_t1_loop.trips) : BitVec 32 :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  v289
def k0_off1 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v291 : Index := Scalar.indexCast v290
  let c0_216 : Index := 0#32
  ![v291.toNat, 0]
def k0_off2 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v293 : Index := Scalar.indexCast v290
  let c1024_217 : Index := 1024#32
  ![v293.toNat, 1024]
def k0_off3 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v355 : Index := Scalar.indexCast v290
  let c128_238 : Index := 128#32
  ![v355.toNat, 128]
def k0_off4 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v357 : Index := Scalar.indexCast v290
  let c1152_239 : Index := 1152#32
  ![v357.toNat, 1152]
def k0_off5 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v419 : Index := Scalar.indexCast v290
  let c256_264 : Index := 256#32
  ![v419.toNat, 256]
def k0_off6 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v421 : Index := Scalar.indexCast v290
  let c1280_265 : Index := 1280#32
  ![v421.toNat, 1280]
def k0_off7 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v483 : Index := Scalar.indexCast v290
  let c384_290 : Index := 384#32
  ![v483.toNat, 384]
def k0_off8 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v485 : Index := Scalar.indexCast v290
  let c1408_291 : Index := 1408#32
  ![v485.toNat, 1408]
def k0_off9 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v547 : Index := Scalar.indexCast v290
  let c512_316 : Index := 512#32
  ![v547.toNat, 512]
def k0_off10 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v549 : Index := Scalar.indexCast v290
  let c1536_317 : Index := 1536#32
  ![v549.toNat, 1536]
def k0_off11 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v611 : Index := Scalar.indexCast v290
  let c640_342 : Index := 640#32
  ![v611.toNat, 640]
def k0_off12 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v613 : Index := Scalar.indexCast v290
  let c1664_343 : Index := 1664#32
  ![v613.toNat, 1664]
def k0_off13 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v675 : Index := Scalar.indexCast v290
  let c768_368 : Index := 768#32
  ![v675.toNat, 768]
def k0_off14 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v677 : Index := Scalar.indexCast v290
  let c1792_369 : Index := 1792#32
  ![v677.toNat, 1792]
def k0_off15 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v739 : Index := Scalar.indexCast v290
  let c896_394 : Index := 896#32
  ![v739.toNat, 896]
def k0_off16 (k0_t1 : Fin k0_t1_loop.trips) : Fin 2 → Nat :=
  let c8_i32_215 : BitVec 32 := 8#32
  let c0_i32_71 : BitVec 32 := 0#32
  let c1_i32 : BitVec 32 := 1#32
  let arg24 : BitVec 32 := Scf.iv c0_i32_71 c1_i32 k0_t1
  let c8_i32 : BitVec 32 := 8#32
  let v288 : BitVec 32 := Scalar.muli arg24 c8_i32
  let v289 : BitVec 32 := Scalar.addi c8_i32_215 v288
  let v290 : BitVec 32 := v289
  let v741 : Index := Scalar.indexCast v290
  let c1920_395 : Index := 1920#32
  ![v741.toNat, 1920]
@[reducible] def k0_t2_loop : Scf.Loop 32 :=
  let c0_i32_142 : BitVec 32 := 0#32
  let c64_i32_143 : BitVec 32 := 64#32
  let v182 : BitVec 32 := Scalar.addi c0_i32_142 c64_i32_143
  let c1_i32_144 : BitVec 32 := 1#32
  ⟨c0_i32_142, v182, c1_i32_144⟩
def k0_mult2 (k0_t2 : Fin k0_t2_loop.trips) : BitVec 32 :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  v290
def k0_off17 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v292 : Index := Scalar.indexCast v291
  let c0_216 : Index := 0#32
  ![v292.toNat, 0]
def k0_off18 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v294 : Index := Scalar.indexCast v291
  let c1024_217 : Index := 1024#32
  ![v294.toNat, 1024]
def k0_off19 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v356 : Index := Scalar.indexCast v291
  let c128_237 : Index := 128#32
  ![v356.toNat, 128]
def k0_off20 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v358 : Index := Scalar.indexCast v291
  let c1152_238 : Index := 1152#32
  ![v358.toNat, 1152]
def k0_off21 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v420 : Index := Scalar.indexCast v291
  let c256_263 : Index := 256#32
  ![v420.toNat, 256]
def k0_off22 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v422 : Index := Scalar.indexCast v291
  let c1280_264 : Index := 1280#32
  ![v422.toNat, 1280]
def k0_off23 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v484 : Index := Scalar.indexCast v291
  let c384_289 : Index := 384#32
  ![v484.toNat, 384]
def k0_off24 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v486 : Index := Scalar.indexCast v291
  let c1408_290 : Index := 1408#32
  ![v486.toNat, 1408]
def k0_off25 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v548 : Index := Scalar.indexCast v291
  let c512_315 : Index := 512#32
  ![v548.toNat, 512]
def k0_off26 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v550 : Index := Scalar.indexCast v291
  let c1536_316 : Index := 1536#32
  ![v550.toNat, 1536]
def k0_off27 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v612 : Index := Scalar.indexCast v291
  let c640_341 : Index := 640#32
  ![v612.toNat, 640]
def k0_off28 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v614 : Index := Scalar.indexCast v291
  let c1664_342 : Index := 1664#32
  ![v614.toNat, 1664]
def k0_off29 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v676 : Index := Scalar.indexCast v291
  let c768_367 : Index := 768#32
  ![v676.toNat, 768]
def k0_off30 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v678 : Index := Scalar.indexCast v291
  let c1792_368 : Index := 1792#32
  ![v678.toNat, 1792]
def k0_off31 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v740 : Index := Scalar.indexCast v291
  let c896_393 : Index := 896#32
  ![v740.toNat, 896]
def k0_off32 (k0_t2 : Fin k0_t2_loop.trips) : Fin 2 → Nat :=
  let c0_i32_215 : BitVec 32 := 0#32
  let c63_i32 : BitVec 32 := 63#32
  let c0_i32_142 : BitVec 32 := 0#32
  let c1_i32_144 : BitVec 32 := 1#32
  let arg24 : BitVec 32 := Scf.iv c0_i32_142 c1_i32_144 k0_t2
  let v288 : BitVec 32 := Scalar.subi c63_i32 arg24
  let c8_i32 : BitVec 32 := 8#32
  let v289 : BitVec 32 := Scalar.muli v288 c8_i32
  let v290 : BitVec 32 := Scalar.addi c0_i32_215 v289
  let v291 : BitVec 32 := v290
  let v742 : Index := Scalar.indexCast v291
  let c1920_394 : Index := 1920#32
  ![v742.toNat, 1920]
def k0_cond2 (i : grid0.Coords) : BitVec 1 :=
  let arg0 : BitVec 32 := BitVec.ofNat 32 (i 0).val
  let c15_i32 : BitVec 32 := 15#32
  let v285 : BitVec 1 := Scalar.cmpi .eq arg0 c15_i32
  let v286 : BitVec 32 := Scalar.extui v285
  let c0_i32_214 : BitVec 32 := 0#32
  let v287 : BitVec 1 := Scalar.cmpi .ne v286 c0_i32_214
  v287

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel11.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S4096x448 : Shape := ⟨2, ![4096, 448]⟩
abbrev S256x448 : Shape := ⟨2, ![256, 448]⟩

abbrev nBuf : Space → Nat
  | .hbm => 7
  | .vmem => 14
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S4096x448, .f32⟩
  | .local _ .vmem, ⟨0, _⟩ => ⟨S256x448, .f32⟩
  | .local _ .vmem, ⟨1, _⟩ => ⟨S256x448, .f32⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | _, _ => ⟨S4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S4096x448 : Shape := ⟨2, ![4096, 448]⟩
abbrev S256x448 : Shape := ⟨2, ![256, 448]⟩

abbrev nBuf : Space → Nat
  | .hbm => 7
  | .vmem => 14
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S4096x448, .f32⟩
  | .local _ .vmem, ⟨0, _⟩ => ⟨S256x448, .f32⟩
  | .local _ .vmem, ⟨1, _⟩ => ⟨S256x448, .f32⟩
  | .local _ .vmem, ⟨2, _⟩ => ⟨S256x448, .f32⟩
  | .local _ .vmem, ⟨3, _⟩ => ⟨S256x448, .f32⟩
  | .local _ .vmem, ⟨4, _⟩ => ⟨S256x448, .f32⟩
  | .local _ .vmem, ⟨5, _⟩ => ⟨S256x448, .f32⟩
  | .local _ .vmem, ⟨6, _⟩ => ⟨S256x448, .f32⟩
  | .local _ .vmem, ⟨7, _⟩ => ⟨S256x448, .f32⟩
  | .local _ .vmem, ⟨8, _⟩ => ⟨S256x448, .f32⟩
  | .local _ .vmem, ⟨9, _⟩ => ⟨S256x448, .f32⟩
  | .local _ .vmem, ⟨10, _⟩ => ⟨S256x448, .f32⟩
  | .local _ .vmem, ⟨11, _⟩ => ⟨S256x448, .f32⟩
  | .local _ .vmem, ⟨12, _⟩ => ⟨S256x448, .f32⟩
  | .local _ .vmem, ⟨13, _⟩ => ⟨S256x448, .f32⟩
  | _, _ => ⟨S4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x448 : Shape := ⟨2, ![4096, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S_, .f32⟩
  | .hbm, ⟨5, _⟩ => ⟨S4096x448, .f32⟩
  | .hbm, ⟨6, _⟩ => ⟨S4096x448, .f32⟩
  | .hbm, ⟨7, _⟩ => ⟨S_, .f32⟩
  | .hbm, ⟨8, _⟩ => ⟨S4096x448, .f32⟩
  | .hbm, ⟨9, _⟩ => ⟨S4096x448, .f32⟩
  | .hbm, ⟨10, _⟩ => ⟨S4096x448, .f32⟩
  | .hbm, ⟨11, _⟩ => ⟨S_, .f32⟩
  | .hbm, ⟨12, _⟩ => ⟨S4096x448, .f32⟩
  | .hbm, ⟨13, _⟩ => ⟨S4096x448, .f32⟩
  | .hbm, ⟨14, _⟩ => ⟨S4096x448, .f32⟩
  | .hbm, ⟨15, _⟩ => ⟨S_, .f32⟩
  | .hbm, ⟨16, _⟩ => ⟨S4096x448, .f32⟩
  | .hbm, ⟨17, _⟩ => ⟨S4096x448, .f32⟩
  | .hbm, ⟨18, _⟩ => ⟨S4096x448, .f32⟩
  | .hbm, ⟨19, _⟩ => ⟨S_, .f32⟩
  | .hbm, ⟨20, _⟩ => ⟨S4096x448, .f32⟩
  | .hbm, ⟨21, _⟩ => ⟨S4096x448, .f32⟩
  | .hbm, ⟨22, _⟩ => ⟨S_, .f32⟩
  | .hbm, ⟨23, _⟩ => ⟨S4096x448, .f32⟩
  | .hbm, ⟨24, _⟩ => ⟨S4096x448, .f32⟩
  | .hbm, ⟨25, _⟩ => ⟨S4096x448, .f32⟩
  | .hbm, ⟨26, _⟩ => ⟨S_, .f32⟩
  | .hbm, ⟨27, _⟩ => ⟨S4096x448, .f32⟩
  | .hbm, ⟨28, _⟩ => ⟨S4096x448, .f32⟩
  | .hbm, ⟨29, _⟩ => ⟨S4096x448, .f32⟩
  | .hbm, ⟨30, _⟩ => ⟨S_, .f32⟩
  | .hbm, ⟨31, _⟩ => ⟨S4096x448, .f32⟩
  | .hbm, ⟨32, _⟩ => ⟨S4096x448, .f32⟩
  | .hbm, ⟨33, _⟩ => ⟨S4096x448, .f32⟩
  | .hbm, ⟨34, _⟩ => ⟨S_, .f32⟩
  | .hbm, ⟨35, _⟩ => ⟨S4096x448, .f32⟩
  | .hbm, ⟨36, _⟩ => ⟨S4096x448, .f32⟩
  | _, _ => ⟨S4096x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S4096x704 : Shape := ⟨2, ![4096, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x6144 : Shape := ⟨2, ![4, 6144]⟩
abbrev S4x1792 : Shape := ⟨2, ![4, 1792]⟩
abbrev S4x3x64 : Shape := ⟨3, ![4, 3, 64]⟩
abbrev S4x4x64x64 : Shape := ⟨4, ![4, 4, 64, 64]⟩
abbrev S4x256 : Shape := ⟨2, ![4, 256]⟩
abbrev S4x31x64 : Shape := ⟨3, ![4, 31, 64]⟩
abbrev S4x16x64 : Shape := ⟨3, ![4, 16, 64]⟩
abbrev S4x16 : Shape := ⟨2, ![4, 16]⟩
abbrev S4x16x1024 : Shape := ⟨3, ![4, 16, 1024]⟩
abbrev S4x16x16x64 : Shape := ⟨4, ![4, 16, 16, 64]⟩
abbrev S4x1024 : Shape := ⟨2, ![4, 1024]⟩

abbrev nBuf : Space → Nat
  | .hbm => 154
  | .vmem => 154
  | .smem => 0
  | _ => 0

abbrev hbmTy0_0 (i : Nat) : BufTy := match i % 128 with
  | 0 => ⟨S4x6144, .f32⟩
  | 1 => ⟨S4x1792, .f32⟩
  | 2 => ⟨S4x3x64, .f32⟩
  | 3 => ⟨S4x4x64x64, .f32⟩
  | 4 => ⟨S4x256, .f32⟩
  | 5 => ⟨S4x31x64, .f32⟩
  | 6 => ⟨S4x256, .f32⟩
  | 7 => ⟨S4x256, .f32⟩
  | 8 => ⟨S4x256, .f32⟩
  | 9 => ⟨S4x16x64, .f32⟩
  | 10 => ⟨S4x16x64, .f32⟩
  | 11 => ⟨S4x16, .f32⟩
  | 12 => ⟨S4x16x1024, .f32⟩
  | 13 => ⟨S4x16x1024, .f32⟩
  | 14 => ⟨S4x16x16x64, .f32⟩
  | 15 => ⟨S4x16x16x64, .f32⟩
  | 16 => ⟨S4x256, .f32⟩
  | 17 => ⟨S4x256, .f32⟩
  | 18 => ⟨S4x1024, .f32⟩
  | 19 => ⟨S4x1024, .f32⟩
  | 20 => ⟨S4x1024, .f32⟩
  | 21 => ⟨S4x1024, .f32⟩
  | 22 => ⟨S4x6144, .f32⟩
  | 23 => ⟨S4x1792, .f32⟩
  | 24 => ⟨S4x3x64, .f32⟩
  | 25 => ⟨S4x4x64x64, .f32⟩
  | 26 => ⟨S4x256, .f32⟩
  | 27 => ⟨S4x31x64, .f32⟩
  | 28 => ⟨S4x256, .f32⟩
  | 29 => ⟨S4x256, .f32⟩
  | 30 => ⟨S4x256, .f32⟩
  | 31 => ⟨S4x16x64, .f32⟩
  | 32 => ⟨S4x16x64, .f32⟩
  | 33 => ⟨S4x16, .f32⟩
  | 34 => ⟨S4x16x1024, .f32⟩
  | 35 => ⟨S4x16x1024, .f32⟩
  | 36 => ⟨S4x16x16x64, .f32⟩
  | 37 => ⟨S4x16x16x64, .f32⟩
  | 38 => ⟨S4x256, .f32⟩
  | 39 => ⟨S4x256, .f32⟩
  | 40 => ⟨S4x1024, .f32⟩
  | 41 => ⟨S4x1024, .f32⟩
  | 42 => ⟨S4x1024, .f32⟩
  | 43 => ⟨S4x1024, .f32⟩
  | 44 => ⟨S4x6144, .f32⟩
  | 45 => ⟨S4x1792, .f32⟩
  | 46 => ⟨S4x3x64, .f32⟩
  | 47 => ⟨S4x4x64x64, .f32⟩
  | 48 => ⟨S4x256, .f32⟩
  | 49 => ⟨S4x31x64, .f32⟩
  | 50 => ⟨S4x256, .f32⟩
  | 51 => ⟨S4x256, .f32⟩
  | 52 => ⟨S4x256, .f32⟩
  | 53 => ⟨S4x16x64, .f32⟩
  | 54 => ⟨S4x16x64, .f32⟩
  | 55 => ⟨S4x16, .f32⟩
  | 56 => ⟨S4x16x1024, .f32⟩
  | 57 => ⟨S4x16x1024, .f32⟩
  | 58 => ⟨S4x16x16x64, .f32⟩
  | 59 => ⟨S4x16x16x64, .f32⟩
  | 60 => ⟨S4x256, .f32⟩
  | 61 => ⟨S4x256, .f32⟩
  | 62 => ⟨S4x1024, .f32⟩
  | 63 => ⟨S4x1024, .f32⟩
  | 64 => ⟨S4x1024, .f32⟩
  | 65 => ⟨S4x1024, .f32⟩
  | 66 => ⟨S4x6144, .f32⟩
  | 67 => ⟨S4x1792, .f32⟩
  | 68 => ⟨S4x3x64, .f32⟩
  | 69 => ⟨S4x4x64x64, .f32⟩
  | 70 => ⟨S4x256, .f32⟩
  | 71 => ⟨S4x31x64, .f32⟩
  | 72 => ⟨S4x256, .f32⟩
  | 73 => ⟨S4x256, .f32⟩
  | 74 => ⟨S4x256, .f32⟩
  | 75 => ⟨S4x16x64, .f32⟩
  | 76 => ⟨S4x16x64, .f32⟩
  | 77 => ⟨S4x16, .f32⟩
  | 78 => ⟨S4x16x1024, .f32⟩
  | 79 => ⟨S4x16x1024, .f32⟩
  | 80 => ⟨S4x16x16x64, .f32⟩
  | 81 => ⟨S4x16x16x64, .f32⟩
  | 82 => ⟨S4x256, .f32⟩
  | 83 => ⟨S4x256, .f32⟩
  | 84 => ⟨S4x1024, .f32⟩
  | 85 => ⟨S4x1024, .f32⟩
  | 86 => ⟨S4x1024, .f32⟩
  | 87 => ⟨S4x1024, .f32⟩
  | 88 => ⟨S4x6144, .f32⟩
  | 89 => ⟨S4x1792, .f32⟩
  | 90 => ⟨S4x3x64, .f32⟩
  | 91 => ⟨S4x4x64x64, .f32⟩
  | 92 => ⟨S4x256, .f32⟩
  | 93 => ⟨S4x31x64, .f32⟩
  | 94 => ⟨S4x256, .f32⟩
  | 95 => ⟨S4x256, .f32⟩
  | 96 => ⟨S4x256, .f32⟩
  | 97 => ⟨S4x16x64, .f32⟩
  | 98 => ⟨S4x16x64, .f32⟩
  | 99 => ⟨S4x16, .f32⟩
  | 100 => ⟨S4x16x1024, .f32⟩
  | 101 => ⟨S4x16x1024, .f32⟩
  | 102 => ⟨S4x16x16x64, .f32⟩
  | 103 => ⟨S4x16x16x64, .f32⟩
  | 104 => ⟨S4x256, .f32⟩
  | 105 => ⟨S4x256, .f32⟩
  | 106 => ⟨S4x1024, .f32⟩
  | 107 => ⟨S4x1024, .f32⟩
  | 108 => ⟨S4x1024, .f32⟩
  | 109 => ⟨S4x1024, .f32⟩
  | 110 => ⟨S4x6144, .f32⟩
  | 111 => ⟨S4x1792, .f32⟩
  | 112 => ⟨S4x3x64, .f32⟩
  | 113 => ⟨S4x4x64x64, .f32⟩
  | 114 => ⟨S4x256, .f32⟩
  | 115 => ⟨S4x31x64, .f32⟩
  | 116 => ⟨S4x256, .f32⟩
  | 117 => ⟨S4x256, .f32⟩
  | 118 => ⟨S4x256, .f32⟩
  | 119 => ⟨S4x16x64, .f32⟩
  | 120 => ⟨S4x16x64, .f32⟩
  | 121 => ⟨S4x16, .f32⟩
  | 122 => ⟨S4x16x1024, .f32⟩
  | 123 => ⟨S4x16x1024, .f32⟩
  | 124 => ⟨S4x16x16x64, .f32⟩
  | 125 => ⟨S4x16x16x64, .f32⟩
  | 126 => ⟨S4x256, .f32⟩
  | 127 => ⟨S4x256, .f32⟩
  | _ => ⟨S4x6144, .f32⟩

abbrev hbmTy0_1 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x6144, .f32⟩
  | 5 => ⟨S4x1792, .f32⟩
  | 6 => ⟨S4x3x64, .f32⟩
  | 7 => ⟨S4x4x64x64, .f32⟩
  | 8 => ⟨S4x256, .f32⟩
  | 9 => ⟨S4x31x64, .f32⟩
  | 10 => ⟨S4x256, .f32⟩
  | 11 => ⟨S4x256, .f32⟩
  | 12 => ⟨S4x256, .f32⟩
  | 13 => ⟨S4x16x64, .f32⟩
  | 14 => ⟨S4x16x64, .f32⟩
  | 15 => ⟨S4x16, .f32⟩
  | 16 => ⟨S4x16x1024, .f32⟩
  | 17 => ⟨S4x16x1024, .f32⟩
  | 18 => ⟨S4x16x16x64, .f32⟩
  | 19 => ⟨S4x16x16x64, .f32⟩
  | 20 => ⟨S4x256, .f32⟩
  | 21 => ⟨S4x256, .f32⟩
  | 22 => ⟨S4x1024, .f32⟩
  | 23 => ⟨S4x1024, .f32⟩
  | 24 => ⟨S4x1024, .f32⟩
  | 25 => ⟨S4x1024, .f32⟩
  | _ => ⟨S4x6144, .f32⟩

abbrev hbmTy (i : Nat) : BufTy := match i / 128 with
  | 0 => hbmTy0_0 i
  | 1 => hbmTy0_1 i
  | _ => ⟨S4x6144, .f32⟩

abbrev vmemTy0_0 (i : Nat) : BufTy := match i % 128 with
  | 0 => ⟨S4x6144, .f32⟩
  | 1 => ⟨S4x1792, .f32⟩
  | 2 => ⟨S4x3x64, .f32⟩
  | 3 => ⟨S4x4x64x64, .f32⟩
  | 4 => ⟨S4x256, .f32⟩
  | 5 => ⟨S4x31x64, .f32⟩
  | 6 => ⟨S4x256, .f32⟩
  | 7 => ⟨S4x256, .f32⟩
  | 8 => ⟨S4x256, .f32⟩
  | 9 => ⟨S4x16x64, .f32⟩
  | 10 => ⟨S4x16x64, .f32⟩
  | 11 => ⟨S4x16, .f32⟩
  | 12 => ⟨S4x16x1024, .f32⟩
  | 13 => ⟨S4x16x1024, .f32⟩
  | 14 => ⟨S4x16x16x64, .f32⟩
  | 15 => ⟨S4x16x16x64, .f32⟩
  | 16 => ⟨S4x256, .f32⟩
  | 17 => ⟨S4x256, .f32⟩
  | 18 => ⟨S4x1024, .f32⟩
  | 19 => ⟨S4x1024, .f32⟩
  | 20 => ⟨S4x1024, .f32⟩
  | 21 => ⟨S4x1024, .f32⟩
  | 22 => ⟨S4x6144, .f32⟩
  | 23 => ⟨S4x1792, .f32⟩
  | 24 => ⟨S4x3x64, .f32⟩
  | 25 => ⟨S4x4x64x64, .f32⟩
  | 26 => ⟨S4x256, .f32⟩
  | 27 => ⟨S4x31x64, .f32⟩
  | 28 => ⟨S4x256, .f32⟩
  | 29 => ⟨S4x256, .f32⟩
  | 30 => ⟨S4x256, .f32⟩
  | 31 => ⟨S4x16x64, .f32⟩
  | 32 => ⟨S4x16x64, .f32⟩
  | 33 => ⟨S4x16, .f32⟩
  | 34 => ⟨S4x16x1024, .f32⟩
  | 35 => ⟨S4x16x1024, .f32⟩
  | 36 => ⟨S4x16x16x64, .f32⟩
  | 37 => ⟨S4x16x16x64, .f32⟩
  | 38 => ⟨S4x256, .f32⟩
  | 39 => ⟨S4x256, .f32⟩
  | 40 => ⟨S4x1024, .f32⟩
  | 41 => ⟨S4x1024, .f32⟩
  | 42 => ⟨S4x1024, .f32⟩
  | 43 => ⟨S4x1024, .f32⟩
  | 44 => ⟨S4x6144, .f32⟩
  | 45 => ⟨S4x1792, .f32⟩
  | 46 => ⟨S4x3x64, .f32⟩
  | 47 => ⟨S4x4x64x64, .f32⟩
  | 48 => ⟨S4x256, .f32⟩
  | 49 => ⟨S4x31x64, .f32⟩
  | 50 => ⟨S4x256, .f32⟩
  | 51 => ⟨S4x256, .f32⟩
  | 52 => ⟨S4x256, .f32⟩
  | 53 => ⟨S4x16x64, .f32⟩
  | 54 => ⟨S4x16x64, .f32⟩
  | 55 => ⟨S4x16, .f32⟩
  | 56 => ⟨S4x16x1024, .f32⟩
  | 57 => ⟨S4x16x1024, .f32⟩
  | 58 => ⟨S4x16x16x64, .f32⟩
  | 59 => ⟨S4x16x16x64, .f32⟩
  | 60 => ⟨S4x256, .f32⟩
  | 61 => ⟨S4x256, .f32⟩
  | 62 => ⟨S4x1024, .f32⟩
  | 63 => ⟨S4x1024, .f32⟩
  | 64 => ⟨S4x1024, .f32⟩
  | 65 => ⟨S4x1024, .f32⟩
  | 66 => ⟨S4x6144, .f32⟩
  | 67 => ⟨S4x1792, .f32⟩
  | 68 => ⟨S4x3x64, .f32⟩
  | 69 => ⟨S4x4x64x64, .f32⟩
  | 70 => ⟨S4x256, .f32⟩
  | 71 => ⟨S4x31x64, .f32⟩
  | 72 => ⟨S4x256, .f32⟩
  | 73 => ⟨S4x256, .f32⟩
  | 74 => ⟨S4x256, .f32⟩
  | 75 => ⟨S4x16x64, .f32⟩
  | 76 => ⟨S4x16x64, .f32⟩
  | 77 => ⟨S4x16, .f32⟩
  | 78 => ⟨S4x16x1024, .f32⟩
  | 79 => ⟨S4x16x1024, .f32⟩
  | 80 => ⟨S4x16x16x64, .f32⟩
  | 81 => ⟨S4x16x16x64, .f32⟩
  | 82 => ⟨S4x256, .f32⟩
  | 83 => ⟨S4x256, .f32⟩
  | 84 => ⟨S4x1024, .f32⟩
  | 85 => ⟨S4x1024, .f32⟩
  | 86 => ⟨S4x1024, .f32⟩
  | 87 => ⟨S4x1024, .f32⟩
  | 88 => ⟨S4x6144, .f32⟩
  | 89 => ⟨S4x1792, .f32⟩
  | 90 => ⟨S4x3x64, .f32⟩
  | 91 => ⟨S4x4x64x64, .f32⟩
  | 92 => ⟨S4x256, .f32⟩
  | 93 => ⟨S4x31x64, .f32⟩
  | 94 => ⟨S4x256, .f32⟩
  | 95 => ⟨S4x256, .f32⟩
  | 96 => ⟨S4x256, .f32⟩
  | 97 => ⟨S4x16x64, .f32⟩
  | 98 => ⟨S4x16x64, .f32⟩
  | 99 => ⟨S4x16, .f32⟩
  | 100 => ⟨S4x16x1024, .f32⟩
  | 101 => ⟨S4x16x1024, .f32⟩
  | 102 => ⟨S4x16x16x64, .f32⟩
  | 103 => ⟨S4x16x16x64, .f32⟩
  | 104 => ⟨S4x256, .f32⟩
  | 105 => ⟨S4x256, .f32⟩
  | 106 => ⟨S4x1024, .f32⟩
  | 107 => ⟨S4x1024, .f32⟩
  | 108 => ⟨S4x1024, .f32⟩
  | 109 => ⟨S4x1024, .f32⟩
  | 110 => ⟨S4x6144, .f32⟩
  | 111 => ⟨S4x1792, .f32⟩
  | 112 => ⟨S4x3x64, .f32⟩
  | 113 => ⟨S4x4x64x64, .f32⟩
  | 114 => ⟨S4x256, .f32⟩
  | 115 => ⟨S4x31x64, .f32⟩
  | 116 => ⟨S4x256, .f32⟩
  | 117 => ⟨S4x256, .f32⟩
  | 118 => ⟨S4x256, .f32⟩
  | 119 => ⟨S4x16x64, .f32⟩
  | 120 => ⟨S4x16x64, .f32⟩
  | 121 => ⟨S4x16, .f32⟩
  | 122 => ⟨S4x16x1024, .f32⟩
  | 123 => ⟨S4x16x1024, .f32⟩
  | 124 => ⟨S4x16x16x64, .f32⟩
  | 125 => ⟨S4x16x16x64, .f32⟩
  | 126 => ⟨S4x256, .f32⟩
  | 127 => ⟨S4x256, .f32⟩
  | _ => ⟨S4x6144, .f32⟩

abbrev vmemTy0_1 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x6144, .f32⟩
  | 5 => ⟨S4x1792, .f32⟩
  | 6 => ⟨S4x3x64, .f32⟩
  | 7 => ⟨S4x4x64x64, .f32⟩
  | 8 => ⟨S4x256, .f32⟩
  | 9 => ⟨S4x31x64, .f32⟩
  | 10 => ⟨S4x256, .f32⟩
  | 11 => ⟨S4x256, .f32⟩
  | 12 => ⟨S4x256, .f32⟩
  | 13 => ⟨S4x16x64, .f32⟩
  | 14 => ⟨S4x16x64, .f32⟩
  | 15 => ⟨S4x16, .f32⟩
  | 16 => ⟨S4x16x1024, .f32⟩
  | 17 => ⟨S4x16x1024, .f32⟩
  | 18 => ⟨S4x16x16x64, .f32⟩
  | 19 => ⟨S4x16x16x64, .f32⟩
  | 20 => ⟨S4x256, .f32⟩
  | 21 => ⟨S4x256, .f32⟩
  | 22 => ⟨S4x1024, .f32⟩
  | 23 => ⟨S4x1024, .f32⟩
  | 24 => ⟨S4x1024, .f32⟩
  | 25 => ⟨S4x1024, .f32⟩
  | _ => ⟨S4x6144, .f32⟩

abbrev vmemTy (i : Nat) : BufTy := match i / 128 with
  | 0 => vmemTy0_0 i
  | 1 => vmemTy0_1 i
  | _ => ⟨S4x6144, .f32⟩

abbrev bufTy : (tb : Table) → Fin (tcTables nBuf tb) → BufTy
  | .hbm, ⟨i, _⟩ => hbmTy i
  | .local _ .vmem, ⟨i, _⟩ => vmemTy i
  | _, _ => ⟨S4x6144, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 154 → Bool
  | ⟨i, _⟩ => dmaSemScopedAt i

abbrev sig : RefSig :=
  ofTc nBuf bufTy 0 154 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_v0_0 : Ref sig .tc := ⟨.hbm, 88, rfl⟩
abbrev main_v0_1 : Ref sig .tc := ⟨.hbm, 89, rfl⟩
abbrev main_v0_2 : Ref sig .tc := ⟨.hbm, 90, rfl⟩
abbrev main_v0_3 : Ref sig .tc := ⟨.hbm, 91, rfl⟩
abbrev main_v0_4 : Ref sig .tc := ⟨.hbm, 92, rfl⟩
abbrev main_v0_5 : Ref sig .tc := ⟨.hbm, 93, rfl⟩
abbrev main_v0_6 : Ref sig .tc := ⟨.hbm, 94, rfl⟩
abbrev main_v0_7 : Ref sig .tc := ⟨.hbm, 95, rfl⟩
abbrev main_v0_8 : Ref sig .tc := ⟨.hbm, 96, rfl⟩
abbrev main_v0_9 : Ref sig .tc := ⟨.hbm, 97, rfl⟩
abbrev main_v0_10 : Ref sig .tc := ⟨.hbm, 98, rfl⟩
abbrev main_v0_11 : Ref sig .tc := ⟨.hbm, 99, rfl⟩
abbrev main_v0_12 : Ref sig .tc := ⟨.hbm, 100, rfl⟩
abbrev main_v0_13 : Ref sig .tc := ⟨.hbm, 101, rfl⟩
abbrev main_v0_14 : Ref sig .tc := ⟨.hbm, 102, rfl⟩
abbrev main_v0_15 : Ref sig .tc := ⟨.hbm, 103, rfl⟩
abbrev main_v0_16 : Ref sig .tc := ⟨.hbm, 104, rfl⟩
abbrev main_v0_17 : Ref sig .tc := ⟨.hbm, 105, rfl⟩
abbrev main_v0_18 : Ref sig .tc := ⟨.hbm, 106, rfl⟩
abbrev main_v0_19 : Ref sig .tc := ⟨.hbm, 107, rfl⟩
abbrev main_v0_20 : Ref sig .tc := ⟨.hbm, 108, rfl⟩
abbrev main_v0_21 : Ref sig .tc := ⟨.hbm, 109, rfl⟩
abbrev main_v0_22 : Ref sig .tc := ⟨.hbm, 110, rfl⟩
abbrev main_v0_23 : Ref sig .tc := ⟨.hbm, 111, rfl⟩
abbrev main_v0_24 : Ref sig .tc := ⟨.hbm, 112, rfl⟩
abbrev main_v0_25 : Ref sig .tc := ⟨.hbm, 113, rfl⟩
abbrev main_v0_26 : Ref sig .tc := ⟨.hbm, 114, rfl⟩
abbrev main_v0_27 : Ref sig .tc := ⟨.hbm, 115, rfl⟩
abbrev main_v0_28 : Ref sig .tc := ⟨.hbm, 116, rfl⟩
abbrev main_v0_29 : Ref sig .tc := ⟨.hbm, 117, rfl⟩
abbrev main_v0_30 : Ref sig .tc := ⟨.hbm, 118, rfl⟩
abbrev main_v0_31 : Ref sig .tc := ⟨.hbm, 119, rfl⟩
abbrev main_v0_32 : Ref sig .tc := ⟨.hbm, 120, rfl⟩
abbrev main_v0_33 : Ref sig .tc := ⟨.hbm, 121, rfl⟩
abbrev main_v0_34 : Ref sig .tc := ⟨.hbm, 122, rfl⟩
abbrev main_v0_35 : Ref sig .tc := ⟨.hbm, 123, rfl⟩
abbrev main_v0_36 : Ref sig .tc := ⟨.hbm, 124, rfl⟩
abbrev main_v0_37 : Ref sig .tc := ⟨.hbm, 125, rfl⟩
abbrev main_v0_38 : Ref sig .tc := ⟨.hbm, 126, rfl⟩
abbrev main_v0_39 : Ref sig .tc := ⟨.hbm, 127, rfl⟩
abbrev main_v0_40 : Ref sig .tc := ⟨.hbm, 128, rfl⟩
abbrev main_v0_41 : Ref sig .tc := ⟨.hbm, 129, rfl⟩
abbrev main_v0_42 : Ref sig .tc := ⟨.hbm, 130, rfl⟩
abbrev main_v0_43 : Ref sig .tc := ⟨.hbm, 131, rfl⟩
abbrev main_v0_44 : Ref sig .tc := ⟨.hbm, 132, rfl⟩
abbrev main_v0_45 : Ref sig .tc := ⟨.hbm, 133, rfl⟩
abbrev main_v0_46 : Ref sig .tc := ⟨.hbm, 134, rfl⟩
abbrev main_v0_47 : Ref sig .tc := ⟨.hbm, 135, rfl⟩
abbrev main_v0_48 : Ref sig .tc := ⟨.hbm, 136, rfl⟩
abbrev main_v0_49 : Ref sig .tc := ⟨.hbm, 137, rfl⟩
abbrev main_v0_50 : Ref sig .tc := ⟨.hbm, 138, rfl⟩
abbrev main_v0_51 : Ref sig .tc := ⟨.hbm, 139, rfl⟩
abbrev main_v0_52 : Ref sig .tc := ⟨.hbm, 140, rfl⟩
abbrev main_v0_53 : Ref sig .tc := ⟨.hbm, 141, rfl⟩
abbrev main_v0_54 : Ref sig .tc := ⟨.hbm, 142, rfl⟩
abbrev main_v0_55 : Ref sig .tc := ⟨.hbm, 143, rfl⟩
abbrev main_v0_56 : Ref sig .tc := ⟨.hbm, 144, rfl⟩
abbrev main_v0_57 : Ref sig .tc := ⟨.hbm, 145, rfl⟩
abbrev main_v0_58 : Ref sig .tc := ⟨.hbm, 146, rfl⟩
abbrev main_v0_59 : Ref sig .tc := ⟨.hbm, 147, rfl⟩
abbrev main_v0_60 : Ref sig .tc := ⟨.hbm, 148, rfl⟩
abbrev main_v0_61 : Ref sig .tc := ⟨.hbm, 149, rfl⟩
abbrev main_v0_62 : Ref sig .tc := ⟨.hbm, 150, rfl⟩
abbrev main_v0_63 : Ref sig .tc := ⟨.hbm, 151, rfl⟩
abbrev main_v0_64 : Ref sig .tc := ⟨.hbm, 152, rfl⟩
abbrev main_v0_65 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_stg91_0 : Ref sig .tc := ⟨.vmem, 91, rfl⟩
abbrev cc0_stg92_0 : Ref sig .tc := ⟨.vmem, 92, rfl⟩
abbrev cc0_stg93_0 : Ref sig .tc := ⟨.vmem, 93, rfl⟩
abbrev cc0_stg94_0 : Ref sig .tc := ⟨.vmem, 94, rfl⟩
abbrev cc0_stg95_0 : Ref sig .tc := ⟨.vmem, 95, rfl⟩
abbrev cc0_stg96_0 : Ref sig .tc := ⟨.vmem, 96, rfl⟩
abbrev cc0_stg97_0 : Ref sig .tc := ⟨.vmem, 97, rfl⟩
abbrev cc0_stg98_0 : Ref sig .tc := ⟨.vmem, 98, rfl⟩
abbrev cc0_stg99_0 : Ref sig .tc := ⟨.vmem, 99, rfl⟩
abbrev cc0_stg100_0 : Ref sig .tc := ⟨.vmem, 100, rfl⟩
abbrev cc0_stg101_0 : Ref sig .tc := ⟨.vmem, 101, rfl⟩
abbrev cc0_stg102_0 : Ref sig .tc := ⟨.vmem, 102, rfl⟩
abbrev cc0_stg103_0 : Ref sig .tc := ⟨.vmem, 103, rfl⟩
abbrev cc0_stg104_0 : Ref sig .tc := ⟨.vmem, 104, rfl⟩
abbrev cc0_stg105_0 : Ref sig .tc := ⟨.vmem, 105, rfl⟩
abbrev cc0_stg106_0 : Ref sig .tc := ⟨.vmem, 106, rfl⟩
abbrev cc0_stg107_0 : Ref sig .tc := ⟨.vmem, 107, rfl⟩
abbrev cc0_stg108_0 : Ref sig .tc := ⟨.vmem, 108, rfl⟩
abbrev cc0_stg109_0 : Ref sig .tc := ⟨.vmem, 109, rfl⟩
abbrev cc0_stg110_0 : Ref sig .tc := ⟨.vmem, 110, rfl⟩
abbrev cc0_stg111_0 : Ref sig .tc := ⟨.vmem, 111, rfl⟩
abbrev cc0_stg112_0 : Ref sig .tc := ⟨.vmem, 112, rfl⟩
abbrev cc0_stg113_0 : Ref sig .tc := ⟨.vmem, 113, rfl⟩
abbrev cc0_stg114_0 : Ref sig .tc := ⟨.vmem, 114, rfl⟩
abbrev cc0_stg115_0 : Ref sig .tc := ⟨.vmem, 115, rfl⟩
abbrev cc0_stg116_0 : Ref sig .tc := ⟨.vmem, 116, rfl⟩
abbrev cc0_stg117_0 : Ref sig .tc := ⟨.vmem, 117, rfl⟩
abbrev cc0_stg118_0 : Ref sig .tc := ⟨.vmem, 118, rfl⟩
abbrev cc0_stg119_0 : Ref sig .tc := ⟨.vmem, 119, rfl⟩
abbrev cc0_stg120_0 : Ref sig .tc := ⟨.vmem, 120, rfl⟩
abbrev cc0_stg121_0 : Ref sig .tc := ⟨.vmem, 121, rfl⟩
abbrev cc0_stg122_0 : Ref sig .tc := ⟨.vmem, 122, rfl⟩
abbrev cc0_stg123_0 : Ref sig .tc := ⟨.vmem, 123, rfl⟩
abbrev cc0_stg124_0 : Ref sig .tc := ⟨.vmem, 124, rfl⟩
abbrev cc0_stg125_0 : Ref sig .tc := ⟨.vmem, 125, rfl⟩
abbrev cc0_stg126_0 : Ref sig .tc := ⟨.vmem, 126, rfl⟩
abbrev cc0_stg127_0 : Ref sig .tc := ⟨.vmem, 127, rfl⟩
abbrev cc0_stg128_0 : Ref sig .tc := ⟨.vmem, 128, rfl⟩
abbrev cc0_stg129_0 : Ref sig .tc := ⟨.vmem, 129, rfl⟩
abbrev cc0_stg130_0 : Ref sig .tc := ⟨.vmem, 130, rfl⟩
abbrev cc0_stg131_0 : Ref sig .tc := ⟨.vmem, 131, rfl⟩
abbrev cc0_stg132_0 : Ref sig .tc := ⟨.vmem, 132, rfl⟩
abbrev cc0_stg133_0 : Ref sig .tc := ⟨.vmem, 133, rfl⟩
abbrev cc0_stg134_0 : Ref sig .tc := ⟨.vmem, 134, rfl⟩
abbrev cc0_stg135_0 : Ref sig .tc := ⟨.vmem, 135, rfl⟩
abbrev cc0_stg136_0 : Ref sig .tc := ⟨.vmem, 136, rfl⟩
abbrev cc0_stg137_0 : Ref sig .tc := ⟨.vmem, 137, rfl⟩
abbrev cc0_stg138_0 : Ref sig .tc := ⟨.vmem, 138, rfl⟩
abbrev cc0_stg139_0 : Ref sig .tc := ⟨.vmem, 139, rfl⟩
abbrev cc0_stg140_0 : Ref sig .tc := ⟨.vmem, 140, rfl⟩
abbrev cc0_stg141_0 : Ref sig .tc := ⟨.vmem, 141, rfl⟩
abbrev cc0_stg142_0 : Ref sig .tc := ⟨.vmem, 142, rfl⟩
abbrev cc0_stg143_0 : Ref sig .tc := ⟨.vmem, 143, rfl⟩
abbrev cc0_stg144_0 : Ref sig .tc := ⟨.vmem, 144, rfl⟩
abbrev cc0_stg145_0 : Ref sig .tc := ⟨.vmem, 145, rfl⟩
abbrev cc0_stg146_0 : Ref sig .tc := ⟨.vmem, 146, rfl⟩
abbrev cc0_stg147_0 : Ref sig .tc := ⟨.vmem, 147, rfl⟩
abbrev cc0_stg148_0 : Ref sig .tc := ⟨.vmem, 148, rfl⟩
abbrev cc0_stg149_0 : Ref sig .tc := ⟨.vmem, 149, rfl⟩
abbrev cc0_stg150_0 : Ref sig .tc := ⟨.vmem, 150, rfl⟩
abbrev cc0_stg151_0 : Ref sig .tc := ⟨.vmem, 151, rfl⟩
abbrev cc0_stg152_0 : Ref sig .tc := ⟨.vmem, 152, rfl⟩
abbrev cc0_stg153_0 : Ref sig .tc := ⟨.vmem, 153, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90
abbrev cc0_sem91_0 : DmaSem sig := 91
abbrev cc0_sem92_0 : DmaSem sig := 92
abbrev cc0_sem93_0 : DmaSem sig := 93
abbrev cc0_sem94_0 : DmaSem sig := 94
abbrev cc0_sem95_0 : DmaSem sig := 95
abbrev cc0_sem96_0 : DmaSem sig := 96
abbrev cc0_sem97_0 : DmaSem sig := 97
abbrev cc0_sem98_0 : DmaSem sig := 98
abbrev cc0_sem99_0 : DmaSem sig := 99
abbrev cc0_sem100_0 : DmaSem sig := 100
abbrev cc0_sem101_0 : DmaSem sig := 101
abbrev cc0_sem102_0 : DmaSem sig := 102
abbrev cc0_sem103_0 : DmaSem sig := 103
abbrev cc0_sem104_0 : DmaSem sig := 104
abbrev cc0_sem105_0 : DmaSem sig := 105
abbrev cc0_sem106_0 : DmaSem sig := 106
abbrev cc0_sem107_0 : DmaSem sig := 107
abbrev cc0_sem108_0 : DmaSem sig := 108
abbrev cc0_sem109_0 : DmaSem sig := 109
abbrev cc0_sem110_0 : DmaSem sig := 110
abbrev cc0_sem111_0 : DmaSem sig := 111
abbrev cc0_sem112_0 : DmaSem sig := 112
abbrev cc0_sem113_0 : DmaSem sig := 113
abbrev cc0_sem114_0 : DmaSem sig := 114
abbrev cc0_sem115_0 : DmaSem sig := 115
abbrev cc0_sem116_0 : DmaSem sig := 116
abbrev cc0_sem117_0 : DmaSem sig := 117
abbrev cc0_sem118_0 : DmaSem sig := 118
abbrev cc0_sem119_0 : DmaSem sig := 119
abbrev cc0_sem120_0 : DmaSem sig := 120
abbrev cc0_sem121_0 : DmaSem sig := 121
abbrev cc0_sem122_0 : DmaSem sig := 122
abbrev cc0_sem123_0 : DmaSem sig := 123
abbrev cc0_sem124_0 : DmaSem sig := 124
abbrev cc0_sem125_0 : DmaSem sig := 125
abbrev cc0_sem126_0 : DmaSem sig := 126
abbrev cc0_sem127_0 : DmaSem sig := 127
abbrev cc0_sem128_0 : DmaSem sig := 128
abbrev cc0_sem129_0 : DmaSem sig := 129
abbrev cc0_sem130_0 : DmaSem sig := 130
abbrev cc0_sem131_0 : DmaSem sig := 131
abbrev cc0_sem132_0 : DmaSem sig := 132
abbrev cc0_sem133_0 : DmaSem sig := 133
abbrev cc0_sem134_0 : DmaSem sig := 134
abbrev cc0_sem135_0 : DmaSem sig := 135
abbrev cc0_sem136_0 : DmaSem sig := 136
abbrev cc0_sem137_0 : DmaSem sig := 137
abbrev cc0_sem138_0 : DmaSem sig := 138
abbrev cc0_sem139_0 : DmaSem sig := 139
abbrev cc0_sem140_0 : DmaSem sig := 140
abbrev cc0_sem141_0 : DmaSem sig := 141
abbrev cc0_sem142_0 : DmaSem sig := 142
abbrev cc0_sem143_0 : DmaSem sig := 143
abbrev cc0_sem144_0 : DmaSem sig := 144
abbrev cc0_sem145_0 : DmaSem sig := 145
abbrev cc0_sem146_0 : DmaSem sig := 146
abbrev cc0_sem147_0 : DmaSem sig := 147
abbrev cc0_sem148_0 : DmaSem sig := 148
abbrev cc0_sem149_0 : DmaSem sig := 149
abbrev cc0_sem150_0 : DmaSem sig := 150
abbrev cc0_sem151_0 : DmaSem sig := 151
abbrev cc0_sem152_0 : DmaSem sig := 152
abbrev cc0_sem153_0 : DmaSem sig := 153

abbrev nD : Nat := 1
abbrev τ : Topo := Topo.v7x

variable {F : FTy → Type} [FloatOps F]

abbrev grid0 : Pipeline.Grid := .none

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x16x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x16x16x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x6144 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x1792 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x3x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x4x64x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x31x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S4x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S4x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x16x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S4x16x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x16 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x16x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x16x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S4x16x16x64 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x16x16x64 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S4x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S4x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S4x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S4x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S4x6144 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S4x1792 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S4x3x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x4x64x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x256 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S4x31x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S4x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x256 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S4x16x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S4x16x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S4x16 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S4x16x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S4x16x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S4x16x16x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S4x16x16x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S4x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S4x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S4x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S4x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S4x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S4x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S4x6144 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S4x1792 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S4x3x64 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S4x4x64x64 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S4x256 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S4x31x64 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S4x256 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S4x256 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S4x256 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S4x16x64 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S4x16x64 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S4x16 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S4x16x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S4x16x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S4x16x16x64 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S4x16x16x64 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S4x256 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S4x256 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S4x1024 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S4x1024 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S4x1024 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S4x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S4x6144 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S4x1792 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S4x3x64 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))

abbrev stage0_91 : Fin 1 → Memref sig .tc .vmem S4x4x64x64 .f32 := fun | 0 => Memref.whole cc0_stg91_0 | ⟨_ + 1, h⟩ => absurd h (Nat.not_lt.2 (Nat.le_add_left _ _))
abbrev sem0_91 : Fin 1 → DmaSem sig := fun | 0 => cc0_sem91_0 | ⟨_ + 1, h⟩ => absurd h (Nat.not_lt.2 (Nat.le_add_left _ _))

abbrev stage0_92 : Fin 1 → Memref sig .tc .vmem S4x256 .f32 := fun | 0 => Memref.whole cc0_stg92_0 | ⟨_ + 1, h⟩ => absurd h (Nat.not_lt.2 (Nat.le_add_left _ _))
abbrev sem0_92 : Fin 1 → DmaSem sig := fun | 0 => cc0_sem92_0 | ⟨_ + 1, h⟩ => absurd h (Nat.not_lt.2 (Nat.le_add_left _ _))

abbrev stage0_93 : Fin 1 → Memref sig .tc .vmem S4x31x64 .f32 := fun | 0 => Memref.whole cc0_stg93_0 | ⟨_ + 1, h⟩ => absurd h (Nat.not_lt.2 (Nat.le_add_left _ _))
abbrev sem0_93 : Fin 1 → DmaSem sig := fun | 0 => cc0_sem93_0 | ⟨_ + 1, h⟩ => absurd h (Nat.not_lt.2 (Nat.le_add_left _ _))

abbrev stage0_94 : Fin 1 → Memref sig .tc .vmem S4x256 .f32 := fun | 0 => Memref.whole cc0_stg94_0 | ⟨_ + 1, h⟩ => absurd h (Nat.not_lt.2 (Nat.le_add_left _ _))
abbrev sem0_94 : Fin 1 → DmaSem sig := fun | 0 => cc0_sem94_0 | ⟨_ + 1, h⟩ => absurd h (Nat.not_lt.2 (Nat.le_add_left _ _))

abbrev stage0_95 : Fin 1 → Memref sig .tc .vmem S4x256 .f32 := fun | 0 => Memref.whole cc0_stg95_0 | ⟨_ + 1, h⟩ => absurd h (Nat.not_lt.2 (Nat.le_add_left _ _))
abbrev sem0_95 : Fin 1 → DmaSem sig := fun | 0 => cc0_sem95_0 | ⟨_ + 1, h⟩ => absurd h (Nat.not_lt.2 (Nat.le_add_left _ _))

abbrev stage0_96 : Fin 1 → Memref sig .tc .vmem S4x256 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))

abbrev stage0_97 : Fin 1 → Memref sig .tc .vmem S4x16x64 .f32 := fun | 0 => Memref.whole cc0_stg97_0 | ⟨_ + 1, h⟩ => absurd h (Nat.not_lt.2 (Nat.le_add_left _ _))
abbrev sem0_97 : Fin 1 → DmaSem sig := fun | 0 => cc0_sem97_0 | ⟨_ + 1, h⟩ => absurd h (Nat.not_lt.2 (Nat.le_add_left _ _))

abbrev stage0_98 : Fin 1 → Memref sig .tc .vmem S4x16x64 .f32 := fun | 0 => Memref.whole cc0_stg98_0 | ⟨_ + 1, h⟩ => absurd h (Nat.not_lt.2 (Nat.le_add_left _ _))
abbrev sem0_98 : Fin 1 → DmaSem sig := fun | 0 => cc0_sem98_0 | ⟨_ + 1, h⟩ => absurd h (Nat.not_lt.2 (Nat.le_add_left _ _))

abbrev stage0_99 : Fin 1 → Memref sig .tc .vmem S4x16 .f32 := fun | 0 => Memref.whole cc0_stg99_0 | ⟨_ + 1, h⟩ => absurd h (Nat.not_lt.2 (Nat.le_add_left _ _))
abbrev sem0_99 : Fin 1 → DmaSem sig := fun | 0 => cc0_sem99_0 | ⟨_ + 1, h⟩ => absurd h (Nat.not_lt.2 (Nat.le_add_left _ _))

abbrev stage0_100 : Fin 1 → Memref sig .tc .vmem S4x16x1024 .f32 := fun | 0 => Memref.whole cc0_stg100_0 | ⟨_ + 1, h⟩ => absurd h (Nat.not_lt.2 (Nat.le_add_left _ _))
abbrev sem0_100 : Fin 1 → DmaSem sig := fun | 0 => cc0_sem100_0 | ⟨_ + 1, h⟩ => absurd h (Nat.not_lt.2 (Nat.le_add_left _ _))

abbrev stage0_101 : Fin 1 → Memref sig .tc .vmem S4x16x1024 .f32 := fun | 0 => Memref.whole cc0_stg101_0 | ⟨_ + 1, h⟩ => absurd h (Nat.not_lt.2 (Nat.le_add_left _ _))
abbrev sem0_101 : Fin 1 → DmaSem sig := fun | 0 => cc0_sem101_0 | ⟨_ + 1, h⟩ => absurd h (Nat.not_lt.2 (Nat.le_add_left _ _))

abbrev stage0_102 : Fin 1 → Memref sig .tc .vmem S4x16x16x64 .f32 := fun | 0 => Memref.whole cc0_stg102_0 | ⟨_ + 1, h⟩ => absurd h (Nat.not_lt.2 (Nat.le_add_left _ _))
abbrev sem0_102 : Fin 1 → DmaSem sig := fun | 0 => cc0_sem102_0 | ⟨_ + 1, h⟩ => absurd h (Nat.not_lt.2 (Nat.le_add_left _ _))

abbrev stage0_103 : Fin 1 → Memref sig .tc .vmem S4x16x16x64 .f32 := fun | 0 => Memref.whole cc0_stg103_0 | ⟨_ + 1, h⟩ => absurd h (Nat.not_lt.2 (Nat.le_add_left _ _))
abbrev sem0_103 : Fin 1 → DmaSem sig := fun | 0 => cc0_sem103_0 | ⟨_ + 1, h⟩ => absurd h (Nat.not_lt.2 (Nat.le_add_left _ _))

abbrev stage0_104 : Fin 1 → Memref sig .tc .vmem S4x256 .f32 := fun | 0 => Memref.whole cc0_stg104_0 | ⟨_ + 1, h⟩ => absurd h (Nat.not_lt.2 (Nat.le_add_left _ _))
abbrev sem0_104 : Fin 1 → DmaSem sig := fun | 0 => cc0_sem104_0 | ⟨_ + 1, h⟩ => absurd h (Nat.not_lt.2 (Nat.le_add_left _ _))

abbrev stage0_105 : Fin 1 → Memref sig .tc .vmem S4x256 .f32 := fun | 0 => Memref.whole cc0_stg105_0 | ⟨_ + 1, h⟩ => absurd h (Nat.not_lt.2 (Nat.le_add_left _ _))
abbrev sem0_105 : Fin 1 → DmaSem sig := fun | 0 => cc0_sem105_0 | ⟨_ + 1, h⟩ => absurd h (Nat.not_lt.2 (Nat.le_add_left _ _))

abbrev stage0_106 : Fin 1 → Memref sig .tc .vmem S4x1024 .f32 := fun | 0 => Memref.whole cc0_stg106_0 | ⟨_ + 1, h⟩ => absurd h (Nat.not_lt.2 (Nat.le_add_left _ _))
abbrev sem0_106 : Fin 1 → DmaSem sig := fun | 0 => cc0_sem106_0 | ⟨_ + 1, h⟩ => absurd h (Nat.not_lt.2 (Nat.le_add_left _ _))

abbrev stage0_107 : Fin 1 → Memref sig .tc .vmem S4x1024 .f32 := fun | 0 => Memref.whole cc0_stg107_0 | ⟨_ + 1, h⟩ => absurd h (Nat.not_lt.2 (Nat.le_add_left _ _))
abbrev sem0_107 : Fin 1 → DmaSem sig := fun | 0 => cc0_sem107_0 | ⟨_ + 1, h⟩ => absurd h (Nat.not_lt.2 (Nat.le_add_left _ _))

abbrev stage0_108 : Fin 1 → Memref sig .tc .vmem S4x1024 .f32 := fun | 0 => Memref.whole cc0_stg108_0 | ⟨_ + 1, h⟩ => absurd h (Nat.not_lt.2 (Nat.le_add_left _ _))
abbrev sem0_108 : Fin 1 → DmaSem sig := fun | 0 => cc0_sem108_0 | ⟨_ + 1, h⟩ => absurd h (Nat.not_lt.2 (Nat.le_add_left _ _))

abbrev stage0_109 : Fin 1 → Memref sig .tc .vmem S4x1024 .f32 := fun | 0 => Memref.whole cc0_stg109_0 | ⟨_ + 1, h⟩ => absurd h (Nat.not_lt.2 (Nat.le_add_left _ _))
abbrev sem0_109 : Fin 1 → DmaSem sig := fun | 0 => cc0_sem109_0 | ⟨_ + 1, h⟩ => absurd h (Nat.not_lt.2 (Nat.le_add_left _ _))

abbrev stage0_110 : Fin 1 → Memref sig .tc .vmem S4x6144 .f32 := fun | 0 => Memref.whole cc0_stg110_0 | ⟨_ + 1, h⟩ => absurd h (Nat.not_lt.2 (Nat.le_add_left _ _))
abbrev sem0_110 : Fin 1 → DmaSem sig := fun | 0 => cc0_sem110_0 | ⟨_ + 1, h⟩ => absurd h (Nat.not_lt.2 (Nat.le_add_left _ _))

abbrev stage0_111 : Fin 1 → Memref sig .tc .vmem S4x1792 .f32 := fun | 0 => Memref.whole cc0_stg111_0 | ⟨_ + 1, h⟩ => absurd h (Nat.not_lt.2 (Nat.le_add_left _ _))
abbrev sem0_111 : Fin 1 → DmaSem sig := fun | 0 => cc0_sem111_0 | ⟨_ + 1, h⟩ => absurd h (Nat.not_lt.2 (Nat.le_add_left _ _))

abbrev stage0_112 : Fin 1 → Memref sig .tc .vmem S4x3x64 .f32 := fun | 0 => Memref.whole cc0_stg112_0 | ⟨_ + 1, h⟩ => absurd h (Nat.not_lt.2 (Nat.le_add_left _ _))
abbrev sem0_112 : Fin 1 → DmaSem sig := fun | 0 => cc0_sem112_0 | ⟨_ + 1, h⟩ => absurd h (Nat.not_lt.2 (Nat.le_add_left _ _))

abbrev stage0_113 : Fin 1 → Memref sig .tc .vmem S4x4x64x64 .f32 := fun | 0 => Memref.whole cc0_stg113_0 | ⟨_ + 1, h⟩ => absurd h (Nat.not_lt.2 (Nat.le_add_left _ _))
abbrev sem0_113 : Fin 1 → DmaSem sig := fun | 0 => cc0_sem113_0 | ⟨_ + 1, h⟩ => absurd h (Nat.not_lt.2 (Nat.le_add_left _ _))

abbrev stage0_114 : Fin 1 → Memref sig .tc .vmem S4x256 .f32 := fun | 0 => Memref.whole cc0_stg114_0 | ⟨_ + 1, h⟩ => absurd h (Nat.not_lt.2 (Nat.le_add_left _ _))
abbrev sem0_114 : Fin 1 → DmaSem sig := fun | 0 => cc0_sem114_0 | ⟨_ + 1, h⟩ => absurd h (Nat.not_lt.2 (Nat.le_add_left _ _))

abbrev stage0_115 : Fin 1 → Memref sig .tc .vmem S4x31x64 .f32 := fun | 0 => Memref.whole cc0_stg115_0 | ⟨_ + 1, h⟩ => absurd h (Nat.not_lt.2 (Nat.le_add_left _ _))
abbrev sem0_115 : Fin 1 → DmaSem sig := fun | 0 => cc0_sem115_0 | ⟨_ + 1, h⟩ => absurd h (Nat.not_lt.2 (Nat.le_add_left _ _))

abbrev stage0_116 : Fin 1 → Memref sig .tc .vmem S4x256 .f32 := fun | 0 => Memref.whole cc0_stg116_0 | ⟨_ + 1, h⟩ => absurd h (Nat.not_lt.2 (Nat.le_add_left _ _))
abbrev sem0_116 : Fin 1 → DmaSem sig := fun | 0 => cc0_sem116_0 | ⟨_ + 1, h⟩ => absurd h (Nat.not_lt.2 (Nat.le_add_left _ _))

abbrev stage0_117 : Fin 1 → Memref sig .tc .vmem S4x256 .f32 := fun | 0 => Memref.whole cc0_stg117_0 | ⟨_ + 1, h⟩ => absurd h (Nat.not_lt.2 (Nat.le_add_left _ _))
abbrev sem0_117 : Fin 1 → DmaSem sig := fun | 0 => cc0_sem117_0 | ⟨_ + 1, h⟩ => absurd h (Nat.not_lt.2 (Nat.le_add_left _ _))

abbrev stage0_118 : Fin 1 → Memref sig .tc .vmem S4x256 .f32 := fun | 0 => Memref.whole cc0_stg118_0 | ⟨_ + 1, h⟩ => absurd h (Nat.not_lt.2 (Nat.le_add_left _ _))
abbrev sem0_118 : Fin 1 → DmaSem sig := fun | 0 => cc0_sem118_0 | ⟨_ + 1, h⟩ => absurd h (Nat.not_lt.2 (Nat.le_add_left _ _))

abbrev stage0_119 : Fin 1 → Memref sig .tc .vmem S4x16x64 .f32 := fun | 0 => Memref.whole cc0_stg119_0 | ⟨_ + 1, h⟩ => absurd h (Nat.not_lt.2 (Nat.le_add_left _ _))
abbrev sem0_119 : Fin 1 → DmaSem sig := fun | 0 => cc0_sem119_0 | ⟨_ + 1, h⟩ => absurd h (Nat.not_lt.2 (Nat.le_add_left _ _))

abbrev stage0_120 : Fin 1 → Memref sig .tc .vmem S4x16x64 .f32 := fun | 0 => Memref.whole cc0_stg120_0 | ⟨_ + 1, h⟩ => absurd h (Nat.not_lt.2 (Nat.le_add_left _ _))
abbrev sem0_120 : Fin 1 → DmaSem sig := fun | 0 => cc0_sem120_0 | ⟨_ + 1, h⟩ => absurd h (Nat.not_lt.2 (Nat.le_add_left _ _))

abbrev stage0_121 : Fin 1 → Memref sig .tc .vmem S4x16 .f32 := fun | 0 => Memref.whole cc0_stg121_0 | ⟨_ + 1, h⟩ => absurd h (Nat.not_lt.2 (Nat.le_add_left _ _))
abbrev sem0_121 : Fin 1 → DmaSem sig := fun | 0 => cc0_sem121_0 | ⟨_ + 1, h⟩ => absurd h (Nat.not_lt.2 (Nat.le_add_left _ _))

abbrev stage0_122 : Fin 1 → Memref sig .tc .vmem S4x16x1024 .f32 := fun | 0 => Memref.whole cc0_stg122_0 | ⟨_ + 1, h⟩ => absurd h (Nat.not_lt.2 (Nat.le_add_left _ _))
abbrev sem0_122 : Fin 1 → DmaSem sig := fun | 0 => cc0_sem122_0 | ⟨_ + 1, h⟩ => absurd h (Nat.not_lt.2 (Nat.le_add_left _ _))

abbrev stage0_123 : Fin 1 → Memref sig .tc .vmem S4x16x1024 .f32 := fun | 0 => Memref.whole cc0_stg123_0 | ⟨_ + 1, h⟩ => absurd h (Nat.not_lt.2 (Nat.le_add_left _ _))
abbrev sem0_123 : Fin 1 → DmaSem sig := fun | 0 => cc0_sem123_0 | ⟨_ + 1, h⟩ => absurd h (Nat.not_lt.2 (Nat.le_add_left _ _))

abbrev stage0_124 : Fin 1 → Memref sig .tc .vmem S4x16x16x64 .f32 := fun | 0 => Memref.whole cc0_stg124_0 | ⟨_ + 1, h⟩ => absurd h (Nat.not_lt.2 (Nat.le_add_left _ _))
abbrev sem0_124 : Fin 1 → DmaSem sig := fun | 0 => cc0_sem124_0 | ⟨_ + 1, h⟩ => absurd h (Nat.not_lt.2 (Nat.le_add_left _ _))

abbrev stage0_125 : Fin 1 → Memref sig .tc .vmem S4x16x16x64 .f32 := fun | 0 => Memref.whole cc0_stg125_0 | ⟨_ + 1, h⟩ => absurd h (Nat.not_lt.2 (Nat.le_add_left _ _))
abbrev sem0_125 : Fin 1 → DmaSem sig := fun | 0 => cc0_sem125_0 | ⟨_ + 1, h⟩ => absurd h (Nat.not_lt.2 (Nat.le_add_left _ _))

abbrev stage0_126 : Fin 1 → Memref sig .tc .vmem S4x256 .f32 := fun | 0 => Memref.whole cc0_stg126_0 | ⟨_ + 1, h⟩ => absurd h (Nat.not_lt.2 (Nat.le_add_left _ _))
abbrev sem0_126 : Fin 1 → DmaSem sig := fun | 0 => cc0_sem126_0 | ⟨_ + 1, h⟩ => absurd h (Nat.not_lt.2 (Nat.le_add_left _ _))

abbrev stage0_127 : Fin 1 → Memref sig .tc .vmem S4x256 .f32 := fun | 0 => Memref.whole cc0_stg127_0 | ⟨_ + 1, h⟩ => absurd h (Nat.not_lt.2 (Nat.le_add_left _ _))
abbrev sem0_127 : Fin 1 → DmaSem sig := fun | 0 => cc0_sem127_0 | ⟨_ + 1, h⟩ => absurd h (Nat.not_lt.2 (Nat.le_add_left _ _))

abbrev stage0_128 : Fin 1 → Memref sig .tc .vmem S4x1024 .f32 := fun | 0 => Memref.whole cc0_stg128_0 | ⟨_ + 1, h⟩ => absurd h (Nat.not_lt.2 (Nat.le_add_left _ _))
abbrev sem0_128 : Fin 1 → DmaSem sig := fun | 0 => cc0_sem128_0 | ⟨_ + 1, h⟩ => absurd h (Nat.not_lt.2 (Nat.le_add_left _ _))

abbrev stage0_129 : Fin 1 → Memref sig .tc .vmem S4x1024 .f32 := fun | 0 => Memref.whole cc0_stg129_0 | ⟨_ + 1, h⟩ => absurd h (Nat.not_lt.2 (Nat.le_add_left _ _))
abbrev sem0_129 : Fin 1 → DmaSem sig := fun | 0 => cc0_sem129_0 | ⟨_ + 1, h⟩ => absurd h (Nat.not_lt.2 (Nat.le_add_left _ _))

abbrev stage0_130 : Fin 1 → Memref sig .tc .vmem S4x1024 .f32 := fun | 0 => Memref.whole cc0_stg130_0 | ⟨_ + 1, h⟩ => absurd h (Nat.not_lt.2 (Nat.le_add_left _ _))
abbrev sem0_130 : Fin 1 → DmaSem sig := fun | 0 => cc0_sem130_0 | ⟨_ + 1, h⟩ => absurd h (Nat.not_lt.2 (Nat.le_add_left _ _))

abbrev stage0_131 : Fin 1 → Memref sig .tc .vmem S4x1024 .f32 := fun | 0 => Memref.whole cc0_stg131_0 | ⟨_ + 1, h⟩ => absurd h (Nat.not_lt.2 (Nat.le_add_left _ _))
abbrev sem0_131 : Fin 1 → DmaSem sig := fun | 0 => cc0_sem131_0 | ⟨_ + 1, h⟩ => absurd h (Nat.not_lt.2 (Nat.le_add_left _ _))

abbrev stage0_132 : Fin 1 → Memref sig .tc .vmem S4x6144 .f32 := fun | 0 => Memref.whole cc0_stg132_0 | ⟨_ + 1, h⟩ => absurd h (Nat.not_lt.2 (Nat.le_add_left _ _))
abbrev sem0_132 : Fin 1 → DmaSem sig := fun | 0 => cc0_sem132_0 | ⟨_ + 1, h⟩ => absurd h (Nat.not_lt.2 (Nat.le_add_left _ _))

abbrev stage0_133 : Fin 1 → Memref sig .tc .vmem S4x1792 .f32 := fun | 0 => Memref.whole cc0_stg133_0 | ⟨_ + 1, h⟩ => absurd h (Nat.not_lt.2 (Nat.le_add_left _ _))
abbrev sem0_133 : Fin 1 → DmaSem sig := fun | 0 => cc0_sem133_0 | ⟨_ + 1, h⟩ => absurd h (Nat.not_lt.2 (Nat.le_add_left _ _))

abbrev stage0_134 : Fin 1 → Memref sig .tc .vmem S4x3x64 .f32 := fun | 0 => Memref.whole cc0_stg134_0 | ⟨_ + 1, h⟩ => absurd h (Nat.not_lt.2 (Nat.le_add_left _ _))
abbrev sem0_134 : Fin 1 → DmaSem sig := fun | 0 => cc0_sem134_0 | ⟨_ + 1, h⟩ => absurd h (Nat.not_lt.2 (Nat.le_add_left _ _))

abbrev stage0_135 : Fin 1 → Memref sig .tc .vmem S4x4x64x64 .f32 := fun | 0 => Memref.whole cc0_stg135_0 | ⟨_ + 1, h⟩ => absurd h (Nat.not_lt.2 (Nat.le_add_left _ _))
abbrev sem0_135 : Fin 1 → DmaSem sig := fun | 0 => cc0_sem135_0 | ⟨_ + 1, h⟩ => absurd h (Nat.not_lt.2 (Nat.le_add_left _ _))

abbrev stage0_136 : Fin 1 → Memref sig .tc .vmem S4x256 .f32 := fun | 0 => Memref.whole cc0_stg136_0 | ⟨_ + 1, h⟩ => absurd h (Nat.not_lt.2 (Nat.le_add_left _ _))
abbrev sem0_136 : Fin 1 → DmaSem sig := fun | 0 => cc0_sem136_0 | ⟨_ + 1, h⟩ => absurd h (Nat.not_lt.2 (Nat.le_add_left _ _))

abbrev stage0_137 : Fin 1 → Memref sig .tc .vmem S4x31x64 .f32 := fun | 0 => Memref.whole cc0_stg137_0 | ⟨_ + 1, h⟩ => absurd h (Nat.not_lt.2 (Nat.le_add_left _ _))
abbrev sem0_137 : Fin 1 → DmaSem sig := fun | 0 => cc0_sem137_0 | ⟨_ + 1, h⟩ => absurd h (Nat.not_lt.2 (Nat.le_add_left _ _))

abbrev stage0_138 : Fin 1 → Memref sig .tc .vmem S4x256 .f32 := fun | 0 => Memref.whole cc0_stg138_0 | ⟨_ + 1, h⟩ => absurd h (Nat.not_lt.2 (Nat.le_add_left _ _))
abbrev sem0_138 : Fin 1 → DmaSem sig := fun | 0 => cc0_sem138_0 | ⟨_ + 1, h⟩ => absurd h (Nat.not_lt.2 (Nat.le_add_left _ _))

abbrev stage0_139 : Fin 1 → Memref sig .tc .vmem S4x256 .f32 := fun | 0 => Memref.whole cc0_stg139_0 | ⟨_ + 1, h⟩ => absurd h (Nat.not_lt.2 (Nat.le_add_left _ _))
abbrev sem0_139 : Fin 1 → DmaSem sig := fun | 0 => cc0_sem139_0 | ⟨_ + 1, h⟩ => absurd h (Nat.not_lt.2 (Nat.le_add_left _ _))

abbrev stage0_140 : Fin 1 → Memref sig .tc .vmem S4x256 .f32 := fun | 0 => Memref.whole cc0_stg140_0 | ⟨_ + 1, h⟩ => absurd h (Nat.not_lt.2 (Nat.le_add_left _ _))
abbrev sem0_140 : Fin 1 → DmaSem sig := fun | 0 => cc0_sem140_0 | ⟨_ + 1, h⟩ => absurd h (Nat.not_lt.2 (Nat.le_add_left _ _))

abbrev stage0_141 : Fin 1 → Memref sig .tc .vmem S4x16x64 .f32 := fun | 0 => Memref.whole cc0_stg141_0 | ⟨_ + 1, h⟩ => absurd h (Nat.not_lt.2 (Nat.le_add_left _ _))
abbrev sem0_141 : Fin 1 → DmaSem sig := fun | 0 => cc0_sem141_0 | ⟨_ + 1, h⟩ => absurd h (Nat.not_lt.2 (Nat.le_add_left _ _))

abbrev stage0_142 : Fin 1 → Memref sig .tc .vmem S4x16x64 .f32 := fun | 0 => Memref.whole cc0_stg142_0 | ⟨_ + 1, h⟩ => absurd h (Nat.not_lt.2 (Nat.le_add_left _ _))
abbrev sem0_142 : Fin 1 → DmaSem sig := fun | 0 => cc0_sem142_0 | ⟨_ + 1, h⟩ => absurd h (Nat.not_lt.2 (Nat.le_add_left _ _))

abbrev stage0_143 : Fin 1 → Memref sig .tc .vmem S4x16 .f32 := fun | 0 => Memref.whole cc0_stg143_0 | ⟨_ + 1, h⟩ => absurd h (Nat.not_lt.2 (Nat.le_add_left _ _))
abbrev sem0_143 : Fin 1 → DmaSem sig := fun | 0 => cc0_sem143_0 | ⟨_ + 1, h⟩ => absurd h (Nat.not_lt.2 (Nat.le_add_left _ _))

abbrev stage0_144 : Fin 1 → Memref sig .tc .vmem S4x16x1024 .f32 := fun | 0 => Memref.whole cc0_stg144_0 | ⟨_ + 1, h⟩ => absurd h (Nat.not_lt.2 (Nat.le_add_left _ _))
abbrev sem0_144 : Fin 1 → DmaSem sig := fun | 0 => cc0_sem144_0 | ⟨_ + 1, h⟩ => absurd h (Nat.not_lt.2 (Nat.le_add_left _ _))

abbrev stage0_145 : Fin 1 → Memref sig .tc .vmem S4x16x1024 .f32 := fun | 0 => Memref.whole cc0_stg145_0 | ⟨_ + 1, h⟩ => absurd h (Nat.not_lt.2 (Nat.le_add_left _ _))
abbrev sem0_145 : Fin 1 → DmaSem sig := fun | 0 => cc0_sem145_0 | ⟨_ + 1, h⟩ => absurd h (Nat.not_lt.2 (Nat.le_add_left _ _))

abbrev stage0_146 : Fin 1 → Memref sig .tc .vmem S4x16x16x64 .f32 := fun | 0 => Memref.whole cc0_stg146_0 | ⟨_ + 1, h⟩ => absurd h (Nat.not_lt.2 (Nat.le_add_left _ _))
abbrev sem0_146 : Fin 1 → DmaSem sig := fun | 0 => cc0_sem146_0 | ⟨_ + 1, h⟩ => absurd h (Nat.not_lt.2 (Nat.le_add_left _ _))

abbrev stage0_147 : Fin 1 → Memref sig .tc .vmem S4x16x16x64 .f32 := fun | 0 => Memref.whole cc0_stg147_0 | ⟨_ + 1, h⟩ => absurd h (Nat.not_lt.2 (Nat.le_add_left _ _))
abbrev sem0_147 : Fin 1 → DmaSem sig := fun | 0 => cc0_sem147_0 | ⟨_ + 1, h⟩ => absurd h (Nat.not_lt.2 (Nat.le_add_left _ _))

abbrev stage0_148 : Fin 1 → Memref sig .tc .vmem S4x256 .f32 := fun | 0 => Memref.whole cc0_stg148_0 | ⟨_ + 1, h⟩ => absurd h (Nat.not_lt.2 (Nat.le_add_left _ _))
abbrev sem0_148 : Fin 1 → DmaSem sig := fun | 0 => cc0_sem148_0 | ⟨_ + 1, h⟩ => absurd h (Nat.not_lt.2 (Nat.le_add_left _ _))

abbrev stage0_149 : Fin 1 → Memref sig .tc .vmem S4x256 .f32 := fun | 0 => Memref.whole cc0_stg149_0 | ⟨_ + 1, h⟩ => absurd h (Nat.not_lt.2 (Nat.le_add_left _ _))
abbrev sem0_149 : Fin 1 → DmaSem sig := fun | 0 => cc0_sem149_0 | ⟨_ + 1, h⟩ => absurd h (Nat.not_lt.2 (Nat.le_add_left _ _))

abbrev stage0_150 : Fin 1 → Memref sig .tc .vmem S4x1024 .f32 := fun | 0 => Memref.whole cc0_stg150_0 | ⟨_ + 1, h⟩ => absurd h (Nat.not_lt.2 (Nat.le_add_left _ _))
abbrev sem0_150 : Fin 1 → DmaSem sig := fun | 0 => cc0_sem150_0 | ⟨_ + 1, h⟩ => absurd h (Nat.not_lt.2 (Nat.le_add_left _ _))

abbrev stage0_151 : Fin 1 → Memref sig .tc .vmem S4x1024 .f32 := fun | 0 => Memref.whole cc0_stg151_0 | ⟨_ + 1, h⟩ => absurd h (Nat.not_lt.2 (Nat.le_add_left _ _))
abbrev sem0_151 : Fin 1 → DmaSem sig := fun | 0 => cc0_sem151_0 | ⟨_ + 1, h⟩ => absurd h (Nat.not_lt.2 (Nat.le_add_left _ _))

abbrev stage0_152 : Fin 1 → Memref sig .tc .vmem S4x1024 .f32 := fun | 0 => Memref.whole cc0_stg152_0 | ⟨_ + 1, h⟩ => absurd h (Nat.not_lt.2 (Nat.le_add_left _ _))
abbrev sem0_152 : Fin 1 → DmaSem sig := fun | 0 => cc0_sem152_0 | ⟨_ + 1, h⟩ => absurd h (Nat.not_lt.2 (Nat.le_add_left _ _))

abbrev stage0_153 : Fin 1 → Memref sig .tc .vmem S4x1024 .f32 := fun | 0 => Memref.whole cc0_stg153_0 | ⟨_ + 1, h⟩ => absurd h (Nat.not_lt.2 (Nat.le_add_left _ _))
abbrev sem0_153 : Fin 1 → DmaSem sig := fun | 0 => cc0_sem153_0 | ⟨_ + 1, h⟩ => absurd h (Nat.not_lt.2 (Nat.le_add_left _ _))
-- ==== Reference17Ideal.lean ====
abbrev S4x6144 : Shape := ⟨2, ![4, 6144]⟩
abbrev S4x1792 : Shape := ⟨2, ![4, 1792]⟩
abbrev S4x3x64 : Shape := ⟨3, ![4, 3, 64]⟩
abbrev S4x4x64x64 : Shape := ⟨4, ![4, 4, 64, 64]⟩
abbrev S4x256 : Shape := ⟨2, ![4, 256]⟩
abbrev S4x31x64 : Shape := ⟨3, ![4, 31, 64]⟩
abbrev S4x16x64 : Shape := ⟨3, ![4, 16, 64]⟩
abbrev S4x16 : Shape := ⟨2, ![4, 16]⟩
abbrev S4x16x1024 : Shape := ⟨3, ![4, 16, 1024]⟩
abbrev S4x16x16x64 : Shape := ⟨4, ![4, 16, 16, 64]⟩
abbrev S4x1024 : Shape := ⟨2, ![4, 1024]⟩
abbrev S_ : Shape := ⟨0, ![]⟩

abbrev nBuf : Space → Nat
  | .hbm => 814
  | .vmem => 0
  | .smem => 0
  | _ => 0

abbrev hbmTy0_0 (i : Nat) : BufTy := match i % 128 with
  | 0 => ⟨S4x6144, .f32⟩
  | 1 => ⟨S4x1792, .f32⟩
  | 2 => ⟨S4x3x64, .f32⟩
  | 3 => ⟨S4x4x64x64, .f32⟩
  | 4 => ⟨S4x256, .f32⟩
  | 5 => ⟨S4x31x64, .f32⟩
  | 6 => ⟨S4x256, .f32⟩
  | 7 => ⟨S4x256, .f32⟩
  | 8 => ⟨S4x256, .f32⟩
  | 9 => ⟨S4x16x64, .f32⟩
  | 10 => ⟨S4x16x64, .f32⟩
  | 11 => ⟨S4x16, .f32⟩
  | 12 => ⟨S4x16x1024, .f32⟩
  | 13 => ⟨S4x16x1024, .f32⟩
  | 14 => ⟨S4x16x16x64, .f32⟩
  | 15 => ⟨S4x16x16x64, .f32⟩
  | 16 => ⟨S4x256, .f32⟩
  | 17 => ⟨S4x256, .f32⟩
  | 18 => ⟨S4x1024, .f32⟩
  | 19 => ⟨S4x1024, .f32⟩
  | 20 => ⟨S4x1024, .f32⟩
  | 21 => ⟨S4x1024, .f32⟩
  | 22 => ⟨S4x6144, .f32⟩
  | 23 => ⟨S4x1792, .f32⟩
  | 24 => ⟨S4x3x64, .f32⟩
  | 25 => ⟨S4x4x64x64, .f32⟩
  | 26 => ⟨S4x256, .f32⟩
  | 27 => ⟨S4x31x64, .f32⟩
  | 28 => ⟨S4x256, .f32⟩
  | 29 => ⟨S4x256, .f32⟩
  | 30 => ⟨S4x256, .f32⟩
  | 31 => ⟨S4x16x64, .f32⟩
  | 32 => ⟨S4x16x64, .f32⟩
  | 33 => ⟨S4x16, .f32⟩
  | 34 => ⟨S4x16x1024, .f32⟩
  | 35 => ⟨S4x16x1024, .f32⟩
  | 36 => ⟨S4x16x16x64, .f32⟩
  | 37 => ⟨S4x16x16x64, .f32⟩
  | 38 => ⟨S4x256, .f32⟩
  | 39 => ⟨S4x256, .f32⟩
  | 40 => ⟨S4x1024, .f32⟩
  | 41 => ⟨S4x1024, .f32⟩
  | 42 => ⟨S4x1024, .f32⟩
  | 43 => ⟨S4x1024, .f32⟩
  | 44 => ⟨S4x6144, .f32⟩
  | 45 => ⟨S4x1792, .f32⟩
  | 46 => ⟨S4x3x64, .f32⟩
  | 47 => ⟨S4x4x64x64, .f32⟩
  | 48 => ⟨S4x256, .f32⟩
  | 49 => ⟨S4x31x64, .f32⟩
  | 50 => ⟨S4x256, .f32⟩
  | 51 => ⟨S4x256, .f32⟩
  | 52 => ⟨S4x256, .f32⟩
  | 53 => ⟨S4x16x64, .f32⟩
  | 54 => ⟨S4x16x64, .f32⟩
  | 55 => ⟨S4x16, .f32⟩
  | 56 => ⟨S4x16x1024, .f32⟩
  | 57 => ⟨S4x16x1024, .f32⟩
  | 58 => ⟨S4x16x16x64, .f32⟩
  | 59 => ⟨S4x16x16x64, .f32⟩
  | 60 => ⟨S4x256, .f32⟩
  | 61 => ⟨S4x256, .f32⟩
  | 62 => ⟨S4x1024, .f32⟩
  | 63 => ⟨S4x1024, .f32⟩
  | 64 => ⟨S4x1024, .f32⟩
  | 65 => ⟨S4x1024, .f32⟩
  | 66 => ⟨S4x6144, .f32⟩
  | 67 => ⟨S4x1792, .f32⟩
  | 68 => ⟨S4x3x64, .f32⟩
  | 69 => ⟨S4x4x64x64, .f32⟩
  | 70 => ⟨S4x256, .f32⟩
  | 71 => ⟨S4x31x64, .f32⟩
  | 72 => ⟨S4x256, .f32⟩
  | 73 => ⟨S4x256, .f32⟩
  | 74 => ⟨S4x256, .f32⟩
  | 75 => ⟨S4x16x64, .f32⟩
  | 76 => ⟨S4x16x64, .f32⟩
  | 77 => ⟨S4x16, .f32⟩
  | 78 => ⟨S4x16x1024, .f32⟩
  | 79 => ⟨S4x16x1024, .f32⟩
  | 80 => ⟨S4x16x16x64, .f32⟩
  | 81 => ⟨S4x16x16x64, .f32⟩
  | 82 => ⟨S4x256, .f32⟩
  | 83 => ⟨S4x256, .f32⟩
  | 84 => ⟨S4x1024, .f32⟩
  | 85 => ⟨S4x1024, .f32⟩
  | 86 => ⟨S4x1024, .f32⟩
  | 87 => ⟨S4x1024, .f32⟩
  | 88 => ⟨S_, .f32⟩
  | 89 => ⟨S4x6144, .f32⟩
  | 90 => ⟨S4x6144, .f32⟩
  | 91 => ⟨S_, .f32⟩
  | 92 => ⟨S4x6144, .f32⟩
  | 93 => ⟨S4x6144, .f32⟩
  | 94 => ⟨S4x6144, .f32⟩
  | 95 => ⟨S_, .f32⟩
  | 96 => ⟨S4x6144, .f32⟩
  | 97 => ⟨S4x6144, .f32⟩
  | 98 => ⟨S4x6144, .f32⟩
  | 99 => ⟨S_, .f32⟩
  | 100 => ⟨S4x6144, .f32⟩
  | 101 => ⟨S4x6144, .f32⟩
  | 102 => ⟨S4x6144, .f32⟩
  | 103 => ⟨S_, .f32⟩
  | 104 => ⟨S4x6144, .f32⟩
  | 105 => ⟨S4x6144, .f32⟩
  | 106 => ⟨S_, .f32⟩
  | 107 => ⟨S4x6144, .f32⟩
  | 108 => ⟨S4x6144, .f32⟩
  | 109 => ⟨S4x6144, .f32⟩
  | 110 => ⟨S_, .f32⟩
  | 111 => ⟨S4x6144, .f32⟩
  | 112 => ⟨S4x6144, .f32⟩
  | 113 => ⟨S4x6144, .f32⟩
  | 114 => ⟨S_, .f32⟩
  | 115 => ⟨S4x6144, .f32⟩
  | 116 => ⟨S4x6144, .f32⟩
  | 117 => ⟨S4x6144, .f32⟩
  | 118 => ⟨S_, .f32⟩
  | 119 => ⟨S4x6144, .f32⟩
  | 120 => ⟨S4x6144, .f32⟩
  | 121 => ⟨S_, .f32⟩
  | 122 => ⟨S4x1792, .f32⟩
  | 123 => ⟨S4x1792, .f32⟩
  | 124 => ⟨S_, .f32⟩
  | 125 => ⟨S4x1792, .f32⟩
  | 126 => ⟨S4x1792, .f32⟩
  | 127 => ⟨S4x1792, .f32⟩
  | _ => ⟨S4x6144, .f32⟩

abbrev hbmTy0_1 (i : Nat) : BufTy := match i % 128 with
  | 0 => ⟨S_, .f32⟩
  | 1 => ⟨S4x1792, .f32⟩
  | 2 => ⟨S4x1792, .f32⟩
  | 3 => ⟨S4x1792, .f32⟩
  | 4 => ⟨S_, .f32⟩
  | 5 => ⟨S4x1792, .f32⟩
  | 6 => ⟨S4x1792, .f32⟩
  | 7 => ⟨S4x1792, .f32⟩
  | 8 => ⟨S_, .f32⟩
  | 9 => ⟨S4x1792, .f32⟩
  | 10 => ⟨S4x1792, .f32⟩
  | 11 => ⟨S_, .f32⟩
  | 12 => ⟨S4x1792, .f32⟩
  | 13 => ⟨S4x1792, .f32⟩
  | 14 => ⟨S4x1792, .f32⟩
  | 15 => ⟨S_, .f32⟩
  | 16 => ⟨S4x1792, .f32⟩
  | 17 => ⟨S4x1792, .f32⟩
  | 18 => ⟨S4x1792, .f32⟩
  | 19 => ⟨S_, .f32⟩
  | 20 => ⟨S4x1792, .f32⟩
  | 21 => ⟨S4x1792, .f32⟩
  | 22 => ⟨S4x1792, .f32⟩
  | 23 => ⟨S_, .f32⟩
  | 24 => ⟨S4x1792, .f32⟩
  | 25 => ⟨S4x1792, .f32⟩
  | 26 => ⟨S_, .f32⟩
  | 27 => ⟨S4x3x64, .f32⟩
  | 28 => ⟨S4x3x64, .f32⟩
  | 29 => ⟨S_, .f32⟩
  | 30 => ⟨S4x3x64, .f32⟩
  | 31 => ⟨S4x3x64, .f32⟩
  | 32 => ⟨S4x3x64, .f32⟩
  | 33 => ⟨S_, .f32⟩
  | 34 => ⟨S4x3x64, .f32⟩
  | 35 => ⟨S4x3x64, .f32⟩
  | 36 => ⟨S4x3x64, .f32⟩
  | 37 => ⟨S_, .f32⟩
  | 38 => ⟨S4x3x64, .f32⟩
  | 39 => ⟨S4x3x64, .f32⟩
  | 40 => ⟨S4x3x64, .f32⟩
  | 41 => ⟨S_, .f32⟩
  | 42 => ⟨S4x3x64, .f32⟩
  | 43 => ⟨S4x3x64, .f32⟩
  | 44 => ⟨S_, .f32⟩
  | 45 => ⟨S4x3x64, .f32⟩
  | 46 => ⟨S4x3x64, .f32⟩
  | 47 => ⟨S4x3x64, .f32⟩
  | 48 => ⟨S_, .f32⟩
  | 49 => ⟨S4x3x64, .f32⟩
  | 50 => ⟨S4x3x64, .f32⟩
  | 51 => ⟨S4x3x64, .f32⟩
  | 52 => ⟨S_, .f32⟩
  | 53 => ⟨S4x3x64, .f32⟩
  | 54 => ⟨S4x3x64, .f32⟩
  | 55 => ⟨S4x3x64, .f32⟩
  | 56 => ⟨S_, .f32⟩
  | 57 => ⟨S4x3x64, .f32⟩
  | 58 => ⟨S4x3x64, .f32⟩
  | 59 => ⟨S_, .f32⟩
  | 60 => ⟨S4x4x64x64, .f32⟩
  | 61 => ⟨S4x4x64x64, .f32⟩
  | 62 => ⟨S_, .f32⟩
  | 63 => ⟨S4x4x64x64, .f32⟩
  | 64 => ⟨S4x4x64x64, .f32⟩
  | 65 => ⟨S4x4x64x64, .f32⟩
  | 66 => ⟨S_, .f32⟩
  | 67 => ⟨S4x4x64x64, .f32⟩
  | 68 => ⟨S4x4x64x64, .f32⟩
  | 69 => ⟨S4x4x64x64, .f32⟩
  | 70 => ⟨S_, .f32⟩
  | 71 => ⟨S4x4x64x64, .f32⟩
  | 72 => ⟨S4x4x64x64, .f32⟩
  | 73 => ⟨S4x4x64x64, .f32⟩
  | 74 => ⟨S_, .f32⟩
  | 75 => ⟨S4x4x64x64, .f32⟩
  | 76 => ⟨S4x4x64x64, .f32⟩
  | 77 => ⟨S_, .f32⟩
  | 78 => ⟨S4x4x64x64, .f32⟩
  | 79 => ⟨S4x4x64x64, .f32⟩
  | 80 => ⟨S4x4x64x64, .f32⟩
  | 81 => ⟨S_, .f32⟩
  | 82 => ⟨S4x4x64x64, .f32⟩
  | 83 => ⟨S4x4x64x64, .f32⟩
  | 84 => ⟨S4x4x64x64, .f32⟩
  | 85 => ⟨S_, .f32⟩
  | 86 => ⟨S4x4x64x64, .f32⟩
  | 87 => ⟨S4x4x64x64, .f32⟩
  | 88 => ⟨S4x4x64x64, .f32⟩
  | 89 => ⟨S_, .f32⟩
  | 90 => ⟨S4x4x64x64, .f32⟩
  | 91 => ⟨S4x4x64x64, .f32⟩
  | 92 => ⟨S_, .f32⟩
  | 93 => ⟨S4x256, .f32⟩
  | 94 => ⟨S4x256, .f32⟩
  | 95 => ⟨S_, .f32⟩
  | 96 => ⟨S4x256, .f32⟩
  | 97 => ⟨S4x256, .f32⟩
  | 98 => ⟨S4x256, .f32⟩
  | 99 => ⟨S_, .f32⟩
  | 100 => ⟨S4x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S4x256, .f32⟩
  | 107 => ⟨S_, .f32⟩
  | 108 => ⟨S4x256, .f32⟩
  | 109 => ⟨S4x256, .f32⟩
  | 110 => ⟨S_, .f32⟩
  | 111 => ⟨S4x256, .f32⟩
  | 112 => ⟨S4x256, .f32⟩
  | 113 => ⟨S4x256, .f32⟩
  | 114 => ⟨S_, .f32⟩
  | 115 => ⟨S4x256, .f32⟩
  | 116 => ⟨S4x256, .f32⟩
  | 117 => ⟨S4x256, .f32⟩
  | 118 => ⟨S_, .f32⟩
  | 119 => ⟨S4x256, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S_, .f32⟩
  | 126 => ⟨S4x31x64, .f32⟩
  | 127 => ⟨S4x31x64, .f32⟩
  | _ => ⟨S4x6144, .f32⟩

abbrev hbmTy0_2 (i : Nat) : BufTy := match i % 128 with
  | 0 => ⟨S_, .f32⟩
  | 1 => ⟨S4x31x64, .f32⟩
  | 2 => ⟨S4x31x64, .f32⟩
  | 3 => ⟨S4x31x64, .f32⟩
  | 4 => ⟨S_, .f32⟩
  | 5 => ⟨S4x31x64, .f32⟩
  | 6 => ⟨S4x31x64, .f32⟩
  | 7 => ⟨S4x31x64, .f32⟩
  | 8 => ⟨S_, .f32⟩
  | 9 => ⟨S4x31x64, .f32⟩
  | 10 => ⟨S4x31x64, .f32⟩
  | 11 => ⟨S4x31x64, .f32⟩
  | 12 => ⟨S_, .f32⟩
  | 13 => ⟨S4x31x64, .f32⟩
  | 14 => ⟨S4x31x64, .f32⟩
  | 15 => ⟨S_, .f32⟩
  | 16 => ⟨S4x31x64, .f32⟩
  | 17 => ⟨S4x31x64, .f32⟩
  | 18 => ⟨S4x31x64, .f32⟩
  | 19 => ⟨S_, .f32⟩
  | 20 => ⟨S4x31x64, .f32⟩
  | 21 => ⟨S4x31x64, .f32⟩
  | 22 => ⟨S4x31x64, .f32⟩
  | 23 => ⟨S_, .f32⟩
  | 24 => ⟨S4x31x64, .f32⟩
  | 25 => ⟨S4x31x64, .f32⟩
  | 26 => ⟨S4x31x64, .f32⟩
  | 27 => ⟨S_, .f32⟩
  | 28 => ⟨S4x31x64, .f32⟩
  | 29 => ⟨S4x31x64, .f32⟩
  | 30 => ⟨S_, .f32⟩
  | 31 => ⟨S4x256, .f32⟩
  | 32 => ⟨S4x256, .f32⟩
  | 33 => ⟨S_, .f32⟩
  | 34 => ⟨S4x256, .f32⟩
  | 35 => ⟨S4x256, .f32⟩
  | 36 => ⟨S4x256, .f32⟩
  | 37 => ⟨S_, .f32⟩
  | 38 => ⟨S4x256, .f32⟩
  | 39 => ⟨S4x256, .f32⟩
  | 40 => ⟨S4x256, .f32⟩
  | 41 => ⟨S_, .f32⟩
  | 42 => ⟨S4x256, .f32⟩
  | 43 => ⟨S4x256, .f32⟩
  | 44 => ⟨S4x256, .f32⟩
  | 45 => ⟨S_, .f32⟩
  | 46 => ⟨S4x256, .f32⟩
  | 47 => ⟨S4x256, .f32⟩
  | 48 => ⟨S_, .f32⟩
  | 49 => ⟨S4x256, .f32⟩
  | 50 => ⟨S4x256, .f32⟩
  | 51 => ⟨S4x256, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4x256, .f32⟩
  | 58 => ⟨S4x256, .f32⟩
  | 59 => ⟨S4x256, .f32⟩
  | 60 => ⟨S_, .f32⟩
  | 61 => ⟨S4x256, .f32⟩
  | 62 => ⟨S4x256, .f32⟩
  | 63 => ⟨S_, .f32⟩
  | 64 => ⟨S4x256, .f32⟩
  | 65 => ⟨S4x256, .f32⟩
  | 66 => ⟨S_, .f32⟩
  | 67 => ⟨S4x256, .f32⟩
  | 68 => ⟨S4x256, .f32⟩
  | 69 => ⟨S4x256, .f32⟩
  | 70 => ⟨S_, .f32⟩
  | 71 => ⟨S4x256, .f32⟩
  | 72 => ⟨S4x256, .f32⟩
  | 73 => ⟨S4x256, .f32⟩
  | 74 => ⟨S_, .f32⟩
  | 75 => ⟨S4x256, .f32⟩
  | 76 => ⟨S4x256, .f32⟩
  | 77 => ⟨S4x256, .f32⟩
  | 78 => ⟨S_, .f32⟩
  | 79 => ⟨S4x256, .f32⟩
  | 80 => ⟨S4x256, .f32⟩
  | 81 => ⟨S_, .f32⟩
  | 82 => ⟨S4x256, .f32⟩
  | 83 => ⟨S4x256, .f32⟩
  | 84 => ⟨S4x256, .f32⟩
  | 85 => ⟨S_, .f32⟩
  | 86 => ⟨S4x256, .f32⟩
  | 87 => ⟨S4x256, .f32⟩
  | 88 => ⟨S4x256, .f32⟩
  | 89 => ⟨S_, .f32⟩
  | 90 => ⟨S4x256, .f32⟩
  | 91 => ⟨S4x256, .f32⟩
  | 92 => ⟨S4x256, .f32⟩
  | 93 => ⟨S_, .f32⟩
  | 94 => ⟨S4x256, .f32⟩
  | 95 => ⟨S4x256, .f32⟩
  | 96 => ⟨S_, .f32⟩
  | 97 => ⟨S4x256, .f32⟩
  | 98 => ⟨S4x256, .f32⟩
  | 99 => ⟨S_, .f32⟩
  | 100 => ⟨S4x256, .f32⟩
  | 101 => ⟨S4x256, .f32⟩
  | 102 => ⟨S4x256, .f32⟩
  | 103 => ⟨S_, .f32⟩
  | 104 => ⟨S4x256, .f32⟩
  | 105 => ⟨S4x256, .f32⟩
  | 106 => ⟨S4x256, .f32⟩
  | 107 => ⟨S_, .f32⟩
  | 108 => ⟨S4x256, .f32⟩
  | 109 => ⟨S4x256, .f32⟩
  | 110 => ⟨S4x256, .f32⟩
  | 111 => ⟨S_, .f32⟩
  | 112 => ⟨S4x256, .f32⟩
  | 113 => ⟨S4x256, .f32⟩
  | 114 => ⟨S_, .f32⟩
  | 115 => ⟨S4x256, .f32⟩
  | 116 => ⟨S4x256, .f32⟩
  | 117 => ⟨S4x256, .f32⟩
  | 118 => ⟨S_, .f32⟩
  | 119 => ⟨S4x256, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S4x256, .f32⟩
  | 126 => ⟨S_, .f32⟩
  | 127 => ⟨S4x256, .f32⟩
  | _ => ⟨S4x6144, .f32⟩

abbrev hbmTy0_3 (i : Nat) : BufTy := match i % 128 with
  | 0 => ⟨S4x256, .f32⟩
  | 1 => ⟨S_, .f32⟩
  | 2 => ⟨S4x16x64, .f32⟩
  | 3 => ⟨S4x16x64, .f32⟩
  | 4 => ⟨S_, .f32⟩
  | 5 => ⟨S4x16x64, .f32⟩
  | 6 => ⟨S4x16x64, .f32⟩
  | 7 => ⟨S4x16x64, .f32⟩
  | 8 => ⟨S_, .f32⟩
  | 9 => ⟨S4x16x64, .f32⟩
  | 10 => ⟨S4x16x64, .f32⟩
  | 11 => ⟨S4x16x64, .f32⟩
  | 12 => ⟨S_, .f32⟩
  | 13 => ⟨S4x16x64, .f32⟩
  | 14 => ⟨S4x16x64, .f32⟩
  | 15 => ⟨S4x16x64, .f32⟩
  | 16 => ⟨S_, .f32⟩
  | 17 => ⟨S4x16x64, .f32⟩
  | 18 => ⟨S4x16x64, .f32⟩
  | 19 => ⟨S_, .f32⟩
  | 20 => ⟨S4x16x64, .f32⟩
  | 21 => ⟨S4x16x64, .f32⟩
  | 22 => ⟨S4x16x64, .f32⟩
  | 23 => ⟨S_, .f32⟩
  | 24 => ⟨S4x16x64, .f32⟩
  | 25 => ⟨S4x16x64, .f32⟩
  | 26 => ⟨S4x16x64, .f32⟩
  | 27 => ⟨S_, .f32⟩
  | 28 => ⟨S4x16x64, .f32⟩
  | 29 => ⟨S4x16x64, .f32⟩
  | 30 => ⟨S4x16x64, .f32⟩
  | 31 => ⟨S_, .f32⟩
  | 32 => ⟨S4x16x64, .f32⟩
  | 33 => ⟨S4x16x64, .f32⟩
  | 34 => ⟨S_, .f32⟩
  | 35 => ⟨S4x16x64, .f32⟩
  | 36 => ⟨S4x16x64, .f32⟩
  | 37 => ⟨S_, .f32⟩
  | 38 => ⟨S4x16x64, .f32⟩
  | 39 => ⟨S4x16x64, .f32⟩
  | 40 => ⟨S4x16x64, .f32⟩
  | 41 => ⟨S_, .f32⟩
  | 42 => ⟨S4x16x64, .f32⟩
  | 43 => ⟨S4x16x64, .f32⟩
  | 44 => ⟨S4x16x64, .f32⟩
  | 45 => ⟨S_, .f32⟩
  | 46 => ⟨S4x16x64, .f32⟩
  | 47 => ⟨S4x16x64, .f32⟩
  | 48 => ⟨S4x16x64, .f32⟩
  | 49 => ⟨S_, .f32⟩
  | 50 => ⟨S4x16x64, .f32⟩
  | 51 => ⟨S4x16x64, .f32⟩
  | 52 => ⟨S_, .f32⟩
  | 53 => ⟨S4x16x64, .f32⟩
  | 54 => ⟨S4x16x64, .f32⟩
  | 55 => ⟨S4x16x64, .f32⟩
  | 56 => ⟨S_, .f32⟩
  | 57 => ⟨S4x16x64, .f32⟩
  | 58 => ⟨S4x16x64, .f32⟩
  | 59 => ⟨S4x16x64, .f32⟩
  | 60 => ⟨S_, .f32⟩
  | 61 => ⟨S4x16x64, .f32⟩
  | 62 => ⟨S4x16x64, .f32⟩
  | 63 => ⟨S4x16x64, .f32⟩
  | 64 => ⟨S_, .f32⟩
  | 65 => ⟨S4x16x64, .f32⟩
  | 66 => ⟨S4x16x64, .f32⟩
  | 67 => ⟨S_, .f32⟩
  | 68 => ⟨S4x16, .f32⟩
  | 69 => ⟨S4x16, .f32⟩
  | 70 => ⟨S_, .f32⟩
  | 71 => ⟨S4x16, .f32⟩
  | 72 => ⟨S4x16, .f32⟩
  | 73 => ⟨S4x16, .f32⟩
  | 74 => ⟨S_, .f32⟩
  | 75 => ⟨S4x16, .f32⟩
  | 76 => ⟨S4x16, .f32⟩
  | 77 => ⟨S4x16, .f32⟩
  | 78 => ⟨S_, .f32⟩
  | 79 => ⟨S4x16, .f32⟩
  | 80 => ⟨S4x16, .f32⟩
  | 81 => ⟨S4x16, .f32⟩
  | 82 => ⟨S_, .f32⟩
  | 83 => ⟨S4x16, .f32⟩
  | 84 => ⟨S4x16, .f32⟩
  | 85 => ⟨S_, .f32⟩
  | 86 => ⟨S4x16, .f32⟩
  | 87 => ⟨S4x16, .f32⟩
  | 88 => ⟨S4x16, .f32⟩
  | 89 => ⟨S_, .f32⟩
  | 90 => ⟨S4x16, .f32⟩
  | 91 => ⟨S4x16, .f32⟩
  | 92 => ⟨S4x16, .f32⟩
  | 93 => ⟨S_, .f32⟩
  | 94 => ⟨S4x16, .f32⟩
  | 95 => ⟨S4x16, .f32⟩
  | 96 => ⟨S4x16, .f32⟩
  | 97 => ⟨S_, .f32⟩
  | 98 => ⟨S4x16, .f32⟩
  | 99 => ⟨S4x16, .f32⟩
  | 100 => ⟨S_, .f32⟩
  | 101 => ⟨S4x16x1024, .f32⟩
  | 102 => ⟨S4x16x1024, .f32⟩
  | 103 => ⟨S_, .f32⟩
  | 104 => ⟨S4x16x1024, .f32⟩
  | 105 => ⟨S4x16x1024, .f32⟩
  | 106 => ⟨S4x16x1024, .f32⟩
  | 107 => ⟨S_, .f32⟩
  | 108 => ⟨S4x16x1024, .f32⟩
  | 109 => ⟨S4x16x1024, .f32⟩
  | 110 => ⟨S4x16x1024, .f32⟩
  | 111 => ⟨S_, .f32⟩
  | 112 => ⟨S4x16x1024, .f32⟩
  | 113 => ⟨S4x16x1024, .f32⟩
  | 114 => ⟨S4x16x1024, .f32⟩
  | 115 => ⟨S_, .f32⟩
  | 116 => ⟨S4x16x1024, .f32⟩
  | 117 => ⟨S4x16x1024, .f32⟩
  | 118 => ⟨S_, .f32⟩
  | 119 => ⟨S4x16x1024, .f32⟩
  | 120 => ⟨S4x16x1024, .f32⟩
  | 121 => ⟨S4x16x1024, .f32⟩
  | 122 => ⟨S_, .f32⟩
  | 123 => ⟨S4x16x1024, .f32⟩
  | 124 => ⟨S4x16x1024, .f32⟩
  | 125 => ⟨S4x16x1024, .f32⟩
  | 126 => ⟨S_, .f32⟩
  | 127 => ⟨S4x16x1024, .f32⟩
  | _ => ⟨S4x6144, .f32⟩

abbrev hbmTy0_4 (i : Nat) : BufTy := match i % 128 with
  | 0 => ⟨S4x16x1024, .f32⟩
  | 1 => ⟨S4x16x1024, .f32⟩
  | 2 => ⟨S_, .f32⟩
  | 3 => ⟨S4x16x1024, .f32⟩
  | 4 => ⟨S4x16x1024, .f32⟩
  | 5 => ⟨S_, .f32⟩
  | 6 => ⟨S4x16x1024, .f32⟩
  | 7 => ⟨S4x16x1024, .f32⟩
  | 8 => ⟨S_, .f32⟩
  | 9 => ⟨S4x16x1024, .f32⟩
  | 10 => ⟨S4x16x1024, .f32⟩
  | 11 => ⟨S4x16x1024, .f32⟩
  | 12 => ⟨S_, .f32⟩
  | 13 => ⟨S4x16x1024, .f32⟩
  | 14 => ⟨S4x16x1024, .f32⟩
  | 15 => ⟨S4x16x1024, .f32⟩
  | 16 => ⟨S_, .f32⟩
  | 17 => ⟨S4x16x1024, .f32⟩
  | 18 => ⟨S4x16x1024, .f32⟩
  | 19 => ⟨S4x16x1024, .f32⟩
  | 20 => ⟨S_, .f32⟩
  | 21 => ⟨S4x16x1024, .f32⟩
  | 22 => ⟨S4x16x1024, .f32⟩
  | 23 => ⟨S_, .f32⟩
  | 24 => ⟨S4x16x1024, .f32⟩
  | 25 => ⟨S4x16x1024, .f32⟩
  | 26 => ⟨S4x16x1024, .f32⟩
  | 27 => ⟨S_, .f32⟩
  | 28 => ⟨S4x16x1024, .f32⟩
  | 29 => ⟨S4x16x1024, .f32⟩
  | 30 => ⟨S4x16x1024, .f32⟩
  | 31 => ⟨S_, .f32⟩
  | 32 => ⟨S4x16x1024, .f32⟩
  | 33 => ⟨S4x16x1024, .f32⟩
  | 34 => ⟨S4x16x1024, .f32⟩
  | 35 => ⟨S_, .f32⟩
  | 36 => ⟨S4x16x1024, .f32⟩
  | 37 => ⟨S4x16x1024, .f32⟩
  | 38 => ⟨S_, .f32⟩
  | 39 => ⟨S4x16x16x64, .f32⟩
  | 40 => ⟨S4x16x16x64, .f32⟩
  | 41 => ⟨S_, .f32⟩
  | 42 => ⟨S4x16x16x64, .f32⟩
  | 43 => ⟨S4x16x16x64, .f32⟩
  | 44 => ⟨S4x16x16x64, .f32⟩
  | 45 => ⟨S_, .f32⟩
  | 46 => ⟨S4x16x16x64, .f32⟩
  | 47 => ⟨S4x16x16x64, .f32⟩
  | 48 => ⟨S4x16x16x64, .f32⟩
  | 49 => ⟨S_, .f32⟩
  | 50 => ⟨S4x16x16x64, .f32⟩
  | 51 => ⟨S4x16x16x64, .f32⟩
  | 52 => ⟨S4x16x16x64, .f32⟩
  | 53 => ⟨S_, .f32⟩
  | 54 => ⟨S4x16x16x64, .f32⟩
  | 55 => ⟨S4x16x16x64, .f32⟩
  | 56 => ⟨S_, .f32⟩
  | 57 => ⟨S4x16x16x64, .f32⟩
  | 58 => ⟨S4x16x16x64, .f32⟩
  | 59 => ⟨S4x16x16x64, .f32⟩
  | 60 => ⟨S_, .f32⟩
  | 61 => ⟨S4x16x16x64, .f32⟩
  | 62 => ⟨S4x16x16x64, .f32⟩
  | 63 => ⟨S4x16x16x64, .f32⟩
  | 64 => ⟨S_, .f32⟩
  | 65 => ⟨S4x16x16x64, .f32⟩
  | 66 => ⟨S4x16x16x64, .f32⟩
  | 67 => ⟨S4x16x16x64, .f32⟩
  | 68 => ⟨S_, .f32⟩
  | 69 => ⟨S4x16x16x64, .f32⟩
  | 70 => ⟨S4x16x16x64, .f32⟩
  | 71 => ⟨S_, .f32⟩
  | 72 => ⟨S4x16x16x64, .f32⟩
  | 73 => ⟨S4x16x16x64, .f32⟩
  | 74 => ⟨S_, .f32⟩
  | 75 => ⟨S4x16x16x64, .f32⟩
  | 76 => ⟨S4x16x16x64, .f32⟩
  | 77 => ⟨S4x16x16x64, .f32⟩
  | 78 => ⟨S_, .f32⟩
  | 79 => ⟨S4x16x16x64, .f32⟩
  | 80 => ⟨S4x16x16x64, .f32⟩
  | 81 => ⟨S4x16x16x64, .f32⟩
  | 82 => ⟨S_, .f32⟩
  | 83 => ⟨S4x16x16x64, .f32⟩
  | 84 => ⟨S4x16x16x64, .f32⟩
  | 85 => ⟨S4x16x16x64, .f32⟩
  | 86 => ⟨S_, .f32⟩
  | 87 => ⟨S4x16x16x64, .f32⟩
  | 88 => ⟨S4x16x16x64, .f32⟩
  | 89 => ⟨S_, .f32⟩
  | 90 => ⟨S4x16x16x64, .f32⟩
  | 91 => ⟨S4x16x16x64, .f32⟩
  | 92 => ⟨S4x16x16x64, .f32⟩
  | 93 => ⟨S_, .f32⟩
  | 94 => ⟨S4x16x16x64, .f32⟩
  | 95 => ⟨S4x16x16x64, .f32⟩
  | 96 => ⟨S4x16x16x64, .f32⟩
  | 97 => ⟨S_, .f32⟩
  | 98 => ⟨S4x16x16x64, .f32⟩
  | 99 => ⟨S4x16x16x64, .f32⟩
  | 100 => ⟨S4x16x16x64, .f32⟩
  | 101 => ⟨S_, .f32⟩
  | 102 => ⟨S4x16x16x64, .f32⟩
  | 103 => ⟨S4x16x16x64, .f32⟩
  | 104 => ⟨S_, .f32⟩
  | 105 => ⟨S4x256, .f32⟩
  | 106 => ⟨S4x256, .f32⟩
  | 107 => ⟨S_, .f32⟩
  | 108 => ⟨S4x256, .f32⟩
  | 109 => ⟨S4x256, .f32⟩
  | 110 => ⟨S4x256, .f32⟩
  | 111 => ⟨S_, .f32⟩
  | 112 => ⟨S4x256, .f32⟩
  | 113 => ⟨S4x256, .f32⟩
  | 114 => ⟨S4x256, .f32⟩
  | 115 => ⟨S_, .f32⟩
  | 116 => ⟨S4x256, .f32⟩
  | 117 => ⟨S4x256, .f32⟩
  | 118 => ⟨S4x256, .f32⟩
  | 119 => ⟨S_, .f32⟩
  | 120 => ⟨S4x256, .f32⟩
  | 121 => ⟨S4x256, .f32⟩
  | 122 => ⟨S_, .f32⟩
  | 123 => ⟨S4x256, .f32⟩
  | 124 => ⟨S4x256, .f32⟩
  | 125 => ⟨S4x256, .f32⟩
  | 126 => ⟨S_, .f32⟩
  | 127 => ⟨S4x256, .f32⟩
  | _ => ⟨S4x6144, .f32⟩

abbrev hbmTy0_5 (i : Nat) : BufTy := match i % 128 with
  | 0 => ⟨S4x256, .f32⟩
  | 1 => ⟨S4x256, .f32⟩
  | 2 => ⟨S_, .f32⟩
  | 3 => ⟨S4x256, .f32⟩
  | 4 => ⟨S4x256, .f32⟩
  | 5 => ⟨S4x256, .f32⟩
  | 6 => ⟨S_, .f32⟩
  | 7 => ⟨S4x256, .f32⟩
  | 8 => ⟨S4x256, .f32⟩
  | 9 => ⟨S_, .f32⟩
  | 10 => ⟨S4x256, .f32⟩
  | 11 => ⟨S4x256, .f32⟩
  | 12 => ⟨S_, .f32⟩
  | 13 => ⟨S4x256, .f32⟩
  | 14 => ⟨S4x256, .f32⟩
  | 15 => ⟨S4x256, .f32⟩
  | 16 => ⟨S_, .f32⟩
  | 17 => ⟨S4x256, .f32⟩
  | 18 => ⟨S4x256, .f32⟩
  | 19 => ⟨S4x256, .f32⟩
  | 20 => ⟨S_, .f32⟩
  | 21 => ⟨S4x256, .f32⟩
  | 22 => ⟨S4x256, .f32⟩
  | 23 => ⟨S4x256, .f32⟩
  | 24 => ⟨S_, .f32⟩
  | 25 => ⟨S4x256, .f32⟩
  | 26 => ⟨S4x256, .f32⟩
  | 27 => ⟨S_, .f32⟩
  | 28 => ⟨S4x256, .f32⟩
  | 29 => ⟨S4x256, .f32⟩
  | 30 => ⟨S4x256, .f32⟩
  | 31 => ⟨S_, .f32⟩
  | 32 => ⟨S4x256, .f32⟩
  | 33 => ⟨S4x256, .f32⟩
  | 34 => ⟨S4x256, .f32⟩
  | 35 => ⟨S_, .f32⟩
  | 36 => ⟨S4x256, .f32⟩
  | 37 => ⟨S4x256, .f32⟩
  | 38 => ⟨S4x256, .f32⟩
  | 39 => ⟨S_, .f32⟩
  | 40 => ⟨S4x256, .f32⟩
  | 41 => ⟨S4x256, .f32⟩
  | 42 => ⟨S_, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S4x1024, .f32⟩
  | 53 => ⟨S_, .f32⟩
  | 54 => ⟨S4x1024, .f32⟩
  | 55 => ⟨S4x1024, .f32⟩
  | 56 => ⟨S4x1024, .f32⟩
  | 57 => ⟨S_, .f32⟩
  | 58 => ⟨S4x1024, .f32⟩
  | 59 => ⟨S4x1024, .f32⟩
  | 60 => ⟨S_, .f32⟩
  | 61 => ⟨S4x1024, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S4x1024, .f32⟩
  | 86 => ⟨S_, .f32⟩
  | 87 => ⟨S4x1024, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S_, .f32⟩
  | 94 => ⟨S4x1024, .f32⟩
  | 95 => ⟨S4x1024, .f32⟩
  | 96 => ⟨S4x1024, .f32⟩
  | 97 => ⟨S_, .f32⟩
  | 98 => ⟨S4x1024, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S4x1024, .f32⟩
  | 119 => ⟨S_, .f32⟩
  | 120 => ⟨S4x1024, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S_, .f32⟩
  | 127 => ⟨S4x1024, .f32⟩
  | _ => ⟨S4x6144, .f32⟩

abbrev hbmTy0_6 (i : Nat) : BufTy := match i % 128 with
  | 0 => ⟨S4x1024, .f32⟩
  | 1 => ⟨S4x1024, .f32⟩
  | 2 => ⟨S_, .f32⟩
  | 3 => ⟨S4x1024, .f32⟩
  | 4 => ⟨S4x1024, .f32⟩
  | 5 => ⟨S4x1024, .f32⟩
  | 6 => ⟨S_, .f32⟩
  | 7 => ⟨S4x1024, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S4x1024, .f32⟩
  | 24 => ⟨S_, .f32⟩
  | 25 => ⟨S4x1024, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S_, .f32⟩
  | 32 => ⟨S4x1024, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S_, .f32⟩
  | 44 => ⟨S4x1024, .f32⟩
  | 45 => ⟨S4x1024, .f32⟩
  | _ => ⟨S4x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x6144, .f32⟩

abbrev bufTy : (tb : Table) → Fin (tcTables nBuf tb) → BufTy
  | .hbm, ⟨i, _⟩ => hbmTy i
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_arg72 : Ref sig .tc := ⟨.hbm, 72, rfl⟩
abbrev main_arg73 : Ref sig .tc := ⟨.hbm, 73, rfl⟩
abbrev main_arg74 : Ref sig .tc := ⟨.hbm, 74, rfl⟩
abbrev main_arg75 : Ref sig .tc := ⟨.hbm, 75, rfl⟩
abbrev main_arg76 : Ref sig .tc := ⟨.hbm, 76, rfl⟩
abbrev main_arg77 : Ref sig .tc := ⟨.hbm, 77, rfl⟩
abbrev main_arg78 : Ref sig .tc := ⟨.hbm, 78, rfl⟩
abbrev main_arg79 : Ref sig .tc := ⟨.hbm, 79, rfl⟩
abbrev main_arg80 : Ref sig .tc := ⟨.hbm, 80, rfl⟩
abbrev main_arg81 : Ref sig .tc := ⟨.hbm, 81, rfl⟩
abbrev main_arg82 : Ref sig .tc := ⟨.hbm, 82, rfl⟩
abbrev main_arg83 : Ref sig .tc := ⟨.hbm, 83, rfl⟩
abbrev main_arg84 : Ref sig .tc := ⟨.hbm, 84, rfl⟩
abbrev main_arg85 : Ref sig .tc := ⟨.hbm, 85, rfl⟩
abbrev main_arg86 : Ref sig .tc := ⟨.hbm, 86, rfl⟩
abbrev main_arg87 : Ref sig .tc := ⟨.hbm, 87, rfl⟩
abbrev main_cst : Ref sig .tc := ⟨.hbm, 88, rfl⟩
abbrev main_v0 : Ref sig .tc := ⟨.hbm, 89, rfl⟩
abbrev main_v1 : Ref sig .tc := ⟨.hbm, 90, rfl⟩
abbrev main_cst_0 : Ref sig .tc := ⟨.hbm, 91, rfl⟩
abbrev main_v2 : Ref sig .tc := ⟨.hbm, 92, rfl⟩
abbrev main_v3 : Ref sig .tc := ⟨.hbm, 93, rfl⟩
abbrev main_v4 : Ref sig .tc := ⟨.hbm, 94, rfl⟩
abbrev main_cst_1 : Ref sig .tc := ⟨.hbm, 95, rfl⟩
abbrev main_v5 : Ref sig .tc := ⟨.hbm, 96, rfl⟩
abbrev main_v6 : Ref sig .tc := ⟨.hbm, 97, rfl⟩
abbrev main_v7 : Ref sig .tc := ⟨.hbm, 98, rfl⟩
abbrev main_cst_2 : Ref sig .tc := ⟨.hbm, 99, rfl⟩
abbrev main_v8 : Ref sig .tc := ⟨.hbm, 100, rfl⟩
abbrev main_v9 : Ref sig .tc := ⟨.hbm, 101, rfl⟩
abbrev main_v10 : Ref sig .tc := ⟨.hbm, 102, rfl⟩
abbrev main_cst_3 : Ref sig .tc := ⟨.hbm, 103, rfl⟩
abbrev main_v11 : Ref sig .tc := ⟨.hbm, 104, rfl⟩
abbrev main_v12 : Ref sig .tc := ⟨.hbm, 105, rfl⟩
abbrev main_cst_4 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_cst_5 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_cst_6 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_cst_7 : Ref sig .tc := ⟨.hbm, 118, rfl⟩
abbrev main_v22 : Ref sig .tc := ⟨.hbm, 119, rfl⟩
abbrev main_v23 : Ref sig .tc := ⟨.hbm, 120, rfl⟩
abbrev main_cst_8 : Ref sig .tc := ⟨.hbm, 121, rfl⟩
abbrev main_v24 : Ref sig .tc := ⟨.hbm, 122, rfl⟩
abbrev main_v25 : Ref sig .tc := ⟨.hbm, 123, rfl⟩
abbrev main_cst_9 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_cst_10 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_11 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_cst_12 : Ref sig .tc := ⟨.hbm, 136, rfl⟩
abbrev main_v35 : Ref sig .tc := ⟨.hbm, 137, rfl⟩
abbrev main_v36 : Ref sig .tc := ⟨.hbm, 138, rfl⟩
abbrev main_cst_13 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_cst_14 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_cst_15 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_cst_16 : Ref sig .tc := ⟨.hbm, 151, rfl⟩
abbrev main_v46 : Ref sig .tc := ⟨.hbm, 152, rfl⟩
abbrev main_v47 : Ref sig .tc := ⟨.hbm, 153, rfl⟩
abbrev main_cst_17 : Ref sig .tc := ⟨.hbm, 154, rfl⟩
abbrev main_v48 : Ref sig .tc := ⟨.hbm, 155, rfl⟩
abbrev main_v49 : Ref sig .tc := ⟨.hbm, 156, rfl⟩
abbrev main_cst_18 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_cst_19 : Ref sig .tc := ⟨.hbm, 161, rfl⟩
abbrev main_v53 : Ref sig .tc := ⟨.hbm, 162, rfl⟩
abbrev main_v54 : Ref sig .tc := ⟨.hbm, 163, rfl⟩
abbrev main_v55 : Ref sig .tc := ⟨.hbm, 164, rfl⟩
abbrev main_cst_20 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_cst_21 : Ref sig .tc := ⟨.hbm, 169, rfl⟩
abbrev main_v59 : Ref sig .tc := ⟨.hbm, 170, rfl⟩
abbrev main_v60 : Ref sig .tc := ⟨.hbm, 171, rfl⟩
abbrev main_cst_22 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_cst_23 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_cst_24 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_cst_25 : Ref sig .tc := ⟨.hbm, 184, rfl⟩
abbrev main_v70 : Ref sig .tc := ⟨.hbm, 185, rfl⟩
abbrev main_v71 : Ref sig .tc := ⟨.hbm, 186, rfl⟩
abbrev main_cst_26 : Ref sig .tc := ⟨.hbm, 187, rfl⟩
abbrev main_v72 : Ref sig .tc := ⟨.hbm, 188, rfl⟩
abbrev main_v73 : Ref sig .tc := ⟨.hbm, 189, rfl⟩
abbrev main_cst_27 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_cst_28 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_cst_29 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_cst_30 : Ref sig .tc := ⟨.hbm, 202, rfl⟩
abbrev main_v83 : Ref sig .tc := ⟨.hbm, 203, rfl⟩
abbrev main_v84 : Ref sig .tc := ⟨.hbm, 204, rfl⟩
abbrev main_cst_31 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_cst_32 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_33 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_cst_34 : Ref sig .tc := ⟨.hbm, 217, rfl⟩
abbrev main_v94 : Ref sig .tc := ⟨.hbm, 218, rfl⟩
abbrev main_v95 : Ref sig .tc := ⟨.hbm, 219, rfl⟩
abbrev main_cst_35 : Ref sig .tc := ⟨.hbm, 220, rfl⟩
abbrev main_v96 : Ref sig .tc := ⟨.hbm, 221, rfl⟩
abbrev main_v97 : Ref sig .tc := ⟨.hbm, 222, rfl⟩
abbrev main_cst_36 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_cst_37 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_cst_38 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_cst_39 : Ref sig .tc := ⟨.hbm, 235, rfl⟩
abbrev main_v107 : Ref sig .tc := ⟨.hbm, 236, rfl⟩
abbrev main_v108 : Ref sig .tc := ⟨.hbm, 237, rfl⟩
abbrev main_cst_40 : Ref sig .tc := ⟨.hbm, 238, rfl⟩
abbrev main_v109 : Ref sig .tc := ⟨.hbm, 239, rfl⟩
abbrev main_v110 : Ref sig .tc := ⟨.hbm, 240, rfl⟩
abbrev main_v111 : Ref sig .tc := ⟨.hbm, 241, rfl⟩
abbrev main_cst_41 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_cst_42 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_cst_43 : Ref sig .tc := ⟨.hbm, 250, rfl⟩
abbrev main_v118 : Ref sig .tc := ⟨.hbm, 251, rfl⟩
abbrev main_v119 : Ref sig .tc := ⟨.hbm, 252, rfl⟩
abbrev main_cst_44 : Ref sig .tc := ⟨.hbm, 253, rfl⟩
abbrev main_v120 : Ref sig .tc := ⟨.hbm, 254, rfl⟩
abbrev main_v121 : Ref sig .tc := ⟨.hbm, 255, rfl⟩
abbrev main_cst_45 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_cst_46 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_cst_47 : Ref sig .tc := ⟨.hbm, 264, rfl⟩
abbrev main_v128 : Ref sig .tc := ⟨.hbm, 265, rfl⟩
abbrev main_v129 : Ref sig .tc := ⟨.hbm, 266, rfl⟩
abbrev main_v130 : Ref sig .tc := ⟨.hbm, 267, rfl⟩
abbrev main_cst_48 : Ref sig .tc := ⟨.hbm, 268, rfl⟩
abbrev main_v131 : Ref sig .tc := ⟨.hbm, 269, rfl⟩
abbrev main_v132 : Ref sig .tc := ⟨.hbm, 270, rfl⟩
abbrev main_cst_49 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_cst_50 : Ref sig .tc := ⟨.hbm, 275, rfl⟩
abbrev main_v136 : Ref sig .tc := ⟨.hbm, 276, rfl⟩
abbrev main_v137 : Ref sig .tc := ⟨.hbm, 277, rfl⟩
abbrev main_v138 : Ref sig .tc := ⟨.hbm, 278, rfl⟩
abbrev main_cst_51 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_cst_52 : Ref sig .tc := ⟨.hbm, 283, rfl⟩
abbrev main_v142 : Ref sig .tc := ⟨.hbm, 284, rfl⟩
abbrev main_v143 : Ref sig .tc := ⟨.hbm, 285, rfl⟩
abbrev main_cst_53 : Ref sig .tc := ⟨.hbm, 286, rfl⟩
abbrev main_v144 : Ref sig .tc := ⟨.hbm, 287, rfl⟩
abbrev main_v145 : Ref sig .tc := ⟨.hbm, 288, rfl⟩
abbrev main_cst_54 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_cst_55 : Ref sig .tc := ⟨.hbm, 293, rfl⟩
abbrev main_v149 : Ref sig .tc := ⟨.hbm, 294, rfl⟩
abbrev main_v150 : Ref sig .tc := ⟨.hbm, 295, rfl⟩
abbrev main_v151 : Ref sig .tc := ⟨.hbm, 296, rfl⟩
abbrev main_cst_56 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_cst_57 : Ref sig .tc := ⟨.hbm, 301, rfl⟩
abbrev main_v155 : Ref sig .tc := ⟨.hbm, 302, rfl⟩
abbrev main_v156 : Ref sig .tc := ⟨.hbm, 303, rfl⟩
abbrev main_cst_58 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_cst_59 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_cst_60 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_cst_61 : Ref sig .tc := ⟨.hbm, 316, rfl⟩
abbrev main_v166 : Ref sig .tc := ⟨.hbm, 317, rfl⟩
abbrev main_v167 : Ref sig .tc := ⟨.hbm, 318, rfl⟩
abbrev main_cst_62 : Ref sig .tc := ⟨.hbm, 319, rfl⟩
abbrev main_v168 : Ref sig .tc := ⟨.hbm, 320, rfl⟩
abbrev main_v169 : Ref sig .tc := ⟨.hbm, 321, rfl⟩
abbrev main_cst_63 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_cst_64 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_cst_65 : Ref sig .tc := ⟨.hbm, 330, rfl⟩
abbrev main_v176 : Ref sig .tc := ⟨.hbm, 331, rfl⟩
abbrev main_v177 : Ref sig .tc := ⟨.hbm, 332, rfl⟩
abbrev main_v178 : Ref sig .tc := ⟨.hbm, 333, rfl⟩
abbrev main_cst_66 : Ref sig .tc := ⟨.hbm, 334, rfl⟩
abbrev main_v179 : Ref sig .tc := ⟨.hbm, 335, rfl⟩
abbrev main_v180 : Ref sig .tc := ⟨.hbm, 336, rfl⟩
abbrev main_cst_67 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_cst_68 : Ref sig .tc := ⟨.hbm, 341, rfl⟩
abbrev main_v184 : Ref sig .tc := ⟨.hbm, 342, rfl⟩
abbrev main_v185 : Ref sig .tc := ⟨.hbm, 343, rfl⟩
abbrev main_v186 : Ref sig .tc := ⟨.hbm, 344, rfl⟩
abbrev main_cst_69 : Ref sig .tc := ⟨.hbm, 345, rfl⟩
abbrev main_v187 : Ref sig .tc := ⟨.hbm, 346, rfl⟩
abbrev main_v188 : Ref sig .tc := ⟨.hbm, 347, rfl⟩
abbrev main_v189 : Ref sig .tc := ⟨.hbm, 348, rfl⟩
abbrev main_cst_70 : Ref sig .tc := ⟨.hbm, 349, rfl⟩
abbrev main_v190 : Ref sig .tc := ⟨.hbm, 350, rfl⟩
abbrev main_v191 : Ref sig .tc := ⟨.hbm, 351, rfl⟩
abbrev main_cst_71 : Ref sig .tc := ⟨.hbm, 352, rfl⟩
abbrev main_v192 : Ref sig .tc := ⟨.hbm, 353, rfl⟩
abbrev main_v193 : Ref sig .tc := ⟨.hbm, 354, rfl⟩
abbrev main_cst_72 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_cst_73 : Ref sig .tc := ⟨.hbm, 359, rfl⟩
abbrev main_v197 : Ref sig .tc := ⟨.hbm, 360, rfl⟩
abbrev main_v198 : Ref sig .tc := ⟨.hbm, 361, rfl⟩
abbrev main_v199 : Ref sig .tc := ⟨.hbm, 362, rfl⟩
abbrev main_cst_74 : Ref sig .tc := ⟨.hbm, 363, rfl⟩
abbrev main_v200 : Ref sig .tc := ⟨.hbm, 364, rfl⟩
abbrev main_v201 : Ref sig .tc := ⟨.hbm, 365, rfl⟩
abbrev main_v202 : Ref sig .tc := ⟨.hbm, 366, rfl⟩
abbrev main_cst_75 : Ref sig .tc := ⟨.hbm, 367, rfl⟩
abbrev main_v203 : Ref sig .tc := ⟨.hbm, 368, rfl⟩
abbrev main_v204 : Ref sig .tc := ⟨.hbm, 369, rfl⟩
abbrev main_cst_76 : Ref sig .tc := ⟨.hbm, 370, rfl⟩
abbrev main_v205 : Ref sig .tc := ⟨.hbm, 371, rfl⟩
abbrev main_v206 : Ref sig .tc := ⟨.hbm, 372, rfl⟩
abbrev main_v207 : Ref sig .tc := ⟨.hbm, 373, rfl⟩
abbrev main_cst_77 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_cst_78 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_cst_79 : Ref sig .tc := ⟨.hbm, 382, rfl⟩
abbrev main_v214 : Ref sig .tc := ⟨.hbm, 383, rfl⟩
abbrev main_v215 : Ref sig .tc := ⟨.hbm, 384, rfl⟩
abbrev main_cst_80 : Ref sig .tc := ⟨.hbm, 385, rfl⟩
abbrev main_v216 : Ref sig .tc := ⟨.hbm, 386, rfl⟩
abbrev main_v217 : Ref sig .tc := ⟨.hbm, 387, rfl⟩
abbrev main_cst_81 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_cst_82 : Ref sig .tc := ⟨.hbm, 392, rfl⟩
abbrev main_v221 : Ref sig .tc := ⟨.hbm, 393, rfl⟩
abbrev main_v222 : Ref sig .tc := ⟨.hbm, 394, rfl⟩
abbrev main_v223 : Ref sig .tc := ⟨.hbm, 395, rfl⟩
abbrev main_cst_83 : Ref sig .tc := ⟨.hbm, 396, rfl⟩
abbrev main_v224 : Ref sig .tc := ⟨.hbm, 397, rfl⟩
abbrev main_v225 : Ref sig .tc := ⟨.hbm, 398, rfl⟩
abbrev main_v226 : Ref sig .tc := ⟨.hbm, 399, rfl⟩
abbrev main_cst_84 : Ref sig .tc := ⟨.hbm, 400, rfl⟩
abbrev main_v227 : Ref sig .tc := ⟨.hbm, 401, rfl⟩
abbrev main_v228 : Ref sig .tc := ⟨.hbm, 402, rfl⟩
abbrev main_cst_85 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_cst_86 : Ref sig .tc := ⟨.hbm, 407, rfl⟩
abbrev main_v232 : Ref sig .tc := ⟨.hbm, 408, rfl⟩
abbrev main_v233 : Ref sig .tc := ⟨.hbm, 409, rfl⟩
abbrev main_v234 : Ref sig .tc := ⟨.hbm, 410, rfl⟩
abbrev main_cst_87 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_cst_88 : Ref sig .tc := ⟨.hbm, 415, rfl⟩
abbrev main_v238 : Ref sig .tc := ⟨.hbm, 416, rfl⟩
abbrev main_v239 : Ref sig .tc := ⟨.hbm, 417, rfl⟩
abbrev main_cst_89 : Ref sig .tc := ⟨.hbm, 418, rfl⟩
abbrev main_v240 : Ref sig .tc := ⟨.hbm, 419, rfl⟩
abbrev main_v241 : Ref sig .tc := ⟨.hbm, 420, rfl⟩
abbrev main_cst_90 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_cst_91 : Ref sig .tc := ⟨.hbm, 425, rfl⟩
abbrev main_v245 : Ref sig .tc := ⟨.hbm, 426, rfl⟩
abbrev main_v246 : Ref sig .tc := ⟨.hbm, 427, rfl⟩
abbrev main_v247 : Ref sig .tc := ⟨.hbm, 428, rfl⟩
abbrev main_cst_92 : Ref sig .tc := ⟨.hbm, 429, rfl⟩
abbrev main_v248 : Ref sig .tc := ⟨.hbm, 430, rfl⟩
abbrev main_v249 : Ref sig .tc := ⟨.hbm, 431, rfl⟩
abbrev main_v250 : Ref sig .tc := ⟨.hbm, 432, rfl⟩
abbrev main_cst_93 : Ref sig .tc := ⟨.hbm, 433, rfl⟩
abbrev main_v251 : Ref sig .tc := ⟨.hbm, 434, rfl⟩
abbrev main_v252 : Ref sig .tc := ⟨.hbm, 435, rfl⟩
abbrev main_cst_94 : Ref sig .tc := ⟨.hbm, 436, rfl⟩
abbrev main_v253 : Ref sig .tc := ⟨.hbm, 437, rfl⟩
abbrev main_v254 : Ref sig .tc := ⟨.hbm, 438, rfl⟩
abbrev main_v255 : Ref sig .tc := ⟨.hbm, 439, rfl⟩
abbrev main_cst_95 : Ref sig .tc := ⟨.hbm, 440, rfl⟩
abbrev main_v256 : Ref sig .tc := ⟨.hbm, 441, rfl⟩
abbrev main_v257 : Ref sig .tc := ⟨.hbm, 442, rfl⟩
abbrev main_v258 : Ref sig .tc := ⟨.hbm, 443, rfl⟩
abbrev main_cst_96 : Ref sig .tc := ⟨.hbm, 444, rfl⟩
abbrev main_v259 : Ref sig .tc := ⟨.hbm, 445, rfl⟩
abbrev main_v260 : Ref sig .tc := ⟨.hbm, 446, rfl⟩
abbrev main_v261 : Ref sig .tc := ⟨.hbm, 447, rfl⟩
abbrev main_cst_97 : Ref sig .tc := ⟨.hbm, 448, rfl⟩
abbrev main_v262 : Ref sig .tc := ⟨.hbm, 449, rfl⟩
abbrev main_v263 : Ref sig .tc := ⟨.hbm, 450, rfl⟩
abbrev main_cst_98 : Ref sig .tc := ⟨.hbm, 451, rfl⟩
abbrev main_v264 : Ref sig .tc := ⟨.hbm, 452, rfl⟩
abbrev main_v265 : Ref sig .tc := ⟨.hbm, 453, rfl⟩
abbrev main_cst_99 : Ref sig .tc := ⟨.hbm, 454, rfl⟩
abbrev main_v266 : Ref sig .tc := ⟨.hbm, 455, rfl⟩
abbrev main_v267 : Ref sig .tc := ⟨.hbm, 456, rfl⟩
abbrev main_v268 : Ref sig .tc := ⟨.hbm, 457, rfl⟩
abbrev main_cst_100 : Ref sig .tc := ⟨.hbm, 458, rfl⟩
abbrev main_v269 : Ref sig .tc := ⟨.hbm, 459, rfl⟩
abbrev main_v270 : Ref sig .tc := ⟨.hbm, 460, rfl⟩
abbrev main_v271 : Ref sig .tc := ⟨.hbm, 461, rfl⟩
abbrev main_cst_101 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_cst_102 : Ref sig .tc := ⟨.hbm, 466, rfl⟩
abbrev main_v275 : Ref sig .tc := ⟨.hbm, 467, rfl⟩
abbrev main_v276 : Ref sig .tc := ⟨.hbm, 468, rfl⟩
abbrev main_cst_103 : Ref sig .tc := ⟨.hbm, 469, rfl⟩
abbrev main_v277 : Ref sig .tc := ⟨.hbm, 470, rfl⟩
abbrev main_v278 : Ref sig .tc := ⟨.hbm, 471, rfl⟩
abbrev main_v279 : Ref sig .tc := ⟨.hbm, 472, rfl⟩
abbrev main_cst_104 : Ref sig .tc := ⟨.hbm, 473, rfl⟩
abbrev main_v280 : Ref sig .tc := ⟨.hbm, 474, rfl⟩
abbrev main_v281 : Ref sig .tc := ⟨.hbm, 475, rfl⟩
abbrev main_v282 : Ref sig .tc := ⟨.hbm, 476, rfl⟩
abbrev main_cst_105 : Ref sig .tc := ⟨.hbm, 477, rfl⟩
abbrev main_v283 : Ref sig .tc := ⟨.hbm, 478, rfl⟩
abbrev main_v284 : Ref sig .tc := ⟨.hbm, 479, rfl⟩
abbrev main_v285 : Ref sig .tc := ⟨.hbm, 480, rfl⟩
abbrev main_cst_106 : Ref sig .tc := ⟨.hbm, 481, rfl⟩
abbrev main_v286 : Ref sig .tc := ⟨.hbm, 482, rfl⟩
abbrev main_v287 : Ref sig .tc := ⟨.hbm, 483, rfl⟩
abbrev main_cst_107 : Ref sig .tc := ⟨.hbm, 484, rfl⟩
abbrev main_v288 : Ref sig .tc := ⟨.hbm, 485, rfl⟩
abbrev main_v289 : Ref sig .tc := ⟨.hbm, 486, rfl⟩
abbrev main_cst_108 : Ref sig .tc := ⟨.hbm, 487, rfl⟩
abbrev main_v290 : Ref sig .tc := ⟨.hbm, 488, rfl⟩
abbrev main_v291 : Ref sig .tc := ⟨.hbm, 489, rfl⟩
abbrev main_v292 : Ref sig .tc := ⟨.hbm, 490, rfl⟩
abbrev main_cst_109 : Ref sig .tc := ⟨.hbm, 491, rfl⟩
abbrev main_v293 : Ref sig .tc := ⟨.hbm, 492, rfl⟩
abbrev main_v294 : Ref sig .tc := ⟨.hbm, 493, rfl⟩
abbrev main_v295 : Ref sig .tc := ⟨.hbm, 494, rfl⟩
abbrev main_cst_110 : Ref sig .tc := ⟨.hbm, 495, rfl⟩
abbrev main_v296 : Ref sig .tc := ⟨.hbm, 496, rfl⟩
abbrev main_v297 : Ref sig .tc := ⟨.hbm, 497, rfl⟩
abbrev main_v298 : Ref sig .tc := ⟨.hbm, 498, rfl⟩
abbrev main_cst_111 : Ref sig .tc := ⟨.hbm, 499, rfl⟩
abbrev main_v299 : Ref sig .tc := ⟨.hbm, 500, rfl⟩
abbrev main_v300 : Ref sig .tc := ⟨.hbm, 501, rfl⟩
abbrev main_cst_112 : Ref sig .tc := ⟨.hbm, 502, rfl⟩
abbrev main_v301 : Ref sig .tc := ⟨.hbm, 503, rfl⟩
abbrev main_v302 : Ref sig .tc := ⟨.hbm, 504, rfl⟩
abbrev main_v303 : Ref sig .tc := ⟨.hbm, 505, rfl⟩
abbrev main_cst_113 : Ref sig .tc := ⟨.hbm, 506, rfl⟩
abbrev main_v304 : Ref sig .tc := ⟨.hbm, 507, rfl⟩
abbrev main_v305 : Ref sig .tc := ⟨.hbm, 508, rfl⟩
abbrev main_v306 : Ref sig .tc := ⟨.hbm, 509, rfl⟩
abbrev main_cst_114 : Ref sig .tc := ⟨.hbm, 510, rfl⟩
abbrev main_v307 : Ref sig .tc := ⟨.hbm, 511, rfl⟩
abbrev main_v308 : Ref sig .tc := ⟨.hbm, 512, rfl⟩
abbrev main_v309 : Ref sig .tc := ⟨.hbm, 513, rfl⟩
abbrev main_cst_115 : Ref sig .tc := ⟨.hbm, 514, rfl⟩
abbrev main_v310 : Ref sig .tc := ⟨.hbm, 515, rfl⟩
abbrev main_v311 : Ref sig .tc := ⟨.hbm, 516, rfl⟩
abbrev main_cst_116 : Ref sig .tc := ⟨.hbm, 517, rfl⟩
abbrev main_v312 : Ref sig .tc := ⟨.hbm, 518, rfl⟩
abbrev main_v313 : Ref sig .tc := ⟨.hbm, 519, rfl⟩
abbrev main_cst_117 : Ref sig .tc := ⟨.hbm, 520, rfl⟩
abbrev main_v314 : Ref sig .tc := ⟨.hbm, 521, rfl⟩
abbrev main_v315 : Ref sig .tc := ⟨.hbm, 522, rfl⟩
abbrev main_v316 : Ref sig .tc := ⟨.hbm, 523, rfl⟩
abbrev main_cst_118 : Ref sig .tc := ⟨.hbm, 524, rfl⟩
abbrev main_v317 : Ref sig .tc := ⟨.hbm, 525, rfl⟩
abbrev main_v318 : Ref sig .tc := ⟨.hbm, 526, rfl⟩
abbrev main_v319 : Ref sig .tc := ⟨.hbm, 527, rfl⟩
abbrev main_cst_119 : Ref sig .tc := ⟨.hbm, 528, rfl⟩
abbrev main_v320 : Ref sig .tc := ⟨.hbm, 529, rfl⟩
abbrev main_v321 : Ref sig .tc := ⟨.hbm, 530, rfl⟩
abbrev main_v322 : Ref sig .tc := ⟨.hbm, 531, rfl⟩
abbrev main_cst_120 : Ref sig .tc := ⟨.hbm, 532, rfl⟩
abbrev main_v323 : Ref sig .tc := ⟨.hbm, 533, rfl⟩
abbrev main_v324 : Ref sig .tc := ⟨.hbm, 534, rfl⟩
abbrev main_cst_121 : Ref sig .tc := ⟨.hbm, 535, rfl⟩
abbrev main_v325 : Ref sig .tc := ⟨.hbm, 536, rfl⟩
abbrev main_v326 : Ref sig .tc := ⟨.hbm, 537, rfl⟩
abbrev main_v327 : Ref sig .tc := ⟨.hbm, 538, rfl⟩
abbrev main_cst_122 : Ref sig .tc := ⟨.hbm, 539, rfl⟩
abbrev main_v328 : Ref sig .tc := ⟨.hbm, 540, rfl⟩
abbrev main_v329 : Ref sig .tc := ⟨.hbm, 541, rfl⟩
abbrev main_v330 : Ref sig .tc := ⟨.hbm, 542, rfl⟩
abbrev main_cst_123 : Ref sig .tc := ⟨.hbm, 543, rfl⟩
abbrev main_v331 : Ref sig .tc := ⟨.hbm, 544, rfl⟩
abbrev main_v332 : Ref sig .tc := ⟨.hbm, 545, rfl⟩
abbrev main_v333 : Ref sig .tc := ⟨.hbm, 546, rfl⟩
abbrev main_cst_124 : Ref sig .tc := ⟨.hbm, 547, rfl⟩
abbrev main_v334 : Ref sig .tc := ⟨.hbm, 548, rfl⟩
abbrev main_v335 : Ref sig .tc := ⟨.hbm, 549, rfl⟩
abbrev main_cst_125 : Ref sig .tc := ⟨.hbm, 550, rfl⟩
abbrev main_v336 : Ref sig .tc := ⟨.hbm, 551, rfl⟩
abbrev main_v337 : Ref sig .tc := ⟨.hbm, 552, rfl⟩
abbrev main_cst_126 : Ref sig .tc := ⟨.hbm, 553, rfl⟩
abbrev main_v338 : Ref sig .tc := ⟨.hbm, 554, rfl⟩
abbrev main_v339 : Ref sig .tc := ⟨.hbm, 555, rfl⟩
abbrev main_v340 : Ref sig .tc := ⟨.hbm, 556, rfl⟩
abbrev main_cst_127 : Ref sig .tc := ⟨.hbm, 557, rfl⟩
abbrev main_v341 : Ref sig .tc := ⟨.hbm, 558, rfl⟩
abbrev main_v342 : Ref sig .tc := ⟨.hbm, 559, rfl⟩
abbrev main_v343 : Ref sig .tc := ⟨.hbm, 560, rfl⟩
abbrev main_cst_128 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev main_cst_129 : Ref sig .tc := ⟨.hbm, 565, rfl⟩
abbrev main_v347 : Ref sig .tc := ⟨.hbm, 566, rfl⟩
abbrev main_v348 : Ref sig .tc := ⟨.hbm, 567, rfl⟩
abbrev main_cst_130 : Ref sig .tc := ⟨.hbm, 568, rfl⟩
abbrev main_v349 : Ref sig .tc := ⟨.hbm, 569, rfl⟩
abbrev main_v350 : Ref sig .tc := ⟨.hbm, 570, rfl⟩
abbrev main_v351 : Ref sig .tc := ⟨.hbm, 571, rfl⟩
abbrev main_cst_131 : Ref sig .tc := ⟨.hbm, 572, rfl⟩
abbrev main_v352 : Ref sig .tc := ⟨.hbm, 573, rfl⟩
abbrev main_v353 : Ref sig .tc := ⟨.hbm, 574, rfl⟩
abbrev main_v354 : Ref sig .tc := ⟨.hbm, 575, rfl⟩
abbrev main_cst_132 : Ref sig .tc := ⟨.hbm, 576, rfl⟩
abbrev main_v355 : Ref sig .tc := ⟨.hbm, 577, rfl⟩
abbrev main_v356 : Ref sig .tc := ⟨.hbm, 578, rfl⟩
abbrev main_v357 : Ref sig .tc := ⟨.hbm, 579, rfl⟩
abbrev main_cst_133 : Ref sig .tc := ⟨.hbm, 580, rfl⟩
abbrev main_v358 : Ref sig .tc := ⟨.hbm, 581, rfl⟩
abbrev main_v359 : Ref sig .tc := ⟨.hbm, 582, rfl⟩
abbrev main_cst_134 : Ref sig .tc := ⟨.hbm, 583, rfl⟩
abbrev main_v360 : Ref sig .tc := ⟨.hbm, 584, rfl⟩
abbrev main_v361 : Ref sig .tc := ⟨.hbm, 585, rfl⟩
abbrev main_cst_135 : Ref sig .tc := ⟨.hbm, 586, rfl⟩
abbrev main_v362 : Ref sig .tc := ⟨.hbm, 587, rfl⟩
abbrev main_v363 : Ref sig .tc := ⟨.hbm, 588, rfl⟩
abbrev main_v364 : Ref sig .tc := ⟨.hbm, 589, rfl⟩
abbrev main_cst_136 : Ref sig .tc := ⟨.hbm, 590, rfl⟩
abbrev main_v365 : Ref sig .tc := ⟨.hbm, 591, rfl⟩
abbrev main_v366 : Ref sig .tc := ⟨.hbm, 592, rfl⟩
abbrev main_v367 : Ref sig .tc := ⟨.hbm, 593, rfl⟩
abbrev main_cst_137 : Ref sig .tc := ⟨.hbm, 594, rfl⟩
abbrev main_v368 : Ref sig .tc := ⟨.hbm, 595, rfl⟩
abbrev main_v369 : Ref sig .tc := ⟨.hbm, 596, rfl⟩
abbrev main_v370 : Ref sig .tc := ⟨.hbm, 597, rfl⟩
abbrev main_cst_138 : Ref sig .tc := ⟨.hbm, 598, rfl⟩
abbrev main_v371 : Ref sig .tc := ⟨.hbm, 599, rfl⟩
abbrev main_v372 : Ref sig .tc := ⟨.hbm, 600, rfl⟩
abbrev main_cst_139 : Ref sig .tc := ⟨.hbm, 601, rfl⟩
abbrev main_v373 : Ref sig .tc := ⟨.hbm, 602, rfl⟩
abbrev main_v374 : Ref sig .tc := ⟨.hbm, 603, rfl⟩
abbrev main_v375 : Ref sig .tc := ⟨.hbm, 604, rfl⟩
abbrev main_cst_140 : Ref sig .tc := ⟨.hbm, 605, rfl⟩
abbrev main_v376 : Ref sig .tc := ⟨.hbm, 606, rfl⟩
abbrev main_v377 : Ref sig .tc := ⟨.hbm, 607, rfl⟩
abbrev main_v378 : Ref sig .tc := ⟨.hbm, 608, rfl⟩
abbrev main_cst_141 : Ref sig .tc := ⟨.hbm, 609, rfl⟩
abbrev main_v379 : Ref sig .tc := ⟨.hbm, 610, rfl⟩
abbrev main_v380 : Ref sig .tc := ⟨.hbm, 611, rfl⟩
abbrev main_v381 : Ref sig .tc := ⟨.hbm, 612, rfl⟩
abbrev main_cst_142 : Ref sig .tc := ⟨.hbm, 613, rfl⟩
abbrev main_v382 : Ref sig .tc := ⟨.hbm, 614, rfl⟩
abbrev main_v383 : Ref sig .tc := ⟨.hbm, 615, rfl⟩
abbrev main_cst_143 : Ref sig .tc := ⟨.hbm, 616, rfl⟩
abbrev main_v384 : Ref sig .tc := ⟨.hbm, 617, rfl⟩
abbrev main_v385 : Ref sig .tc := ⟨.hbm, 618, rfl⟩
abbrev main_cst_144 : Ref sig .tc := ⟨.hbm, 619, rfl⟩
abbrev main_v386 : Ref sig .tc := ⟨.hbm, 620, rfl⟩
abbrev main_v387 : Ref sig .tc := ⟨.hbm, 621, rfl⟩
abbrev main_v388 : Ref sig .tc := ⟨.hbm, 622, rfl⟩
abbrev main_cst_145 : Ref sig .tc := ⟨.hbm, 623, rfl⟩
abbrev main_v389 : Ref sig .tc := ⟨.hbm, 624, rfl⟩
abbrev main_v390 : Ref sig .tc := ⟨.hbm, 625, rfl⟩
abbrev main_v391 : Ref sig .tc := ⟨.hbm, 626, rfl⟩
abbrev main_cst_146 : Ref sig .tc := ⟨.hbm, 627, rfl⟩
abbrev main_v392 : Ref sig .tc := ⟨.hbm, 628, rfl⟩
abbrev main_v393 : Ref sig .tc := ⟨.hbm, 629, rfl⟩
abbrev main_v394 : Ref sig .tc := ⟨.hbm, 630, rfl⟩
abbrev main_cst_147 : Ref sig .tc := ⟨.hbm, 631, rfl⟩
abbrev main_v395 : Ref sig .tc := ⟨.hbm, 632, rfl⟩
abbrev main_v396 : Ref sig .tc := ⟨.hbm, 633, rfl⟩
abbrev main_cst_148 : Ref sig .tc := ⟨.hbm, 634, rfl⟩
abbrev main_v397 : Ref sig .tc := ⟨.hbm, 635, rfl⟩
abbrev main_v398 : Ref sig .tc := ⟨.hbm, 636, rfl⟩
abbrev main_v399 : Ref sig .tc := ⟨.hbm, 637, rfl⟩
abbrev main_cst_149 : Ref sig .tc := ⟨.hbm, 638, rfl⟩
abbrev main_v400 : Ref sig .tc := ⟨.hbm, 639, rfl⟩
abbrev main_v401 : Ref sig .tc := ⟨.hbm, 640, rfl⟩
abbrev main_v402 : Ref sig .tc := ⟨.hbm, 641, rfl⟩
abbrev main_cst_150 : Ref sig .tc := ⟨.hbm, 642, rfl⟩
abbrev main_v403 : Ref sig .tc := ⟨.hbm, 643, rfl⟩
abbrev main_v404 : Ref sig .tc := ⟨.hbm, 644, rfl⟩
abbrev main_v405 : Ref sig .tc := ⟨.hbm, 645, rfl⟩
abbrev main_cst_151 : Ref sig .tc := ⟨.hbm, 646, rfl⟩
abbrev main_v406 : Ref sig .tc := ⟨.hbm, 647, rfl⟩
abbrev main_v407 : Ref sig .tc := ⟨.hbm, 648, rfl⟩
abbrev main_cst_152 : Ref sig .tc := ⟨.hbm, 649, rfl⟩
abbrev main_v408 : Ref sig .tc := ⟨.hbm, 650, rfl⟩
abbrev main_v409 : Ref sig .tc := ⟨.hbm, 651, rfl⟩
abbrev main_cst_153 : Ref sig .tc := ⟨.hbm, 652, rfl⟩
abbrev main_v410 : Ref sig .tc := ⟨.hbm, 653, rfl⟩
abbrev main_v411 : Ref sig .tc := ⟨.hbm, 654, rfl⟩
abbrev main_v412 : Ref sig .tc := ⟨.hbm, 655, rfl⟩
abbrev main_cst_154 : Ref sig .tc := ⟨.hbm, 656, rfl⟩
abbrev main_v413 : Ref sig .tc := ⟨.hbm, 657, rfl⟩
abbrev main_v414 : Ref sig .tc := ⟨.hbm, 658, rfl⟩
abbrev main_v415 : Ref sig .tc := ⟨.hbm, 659, rfl⟩
abbrev main_cst_155 : Ref sig .tc := ⟨.hbm, 660, rfl⟩
abbrev main_v416 : Ref sig .tc := ⟨.hbm, 661, rfl⟩
abbrev main_v417 : Ref sig .tc := ⟨.hbm, 662, rfl⟩
abbrev main_v418 : Ref sig .tc := ⟨.hbm, 663, rfl⟩
abbrev main_cst_156 : Ref sig .tc := ⟨.hbm, 664, rfl⟩
abbrev main_v419 : Ref sig .tc := ⟨.hbm, 665, rfl⟩
abbrev main_v420 : Ref sig .tc := ⟨.hbm, 666, rfl⟩
abbrev main_cst_157 : Ref sig .tc := ⟨.hbm, 667, rfl⟩
abbrev main_v421 : Ref sig .tc := ⟨.hbm, 668, rfl⟩
abbrev main_v422 : Ref sig .tc := ⟨.hbm, 669, rfl⟩
abbrev main_v423 : Ref sig .tc := ⟨.hbm, 670, rfl⟩
abbrev main_cst_158 : Ref sig .tc := ⟨.hbm, 671, rfl⟩
abbrev main_v424 : Ref sig .tc := ⟨.hbm, 672, rfl⟩
abbrev main_v425 : Ref sig .tc := ⟨.hbm, 673, rfl⟩
abbrev main_v426 : Ref sig .tc := ⟨.hbm, 674, rfl⟩
abbrev main_cst_159 : Ref sig .tc := ⟨.hbm, 675, rfl⟩
abbrev main_v427 : Ref sig .tc := ⟨.hbm, 676, rfl⟩
abbrev main_v428 : Ref sig .tc := ⟨.hbm, 677, rfl⟩
abbrev main_v429 : Ref sig .tc := ⟨.hbm, 678, rfl⟩
abbrev main_cst_160 : Ref sig .tc := ⟨.hbm, 679, rfl⟩
abbrev main_v430 : Ref sig .tc := ⟨.hbm, 680, rfl⟩
abbrev main_v431 : Ref sig .tc := ⟨.hbm, 681, rfl⟩
abbrev main_cst_161 : Ref sig .tc := ⟨.hbm, 682, rfl⟩
abbrev main_v432 : Ref sig .tc := ⟨.hbm, 683, rfl⟩
abbrev main_v433 : Ref sig .tc := ⟨.hbm, 684, rfl⟩
abbrev main_cst_162 : Ref sig .tc := ⟨.hbm, 685, rfl⟩
abbrev main_v434 : Ref sig .tc := ⟨.hbm, 686, rfl⟩
abbrev main_v435 : Ref sig .tc := ⟨.hbm, 687, rfl⟩
abbrev main_v436 : Ref sig .tc := ⟨.hbm, 688, rfl⟩
abbrev main_cst_163 : Ref sig .tc := ⟨.hbm, 689, rfl⟩
abbrev main_v437 : Ref sig .tc := ⟨.hbm, 690, rfl⟩
abbrev main_v438 : Ref sig .tc := ⟨.hbm, 691, rfl⟩
abbrev main_v439 : Ref sig .tc := ⟨.hbm, 692, rfl⟩
abbrev main_cst_164 : Ref sig .tc := ⟨.hbm, 693, rfl⟩
abbrev main_v440 : Ref sig .tc := ⟨.hbm, 694, rfl⟩
abbrev main_v441 : Ref sig .tc := ⟨.hbm, 695, rfl⟩
abbrev main_v442 : Ref sig .tc := ⟨.hbm, 696, rfl⟩
abbrev main_cst_165 : Ref sig .tc := ⟨.hbm, 697, rfl⟩
abbrev main_v443 : Ref sig .tc := ⟨.hbm, 698, rfl⟩
abbrev main_v444 : Ref sig .tc := ⟨.hbm, 699, rfl⟩
abbrev main_cst_166 : Ref sig .tc := ⟨.hbm, 700, rfl⟩
abbrev main_v445 : Ref sig .tc := ⟨.hbm, 701, rfl⟩
abbrev main_v446 : Ref sig .tc := ⟨.hbm, 702, rfl⟩
abbrev main_v447 : Ref sig .tc := ⟨.hbm, 703, rfl⟩
abbrev main_cst_167 : Ref sig .tc := ⟨.hbm, 704, rfl⟩
abbrev main_v448 : Ref sig .tc := ⟨.hbm, 705, rfl⟩
abbrev main_v449 : Ref sig .tc := ⟨.hbm, 706, rfl⟩
abbrev main_v450 : Ref sig .tc := ⟨.hbm, 707, rfl⟩
abbrev main_cst_168 : Ref sig .tc := ⟨.hbm, 708, rfl⟩
abbrev main_v451 : Ref sig .tc := ⟨.hbm, 709, rfl⟩
abbrev main_v452 : Ref sig .tc := ⟨.hbm, 710, rfl⟩
abbrev main_v453 : Ref sig .tc := ⟨.hbm, 711, rfl⟩
abbrev main_cst_169 : Ref sig .tc := ⟨.hbm, 712, rfl⟩
abbrev main_v454 : Ref sig .tc := ⟨.hbm, 713, rfl⟩
abbrev main_v455 : Ref sig .tc := ⟨.hbm, 714, rfl⟩
abbrev main_cst_170 : Ref sig .tc := ⟨.hbm, 715, rfl⟩
abbrev main_v456 : Ref sig .tc := ⟨.hbm, 716, rfl⟩
abbrev main_v457 : Ref sig .tc := ⟨.hbm, 717, rfl⟩
abbrev main_cst_171 : Ref sig .tc := ⟨.hbm, 718, rfl⟩
abbrev main_v458 : Ref sig .tc := ⟨.hbm, 719, rfl⟩
abbrev main_v459 : Ref sig .tc := ⟨.hbm, 720, rfl⟩
abbrev main_v460 : Ref sig .tc := ⟨.hbm, 721, rfl⟩
abbrev main_cst_172 : Ref sig .tc := ⟨.hbm, 722, rfl⟩
abbrev main_v461 : Ref sig .tc := ⟨.hbm, 723, rfl⟩
abbrev main_v462 : Ref sig .tc := ⟨.hbm, 724, rfl⟩
abbrev main_v463 : Ref sig .tc := ⟨.hbm, 725, rfl⟩
abbrev main_cst_173 : Ref sig .tc := ⟨.hbm, 726, rfl⟩
abbrev main_v464 : Ref sig .tc := ⟨.hbm, 727, rfl⟩
abbrev main_v465 : Ref sig .tc := ⟨.hbm, 728, rfl⟩
abbrev main_v466 : Ref sig .tc := ⟨.hbm, 729, rfl⟩
abbrev main_cst_174 : Ref sig .tc := ⟨.hbm, 730, rfl⟩
abbrev main_v467 : Ref sig .tc := ⟨.hbm, 731, rfl⟩
abbrev main_v468 : Ref sig .tc := ⟨.hbm, 732, rfl⟩
abbrev main_cst_175 : Ref sig .tc := ⟨.hbm, 733, rfl⟩
abbrev main_v469 : Ref sig .tc := ⟨.hbm, 734, rfl⟩
abbrev main_v470 : Ref sig .tc := ⟨.hbm, 735, rfl⟩
abbrev main_v471 : Ref sig .tc := ⟨.hbm, 736, rfl⟩
abbrev main_cst_176 : Ref sig .tc := ⟨.hbm, 737, rfl⟩
abbrev main_v472 : Ref sig .tc := ⟨.hbm, 738, rfl⟩
abbrev main_v473 : Ref sig .tc := ⟨.hbm, 739, rfl⟩
abbrev main_v474 : Ref sig .tc := ⟨.hbm, 740, rfl⟩
abbrev main_cst_177 : Ref sig .tc := ⟨.hbm, 741, rfl⟩
abbrev main_v475 : Ref sig .tc := ⟨.hbm, 742, rfl⟩
abbrev main_v476 : Ref sig .tc := ⟨.hbm, 743, rfl⟩
abbrev main_v477 : Ref sig .tc := ⟨.hbm, 744, rfl⟩
abbrev main_cst_178 : Ref sig .tc := ⟨.hbm, 745, rfl⟩
abbrev main_v478 : Ref sig .tc := ⟨.hbm, 746, rfl⟩
abbrev main_v479 : Ref sig .tc := ⟨.hbm, 747, rfl⟩
abbrev main_cst_179 : Ref sig .tc := ⟨.hbm, 748, rfl⟩
abbrev main_v480 : Ref sig .tc := ⟨.hbm, 749, rfl⟩
abbrev main_v481 : Ref sig .tc := ⟨.hbm, 750, rfl⟩
abbrev main_cst_180 : Ref sig .tc := ⟨.hbm, 751, rfl⟩
abbrev main_v482 : Ref sig .tc := ⟨.hbm, 752, rfl⟩
abbrev main_v483 : Ref sig .tc := ⟨.hbm, 753, rfl⟩
abbrev main_v484 : Ref sig .tc := ⟨.hbm, 754, rfl⟩
abbrev main_cst_181 : Ref sig .tc := ⟨.hbm, 755, rfl⟩
abbrev main_v485 : Ref sig .tc := ⟨.hbm, 756, rfl⟩
abbrev main_v486 : Ref sig .tc := ⟨.hbm, 757, rfl⟩
abbrev main_v487 : Ref sig .tc := ⟨.hbm, 758, rfl⟩
abbrev main_cst_182 : Ref sig .tc := ⟨.hbm, 759, rfl⟩
abbrev main_v488 : Ref sig .tc := ⟨.hbm, 760, rfl⟩
abbrev main_v489 : Ref sig .tc := ⟨.hbm, 761, rfl⟩
abbrev main_v490 : Ref sig .tc := ⟨.hbm, 762, rfl⟩
abbrev main_cst_183 : Ref sig .tc := ⟨.hbm, 763, rfl⟩
abbrev main_v491 : Ref sig .tc := ⟨.hbm, 764, rfl⟩
abbrev main_v492 : Ref sig .tc := ⟨.hbm, 765, rfl⟩
abbrev main_cst_184 : Ref sig .tc := ⟨.hbm, 766, rfl⟩
abbrev main_v493 : Ref sig .tc := ⟨.hbm, 767, rfl⟩
abbrev main_v494 : Ref sig .tc := ⟨.hbm, 768, rfl⟩
abbrev main_v495 : Ref sig .tc := ⟨.hbm, 769, rfl⟩
abbrev main_cst_185 : Ref sig .tc := ⟨.hbm, 770, rfl⟩
abbrev main_v496 : Ref sig .tc := ⟨.hbm, 771, rfl⟩
abbrev main_v497 : Ref sig .tc := ⟨.hbm, 772, rfl⟩
abbrev main_v498 : Ref sig .tc := ⟨.hbm, 773, rfl⟩
abbrev main_cst_186 : Ref sig .tc := ⟨.hbm, 774, rfl⟩
abbrev main_v499 : Ref sig .tc := ⟨.hbm, 775, rfl⟩
abbrev main_v500 : Ref sig .tc := ⟨.hbm, 776, rfl⟩
abbrev main_v501 : Ref sig .tc := ⟨.hbm, 777, rfl⟩
abbrev main_cst_187 : Ref sig .tc := ⟨.hbm, 778, rfl⟩
abbrev main_v502 : Ref sig .tc := ⟨.hbm, 779, rfl⟩
abbrev main_v503 : Ref sig .tc := ⟨.hbm, 780, rfl⟩
abbrev main_cst_188 : Ref sig .tc := ⟨.hbm, 781, rfl⟩
abbrev main_v504 : Ref sig .tc := ⟨.hbm, 782, rfl⟩
abbrev main_v505 : Ref sig .tc := ⟨.hbm, 783, rfl⟩
abbrev main_cst_189 : Ref sig .tc := ⟨.hbm, 784, rfl⟩
abbrev main_v506 : Ref sig .tc := ⟨.hbm, 785, rfl⟩
abbrev main_v507 : Ref sig .tc := ⟨.hbm, 786, rfl⟩
abbrev main_v508 : Ref sig .tc := ⟨.hbm, 787, rfl⟩
abbrev main_cst_190 : Ref sig .tc := ⟨.hbm, 788, rfl⟩
abbrev main_v509 : Ref sig .tc := ⟨.hbm, 789, rfl⟩
abbrev main_v510 : Ref sig .tc := ⟨.hbm, 790, rfl⟩
abbrev main_v511 : Ref sig .tc := ⟨.hbm, 791, rfl⟩
abbrev main_cst_191 : Ref sig .tc := ⟨.hbm, 792, rfl⟩
abbrev main_v512 : Ref sig .tc := ⟨.hbm, 793, rfl⟩
abbrev main_v513 : Ref sig .tc := ⟨.hbm, 794, rfl⟩
abbrev main_v514 : Ref sig .tc := ⟨.hbm, 795, rfl⟩
abbrev main_cst_192 : Ref sig .tc := ⟨.hbm, 796, rfl⟩
abbrev main_v515 : Ref sig .tc := ⟨.hbm, 797, rfl⟩
abbrev main_v516 : Ref sig .tc := ⟨.hbm, 798, rfl⟩
abbrev main_cst_193 : Ref sig .tc := ⟨.hbm, 799, rfl⟩
abbrev main_v517 : Ref sig .tc := ⟨.hbm, 800, rfl⟩
abbrev main_v518 : Ref sig .tc := ⟨.hbm, 801, rfl⟩
abbrev main_v519 : Ref sig .tc := ⟨.hbm, 802, rfl⟩
abbrev main_cst_194 : Ref sig .tc := ⟨.hbm, 803, rfl⟩
abbrev main_v520 : Ref sig .tc := ⟨.hbm, 804, rfl⟩
abbrev main_v521 : Ref sig .tc := ⟨.hbm, 805, rfl⟩
abbrev main_v522 : Ref sig .tc := ⟨.hbm, 806, rfl⟩
abbrev main_cst_195 : Ref sig .tc := ⟨.hbm, 807, rfl⟩
abbrev main_v523 : Ref sig .tc := ⟨.hbm, 808, rfl⟩
abbrev main_v524 : Ref sig .tc := ⟨.hbm, 809, rfl⟩
abbrev main_v525 : Ref sig .tc := ⟨.hbm, 810, rfl⟩
abbrev main_cst_196 : Ref sig .tc := ⟨.hbm, 811, rfl⟩
abbrev main_v526 : Ref sig .tc := ⟨.hbm, 812, rfl⟩
abbrev main_v527 : Ref sig .tc := ⟨.hbm, 813, rfl⟩

abbrev nD : Nat := 1
abbrev τ : Topo := Topo.v7x

variable {F : FTy → Type} [FloatOps F]
-- ==== Kernel18.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel19.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8x1024 : Shape := ⟨2, ![8, 1024]⟩
abbrev S4x8x1536 : Shape := ⟨3, ![4, 8, 1536]⟩
abbrev S_ : Shape := ⟨0, ![]⟩
abbrev S4x1024x1536 : Shape := ⟨3, ![4, 1024, 1536]⟩
abbrev S4x1536x8 : Shape := ⟨3, ![4, 1536, 8]⟩
abbrev S4x1536x1024 : Shape := ⟨3, ![4, 1536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S4x1024x1536, .f32⟩
  | .hbm, ⟨13, _⟩ => ⟨S4x1536x8, .f32⟩
  | .hbm, ⟨14, _⟩ => ⟨S4x8x1536, .f32⟩
  | .hbm, ⟨15, _⟩ => ⟨S4x1536x8, .f32⟩
  | .hbm, ⟨16, _⟩ => ⟨S4x1536x1024, .f32⟩
  | .hbm, ⟨17, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel20.lean ====
abbrev S8x1024 : Shape := ⟨2, ![8, 1024]⟩
abbrev S4x1024x1536 : Shape := ⟨3, ![4, 1024, 1536]⟩
abbrev S4x8x1536 : Shape := ⟨3, ![4, 8, 1536]⟩
abbrev S1x1024x512 : Shape := ⟨3, ![1, 1024, 512]⟩
abbrev S1x8x512 : Shape := ⟨3, ![1, 8, 512]⟩
abbrev S1024x512 : Shape := ⟨2, ![1024, 512]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x8x512, .f32⟩
  | .local _ .vmem, ⟨4, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S8x1024 : Shape := ⟨2, ![8, 1024]⟩
abbrev S4x1024x1536 : Shape := ⟨3, ![4, 1024, 1536]⟩
abbrev S_ : Shape := ⟨0, ![]⟩
abbrev S4x1536x8 : Shape := ⟨3, ![4, 1536, 8]⟩
abbrev S4x8x1536 : Shape := ⟨3, ![4, 8, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S4x1536x8, .f32⟩
  | .hbm, ⟨12, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel21.lean ====
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S128x1024 : Shape := ⟨2, ![128, 1024]⟩
abbrev S224x256 : Shape := ⟨2, ![224, 256]⟩
abbrev S32x256 : Shape := ⟨2, ![32, 256]⟩
abbrev S1024x64 : Shape := ⟨2, ![1024, 64]⟩
abbrev S1024x128 : Shape := ⟨2, ![1024, 128]⟩
abbrev S32x2048 : Shape := ⟨2, ![32, 2048]⟩
abbrev S32x1536 : Shape := ⟨2, ![32, 1536]⟩

abbrev nBuf : Space → Nat
  | .hbm => 16
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1792x256, .f32⟩
  | .hbm, ⟨2, _⟩ => ⟨S256x256, .f32⟩
  | .hbm, ⟨3, _⟩ => ⟨S8192x64, .f32⟩
  | .hbm, ⟨4, _⟩ => ⟨S8192x128, .f32⟩
  | .hbm, ⟨5, _⟩ => ⟨S8192x128, .f32⟩
  | .hbm, ⟨6, _⟩ => ⟨S256x2048, .f32⟩
  | .hbm, ⟨7, _⟩ => ⟨S256x1536, .f32⟩
  | .hbm, ⟨8, _⟩ => ⟨S128x1024, .f32⟩
  | .hbm, ⟨9, _⟩ => ⟨S224x256, .f32⟩
  | .hbm, ⟨10, _⟩ => ⟨S32x256, .f32⟩
  | .hbm, ⟨11, _⟩ => ⟨S1024x64, .f32⟩
  | .hbm, ⟨12, _⟩ => ⟨S1024x128, .f32⟩
  | .hbm, ⟨13, _⟩ => ⟨S1024x128, .f32⟩
  | .hbm, ⟨14, _⟩ => ⟨S32x2048, .f32⟩
  | .hbm, ⟨15, _⟩ => ⟨S32x1536, .f32⟩
  | .local _ .vmem, ⟨0, _⟩ => ⟨S1024x1024, .f32⟩
  | .local _ .vmem, ⟨1, _⟩ => ⟨S1792x256, .f32⟩
  | .local _ .vmem, ⟨2, _⟩ => ⟨S256x256, .f32⟩
  | .local _ .vmem, ⟨3, _⟩ => ⟨S8192x64, .f32⟩
  | .local _ .vmem, ⟨4, _⟩ => ⟨S8192x128, .f32⟩
  | .local _ .vmem, ⟨5, _⟩ => ⟨S8192x128, .f32⟩
  | .local _ .vmem, ⟨6, _⟩ => ⟨S256x2048, .f32⟩
  | .local _ .vmem, ⟨7, _⟩ => ⟨S256x1536, .f32⟩
  | .local _ .vmem, ⟨8, _⟩ => ⟨S128x1024, .f32⟩
  | .local _ .vmem, ⟨9, _⟩ => ⟨S224x256, .f32⟩
  | .local _ .vmem, ⟨10, _⟩ => ⟨S32x256, .f32⟩
  | .local _ .vmem, ⟨11, _⟩ => ⟨S1024x64, .f32⟩
  | .local _ .vmem, ⟨12, _⟩ => ⟨S1024x128, .f32⟩
  | .local _ .vmem, ⟨13, _⟩ => ⟨S1024x128, .f32⟩
  | .local _ .vmem, ⟨14, _⟩ => ⟨S32x2048, .f32⟩
  | .local _ .vmem, ⟨15, _⟩ => ⟨S32x1536, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S224x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference21Ideal.lean ====
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S8x128x1024 : Shape := ⟨3, ![8, 128, 1024]⟩
abbrev S_ : Shape := ⟨0, ![]⟩
abbrev S128x1024 : Shape := ⟨2, ![128, 1024]⟩
abbrev S8x224x256 : Shape := ⟨3, ![8, 224, 256]⟩
abbrev S224x256 : Shape := ⟨2, ![224, 256]⟩
abbrev S8x32x256 : Shape := ⟨3, ![8, 32, 256]⟩
abbrev S32x256 : Shape := ⟨2, ![32, 256]⟩
abbrev S8x1024x64 : Shape := ⟨3, ![8, 1024, 64]⟩
abbrev S1024x64 : Shape := ⟨2, ![1024, 64]⟩
abbrev S8x1024x128 : Shape := ⟨3, ![8, 1024, 128]⟩
abbrev S1024x128 : Shape := ⟨2, ![1024, 128]⟩
abbrev S8x32x2048 : Shape := ⟨3, ![8, 32, 2048]⟩
abbrev S32x2048 : Shape := ⟨2, ![32, 2048]⟩
abbrev S8x32x1536 : Shape := ⟨3, ![8, 32, 1536]⟩
abbrev S32x1536 : Shape := ⟨2, ![32, 1536]⟩

abbrev nBuf : Space → Nat
  | .hbm => 32
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1792x256, .f32⟩
  | .hbm, ⟨2, _⟩ => ⟨S256x256, .f32⟩
  | .hbm, ⟨3, _⟩ => ⟨S8192x64, .f32⟩
  | .hbm, ⟨4, _⟩ => ⟨S8192x128, .f32⟩
  | .hbm, ⟨5, _⟩ => ⟨S8192x128, .f32⟩
  | .hbm, ⟨6, _⟩ => ⟨S256x2048, .f32⟩
  | .hbm, ⟨7, _⟩ => ⟨S256x1536, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S8x224x256, .f32⟩
  | .hbm, ⟨12, _⟩ => ⟨S_, .f32⟩
  | .hbm, ⟨13, _⟩ => ⟨S224x256, .f32⟩
  | .hbm, ⟨14, _⟩ => ⟨S8x32x256, .f32⟩
  | .hbm, ⟨15, _⟩ => ⟨S_, .f32⟩
  | .hbm, ⟨16, _⟩ => ⟨S32x256, .f32⟩
  | .hbm, ⟨17, _⟩ => ⟨S8x1024x64, .f32⟩
  | .hbm, ⟨18, _⟩ => ⟨S_, .f32⟩
  | .hbm, ⟨19, _⟩ => ⟨S1024x64, .f32⟩
  | .hbm, ⟨20, _⟩ => ⟨S8x1024x128, .f32⟩
  | .hbm, ⟨21, _⟩ => ⟨S_, .f32⟩
  | .hbm, ⟨22, _⟩ => ⟨S1024x128, .f32⟩
  | .hbm, ⟨23, _⟩ => ⟨S8x1024x128, .f32⟩
  | .hbm, ⟨24, _⟩ => ⟨S_, .f32⟩
  | .hbm, ⟨25, _⟩ => ⟨S1024x128, .f32⟩
  | .hbm, ⟨26, _⟩ => ⟨S8x32x2048, .f32⟩
  | .hbm, ⟨27, _⟩ => ⟨S_, .f32⟩
  | .hbm, ⟨28, _⟩ => ⟨S32x2048, .f32⟩
  | .hbm, ⟨29, _⟩ => ⟨S8x32x1536, .f32⟩
  | .hbm, ⟨30, _⟩ => ⟨S_, .f32⟩
  | .hbm, ⟨31, _⟩ => ⟨S32x1536, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩

abbrev nD : Nat := 1
abbrev τ : Topo := Topo.v7x

variable {F : FTy → Type} [FloatOps F]
-- ==== Kernel22.lean ====
abbrev S8192x2816 : Shape := ⟨2, ![8192, 2816]⟩
abbrev S2816x1024 : Shape := ⟨2, ![2816, 1024]⟩
abbrev S8192x1024 : Shape := ⟨2, ![8192, 1024]⟩
abbrev S8x1024 : Shape := ⟨2, ![8, 1024]⟩
abbrev S512x2816 : Shape := ⟨2, ![512, 2816]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8192x2816 : Shape := ⟨2, ![8192, 2816]⟩
abbrev S2816x1024 : Shape := ⟨2, ![2816, 1024]⟩
abbrev S8192x1024 : Shape := ⟨2, ![8192, 1024]⟩
abbrev S8x1024 : Shape := ⟨2, ![8, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S8x1024 : Shape := ⟨2, ![8, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S8192x1024 : Shape := ⟨2, ![8192, 1024]⟩
abbrev S1024x1024 : Shape := ⟨2, ![1024, 1024]⟩
abbrev S8x1024 : Shape := ⟨2, ![8, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8x1024, .f32⟩
  | .hbm, ⟨4, _⟩ => ⟨S8x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel24.lean ====
abbrev S_ : Shape := ⟨0, ![]⟩
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S128x1024 : Shape := ⟨2, ![128, 1024]⟩
abbrev S224x256 : Shape := ⟨2, ![224, 256]⟩
abbrev S32x256 : Shape := ⟨2, ![32, 256]⟩
abbrev S1024x64 : Shape := ⟨2, ![1024, 64]⟩
abbrev S1024x128 : Shape := ⟨2, ![1024, 128]⟩
abbrev S32x2048 : Shape := ⟨2, ![32, 2048]⟩
abbrev S32x1536 : Shape := ⟨2, ![32, 1536]⟩
abbrev S4x32x1024 : Shape := ⟨3, ![4, 32, 1024]⟩
abbrev S4x56x256 : Shape := ⟨3, ![4, 56, 256]⟩
abbrev S4x8x256 : Shape := ⟨3, ![4, 8, 256]⟩
abbrev S4x256x64 : Shape := ⟨3, ![4, 256, 64]⟩
abbrev S4x256x128 : Shape := ⟨3, ![4, 256, 128]⟩
abbrev S4x8x2048 : Shape := ⟨3, ![4, 8, 2048]⟩
abbrev S4x8x1536 : Shape := ⟨3, ![4, 8, 1536]⟩
abbrev S4x1x1024 : Shape := ⟨3, ![4, 1, 1024]⟩
abbrev S4x1024 : Shape := ⟨2, ![4, 1024]⟩
abbrev S4x6144 : Shape := ⟨2, ![4, 6144]⟩
abbrev S4x3x256 : Shape := ⟨3, ![4, 3, 256]⟩
abbrev S4x31x256 : Shape := ⟨3, ![4, 31, 256]⟩
abbrev S4x3x64 : Shape := ⟨3, ![4, 3, 64]⟩
abbrev S4x31x64 : Shape := ⟨3, ![4, 31, 64]⟩
abbrev S4x1x256 : Shape := ⟨3, ![4, 1, 256]⟩
abbrev S4x256 : Shape := ⟨2, ![4, 256]⟩
abbrev S4x4x64x64 : Shape := ⟨4, ![4, 4, 64, 64]⟩
abbrev S4x1x1536 : Shape := ⟨3, ![4, 1, 1536]⟩
abbrev S4x1536 : Shape := ⟨2, ![4, 1536]⟩
abbrev S4x1792 : Shape := ⟨2, ![4, 1792]⟩
abbrev S4x16x16x2x64 : Shape := ⟨5, ![4, 16, 16, 2, 64]⟩
abbrev S4x16x16x1x64 : Shape := ⟨5, ![4, 16, 16, 1, 64]⟩
abbrev S4x16x16x64 : Shape := ⟨4, ![4, 16, 16, 64]⟩

abbrev nBuf : Space → Nat
  | .hbm => 92
  | .vmem => 16
  | .smem => 0
  | _ => 0

abbrev bufTy : (tb : Table) → Fin (tcTables nBuf tb) → BufTy
  | .hbm, ⟨0, _⟩ => ⟨S_, .i32⟩
  | .hbm, ⟨1, _⟩ => ⟨S1024x1024, .f32⟩
  | .hbm, ⟨2, _⟩ => ⟨S1792x256, .f32⟩
  | .hbm, ⟨3, _⟩ => ⟨S256x256, .f32⟩
  | .hbm, ⟨4, _⟩ => ⟨S8192x64, .f32⟩
  | .hbm, ⟨5, _⟩ => ⟨S8192x128, .f32⟩
  | .hbm, ⟨6, _⟩ => ⟨S8192x128, .f32⟩
  | .hbm, ⟨7, _⟩ => ⟨S256x2048, .f32⟩
  | .hbm, ⟨8, _⟩ => ⟨S256x1536, .f32⟩
  | .hbm, ⟨9, _⟩ => ⟨S128x1024, .f32⟩
  | .hbm, ⟨10, _⟩ => ⟨S224x256, .f32⟩
  | .hbm, ⟨11, _⟩ => ⟨S32x256, .f32⟩
  | .hbm, ⟨12, _⟩ => ⟨S1024x64, .f32⟩
  | .hbm, ⟨13, _⟩ => ⟨S1024x128, .f32⟩
  | .hbm, ⟨14, _⟩ => ⟨S1024x128, .f32⟩
  | .hbm, ⟨15, _⟩ => ⟨S32x2048, .f32⟩
  | .hbm, ⟨16, _⟩ => ⟨S32x1536, .f32⟩
  | .hbm, ⟨17, _⟩ => ⟨S4x32x1024, .f32⟩
  | .hbm, ⟨18, _⟩ => ⟨S4x56x256, .f32⟩
  | .hbm, ⟨19, _⟩ => ⟨S4x8x256, .f32⟩
  | .hbm, ⟨20, _⟩ => ⟨S4x256x64, .f32⟩
  | .hbm, ⟨21, _⟩ => ⟨S4x256x128, .f32⟩
  | .hbm, ⟨22, _⟩ => ⟨S4x256x128, .f32⟩
  | .hbm, ⟨23, _⟩ => ⟨S4x8x2048, .f32⟩
  | .hbm, ⟨24, _⟩ => ⟨S4x8x1536, .f32⟩
  | .hbm, ⟨25, _⟩ => ⟨S4x1x1024, .f32⟩
  | .hbm, ⟨26, _⟩ => ⟨S4x1024, .f32⟩
  | .hbm, ⟨27, _⟩ => ⟨S4x1x1024, .f32⟩
  | .hbm, ⟨28, _⟩ => ⟨S4x1024, .f32⟩
  | .hbm, ⟨29, _⟩ => ⟨S4x1x1024, .f32⟩
  | .hbm, ⟨30, _⟩ => ⟨S4x1024, .f32⟩
  | .hbm, ⟨31, _⟩ => ⟨S4x1x1024, .f32⟩
  | .hbm, ⟨32, _⟩ => ⟨S4x1024, .f32⟩
  | .hbm, ⟨33, _⟩ => ⟨S4x1x1024, .f32⟩
  | .hbm, ⟨34, _⟩ => ⟨S4x1024, .f32⟩
  | .hbm, ⟨35, _⟩ => ⟨S4x1x1024, .f32⟩
  | .hbm, ⟨36, _⟩ => ⟨S4x1024, .f32⟩
  | .hbm, ⟨37, _⟩ => ⟨S4x6144, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S4x1024, .f32⟩
  | .hbm, ⟨42, _⟩ => ⟨S4x1x1024, .f32⟩
  | .hbm, ⟨43, _⟩ => ⟨S4x1024, .f32⟩
  | .hbm, ⟨44, _⟩ => ⟨S4x1x1024, .f32⟩
  | .hbm, ⟨45, _⟩ => ⟨S4x1024, .f32⟩
  | .hbm, ⟨46, _⟩ => ⟨S4x3x256, .f32⟩
  | .hbm, ⟨47, _⟩ => ⟨S4x31x256, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S4x3x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S4x31x64, .f32⟩
  | .hbm, ⟨68, _⟩ => ⟨S4x1x256, .f32⟩
  | .hbm, ⟨69, _⟩ => ⟨S4x256, .f32⟩
  | .hbm, ⟨70, _⟩ => ⟨S4x1x256, .f32⟩
  | .hbm, ⟨71, _⟩ => ⟨S4x256, .f32⟩
  | .hbm, ⟨72, _⟩ => ⟨S4x1x256, .f32⟩
  | .hbm, ⟨73, _⟩ => ⟨S4x256, .f32⟩
  | .hbm, ⟨74, _⟩ => ⟨S4x1x256, .f32⟩
  | .hbm, ⟨75, _⟩ => ⟨S4x256, .f32⟩
  | .hbm, ⟨76, _⟩ => ⟨S4x4x64x64, .f32⟩
  | .hbm, ⟨77, _⟩ => ⟨S4x1x256, .f32⟩
  | .hbm, ⟨78, _⟩ => ⟨S4x256, .f32⟩
  | .hbm, ⟨79, _⟩ => ⟨S4x1x256, .f32⟩
  | .hbm, ⟨80, _⟩ => ⟨S4x256, .f32⟩
  | .hbm, ⟨81, _⟩ => ⟨S4x1x1536, .f32⟩
  | .hbm, ⟨82, _⟩ => ⟨S4x1536, .f32⟩
  | .hbm, ⟨83, _⟩ => ⟨S4x1x256, .f32⟩
  | .hbm, ⟨84, _⟩ => ⟨S4x256, .f32⟩
  | .hbm, ⟨85, _⟩ => ⟨S4x1792, .f32⟩
  | .hbm, ⟨86, _⟩ => ⟨S4x16x16x2x64, .f32⟩
  | .hbm, ⟨87, _⟩ => ⟨S4x16x16x1x64, .f32⟩
  | .hbm, ⟨88, _⟩ => ⟨S4x16x16x64, .f32⟩
  | .hbm, ⟨89, _⟩ => ⟨S4x16x16x1x64, .f32⟩
  | .hbm, ⟨90, _⟩ => ⟨S4x16x16x64, .f32⟩
  | .hbm, ⟨91, _⟩ => ⟨S4x16x16x64, .f32⟩
  | .local _ .vmem, ⟨0, _⟩ => ⟨S1024x1024, .f32⟩
  | .local _ .vmem, ⟨1, _⟩ => ⟨S1792x256, .f32⟩
  | .local _ .vmem, ⟨2, _⟩ => ⟨S256x256, .f32⟩
  | .local _ .vmem, ⟨3, _⟩ => ⟨S8192x64, .f32⟩
  | .local _ .vmem, ⟨4, _⟩ => ⟨S8192x128, .f32⟩
  | .local _ .vmem, ⟨5, _⟩ => ⟨S8192x128, .f32⟩
  | .local _ .vmem, ⟨6, _⟩ => ⟨S256x2048, .f32⟩
  | .local _ .vmem, ⟨7, _⟩ => ⟨S256x1536, .f32⟩
  | .local _ .vmem, ⟨8, _⟩ => ⟨S128x1024, .f32⟩
  | .local _ .vmem, ⟨9, _⟩ => ⟨S224x256, .f32⟩
  | .local _ .vmem, ⟨10, _⟩ => ⟨S32x256, .f32⟩
  | .local _ .vmem, ⟨11, _⟩ => ⟨S1024x64, .f32⟩
  | .local _ .vmem, ⟨12, _⟩ => ⟨S1024x128, .f32⟩
  | .local _ .vmem, ⟨13, _⟩ => ⟨S1024x128, .f32⟩
  | .local _ .vmem, ⟨14, _⟩ => ⟨S32x2048, .f32⟩
  | .local _ .vmem, ⟨15, _⟩ => ⟨S32x1536, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_c_0 : Ref sig .tc := ⟨.hbm, 50, rfl⟩
abbrev main_v33 : Ref sig .tc := ⟨.hbm, 51, rfl⟩
abbrev main_c_1 : Ref sig .tc := ⟨.hbm, 52, rfl⟩
abbrev main_v34 : Ref sig .tc := ⟨.hbm, 53, rfl⟩
abbrev main_v35 : Ref sig .tc := ⟨.hbm, 54, rfl⟩
abbrev main_c_2 : Ref sig .tc := ⟨.hbm, 55, rfl⟩
abbrev main_c_3 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_c_7 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S224x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference24Ideal.lean ====
abbrev S_ : Shape := ⟨0, ![]⟩
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S8x4x32x1024 : Shape := ⟨4, ![8, 4, 32, 1024]⟩
abbrev S4x32x1024 : Shape := ⟨3, ![4, 32, 1024]⟩
abbrev S8x4x56x256 : Shape := ⟨4, ![8, 4, 56, 256]⟩
abbrev S4x56x256 : Shape := ⟨3, ![4, 56, 256]⟩
abbrev S8x4x8x256 : Shape := ⟨4, ![8, 4, 8, 256]⟩
abbrev S4x8x256 : Shape := ⟨3, ![4, 8, 256]⟩
abbrev S8x4x256x128 : Shape := ⟨4, ![8, 4, 256, 128]⟩
abbrev S4x256x128 : Shape := ⟨3, ![4, 256, 128]⟩
abbrev S4x16x16x2x64 : Shape := ⟨5, ![4, 16, 16, 2, 64]⟩
abbrev S4x1x1024 : Shape := ⟨3, ![4, 1, 1024]⟩
abbrev S4x1024 : Shape := ⟨2, ![4, 1024]⟩
abbrev S4x6144 : Shape := ⟨2, ![4, 6144]⟩
abbrev S8x4x8x1536 : Shape := ⟨4, ![8, 4, 8, 1536]⟩
abbrev S4x8x1536 : Shape := ⟨3, ![4, 8, 1536]⟩
abbrev S4x1x1536 : Shape := ⟨3, ![4, 1, 1536]⟩
abbrev S4x1536 : Shape := ⟨2, ![4, 1536]⟩
abbrev S4x1x256 : Shape := ⟨3, ![4, 1, 256]⟩
abbrev S4x256 : Shape := ⟨2, ![4, 256]⟩
abbrev S4x1792 : Shape := ⟨2, ![4, 1792]⟩
abbrev S4x3x256 : Shape := ⟨3, ![4, 3, 256]⟩
abbrev S4x3x64 : Shape := ⟨3, ![4, 3, 64]⟩
abbrev S8x4x256x64 : Shape := ⟨4, ![8, 4, 256, 64]⟩
abbrev S4x256x64 : Shape := ⟨3, ![4, 256, 64]⟩
abbrev S4x4x64x64 : Shape := ⟨4, ![4, 4, 64, 64]⟩
abbrev S4x31x256 : Shape := ⟨3, ![4, 31, 256]⟩
abbrev S4x31x64 : Shape := ⟨3, ![4, 31, 64]⟩
abbrev S4x16x16x1x64 : Shape := ⟨5, ![4, 16, 16, 1, 64]⟩
abbrev S4x16x16x64 : Shape := ⟨4, ![4, 16, 16, 64]⟩

abbrev nBuf : Space → Nat
  | .hbm => 94
  | .vmem => 0
  | .smem => 0
  | _ => 0

abbrev bufTy : (tb : Table) → Fin (tcTables nBuf tb) → BufTy
  | .hbm, ⟨0, _⟩ => ⟨S_, .i32⟩
  | .hbm, ⟨1, _⟩ => ⟨S1024x1024, .f32⟩
  | .hbm, ⟨2, _⟩ => ⟨S1792x256, .f32⟩
  | .hbm, ⟨3, _⟩ => ⟨S256x256, .f32⟩
  | .hbm, ⟨4, _⟩ => ⟨S8192x64, .f32⟩
  | .hbm, ⟨5, _⟩ => ⟨S8192x128, .f32⟩
  | .hbm, ⟨6, _⟩ => ⟨S8192x128, .f32⟩
  | .hbm, ⟨7, _⟩ => ⟨S256x2048, .f32⟩
  | .hbm, ⟨8, _⟩ => ⟨S256x1536, .f32⟩
  | .hbm, ⟨9, _⟩ => ⟨S8x4x32x1024, .f32⟩
  | .hbm, ⟨10, _⟩ => ⟨S_, .f32⟩
  | .hbm, ⟨11, _⟩ => ⟨S4x32x1024, .f32⟩
  | .hbm, ⟨12, _⟩ => ⟨S8x4x56x256, .f32⟩
  | .hbm, ⟨13, _⟩ => ⟨S_, .f32⟩
  | .hbm, ⟨14, _⟩ => ⟨S4x56x256, .f32⟩
  | .hbm, ⟨15, _⟩ => ⟨S8x4x8x256, .f32⟩
  | .hbm, ⟨16, _⟩ => ⟨S_, .f32⟩
  | .hbm, ⟨17, _⟩ => ⟨S4x8x256, .f32⟩
  | .hbm, ⟨18, _⟩ => ⟨S8x4x256x128, .f32⟩
  | .hbm, ⟨19, _⟩ => ⟨S_, .f32⟩
  | .hbm, ⟨20, _⟩ => ⟨S4x256x128, .f32⟩
  | .hbm, ⟨21, _⟩ => ⟨S4x16x16x2x64, .f32⟩
  | .hbm, ⟨22, _⟩ => ⟨S4x1x1024, .f32⟩
  | .hbm, ⟨23, _⟩ => ⟨S4x1024, .f32⟩
  | .hbm, ⟨24, _⟩ => ⟨S4x1x1024, .f32⟩
  | .hbm, ⟨25, _⟩ => ⟨S4x1024, .f32⟩
  | .hbm, ⟨26, _⟩ => ⟨S4x1x1024, .f32⟩
  | .hbm, ⟨27, _⟩ => ⟨S4x1024, .f32⟩
  | .hbm, ⟨28, _⟩ => ⟨S4x1x1024, .f32⟩
  | .hbm, ⟨29, _⟩ => ⟨S4x1024, .f32⟩
  | .hbm, ⟨30, _⟩ => ⟨S4x1x1024, .f32⟩
  | .hbm, ⟨31, _⟩ => ⟨S4x1024, .f32⟩
  | .hbm, ⟨32, _⟩ => ⟨S4x1x1024, .f32⟩
  | .hbm, ⟨33, _⟩ => ⟨S4x1024, .f32⟩
  | .hbm, ⟨34, _⟩ => ⟨S4x6144, .f32⟩
  | .hbm, ⟨35, _⟩ => ⟨S8x4x8x1536, .f32⟩
  | .hbm, ⟨36, _⟩ => ⟨S_, .f32⟩
  | .hbm, ⟨37, _⟩ => ⟨S4x8x1536, .f32⟩
  | .hbm, ⟨38, _⟩ => ⟨S4x1x1536, .f32⟩
  | .hbm, ⟨39, _⟩ => ⟨S4x1536, .f32⟩
  | .hbm, ⟨40, _⟩ => ⟨S4x1x256, .f32⟩
  | .hbm, ⟨41, _⟩ => ⟨S4x256, .f32⟩
  | .hbm, ⟨42, _⟩ => ⟨S4x1792, .f32⟩
  | .hbm, ⟨43, _⟩ => ⟨S4x3x256, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S4x3x64, .f32⟩
  | .hbm, ⟨54, _⟩ => ⟨S8x4x256x64, .f32⟩
  | .hbm, ⟨55, _⟩ => ⟨S_, .f32⟩
  | .hbm, ⟨56, _⟩ => ⟨S4x256x64, .f32⟩
  | .hbm, ⟨57, _⟩ => ⟨S4x4x64x64, .f32⟩
  | .hbm, ⟨58, _⟩ => ⟨S4x1x256, .f32⟩
  | .hbm, ⟨59, _⟩ => ⟨S4x256, .f32⟩
  | .hbm, ⟨60, _⟩ => ⟨S4x31x256, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S4x31x64, .f32⟩
  | .hbm, ⟨71, _⟩ => ⟨S4x1x256, .f32⟩
  | .hbm, ⟨72, _⟩ => ⟨S4x256, .f32⟩
  | .hbm, ⟨73, _⟩ => ⟨S4x1x256, .f32⟩
  | .hbm, ⟨74, _⟩ => ⟨S4x256, .f32⟩
  | .hbm, ⟨75, _⟩ => ⟨S4x1x256, .f32⟩
  | .hbm, ⟨76, _⟩ => ⟨S4x256, .f32⟩
  | .hbm, ⟨77, _⟩ => ⟨S4x16x16x1x64, .f32⟩
  | .hbm, ⟨78, _⟩ => ⟨S4x16x16x64, .f32⟩
  | .hbm, ⟨79, _⟩ => ⟨S4x16x16x1x64, .f32⟩
  | .hbm, ⟨80, _⟩ => ⟨S4x16x16x64, .f32⟩
  | .hbm, ⟨81, _⟩ => ⟨S4x16x16x64, .f32⟩
  | .hbm, ⟨82, _⟩ => ⟨S4x1x256, .f32⟩
  | .hbm, ⟨83, _⟩ => ⟨S4x256, .f32⟩
  | .hbm, ⟨84, _⟩ => ⟨S4x1x256, .f32⟩
  | .hbm, ⟨85, _⟩ => ⟨S4x256, .f32⟩
  | .hbm, ⟨86, _⟩ => ⟨S4x1x1024, .f32⟩
  | .hbm, ⟨87, _⟩ => ⟨S4x1024, .f32⟩
  | .hbm, ⟨88, _⟩ => ⟨S4x1x1024, .f32⟩
  | .hbm, ⟨89, _⟩ => ⟨S4x1024, .f32⟩
  | .hbm, ⟨90, _⟩ => ⟨S4x1x1024, .f32⟩
  | .hbm, ⟨91, _⟩ => ⟨S4x1024, .f32⟩
  | .hbm, ⟨92, _⟩ => ⟨S4x1x1024, .f32⟩
  | .hbm, ⟨93, _⟩ => ⟨S4x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_c_12 : Ref sig .tc := ⟨.hbm, 68, rfl⟩
abbrev main_c_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel25.lean ====
abbrev S4x16x64 : Shape := ⟨3, ![4, 16, 64]⟩
abbrev S4x16 : Shape := ⟨2, ![4, 16]⟩
abbrev S4x16x64x16 : Shape := ⟨4, ![4, 16, 64, 16]⟩
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S128x1024 : Shape := ⟨2, ![128, 1024]⟩
abbrev S224x256 : Shape := ⟨2, ![224, 256]⟩
abbrev S32x256 : Shape := ⟨2, ![32, 256]⟩
abbrev S1024x64 : Shape := ⟨2, ![1024, 64]⟩
abbrev S1024x128 : Shape := ⟨2, ![1024, 128]⟩
abbrev S32x2048 : Shape := ⟨2, ![32, 2048]⟩
abbrev S32x1536 : Shape := ⟨2, ![32, 1536]⟩
abbrev S4x32x1024 : Shape := ⟨3, ![4, 32, 1024]⟩
abbrev S4x56x256 : Shape := ⟨3, ![4, 56, 256]⟩
abbrev S4x8x256 : Shape := ⟨3, ![4, 8, 256]⟩
abbrev S4x256x64 : Shape := ⟨3, ![4, 256, 64]⟩
abbrev S4x256x128 : Shape := ⟨3, ![4, 256, 128]⟩
abbrev S4x8x2048 : Shape := ⟨3, ![4, 8, 2048]⟩
abbrev S4x8x1536 : Shape := ⟨3, ![4, 8, 1536]⟩
abbrev S4x16x16x2x64 : Shape := ⟨5, ![4, 16, 16, 2, 64]⟩
abbrev S4x1x2048 : Shape := ⟨3, ![4, 1, 2048]⟩
abbrev S4x2048 : Shape := ⟨2, ![4, 2048]⟩
abbrev S4x1024 : Shape := ⟨2, ![4, 1024]⟩
abbrev S4x16x16x1x64 : Shape := ⟨5, ![4, 16, 16, 1, 64]⟩
abbrev S4x16x16x64 : Shape := ⟨4, ![4, 16, 16, 64]⟩
abbrev S4x16x1 : Shape := ⟨3, ![4, 16, 1]⟩
abbrev S_ : Shape := ⟨0, ![]⟩
abbrev S4x16x64x1 : Shape := ⟨4, ![4, 16, 64, 1]⟩

abbrev nBuf : Space → Nat
  | .hbm => 200
  | .vmem => 16
  | .smem => 0
  | _ => 0

abbrev hbmTy0_0 (i : Nat) : BufTy := match i % 128 with
  | 0 => ⟨S4x16x64, .f32⟩
  | 1 => ⟨S4x16x64, .f32⟩
  | 2 => ⟨S4x16, .f32⟩
  | 3 => ⟨S4x16x64x16, .f32⟩
  | 4 => ⟨S4x16x64x16, .f32⟩
  | 5 => ⟨S1024x1024, .f32⟩
  | 6 => ⟨S1792x256, .f32⟩
  | 7 => ⟨S256x256, .f32⟩
  | 8 => ⟨S8192x64, .f32⟩
  | 9 => ⟨S8192x128, .f32⟩
  | 10 => ⟨S8192x128, .f32⟩
  | 11 => ⟨S256x2048, .f32⟩
  | 12 => ⟨S256x1536, .f32⟩
  | 13 => ⟨S128x1024, .f32⟩
  | 14 => ⟨S224x256, .f32⟩
  | 15 => ⟨S32x256, .f32⟩
  | 16 => ⟨S1024x64, .f32⟩
  | 17 => ⟨S1024x128, .f32⟩
  | 18 => ⟨S1024x128, .f32⟩
  | 19 => ⟨S32x2048, .f32⟩
  | 20 => ⟨S32x1536, .f32⟩
  | 21 => ⟨S4x32x1024, .f32⟩
  | 22 => ⟨S4x56x256, .f32⟩
  | 23 => ⟨S4x8x256, .f32⟩
  | 24 => ⟨S4x256x64, .f32⟩
  | 25 => ⟨S4x256x128, .f32⟩
  | 26 => ⟨S4x256x128, .f32⟩
  | 27 => ⟨S4x8x2048, .f32⟩
  | 28 => ⟨S4x8x1536, .f32⟩
  | 29 => ⟨S4x16x16x2x64, .f32⟩
  | 30 => ⟨S4x1x2048, .f32⟩
  | 31 => ⟨S4x2048, .f32⟩
  | 32 => ⟨S4x1024, .f32⟩
  | 33 => ⟨S4x16x64, .f32⟩
  | 34 => ⟨S4x1024, .f32⟩
  | 35 => ⟨S4x16x64, .f32⟩
  | 36 => ⟨S4x16x16x1x64, .f32⟩
  | 37 => ⟨S4x16x16x64, .f32⟩
  | 38 => ⟨S4x16x64x16, .f32⟩
  | 39 => ⟨S4x16x16x1x64, .f32⟩
  | 40 => ⟨S4x16x16x64, .f32⟩
  | 41 => ⟨S4x16x64x16, .f32⟩
  | 42 => ⟨S4x16, .f32⟩
  | 43 => ⟨S4x16x1, .f32⟩
  | 44 => ⟨S4x16x64, .f32⟩
  | 45 => ⟨S4x16x64, .f32⟩
  | 46 => ⟨S4x16x64, .f32⟩
  | 47 => ⟨S4x16x64, .f32⟩
  | 48 => ⟨S4x16x64, .f32⟩
  | 49 => ⟨S4x16x64, .f32⟩
  | 50 => ⟨S4x16x64, .f32⟩
  | 51 => ⟨S4x16x64, .f32⟩
  | 52 => ⟨S4x16x64, .f32⟩
  | 53 => ⟨S4x16x64, .f32⟩
  | 54 => ⟨S4x16x64, .f32⟩
  | 55 => ⟨S4x16x64, .f32⟩
  | 56 => ⟨S4x16x64, .f32⟩
  | 57 => ⟨S4x16x64, .f32⟩
  | 58 => ⟨S4x16x64, .f32⟩
  | 59 => ⟨S4x16x64, .f32⟩
  | 60 => ⟨S_, .f32⟩
  | 61 => ⟨S4x16x64, .f32⟩
  | 62 => ⟨S4x16x64, .f32⟩
  | 63 => ⟨S4x16x64, .f32⟩
  | 64 => ⟨S4x16x64, .f32⟩
  | 65 => ⟨S4x16x64, .f32⟩
  | 66 => ⟨S4x16x64, .f32⟩
  | 67 => ⟨S4x16x64, .f32⟩
  | 68 => ⟨S_, .f32⟩
  | 69 => ⟨S4x16x64, .f32⟩
  | 70 => ⟨S4x16x64, .f32⟩
  | 71 => ⟨S4x16x64, .f32⟩
  | 72 => ⟨S_, .f32⟩
  | 73 => ⟨S4x16x64, .f32⟩
  | 74 => ⟨S4x16x64, .f32⟩
  | 75 => ⟨S4x16x64, .f32⟩
  | 76 => ⟨S4x16x64, .f32⟩
  | 77 => ⟨S4x16x64, .f32⟩
  | 78 => ⟨S4x16x64, .f32⟩
  | 79 => ⟨S_, .f32⟩
  | 80 => ⟨S4x16x64, .f32⟩
  | 81 => ⟨S4x16x64, .f32⟩
  | 82 => ⟨S4x16x64x1, .f32⟩
  | 83 => ⟨S4x16x64x16, .f32⟩
  | 84 => ⟨S4x16x64x16, .f32⟩
  | 85 => ⟨S4x16x64x1, .f32⟩
  | 86 => ⟨S4x16x64x16, .f32⟩
  | 87 => ⟨S4x16x64x16, .f32⟩
  | 88 => ⟨S4x16x64x16, .f32⟩
  | 89 => ⟨S4x16x64x1, .f32⟩
  | 90 => ⟨S4x16x64x16, .f32⟩
  | 91 => ⟨S4x16x64x16, .f32⟩
  | 92 => ⟨S4x16x64x1, .f32⟩
  | 93 => ⟨S4x16x64x16, .f32⟩
  | 94 => ⟨S4x16x64x16, .f32⟩
  | 95 => ⟨S4x16x64x16, .f32⟩
  | 96 => ⟨S4x16x64x16, .f32⟩
  | 97 => ⟨S4x16x64x16, .f32⟩
  | 98 => ⟨S4x16x64x16, .f32⟩
  | 99 => ⟨S_, .f32⟩
  | 100 => ⟨S4x16x64, .f32⟩
  | 101 => ⟨S4x16x64x1, .f32⟩
  | 102 => ⟨S_, .f32⟩
  | 103 => ⟨S4x16x64, .f32⟩
  | 104 => ⟨S4x16x64x16, .f32⟩
  | 105 => ⟨S4x16x64x16, .f32⟩
  | 106 => ⟨S4x16x64x16, .f32⟩
  | 107 => ⟨S_, .f32⟩
  | 108 => ⟨S4x16x64, .f32⟩
  | 109 => ⟨S4x16x64x1, .f32⟩
  | 110 => ⟨S_, .f32⟩
  | 111 => ⟨S4x16x64, .f32⟩
  | 112 => ⟨S4x16x64x16, .f32⟩
  | 113 => ⟨S4x16x64x16, .f32⟩
  | 114 => ⟨S4x16x64x16, .f32⟩
  | 115 => ⟨S4x16x64x16, .f32⟩
  | 116 => ⟨S4x16x64x16, .f32⟩
  | 117 => ⟨S_, .f32⟩
  | 118 => ⟨S4x16x64, .f32⟩
  | 119 => ⟨S4x16x64x1, .f32⟩
  | 120 => ⟨S_, .f32⟩
  | 121 => ⟨S4x16x64, .f32⟩
  | 122 => ⟨S4x16x64, .f32⟩
  | 123 => ⟨S4x16x64x16, .f32⟩
  | 124 => ⟨S4x16x64x16, .f32⟩
  | 125 => ⟨S4x16x64x16, .f32⟩
  | 126 => ⟨S4x16x64x16, .f32⟩
  | 127 => ⟨S_, .f32⟩
  | _ => ⟨S4x16x64, .f32⟩

abbrev hbmTy0_1 (i : Nat) : BufTy := match i % 128 with
  | 0 => ⟨S4x16x64, .f32⟩
  | 1 => ⟨S4x16x64x1, .f32⟩
  | 2 => ⟨S_, .f32⟩
  | 3 => ⟨S4x16x64, .f32⟩
  | 4 => ⟨S4x16x64, .f32⟩
  | 5 => ⟨S4x16x64, .f32⟩
  | 6 => ⟨S4x16x64, .f32⟩
  | 7 => ⟨S4x16x64, .f32⟩
  | 8 => ⟨S4x16x64, .f32⟩
  | 9 => ⟨S4x16x64, .f32⟩
  | 10 => ⟨S4x16x64, .f32⟩
  | 11 => ⟨S4x16x64, .f32⟩
  | 12 => ⟨S4x16x64, .f32⟩
  | 13 => ⟨S4x16x64, .f32⟩
  | 14 => ⟨S4x16x64, .f32⟩
  | 15 => ⟨S4x16x64, .f32⟩
  | 16 => ⟨S4x16x64, .f32⟩
  | 17 => ⟨S4x16x64, .f32⟩
  | 18 => ⟨S4x16x64, .f32⟩
  | 19 => ⟨S4x16x64, .f32⟩
  | 20 => ⟨S4x16x64, .f32⟩
  | 21 => ⟨S4x16x64, .f32⟩
  | 22 => ⟨S4x16x64, .f32⟩
  | 23 => ⟨S4x16x64, .f32⟩
  | 24 => ⟨S4x16x64, .f32⟩
  | 25 => ⟨S4x16x64, .f32⟩
  | 26 => ⟨S4x16x64, .f32⟩
  | 27 => ⟨S4x16x64, .f32⟩
  | 28 => ⟨S4x16x64, .f32⟩
  | 29 => ⟨S4x16x64, .f32⟩
  | 30 => ⟨S4x16x64, .f32⟩
  | 31 => ⟨S4x16x64, .f32⟩
  | 32 => ⟨S4x16x64, .f32⟩
  | 33 => ⟨S4x16x64, .f32⟩
  | 34 => ⟨S4x16x64, .f32⟩
  | 35 => ⟨S4x16x64, .f32⟩
  | 36 => ⟨S4x16x64, .f32⟩
  | 37 => ⟨S4x16x64, .f32⟩
  | 38 => ⟨S4x16x64, .f32⟩
  | 39 => ⟨S4x16x64, .f32⟩
  | 40 => ⟨S4x16x64, .f32⟩
  | 41 => ⟨S_, .f32⟩
  | 42 => ⟨S4x16, .f32⟩
  | 43 => ⟨S4x16x1, .f32⟩
  | 44 => ⟨S4x16x64, .f32⟩
  | 45 => ⟨S4x16x64, .f32⟩
  | 46 => ⟨S4x16x64, .f32⟩
  | 47 => ⟨S4x16x64, .f32⟩
  | 48 => ⟨S4x16x64, .f32⟩
  | 49 => ⟨S4x16x64, .f32⟩
  | 50 => ⟨S4x16x64, .f32⟩
  | 51 => ⟨S4x16x64, .f32⟩
  | 52 => ⟨S4x16x64, .f32⟩
  | 53 => ⟨S_, .f32⟩
  | 54 => ⟨S4x16, .f32⟩
  | 55 => ⟨S4x16x1, .f32⟩
  | 56 => ⟨S4x16x1, .f32⟩
  | 57 => ⟨S4x16x64, .f32⟩
  | 58 => ⟨S4x16x64, .f32⟩
  | 59 => ⟨S4x16x64, .f32⟩
  | 60 => ⟨S4x16x64, .f32⟩
  | 61 => ⟨S4x16x64, .f32⟩
  | 62 => ⟨S_, .f32⟩
  | 63 => ⟨S4x16, .f32⟩
  | 64 => ⟨S4x16x1, .f32⟩
  | 65 => ⟨S4x16x1, .f32⟩
  | 66 => ⟨S4x16x64, .f32⟩
  | 67 => ⟨S4x16x64, .f32⟩
  | 68 => ⟨S4x16x64, .f32⟩
  | 69 => ⟨S_, .f32⟩
  | 70 => ⟨S4x16, .f32⟩
  | 71 => ⟨S4x16, .f32⟩
  | _ => ⟨S4x16x64, .f32⟩

abbrev hbmTy (i : Nat) : BufTy := match i / 128 with
  | 0 => hbmTy0_0 i
  | 1 => hbmTy0_1 i
  | _ => ⟨S4x16x64, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1792x256, .f32⟩
  | .local _ .vmem, ⟨2, _⟩ => ⟨S256x256, .f32⟩
  | .local _ .vmem, ⟨3, _⟩ => ⟨S8192x64, .f32⟩
  | .local _ .vmem, ⟨4, _⟩ => ⟨S8192x128, .f32⟩
  | .local _ .vmem, ⟨5, _⟩ => ⟨S8192x128, .f32⟩
  | .local _ .vmem, ⟨6, _⟩ => ⟨S256x2048, .f32⟩
  | .local _ .vmem, ⟨7, _⟩ => ⟨S256x1536, .f32⟩
  | .local _ .vmem, ⟨8, _⟩ => ⟨S128x1024, .f32⟩
  | .local _ .vmem, ⟨9, _⟩ => ⟨S224x256, .f32⟩
  | .local _ .vmem, ⟨10, _⟩ => ⟨S32x256, .f32⟩
  | .local _ .vmem, ⟨11, _⟩ => ⟨S1024x64, .f32⟩
  | .local _ .vmem, ⟨12, _⟩ => ⟨S1024x128, .f32⟩
  | .local _ .vmem, ⟨13, _⟩ => ⟨S1024x128, .f32⟩
  | .local _ .vmem, ⟨14, _⟩ => ⟨S32x2048, .f32⟩
  | .local _ .vmem, ⟨15, _⟩ => ⟨S32x1536, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_1 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_3 : Ref sig .tc := ⟨.hbm, 99, rfl⟩
abbrev main_v75 : Ref sig .tc := ⟨.hbm, 100, rfl⟩
abbrev main_v76 : Ref sig .tc := ⟨.hbm, 101, rfl⟩
abbrev main_cst_4 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_5 : Ref sig .tc := ⟨.hbm, 107, rfl⟩
abbrev main_v81 : Ref sig .tc := ⟨.hbm, 108, rfl⟩
abbrev main_v82 : Ref sig .tc := ⟨.hbm, 109, rfl⟩
abbrev main_cst_6 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_7 : Ref sig .tc := ⟨.hbm, 117, rfl⟩
abbrev main_v89 : Ref sig .tc := ⟨.hbm, 118, rfl⟩
abbrev main_v90 : Ref sig .tc := ⟨.hbm, 119, rfl⟩
abbrev main_cst_8 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_9 : Ref sig .tc := ⟨.hbm, 127, rfl⟩
abbrev main_v97 : Ref sig .tc := ⟨.hbm, 128, rfl⟩
abbrev main_v98 : Ref sig .tc := ⟨.hbm, 129, rfl⟩
abbrev main_cst_10 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_11 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_12 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_13 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_14 : Ref sig .tc := ⟨.hbm, 197, rfl⟩
abbrev main_v162 : Ref sig .tc := ⟨.hbm, 198, rfl⟩
abbrev main_v163 : Ref sig .tc := ⟨.hbm, 199, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S224x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S32x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference25Ideal.lean ====
abbrev S4x16x64 : Shape := ⟨3, ![4, 16, 64]⟩
abbrev S4x16 : Shape := ⟨2, ![4, 16]⟩
abbrev S4x16x64x16 : Shape := ⟨4, ![4, 16, 64, 16]⟩
abbrev S1024x1024 : Shape := ⟨2, ![1024, 1024]⟩
abbrev S1792x256 : Shape := ⟨2, ![1792, 256]⟩
abbrev S256x256 : Shape := ⟨2, ![256, 256]⟩
abbrev S8192x64 : Shape := ⟨2, ![8192, 64]⟩
abbrev S8192x128 : Shape := ⟨2, ![8192, 128]⟩
abbrev S256x2048 : Shape := ⟨2, ![256, 2048]⟩
abbrev S256x1536 : Shape := ⟨2, ![256, 1536]⟩
abbrev S8x4x8x2048 : Shape := ⟨4, ![8, 4, 8, 2048]⟩
abbrev S_ : Shape := ⟨0, ![]⟩
abbrev S4x8x2048 : Shape := ⟨3, ![4, 8, 2048]⟩
abbrev S4x1x2048 : Shape := ⟨3, ![4, 1, 2048]⟩
abbrev S4x2048 : Shape := ⟨2, ![4, 2048]⟩
abbrev S4x1024 : Shape := ⟨2, ![4, 1024]⟩
abbrev S8x4x256x128 : Shape := ⟨4, ![8, 4, 256, 128]⟩
abbrev S4x256x128 : Shape := ⟨3, ![4, 256, 128]⟩
abbrev S4x16x16x2x64 : Shape := ⟨5, ![4, 16, 16, 2, 64]⟩
abbrev S4x16x16x1x64 : Shape := ⟨5, ![4, 16, 16, 1, 64]⟩
abbrev S4x16x16x64 : Shape := ⟨4, ![4, 16, 16, 64]⟩
abbrev S4x16x1 : Shape := ⟨3, ![4, 16, 1]⟩
abbrev S4x16x64x1 : Shape := ⟨4, ![4, 16, 64, 1]⟩

abbrev nBuf : Space → Nat
  | .hbm => 190
  | .vmem => 0
  | .smem => 0
  | _ => 0

abbrev hbmTy0_0 (i : Nat) : BufTy := match i % 128 with
  | 0 => ⟨S4x16x64, .f32⟩
  | 1 => ⟨S4x16x64, .f32⟩
  | 2 => ⟨S4x16, .f32⟩
  | 3 => ⟨S4x16x64x16, .f32⟩
  | 4 => ⟨S4x16x64x16, .f32⟩
  | 5 => ⟨S1024x1024, .f32⟩
  | 6 => ⟨S1792x256, .f32⟩
  | 7 => ⟨S256x256, .f32⟩
  | 8 => ⟨S8192x64, .f32⟩
  | 9 => ⟨S8192x128, .f32⟩
  | 10 => ⟨S8192x128, .f32⟩
  | 11 => ⟨S256x2048, .f32⟩
  | 12 => ⟨S256x1536, .f32⟩
  | 13 => ⟨S8x4x8x2048, .f32⟩
  | 14 => ⟨S_, .f32⟩
  | 15 => ⟨S4x8x2048, .f32⟩
  | 16 => ⟨S4x1x2048, .f32⟩
  | 17 => ⟨S4x2048, .f32⟩
  | 18 => ⟨S4x1024, .f32⟩
  | 19 => ⟨S4x1024, .f32⟩
  | 20 => ⟨S4x16x64, .f32⟩
  | 21 => ⟨S4x16x64, .f32⟩
  | 22 => ⟨S8x4x256x128, .f32⟩
  | 23 => ⟨S_, .f32⟩
  | 24 => ⟨S4x256x128, .f32⟩
  | 25 => ⟨S4x16x16x2x64, .f32⟩
  | 26 => ⟨S4x16x16x1x64, .f32⟩
  | 27 => ⟨S4x16x16x64, .f32⟩
  | 28 => ⟨S4x16x64x16, .f32⟩
  | 29 => ⟨S4x16x16x1x64, .f32⟩
  | 30 => ⟨S4x16x16x64, .f32⟩
  | 31 => ⟨S4x16x64x16, .f32⟩
  | 32 => ⟨S4x16, .f32⟩
  | 33 => ⟨S4x16x1, .f32⟩
  | 34 => ⟨S4x16x64, .f32⟩
  | 35 => ⟨S4x16x64, .f32⟩
  | 36 => ⟨S4x16x64, .f32⟩
  | 37 => ⟨S4x16x64, .f32⟩
  | 38 => ⟨S4x16x64, .f32⟩
  | 39 => ⟨S4x16x64, .f32⟩
  | 40 => ⟨S4x16x64, .f32⟩
  | 41 => ⟨S4x16x64, .f32⟩
  | 42 => ⟨S4x16x64, .f32⟩
  | 43 => ⟨S4x16x64, .f32⟩
  | 44 => ⟨S4x16x64, .f32⟩
  | 45 => ⟨S4x16x64, .f32⟩
  | 46 => ⟨S4x16x64, .f32⟩
  | 47 => ⟨S4x16x64, .f32⟩
  | 48 => ⟨S4x16x64, .f32⟩
  | 49 => ⟨S4x16x64, .f32⟩
  | 50 => ⟨S_, .f32⟩
  | 51 => ⟨S4x16x64, .f32⟩
  | 52 => ⟨S4x16x64, .f32⟩
  | 53 => ⟨S4x16x64, .f32⟩
  | 54 => ⟨S4x16x64, .f32⟩
  | 55 => ⟨S4x16x64, .f32⟩
  | 56 => ⟨S4x16x64, .f32⟩
  | 57 => ⟨S4x16x64, .f32⟩
  | 58 => ⟨S_, .f32⟩
  | 59 => ⟨S4x16x64, .f32⟩
  | 60 => ⟨S4x16x64, .f32⟩
  | 61 => ⟨S4x16x64, .f32⟩
  | 62 => ⟨S_, .f32⟩
  | 63 => ⟨S4x16x64, .f32⟩
  | 64 => ⟨S4x16x64, .f32⟩
  | 65 => ⟨S4x16x64, .f32⟩
  | 66 => ⟨S4x16x64, .f32⟩
  | 67 => ⟨S4x16x64, .f32⟩
  | 68 => ⟨S4x16x64, .f32⟩
  | 69 => ⟨S_, .f32⟩
  | 70 => ⟨S4x16x64, .f32⟩
  | 71 => ⟨S4x16x64, .f32⟩
  | 72 => ⟨S4x16x64x1, .f32⟩
  | 73 => ⟨S4x16x64x16, .f32⟩
  | 74 => ⟨S4x16x64x16, .f32⟩
  | 75 => ⟨S4x16x64x1, .f32⟩
  | 76 => ⟨S4x16x64x16, .f32⟩
  | 77 => ⟨S4x16x64x16, .f32⟩
  | 78 => ⟨S4x16x64x16, .f32⟩
  | 79 => ⟨S4x16x64x1, .f32⟩
  | 80 => ⟨S4x16x64x16, .f32⟩
  | 81 => ⟨S4x16x64x16, .f32⟩
  | 82 => ⟨S4x16x64x1, .f32⟩
  | 83 => ⟨S4x16x64x16, .f32⟩
  | 84 => ⟨S4x16x64x16, .f32⟩
  | 85 => ⟨S4x16x64x16, .f32⟩
  | 86 => ⟨S4x16x64x16, .f32⟩
  | 87 => ⟨S4x16x64x16, .f32⟩
  | 88 => ⟨S4x16x64x16, .f32⟩
  | 89 => ⟨S_, .f32⟩
  | 90 => ⟨S4x16x64, .f32⟩
  | 91 => ⟨S4x16x64x1, .f32⟩
  | 92 => ⟨S_, .f32⟩
  | 93 => ⟨S4x16x64, .f32⟩
  | 94 => ⟨S4x16x64x16, .f32⟩
  | 95 => ⟨S4x16x64x16, .f32⟩
  | 96 => ⟨S4x16x64x16, .f32⟩
  | 97 => ⟨S_, .f32⟩
  | 98 => ⟨S4x16x64, .f32⟩
  | 99 => ⟨S4x16x64x1, .f32⟩
  | 100 => ⟨S_, .f32⟩
  | 101 => ⟨S4x16x64, .f32⟩
  | 102 => ⟨S4x16x64x16, .f32⟩
  | 103 => ⟨S4x16x64x16, .f32⟩
  | 104 => ⟨S4x16x64x16, .f32⟩
  | 105 => ⟨S4x16x64x16, .f32⟩
  | 106 => ⟨S4x16x64x16, .f32⟩
  | 107 => ⟨S_, .f32⟩
  | 108 => ⟨S4x16x64, .f32⟩
  | 109 => ⟨S4x16x64x1, .f32⟩
  | 110 => ⟨S_, .f32⟩
  | 111 => ⟨S4x16x64, .f32⟩
  | 112 => ⟨S4x16x64, .f32⟩
  | 113 => ⟨S4x16x64x16, .f32⟩
  | 114 => ⟨S4x16x64x16, .f32⟩
  | 115 => ⟨S4x16x64x16, .f32⟩
  | 116 => ⟨S4x16x64x16, .f32⟩
  | 117 => ⟨S_, .f32⟩
  | 118 => ⟨S4x16x64, .f32⟩
  | 119 => ⟨S4x16x64x1, .f32⟩
  | 120 => ⟨S_, .f32⟩
  | 121 => ⟨S4x16x64, .f32⟩
  | 122 => ⟨S4x16x64, .f32⟩
  | 123 => ⟨S4x16x64, .f32⟩
  | 124 => ⟨S4x16x64, .f32⟩
  | 125 => ⟨S4x16x64, .f32⟩
  | 126 => ⟨S4x16x64, .f32⟩
  | 127 => ⟨S4x16x64, .f32⟩
  | _ => ⟨S4x16x64, .f32⟩

abbrev hbmTy0_1 (i : Nat) : BufTy := match i % 128 with
  | 0 => ⟨S4x16x64, .f32⟩
  | 1 => ⟨S4x16x64, .f32⟩
  | 2 => ⟨S4x16x64, .f32⟩
  | 3 => ⟨S4x16x64, .f32⟩
  | 4 => ⟨S4x16x64, .f32⟩
  | 5 => ⟨S4x16x64, .f32⟩
  | 6 => ⟨S4x16x64, .f32⟩
  | 7 => ⟨S4x16x64, .f32⟩
  | 8 => ⟨S4x16x64, .f32⟩
  | 9 => ⟨S4x16x64, .f32⟩
  | 10 => ⟨S4x16x64, .f32⟩
  | 11 => ⟨S4x16x64, .f32⟩
  | 12 => ⟨S4x16x64, .f32⟩
  | 13 => ⟨S4x16x64, .f32⟩
  | 14 => ⟨S4x16x64, .f32⟩
  | 15 => ⟨S4x16x64, .f32⟩
  | 16 => ⟨S4x16x64, .f32⟩
  | 17 => ⟨S4x16x64, .f32⟩
  | 18 => ⟨S4x16x64, .f32⟩
  | 19 => ⟨S4x16x64, .f32⟩
  | 20 => ⟨S4x16x64, .f32⟩
  | 21 => ⟨S4x16x64, .f32⟩
  | 22 => ⟨S4x16x64, .f32⟩
  | 23 => ⟨S4x16x64, .f32⟩
  | 24 => ⟨S4x16x64, .f32⟩
  | 25 => ⟨S4x16x64, .f32⟩
  | 26 => ⟨S4x16x64, .f32⟩
  | 27 => ⟨S4x16x64, .f32⟩
  | 28 => ⟨S4x16x64, .f32⟩
  | 29 => ⟨S4x16x64, .f32⟩
  | 30 => ⟨S4x16x64, .f32⟩
  | 31 => ⟨S_, .f32⟩
  | 32 => ⟨S4x16, .f32⟩
  | 33 => ⟨S4x16x1, .f32⟩
  | 34 => ⟨S4x16x64, .f32⟩
  | 35 => ⟨S4x16x64, .f32⟩
  | 36 => ⟨S4x16x64, .f32⟩
  | 37 => ⟨S4x16x64, .f32⟩
  | 38 => ⟨S4x16x64, .f32⟩
  | 39 => ⟨S4x16x64, .f32⟩
  | 40 => ⟨S4x16x64, .f32⟩
  | 41 => ⟨S4x16x64, .f32⟩
  | 42 => ⟨S4x16x64, .f32⟩
  | 43 => ⟨S_, .f32⟩
  | 44 => ⟨S4x16, .f32⟩
  | 45 => ⟨S4x16x1, .f32⟩
  | 46 => ⟨S4x16x1, .f32⟩
  | 47 => ⟨S4x16x64, .f32⟩
  | 48 => ⟨S4x16x64, .f32⟩
  | 49 => ⟨S4x16x64, .f32⟩
  | 50 => ⟨S4x16x64, .f32⟩
  | 51 => ⟨S4x16x64, .f32⟩
  | 52 => ⟨S_, .f32⟩
  | 53 => ⟨S4x16, .f32⟩
  | 54 => ⟨S4x16x1, .f32⟩
  | 55 => ⟨S4x16x1, .f32⟩
  | 56 => ⟨S4x16x64, .f32⟩
  | 57 => ⟨S4x16x64, .f32⟩
  | 58 => ⟨S4x16x64, .f32⟩
  | 59 => ⟨S_, .f32⟩
  | 60 => ⟨S4x16, .f32⟩
  | 61 => ⟨S4x16, .f32⟩
  | _ => ⟨S4x16x64, .f32⟩

abbrev hbmTy (i : Nat) : BufTy := match i / 128 with
  | 0 => hbmTy0_0 i
  | 1 => hbmTy0_1 i
  | _ => ⟨S4x16x64, .f32⟩

abbrev bufTy : (tb : Table) → Fin (tcTables nBuf tb) → BufTy
  | .hbm, ⟨i, _⟩ => hbmTy i
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_cst_8 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_9 : Ref sig .tc := ⟨.hbm, 107, rfl⟩
abbrev main_v84 : Ref sig .tc := ⟨.hbm, 108, rfl⟩
abbrev main_v85 : Ref sig .tc := ⟨.hbm, 109, rfl⟩
abbrev main_cst_10 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_11 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_13 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_14 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_15 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_cst_16 : Ref sig .tc := ⟨.hbm, 187, rfl⟩
abbrev main_v157 : Ref sig .tc := ⟨.hbm, 188, rfl⟩
abbrev main_v158 : Ref sig .tc := ⟨.hbm, 189, rfl⟩

abbrev nD : Nat := 1
abbrev τ : Topo := Topo.v7x

variable {F : FTy → Type} [FloatOps F]
-- ==== Proof.SsmRunB.lean ====
module

public import proofs.«01_k».proof.Proof.Gen.Kernel2Ideal.Frame
public import proofs.«01_k».proof.Proof.Gen.Kernel2Ideal.Loops

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- The first point's test, as the body computes it from the grid coordinate. -/
abbrev atFirst (i : grid0.Coords) : Prop := (Scalar.cmpi .ne (Scalar.extui (Scalar.cmpi .eq (BitVec.ofNat 32 (i 0).val) 0#32)) 0#32) = 1#1

/-- It holds at point 0 only. -/
theorem atFirst_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [atFirst, e0]
    word_cmp
   : ∀ t : Fin grid0.N, atFirst (grid0.coords t) ↔ t.val = 0)

/-- The last point's test. -/
abbrev atLast (i : grid0.Coords) : Prop := (k0_cond2 i) = 1#1

/-- It holds at point 15 only. -/
theorem atLast_iff : ∀ t : Fin cfg0.N, atLast (grid0.coords t) ↔ t.val = 15 :=
  (by decide +kernel : ∀ t : Fin grid0.N, atLast (grid0.coords t) ↔ t.val = 15)

set_option maxHeartbeats 9160000 in
/-- A point that is neither the first nor the last. From every
    staging memory and every scratch memory at known contents to what each of them is left holding. -/
noncomputable def runB (c : Dev nD) (i : grid0.Coords) (arg1 : Memref sig .tc .vmem S512x256 .f32) (harg1 : arg1.IsWhole) (arg2 : Memref sig .tc .hbm S8192x1792 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S8x2048 .f32) (harg5 : arg5.IsWhole) (arg6 : Memref sig .tc .vmem S256x2048 .bf16) (harg6 : arg6.IsWhole) (arg7 : Memref sig .tc .vmem S2048x256 .bf16) (harg7 : arg7.IsWhole) (arg8 : Memref sig .tc .vmem S32x2048 .f32) (harg8 : arg8.IsWhole) (arg9 : Memref sig .tc .vmem S32x2048 .f32) (harg9 : arg9.IsWhole) (arg10 : Memref sig .tc .vmem S8x256 .f32) (harg10 : arg10.IsWhole) (arg11 : Memref sig .tc .vmem S256x256 .bf16) (harg11 : arg11.IsWhole) (arg12 : Memref sig .tc .vmem S512x256 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S8x2048 .f32) (harg15 : arg15.IsWhole) (arg16 : Memref sig .tc .vmem S256x256 .f32) (harg16 : arg16.IsWhole) (arg17 : Memref sig .tc .vmem S8x256 .f32) (harg17 : arg17.IsWhole) (arg18 : Memref sig .tc .vmem S520x2048 .f32) (harg18 : arg18.IsWhole) (arg19 : Memref sig .tc .vmem S512x2048 .f32) (harg19 : arg19.IsWhole) (arg20 : Memref sig .tc .vmem S8x2048 .f32) (harg20 : arg20.IsWhole) (arg21 : Memref sig .tc .vmem S8x2048 .f32) (harg21 : arg21.IsWhole) (arg22 : Memref sig .tc .vmem S256x2048 .f32) (harg22 : arg22.IsWhole) (arg23 : Memref sig .tc .vmem S256x2048 .f32) (harg23 : arg23.IsWhole) (hc0 : ¬atFirst i) (hc1 : ¬atLast i)
    (x1 : Vec F S512x256 .f32) (x3 : Vec F S512x256 .f32) (x4 : Vec F S512x256 .f32) (x5 : Vec F S8x2048 .f32) (x6 : Vec F S256x2048 .bf16) (x7 : Vec F S2048x256 .bf16) (x8 : Vec F S32x2048 .f32) (x9 : Vec F S32x2048 .f32) (x10 : Vec F S8x256 .f32) (x11 : Vec F S256x256 .bf16) (x12 : Vec F S512x256 .bf16) (x13 : Vec F S256x128 .f32) (x14 : Vec F S256x128 .f32) (x15 : Vec F S8x2048 .f32) (x16 : Vec F S256x256 .f32) (x17 : Vec F S8x256 .f32) (x18 : Vec F S520x2048 .f32) (x19 : Vec F S512x2048 .f32) (x20 : Vec F S8x2048 .f32) (x21 : Vec F S8x2048 .f32) (x22 : Vec F S256x2048 .f32) (x23 : Vec F S256x2048 .f32) :
    Σ' (G12 : BufTy.Contents (Elt F) arg12.view.ty), Σ' (G15 : BufTy.Contents (Elt F) arg15.view.ty), Σ' (G16 : BufTy.Contents (Elt F) arg16.view.ty), Σ' (G17 : BufTy.Contents (Elt F) arg17.view.ty), Σ' (G18 : BufTy.Contents (Elt F) arg18.view.ty), Σ' (G19 : BufTy.Contents (Elt F) arg19.view.ty), Σ' (G20 : BufTy.Contents (Elt F) arg20.view.ty), Σ' (G21 : BufTy.Contents (Elt F) arg21.view.ty), Σ' (G22 : BufTy.Contents (Elt F) arg22.view.ty), { G23 : BufTy.Contents (Elt F) arg23.view.ty //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} G12) ∗ owns (c : Thread nD τ) arg13 fullShare x13 ∗ owns (c : Thread nD τ) arg14 fullShare x14 ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21) ∗ (arg22.view.loc (c : Thread nD τ) ↦[arg22.view.set]{fullShare} G22) ∗ (arg23.view.loc (c : Thread nD τ) ↦[arg23.view.set]{fullShare} G23)) -∗ K ⟨⟩))
          ⊢ wp frame (wpE (defs₀ (F := F)) Variants.none c none) E (cc0_ssm_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_ssm_bwd_eq_skeleton]; unfold cc0_ssm_bwd_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc0 | sl_exact hc1)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Cert.Ssm

end
-- ==== Proof.SsmRunA.lean ====
module

public import proofs.«01_k».proof.Proof.Gen.Kernel2Ideal.Frame
public import proofs.«01_k».proof.Proof.Gen.Kernel2Ideal.Loops
public import proofs.«01_k».proof.Proof.SsmRunB

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 9160000 in
/-- The first point: the carried memories are set to nothing, then the block is worked through. From every
    staging memory and every scratch memory at known contents to what each of them is left holding. -/
noncomputable def runA (c : Dev nD) (i : grid0.Coords) (arg1 : Memref sig .tc .vmem S512x256 .f32) (harg1 : arg1.IsWhole) (arg2 : Memref sig .tc .hbm S8192x1792 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S8x2048 .f32) (harg5 : arg5.IsWhole) (arg6 : Memref sig .tc .vmem S256x2048 .bf16) (harg6 : arg6.IsWhole) (arg7 : Memref sig .tc .vmem S2048x256 .bf16) (harg7 : arg7.IsWhole) (arg8 : Memref sig .tc .vmem S32x2048 .f32) (harg8 : arg8.IsWhole) (arg9 : Memref sig .tc .vmem S32x2048 .f32) (harg9 : arg9.IsWhole) (arg10 : Memref sig .tc .vmem S8x256 .f32) (harg10 : arg10.IsWhole) (arg11 : Memref sig .tc .vmem S256x256 .bf16) (harg11 : arg11.IsWhole) (arg12 : Memref sig .tc .vmem S512x256 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S8x2048 .f32) (harg15 : arg15.IsWhole) (arg16 : Memref sig .tc .vmem S256x256 .f32) (harg16 : arg16.IsWhole) (arg17 : Memref sig .tc .vmem S8x256 .f32) (harg17 : arg17.IsWhole) (arg18 : Memref sig .tc .vmem S520x2048 .f32) (harg18 : arg18.IsWhole) (arg19 : Memref sig .tc .vmem S512x2048 .f32) (harg19 : arg19.IsWhole) (arg20 : Memref sig .tc .vmem S8x2048 .f32) (harg20 : arg20.IsWhole) (arg21 : Memref sig .tc .vmem S8x2048 .f32) (harg21 : arg21.IsWhole) (arg22 : Memref sig .tc .vmem S256x2048 .f32) (harg22 : arg22.IsWhole) (arg23 : Memref sig .tc .vmem S256x2048 .f32) (harg23 : arg23.IsWhole) (hc0 : atFirst i) (hc1 : ¬atLast i)
    (x1 : Vec F S512x256 .f32) (x3 : Vec F S512x256 .f32) (x4 : Vec F S512x256 .f32) (x5 : Vec F S8x2048 .f32) (x6 : Vec F S256x2048 .bf16) (x7 : Vec F S2048x256 .bf16) (x8 : Vec F S32x2048 .f32) (x9 : Vec F S32x2048 .f32) (x10 : Vec F S8x256 .f32) (x11 : Vec F S256x256 .bf16) (x12 : Vec F S512x256 .bf16) (x13 : Vec F S256x128 .f32) (x14 : Vec F S256x128 .f32) (x15 : Vec F S8x2048 .f32) (x16 : Vec F S256x256 .f32) (x17 : Vec F S8x256 .f32) (x18 : Vec F S520x2048 .f32) (x19 : Vec F S512x2048 .f32) (x20 : Vec F S8x2048 .f32) (x21 : Vec F S8x2048 .f32) (x22 : Vec F S256x2048 .f32) (x23 : Vec F S256x2048 .f32) :
    Σ' (G12 : BufTy.Contents (Elt F) arg12.view.ty), Σ' (G15 : BufTy.Contents (Elt F) arg15.view.ty), Σ' (G16 : BufTy.Contents (Elt F) arg16.view.ty), Σ' (G17 : BufTy.Contents (Elt F) arg17.view.ty), Σ' (G18 : BufTy.Contents (Elt F) arg18.view.ty), Σ' (G19 : BufTy.Contents (Elt F) arg19.view.ty), Σ' (G20 : BufTy.Contents (Elt F) arg20.view.ty), Σ' (G21 : BufTy.Contents (Elt F) arg21.view.ty), Σ' (G22 : BufTy.Contents (Elt F) arg22.view.ty), { G23 : BufTy.Contents (Elt F) arg23.view.ty //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} G12) ∗ owns (c : Thread nD τ) arg13 fullShare x13 ∗ owns (c : Thread nD τ) arg14 fullShare x14 ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21) ∗ (arg22.view.loc (c : Thread nD τ) ↦[arg22.view.set]{fullShare} G22) ∗ (arg23.view.loc (c : Thread nD τ) ↦[arg23.view.set]{fullShare} G23)) -∗ K ⟨⟩))
          ⊢ wp frame (wpE (defs₀ (F := F)) Variants.none c none) E (cc0_ssm_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_ssm_bwd_eq_skeleton]; unfold cc0_ssm_bwd_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc0 | sl_exact hc1)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Cert.Ssm

end
-- ==== Proof.SsmRunC.lean ====
module

public import proofs.«01_k».proof.Proof.Gen.Kernel2Ideal.Frame
public import proofs.«01_k».proof.Proof.Gen.Kernel2Ideal.Loops
public import proofs.«01_k».proof.Proof.SsmRunB

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

set_option maxHeartbeats 9160000 in
/-- The last point: after the block the two sums of products are written out. From every
    staging memory and every scratch memory at known contents to what each of them is left holding. -/
noncomputable def runC (c : Dev nD) (i : grid0.Coords) (arg1 : Memref sig .tc .vmem S512x256 .f32) (harg1 : arg1.IsWhole) (arg2 : Memref sig .tc .hbm S8192x1792 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S8x2048 .f32) (harg5 : arg5.IsWhole) (arg6 : Memref sig .tc .vmem S256x2048 .bf16) (harg6 : arg6.IsWhole) (arg7 : Memref sig .tc .vmem S2048x256 .bf16) (harg7 : arg7.IsWhole) (arg8 : Memref sig .tc .vmem S32x2048 .f32) (harg8 : arg8.IsWhole) (arg9 : Memref sig .tc .vmem S32x2048 .f32) (harg9 : arg9.IsWhole) (arg10 : Memref sig .tc .vmem S8x256 .f32) (harg10 : arg10.IsWhole) (arg11 : Memref sig .tc .vmem S256x256 .bf16) (harg11 : arg11.IsWhole) (arg12 : Memref sig .tc .vmem S512x256 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S8x2048 .f32) (harg15 : arg15.IsWhole) (arg16 : Memref sig .tc .vmem S256x256 .f32) (harg16 : arg16.IsWhole) (arg17 : Memref sig .tc .vmem S8x256 .f32) (harg17 : arg17.IsWhole) (arg18 : Memref sig .tc .vmem S520x2048 .f32) (harg18 : arg18.IsWhole) (arg19 : Memref sig .tc .vmem S512x2048 .f32) (harg19 : arg19.IsWhole) (arg20 : Memref sig .tc .vmem S8x2048 .f32) (harg20 : arg20.IsWhole) (arg21 : Memref sig .tc .vmem S8x2048 .f32) (harg21 : arg21.IsWhole) (arg22 : Memref sig .tc .vmem S256x2048 .f32) (harg22 : arg22.IsWhole) (arg23 : Memref sig .tc .vmem S256x2048 .f32) (harg23 : arg23.IsWhole) (hc0 : ¬atFirst i) (hc1 : atLast i)
    (x1 : Vec F S512x256 .f32) (x3 : Vec F S512x256 .f32) (x4 : Vec F S512x256 .f32) (x5 : Vec F S8x2048 .f32) (x6 : Vec F S256x2048 .bf16) (x7 : Vec F S2048x256 .bf16) (x8 : Vec F S32x2048 .f32) (x9 : Vec F S32x2048 .f32) (x10 : Vec F S8x256 .f32) (x11 : Vec F S256x256 .bf16) (x12 : Vec F S512x256 .bf16) (x13 : Vec F S256x128 .f32) (x14 : Vec F S256x128 .f32) (x15 : Vec F S8x2048 .f32) (x16 : Vec F S256x256 .f32) (x17 : Vec F S8x256 .f32) (x18 : Vec F S520x2048 .f32) (x19 : Vec F S512x2048 .f32) (x20 : Vec F S8x2048 .f32) (x21 : Vec F S8x2048 .f32) (x22 : Vec F S256x2048 .f32) (x23 : Vec F S256x2048 .f32) :
    Σ' (G12 : BufTy.Contents (Elt F) arg12.view.ty), Σ' (G13 : BufTy.Contents (Elt F) arg13.view.ty), Σ' (G14 : BufTy.Contents (Elt F) arg14.view.ty), Σ' (G15 : BufTy.Contents (Elt F) arg15.view.ty), Σ' (G16 : BufTy.Contents (Elt F) arg16.view.ty), Σ' (G17 : BufTy.Contents (Elt F) arg17.view.ty), Σ' (G18 : BufTy.Contents (Elt F) arg18.view.ty), Σ' (G19 : BufTy.Contents (Elt F) arg19.view.ty), Σ' (G20 : BufTy.Contents (Elt F) arg20.view.ty), Σ' (G21 : BufTy.Contents (Elt F) arg21.view.ty), Σ' (G22 : BufTy.Contents (Elt F) arg22.view.ty), { G23 : BufTy.Contents (Elt F) arg23.view.ty //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20) ∗ (arg21.view.loc (c : Thread nD τ) ↦[arg21.view.set]{fullShare} G21) ∗ (arg22.view.loc (c : Thread nD τ) ↦[arg22.view.set]{fullShare} G22) ∗ (arg23.view.loc (c : Thread nD τ) ↦[arg23.view.set]{fullShare} G23)) -∗ K ⟨⟩))
          ⊢ wp frame (wpE (defs₀ (F := F)) Variants.none c none) E (cc0_ssm_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, fun E K => ?run⟩
  case run =>
    simp only [cc0_ssm_bwd_eq_skeleton]; unfold cc0_ssm_bwd_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg1.eq_unread hf1; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc0 | sl_exact hc1)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Cert.Ssm

end
-- ==== Proof.SsmFrame.lean ====
module

public import proofs.«01_k».proof.Proof.Gen.Kernel2Ideal.Frame
public import proofs.«01_k».proof.Proof.SsmRunA
public import proofs.«01_k».proof.Proof.SsmRunC

@[expose] public section

set_option maxRecDepth 16384

noncomputable section

namespace Cert.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch memory 0. -/
abbrev sc0 : Memref sig .tc .vmem S520x2048 .f32 := Memref.whole cc0_scratch0
/-- Scratch memory 1. -/
abbrev sc1 : Memref sig .tc .vmem S512x2048 .f32 := Memref.whole cc0_scratch1
/-- Scratch memory 2. -/
abbrev sc2 : Memref sig .tc .vmem S8x2048 .f32 := Memref.whole cc0_scratch2
/-- Scratch memory 3. -/
abbrev sc3 : Memref sig .tc .vmem S8x2048 .f32 := Memref.whole cc0_scratch3
/-- Scratch memory 4. -/
abbrev sc4 : Memref sig .tc .vmem S256x2048 .f32 := Memref.whole cc0_scratch4
/-- Scratch memory 5. -/
abbrev sc5 : Memref sig .tc .vmem S256x2048 .f32 := Memref.whole cc0_scratch5

/-- The six scratch memories at some contents and the generator's register: what each point is given and gives back. -/
theorem held_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ ∃ r, prngReg c r) := by
  unfold Pipeline.ΦA; rw [scopedRest0_eq]; simp only [sc0, sc1, sc2, sc3, sc4, sc5, owns_whole]; try rfl

/-- The windows whose contents this part leaves unsaid: the six results. -/
abbrev unsaid : Fin cfg0.W → Bool := fun w => decide (10 ≤ w.val)

/-- The launch data: every argument as launched, every input block left as it was found. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
    | ⟨13, h⟩ => Dat.unnamed (cfg := cfg0) ⟨13, h⟩ t
    | ⟨14, h⟩ => Dat.unnamed (cfg := cfg0) ⟨14, h⟩ t
    | ⟨15, h⟩ => Dat.unnamed (cfg := cfg0) ⟨15, h⟩ t
    | ⟨n + 16, h⟩ => Dat.unnamed (cfg := cfg0) ⟨n + 16, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ X, owns (c : Thread nD τ) ((cfg0.win 10).stage (cfg0.slots t 10)) fullShare X) ∗ (∃ X, owns (c : Thread nD τ) ((cfg0.win 11).stage (cfg0.slots t 11)) fullShare X) ∗ (∃ X, owns (c : Thread nD τ) ((cfg0.win 12).stage (cfg0.slots t 12)) fullShare X) ∗ (∃ X, owns (c : Thread nD τ) ((cfg0.win 13).stage (cfg0.slots t 13)) fullShare X) ∗ (∃ X, owns (c : Thread nD τ) ((cfg0.win 14).stage (cfg0.slots t 14)) fullShare X) ∗ (∃ X, owns (c : Thread nD τ) ((cfg0.win 15).stage (cfg0.slots t 15)) fullShare X))

def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t) ∗ owns (c : Thread nD τ) ((cfg0.win 7).stage (cfg0.slots t 7)) fullShare ((dats m 0 c).after 7 t) ∗ owns (c : Thread nD τ) ((cfg0.win 8).stage (cfg0.slots t 8)) fullShare ((dats m 0 c).after 8 t) ∗ owns (c : Thread nD τ) ((cfg0.win 9).stage (cfg0.slots t 9)) fullShare ((dats m 0 c).after 9 t) ∗ (∃ X, owns (c : Thread nD τ) ((cfg0.win 10).stage (cfg0.slots t 10)) fullShare X) ∗ (∃ X, owns (c : Thread nD τ) ((cfg0.win 11).stage (cfg0.slots t 11)) fullShare X) ∗ (∃ X, owns (c : Thread nD τ) ((cfg0.win 12).stage (cfg0.slots t 12)) fullShare X) ∗ (∃ X, owns (c : Thread nD τ) ((cfg0.win 13).stage (cfg0.slots t 13)) fullShare X) ∗ (∃ X, owns (c : Thread nD τ) ((cfg0.win 14).stage (cfg0.slots t 14)) fullShare X) ∗ (∃ X, owns (c : Thread nD τ) ((cfg0.win 15).stage (cfg0.slots t 15)) fullShare X))

set_option maxHeartbeats 3200000 in
/-- The body at any point, by which of the three kinds of point it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3, after_4, after_5, after_6, after_7, after_8, after_9, held_eq]
  have hN : t.val < 16 := lt_of_lt_of_eq t.isLt (show cfg0.N = 16 from N_0)
  by_cases h0 : t.val = 0
  · skip
    iintro ⟨⟨⟨⟨%d18, H18⟩, ⟨%d19, H19⟩, ⟨%d20, H20⟩, ⟨%d21, H21⟩, ⟨%d22, H22⟩, ⟨%d23, H23⟩⟩, Hr⟩, Ho, ⟨%d1, H1⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA c (grid0.coords t) _ _ _ _ _ _ _ _ _ _ _ _ _ _ _ _ _ _ _ _ _ _ _ _ _ _ _ _ _ _ _ _ _ _ _ _ _ _ _ _ _ _ _ _ _ _ ((atFirst_iff t).mpr h0) (fun h => by have := (atLast_iff t).mp h; omega) (iblk m c 0 t) (iblk m c 1 t) (iblk m c 2 t) (iblk m c 3 t) (iblk m c 4 t) (iblk m c 5 t) (iblk m c 6 t) (iblk m c 7 t) (iblk m c 8 t) (iblk m c 9 t) d12 d13 d14 d15 d16 d17 d18 d19 d20 d21 d22 d23).2.2.2.2.2.2.2.2.2.2 Set.univ _)
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro ⟨H1, H3, H4, H5, H6, H7, H8, H9, H10, H11, H12, H13, H14, H15, H16, H17, H18, H19, H20, H21, H22, H23⟩
    isplitl [H18 H19 H20 H21 H22 H23 Hr]
    · isplitl [H18 H19 H20 H21 H22 H23]
      · skip
        isplitl [H18]
        · unfold owns; iexists _, _; isplitr; swap; · iexact H18
          ipureintro; rfl
        isplitl [H19]
        · unfold owns; iexists _, _; isplitr; swap; · iexact H19
          ipureintro; rfl
        isplitl [H20]
        · unfold owns; iexists _, _; isplitr; swap; · iexact H20
          ipureintro; rfl
        isplitl [H21]
        · unfold owns; iexists _, _; isplitr; swap; · iexact H21
          ipureintro; rfl
        isplitl [H22]
        · unfold owns; iexists _, _; isplitr; swap; · iexact H22
          ipureintro; rfl
        unfold owns; iexists _, _; isplitr; swap; · iexact H23
        ipureintro; rfl
      iexact Hr
    isplitl [Ho]; · iexact Ho
    isplitl [H1]
    · iexact H1
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · unfold owns; iexists _, _; isplitr; swap; · iexact H12
      ipureintro; rfl
    isplitl [H13]
    · iexists _; iexact H13
    isplitl [H14]
    · iexists _; iexact H14
    isplitl [H15]
    · unfold owns; iexists _, _; isplitr; swap; · iexact H15
      ipureintro; rfl
    isplitl [H16]
    · unfold owns; iexists _, _; isplitr; swap; · iexact H16
      ipureintro; rfl
    unfold owns; iexists _, _; isplitr; swap; · iexact H17
    ipureintro; rfl
  · by_cases h1 : t.val = 15
    · skip
      iintro ⟨⟨⟨⟨%d18, H18⟩, ⟨%d19, H19⟩, ⟨%d20, H20⟩, ⟨%d21, H21⟩, ⟨%d22, H22⟩, ⟨%d23, H23⟩⟩, Hr⟩, Ho, ⟨%d1, H1⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runC c (grid0.coords t) _ _ _ _ _ _ _ _ _ _ _ _ _ _ _ _ _ _ _ _ _ _ _ _ _ _ _ _ _ _ _ _ _ _ _ _ _ _ _ _ _ _ _ _ _ _ (fun h => h0 ((atFirst_iff t).mp h)) ((atLast_iff t).mpr h1) (iblk m c 0 t) (iblk m c 1 t) (iblk m c 2 t) (iblk m c 3 t) (iblk m c 4 t) (iblk m c 5 t) (iblk m c 6 t) (iblk m c 7 t) (iblk m c 8 t) (iblk m c 9 t) d12 d13 d14 d15 d16 d17 d18 d19 d20 d21 d22 d23).2.2.2.2.2.2.2.2.2.2.2.2 Set.univ _)
      isplitl [H1]; · iexact H1
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iintro ⟨H1, H3, H4, H5, H6, H7, H8, H9, H10, H11, H12, H13, H14, H15, H16, H17, H18, H19, H20, H21, H22, H23⟩
      isplitl [H18 H19 H20 H21 H22 H23 Hr]
      · isplitl [H18 H19 H20 H21 H22 H23]
        · skip
          isplitl [H18]
          · unfold owns; iexists _, _; isplitr; swap; · iexact H18
            ipureintro; rfl
          isplitl [H19]
          · unfold owns; iexists _, _; isplitr; swap; · iexact H19
            ipureintro; rfl
          isplitl [H20]
          · unfold owns; iexists _, _; isplitr; swap; · iexact H20
            ipureintro; rfl
          isplitl [H21]
          · unfold owns; iexists _, _; isplitr; swap; · iexact H21
            ipureintro; rfl
          isplitl [H22]
          · unfold owns; iexists _, _; isplitr; swap; · iexact H22
            ipureintro; rfl
          unfold owns; iexists _, _; isplitr; swap; · iexact H23
          ipureintro; rfl
        iexact Hr
      isplitl [Ho]; · iexact Ho
      isplitl [H1]
      · iexact H1
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · unfold owns; iexists _, _; isplitr; swap; · iexact H12
        ipureintro; rfl
      isplitl [H13]
      · unfold owns; iexists _, _; isplitr; swap; · iexact H13
        ipureintro; rfl
      isplitl [H14]
      · unfold owns; iexists _, _; isplitr; swap; · iexact H14
        ipureintro; rfl
      isplitl [H15]
      · unfold owns; iexists _, _; isplitr; swap; · iexact H15
        ipureintro; rfl
      isplitl [H16]
      · unfold owns; iexists _, _; isplitr; swap; · iexact H16
        ipureintro; rfl
      unfold owns; iexists _, _; isplitr; swap; · iexact H17
      ipureintro; rfl
    · skip
      iintro ⟨⟨⟨⟨%d18, H18⟩, ⟨%d19, H19⟩, ⟨%d20, H20⟩, ⟨%d21, H21⟩, ⟨%d22, H22⟩, ⟨%d23, H23⟩⟩, Hr⟩, Ho, ⟨%d1, H1⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((runB c (grid0.coords t) _ _ _ _ _ _ _ _ _ _ _ _ _ _ _ _ _ _ _ _ _ _ _ _ _ _ _ _ _ _ _ _ _ _ _ _ _ _ _ _ _ _ _ _ _ _ (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) (iblk m c 9 t) d12 d13 d14 d15 d16 d17 d18 d19 d20 d21 d22 d23).2.2.2.2.2.2.2.2.2.2 Set.univ _)
      isplitl [H1]; · iexact H1
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iintro ⟨H1, H3, H4, H5, H6, H7, H8, H9, H10, H11, H12, H13, H14, H15, H16, H17, H18, H19, H20, H21, H22, H23⟩
      isplitl [H18 H19 H20 H21 H22 H23 Hr]
      · isplitl [H18 H19 H20 H21 H22 H23]
        · skip
          isplitl [H18]
          · unfold owns; iexists _, _; isplitr; swap; · iexact H18
            ipureintro; rfl
          isplitl [H19]
          · unfold owns; iexists _, _; isplitr; swap; · iexact H19
            ipureintro; rfl
          isplitl [H20]
          · unfold owns; iexists _, _; isplitr; swap; · iexact H20
            ipureintro; rfl
          isplitl [H21]
          · unfold owns; iexists _, _; isplitr; swap; · iexact H21
            ipureintro; rfl
          isplitl [H22]
          · unfold owns; iexists _, _; isplitr; swap; · iexact H22
            ipureintro; rfl
          unfold owns; iexists _, _; isplitr; swap; · iexact H23
          ipureintro; rfl
        iexact Hr
      isplitl [Ho]; · iexact Ho
      isplitl [H1]
      · iexact H1
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · unfold owns; iexists _, _; isplitr; swap; · iexact H12
        ipureintro; rfl
      isplitl [H13]
      · iexists _; iexact H13
      isplitl [H14]
      · iexists _; iexact H14
      isplitl [H15]
      · unfold owns; iexists _, _; isplitr; swap; · iexact H15
        ipureintro; rfl
      isplitl [H16]
      · unfold owns; iexists _, _; isplitr; swap; · iexact H16
        ipureintro; rfl
      unfold owns; iexists _, _; isplitr; swap; · iexact H17
      ipureintro; rfl

/-- The region's row of the body table at a point is the body at that point's staging memories. -/
theorem defs₀_row (t : Fin cfg0.N) : defs₀ (F := F) .tc cfg0.body (cfg0.bodyArgs t (cfg0.slots t)) = bodyAt0 t := rfl

set_option maxHeartbeats 1600000 in
theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
/-- The run: every window's array as the data say, and every counter back at zero. -/
theorem run_main : θ_run defs (onTc (τ := τ) (main (F := F))) (s₀ m ρ) (fun r =>
    Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose)
    (hshare := fun c => (dats m 0 c).share_full fun _ => rfl) (howed := fun _ _ => rfl) (V := V m) (hmain := hmain m Variants.none)
    (hA := A_eq m) (hΦ := fun _ _ => rfl)

/-- Every argument is left as it was, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 1 rfl).trans ((A_eq m c 1).trans (V_main_arg2 m c)),
      (Pipeline.RDat.FramePost.arr_in h.1 c 2 rfl).trans ((A_eq m c 2).trans (V_main_arg3 m c)),
      (Pipeline.RDat.FramePost.arr_in h.1 c 3 rfl).trans ((A_eq m c 3).trans (V_main_arg4 m c)),
      (Pipeline.RDat.FramePost.arr_in h.1 c 4 rfl).trans ((A_eq m c 4).trans (V_main_arg5 m c)),
      (Pipeline.RDat.FramePost.arr_in h.1 c 5 rfl).trans ((A_eq m c 5).trans (V_main_arg6 m c)),
      (Pipeline.RDat.FramePost.arr_in h.1 c 6 rfl).trans ((A_eq m c 6).trans (V_main_arg7 m c)),
      (Pipeline.RDat.FramePost.arr_in h.1 c 7 rfl).trans ((A_eq m c 7).trans (V_main_arg8 m c)),
      (Pipeline.RDat.FramePost.arr_in h.1 c 8 rfl).trans ((A_eq m c 8).trans (V_main_arg9 m c)),
      (Pipeline.RDat.FramePost.arr_in h.1 c 9 rfl).trans ((A_eq m c 9).trans (V_main_arg10 m c))⟩, h.2⟩) (run_main m ρ)

end Cert.Ssm

end
-- ==== Proof.AdamManyRun.lean ====
module

public import proofs.«01_k».proof.Proof.Gen.Kernel17Ideal.Launch
public import proofs.«01_k».proof.Proof.Gen.Kernel17Ideal.Skeleton
public import proofs.«01_k».proof.Proof.Gen.Kernel17Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit

@[expose] public section

set_option maxRecDepth 16384

noncomputable section

namespace Cert.AdamMany

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel17Ideal Cert.Kernel17Ideal.Gen

variable {F : FTy → Type} [FloatOps F]

local notation "𝕄" => MT nD τ sig Unit (Elt F) ℕ (UR sig nD τ) ℕ

section Step

variable {s : Shape}

/-- The first moment's step over a whole array. -/
def mom1 (g u : Vec F s .f32) : Vec F s .f32 :=
  addf (mulf (broadcast s (Scalar.ofBits .f32 0x3F666666#32)) u) (mulf (broadcast s (Scalar.ofBits .f32 0x3DCCCCCD#32)) g)

/-- The second moment's step over a whole array. -/
def mom2 (g v : Vec F s .f32) : Vec F s .f32 :=
  addf (mulf (broadcast s (Scalar.ofBits .f32 0x3F7FBE77#32)) v) (mulf (broadcast s (Scalar.ofBits .f32 0x3A83126F#32)) (mulf g g))

/-- The weight's step over a whole array. -/
def step (w g u v : Vec F s .f32) : Vec F s .f32 :=
  mulf (broadcast s (Scalar.ofBits .f32 0xBA83126F#32))
    (addf (divf (divf (mom1 g u) (broadcast s (Scalar.ofBits .f32 0x3F26BD02#32)))
        (addf (sqrt (divf (mom2 g v) (broadcast s (Scalar.ofBits .f32 0x3C231ACC#32)))) (broadcast s (Scalar.ofBits .f32 0x322BCC77#32))))
      (mulf (broadcast s (Scalar.ofBits .f32 0x3C23D70A#32)) w))

variable {off : Fin s.rank → ℕ} (inb : ∀ a, off a + s.size a ≤ s.size a) (b : View sig .tc .vmem s .f32) (f : b.ty.Contents (Elt F))

/-- One store over a whole array leaves what was stored. -/
theorem stored (h : ∀ a, off a = 0) (p : Vec F s .f32) : b.read (Elt F) (b.writes (Elt F) f [⟨Rect.unit off s.size inb, p⟩]) = p :=
  (View.read_writes_eq_canon _ _ _ fun y => ⟨_, List.mem_singleton.2 rfl, View.mem_set_unit_zero (funext h) inb y⟩).trans
    (View.canon_unit_zero (funext h) inb p)

/-- The weight's step, stored whole from whole loads. -/
theorem stored_step (w g u v : Vec F s .f32) (h : ∀ a, off a = 0) :
    b.read (Elt F) (b.writes (Elt F) f [⟨Rect.unit off s.size inb, step (View.ld w (Rect.unit off s.size inb)) (View.ld g (Rect.unit off s.size inb)) (View.ld u (Rect.unit off s.size inb)) (View.ld v (Rect.unit off s.size inb))⟩])
      = step w g u v := by
  obtain rfl : off = fun _ => 0 := funext h
  refine (stored inb b f h _).trans ?_
  rw [View.ld_unit_zero rfl, View.ld_unit_zero rfl, View.ld_unit_zero rfl, View.ld_unit_zero rfl]

/-- The first moment's step, stored whole from whole loads. -/
theorem stored_mom1 (g u : Vec F s .f32) (h : ∀ a, off a = 0) :
    b.read (Elt F) (b.writes (Elt F) f [⟨Rect.unit off s.size inb, mom1 (View.ld g (Rect.unit off s.size inb)) (View.ld u (Rect.unit off s.size inb))⟩])
      = mom1 g u := by
  obtain rfl : off = fun _ => 0 := funext h
  refine (stored inb b f h _).trans ?_
  rw [View.ld_unit_zero rfl, View.ld_unit_zero rfl]

/-- The second moment's step, stored whole from whole loads. -/
theorem stored_mom2 (g v : Vec F s .f32) (h : ∀ a, off a = 0) :
    b.read (Elt F) (b.writes (Elt F) f [⟨Rect.unit off s.size inb, mom2 (View.ld g (Rect.unit off s.size inb)) (View.ld v (Rect.unit off s.size inb))⟩])
      = mom2 g v := by
  obtain rfl : off = fun _ => 0 := funext h
  refine (stored inb b f h _).trans ?_
  rw [View.ld_unit_zero rfl, View.ld_unit_zero rfl]

end Step

/-- A whole array in the kernel's memory. -/
abbrev M (s : Shape) := Memref sig .tc .vmem s .f32

/-- Full ownership of an array at given contents. -/
abbrev own (c : Dev nD) {s : Shape} (a : M s) (x : Vec F s .f32) : sProp 𝕄 := owns (c : Thread nD τ) a fullShare x

set_option maxHeartbeats 8000000 in
/-- The kernel's body on whole arrays: the weights, gradients and moments stay as they are, and every result ends at its step. -/
theorem sound_kernel (c : Dev nD) (E : Set ℕ)
    (a0 : M S4x6144) (h0 : a0.IsWhole) (a1 : M S4x1792) (h1 : a1.IsWhole) (a2 : M S4x3x64) (h2 : a2.IsWhole) (a3 : M S4x4x64x64) (h3 : a3.IsWhole) (a4 : M S4x256) (h4 : a4.IsWhole)
    (a5 : M S4x31x64) (h5 : a5.IsWhole) (a6 : M S4x256) (h6 : a6.IsWhole) (a7 : M S4x256) (h7 : a7.IsWhole) (a8 : M S4x256) (h8 : a8.IsWhole) (a9 : M S4x16x64) (h9 : a9.IsWhole)
    (a10 : M S4x16x64) (h10 : a10.IsWhole) (a11 : M S4x16) (h11 : a11.IsWhole) (a12 : M S4x16x1024) (h12 : a12.IsWhole) (a13 : M S4x16x1024) (h13 : a13.IsWhole)
    (a14 : M S4x16x16x64) (h14 : a14.IsWhole) (a15 : M S4x16x16x64) (h15 : a15.IsWhole) (a16 : M S4x256) (h16 : a16.IsWhole) (a17 : M S4x256) (h17 : a17.IsWhole)
    (a18 : M S4x1024) (h18 : a18.IsWhole) (a19 : M S4x1024) (h19 : a19.IsWhole) (a20 : M S4x1024) (h20 : a20.IsWhole) (a21 : M S4x1024) (h21 : a21.IsWhole)
    (a22 : M S4x6144) (h22 : a22.IsWhole) (a23 : M S4x1792) (h23 : a23.IsWhole) (a24 : M S4x3x64) (h24 : a24.IsWhole) (a25 : M S4x4x64x64) (h25 : a25.IsWhole)
    (a26 : M S4x256) (h26 : a26.IsWhole) (a27 : M S4x31x64) (h27 : a27.IsWhole) (a28 : M S4x256) (h28 : a28.IsWhole) (a29 : M S4x256) (h29 : a29.IsWhole)
    (a30 : M S4x256) (h30 : a30.IsWhole) (a31 : M S4x16x64) (h31 : a31.IsWhole) (a32 : M S4x16x64) (h32 : a32.IsWhole) (a33 : M S4x16) (h33 : a33.IsWhole)
    (a34 : M S4x16x1024) (h34 : a34.IsWhole) (a35 : M S4x16x1024) (h35 : a35.IsWhole) (a36 : M S4x16x16x64) (h36 : a36.IsWhole) (a37 : M S4x16x16x64) (h37 : a37.IsWhole)
    (a38 : M S4x256) (h38 : a38.IsWhole) (a39 : M S4x256) (h39 : a39.IsWhole) (a40 : M S4x1024) (h40 : a40.IsWhole) (a41 : M S4x1024) (h41 : a41.IsWhole)
    (a42 : M S4x1024) (h42 : a42.IsWhole) (a43 : M S4x1024) (h43 : a43.IsWhole) (a44 : M S4x6144) (h44 : a44.IsWhole) (a45 : M S4x1792) (h45 : a45.IsWhole)
    (a46 : M S4x3x64) (h46 : a46.IsWhole) (a47 : M S4x4x64x64) (h47 : a47.IsWhole) (a48 : M S4x256) (h48 : a48.IsWhole) (a49 : M S4x31x64) (h49 : a49.IsWhole)
    (a50 : M S4x256) (h50 : a50.IsWhole) (a51 : M S4x256) (h51 : a51.IsWhole) (a52 : M S4x256) (h52 : a52.IsWhole) (a53 : M S4x16x64) (h53 : a53.IsWhole)
    (a54 : M S4x16x64) (h54 : a54.IsWhole) (a55 : M S4x16) (h55 : a55.IsWhole) (a56 : M S4x16x1024) (h56 : a56.IsWhole) (a57 : M S4x16x1024) (h57 : a57.IsWhole)
    (a58 : M S4x16x16x64) (h58 : a58.IsWhole) (a59 : M S4x16x16x64) (h59 : a59.IsWhole) (a60 : M S4x256) (h60 : a60.IsWhole) (a61 : M S4x256) (h61 : a61.IsWhole)
    (a62 : M S4x1024) (h62 : a62.IsWhole) (a63 : M S4x1024) (h63 : a63.IsWhole) (a64 : M S4x1024) (h64 : a64.IsWhole) (a65 : M S4x1024) (h65 : a65.IsWhole)
    (a66 : M S4x6144) (h66 : a66.IsWhole) (a67 : M S4x1792) (h67 : a67.IsWhole) (a68 : M S4x3x64) (h68 : a68.IsWhole) (a69 : M S4x4x64x64) (h69 : a69.IsWhole)
    (a70 : M S4x256) (h70 : a70.IsWhole) (a71 : M S4x31x64) (h71 : a71.IsWhole) (a72 : M S4x256) (h72 : a72.IsWhole) (a73 : M S4x256) (h73 : a73.IsWhole)
    (a74 : M S4x256) (h74 : a74.IsWhole) (a75 : M S4x16x64) (h75 : a75.IsWhole) (a76 : M S4x16x64) (h76 : a76.IsWhole) (a77 : M S4x16) (h77 : a77.IsWhole)
    (a78 : M S4x16x1024) (h78 : a78.IsWhole) (a79 : M S4x16x1024) (h79 : a79.IsWhole) (a80 : M S4x16x16x64) (h80 : a80.IsWhole) (a81 : M S4x16x16x64) (h81 : a81.IsWhole)
    (a82 : M S4x256) (h82 : a82.IsWhole) (a83 : M S4x256) (h83 : a83.IsWhole) (a84 : M S4x1024) (h84 : a84.IsWhole) (a85 : M S4x1024) (h85 : a85.IsWhole)
    (a86 : M S4x1024) (h86 : a86.IsWhole) (a87 : M S4x1024) (h87 : a87.IsWhole) (a88 : M S4x6144) (h88 : a88.IsWhole) (a89 : M S4x1792) (h89 : a89.IsWhole)
    (a90 : M S4x3x64) (h90 : a90.IsWhole) (a91 : M S4x4x64x64) (h91 : a91.IsWhole) (a92 : M S4x256) (h92 : a92.IsWhole) (a93 : M S4x31x64) (h93 : a93.IsWhole)
    (a94 : M S4x256) (h94 : a94.IsWhole) (a95 : M S4x256) (h95 : a95.IsWhole) (a96 : M S4x256) (h96 : a96.IsWhole) (a97 : M S4x16x64) (h97 : a97.IsWhole)
    (a98 : M S4x16x64) (h98 : a98.IsWhole) (a99 : M S4x16) (h99 : a99.IsWhole) (a100 : M S4x16x1024) (h100 : a100.IsWhole) (a101 : M S4x16x1024) (h101 : a101.IsWhole)
    (a102 : M S4x16x16x64) (h102 : a102.IsWhole) (a103 : M S4x16x16x64) (h103 : a103.IsWhole) (a104 : M S4x256) (h104 : a104.IsWhole) (a105 : M S4x256) (h105 : a105.IsWhole)
    (a106 : M S4x1024) (h106 : a106.IsWhole) (a107 : M S4x1024) (h107 : a107.IsWhole) (a108 : M S4x1024) (h108 : a108.IsWhole) (a109 : M S4x1024) (h109 : a109.IsWhole)
    (a110 : M S4x6144) (h110 : a110.IsWhole) (a111 : M S4x1792) (h111 : a111.IsWhole) (a112 : M S4x3x64) (h112 : a112.IsWhole) (a113 : M S4x4x64x64) (h113 : a113.IsWhole)
    (a114 : M S4x256) (h114 : a114.IsWhole) (a115 : M S4x31x64) (h115 : a115.IsWhole) (a116 : M S4x256) (h116 : a116.IsWhole) (a117 : M S4x256) (h117 : a117.IsWhole)
    (a118 : M S4x256) (h118 : a118.IsWhole) (a119 : M S4x16x64) (h119 : a119.IsWhole) (a120 : M S4x16x64) (h120 : a120.IsWhole) (a121 : M S4x16) (h121 : a121.IsWhole)
    (a122 : M S4x16x1024) (h122 : a122.IsWhole) (a123 : M S4x16x1024) (h123 : a123.IsWhole) (a124 : M S4x16x16x64) (h124 : a124.IsWhole) (a125 : M S4x16x16x64) (h125 : a125.IsWhole)
    (a126 : M S4x256) (h126 : a126.IsWhole) (a127 : M S4x256) (h127 : a127.IsWhole) (a128 : M S4x1024) (h128 : a128.IsWhole) (a129 : M S4x1024) (h129 : a129.IsWhole)
    (a130 : M S4x1024) (h130 : a130.IsWhole) (a131 : M S4x1024) (h131 : a131.IsWhole) (a132 : M S4x6144) (h132 : a132.IsWhole) (a133 : M S4x1792) (h133 : a133.IsWhole)
    (a134 : M S4x3x64) (h134 : a134.IsWhole) (a135 : M S4x4x64x64) (h135 : a135.IsWhole) (a136 : M S4x256) (h136 : a136.IsWhole) (a137 : M S4x31x64) (h137 : a137.IsWhole)
    (a138 : M S4x256) (h138 : a138.IsWhole) (a139 : M S4x256) (h139 : a139.IsWhole) (a140 : M S4x256) (h140 : a140.IsWhole) (a141 : M S4x16x64) (h141 : a141.IsWhole)
    (a142 : M S4x16x64) (h142 : a142.IsWhole) (a143 : M S4x16) (h143 : a143.IsWhole) (a144 : M S4x16x1024) (h144 : a144.IsWhole) (a145 : M S4x16x1024) (h145 : a145.IsWhole)
    (a146 : M S4x16x16x64) (h146 : a146.IsWhole) (a147 : M S4x16x16x64) (h147 : a147.IsWhole) (a148 : M S4x256) (h148 : a148.IsWhole) (a149 : M S4x256) (h149 : a149.IsWhole)
    (a150 : M S4x1024) (h150 : a150.IsWhole) (a151 : M S4x1024) (h151 : a151.IsWhole) (a152 : M S4x1024) (h152 : a152.IsWhole) (a153 : M S4x1024) (h153 : a153.IsWhole)
    (x0 : Vec F S4x6144 .f32) (x1 : Vec F S4x1792 .f32) (x2 : Vec F S4x3x64 .f32) (x3 : Vec F S4x4x64x64 .f32) (x4 : Vec F S4x256 .f32) (x5 : Vec F S4x31x64 .f32) (x6 : Vec F S4x256 .f32)
    (x7 : Vec F S4x256 .f32) (x8 : Vec F S4x256 .f32) (x9 : Vec F S4x16x64 .f32) (x10 : Vec F S4x16x64 .f32) (x11 : Vec F S4x16 .f32) (x12 : Vec F S4x16x1024 .f32)
    (x13 : Vec F S4x16x1024 .f32) (x14 : Vec F S4x16x16x64 .f32) (x15 : Vec F S4x16x16x64 .f32) (x16 : Vec F S4x256 .f32) (x17 : Vec F S4x256 .f32) (x18 : Vec F S4x1024 .f32)
    (x19 : Vec F S4x1024 .f32) (x20 : Vec F S4x1024 .f32) (x21 : Vec F S4x1024 .f32) (x22 : Vec F S4x6144 .f32) (x23 : Vec F S4x1792 .f32) (x24 : Vec F S4x3x64 .f32)
    (x25 : Vec F S4x4x64x64 .f32) (x26 : Vec F S4x256 .f32) (x27 : Vec F S4x31x64 .f32) (x28 : Vec F S4x256 .f32) (x29 : Vec F S4x256 .f32) (x30 : Vec F S4x256 .f32)
    (x31 : Vec F S4x16x64 .f32) (x32 : Vec F S4x16x64 .f32) (x33 : Vec F S4x16 .f32) (x34 : Vec F S4x16x1024 .f32) (x35 : Vec F S4x16x1024 .f32) (x36 : Vec F S4x16x16x64 .f32)
    (x37 : Vec F S4x16x16x64 .f32) (x38 : Vec F S4x256 .f32) (x39 : Vec F S4x256 .f32) (x40 : Vec F S4x1024 .f32) (x41 : Vec F S4x1024 .f32) (x42 : Vec F S4x1024 .f32)
    (x43 : Vec F S4x1024 .f32) (x44 : Vec F S4x6144 .f32) (x45 : Vec F S4x1792 .f32) (x46 : Vec F S4x3x64 .f32) (x47 : Vec F S4x4x64x64 .f32) (x48 : Vec F S4x256 .f32)
    (x49 : Vec F S4x31x64 .f32) (x50 : Vec F S4x256 .f32) (x51 : Vec F S4x256 .f32) (x52 : Vec F S4x256 .f32) (x53 : Vec F S4x16x64 .f32) (x54 : Vec F S4x16x64 .f32)
    (x55 : Vec F S4x16 .f32) (x56 : Vec F S4x16x1024 .f32) (x57 : Vec F S4x16x1024 .f32) (x58 : Vec F S4x16x16x64 .f32) (x59 : Vec F S4x16x16x64 .f32) (x60 : Vec F S4x256 .f32)
    (x61 : Vec F S4x256 .f32) (x62 : Vec F S4x1024 .f32) (x63 : Vec F S4x1024 .f32) (x64 : Vec F S4x1024 .f32) (x65 : Vec F S4x1024 .f32) (x66 : Vec F S4x6144 .f32)
    (x67 : Vec F S4x1792 .f32) (x68 : Vec F S4x3x64 .f32) (x69 : Vec F S4x4x64x64 .f32) (x70 : Vec F S4x256 .f32) (x71 : Vec F S4x31x64 .f32) (x72 : Vec F S4x256 .f32)
    (x73 : Vec F S4x256 .f32) (x74 : Vec F S4x256 .f32) (x75 : Vec F S4x16x64 .f32) (x76 : Vec F S4x16x64 .f32) (x77 : Vec F S4x16 .f32) (x78 : Vec F S4x16x1024 .f32)
    (x79 : Vec F S4x16x1024 .f32) (x80 : Vec F S4x16x16x64 .f32) (x81 : Vec F S4x16x16x64 .f32) (x82 : Vec F S4x256 .f32) (x83 : Vec F S4x256 .f32) (x84 : Vec F S4x1024 .f32)
    (x85 : Vec F S4x1024 .f32) (x86 : Vec F S4x1024 .f32) (x87 : Vec F S4x1024 .f32)
    (K : PUnit → sProp 𝕄) :
    iprop(own c a0 x0 ∗ own c a1 x1 ∗ own c a2 x2 ∗ own c a3 x3 ∗ own c a4 x4 ∗ own c a5 x5 ∗ own c a6 x6 ∗ own c a7 x7 ∗ own c a8 x8 ∗ own c a9 x9 ∗ own c a10 x10 ∗ own c a11 x11 ∗
        own c a12 x12 ∗ own c a13 x13 ∗ own c a14 x14 ∗ own c a15 x15 ∗ own c a16 x16 ∗ own c a17 x17 ∗ own c a18 x18 ∗ own c a19 x19 ∗ own c a20 x20 ∗ own c a21 x21 ∗ own c a22 x22 ∗
        own c a23 x23 ∗ own c a24 x24 ∗ own c a25 x25 ∗ own c a26 x26 ∗ own c a27 x27 ∗ own c a28 x28 ∗ own c a29 x29 ∗ own c a30 x30 ∗ own c a31 x31 ∗ own c a32 x32 ∗ own c a33 x33 ∗
        own c a34 x34 ∗ own c a35 x35 ∗ own c a36 x36 ∗ own c a37 x37 ∗ own c a38 x38 ∗ own c a39 x39 ∗ own c a40 x40 ∗ own c a41 x41 ∗ own c a42 x42 ∗ own c a43 x43 ∗ own c a44 x44 ∗
        own c a45 x45 ∗ own c a46 x46 ∗ own c a47 x47 ∗ own c a48 x48 ∗ own c a49 x49 ∗ own c a50 x50 ∗ own c a51 x51 ∗ own c a52 x52 ∗ own c a53 x53 ∗ own c a54 x54 ∗ own c a55 x55 ∗
        own c a56 x56 ∗ own c a57 x57 ∗ own c a58 x58 ∗ own c a59 x59 ∗ own c a60 x60 ∗ own c a61 x61 ∗ own c a62 x62 ∗ own c a63 x63 ∗ own c a64 x64 ∗ own c a65 x65 ∗ own c a66 x66 ∗
        own c a67 x67 ∗ own c a68 x68 ∗ own c a69 x69 ∗ own c a70 x70 ∗ own c a71 x71 ∗ own c a72 x72 ∗ own c a73 x73 ∗ own c a74 x74 ∗ own c a75 x75 ∗ own c a76 x76 ∗ own c a77 x77 ∗
        own c a78 x78 ∗ own c a79 x79 ∗ own c a80 x80 ∗ own c a81 x81 ∗ own c a82 x82 ∗ own c a83 x83 ∗ own c a84 x84 ∗ own c a85 x85 ∗ own c a86 x86 ∗ own c a87 x87 ∗ (∃ d, own c a88 d) ∗
        (∃ d, own c a89 d) ∗ (∃ d, own c a90 d) ∗ (∃ d, own c a91 d) ∗ (∃ d, own c a92 d) ∗ (∃ d, own c a93 d) ∗ (∃ d, own c a94 d) ∗ (∃ d, own c a95 d) ∗ (∃ d, own c a96 d) ∗
        (∃ d, own c a97 d) ∗ (∃ d, own c a98 d) ∗ (∃ d, own c a99 d) ∗ (∃ d, own c a100 d) ∗ (∃ d, own c a101 d) ∗ (∃ d, own c a102 d) ∗ (∃ d, own c a103 d) ∗ (∃ d, own c a104 d) ∗
        (∃ d, own c a105 d) ∗ (∃ d, own c a106 d) ∗ (∃ d, own c a107 d) ∗ (∃ d, own c a108 d) ∗ (∃ d, own c a109 d) ∗ (∃ d, own c a110 d) ∗ (∃ d, own c a111 d) ∗ (∃ d, own c a112 d) ∗
        (∃ d, own c a113 d) ∗ (∃ d, own c a114 d) ∗ (∃ d, own c a115 d) ∗ (∃ d, own c a116 d) ∗ (∃ d, own c a117 d) ∗ (∃ d, own c a118 d) ∗ (∃ d, own c a119 d) ∗ (∃ d, own c a120 d) ∗
        (∃ d, own c a121 d) ∗ (∃ d, own c a122 d) ∗ (∃ d, own c a123 d) ∗ (∃ d, own c a124 d) ∗ (∃ d, own c a125 d) ∗ (∃ d, own c a126 d) ∗ (∃ d, own c a127 d) ∗ (∃ d, own c a128 d) ∗
        (∃ d, own c a129 d) ∗ (∃ d, own c a130 d) ∗ (∃ d, own c a131 d) ∗ (∃ d, own c a132 d) ∗ (∃ d, own c a133 d) ∗ (∃ d, own c a134 d) ∗ (∃ d, own c a135 d) ∗ (∃ d, own c a136 d) ∗
        (∃ d, own c a137 d) ∗ (∃ d, own c a138 d) ∗ (∃ d, own c a139 d) ∗ (∃ d, own c a140 d) ∗ (∃ d, own c a141 d) ∗ (∃ d, own c a142 d) ∗ (∃ d, own c a143 d) ∗ (∃ d, own c a144 d) ∗
        (∃ d, own c a145 d) ∗ (∃ d, own c a146 d) ∗ (∃ d, own c a147 d) ∗ (∃ d, own c a148 d) ∗ (∃ d, own c a149 d) ∗ (∃ d, own c a150 d) ∗ (∃ d, own c a151 d) ∗ (∃ d, own c a152 d) ∗
        (∃ d, own c a153 d)
        ∗ (iprop(own c a0 x0 ∗ own c a1 x1 ∗ own c a2 x2 ∗ own c a3 x3 ∗ own c a4 x4 ∗ own c a5 x5 ∗ own c a6 x6 ∗ own c a7 x7 ∗ own c a8 x8 ∗ own c a9 x9 ∗ own c a10 x10 ∗ own c a11 x11 ∗
          own c a12 x12 ∗ own c a13 x13 ∗ own c a14 x14 ∗ own c a15 x15 ∗ own c a16 x16 ∗ own c a17 x17 ∗ own c a18 x18 ∗ own c a19 x19 ∗ own c a20 x20 ∗ own c a21 x21 ∗ own c a22 x22 ∗
          own c a23 x23 ∗ own c a24 x24 ∗ own c a25 x25 ∗ own c a26 x26 ∗ own c a27 x27 ∗ own c a28 x28 ∗ own c a29 x29 ∗ own c a30 x30 ∗ own c a31 x31 ∗ own c a32 x32 ∗ own c a33 x33 ∗
          own c a34 x34 ∗ own c a35 x35 ∗ own c a36 x36 ∗ own c a37 x37 ∗ own c a38 x38 ∗ own c a39 x39 ∗ own c a40 x40 ∗ own c a41 x41 ∗ own c a42 x42 ∗ own c a43 x43 ∗ own c a44 x44 ∗
          own c a45 x45 ∗ own c a46 x46 ∗ own c a47 x47 ∗ own c a48 x48 ∗ own c a49 x49 ∗ own c a50 x50 ∗ own c a51 x51 ∗ own c a52 x52 ∗ own c a53 x53 ∗ own c a54 x54 ∗ own c a55 x55 ∗
          own c a56 x56 ∗ own c a57 x57 ∗ own c a58 x58 ∗ own c a59 x59 ∗ own c a60 x60 ∗ own c a61 x61 ∗ own c a62 x62 ∗ own c a63 x63 ∗ own c a64 x64 ∗ own c a65 x65 ∗ own c a66 x66 ∗
          own c a67 x67 ∗ own c a68 x68 ∗ own c a69 x69 ∗ own c a70 x70 ∗ own c a71 x71 ∗ own c a72 x72 ∗ own c a73 x73 ∗ own c a74 x74 ∗ own c a75 x75 ∗ own c a76 x76 ∗ own c a77 x77 ∗
          own c a78 x78 ∗ own c a79 x79 ∗ own c a80 x80 ∗ own c a81 x81 ∗ own c a82 x82 ∗ own c a83 x83 ∗ own c a84 x84 ∗ own c a85 x85 ∗ own c a86 x86 ∗ own c a87 x87 ∗
          own c a88 (step x0 x22 x44 x66) ∗ own c a89 (step x1 x23 x45 x67) ∗ own c a90 (step x2 x24 x46 x68) ∗ own c a91 (step x3 x25 x47 x69) ∗ own c a92 (step x4 x26 x48 x70) ∗
          own c a93 (step x5 x27 x49 x71) ∗ own c a94 (step x6 x28 x50 x72) ∗ own c a95 (step x7 x29 x51 x73) ∗ own c a96 (step x8 x30 x52 x74) ∗ own c a97 (step x9 x31 x53 x75) ∗
          own c a98 (step x10 x32 x54 x76) ∗ own c a99 (step x11 x33 x55 x77) ∗ own c a100 (step x12 x34 x56 x78) ∗ own c a101 (step x13 x35 x57 x79) ∗ own c a102 (step x14 x36 x58 x80) ∗
          own c a103 (step x15 x37 x59 x81) ∗ own c a104 (step x16 x38 x60 x82) ∗ own c a105 (step x17 x39 x61 x83) ∗ own c a106 (step x18 x40 x62 x84) ∗ own c a107 (step x19 x41 x63 x85) ∗
          own c a108 (step x20 x42 x64 x86) ∗ own c a109 (step x21 x43 x65 x87) ∗ own c a110 (mom1 x22 x44) ∗ own c a111 (mom1 x23 x45) ∗ own c a112 (mom1 x24 x46) ∗
          own c a113 (mom1 x25 x47) ∗ own c a114 (mom1 x26 x48) ∗ own c a115 (mom1 x27 x49) ∗ own c a116 (mom1 x28 x50) ∗ own c a117 (mom1 x29 x51) ∗ own c a118 (mom1 x30 x52) ∗
          own c a119 (mom1 x31 x53) ∗ own c a120 (mom1 x32 x54) ∗ own c a121 (mom1 x33 x55) ∗ own c a122 (mom1 x34 x56) ∗ own c a123 (mom1 x35 x57) ∗ own c a124 (mom1 x36 x58) ∗
          own c a125 (mom1 x37 x59) ∗ own c a126 (mom1 x38 x60) ∗ own c a127 (mom1 x39 x61) ∗ own c a128 (mom1 x40 x62) ∗ own c a129 (mom1 x41 x63) ∗ own c a130 (mom1 x42 x64) ∗
          own c a131 (mom1 x43 x65) ∗ own c a132 (mom2 x22 x66) ∗ own c a133 (mom2 x23 x67) ∗ own c a134 (mom2 x24 x68) ∗ own c a135 (mom2 x25 x69) ∗ own c a136 (mom2 x26 x70) ∗
          own c a137 (mom2 x27 x71) ∗ own c a138 (mom2 x28 x72) ∗ own c a139 (mom2 x29 x73) ∗ own c a140 (mom2 x30 x74) ∗ own c a141 (mom2 x31 x75) ∗ own c a142 (mom2 x32 x76) ∗
          own c a143 (mom2 x33 x77) ∗ own c a144 (mom2 x34 x78) ∗ own c a145 (mom2 x35 x79) ∗ own c a146 (mom2 x36 x80) ∗ own c a147 (mom2 x37 x81) ∗ own c a148 (mom2 x38 x82) ∗
          own c a149 (mom2 x39 x83) ∗ own c a150 (mom2 x40 x84) ∗ own c a151 (mom2 x41 x85) ∗ own c a152 (mom2 x42 x86) ∗ own c a153 (mom2 x43 x87)) -∗ K ⟨⟩))
      ⊢ wp frame (wpE (defs₀ (F := F)) Variants.none c none) E (cc0_adamw_small
        a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24
        a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46
        a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68
        a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90
        a91 h91 a92 h92 a93 h93 a94 h94 a95 h95 a96 h96 a97 h97 a98 h98 a99 h99 a100 h100 a101 h101 a102 h102 a103 h103 a104 h104 a105 h105 a106 h106 a107 h107 a108 h108 a109 h109 a110 h110
        a111 h111 a112 h112 a113 h113 a114 h114 a115 h115 a116 h116 a117 h117 a118 h118 a119 h119 a120 h120 a121 h121 a122 h122 a123 h123 a124 h124 a125 h125 a126 h126 a127 h127 a128 h128
        a129 h129 a130 h130 a131 h131 a132 h132 a133 h133 a134 h134 a135 h135 a136 h136 a137 h137 a138 h138 a139 h139 a140 h140 a141 h141 a142 h142 a143 h143 a144 h144 a145 h145 a146 h146
        a147 h147 a148 h148 a149 h149 a150 h150 a151 h151 a152 h152 a153 h153) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩,
    ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩,
    ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩,
    ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩,
    ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩,
    ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩,
    ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩,
    ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩,
    ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩,
    ⟨%f82, %hf82, H82⟩, ⟨%f83, %hf83, H83⟩, ⟨%f84, %hf84, H84⟩, ⟨%f85, %hf85, H85⟩, ⟨%f86, %hf86, H86⟩, ⟨%f87, %hf87, H87⟩, ⟨%d88, %f88, -, H88⟩, ⟨%d89, %f89, -, H89⟩, ⟨%d90, %f90, -, H90⟩,
    ⟨%d91, %f91, -, H91⟩, ⟨%d92, %f92, -, H92⟩, ⟨%d93, %f93, -, H93⟩, ⟨%d94, %f94, -, H94⟩, ⟨%d95, %f95, -, H95⟩, ⟨%d96, %f96, -, H96⟩, ⟨%d97, %f97, -, H97⟩, ⟨%d98, %f98, -, H98⟩,
    ⟨%d99, %f99, -, H99⟩, ⟨%d100, %f100, -, H100⟩, ⟨%d101, %f101, -, H101⟩, ⟨%d102, %f102, -, H102⟩, ⟨%d103, %f103, -, H103⟩, ⟨%d104, %f104, -, H104⟩, ⟨%d105, %f105, -, H105⟩,
    ⟨%d106, %f106, -, H106⟩, ⟨%d107, %f107, -, H107⟩, ⟨%d108, %f108, -, H108⟩, ⟨%d109, %f109, -, H109⟩, ⟨%d110, %f110, -, H110⟩, ⟨%d111, %f111, -, H111⟩, ⟨%d112, %f112, -, H112⟩,
    ⟨%d113, %f113, -, H113⟩, ⟨%d114, %f114, -, H114⟩, ⟨%d115, %f115, -, H115⟩, ⟨%d116, %f116, -, H116⟩, ⟨%d117, %f117, -, H117⟩, ⟨%d118, %f118, -, H118⟩, ⟨%d119, %f119, -, H119⟩,
    ⟨%d120, %f120, -, H120⟩, ⟨%d121, %f121, -, H121⟩, ⟨%d122, %f122, -, H122⟩, ⟨%d123, %f123, -, H123⟩, ⟨%d124, %f124, -, H124⟩, ⟨%d125, %f125, -, H125⟩, ⟨%d126, %f126, -, H126⟩,
    ⟨%d127, %f127, -, H127⟩, ⟨%d128, %f128, -, H128⟩, ⟨%d129, %f129, -, H129⟩, ⟨%d130, %f130, -, H130⟩, ⟨%d131, %f131, -, H131⟩, ⟨%d132, %f132, -, H132⟩, ⟨%d133, %f133, -, H133⟩,
    ⟨%d134, %f134, -, H134⟩, ⟨%d135, %f135, -, H135⟩, ⟨%d136, %f136, -, H136⟩, ⟨%d137, %f137, -, H137⟩, ⟨%d138, %f138, -, H138⟩, ⟨%d139, %f139, -, H139⟩, ⟨%d140, %f140, -, H140⟩,
    ⟨%d141, %f141, -, H141⟩, ⟨%d142, %f142, -, H142⟩, ⟨%d143, %f143, -, H143⟩, ⟨%d144, %f144, -, H144⟩, ⟨%d145, %f145, -, H145⟩, ⟨%d146, %f146, -, H146⟩, ⟨%d147, %f147, -, H147⟩,
    ⟨%d148, %f148, -, H148⟩, ⟨%d149, %f149, -, H149⟩, ⟨%d150, %f150, -, H150⟩, ⟨%d151, %f151, -, H151⟩, ⟨%d152, %f152, -, H152⟩, ⟨%d153, %f153, -, H153⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38
    hf39 hf40 hf41 hf42 hf43 hf44 hf45 hf46 hf47 hf48 hf49 hf50 hf51 hf52 hf53 hf54 hf55 hf56 hf57 hf58 hf59 hf60 hf61 hf62 hf63 hf64 hf65 hf66 hf67 hf68 hf69 hf70 hf71 hf72 hf73 hf74 hf75
    hf76 hf77 hf78 hf79 hf80 hf81 hf82 hf83 hf84 hf85 hf86 hf87
  sl_exec
  sl_step
  iapply Hk
  isplitl [H0]; · iexists f0; isplitr; (ipureintro; rfl); iexact H0
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists f11; isplitr; (ipureintro; rfl); iexact H11
  isplitl [H12]; · iexists f12; isplitr; (ipureintro; rfl); iexact H12
  isplitl [H13]; · iexists f13; isplitr; (ipureintro; rfl); iexact H13
  isplitl [H14]; · iexists f14; isplitr; (ipureintro; rfl); iexact H14
  isplitl [H15]; · iexists f15; isplitr; (ipureintro; rfl); iexact H15
  isplitl [H16]; · iexists f16; isplitr; (ipureintro; rfl); iexact H16
  isplitl [H17]; · iexists f17; isplitr; (ipureintro; rfl); iexact H17
  isplitl [H18]; · iexists f18; isplitr; (ipureintro; rfl); iexact H18
  isplitl [H19]; · iexists f19; isplitr; (ipureintro; rfl); iexact H19
  isplitl [H20]; · iexists f20; isplitr; (ipureintro; rfl); iexact H20
  isplitl [H21]; · iexists f21; isplitr; (ipureintro; rfl); iexact H21
  isplitl [H22]; · iexists f22; isplitr; (ipureintro; rfl); iexact H22
  isplitl [H23]; · iexists f23; isplitr; (ipureintro; rfl); iexact H23
  isplitl [H24]; · iexists f24; isplitr; (ipureintro; rfl); iexact H24
  isplitl [H25]; · iexists f25; isplitr; (ipureintro; rfl); iexact H25
  isplitl [H26]; · iexists f26; isplitr; (ipureintro; rfl); iexact H26
  isplitl [H27]; · iexists f27; isplitr; (ipureintro; rfl); iexact H27
  isplitl [H28]; · iexists f28; isplitr; (ipureintro; rfl); iexact H28
  isplitl [H29]; · iexists f29; isplitr; (ipureintro; rfl); iexact H29
  isplitl [H30]; · iexists f30; isplitr; (ipureintro; rfl); iexact H30
  isplitl [H31]; · iexists f31; isplitr; (ipureintro; rfl); iexact H31
  isplitl [H32]; · iexists f32; isplitr; (ipureintro; rfl); iexact H32
  isplitl [H33]; · iexists f33; isplitr; (ipureintro; rfl); iexact H33
  isplitl [H34]; · iexists f34; isplitr; (ipureintro; rfl); iexact H34
  isplitl [H35]; · iexists f35; isplitr; (ipureintro; rfl); iexact H35
  isplitl [H36]; · iexists f36; isplitr; (ipureintro; rfl); iexact H36
  isplitl [H37]; · iexists f37; isplitr; (ipureintro; rfl); iexact H37
  isplitl [H38]; · iexists f38; isplitr; (ipureintro; rfl); iexact H38
  isplitl [H39]; · iexists f39; isplitr; (ipureintro; rfl); iexact H39
  isplitl [H40]; · iexists f40; isplitr; (ipureintro; rfl); iexact H40
  isplitl [H41]; · iexists f41; isplitr; (ipureintro; rfl); iexact H41
  isplitl [H42]; · iexists f42; isplitr; (ipureintro; rfl); iexact H42
  isplitl [H43]; · iexists f43; isplitr; (ipureintro; rfl); iexact H43
  isplitl [H44]; · iexists f44; isplitr; (ipureintro; rfl); iexact H44
  isplitl [H45]; · iexists f45; isplitr; (ipureintro; rfl); iexact H45
  isplitl [H46]; · iexists f46; isplitr; (ipureintro; rfl); iexact H46
  isplitl [H47]; · iexists f47; isplitr; (ipureintro; rfl); iexact H47
  isplitl [H48]; · iexists f48; isplitr; (ipureintro; rfl); iexact H48
  isplitl [H49]; · iexists f49; isplitr; (ipureintro; rfl); iexact H49
  isplitl [H50]; · iexists f50; isplitr; (ipureintro; rfl); iexact H50
  isplitl [H51]; · iexists f51; isplitr; (ipureintro; rfl); iexact H51
  isplitl [H52]; · iexists f52; isplitr; (ipureintro; rfl); iexact H52
  isplitl [H53]; · iexists f53; isplitr; (ipureintro; rfl); iexact H53
  isplitl [H54]; · iexists f54; isplitr; (ipureintro; rfl); iexact H54
  isplitl [H55]; · iexists f55; isplitr; (ipureintro; rfl); iexact H55
  isplitl [H56]; · iexists f56; isplitr; (ipureintro; rfl); iexact H56
  isplitl [H57]; · iexists f57; isplitr; (ipureintro; rfl); iexact H57
  isplitl [H58]; · iexists f58; isplitr; (ipureintro; rfl); iexact H58
  isplitl [H59]; · iexists f59; isplitr; (ipureintro; rfl); iexact H59
  isplitl [H60]; · iexists f60; isplitr; (ipureintro; rfl); iexact H60
  isplitl [H61]; · iexists f61; isplitr; (ipureintro; rfl); iexact H61
  isplitl [H62]; · iexists f62; isplitr; (ipureintro; rfl); iexact H62
  isplitl [H63]; · iexists f63; isplitr; (ipureintro; rfl); iexact H63
  isplitl [H64]; · iexists f64; isplitr; (ipureintro; rfl); iexact H64
  isplitl [H65]; · iexists f65; isplitr; (ipureintro; rfl); iexact H65
  isplitl [H66]; · iexists f66; isplitr; (ipureintro; rfl); iexact H66
  isplitl [H67]; · iexists f67; isplitr; (ipureintro; rfl); iexact H67
  isplitl [H68]; · iexists f68; isplitr; (ipureintro; rfl); iexact H68
  isplitl [H69]; · iexists f69; isplitr; (ipureintro; rfl); iexact H69
  isplitl [H70]; · iexists f70; isplitr; (ipureintro; rfl); iexact H70
  isplitl [H71]; · iexists f71; isplitr; (ipureintro; rfl); iexact H71
  isplitl [H72]; · iexists f72; isplitr; (ipureintro; rfl); iexact H72
  isplitl [H73]; · iexists f73; isplitr; (ipureintro; rfl); iexact H73
  isplitl [H74]; · iexists f74; isplitr; (ipureintro; rfl); iexact H74
  isplitl [H75]; · iexists f75; isplitr; (ipureintro; rfl); iexact H75
  isplitl [H76]; · iexists f76; isplitr; (ipureintro; rfl); iexact H76
  isplitl [H77]; · iexists f77; isplitr; (ipureintro; rfl); iexact H77
  isplitl [H78]; · iexists f78; isplitr; (ipureintro; rfl); iexact H78
  isplitl [H79]; · iexists f79; isplitr; (ipureintro; rfl); iexact H79
  isplitl [H80]; · iexists f80; isplitr; (ipureintro; rfl); iexact H80
  isplitl [H81]; · iexists f81; isplitr; (ipureintro; rfl); iexact H81
  isplitl [H82]; · iexists f82; isplitr; (ipureintro; rfl); iexact H82
  isplitl [H83]; · iexists f83; isplitr; (ipureintro; rfl); iexact H83
  isplitl [H84]; · iexists f84; isplitr; (ipureintro; rfl); iexact H84
  isplitl [H85]; · iexists f85; isplitr; (ipureintro; rfl); iexact H85
  isplitl [H86]; · iexists f86; isplitr; (ipureintro; rfl); iexact H86
  isplitl [H87]; · iexists f87; isplitr; (ipureintro; rfl); iexact H87
  isplitl [H88]; · iexists _; isplitr; swap; (iexact H88); ipureintro; exact stored_step _ _ _ _ _ _ _ (by decide)
  isplitl [H89]; · iexists _; isplitr; swap; (iexact H89); ipureintro; exact stored_step _ _ _ _ _ _ _ (by decide)
  isplitl [H90]; · iexists _; isplitr; swap; (iexact H90); ipureintro; exact stored_step _ _ _ _ _ _ _ (by decide)
  isplitl [H91]; · iexists _; isplitr; swap; (iexact H91); ipureintro; exact stored_step _ _ _ _ _ _ _ (by decide)
  isplitl [H92]; · iexists _; isplitr; swap; (iexact H92); ipureintro; exact stored_step _ _ _ _ _ _ _ (by decide)
  isplitl [H93]; · iexists _; isplitr; swap; (iexact H93); ipureintro; exact stored_step _ _ _ _ _ _ _ (by decide)
  isplitl [H94]; · iexists _; isplitr; swap; (iexact H94); ipureintro; exact stored_step _ _ _ _ _ _ _ (by decide)
  isplitl [H95]; · iexists _; isplitr; swap; (iexact H95); ipureintro; exact stored_step _ _ _ _ _ _ _ (by decide)
  isplitl [H96]; · iexists _; isplitr; swap; (iexact H96); ipureintro; exact stored_step _ _ _ _ _ _ _ (by decide)
  isplitl [H97]; · iexists _; isplitr; swap; (iexact H97); ipureintro; exact stored_step _ _ _ _ _ _ _ (by decide)
  isplitl [H98]; · iexists _; isplitr; swap; (iexact H98); ipureintro; exact stored_step _ _ _ _ _ _ _ (by decide)
  isplitl [H99]; · iexists _; isplitr; swap; (iexact H99); ipureintro; exact stored_step _ _ _ _ _ _ _ (by decide)
  isplitl [H100]; · iexists _; isplitr; swap; (iexact H100); ipureintro; exact stored_step _ _ _ _ _ _ _ (by decide)
  isplitl [H101]; · iexists _; isplitr; swap; (iexact H101); ipureintro; exact stored_step _ _ _ _ _ _ _ (by decide)
  isplitl [H102]; · iexists _; isplitr; swap; (iexact H102); ipureintro; exact stored_step _ _ _ _ _ _ _ (by decide)
  isplitl [H103]; · iexists _; isplitr; swap; (iexact H103); ipureintro; exact stored_step _ _ _ _ _ _ _ (by decide)
  isplitl [H104]; · iexists _; isplitr; swap; (iexact H104); ipureintro; exact stored_step _ _ _ _ _ _ _ (by decide)
  isplitl [H105]; · iexists _; isplitr; swap; (iexact H105); ipureintro; exact stored_step _ _ _ _ _ _ _ (by decide)
  isplitl [H106]; · iexists _; isplitr; swap; (iexact H106); ipureintro; exact stored_step _ _ _ _ _ _ _ (by decide)
  isplitl [H107]; · iexists _; isplitr; swap; (iexact H107); ipureintro; exact stored_step _ _ _ _ _ _ _ (by decide)
  isplitl [H108]; · iexists _; isplitr; swap; (iexact H108); ipureintro; exact stored_step _ _ _ _ _ _ _ (by decide)
  isplitl [H109]; · iexists _; isplitr; swap; (iexact H109); ipureintro; exact stored_step _ _ _ _ _ _ _ (by decide)
  isplitl [H110]; · iexists _; isplitr; swap; (iexact H110); ipureintro; exact stored_mom1 _ _ _ _ _ (by decide)
  isplitl [H111]; · iexists _; isplitr; swap; (iexact H111); ipureintro; exact stored_mom1 _ _ _ _ _ (by decide)
  isplitl [H112]; · iexists _; isplitr; swap; (iexact H112); ipureintro; exact stored_mom1 _ _ _ _ _ (by decide)
  isplitl [H113]; · iexists _; isplitr; swap; (iexact H113); ipureintro; exact stored_mom1 _ _ _ _ _ (by decide)
  isplitl [H114]; · iexists _; isplitr; swap; (iexact H114); ipureintro; exact stored_mom1 _ _ _ _ _ (by decide)
  isplitl [H115]; · iexists _; isplitr; swap; (iexact H115); ipureintro; exact stored_mom1 _ _ _ _ _ (by decide)
  isplitl [H116]; · iexists _; isplitr; swap; (iexact H116); ipureintro; exact stored_mom1 _ _ _ _ _ (by decide)
  isplitl [H117]; · iexists _; isplitr; swap; (iexact H117); ipureintro; exact stored_mom1 _ _ _ _ _ (by decide)
  isplitl [H118]; · iexists _; isplitr; swap; (iexact H118); ipureintro; exact stored_mom1 _ _ _ _ _ (by decide)
  isplitl [H119]; · iexists _; isplitr; swap; (iexact H119); ipureintro; exact stored_mom1 _ _ _ _ _ (by decide)
  isplitl [H120]; · iexists _; isplitr; swap; (iexact H120); ipureintro; exact stored_mom1 _ _ _ _ _ (by decide)
  isplitl [H121]; · iexists _; isplitr; swap; (iexact H121); ipureintro; exact stored_mom1 _ _ _ _ _ (by decide)
  isplitl [H122]; · iexists _; isplitr; swap; (iexact H122); ipureintro; exact stored_mom1 _ _ _ _ _ (by decide)
  isplitl [H123]; · iexists _; isplitr; swap; (iexact H123); ipureintro; exact stored_mom1 _ _ _ _ _ (by decide)
  isplitl [H124]; · iexists _; isplitr; swap; (iexact H124); ipureintro; exact stored_mom1 _ _ _ _ _ (by decide)
  isplitl [H125]; · iexists _; isplitr; swap; (iexact H125); ipureintro; exact stored_mom1 _ _ _ _ _ (by decide)
  isplitl [H126]; · iexists _; isplitr; swap; (iexact H126); ipureintro; exact stored_mom1 _ _ _ _ _ (by decide)
  isplitl [H127]; · iexists _; isplitr; swap; (iexact H127); ipureintro; exact stored_mom1 _ _ _ _ _ (by decide)
  isplitl [H128]; · iexists _; isplitr; swap; (iexact H128); ipureintro; exact stored_mom1 _ _ _ _ _ (by decide)
  isplitl [H129]; · iexists _; isplitr; swap; (iexact H129); ipureintro; exact stored_mom1 _ _ _ _ _ (by decide)
  isplitl [H130]; · iexists _; isplitr; swap; (iexact H130); ipureintro; exact stored_mom1 _ _ _ _ _ (by decide)
  isplitl [H131]; · iexists _; isplitr; swap; (iexact H131); ipureintro; exact stored_mom1 _ _ _ _ _ (by decide)
  isplitl [H132]; · iexists _; isplitr; swap; (iexact H132); ipureintro; exact stored_mom2 _ _ _ _ _ (by decide)
  isplitl [H133]; · iexists _; isplitr; swap; (iexact H133); ipureintro; exact stored_mom2 _ _ _ _ _ (by decide)
  isplitl [H134]; · iexists _; isplitr; swap; (iexact H134); ipureintro; exact stored_mom2 _ _ _ _ _ (by decide)
  isplitl [H135]; · iexists _; isplitr; swap; (iexact H135); ipureintro; exact stored_mom2 _ _ _ _ _ (by decide)
  isplitl [H136]; · iexists _; isplitr; swap; (iexact H136); ipureintro; exact stored_mom2 _ _ _ _ _ (by decide)
  isplitl [H137]; · iexists _; isplitr; swap; (iexact H137); ipureintro; exact stored_mom2 _ _ _ _ _ (by decide)
  isplitl [H138]; · iexists _; isplitr; swap; (iexact H138); ipureintro; exact stored_mom2 _ _ _ _ _ (by decide)
  isplitl [H139]; · iexists _; isplitr; swap; (iexact H139); ipureintro; exact stored_mom2 _ _ _ _ _ (by decide)
  isplitl [H140]; · iexists _; isplitr; swap; (iexact H140); ipureintro; exact stored_mom2 _ _ _ _ _ (by decide)
  isplitl [H141]; · iexists _; isplitr; swap; (iexact H141); ipureintro; exact stored_mom2 _ _ _ _ _ (by decide)
  isplitl [H142]; · iexists _; isplitr; swap; (iexact H142); ipureintro; exact stored_mom2 _ _ _ _ _ (by decide)
  isplitl [H143]; · iexists _; isplitr; swap; (iexact H143); ipureintro; exact stored_mom2 _ _ _ _ _ (by decide)
  isplitl [H144]; · iexists _; isplitr; swap; (iexact H144); ipureintro; exact stored_mom2 _ _ _ _ _ (by decide)
  isplitl [H145]; · iexists _; isplitr; swap; (iexact H145); ipureintro; exact stored_mom2 _ _ _ _ _ (by decide)
  isplitl [H146]; · iexists _; isplitr; swap; (iexact H146); ipureintro; exact stored_mom2 _ _ _ _ _ (by decide)
  isplitl [H147]; · iexists _; isplitr; swap; (iexact H147); ipureintro; exact stored_mom2 _ _ _ _ _ (by decide)
  isplitl [H148]; · iexists _; isplitr; swap; (iexact H148); ipureintro; exact stored_mom2 _ _ _ _ _ (by decide)
  isplitl [H149]; · iexists _; isplitr; swap; (iexact H149); ipureintro; exact stored_mom2 _ _ _ _ _ (by decide)
  isplitl [H150]; · iexists _; isplitr; swap; (iexact H150); ipureintro; exact stored_mom2 _ _ _ _ _ (by decide)
  isplitl [H151]; · iexists _; isplitr; swap; (iexact H151); ipureintro; exact stored_mom2 _ _ _ _ _ (by decide)
  isplitl [H152]; · iexists _; isplitr; swap; (iexact H152); ipureintro; exact stored_mom2 _ _ _ _ _ (by decide)
  iexists _; isplitr; swap; · iexact H153
  ipureintro; exact stored_mom2 _ _ _ _ _ (by decide)

end Cert.AdamMany

end
-- ==== Proof.AdamManyFrame.lean ====
module

public import proofs.«01_k».proof.Proof.AdamManyRun

@[expose] public section

set_option maxRecDepth 16384

noncomputable section

namespace Cert.AdamMany

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel17Ideal Cert.Kernel17Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as they stand when the call starts. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs stay at their blocks, the outputs end at the step and the two moments. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => iblk m c 42 t
    | ⟨43, _⟩ => iblk m c 43 t
    | ⟨44, _⟩ => iblk m c 44 t
    | ⟨45, _⟩ => iblk m c 45 t
    | ⟨46, _⟩ => iblk m c 46 t
    | ⟨47, _⟩ => iblk m c 47 t
    | ⟨48, _⟩ => iblk m c 48 t
    | ⟨49, _⟩ => iblk m c 49 t
    | ⟨50, _⟩ => iblk m c 50 t
    | ⟨51, _⟩ => iblk m c 51 t
    | ⟨52, _⟩ => iblk m c 52 t
    | ⟨53, _⟩ => iblk m c 53 t
    | ⟨54, _⟩ => iblk m c 54 t
    | ⟨55, _⟩ => iblk m c 55 t
    | ⟨56, _⟩ => iblk m c 56 t
    | ⟨57, _⟩ => iblk m c 57 t
    | ⟨58, _⟩ => iblk m c 58 t
    | ⟨59, _⟩ => iblk m c 59 t
    | ⟨60, _⟩ => iblk m c 60 t
    | ⟨61, _⟩ => iblk m c 61 t
    | ⟨62, _⟩ => iblk m c 62 t
    | ⟨63, _⟩ => iblk m c 63 t
    | ⟨64, _⟩ => iblk m c 64 t
    | ⟨65, _⟩ => iblk m c 65 t
    | ⟨66, _⟩ => iblk m c 66 t
    | ⟨67, _⟩ => iblk m c 67 t
    | ⟨68, _⟩ => iblk m c 68 t
    | ⟨69, _⟩ => iblk m c 69 t
    | ⟨70, _⟩ => iblk m c 70 t
    | ⟨71, _⟩ => iblk m c 71 t
    | ⟨72, _⟩ => iblk m c 72 t
    | ⟨73, _⟩ => iblk m c 73 t
    | ⟨74, _⟩ => iblk m c 74 t
    | ⟨75, _⟩ => iblk m c 75 t
    | ⟨76, _⟩ => iblk m c 76 t
    | ⟨77, _⟩ => iblk m c 77 t
    | ⟨78, _⟩ => iblk m c 78 t
    | ⟨79, _⟩ => iblk m c 79 t
    | ⟨80, _⟩ => iblk m c 80 t
    | ⟨81, _⟩ => iblk m c 81 t
    | ⟨82, _⟩ => iblk m c 82 t
    | ⟨83, _⟩ => iblk m c 83 t
    | ⟨84, _⟩ => iblk m c 84 t
    | ⟨85, _⟩ => iblk m c 85 t
    | ⟨86, _⟩ => iblk m c 86 t
    | ⟨87, _⟩ => iblk m c 87 t
    | ⟨88, _⟩ => step (iblk m c 0 t) (iblk m c 22 t) (iblk m c 44 t) (iblk m c 66 t)
    | ⟨89, _⟩ => step (iblk m c 1 t) (iblk m c 23 t) (iblk m c 45 t) (iblk m c 67 t)
    | ⟨90, _⟩ => step (iblk m c 2 t) (iblk m c 24 t) (iblk m c 46 t) (iblk m c 68 t)
    | ⟨91, _⟩ => step (iblk m c 3 t) (iblk m c 25 t) (iblk m c 47 t) (iblk m c 69 t)
    | ⟨92, _⟩ => step (iblk m c 4 t) (iblk m c 26 t) (iblk m c 48 t) (iblk m c 70 t)
    | ⟨93, _⟩ => step (iblk m c 5 t) (iblk m c 27 t) (iblk m c 49 t) (iblk m c 71 t)
    | ⟨94, _⟩ => step (iblk m c 6 t) (iblk m c 28 t) (iblk m c 50 t) (iblk m c 72 t)
    | ⟨95, _⟩ => step (iblk m c 7 t) (iblk m c 29 t) (iblk m c 51 t) (iblk m c 73 t)
    | ⟨96, _⟩ => step (iblk m c 8 t) (iblk m c 30 t) (iblk m c 52 t) (iblk m c 74 t)
    | ⟨97, _⟩ => step (iblk m c 9 t) (iblk m c 31 t) (iblk m c 53 t) (iblk m c 75 t)
    | ⟨98, _⟩ => step (iblk m c 10 t) (iblk m c 32 t) (iblk m c 54 t) (iblk m c 76 t)
    | ⟨99, _⟩ => step (iblk m c 11 t) (iblk m c 33 t) (iblk m c 55 t) (iblk m c 77 t)
    | ⟨100, _⟩ => step (iblk m c 12 t) (iblk m c 34 t) (iblk m c 56 t) (iblk m c 78 t)
    | ⟨101, _⟩ => step (iblk m c 13 t) (iblk m c 35 t) (iblk m c 57 t) (iblk m c 79 t)
    | ⟨102, _⟩ => step (iblk m c 14 t) (iblk m c 36 t) (iblk m c 58 t) (iblk m c 80 t)
    | ⟨103, _⟩ => step (iblk m c 15 t) (iblk m c 37 t) (iblk m c 59 t) (iblk m c 81 t)
    | ⟨104, _⟩ => step (iblk m c 16 t) (iblk m c 38 t) (iblk m c 60 t) (iblk m c 82 t)
    | ⟨105, _⟩ => step (iblk m c 17 t) (iblk m c 39 t) (iblk m c 61 t) (iblk m c 83 t)
    | ⟨106, _⟩ => step (iblk m c 18 t) (iblk m c 40 t) (iblk m c 62 t) (iblk m c 84 t)
    | ⟨107, _⟩ => step (iblk m c 19 t) (iblk m c 41 t) (iblk m c 63 t) (iblk m c 85 t)
    | ⟨108, _⟩ => step (iblk m c 20 t) (iblk m c 42 t) (iblk m c 64 t) (iblk m c 86 t)
    | ⟨109, _⟩ => step (iblk m c 21 t) (iblk m c 43 t) (iblk m c 65 t) (iblk m c 87 t)
    | ⟨110, _⟩ => mom1 (iblk m c 22 t) (iblk m c 44 t)
    | ⟨111, _⟩ => mom1 (iblk m c 23 t) (iblk m c 45 t)
    | ⟨112, _⟩ => mom1 (iblk m c 24 t) (iblk m c 46 t)
    | ⟨113, _⟩ => mom1 (iblk m c 25 t) (iblk m c 47 t)
    | ⟨114, _⟩ => mom1 (iblk m c 26 t) (iblk m c 48 t)
    | ⟨115, _⟩ => mom1 (iblk m c 27 t) (iblk m c 49 t)
    | ⟨116, _⟩ => mom1 (iblk m c 28 t) (iblk m c 50 t)
    | ⟨117, _⟩ => mom1 (iblk m c 29 t) (iblk m c 51 t)
    | ⟨118, _⟩ => mom1 (iblk m c 30 t) (iblk m c 52 t)
    | ⟨119, _⟩ => mom1 (iblk m c 31 t) (iblk m c 53 t)
    | ⟨120, _⟩ => mom1 (iblk m c 32 t) (iblk m c 54 t)
    | ⟨121, _⟩ => mom1 (iblk m c 33 t) (iblk m c 55 t)
    | ⟨122, _⟩ => mom1 (iblk m c 34 t) (iblk m c 56 t)
    | ⟨123, _⟩ => mom1 (iblk m c 35 t) (iblk m c 57 t)
    | ⟨124, _⟩ => mom1 (iblk m c 36 t) (iblk m c 58 t)
    | ⟨125, _⟩ => mom1 (iblk m c 37 t) (iblk m c 59 t)
    | ⟨126, _⟩ => mom1 (iblk m c 38 t) (iblk m c 60 t)
    | ⟨127, _⟩ => mom1 (iblk m c 39 t) (iblk m c 61 t)
    | ⟨128, _⟩ => mom1 (iblk m c 40 t) (iblk m c 62 t)
    | ⟨129, _⟩ => mom1 (iblk m c 41 t) (iblk m c 63 t)
    | ⟨130, _⟩ => mom1 (iblk m c 42 t) (iblk m c 64 t)
    | ⟨131, _⟩ => mom1 (iblk m c 43 t) (iblk m c 65 t)
    | ⟨132, _⟩ => mom2 (iblk m c 22 t) (iblk m c 66 t)
    | ⟨133, _⟩ => mom2 (iblk m c 23 t) (iblk m c 67 t)
    | ⟨134, _⟩ => mom2 (iblk m c 24 t) (iblk m c 68 t)
    | ⟨135, _⟩ => mom2 (iblk m c 25 t) (iblk m c 69 t)
    | ⟨136, _⟩ => mom2 (iblk m c 26 t) (iblk m c 70 t)
    | ⟨137, _⟩ => mom2 (iblk m c 27 t) (iblk m c 71 t)
    | ⟨138, _⟩ => mom2 (iblk m c 28 t) (iblk m c 72 t)
    | ⟨139, _⟩ => mom2 (iblk m c 29 t) (iblk m c 73 t)
    | ⟨140, _⟩ => mom2 (iblk m c 30 t) (iblk m c 74 t)
    | ⟨141, _⟩ => mom2 (iblk m c 31 t) (iblk m c 75 t)
    | ⟨142, _⟩ => mom2 (iblk m c 32 t) (iblk m c 76 t)
    | ⟨143, _⟩ => mom2 (iblk m c 33 t) (iblk m c 77 t)
    | ⟨144, _⟩ => mom2 (iblk m c 34 t) (iblk m c 78 t)
    | ⟨145, _⟩ => mom2 (iblk m c 35 t) (iblk m c 79 t)
    | ⟨146, _⟩ => mom2 (iblk m c 36 t) (iblk m c 80 t)
    | ⟨147, _⟩ => mom2 (iblk m c 37 t) (iblk m c 81 t)
    | ⟨148, _⟩ => mom2 (iblk m c 38 t) (iblk m c 82 t)
    | ⟨149, _⟩ => mom2 (iblk m c 39 t) (iblk m c 83 t)
    | ⟨150, _⟩ => mom2 (iblk m c 40 t) (iblk m c 84 t)
    | ⟨151, _⟩ => mom2 (iblk m c 41 t) (iblk m c 85 t)
    | ⟨152, _⟩ => mom2 (iblk m c 42 t) (iblk m c 86 t)
    | ⟨153, _⟩ => mom2 (iblk m c 43 t) (iblk m c 87 t)
    | ⟨_ + 154, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- A window whose buffer the body leaves at its block is found at that block. -/
theorem at_block (c : Dev nD) (w : Fin cfg0.W) (h : (cfg0.win w).isOut = false) (h₁ : ∀ i, cfg0.idle w i = false)
    (h₂ : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = (dats m 0 c).blockOf w t)
    (t : Fin cfg0.N) {X} (hX : ∀ d, (dats m 0 c).fetched w t d = X) :
    iprop(∃ d, owns (c : Thread nD τ) ((cfg0.win w).stage (cfg0.slots t w)) fullShare ((dats m 0 c).before w t d))
      ⊢ (owns (c : Thread nD τ) ((cfg0.win w).stage (cfg0.slots t w)) fullShare X : sProp 𝕄) :=
  exists_elim fun d => by rw [(dats m 0 c).before_in_eq_fetched w h h₁ h₂ hk t d, hX]

/-- Any other is found at something. -/
theorem at_some (c : Dev nD) (w : Fin cfg0.W) (t : Fin cfg0.N) :
    iprop(∃ d, owns (c : Thread nD τ) ((cfg0.win w).stage (cfg0.slots t w)) fullShare ((dats m 0 c).before w t d))
      ⊢ (iprop(∃ d, owns (c : Thread nD τ) ((cfg0.win w).stage (cfg0.slots t w)) fullShare d) : sProp 𝕄) :=
  exists_elim fun d => exists_intro (Φ := fun d => (owns (c : Thread nD τ) ((cfg0.win w).stage (cfg0.slots t w)) fullShare d : sProp 𝕄)) _

theorem defs₀_row (t : Fin cfg0.N) :
    defs₀ (F := F) .tc cfg0.body (cfg0.bodyArgs t (cfg0.slots t)) = bodyAt0 t := by
  unfold defs₀; rw [Defs.onTc_tc]

/-- The chain of windows first, what passes through last. -/
theorem start {P Q R S : sProp 𝕄} (k : R ∗ (P ∗ Q) ⊢ S) : P ∗ Q ∗ R ⊢ S := by
  refine .trans ?_ k
  iintro ⟨HP, HQ, HR⟩
  isplitl [HR]; · iexact HR
  isplitl [HP]; · iexact HP
  iexact HQ

/-- One window. -/
theorem link {B I R X Y : sProp 𝕄} (h : B ⊢ I) (k : R ∗ X ⊢ Y) : (B ∗ R) ∗ X ⊢ I ∗ Y :=
  (show (B ∗ R) ∗ X ⊢ B ∗ (R ∗ X) by
    iintro ⟨⟨HB, HR⟩, HX⟩
    isplitl [HB]; · iexact HB
    isplitl [HR]; · iexact HR
    iexact HX).trans (BIClass.sep_mono h k)

/-- The last window, and what the body gives back. -/
theorem last {B I P Q W K : sProp 𝕄} (h : B ⊢ I) (k : W ⊢ K) : B ∗ (P ∗ Q) ⊢ I ∗ (W -∗ P ∗ Q ∗ K) := by
  refine BIClass.sep_mono h ?_
  iintro ⟨HP, HQ⟩ HW
  isplitl [HP]; · iexact HP
  isplitl [HQ]; · iexact HQ
  iapply k
  iexact HW

theorem each {P R S : sProp 𝕄} (h : R ⊢ S) : P ∗ R ⊢ P ∗ S := BIClass.sep_mono .rfl h

end Cert.AdamMany

end
-- ==== Proof.AdamManyBody.lean ====
module

public import proofs.«01_k».proof.Proof.AdamManyFrame

@[expose] public section

set_option maxRecDepth 16384

noncomputable section

namespace Cert.AdamMany

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel17Ideal Cert.Kernel17Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
theorem body_obligation (c : Dev nD) : BodyObligation (dats (F := F) m 0 c) (defs₀ (F := F)) Variants.none () Set.univ := fun t => by
  rw [bigSep_W0, bigSep_W0, defs₀_row]
  refine .trans ?_ (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) (iblk m c 47 t) (iblk m c 48 t) (iblk m c 49 t) (iblk m c 50 t) (iblk m c 51 t) (iblk m c 52 t) (iblk m c 53 t) (iblk m c 54 t) (iblk m c 55 t) (iblk m c 56 t) (iblk m c 57 t) (iblk m c 58 t) (iblk m c 59 t) (iblk m c 60 t) (iblk m c 61 t) (iblk m c 62 t) (iblk m c 63 t) (iblk m c 64 t) (iblk m c 65 t) (iblk m c 66 t) (iblk m c 67 t) (iblk m c 68 t) (iblk m c 69 t) (iblk m c 70 t) (iblk m c 71 t) (iblk m c 72 t) (iblk m c 73 t) (iblk m c 74 t) (iblk m c 75 t) (iblk m c 76 t) (iblk m c 77 t) (iblk m c 78 t) (iblk m c 79 t) (iblk m c 80 t) (iblk m c 81 t) (iblk m c 82 t) (iblk m c 83 t) (iblk m c 84 t) (iblk m c 85 t) (iblk m c 86 t) (iblk m c 87 t) _)
  refine start ?_
  iterate 88 (refine link (at_block m c _ rfl (fun _ => rfl) (fun _ _ _ => rfl) (fun _ => rfl) t (fun _ => rfl)) ?_)
  iterate 65 (refine link (at_some m c _ t) ?_)
  refine last (at_some m c _ t) ?_
  iterate 153 (refine each ?_)
  exact .rfl

end Cert.AdamMany

end
-- ==== Proof.AdamManyValue.lean ====
module

public import proofs.«01_k».proof.Proof.AdamManyBody
public import Idealize.ShloMosaic.Lib.Pipeline.ValueKit

@[expose] public section

set_option maxRecDepth 16384

noncomputable section

namespace Cert.AdamMany

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel17Ideal Cert.Kernel17Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An input's array is left as it was. -/
theorem inp {r : PUnit × MemSt nD τ sig (Elt F)} (h : Pipeline.FramePost cfgs (dats m) 0 (V m) r) (c : Dev nD) (w : Fin cfg0.W)
    (hw : (cfg0.win w).isOut = false) : r.2.mem (((cfgs 0).spec w).arr.view.loc (c.tc : Thread nD τ)) = V m c (Pipeline.arrRef spec0 w) :=
  ((h c).1 w).trans (((dats m 0 c).arrAt_in w hw _).trans (A_eq m c w))

/-- An output's array ends at what the body leaves. -/
theorem out {r : PUnit × MemSt nD τ sig (Elt F)} (h : Pipeline.FramePost cfgs (dats m) 0 (V m) r) (c : Dev nD) (w : Fin cfg0.W)
    (hw : (cfg0.win w).WholeAt (⟨0, by decide⟩ : Fin cfg0.N)) (G : Buf (Elt F) ((cfg0.win w).arr.view.loc (c.tc : Thread nD τ)))
    (ha : (cfg0.win w).arr.IsWhole)
    (hG : ∀ j : (cfg0.win w).shape.Idx, _root_.cast (congrArg (Elt F) (cfg0.win w).arr.view.elt_eq.symm)
      ((dats m 0 c).after w ⟨0, by decide⟩ fun a => ⟨j a, hw.lt_size j a⟩) = G ((cfg0.win w).arr.view.emb j)) :
    r.2.mem (((cfgs 0).spec w).arr.view.loc (c.tc : Thread nD τ)) = G :=
  ((h c).1 w).trans ((dats m 0 c).arrAt_eq_of_after_last w ⟨0, by decide⟩ hw G hG ha)

/-- Every output window is one block, its whole array. -/
theorem whole : ∀ w : Fin cfg0.W, (cfg0.win w).isOut = true → (cfg0.win w).WholeAt (⟨0, by decide⟩ : Fin cfg0.N) := by
  decide +kernel

theorem idx_zero : ∀ (w : Fin cfg0.W) (t : Fin cfg0.N) (a : Fin (cfg0.win w).shape.rank), (cfg0.win w).index t a = 0 := by
  decide +kernel

/-- A block is read at the array's own places. -/
theorem emb (w : Fin cfg0.W) (t : Fin cfg0.N) (j : ((cfg0.win w).xblock (cfg0.grid.coords t)).Idx) (a : Fin (cfg0.win w).shape.rank) :
    (((cfg0.win w).rect t).emb j a).val = j a :=
  Pipeline.Window.rect_emb_val_of_index_zero _ t a (idx_zero w t a) j

section
variable {s : Shape} {w w' g g' u u' v v' : Vec F s .f32}

theorem mom1_congr (hg : g = g') (hu : u = u') : mom1 g u = mom1 g' u' := by rw [hg, hu]

theorem mom2_congr (hg : g = g') (hv : v = v') : mom2 g v = mom2 g' v' := by rw [hg, hv]

theorem step_congr (hw : w = w') (hg : g = g') (hu : u = u') (hv : v = v') : step w g u v = step w' g' u' v' := by rw [hw, hg, hu, hv]
end

theorem in0 (c : Dev nD) (t : Fin cfg0.N) : iblk m c 0 t = m ((c.tc : Thread nD τ).loc main_arg0) :=
  funext fun j => congrArg (m ((c.tc : Thread nD τ).loc main_arg0)) (funext fun a => Fin.ext (emb 0 t j a))

theorem in1 (c : Dev nD) (t : Fin cfg0.N) : iblk m c 1 t = m ((c.tc : Thread nD τ).loc main_arg1) :=
  funext fun j => congrArg (m ((c.tc : Thread nD τ).loc main_arg1)) (funext fun a => Fin.ext (emb 1 t j a))

theorem in2 (c : Dev nD) (t : Fin cfg0.N) : iblk m c 2 t = m ((c.tc : Thread nD τ).loc main_arg2) :=
  funext fun j => congrArg (m ((c.tc : Thread nD τ).loc main_arg2)) (funext fun a => Fin.ext (emb 2 t j a))

theorem in3 (c : Dev nD) (t : Fin cfg0.N) : iblk m c 3 t = m ((c.tc : Thread nD τ).loc main_arg3) :=
  funext fun j => congrArg (m ((c.tc : Thread nD τ).loc main_arg3)) (funext fun a => Fin.ext (emb 3 t j a))

theorem in4 (c : Dev nD) (t : Fin cfg0.N) : iblk m c 4 t = m ((c.tc : Thread nD τ).loc main_arg4) :=
  funext fun j => congrArg (m ((c.tc : Thread nD τ).loc main_arg4)) (funext fun a => Fin.ext (emb 4 t j a))

theorem in5 (c : Dev nD) (t : Fin cfg0.N) : iblk m c 5 t = m ((c.tc : Thread nD τ).loc main_arg5) :=
  funext fun j => congrArg (m ((c.tc : Thread nD τ).loc main_arg5)) (funext fun a => Fin.ext (emb 5 t j a))

theorem in6 (c : Dev nD) (t : Fin cfg0.N) : iblk m c 6 t = m ((c.tc : Thread nD τ).loc main_arg6) :=
  funext fun j => congrArg (m ((c.tc : Thread nD τ).loc main_arg6)) (funext fun a => Fin.ext (emb 6 t j a))

theorem in7 (c : Dev nD) (t : Fin cfg0.N) : iblk m c 7 t = m ((c.tc : Thread nD τ).loc main_arg7) :=
  funext fun j => congrArg (m ((c.tc : Thread nD τ).loc main_arg7)) (funext fun a => Fin.ext (emb 7 t j a))

theorem in8 (c : Dev nD) (t : Fin cfg0.N) : iblk m c 8 t = m ((c.tc : Thread nD τ).loc main_arg8) :=
  funext fun j => congrArg (m ((c.tc : Thread nD τ).loc main_arg8)) (funext fun a => Fin.ext (emb 8 t j a))

theorem in9 (c : Dev nD) (t : Fin cfg0.N) : iblk m c 9 t = m ((c.tc : Thread nD τ).loc main_arg9) :=
  funext fun j => congrArg (m ((c.tc : Thread nD τ).loc main_arg9)) (funext fun a => Fin.ext (emb 9 t j a))

theorem in10 (c : Dev nD) (t : Fin cfg0.N) : iblk m c 10 t = m ((c.tc : Thread nD τ).loc main_arg10) :=
  funext fun j => congrArg (m ((c.tc : Thread nD τ).loc main_arg10)) (funext fun a => Fin.ext (emb 10 t j a))

theorem in11 (c : Dev nD) (t : Fin cfg0.N) : iblk m c 11 t = m ((c.tc : Thread nD τ).loc main_arg11) :=
  funext fun j => congrArg (m ((c.tc : Thread nD τ).loc main_arg11)) (funext fun a => Fin.ext (emb 11 t j a))

theorem in12 (c : Dev nD) (t : Fin cfg0.N) : iblk m c 12 t = m ((c.tc : Thread nD τ).loc main_arg12) :=
  funext fun j => congrArg (m ((c.tc : Thread nD τ).loc main_arg12)) (funext fun a => Fin.ext (emb 12 t j a))

theorem in13 (c : Dev nD) (t : Fin cfg0.N) : iblk m c 13 t = m ((c.tc : Thread nD τ).loc main_arg13) :=
  funext fun j => congrArg (m ((c.tc : Thread nD τ).loc main_arg13)) (funext fun a => Fin.ext (emb 13 t j a))

theorem in14 (c : Dev nD) (t : Fin cfg0.N) : iblk m c 14 t = m ((c.tc : Thread nD τ).loc main_arg14) :=
  funext fun j => congrArg (m ((c.tc : Thread nD τ).loc main_arg14)) (funext fun a => Fin.ext (emb 14 t j a))

theorem in15 (c : Dev nD) (t : Fin cfg0.N) : iblk m c 15 t = m ((c.tc : Thread nD τ).loc main_arg15) :=
  funext fun j => congrArg (m ((c.tc : Thread nD τ).loc main_arg15)) (funext fun a => Fin.ext (emb 15 t j a))

theorem in16 (c : Dev nD) (t : Fin cfg0.N) : iblk m c 16 t = m ((c.tc : Thread nD τ).loc main_arg16) :=
  funext fun j => congrArg (m ((c.tc : Thread nD τ).loc main_arg16)) (funext fun a => Fin.ext (emb 16 t j a))

theorem in17 (c : Dev nD) (t : Fin cfg0.N) : iblk m c 17 t = m ((c.tc : Thread nD τ).loc main_arg17) :=
  funext fun j => congrArg (m ((c.tc : Thread nD τ).loc main_arg17)) (funext fun a => Fin.ext (emb 17 t j a))

theorem in18 (c : Dev nD) (t : Fin cfg0.N) : iblk m c 18 t = m ((c.tc : Thread nD τ).loc main_arg18) :=
  funext fun j => congrArg (m ((c.tc : Thread nD τ).loc main_arg18)) (funext fun a => Fin.ext (emb 18 t j a))

theorem in19 (c : Dev nD) (t : Fin cfg0.N) : iblk m c 19 t = m ((c.tc : Thread nD τ).loc main_arg19) :=
  funext fun j => congrArg (m ((c.tc : Thread nD τ).loc main_arg19)) (funext fun a => Fin.ext (emb 19 t j a))

theorem in20 (c : Dev nD) (t : Fin cfg0.N) : iblk m c 20 t = m ((c.tc : Thread nD τ).loc main_arg20) :=
  funext fun j => congrArg (m ((c.tc : Thread nD τ).loc main_arg20)) (funext fun a => Fin.ext (emb 20 t j a))

theorem in21 (c : Dev nD) (t : Fin cfg0.N) : iblk m c 21 t = m ((c.tc : Thread nD τ).loc main_arg21) :=
  funext fun j => congrArg (m ((c.tc : Thread nD τ).loc main_arg21)) (funext fun a => Fin.ext (emb 21 t j a))

theorem in22 (c : Dev nD) (t : Fin cfg0.N) : iblk m c 22 t = m ((c.tc : Thread nD τ).loc main_arg22) :=
  funext fun j => congrArg (m ((c.tc : Thread nD τ).loc main_arg22)) (funext fun a => Fin.ext (emb 22 t j a))

theorem in23 (c : Dev nD) (t : Fin cfg0.N) : iblk m c 23 t = m ((c.tc : Thread nD τ).loc main_arg23) :=
  funext fun j => congrArg (m ((c.tc : Thread nD τ).loc main_arg23)) (funext fun a => Fin.ext (emb 23 t j a))

theorem in24 (c : Dev nD) (t : Fin cfg0.N) : iblk m c 24 t = m ((c.tc : Thread nD τ).loc main_arg24) :=
  funext fun j => congrArg (m ((c.tc : Thread nD τ).loc main_arg24)) (funext fun a => Fin.ext (emb 24 t j a))

theorem in25 (c : Dev nD) (t : Fin cfg0.N) : iblk m c 25 t = m ((c.tc : Thread nD τ).loc main_arg25) :=
  funext fun j => congrArg (m ((c.tc : Thread nD τ).loc main_arg25)) (funext fun a => Fin.ext (emb 25 t j a))

theorem in26 (c : Dev nD) (t : Fin cfg0.N) : iblk m c 26 t = m ((c.tc : Thread nD τ).loc main_arg26) :=
  funext fun j => congrArg (m ((c.tc : Thread nD τ).loc main_arg26)) (funext fun a => Fin.ext (emb 26 t j a))

theorem in27 (c : Dev nD) (t : Fin cfg0.N) : iblk m c 27 t = m ((c.tc : Thread nD τ).loc main_arg27) :=
  funext fun j => congrArg (m ((c.tc : Thread nD τ).loc main_arg27)) (funext fun a => Fin.ext (emb 27 t j a))

theorem in28 (c : Dev nD) (t : Fin cfg0.N) : iblk m c 28 t = m ((c.tc : Thread nD τ).loc main_arg28) :=
  funext fun j => congrArg (m ((c.tc : Thread nD τ).loc main_arg28)) (funext fun a => Fin.ext (emb 28 t j a))

theorem in29 (c : Dev nD) (t : Fin cfg0.N) : iblk m c 29 t = m ((c.tc : Thread nD τ).loc main_arg29) :=
  funext fun j => congrArg (m ((c.tc : Thread nD τ).loc main_arg29)) (funext fun a => Fin.ext (emb 29 t j a))

theorem in30 (c : Dev nD) (t : Fin cfg0.N) : iblk m c 30 t = m ((c.tc : Thread nD τ).loc main_arg30) :=
  funext fun j => congrArg (m ((c.tc : Thread nD τ).loc main_arg30)) (funext fun a => Fin.ext (emb 30 t j a))

theorem in31 (c : Dev nD) (t : Fin cfg0.N) : iblk m c 31 t = m ((c.tc : Thread nD τ).loc main_arg31) :=
  funext fun j => congrArg (m ((c.tc : Thread nD τ).loc main_arg31)) (funext fun a => Fin.ext (emb 31 t j a))

theorem in32 (c : Dev nD) (t : Fin cfg0.N) : iblk m c 32 t = m ((c.tc : Thread nD τ).loc main_arg32) :=
  funext fun j => congrArg (m ((c.tc : Thread nD τ).loc main_arg32)) (funext fun a => Fin.ext (emb 32 t j a))

theorem in33 (c : Dev nD) (t : Fin cfg0.N) : iblk m c 33 t = m ((c.tc : Thread nD τ).loc main_arg33) :=
  funext fun j => congrArg (m ((c.tc : Thread nD τ).loc main_arg33)) (funext fun a => Fin.ext (emb 33 t j a))

theorem in34 (c : Dev nD) (t : Fin cfg0.N) : iblk m c 34 t = m ((c.tc : Thread nD τ).loc main_arg34) :=
  funext fun j => congrArg (m ((c.tc : Thread nD τ).loc main_arg34)) (funext fun a => Fin.ext (emb 34 t j a))

theorem in35 (c : Dev nD) (t : Fin cfg0.N) : iblk m c 35 t = m ((c.tc : Thread nD τ).loc main_arg35) :=
  funext fun j => congrArg (m ((c.tc : Thread nD τ).loc main_arg35)) (funext fun a => Fin.ext (emb 35 t j a))

theorem in36 (c : Dev nD) (t : Fin cfg0.N) : iblk m c 36 t = m ((c.tc : Thread nD τ).loc main_arg36) :=
  funext fun j => congrArg (m ((c.tc : Thread nD τ).loc main_arg36)) (funext fun a => Fin.ext (emb 36 t j a))

theorem in37 (c : Dev nD) (t : Fin cfg0.N) : iblk m c 37 t = m ((c.tc : Thread nD τ).loc main_arg37) :=
  funext fun j => congrArg (m ((c.tc : Thread nD τ).loc main_arg37)) (funext fun a => Fin.ext (emb 37 t j a))

theorem in38 (c : Dev nD) (t : Fin cfg0.N) : iblk m c 38 t = m ((c.tc : Thread nD τ).loc main_arg38) :=
  funext fun j => congrArg (m ((c.tc : Thread nD τ).loc main_arg38)) (funext fun a => Fin.ext (emb 38 t j a))

theorem in39 (c : Dev nD) (t : Fin cfg0.N) : iblk m c 39 t = m ((c.tc : Thread nD τ).loc main_arg39) :=
  funext fun j => congrArg (m ((c.tc : Thread nD τ).loc main_arg39)) (funext fun a => Fin.ext (emb 39 t j a))

theorem in40 (c : Dev nD) (t : Fin cfg0.N) : iblk m c 40 t = m ((c.tc : Thread nD τ).loc main_arg40) :=
  funext fun j => congrArg (m ((c.tc : Thread nD τ).loc main_arg40)) (funext fun a => Fin.ext (emb 40 t j a))

theorem in41 (c : Dev nD) (t : Fin cfg0.N) : iblk m c 41 t = m ((c.tc : Thread nD τ).loc main_arg41) :=
  funext fun j => congrArg (m ((c.tc : Thread nD τ).loc main_arg41)) (funext fun a => Fin.ext (emb 41 t j a))

theorem in42 (c : Dev nD) (t : Fin cfg0.N) : iblk m c 42 t = m ((c.tc : Thread nD τ).loc main_arg42) :=
  funext fun j => congrArg (m ((c.tc : Thread nD τ).loc main_arg42)) (funext fun a => Fin.ext (emb 42 t j a))

theorem in43 (c : Dev nD) (t : Fin cfg0.N) : iblk m c 43 t = m ((c.tc : Thread nD τ).loc main_arg43) :=
  funext fun j => congrArg (m ((c.tc : Thread nD τ).loc main_arg43)) (funext fun a => Fin.ext (emb 43 t j a))

theorem in44 (c : Dev nD) (t : Fin cfg0.N) : iblk m c 44 t = m ((c.tc : Thread nD τ).loc main_arg44) :=
  funext fun j => congrArg (m ((c.tc : Thread nD τ).loc main_arg44)) (funext fun a => Fin.ext (emb 44 t j a))

theorem in45 (c : Dev nD) (t : Fin cfg0.N) : iblk m c 45 t = m ((c.tc : Thread nD τ).loc main_arg45) :=
  funext fun j => congrArg (m ((c.tc : Thread nD τ).loc main_arg45)) (funext fun a => Fin.ext (emb 45 t j a))

theorem in46 (c : Dev nD) (t : Fin cfg0.N) : iblk m c 46 t = m ((c.tc : Thread nD τ).loc main_arg46) :=
  funext fun j => congrArg (m ((c.tc : Thread nD τ).loc main_arg46)) (funext fun a => Fin.ext (emb 46 t j a))

theorem in47 (c : Dev nD) (t : Fin cfg0.N) : iblk m c 47 t = m ((c.tc : Thread nD τ).loc main_arg47) :=
  funext fun j => congrArg (m ((c.tc : Thread nD τ).loc main_arg47)) (funext fun a => Fin.ext (emb 47 t j a))

theorem in48 (c : Dev nD) (t : Fin cfg0.N) : iblk m c 48 t = m ((c.tc : Thread nD τ).loc main_arg48) :=
  funext fun j => congrArg (m ((c.tc : Thread nD τ).loc main_arg48)) (funext fun a => Fin.ext (emb 48 t j a))

theorem in49 (c : Dev nD) (t : Fin cfg0.N) : iblk m c 49 t = m ((c.tc : Thread nD τ).loc main_arg49) :=
  funext fun j => congrArg (m ((c.tc : Thread nD τ).loc main_arg49)) (funext fun a => Fin.ext (emb 49 t j a))

theorem in50 (c : Dev nD) (t : Fin cfg0.N) : iblk m c 50 t = m ((c.tc : Thread nD τ).loc main_arg50) :=
  funext fun j => congrArg (m ((c.tc : Thread nD τ).loc main_arg50)) (funext fun a => Fin.ext (emb 50 t j a))

theorem in51 (c : Dev nD) (t : Fin cfg0.N) : iblk m c 51 t = m ((c.tc : Thread nD τ).loc main_arg51) :=
  funext fun j => congrArg (m ((c.tc : Thread nD τ).loc main_arg51)) (funext fun a => Fin.ext (emb 51 t j a))

theorem in52 (c : Dev nD) (t : Fin cfg0.N) : iblk m c 52 t = m ((c.tc : Thread nD τ).loc main_arg52) :=
  funext fun j => congrArg (m ((c.tc : Thread nD τ).loc main_arg52)) (funext fun a => Fin.ext (emb 52 t j a))

theorem in53 (c : Dev nD) (t : Fin cfg0.N) : iblk m c 53 t = m ((c.tc : Thread nD τ).loc main_arg53) :=
  funext fun j => congrArg (m ((c.tc : Thread nD τ).loc main_arg53)) (funext fun a => Fin.ext (emb 53 t j a))

theorem in54 (c : Dev nD) (t : Fin cfg0.N) : iblk m c 54 t = m ((c.tc : Thread nD τ).loc main_arg54) :=
  funext fun j => congrArg (m ((c.tc : Thread nD τ).loc main_arg54)) (funext fun a => Fin.ext (emb 54 t j a))

theorem in55 (c : Dev nD) (t : Fin cfg0.N) : iblk m c 55 t = m ((c.tc : Thread nD τ).loc main_arg55) :=
  funext fun j => congrArg (m ((c.tc : Thread nD τ).loc main_arg55)) (funext fun a => Fin.ext (emb 55 t j a))

theorem in56 (c : Dev nD) (t : Fin cfg0.N) : iblk m c 56 t = m ((c.tc : Thread nD τ).loc main_arg56) :=
  funext fun j => congrArg (m ((c.tc : Thread nD τ).loc main_arg56)) (funext fun a => Fin.ext (emb 56 t j a))

theorem in57 (c : Dev nD) (t : Fin cfg0.N) : iblk m c 57 t = m ((c.tc : Thread nD τ).loc main_arg57) :=
  funext fun j => congrArg (m ((c.tc : Thread nD τ).loc main_arg57)) (funext fun a => Fin.ext (emb 57 t j a))

theorem in58 (c : Dev nD) (t : Fin cfg0.N) : iblk m c 58 t = m ((c.tc : Thread nD τ).loc main_arg58) :=
  funext fun j => congrArg (m ((c.tc : Thread nD τ).loc main_arg58)) (funext fun a => Fin.ext (emb 58 t j a))

theorem in59 (c : Dev nD) (t : Fin cfg0.N) : iblk m c 59 t = m ((c.tc : Thread nD τ).loc main_arg59) :=
  funext fun j => congrArg (m ((c.tc : Thread nD τ).loc main_arg59)) (funext fun a => Fin.ext (emb 59 t j a))

theorem in60 (c : Dev nD) (t : Fin cfg0.N) : iblk m c 60 t = m ((c.tc : Thread nD τ).loc main_arg60) :=
  funext fun j => congrArg (m ((c.tc : Thread nD τ).loc main_arg60)) (funext fun a => Fin.ext (emb 60 t j a))

theorem in61 (c : Dev nD) (t : Fin cfg0.N) : iblk m c 61 t = m ((c.tc : Thread nD τ).loc main_arg61) :=
  funext fun j => congrArg (m ((c.tc : Thread nD τ).loc main_arg61)) (funext fun a => Fin.ext (emb 61 t j a))

theorem in62 (c : Dev nD) (t : Fin cfg0.N) : iblk m c 62 t = m ((c.tc : Thread nD τ).loc main_arg62) :=
  funext fun j => congrArg (m ((c.tc : Thread nD τ).loc main_arg62)) (funext fun a => Fin.ext (emb 62 t j a))

theorem in63 (c : Dev nD) (t : Fin cfg0.N) : iblk m c 63 t = m ((c.tc : Thread nD τ).loc main_arg63) :=
  funext fun j => congrArg (m ((c.tc : Thread nD τ).loc main_arg63)) (funext fun a => Fin.ext (emb 63 t j a))

theorem in64 (c : Dev nD) (t : Fin cfg0.N) : iblk m c 64 t = m ((c.tc : Thread nD τ).loc main_arg64) :=
  funext fun j => congrArg (m ((c.tc : Thread nD τ).loc main_arg64)) (funext fun a => Fin.ext (emb 64 t j a))

theorem in65 (c : Dev nD) (t : Fin cfg0.N) : iblk m c 65 t = m ((c.tc : Thread nD τ).loc main_arg65) :=
  funext fun j => congrArg (m ((c.tc : Thread nD τ).loc main_arg65)) (funext fun a => Fin.ext (emb 65 t j a))

theorem in66 (c : Dev nD) (t : Fin cfg0.N) : iblk m c 66 t = m ((c.tc : Thread nD τ).loc main_arg66) :=
  funext fun j => congrArg (m ((c.tc : Thread nD τ).loc main_arg66)) (funext fun a => Fin.ext (emb 66 t j a))

theorem in67 (c : Dev nD) (t : Fin cfg0.N) : iblk m c 67 t = m ((c.tc : Thread nD τ).loc main_arg67) :=
  funext fun j => congrArg (m ((c.tc : Thread nD τ).loc main_arg67)) (funext fun a => Fin.ext (emb 67 t j a))

theorem in68 (c : Dev nD) (t : Fin cfg0.N) : iblk m c 68 t = m ((c.tc : Thread nD τ).loc main_arg68) :=
  funext fun j => congrArg (m ((c.tc : Thread nD τ).loc main_arg68)) (funext fun a => Fin.ext (emb 68 t j a))

theorem in69 (c : Dev nD) (t : Fin cfg0.N) : iblk m c 69 t = m ((c.tc : Thread nD τ).loc main_arg69) :=
  funext fun j => congrArg (m ((c.tc : Thread nD τ).loc main_arg69)) (funext fun a => Fin.ext (emb 69 t j a))

theorem in70 (c : Dev nD) (t : Fin cfg0.N) : iblk m c 70 t = m ((c.tc : Thread nD τ).loc main_arg70) :=
  funext fun j => congrArg (m ((c.tc : Thread nD τ).loc main_arg70)) (funext fun a => Fin.ext (emb 70 t j a))

theorem in71 (c : Dev nD) (t : Fin cfg0.N) : iblk m c 71 t = m ((c.tc : Thread nD τ).loc main_arg71) :=
  funext fun j => congrArg (m ((c.tc : Thread nD τ).loc main_arg71)) (funext fun a => Fin.ext (emb 71 t j a))

theorem in72 (c : Dev nD) (t : Fin cfg0.N) : iblk m c 72 t = m ((c.tc : Thread nD τ).loc main_arg72) :=
  funext fun j => congrArg (m ((c.tc : Thread nD τ).loc main_arg72)) (funext fun a => Fin.ext (emb 72 t j a))

theorem in73 (c : Dev nD) (t : Fin cfg0.N) : iblk m c 73 t = m ((c.tc : Thread nD τ).loc main_arg73) :=
  funext fun j => congrArg (m ((c.tc : Thread nD τ).loc main_arg73)) (funext fun a => Fin.ext (emb 73 t j a))

theorem in74 (c : Dev nD) (t : Fin cfg0.N) : iblk m c 74 t = m ((c.tc : Thread nD τ).loc main_arg74) :=
  funext fun j => congrArg (m ((c.tc : Thread nD τ).loc main_arg74)) (funext fun a => Fin.ext (emb 74 t j a))

theorem in75 (c : Dev nD) (t : Fin cfg0.N) : iblk m c 75 t = m ((c.tc : Thread nD τ).loc main_arg75) :=
  funext fun j => congrArg (m ((c.tc : Thread nD τ).loc main_arg75)) (funext fun a => Fin.ext (emb 75 t j a))

theorem in76 (c : Dev nD) (t : Fin cfg0.N) : iblk m c 76 t = m ((c.tc : Thread nD τ).loc main_arg76) :=
  funext fun j => congrArg (m ((c.tc : Thread nD τ).loc main_arg76)) (funext fun a => Fin.ext (emb 76 t j a))

theorem in77 (c : Dev nD) (t : Fin cfg0.N) : iblk m c 77 t = m ((c.tc : Thread nD τ).loc main_arg77) :=
  funext fun j => congrArg (m ((c.tc : Thread nD τ).loc main_arg77)) (funext fun a => Fin.ext (emb 77 t j a))

theorem in78 (c : Dev nD) (t : Fin cfg0.N) : iblk m c 78 t = m ((c.tc : Thread nD τ).loc main_arg78) :=
  funext fun j => congrArg (m ((c.tc : Thread nD τ).loc main_arg78)) (funext fun a => Fin.ext (emb 78 t j a))

theorem in79 (c : Dev nD) (t : Fin cfg0.N) : iblk m c 79 t = m ((c.tc : Thread nD τ).loc main_arg79) :=
  funext fun j => congrArg (m ((c.tc : Thread nD τ).loc main_arg79)) (funext fun a => Fin.ext (emb 79 t j a))

theorem in80 (c : Dev nD) (t : Fin cfg0.N) : iblk m c 80 t = m ((c.tc : Thread nD τ).loc main_arg80) :=
  funext fun j => congrArg (m ((c.tc : Thread nD τ).loc main_arg80)) (funext fun a => Fin.ext (emb 80 t j a))

theorem in81 (c : Dev nD) (t : Fin cfg0.N) : iblk m c 81 t = m ((c.tc : Thread nD τ).loc main_arg81) :=
  funext fun j => congrArg (m ((c.tc : Thread nD τ).loc main_arg81)) (funext fun a => Fin.ext (emb 81 t j a))

theorem in82 (c : Dev nD) (t : Fin cfg0.N) : iblk m c 82 t = m ((c.tc : Thread nD τ).loc main_arg82) :=
  funext fun j => congrArg (m ((c.tc : Thread nD τ).loc main_arg82)) (funext fun a => Fin.ext (emb 82 t j a))

theorem in83 (c : Dev nD) (t : Fin cfg0.N) : iblk m c 83 t = m ((c.tc : Thread nD τ).loc main_arg83) :=
  funext fun j => congrArg (m ((c.tc : Thread nD τ).loc main_arg83)) (funext fun a => Fin.ext (emb 83 t j a))

theorem in84 (c : Dev nD) (t : Fin cfg0.N) : iblk m c 84 t = m ((c.tc : Thread nD τ).loc main_arg84) :=
  funext fun j => congrArg (m ((c.tc : Thread nD τ).loc main_arg84)) (funext fun a => Fin.ext (emb 84 t j a))

theorem in85 (c : Dev nD) (t : Fin cfg0.N) : iblk m c 85 t = m ((c.tc : Thread nD τ).loc main_arg85) :=
  funext fun j => congrArg (m ((c.tc : Thread nD τ).loc main_arg85)) (funext fun a => Fin.ext (emb 85 t j a))

theorem in86 (c : Dev nD) (t : Fin cfg0.N) : iblk m c 86 t = m ((c.tc : Thread nD τ).loc main_arg86) :=
  funext fun j => congrArg (m ((c.tc : Thread nD τ).loc main_arg86)) (funext fun a => Fin.ext (emb 86 t j a))

theorem in87 (c : Dev nD) (t : Fin cfg0.N) : iblk m c 87 t = m ((c.tc : Thread nD τ).loc main_arg87) :=
  funext fun j => congrArg (m ((c.tc : Thread nD τ).loc main_arg87)) (funext fun a => Fin.ext (emb 87 t j a))

/-- The arguments are as they were. -/
abbrev Kept (μ : MemSt nD τ sig (Elt F)) (c : Dev nD) : Prop :=
  μ.mem ((c.tc : Thread nD τ).loc main_arg0) = m ((c.tc : Thread nD τ).loc main_arg0)
      ∧ μ.mem ((c.tc : Thread nD τ).loc main_arg1) = m ((c.tc : Thread nD τ).loc main_arg1)
      ∧ μ.mem ((c.tc : Thread nD τ).loc main_arg2) = m ((c.tc : Thread nD τ).loc main_arg2)
      ∧ μ.mem ((c.tc : Thread nD τ).loc main_arg3) = m ((c.tc : Thread nD τ).loc main_arg3)
      ∧ μ.mem ((c.tc : Thread nD τ).loc main_arg4) = m ((c.tc : Thread nD τ).loc main_arg4)
      ∧ μ.mem ((c.tc : Thread nD τ).loc main_arg5) = m ((c.tc : Thread nD τ).loc main_arg5)
      ∧ μ.mem ((c.tc : Thread nD τ).loc main_arg6) = m ((c.tc : Thread nD τ).loc main_arg6)
      ∧ μ.mem ((c.tc : Thread nD τ).loc main_arg7) = m ((c.tc : Thread nD τ).loc main_arg7)
      ∧ μ.mem ((c.tc : Thread nD τ).loc main_arg8) = m ((c.tc : Thread nD τ).loc main_arg8)
      ∧ μ.mem ((c.tc : Thread nD τ).loc main_arg9) = m ((c.tc : Thread nD τ).loc main_arg9)
      ∧ μ.mem ((c.tc : Thread nD τ).loc main_arg10) = m ((c.tc : Thread nD τ).loc main_arg10)
      ∧ μ.mem ((c.tc : Thread nD τ).loc main_arg11) = m ((c.tc : Thread nD τ).loc main_arg11)
      ∧ μ.mem ((c.tc : Thread nD τ).loc main_arg12) = m ((c.tc : Thread nD τ).loc main_arg12)
      ∧ μ.mem ((c.tc : Thread nD τ).loc main_arg13) = m ((c.tc : Thread nD τ).loc main_arg13)
      ∧ μ.mem ((c.tc : Thread nD τ).loc main_arg14) = m ((c.tc : Thread nD τ).loc main_arg14)
      ∧ μ.mem ((c.tc : Thread nD τ).loc main_arg15) = m ((c.tc : Thread nD τ).loc main_arg15)
      ∧ μ.mem ((c.tc : Thread nD τ).loc main_arg16) = m ((c.tc : Thread nD τ).loc main_arg16)
      ∧ μ.mem ((c.tc : Thread nD τ).loc main_arg17) = m ((c.tc : Thread nD τ).loc main_arg17)
      ∧ μ.mem ((c.tc : Thread nD τ).loc main_arg18) = m ((c.tc : Thread nD τ).loc main_arg18)
      ∧ μ.mem ((c.tc : Thread nD τ).loc main_arg19) = m ((c.tc : Thread nD τ).loc main_arg19)
      ∧ μ.mem ((c.tc : Thread nD τ).loc main_arg20) = m ((c.tc : Thread nD τ).loc main_arg20)
      ∧ μ.mem ((c.tc : Thread nD τ).loc main_arg21) = m ((c.tc : Thread nD τ).loc main_arg21)
      ∧ μ.mem ((c.tc : Thread nD τ).loc main_arg22) = m ((c.tc : Thread nD τ).loc main_arg22)
      ∧ μ.mem ((c.tc : Thread nD τ).loc main_arg23) = m ((c.tc : Thread nD τ).loc main_arg23)
      ∧ μ.mem ((c.tc : Thread nD τ).loc main_arg24) = m ((c.tc : Thread nD τ).loc main_arg24)
      ∧ μ.mem ((c.tc : Thread nD τ).loc main_arg25) = m ((c.tc : Thread nD τ).loc main_arg25)
      ∧ μ.mem ((c.tc : Thread nD τ).loc main_arg26) = m ((c.tc : Thread nD τ).loc main_arg26)
      ∧ μ.mem ((c.tc : Thread nD τ).loc main_arg27) = m ((c.tc : Thread nD τ).loc main_arg27)
      ∧ μ.mem ((c.tc : Thread nD τ).loc main_arg28) = m ((c.tc : Thread nD τ).loc main_arg28)
      ∧ μ.mem ((c.tc : Thread nD τ).loc main_arg29) = m ((c.tc : Thread nD τ).loc main_arg29)
      ∧ μ.mem ((c.tc : Thread nD τ).loc main_arg30) = m ((c.tc : Thread nD τ).loc main_arg30)
      ∧ μ.mem ((c.tc : Thread nD τ).loc main_arg31) = m ((c.tc : Thread nD τ).loc main_arg31)
      ∧ μ.mem ((c.tc : Thread nD τ).loc main_arg32) = m ((c.tc : Thread nD τ).loc main_arg32)
      ∧ μ.mem ((c.tc : Thread nD τ).loc main_arg33) = m ((c.tc : Thread nD τ).loc main_arg33)
      ∧ μ.mem ((c.tc : Thread nD τ).loc main_arg34) = m ((c.tc : Thread nD τ).loc main_arg34)
      ∧ μ.mem ((c.tc : Thread nD τ).loc main_arg35) = m ((c.tc : Thread nD τ).loc main_arg35)
      ∧ μ.mem ((c.tc : Thread nD τ).loc main_arg36) = m ((c.tc : Thread nD τ).loc main_arg36)
      ∧ μ.mem ((c.tc : Thread nD τ).loc main_arg37) = m ((c.tc : Thread nD τ).loc main_arg37)
      ∧ μ.mem ((c.tc : Thread nD τ).loc main_arg38) = m ((c.tc : Thread nD τ).loc main_arg38)
      ∧ μ.mem ((c.tc : Thread nD τ).loc main_arg39) = m ((c.tc : Thread nD τ).loc main_arg39)
      ∧ μ.mem ((c.tc : Thread nD τ).loc main_arg40) = m ((c.tc : Thread nD τ).loc main_arg40)
      ∧ μ.mem ((c.tc : Thread nD τ).loc main_arg41) = m ((c.tc : Thread nD τ).loc main_arg41)
      ∧ μ.mem ((c.tc : Thread nD τ).loc main_arg42) = m ((c.tc : Thread nD τ).loc main_arg42)
      ∧ μ.mem ((c.tc : Thread nD τ).loc main_arg43) = m ((c.tc : Thread nD τ).loc main_arg43)
      ∧ μ.mem ((c.tc : Thread nD τ).loc main_arg44) = m ((c.tc : Thread nD τ).loc main_arg44)
      ∧ μ.mem ((c.tc : Thread nD τ).loc main_arg45) = m ((c.tc : Thread nD τ).loc main_arg45)
      ∧ μ.mem ((c.tc : Thread nD τ).loc main_arg46) = m ((c.tc : Thread nD τ).loc main_arg46)
      ∧ μ.mem ((c.tc : Thread nD τ).loc main_arg47) = m ((c.tc : Thread nD τ).loc main_arg47)
      ∧ μ.mem ((c.tc : Thread nD τ).loc main_arg48) = m ((c.tc : Thread nD τ).loc main_arg48)
      ∧ μ.mem ((c.tc : Thread nD τ).loc main_arg49) = m ((c.tc : Thread nD τ).loc main_arg49)
      ∧ μ.mem ((c.tc : Thread nD τ).loc main_arg50) = m ((c.tc : Thread nD τ).loc main_arg50)
      ∧ μ.mem ((c.tc : Thread nD τ).loc main_arg51) = m ((c.tc : Thread nD τ).loc main_arg51)
      ∧ μ.mem ((c.tc : Thread nD τ).loc main_arg52) = m ((c.tc : Thread nD τ).loc main_arg52)
      ∧ μ.mem ((c.tc : Thread nD τ).loc main_arg53) = m ((c.tc : Thread nD τ).loc main_arg53)
      ∧ μ.mem ((c.tc : Thread nD τ).loc main_arg54) = m ((c.tc : Thread nD τ).loc main_arg54)
      ∧ μ.mem ((c.tc : Thread nD τ).loc main_arg55) = m ((c.tc : Thread nD τ).loc main_arg55)
      ∧ μ.mem ((c.tc : Thread nD τ).loc main_arg56) = m ((c.tc : Thread nD τ).loc main_arg56)
      ∧ μ.mem ((c.tc : Thread nD τ).loc main_arg57) = m ((c.tc : Thread nD τ).loc main_arg57)
      ∧ μ.mem ((c.tc : Thread nD τ).loc main_arg58) = m ((c.tc : Thread nD τ).loc main_arg58)
      ∧ μ.mem ((c.tc : Thread nD τ).loc main_arg59) = m ((c.tc : Thread nD τ).loc main_arg59)
      ∧ μ.mem ((c.tc : Thread nD τ).loc main_arg60) = m ((c.tc : Thread nD τ).loc main_arg60)
      ∧ μ.mem ((c.tc : Thread nD τ).loc main_arg61) = m ((c.tc : Thread nD τ).loc main_arg61)
      ∧ μ.mem ((c.tc : Thread nD τ).loc main_arg62) = m ((c.tc : Thread nD τ).loc main_arg62)
      ∧ μ.mem ((c.tc : Thread nD τ).loc main_arg63) = m ((c.tc : Thread nD τ).loc main_arg63)
      ∧ μ.mem ((c.tc : Thread nD τ).loc main_arg64) = m ((c.tc : Thread nD τ).loc main_arg64)
      ∧ μ.mem ((c.tc : Thread nD τ).loc main_arg65) = m ((c.tc : Thread nD τ).loc main_arg65)
      ∧ μ.mem ((c.tc : Thread nD τ).loc main_arg66) = m ((c.tc : Thread nD τ).loc main_arg66)
      ∧ μ.mem ((c.tc : Thread nD τ).loc main_arg67) = m ((c.tc : Thread nD τ).loc main_arg67)
      ∧ μ.mem ((c.tc : Thread nD τ).loc main_arg68) = m ((c.tc : Thread nD τ).loc main_arg68)
      ∧ μ.mem ((c.tc : Thread nD τ).loc main_arg69) = m ((c.tc : Thread nD τ).loc main_arg69)
      ∧ μ.mem ((c.tc : Thread nD τ).loc main_arg70) = m ((c.tc : Thread nD τ).loc main_arg70)
      ∧ μ.mem ((c.tc : Thread nD τ).loc main_arg71) = m ((c.tc : Thread nD τ).loc main_arg71)
      ∧ μ.mem ((c.tc : Thread nD τ).loc main_arg72) = m ((c.tc : Thread nD τ).loc main_arg72)
      ∧ μ.mem ((c.tc : Thread nD τ).loc main_arg73) = m ((c.tc : Thread nD τ).loc main_arg73)
      ∧ μ.mem ((c.tc : Thread nD τ).loc main_arg74) = m ((c.tc : Thread nD τ).loc main_arg74)
      ∧ μ.mem ((c.tc : Thread nD τ).loc main_arg75) = m ((c.tc : Thread nD τ).loc main_arg75)
      ∧ μ.mem ((c.tc : Thread nD τ).loc main_arg76) = m ((c.tc : Thread nD τ).loc main_arg76)
      ∧ μ.mem ((c.tc : Thread nD τ).loc main_arg77) = m ((c.tc : Thread nD τ).loc main_arg77)
      ∧ μ.mem ((c.tc : Thread nD τ).loc main_arg78) = m ((c.tc : Thread nD τ).loc main_arg78)
      ∧ μ.mem ((c.tc : Thread nD τ).loc main_arg79) = m ((c.tc : Thread nD τ).loc main_arg79)
      ∧ μ.mem ((c.tc : Thread nD τ).loc main_arg80) = m ((c.tc : Thread nD τ).loc main_arg80)
      ∧ μ.mem ((c.tc : Thread nD τ).loc main_arg81) = m ((c.tc : Thread nD τ).loc main_arg81)
      ∧ μ.mem ((c.tc : Thread nD τ).loc main_arg82) = m ((c.tc : Thread nD τ).loc main_arg82)
      ∧ μ.mem ((c.tc : Thread nD τ).loc main_arg83) = m ((c.tc : Thread nD τ).loc main_arg83)
      ∧ μ.mem ((c.tc : Thread nD τ).loc main_arg84) = m ((c.tc : Thread nD τ).loc main_arg84)
      ∧ μ.mem ((c.tc : Thread nD τ).loc main_arg85) = m ((c.tc : Thread nD τ).loc main_arg85)
      ∧ μ.mem ((c.tc : Thread nD τ).loc main_arg86) = m ((c.tc : Thread nD τ).loc main_arg86)
      ∧ μ.mem ((c.tc : Thread nD τ).loc main_arg87) = m ((c.tc : Thread nD τ).loc main_arg87)

/-- The results are the steps and the moments of the arguments, which are as they were. -/
abbrev Ends (μ : MemSt nD τ sig (Elt F)) (c : Dev nD) : Prop :=
  μ.mem ((c.tc : Thread nD τ).loc main_v0_0) = step (m ((c.tc : Thread nD τ).loc main_arg0)) (m ((c.tc : Thread nD τ).loc main_arg22)) (m ((c.tc : Thread nD τ).loc main_arg44)) (m ((c.tc : Thread nD τ).loc main_arg66))
      ∧ μ.mem ((c.tc : Thread nD τ).loc main_v0_1) = step (m ((c.tc : Thread nD τ).loc main_arg1)) (m ((c.tc : Thread nD τ).loc main_arg23)) (m ((c.tc : Thread nD τ).loc main_arg45)) (m ((c.tc : Thread nD τ).loc main_arg67))
      ∧ μ.mem ((c.tc : Thread nD τ).loc main_v0_2) = step (m ((c.tc : Thread nD τ).loc main_arg2)) (m ((c.tc : Thread nD τ).loc main_arg24)) (m ((c.tc : Thread nD τ).loc main_arg46)) (m ((c.tc : Thread nD τ).loc main_arg68))
      ∧ μ.mem ((c.tc : Thread nD τ).loc main_v0_3) = step (m ((c.tc : Thread nD τ).loc main_arg3)) (m ((c.tc : Thread nD τ).loc main_arg25)) (m ((c.tc : Thread nD τ).loc main_arg47)) (m ((c.tc : Thread nD τ).loc main_arg69))
      ∧ μ.mem ((c.tc : Thread nD τ).loc main_v0_4) = step (m ((c.tc : Thread nD τ).loc main_arg4)) (m ((c.tc : Thread nD τ).loc main_arg26)) (m ((c.tc : Thread nD τ).loc main_arg48)) (m ((c.tc : Thread nD τ).loc main_arg70))
      ∧ μ.mem ((c.tc : Thread nD τ).loc main_v0_5) = step (m ((c.tc : Thread nD τ).loc main_arg5)) (m ((c.tc : Thread nD τ).loc main_arg27)) (m ((c.tc : Thread nD τ).loc main_arg49)) (m ((c.tc : Thread nD τ).loc main_arg71))
      ∧ μ.mem ((c.tc : Thread nD τ).loc main_v0_6) = step (m ((c.tc : Thread nD τ).loc main_arg6)) (m ((c.tc : Thread nD τ).loc main_arg28)) (m ((c.tc : Thread nD τ).loc main_arg50)) (m ((c.tc : Thread nD τ).loc main_arg72))
      ∧ μ.mem ((c.tc : Thread nD τ).loc main_v0_7) = step (m ((c.tc : Thread nD τ).loc main_arg7)) (m ((c.tc : Thread nD τ).loc main_arg29)) (m ((c.tc : Thread nD τ).loc main_arg51)) (m ((c.tc : Thread nD τ).loc main_arg73))
      ∧ μ.mem ((c.tc : Thread nD τ).loc main_v0_8) = step (m ((c.tc : Thread nD τ).loc main_arg8)) (m ((c.tc : Thread nD τ).loc main_arg30)) (m ((c.tc : Thread nD τ).loc main_arg52)) (m ((c.tc : Thread nD τ).loc main_arg74))
      ∧ μ.mem ((c.tc : Thread nD τ).loc main_v0_9) = step (m ((c.tc : Thread nD τ).loc main_arg9)) (m ((c.tc : Thread nD τ).loc main_arg31)) (m ((c.tc : Thread nD τ).loc main_arg53)) (m ((c.tc : Thread nD τ).loc main_arg75))
      ∧ μ.mem ((c.tc : Thread nD τ).loc main_v0_10) = step (m ((c.tc : Thread nD τ).loc main_arg10)) (m ((c.tc : Thread nD τ).loc main_arg32)) (m ((c.tc : Thread nD τ).loc main_arg54)) (m ((c.tc : Thread nD τ).loc main_arg76))
      ∧ μ.mem ((c.tc : Thread nD τ).loc main_v0_11) = step (m ((c.tc : Thread nD τ).loc main_arg11)) (m ((c.tc : Thread nD τ).loc main_arg33)) (m ((c.tc : Thread nD τ).loc main_arg55)) (m ((c.tc : Thread nD τ).loc main_arg77))
      ∧ μ.mem ((c.tc : Thread nD τ).loc main_v0_12) = step (m ((c.tc : Thread nD τ).loc main_arg12)) (m ((c.tc : Thread nD τ).loc main_arg34)) (m ((c.tc : Thread nD τ).loc main_arg56)) (m ((c.tc : Thread nD τ).loc main_arg78))
      ∧ μ.mem ((c.tc : Thread nD τ).loc main_v0_13) = step (m ((c.tc : Thread nD τ).loc main_arg13)) (m ((c.tc : Thread nD τ).loc main_arg35)) (m ((c.tc : Thread nD τ).loc main_arg57)) (m ((c.tc : Thread nD τ).loc main_arg79))
      ∧ μ.mem ((c.tc : Thread nD τ).loc main_v0_14) = step (m ((c.tc : Thread nD τ).loc main_arg14)) (m ((c.tc : Thread nD τ).loc main_arg36)) (m ((c.tc : Thread nD τ).loc main_arg58)) (m ((c.tc : Thread nD τ).loc main_arg80))
      ∧ μ.mem ((c.tc : Thread nD τ).loc main_v0_15) = step (m ((c.tc : Thread nD τ).loc main_arg15)) (m ((c.tc : Thread nD τ).loc main_arg37)) (m ((c.tc : Thread nD τ).loc main_arg59)) (m ((c.tc : Thread nD τ).loc main_arg81))
      ∧ μ.mem ((c.tc : Thread nD τ).loc main_v0_16) = step (m ((c.tc : Thread nD τ).loc main_arg16)) (m ((c.tc : Thread nD τ).loc main_arg38)) (m ((c.tc : Thread nD τ).loc main_arg60)) (m ((c.tc : Thread nD τ).loc main_arg82))
      ∧ μ.mem ((c.tc : Thread nD τ).loc main_v0_17) = step (m ((c.tc : Thread nD τ).loc main_arg17)) (m ((c.tc : Thread nD τ).loc main_arg39)) (m ((c.tc : Thread nD τ).loc main_arg61)) (m ((c.tc : Thread nD τ).loc main_arg83))
      ∧ μ.mem ((c.tc : Thread nD τ).loc main_v0_18) = step (m ((c.tc : Thread nD τ).loc main_arg18)) (m ((c.tc : Thread nD τ).loc main_arg40)) (m ((c.tc : Thread nD τ).loc main_arg62)) (m ((c.tc : Thread nD τ).loc main_arg84))
      ∧ μ.mem ((c.tc : Thread nD τ).loc main_v0_19) = step (m ((c.tc : Thread nD τ).loc main_arg19)) (m ((c.tc : Thread nD τ).loc main_arg41)) (m ((c.tc : Thread nD τ).loc main_arg63)) (m ((c.tc : Thread nD τ).loc main_arg85))
      ∧ μ.mem ((c.tc : Thread nD τ).loc main_v0_20) = step (m ((c.tc : Thread nD τ).loc main_arg20)) (m ((c.tc : Thread nD τ).loc main_arg42)) (m ((c.tc : Thread nD τ).loc main_arg64)) (m ((c.tc : Thread nD τ).loc main_arg86))
      ∧ μ.mem ((c.tc : Thread nD τ).loc main_v0_21) = step (m ((c.tc : Thread nD τ).loc main_arg21)) (m ((c.tc : Thread nD τ).loc main_arg43)) (m ((c.tc : Thread nD τ).loc main_arg65)) (m ((c.tc : Thread nD τ).loc main_arg87))
      ∧ μ.mem ((c.tc : Thread nD τ).loc main_v0_22) = mom1 (m ((c.tc : Thread nD τ).loc main_arg22)) (m ((c.tc : Thread nD τ).loc main_arg44))
      ∧ μ.mem ((c.tc : Thread nD τ).loc main_v0_23) = mom1 (m ((c.tc : Thread nD τ).loc main_arg23)) (m ((c.tc : Thread nD τ).loc main_arg45))
      ∧ μ.mem ((c.tc : Thread nD τ).loc main_v0_24) = mom1 (m ((c.tc : Thread nD τ).loc main_arg24)) (m ((c.tc : Thread nD τ).loc main_arg46))
      ∧ μ.mem ((c.tc : Thread nD τ).loc main_v0_25) = mom1 (m ((c.tc : Thread nD τ).loc main_arg25)) (m ((c.tc : Thread nD τ).loc main_arg47))
      ∧ μ.mem ((c.tc : Thread nD τ).loc main_v0_26) = mom1 (m ((c.tc : Thread nD τ).loc main_arg26)) (m ((c.tc : Thread nD τ).loc main_arg48))
      ∧ μ.mem ((c.tc : Thread nD τ).loc main_v0_27) = mom1 (m ((c.tc : Thread nD τ).loc main_arg27)) (m ((c.tc : Thread nD τ).loc main_arg49))
      ∧ μ.mem ((c.tc : Thread nD τ).loc main_v0_28) = mom1 (m ((c.tc : Thread nD τ).loc main_arg28)) (m ((c.tc : Thread nD τ).loc main_arg50))
      ∧ μ.mem ((c.tc : Thread nD τ).loc main_v0_29) = mom1 (m ((c.tc : Thread nD τ).loc main_arg29)) (m ((c.tc : Thread nD τ).loc main_arg51))
      ∧ μ.mem ((c.tc : Thread nD τ).loc main_v0_30) = mom1 (m ((c.tc : Thread nD τ).loc main_arg30)) (m ((c.tc : Thread nD τ).loc main_arg52))
      ∧ μ.mem ((c.tc : Thread nD τ).loc main_v0_31) = mom1 (m ((c.tc : Thread nD τ).loc main_arg31)) (m ((c.tc : Thread nD τ).loc main_arg53))
      ∧ μ.mem ((c.tc : Thread nD τ).loc main_v0_32) = mom1 (m ((c.tc : Thread nD τ).loc main_arg32)) (m ((c.tc : Thread nD τ).loc main_arg54))
      ∧ μ.mem ((c.tc : Thread nD τ).loc main_v0_33) = mom1 (m ((c.tc : Thread nD τ).loc main_arg33)) (m ((c.tc : Thread nD τ).loc main_arg55))
      ∧ μ.mem ((c.tc : Thread nD τ).loc main_v0_34) = mom1 (m ((c.tc : Thread nD τ).loc main_arg34)) (m ((c.tc : Thread nD τ).loc main_arg56))
      ∧ μ.mem ((c.tc : Thread nD τ).loc main_v0_35) = mom1 (m ((c.tc : Thread nD τ).loc main_arg35)) (m ((c.tc : Thread nD τ).loc main_arg57))
      ∧ μ.mem ((c.tc : Thread nD τ).loc main_v0_36) = mom1 (m ((c.tc : Thread nD τ).loc main_arg36)) (m ((c.tc : Thread nD τ).loc main_arg58))
      ∧ μ.mem ((c.tc : Thread nD τ).loc main_v0_37) = mom1 (m ((c.tc : Thread nD τ).loc main_arg37)) (m ((c.tc : Thread nD τ).loc main_arg59))
      ∧ μ.mem ((c.tc : Thread nD τ).loc main_v0_38) = mom1 (m ((c.tc : Thread nD τ).loc main_arg38)) (m ((c.tc : Thread nD τ).loc main_arg60))
      ∧ μ.mem ((c.tc : Thread nD τ).loc main_v0_39) = mom1 (m ((c.tc : Thread nD τ).loc main_arg39)) (m ((c.tc : Thread nD τ).loc main_arg61))
      ∧ μ.mem ((c.tc : Thread nD τ).loc main_v0_40) = mom1 (m ((c.tc : Thread nD τ).loc main_arg40)) (m ((c.tc : Thread nD τ).loc main_arg62))
      ∧ μ.mem ((c.tc : Thread nD τ).loc main_v0_41) = mom1 (m ((c.tc : Thread nD τ).loc main_arg41)) (m ((c.tc : Thread nD τ).loc main_arg63))
      ∧ μ.mem ((c.tc : Thread nD τ).loc main_v0_42) = mom1 (m ((c.tc : Thread nD τ).loc main_arg42)) (m ((c.tc : Thread nD τ).loc main_arg64))
      ∧ μ.mem ((c.tc : Thread nD τ).loc main_v0_43) = mom1 (m ((c.tc : Thread nD τ).loc main_arg43)) (m ((c.tc : Thread nD τ).loc main_arg65))
      ∧ μ.mem ((c.tc : Thread nD τ).loc main_v0_44) = mom2 (m ((c.tc : Thread nD τ).loc main_arg22)) (m ((c.tc : Thread nD τ).loc main_arg66))
      ∧ μ.mem ((c.tc : Thread nD τ).loc main_v0_45) = mom2 (m ((c.tc : Thread nD τ).loc main_arg23)) (m ((c.tc : Thread nD τ).loc main_arg67))
      ∧ μ.mem ((c.tc : Thread nD τ).loc main_v0_46) = mom2 (m ((c.tc : Thread nD τ).loc main_arg24)) (m ((c.tc : Thread nD τ).loc main_arg68))
      ∧ μ.mem ((c.tc : Thread nD τ).loc main_v0_47) = mom2 (m ((c.tc : Thread nD τ).loc main_arg25)) (m ((c.tc : Thread nD τ).loc main_arg69))
      ∧ μ.mem ((c.tc : Thread nD τ).loc main_v0_48) = mom2 (m ((c.tc : Thread nD τ).loc main_arg26)) (m ((c.tc : Thread nD τ).loc main_arg70))
      ∧ μ.mem ((c.tc : Thread nD τ).loc main_v0_49) = mom2 (m ((c.tc : Thread nD τ).loc main_arg27)) (m ((c.tc : Thread nD τ).loc main_arg71))
      ∧ μ.mem ((c.tc : Thread nD τ).loc main_v0_50) = mom2 (m ((c.tc : Thread nD τ).loc main_arg28)) (m ((c.tc : Thread nD τ).loc main_arg72))
      ∧ μ.mem ((c.tc : Thread nD τ).loc main_v0_51) = mom2 (m ((c.tc : Thread nD τ).loc main_arg29)) (m ((c.tc : Thread nD τ).loc main_arg73))
      ∧ μ.mem ((c.tc : Thread nD τ).loc main_v0_52) = mom2 (m ((c.tc : Thread nD τ).loc main_arg30)) (m ((c.tc : Thread nD τ).loc main_arg74))
      ∧ μ.mem ((c.tc : Thread nD τ).loc main_v0_53) = mom2 (m ((c.tc : Thread nD τ).loc main_arg31)) (m ((c.tc : Thread nD τ).loc main_arg75))
      ∧ μ.mem ((c.tc : Thread nD τ).loc main_v0_54) = mom2 (m ((c.tc : Thread nD τ).loc main_arg32)) (m ((c.tc : Thread nD τ).loc main_arg76))
      ∧ μ.mem ((c.tc : Thread nD τ).loc main_v0_55) = mom2 (m ((c.tc : Thread nD τ).loc main_arg33)) (m ((c.tc : Thread nD τ).loc main_arg77))
      ∧ μ.mem ((c.tc : Thread nD τ).loc main_v0_56) = mom2 (m ((c.tc : Thread nD τ).loc main_arg34)) (m ((c.tc : Thread nD τ).loc main_arg78))
      ∧ μ.mem ((c.tc : Thread nD τ).loc main_v0_57) = mom2 (m ((c.tc : Thread nD τ).loc main_arg35)) (m ((c.tc : Thread nD τ).loc main_arg79))
      ∧ μ.mem ((c.tc : Thread nD τ).loc main_v0_58) = mom2 (m ((c.tc : Thread nD τ).loc main_arg36)) (m ((c.tc : Thread nD τ).loc main_arg80))
      ∧ μ.mem ((c.tc : Thread nD τ).loc main_v0_59) = mom2 (m ((c.tc : Thread nD τ).loc main_arg37)) (m ((c.tc : Thread nD τ).loc main_arg81))
      ∧ μ.mem ((c.tc : Thread nD τ).loc main_v0_60) = mom2 (m ((c.tc : Thread nD τ).loc main_arg38)) (m ((c.tc : Thread nD τ).loc main_arg82))
      ∧ μ.mem ((c.tc : Thread nD τ).loc main_v0_61) = mom2 (m ((c.tc : Thread nD τ).loc main_arg39)) (m ((c.tc : Thread nD τ).loc main_arg83))
      ∧ μ.mem ((c.tc : Thread nD τ).loc main_v0_62) = mom2 (m ((c.tc : Thread nD τ).loc main_arg40)) (m ((c.tc : Thread nD τ).loc main_arg84))
      ∧ μ.mem ((c.tc : Thread nD τ).loc main_v0_63) = mom2 (m ((c.tc : Thread nD τ).loc main_arg41)) (m ((c.tc : Thread nD τ).loc main_arg85))
      ∧ μ.mem ((c.tc : Thread nD τ).loc main_v0_64) = mom2 (m ((c.tc : Thread nD τ).loc main_arg42)) (m ((c.tc : Thread nD τ).loc main_arg86))
      ∧ μ.mem ((c.tc : Thread nD τ).loc main_v0_65) = mom2 (m ((c.tc : Thread nD τ).loc main_arg43)) (m ((c.tc : Thread nD τ).loc main_arg87))
      ∧ Kept m μ c

set_option maxHeartbeats 8000000 in
/-- The arguments are left as they were. -/
theorem kept {r : PUnit × MemSt nD τ sig (Elt F)} (h : Pipeline.FramePost cfgs (dats m) 0 (V m) r) (c : Dev nD) : Kept m r.2 c :=
  ⟨inp m h c 0 rfl,
    inp m h c 1 rfl,
    inp m h c 2 rfl,
    inp m h c 3 rfl,
    inp m h c 4 rfl,
    inp m h c 5 rfl,
    inp m h c 6 rfl,
    inp m h c 7 rfl,
    inp m h c 8 rfl,
    inp m h c 9 rfl,
    inp m h c 10 rfl,
    inp m h c 11 rfl,
    inp m h c 12 rfl,
    inp m h c 13 rfl,
    inp m h c 14 rfl,
    inp m h c 15 rfl,
    inp m h c 16 rfl,
    inp m h c 17 rfl,
    inp m h c 18 rfl,
    inp m h c 19 rfl,
    inp m h c 20 rfl,
    inp m h c 21 rfl,
    inp m h c 22 rfl,
    inp m h c 23 rfl,
    inp m h c 24 rfl,
    inp m h c 25 rfl,
    inp m h c 26 rfl,
    inp m h c 27 rfl,
    inp m h c 28 rfl,
    inp m h c 29 rfl,
    inp m h c 30 rfl,
    inp m h c 31 rfl,
    inp m h c 32 rfl,
    inp m h c 33 rfl,
    inp m h c 34 rfl,
    inp m h c 35 rfl,
    inp m h c 36 rfl,
    inp m h c 37 rfl,
    inp m h c 38 rfl,
    inp m h c 39 rfl,
    inp m h c 40 rfl,
    inp m h c 41 rfl,
    inp m h c 42 rfl,
    inp m h c 43 rfl,
    inp m h c 44 rfl,
    inp m h c 45 rfl,
    inp m h c 46 rfl,
    inp m h c 47 rfl,
    inp m h c 48 rfl,
    inp m h c 49 rfl,
    inp m h c 50 rfl,
    inp m h c 51 rfl,
    inp m h c 52 rfl,
    inp m h c 53 rfl,
    inp m h c 54 rfl,
    inp m h c 55 rfl,
    inp m h c 56 rfl,
    inp m h c 57 rfl,
    inp m h c 58 rfl,
    inp m h c 59 rfl,
    inp m h c 60 rfl,
    inp m h c 61 rfl,
    inp m h c 62 rfl,
    inp m h c 63 rfl,
    inp m h c 64 rfl,
    inp m h c 65 rfl,
    inp m h c 66 rfl,
    inp m h c 67 rfl,
    inp m h c 68 rfl,
    inp m h c 69 rfl,
    inp m h c 70 rfl,
    inp m h c 71 rfl,
    inp m h c 72 rfl,
    inp m h c 73 rfl,
    inp m h c 74 rfl,
    inp m h c 75 rfl,
    inp m h c 76 rfl,
    inp m h c 77 rfl,
    inp m h c 78 rfl,
    inp m h c 79 rfl,
    inp m h c 80 rfl,
    inp m h c 81 rfl,
    inp m h c 82 rfl,
    inp m h c 83 rfl,
    inp m h c 84 rfl,
    inp m h c 85 rfl,
    inp m h c 86 rfl,
    inp m h c 87 rfl⟩

set_option maxHeartbeats 8000000 in
/-- The results are the steps and the moments of the arguments. -/
theorem ends {r : PUnit × MemSt nD τ sig (Elt F)} (h : Pipeline.FramePost cfgs (dats m) 0 (V m) r) (c : Dev nD) : Ends m r.2 c :=
  ⟨out m h c 88 (whole 88 rfl) _ (Memref.isWhole_whole _) fun j => congrFun (step_congr (in0 m c _) (in22 m c _) (in44 m c _) (in66 m c _)) j,
    out m h c 89 (whole 89 rfl) _ (Memref.isWhole_whole _) fun j => congrFun (step_congr (in1 m c _) (in23 m c _) (in45 m c _) (in67 m c _)) j,
    out m h c 90 (whole 90 rfl) _ (Memref.isWhole_whole _) fun j => congrFun (step_congr (in2 m c _) (in24 m c _) (in46 m c _) (in68 m c _)) j,
    out m h c 91 (whole 91 rfl) _ (Memref.isWhole_whole _) fun j => congrFun (step_congr (in3 m c _) (in25 m c _) (in47 m c _) (in69 m c _)) j,
    out m h c 92 (whole 92 rfl) _ (Memref.isWhole_whole _) fun j => congrFun (step_congr (in4 m c _) (in26 m c _) (in48 m c _) (in70 m c _)) j,
    out m h c 93 (whole 93 rfl) _ (Memref.isWhole_whole _) fun j => congrFun (step_congr (in5 m c _) (in27 m c _) (in49 m c _) (in71 m c _)) j,
    out m h c 94 (whole 94 rfl) _ (Memref.isWhole_whole _) fun j => congrFun (step_congr (in6 m c _) (in28 m c _) (in50 m c _) (in72 m c _)) j,
    out m h c 95 (whole 95 rfl) _ (Memref.isWhole_whole _) fun j => congrFun (step_congr (in7 m c _) (in29 m c _) (in51 m c _) (in73 m c _)) j,
    out m h c 96 (whole 96 rfl) _ (Memref.isWhole_whole _) fun j => congrFun (step_congr (in8 m c _) (in30 m c _) (in52 m c _) (in74 m c _)) j,
    out m h c 97 (whole 97 rfl) _ (Memref.isWhole_whole _) fun j => congrFun (step_congr (in9 m c _) (in31 m c _) (in53 m c _) (in75 m c _)) j,
    out m h c 98 (whole 98 rfl) _ (Memref.isWhole_whole _) fun j => congrFun (step_congr (in10 m c _) (in32 m c _) (in54 m c _) (in76 m c _)) j,
    out m h c 99 (whole 99 rfl) _ (Memref.isWhole_whole _) fun j => congrFun (step_congr (in11 m c _) (in33 m c _) (in55 m c _) (in77 m c _)) j,
    out m h c 100 (whole 100 rfl) _ (Memref.isWhole_whole _) fun j => congrFun (step_congr (in12 m c _) (in34 m c _) (in56 m c _) (in78 m c _)) j,
    out m h c 101 (whole 101 rfl) _ (Memref.isWhole_whole _) fun j => congrFun (step_congr (in13 m c _) (in35 m c _) (in57 m c _) (in79 m c _)) j,
    out m h c 102 (whole 102 rfl) _ (Memref.isWhole_whole _) fun j => congrFun (step_congr (in14 m c _) (in36 m c _) (in58 m c _) (in80 m c _)) j,
    out m h c 103 (whole 103 rfl) _ (Memref.isWhole_whole _) fun j => congrFun (step_congr (in15 m c _) (in37 m c _) (in59 m c _) (in81 m c _)) j,
    out m h c 104 (whole 104 rfl) _ (Memref.isWhole_whole _) fun j => congrFun (step_congr (in16 m c _) (in38 m c _) (in60 m c _) (in82 m c _)) j,
    out m h c 105 (whole 105 rfl) _ (Memref.isWhole_whole _) fun j => congrFun (step_congr (in17 m c _) (in39 m c _) (in61 m c _) (in83 m c _)) j,
    out m h c 106 (whole 106 rfl) _ (Memref.isWhole_whole _) fun j => congrFun (step_congr (in18 m c _) (in40 m c _) (in62 m c _) (in84 m c _)) j,
    out m h c 107 (whole 107 rfl) _ (Memref.isWhole_whole _) fun j => congrFun (step_congr (in19 m c _) (in41 m c _) (in63 m c _) (in85 m c _)) j,
    out m h c 108 (whole 108 rfl) _ (Memref.isWhole_whole _) fun j => congrFun (step_congr (in20 m c _) (in42 m c _) (in64 m c _) (in86 m c _)) j,
    out m h c 109 (whole 109 rfl) _ (Memref.isWhole_whole _) fun j => congrFun (step_congr (in21 m c _) (in43 m c _) (in65 m c _) (in87 m c _)) j,
    out m h c 110 (whole 110 rfl) _ (Memref.isWhole_whole _) fun j => congrFun (mom1_congr (in22 m c _) (in44 m c _)) j,
    out m h c 111 (whole 111 rfl) _ (Memref.isWhole_whole _) fun j => congrFun (mom1_congr (in23 m c _) (in45 m c _)) j,
    out m h c 112 (whole 112 rfl) _ (Memref.isWhole_whole _) fun j => congrFun (mom1_congr (in24 m c _) (in46 m c _)) j,
    out m h c 113 (whole 113 rfl) _ (Memref.isWhole_whole _) fun j => congrFun (mom1_congr (in25 m c _) (in47 m c _)) j,
    out m h c 114 (whole 114 rfl) _ (Memref.isWhole_whole _) fun j => congrFun (mom1_congr (in26 m c _) (in48 m c _)) j,
    out m h c 115 (whole 115 rfl) _ (Memref.isWhole_whole _) fun j => congrFun (mom1_congr (in27 m c _) (in49 m c _)) j,
    out m h c 116 (whole 116 rfl) _ (Memref.isWhole_whole _) fun j => congrFun (mom1_congr (in28 m c _) (in50 m c _)) j,
    out m h c 117 (whole 117 rfl) _ (Memref.isWhole_whole _) fun j => congrFun (mom1_congr (in29 m c _) (in51 m c _)) j,
    out m h c 118 (whole 118 rfl) _ (Memref.isWhole_whole _) fun j => congrFun (mom1_congr (in30 m c _) (in52 m c _)) j,
    out m h c 119 (whole 119 rfl) _ (Memref.isWhole_whole _) fun j => congrFun (mom1_congr (in31 m c _) (in53 m c _)) j,
    out m h c 120 (whole 120 rfl) _ (Memref.isWhole_whole _) fun j => congrFun (mom1_congr (in32 m c _) (in54 m c _)) j,
    out m h c 121 (whole 121 rfl) _ (Memref.isWhole_whole _) fun j => congrFun (mom1_congr (in33 m c _) (in55 m c _)) j,
    out m h c 122 (whole 122 rfl) _ (Memref.isWhole_whole _) fun j => congrFun (mom1_congr (in34 m c _) (in56 m c _)) j,
    out m h c 123 (whole 123 rfl) _ (Memref.isWhole_whole _) fun j => congrFun (mom1_congr (in35 m c _) (in57 m c _)) j,
    out m h c 124 (whole 124 rfl) _ (Memref.isWhole_whole _) fun j => congrFun (mom1_congr (in36 m c _) (in58 m c _)) j,
    out m h c 125 (whole 125 rfl) _ (Memref.isWhole_whole _) fun j => congrFun (mom1_congr (in37 m c _) (in59 m c _)) j,
    out m h c 126 (whole 126 rfl) _ (Memref.isWhole_whole _) fun j => congrFun (mom1_congr (in38 m c _) (in60 m c _)) j,
    out m h c 127 (whole 127 rfl) _ (Memref.isWhole_whole _) fun j => congrFun (mom1_congr (in39 m c _) (in61 m c _)) j,
    out m h c 128 (whole 128 rfl) _ (Memref.isWhole_whole _) fun j => congrFun (mom1_congr (in40 m c _) (in62 m c _)) j,
    out m h c 129 (whole 129 rfl) _ (Memref.isWhole_whole _) fun j => congrFun (mom1_congr (in41 m c _) (in63 m c _)) j,
    out m h c 130 (whole 130 rfl) _ (Memref.isWhole_whole _) fun j => congrFun (mom1_congr (in42 m c _) (in64 m c _)) j,
    out m h c 131 (whole 131 rfl) _ (Memref.isWhole_whole _) fun j => congrFun (mom1_congr (in43 m c _) (in65 m c _)) j,
    out m h c 132 (whole 132 rfl) _ (Memref.isWhole_whole _) fun j => congrFun (mom2_congr (in22 m c _) (in66 m c _)) j,
    out m h c 133 (whole 133 rfl) _ (Memref.isWhole_whole _) fun j => congrFun (mom2_congr (in23 m c _) (in67 m c _)) j,
    out m h c 134 (whole 134 rfl) _ (Memref.isWhole_whole _) fun j => congrFun (mom2_congr (in24 m c _) (in68 m c _)) j,
    out m h c 135 (whole 135 rfl) _ (Memref.isWhole_whole _) fun j => congrFun (mom2_congr (in25 m c _) (in69 m c _)) j,
    out m h c 136 (whole 136 rfl) _ (Memref.isWhole_whole _) fun j => congrFun (mom2_congr (in26 m c _) (in70 m c _)) j,
    out m h c 137 (whole 137 rfl) _ (Memref.isWhole_whole _) fun j => congrFun (mom2_congr (in27 m c _) (in71 m c _)) j,
    out m h c 138 (whole 138 rfl) _ (Memref.isWhole_whole _) fun j => congrFun (mom2_congr (in28 m c _) (in72 m c _)) j,
    out m h c 139 (whole 139 rfl) _ (Memref.isWhole_whole _) fun j => congrFun (mom2_congr (in29 m c _) (in73 m c _)) j,
    out m h c 140 (whole 140 rfl) _ (Memref.isWhole_whole _) fun j => congrFun (mom2_congr (in30 m c _) (in74 m c _)) j,
    out m h c 141 (whole 141 rfl) _ (Memref.isWhole_whole _) fun j => congrFun (mom2_congr (in31 m c _) (in75 m c _)) j,
    out m h c 142 (whole 142 rfl) _ (Memref.isWhole_whole _) fun j => congrFun (mom2_congr (in32 m c _) (in76 m c _)) j,
    out m h c 143 (whole 143 rfl) _ (Memref.isWhole_whole _) fun j => congrFun (mom2_congr (in33 m c _) (in77 m c _)) j,
    out m h c 144 (whole 144 rfl) _ (Memref.isWhole_whole _) fun j => congrFun (mom2_congr (in34 m c _) (in78 m c _)) j,
    out m h c 145 (whole 145 rfl) _ (Memref.isWhole_whole _) fun j => congrFun (mom2_congr (in35 m c _) (in79 m c _)) j,
    out m h c 146 (whole 146 rfl) _ (Memref.isWhole_whole _) fun j => congrFun (mom2_congr (in36 m c _) (in80 m c _)) j,
    out m h c 147 (whole 147 rfl) _ (Memref.isWhole_whole _) fun j => congrFun (mom2_congr (in37 m c _) (in81 m c _)) j,
    out m h c 148 (whole 148 rfl) _ (Memref.isWhole_whole _) fun j => congrFun (mom2_congr (in38 m c _) (in82 m c _)) j,
    out m h c 149 (whole 149 rfl) _ (Memref.isWhole_whole _) fun j => congrFun (mom2_congr (in39 m c _) (in83 m c _)) j,
    out m h c 150 (whole 150 rfl) _ (Memref.isWhole_whole _) fun j => congrFun (mom2_congr (in40 m c _) (in84 m c _)) j,
    out m h c 151 (whole 151 rfl) _ (Memref.isWhole_whole _) fun j => congrFun (mom2_congr (in41 m c _) (in85 m c _)) j,
    out m h c 152 (whole 152 rfl) _ (Memref.isWhole_whole _) fun j => congrFun (mom2_congr (in42 m c _) (in86 m c _)) j,
    out m h c 153 (whole 153 rfl) _ (Memref.isWhole_whole _) fun j => congrFun (mom2_congr (in43 m c _) (in87 m c _)) j,
    kept m h c⟩

set_option backward.isDefEq.respectTransparency.types false in
set_option maxHeartbeats 800000 in
/-- The run: every window's array as the data say, and every counter back at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main (hbody := fun c => (body_obligation m c).loose)
    (hshare := fun c => (dats m 0 c).share_full fun _ => rfl) (howed := fun _ _ => rfl) (V := V m) (hmain := hmain m Variants.none)
    (hA := A_eq m) (hΦ := fun _ _ => rfl)

/-- The arguments are left as they were, and every counter ends at zero. -/
theorem frame : θ_run defs (onTc (τ := τ) (main (F := F))) ⟨m, fun _ => 0, ρ⟩ (fun r => (∀ c : Dev nD, Kept m r.2 c) ∧ r.2.sem = fun _ => 0) :=
  (θ_run defs _ _).mono (fun r h => ⟨kept m h.1, h.2⟩) (run_main m ρ)

/-- The results and the arguments after the run. -/
theorem run : θ_run defs (onTc (τ := τ) (main (F := F))) ⟨m, fun _ => 0, ρ⟩ (fun r => ∀ c : Dev nD, Ends m r.2 c) :=
  (θ_run defs _ _).mono (fun r h => ends m h.1) (run_main m ρ)

end Cert.AdamMany
-- ==== Proof.Sums.lean ====
module

public import Idealize.ShloMosaic.PureOps.Ideal.Laws
public import Mathlib.Algebra.BigOperators.Fin

@[expose] public section

namespace Cert.Sums

/-- A sum taken block by block is the sum over all positions: `n` blocks of `b`. -/
theorem blocks {β : Type*} [AddCommMonoid β] (b : ℕ) (f : ℕ → β) :
    ∀ n : ℕ, ∑ s ∈ Finset.range n, ∑ k : Fin b, f (s * b + k.val) = ∑ j : Fin (n * b), f j.val := by
  intro n
  rw [Fin.sum_univ_eq_sum_range f]
  induction n with
  | zero => simp
  | succ n ih =>
    rw [Finset.sum_range_succ, ih, Nat.succ_mul, Finset.sum_range_add, Fin.sum_univ_eq_sum_range fun k => f (n * b + k)]

end Cert.Sums
-- ==== Proof.DxFf.lean ====
module

public import proofs.«01_k».proof.Proof.Gen.KernelIdeal.Value
public import proofs.«01_k».proof.Proof.Sums
public import Idealize.ShloMosaic.Lib.Pointwise
public import Idealize.ShloMosaic.Lib.WritesUnit

@[expose] public section

set_option maxRecDepth 16384

noncomputable section

namespace Cert.DxFf

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

theorem hz : (![0, 0] : Fin 2 → Nat) = fun _ => 0 := funext fun a => by fin_cases a <;> rfl

section Body

variable (c : Dev nD) (i : grid0.Coords)
  (a1 : Memref sig .tc .vmem S512x2816 .bf16) (h1 : a1.IsWhole) (a2 : Memref sig .tc .vmem S2816x1024 .bf16) (h2 : a2.IsWhole)
  (a3 : Memref sig .tc .vmem S512x2816 .bf16) (h3 : a3.IsWhole) (a4 : Memref sig .tc .vmem S2816x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S8x1024 .f32) (h7 : a7.IsWhole) (a8 : Memref sig .tc .vmem S512x1024 .f32) (h8 : a8.IsWhole)
  (a9 : Memref sig .tc .vmem S8x1024 .f32) (h9 : a9.IsWhole)
  (x0 : Vec Ideal S512x2816 .bf16) (x1 : Vec Ideal S2816x1024 .bf16) (x2 : Vec Ideal S512x2816 .bf16) (x3 : Vec Ideal S2816x1024 .bf16)
  (x4 x5 : Vec Ideal S512x1024 .f32) (x6 xo : Vec Ideal S8x1024 .f32)

/-- The gradient of the modulated input at an entry of the block. -/
def dh (x0 : Vec Ideal S512x2816 .bf16) (x1 : Vec Ideal S2816x1024 .bf16) (x2 : Vec Ideal S512x2816 .bf16) (x3 : Vec Ideal S2816x1024 .bf16)
    (r : Fin 512) (q : Fin 1024) : EReal :=
  (∑ k : Fin 2816, x0 (ix2 r k) * x1 (ix2 k q)) + ∑ k : Fin 2816, x2 (ix2 r k) * x3 (ix2 k q)

theorem pay3_apply (r : Fin 512) (q : Fin 1024) : (k0_pay3 (F := Ideal) x0 x1 x2 x3) (ix2 r q) = dh x0 x1 x2 x3 r q := by
  unfold dh
  pointwise [k0_pay3]

theorem pay5_apply (v : Vec Ideal S1x1024 .f32) (q : Fin 1024) :
    (k0_pay5 (F := Ideal) x0 x1 x2 x3 v) (ix2 0 q) = (v (ix2 0 q) + ∑ r : Fin 512, dh x0 x1 x2 x3 r q : EReal) := by
  unfold dh
  pointwise [k0_pay5, k0_pay3]

theorem pay1_apply (v : Vec Ideal S1x1024 .f32) (q : Fin 1024) :
    (k0_pay1 (F := Ideal) (k0_pay3 x0 x1 x2 x3) (k0_pay6 v) x5) (ix2 0 q) = (v (ix2 0 q) + ∑ r : Fin 512, dh x0 x1 x2 x3 r q * x5 (ix2 r q) : EReal) := by
  unfold dh
  pointwise [k0_pay1, k0_pay6, k0_pay3]

theorem pay4_apply (v : Vec Ideal S1x1024 .f32) (r : Fin 512) (q : Fin 1024) :
    (k0_pay4 (F := Ideal) x0 x1 x2 x3 x4 v) (ix2 r q) = (Ideal.ofBits .f32 0x3FD744FD#32 * x4 (ix2 r q) + dh x0 x1 x2 x3 r q * (1 + v (ix2 0 q)) : EReal) := by
  unfold dh
  pointwise [k0_pay4, k0_pay3]

/-- What a point adds to the two sums it carries: to the first row the column sums of the gradient, to the second those of its product with the input. -/
def adds (x0 : Vec Ideal S512x2816 .bf16) (x1 : Vec Ideal S2816x1024 .bf16) (x2 : Vec Ideal S512x2816 .bf16) (x3 : Vec Ideal S2816x1024 .bf16)
    (x5 : Vec Ideal S512x1024 .f32) (r : Fin 8) (q : Fin 1024) : EReal :=
  if r.val = 0 then ∑ k : Fin 512, dh x0 x1 x2 x3 k q
  else if r.val = 1 then ∑ k : Fin 512, dh x0 x1 x2 x3 k q * x5 (ix2 k q)
  else 0

theorem ld_all (x : Vec Ideal S512x1024 .f32) (inb : ∀ a, (![0, 0] : Fin 2 → ℕ) a + (![512, 1024] : Fin 2 → ℕ) a ≤ S512x1024.size a) :
    View.ld x (Rect.unit (s := S512x1024) ![0, 0] ![512, 1024] inb) = x := View.ld_unit_zero (S := S512x1024) hz inb x

theorem ld_row {o : ℕ} (ho : o < 8) (x : Vec Ideal S8x1024 .f32) {size : Fin 2 → ℕ} (hs : size = ![1, 1024]) (inb : ∀ a, (![o, 0] : Fin 2 → ℕ) a + size a ≤ S8x1024.size a)
    (y : (Rect.unit (s := S8x1024) ![o, 0] size inb).shape.Idx) (q : Fin 1024) (hy : (y 1).val = q.val) :
    View.ld x (Rect.unit (s := S8x1024) ![o, 0] size inb) y = x (ix2 ⟨o, ho⟩ q) := by
  subst hs
  show x _ = x _
  congr 1
  funext a; apply Fin.ext
  match a with
  | ⟨0, _⟩ => show o + 1 * (y 0).val = o; have : (y 0).val < 1 := (y 0).isLt; omega
  | ⟨1, _⟩ => show 0 + 1 * (y 1).val = q.val; omega

theorem out_B_8 (hc : ¬cond0_0 i) (r : Fin 8) (q : Fin 1024) :
    out0_B_8 c i a1 h1 a2 h2 a3 h3 a4 h4 a5 h5 a6 h6 a7 h7 a8 h8 a9 h9 hc x0 x1 x2 x3 x4 x5 x6 xo (ix2 r q)
      = (xo (ix2 r q) + adds x0 x1 x2 x3 x5 r q : EReal) := by
  unfold out0_B_8
  unfold kernelRun0_B
  dsimp only
  try sl_unfold_words
  unfold adds
  obtain hr | hr | hr : r.val = 0 ∨ r.val = 1 ∨ 2 ≤ r.val := by omega
  · obtain rfl : r = 0 := Fin.ext hr
    refine Eq.trans (View.read_writes_cons_rows_of_not_mem (o := 1) (W := 1) _ _ _ _ _ _ rfl rfl (Or.inl Nat.zero_lt_one)) ?_
    refine Eq.trans (View.read_writes_cons_rows_of_mem (o := 0) _ _ _ _ _ _ (ix2 (0 : Fin 1) q : S1x1024.Idx) rfl rfl rfl) ?_
    simp only [View.readAt_eq_ld, h1.read_unread, h2.read_unread, h3.read_unread, h4.read_unread, h9.read_unread, View.ld_unit_zero (S := S512x2816) hz, View.ld_unit_zero (S := S2816x1024) hz]
    refine (pay5_apply _ _ _ _ _ q).trans ?_
    rw [if_pos (show ((0 : Fin 8) : ℕ) = 0 from rfl)]
    exact congrArg (· + _) (ld_row (o := 0) (by decide) xo rfl _ (ix2 (0 : Fin 1) q) q rfl)
  · obtain rfl : r = 1 := Fin.ext hr
    refine Eq.trans (View.read_writes_cons_rows_of_mem (o := 1) _ _ _ _ _ _ (ix2 (0 : Fin 1) q : S1x1024.Idx) rfl rfl rfl) ?_
    simp only [View.readAt_eq_ld, h1.read_unread, h2.read_unread, h3.read_unread, h4.read_unread, h6.read_unread, h9.read_unread, View.ld_unit_zero (S := S512x2816) hz, View.ld_unit_zero (S := S2816x1024) hz, ld_all]
    refine (pay1_apply _ _ _ _ _ _ q).trans ?_
    rw [if_neg (show ¬((1 : Fin 8) : ℕ) = 0 by decide), if_pos (show ((1 : Fin 8) : ℕ) = 1 from rfl)]
    exact congrArg (· + _) (ld_row (o := 1) (by decide) xo rfl _ (ix2 (0 : Fin 1) q) q rfl)
  · refine Eq.trans (View.read_writes_cons_rows_of_not_mem (o := 1) (W := 1) _ _ _ _ _ _ rfl rfl (Or.inr hr)) ?_
    refine Eq.trans (View.read_writes_cons_rows_of_not_mem (o := 0) (W := 1) _ _ _ _ _ _ rfl rfl (Or.inr (by show 0 + 1 ≤ r.val; omega))) ?_
    rw [if_neg (by omega), if_neg (by omega), add_zero]
    exact congrFun (h9.read_unread xo) _

theorem pay2_apply (r : Fin 8) (q : Fin 1024) : (k0_pay2 (F := Ideal)) (ix2 r q) = (0 : EReal) := by
  pointwise [k0_pay2]

theorem out_A_8 (hc : cond0_0 i) (r : Fin 8) (q : Fin 1024) :
    out0_A_8 c i a1 h1 a2 h2 a3 h3 a4 h4 a5 h5 a6 h6 a7 h7 a8 h8 a9 h9 hc x0 x1 x2 x3 x4 x5 x6 (ix2 r q) = adds x0 x1 x2 x3 x5 r q := by
  unfold out0_A_8
  unfold kernelRun0_A
  dsimp only
  try sl_unfold_words
  unfold adds
  obtain hr | hr | hr : r.val = 0 ∨ r.val = 1 ∨ 2 ≤ r.val := by omega
  · obtain rfl : r = 0 := Fin.ext hr
    refine Eq.trans (View.read_writes_cons_rows_of_not_mem (o := 1) (W := 1) _ _ _ _ _ _ rfl rfl (Or.inl Nat.zero_lt_one)) ?_
    refine Eq.trans (View.read_writes_cons_rows_of_mem (o := 0) _ _ _ _ _ _ (ix2 (0 : Fin 1) q : S1x1024.Idx) rfl rfl rfl) ?_
    simp only [View.readAt_eq_ld, h1.read_unread, h2.read_unread, h3.read_unread, h4.read_unread, View.ld_unit_zero (S := S512x2816) hz, View.ld_unit_zero (S := S2816x1024) hz]
    refine (pay5_apply _ _ _ _ _ q).trans ?_
    rw [if_pos (show ((0 : Fin 8) : ℕ) = 0 from rfl)]
    refine (congrArg (· + _) ?_).trans (zero_add _)
    refine Eq.trans (View.read_writes_cons_rows_of_mem (o := 0) _ _ _ _ _ _ (ix2 0 q : S8x1024.Idx) rfl rfl (by show 0 + 1 * q.val = q.val; omega)) (pay2_apply 0 q)
  · obtain rfl : r = 1 := Fin.ext hr
    refine Eq.trans (View.read_writes_cons_rows_of_mem (o := 1) _ _ _ _ _ _ (ix2 (0 : Fin 1) q : S1x1024.Idx) rfl rfl rfl) ?_
    simp only [View.readAt_eq_ld, h1.read_unread, h2.read_unread, h3.read_unread, h4.read_unread, h6.read_unread, View.ld_unit_zero (S := S512x2816) hz, View.ld_unit_zero (S := S2816x1024) hz, ld_all]
    refine (pay1_apply _ _ _ _ _ _ q).trans ?_
    rw [if_neg (show ¬((1 : Fin 8) : ℕ) = 0 by decide), if_pos (show ((1 : Fin 8) : ℕ) = 1 from rfl)]
    refine (congrArg (· + _) ?_).trans (zero_add _)
    refine Eq.trans (View.read_writes_cons_rows_of_not_mem (o := 0) (W := 1) _ _ _ _ _ _ rfl rfl (Or.inr (Nat.le_refl _))) ?_
    exact Eq.trans (View.read_writes_cons_rows_of_mem (o := 0) _ _ _ _ _ _ (ix2 1 q : S8x1024.Idx) rfl rfl (by show 0 + 1 * q.val = q.val; omega)) (pay2_apply 1 q)
  · refine Eq.trans (View.read_writes_cons_rows_of_not_mem (o := 1) (W := 1) _ _ _ _ _ _ rfl rfl (Or.inr hr)) ?_
    refine Eq.trans (View.read_writes_cons_rows_of_not_mem (o := 0) (W := 1) _ _ _ _ _ _ rfl rfl (Or.inr (by show 0 + 1 ≤ r.val; omega))) ?_
    rw [if_neg (by omega), if_neg (by omega)]
    exact Eq.trans (View.read_writes_cons_rows_of_mem (o := 0) _ _ _ _ _ _ (ix2 r q : S8x1024.Idx) rfl (Nat.zero_add _).symm rfl) (pay2_apply r q)

/-- The gradient with respect to the input at an entry of the block. -/
def gx (x0 : Vec Ideal S512x2816 .bf16) (x1 : Vec Ideal S2816x1024 .bf16) (x2 : Vec Ideal S512x2816 .bf16) (x3 : Vec Ideal S2816x1024 .bf16)
    (x4 : Vec Ideal S512x1024 .f32) (x6 : Vec Ideal S8x1024 .f32) (r : Fin 512) (q : Fin 1024) : EReal :=
  Ideal.ofBits .f32 0x3FD744FD#32 * x4 (ix2 r q) + dh x0 x1 x2 x3 r q * (1 + x6 (ix2 4 q))

theorem out_B_7 (hc : ¬cond0_0 i) (r : Fin 512) (q : Fin 1024) :
    out0_B_7 c i a1 h1 a2 h2 a3 h3 a4 h4 a5 h5 a6 h6 a7 h7 a8 h8 a9 h9 hc x0 x1 x2 x3 x4 x5 x6 xo (ix2 r q) = gx x0 x1 x2 x3 x4 x6 r q := by
  unfold out0_B_7
  unfold kernelRun0_B
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, h3.read_unread, h4.read_unread, h5.read_unread, h7.read_unread, View.ld_unit_zero (S := S512x2816) hz, View.ld_unit_zero (S := S2816x1024) hz, ld_all]
  refine (pay4_apply _ _ _ _ _ _ r q).trans ?_
  exact congrArg (fun z => _ + dh x0 x1 x2 x3 r q * (1 + z)) (ld_row (o := 4) (by decide) x6 rfl _ (ix2 (0 : Fin 1) q) q rfl)

theorem out_A_7 (hc : cond0_0 i) (r : Fin 512) (q : Fin 1024) :
    out0_A_7 c i a1 h1 a2 h2 a3 h3 a4 h4 a5 h5 a6 h6 a7 h7 a8 h8 a9 h9 hc x0 x1 x2 x3 x4 x5 x6 (ix2 r q) = gx x0 x1 x2 x3 x4 x6 r q := by
  unfold out0_A_7
  unfold kernelRun0_A
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, h3.read_unread, h4.read_unread, h5.read_unread, h7.read_unread, View.ld_unit_zero (S := S512x2816) hz, View.ld_unit_zero (S := S2816x1024) hz, ld_all]
  refine (pay4_apply _ _ _ _ _ _ r q).trans ?_
  exact congrArg (fun z => _ + dh x0 x1 x2 x3 r q * (1 + z)) (ld_row (o := 4) (by decide) x6 rfl _ (ix2 (0 : Fin 1) q) q rfl)

end Body

/-! ## The arrays -/

/-- The gradients of the two products, and their weights, as launched. -/
abbrev D1 (c : Dev nD) : Vec Ideal S8192x2816 .bf16 := m ((c : Thread nD τ).loc main_arg0)
abbrev W1 (c : Dev nD) : Vec Ideal S2816x1024 .bf16 := m ((c : Thread nD τ).loc main_arg1)
abbrev D2 (c : Dev nD) : Vec Ideal S8192x2816 .bf16 := m ((c : Thread nD τ).loc main_arg2)
abbrev W2 (c : Dev nD) : Vec Ideal S2816x1024 .bf16 := m ((c : Thread nD τ).loc main_arg3)
/-- The gradient that came round the products, the input and the modulation rows. -/
abbrev Dr (c : Dev nD) : Vec Ideal S8192x1024 .f32 := m ((c : Thread nD τ).loc main_arg4)
abbrev X (c : Dev nD) : Vec Ideal S8192x1024 .f32 := m ((c : Thread nD τ).loc main_arg5)
abbrev M (c : Dev nD) : Vec Ideal S8x1024 .f32 := m ((c : Thread nD τ).loc main_arg6)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 2816) : (iblk m c 0 t : Vec Ideal S512x2816 .bf16) (ix2 r q) = D1 m c (ix2 (rowAt t r) q) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 2816 + 1 * q.val = q.val; omega
theorem blk1 (c : Dev nD) (t : Fin cfg0.N) (r : Fin 2816) (q : Fin 1024) : (iblk m c 1 t : Vec Ideal S2816x1024 .bf16) (ix2 r q) = W1 m c (ix2 r q) := by
  obtain ⟨e0, e1⟩ := idx1 t
  show m _ _ = m _ _
  congr 1
  funext a; apply Fin.ext
  match a with
  | ⟨0, _⟩ => show win0_1.index t (0 : Fin 2) * 2816 + 1 * r.val = r.val; omega
  | ⟨1, _⟩ => show win0_1.index t (1 : Fin 2) * 1024 + 1 * q.val = q.val; omega
theorem blk2 (c : Dev nD) (t : Fin cfg0.N) (r : Fin 512) (q : Fin 2816) : (iblk m c 2 t : Vec Ideal S512x2816 .bf16) (ix2 r q) = D2 m c (ix2 (rowAt t r) q) := by
  obtain ⟨e0, e1⟩ := idx2 t
  show m _ _ = m _ _
  congr 1
  funext a; apply Fin.ext
  match a with
  | ⟨0, _⟩ => show win0_2.index t (0 : Fin 2) * 512 + 1 * r.val = t.val * 512 + r.val; omega
  | ⟨1, _⟩ => show win0_2.index t (1 : Fin 2) * 2816 + 1 * q.val = q.val; omega
theorem blk3 (c : Dev nD) (t : Fin cfg0.N) (r : Fin 2816) (q : Fin 1024) : (iblk m c 3 t : Vec Ideal S2816x1024 .bf16) (ix2 r q) = W2 m c (ix2 r q) := by
  obtain ⟨e0, e1⟩ := idx3 t
  show m _ _ = m _ _
  congr 1
  funext a; apply Fin.ext
  match a with
  | ⟨0, _⟩ => show win0_3.index t (0 : Fin 2) * 2816 + 1 * r.val = r.val; omega
  | ⟨1, _⟩ => show win0_3.index t (1 : Fin 2) * 1024 + 1 * q.val = q.val; omega
theorem blk4 (c : Dev nD) (t : Fin cfg0.N) (r : Fin 512) (q : Fin 1024) : (iblk m c 4 t : Vec Ideal S512x1024 .f32) (ix2 r q) = Dr m c (ix2 (rowAt t r) q) := by
  obtain ⟨e0, e1⟩ := idx4 t
  show m _ _ = m _ _
  congr 1
  funext a; apply Fin.ext
  match a with
  | ⟨0, _⟩ => show win0_4.index t (0 : Fin 2) * 512 + 1 * r.val = t.val * 512 + r.val; omega
  | ⟨1, _⟩ => show win0_4.index t (1 : Fin 2) * 1024 + 1 * q.val = q.val; omega
theorem blk5 (c : Dev nD) (t : Fin cfg0.N) (r : Fin 512) (q : Fin 1024) : (iblk m c 5 t : Vec Ideal S512x1024 .f32) (ix2 r q) = X m c (ix2 (rowAt t r) q) := by
  obtain ⟨e0, e1⟩ := idx5 t
  show m _ _ = m _ _
  congr 1
  funext a; apply Fin.ext
  match a with
  | ⟨0, _⟩ => show win0_5.index t (0 : Fin 2) * 512 + 1 * r.val = t.val * 512 + r.val; omega
  | ⟨1, _⟩ => show win0_5.index t (1 : Fin 2) * 1024 + 1 * q.val = q.val; omega
theorem blk6 (c : Dev nD) (t : Fin cfg0.N) (r : Fin 8) (q : Fin 1024) : (iblk m c 6 t : Vec Ideal S8x1024 .f32) (ix2 r q) = M m c (ix2 r q) := by
  obtain ⟨e0, e1⟩ := idx6 t
  show m _ _ = m _ _
  congr 1
  funext a; apply Fin.ext
  match a with
  | ⟨0, _⟩ => show win0_6.index t (0 : Fin 2) * 8 + 1 * r.val = r.val; omega
  | ⟨1, _⟩ => show win0_6.index t (1 : Fin 2) * 1024 + 1 * q.val = q.val; omega

/-- The gradient of the modulated input at a token. -/
def dH (c : Dev nD) (r : Fin 8192) (q : Fin 1024) : EReal :=
  (∑ k : Fin 2816, D1 m c (ix2 r k) * W1 m c (ix2 k q)) + ∑ k : Fin 2816, D2 m c (ix2 r k) * W2 m c (ix2 k q)

theorem dh_blk (c : Dev nD) (t : Fin cfg0.N) (r : Fin 512) (q : Fin 1024) :
    dh (iblk m c 0 t) (iblk m c 1 t) (iblk m c 2 t) (iblk m c 3 t) r q = dH m c (rowAt t r) q := by
  unfold dh dH
  refine congrArg₂ (· + ·) (Finset.sum_congr rfl fun k _ => ?_) (Finset.sum_congr rfl fun k _ => ?_)
  · exact congrArg₂ (· * ·) (blk0 m c t r k) (blk1 m c t k q)
  · exact congrArg₂ (· * ·) (blk2 m c t r k) (blk3 m c t k q)

/-- The gradient with respect to the input, at a token. -/
def gX (c : Dev nD) (r : Fin 8192) (q : Fin 1024) : EReal :=
  Ideal.ofBits .f32 0x3FD744FD#32 * Dr m c (ix2 r q) + dH m c r q * (1 + M m c (ix2 4 q))

theorem gx_blk (c : Dev nD) (t : Fin cfg0.N) (r : Fin 512) (q : Fin 1024) :
    gx (iblk m c 0 t) (iblk m c 1 t) (iblk m c 2 t) (iblk m c 3 t) (iblk m c 4 t) (iblk m c 6 t) r q = gX m c (rowAt t r) q := by
  unfold gx gX
  rw [dh_blk]
  exact congrArg₂ (· + ·) (congrArg (_ * ·) (blk4 m c t r q)) (congrArg (fun z => _ * (1 + z)) (blk6 m c t 4 q))

/-- What each of the eight rows sums over the tokens. -/
def term (c : Dev nD) (r : Fin 8) (q : Fin 1024) (k : ℕ) : EReal :=
  if h : k < 8192 then
    if r.val = 0 then dH m c ⟨k, h⟩ q else if r.val = 1 then dH m c ⟨k, h⟩ q * X m c (ix2 ⟨k, h⟩ q) else 0
  else 0

theorem adds_blk (c : Dev nD) (t : Fin cfg0.N) (r : Fin 8) (q : Fin 1024) :
    adds (iblk m c 0 t) (iblk m c 1 t) (iblk m c 2 t) (iblk m c 3 t) (iblk m c 5 t) r q
      = ∑ k : Fin 512, term m c r q (t.val * 512 + k.val) := by
  have hk : ∀ k : Fin 512, t.val * 512 + k.val < 8192 := fun k => (rowAt t k).isLt
  unfold adds term
  by_cases h0 : r.val = 0
  · rw [if_pos h0]
    refine Finset.sum_congr rfl fun k _ => ?_
    rw [dif_pos (hk k), if_pos h0]; exact dh_blk m c t k q
  · by_cases h1 : r.val = 1
    · rw [if_neg h0, if_pos h1]
      refine Finset.sum_congr rfl fun k _ => ?_
      rw [dif_pos (hk k), if_neg h0, if_pos h1]
      exact congrArg₂ (· * ·) (dh_blk m c t k q) (blk5 m c t k q)
    · rw [if_neg h0, if_neg h1]
      refine (Finset.sum_eq_zero fun k _ => ?_).symm
      rw [dif_pos (hk k), if_neg h0, if_neg h1]

/-! ## What the points leave -/

theorem ptA_7 (c : Dev nD) (t : Fin cfg0.N) (hc : cond0_0 (grid0.coords t)) (r : Fin 512) (q : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk m c 0 t) (iblk m c 1 t) (iblk m c 2 t) (iblk m c 3 t) (iblk m c 4 t) (iblk m c 5 t) (iblk m c 6 t) (ix2 r q) = (gX m c (rowAt t r) q : EReal) :=
  (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) hc r q).trans (gx_blk m c t r q)

theorem ptB_7 (c : Dev nD) (t : Fin cfg0.N) (xo : Vec Ideal S8x1024 .f32) (hc : ¬cond0_0 (grid0.coords t)) (r : Fin 512) (q : Fin 1024) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk m c 0 t) (iblk m c 1 t) (iblk m c 2 t) (iblk m c 3 t) (iblk m c 4 t) (iblk m c 5 t) (iblk m c 6 t) xo (ix2 r q) = (gX m c (rowAt t r) q : EReal) :=
  (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) xo hc r q).trans (gx_blk m c t r q)

theorem ptA_8 (c : Dev nD) (t : Fin cfg0.N) (hc : cond0_0 (grid0.coords t)) (r : Fin 8) (q : Fin 1024) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk m c 0 t) (iblk m c 1 t) (iblk m c 2 t) (iblk m c 3 t) (iblk m c 4 t) (iblk m c 5 t) (iblk m c 6 t) (ix2 r q) = (∑ k : Fin 512, term m c r q (t.val * 512 + k.val) : EReal) :=
  (out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) hc r q).trans (adds_blk m c t r q)

theorem ptB_8 (c : Dev nD) (t : Fin cfg0.N) (xo : Vec Ideal S8x1024 .f32) (hc : ¬cond0_0 (grid0.coords t)) (r : Fin 8) (q : Fin 1024) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) hc (iblk m c 0 t) (iblk m c 1 t) (iblk m c 2 t) (iblk m c 3 t) (iblk m c 4 t) (iblk m c 5 t) (iblk m c 6 t) xo (ix2 r q) = (xo (ix2 r q) + ∑ k : Fin 512, term m c r q (t.val * 512 + k.val) : EReal) :=
  (out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) xo hc r q).trans (congrArg (xo (ix2 r q) + ·) (adds_blk m c t r q))

theorem outs_7 (c : Dev nD) (t : Fin cfg0.N) (r : Fin 512) (q : Fin 1024) :
    (outsAt0 m c t.val t.isLt).1 (ix2 r q) = (gX m c (rowAt t r) q : EReal) := by
  by_cases h0 : t.val % 16 = 0
  · refine Eq.trans (congrArg (fun z => z.1 (ix2 r q)) (outsAt0_A m c t h0)) ?_
    have e := ptA_7 m c t ((hcond0_0 t).mpr h0) r q
    dsimp only
    rw [e]
  · refine Eq.trans (congrArg (fun z => z.1 (ix2 r q)) (outsAt0_B m c t h0)) ?_
    dsimp only
    rw [ptB_7 m c t _ (fun hc => h0 ((hcond0_0 t).mp hc)) r q]

theorem outs_8 (c : Dev nD) (r : Fin 8) (q : Fin 1024) : ∀ (n : ℕ) (h : n < cfg0.N),
    (outsAt0 m c n h).2 (ix2 r q) = (∑ s ∈ Finset.range (n + 1), ∑ k : Fin 512, term m c r q (s * 512 + k.val) : EReal)
  | 0, h => by
    refine Eq.trans (congrArg (fun z => z.2 (ix2 r q)) (outsAt0_A m c ⟨0, h⟩ rfl)) ?_
    rw [Finset.sum_range_one]
    have e := ptA_8 m c ⟨0, h⟩ ((hcond0_0 ⟨0, h⟩).mpr rfl) r q
    dsimp only
    rw [e]
  | n + 1, h => by
    have hN : cfg0.N = 16 := N_0
    have hB : ¬(⟨n + 1, h⟩ : Fin cfg0.N).val % 16 = 0 := by dsimp only; omega
    refine Eq.trans (congrArg (fun z => z.2 (ix2 r q)) (outsAt0_B m c ⟨n + 1, h⟩ hB)) ?_
    rw [Finset.sum_range_succ]
    exact (ptB_8 m c ⟨n + 1, h⟩ _ (fun hc => hB ((hcond0_0 _).mp hc)) r q).trans (congrArg (· + _) (outs_8 c r q n _))

/-- The two arrays of the results. -/
def G7 (c : Dev nD) : Buf (Elt Ideal) ((c : Thread nD τ).loc main_v0_0) := fun i => gX m c (i 0) (i 1)
def G8 (c : Dev nD) : Buf (Elt Ideal) ((c : Thread nD τ).loc main_v0_1) := fun i => (∑ k : Fin 8192, term m c (i 0) (i 1) k.val : EReal)

theorem final7 (c : Dev nD) : (dats m 0 c).arrAt 7 cfg0.N = G7 m c := by
  have hN : cfg0.N = 16 := N_0
  refine (dats m 0 c).arrAt_eq_of_cover 7 (G7 m c) (fun t hf => ?_) fun i => ?_
  · obtain ⟨e0, e1⟩ := idx7 t
    funext y
    show (dats m 0 c).flushed 7 t y = G7 m c (((cfg0.win 7).blk t).view.emb y)
    rw [flushed7]
    have hx : (cfg0.win 7).xinj (grid0.coords t) y = (ix2 (y 0) (y 1) : S512x1024.Idx) := by
      funext a; apply Fin.ext
      match a with
      | ⟨0, _⟩ => rfl
      | ⟨1, _⟩ => rfl
    show (outsAt0 m c t.val t.isLt).1 ((cfg0.win 7).xinj (grid0.coords t) y) = _
    rw [hx]
    refine (outs_7 m c t (y 0) (y 1)).trans ?_
    have ea : (((cfg0.win 7).blk t).view.emb y 0 : Fin 8192) = rowAt t (y 0) := by
      apply Fin.ext; show win0_7.index t (0 : Fin 2) * 512 + 1 * (y 0).val = t.val * 512 + (y 0).val; omega
    have eb : (((cfg0.win 7).blk t).view.emb y 1 : Fin 1024) = y 1 := by
      apply Fin.ext; show win0_7.index t (1 : Fin 2) * 1024 + 1 * (y 1).val = (y 1).val; omega
    exact (congrArg₂ (gX m c) ea eb).symm
  · have hi0 : (i 0).val < 8192 := (i 0).isLt
    have hi1 : (i 1).val < 1024 := (i 1).isLt
    have ht : (i 0).val / 512 < cfg0.N := by omega
    obtain ⟨e0, e1⟩ := idx7 ⟨(i 0).val / 512, ht⟩
    refine ⟨⟨(i 0).val / 512, ht⟩, flush0_7 _, ?_⟩
    show i ∈ ((View.whole main_v0_0).slice (win0_7.rect ⟨(i 0).val / 512, ht⟩)).set
    rw [View.set_slice_whole, Rect.mem_set_unit]
    intro a
    match a with
    | ⟨0, _⟩ => show win0_7.index ⟨(i 0).val / 512, ht⟩ (0 : Fin 2) * 512 ≤ (i 0).val ∧ (i 0).val < win0_7.index ⟨(i 0).val / 512, ht⟩ (0 : Fin 2) * 512 + 512; rw [e0]; dsimp only; omega
    | ⟨1, _⟩ => show win0_7.index ⟨(i 0).val / 512, ht⟩ (1 : Fin 2) * 1024 ≤ (i 1).val ∧ (i 1).val < win0_7.index ⟨(i 0).val / 512, ht⟩ (1 : Fin 2) * 1024 + 1024; rw [e1]; omega

theorem final8 (c : Dev nD) : (dats m 0 c).arrAt 8 cfg0.N = G8 m c := by
  have hN : cfg0.N = 16 := N_0
  refine (dats m 0 c).arrAt_eq_of_cover 8 (G8 m c) (fun t hf => ?_) fun i => ?_
  · obtain ⟨e0, e1⟩ := idx8 t
    have h15 : t.val = 15 := by have := (flush0_8 t).mp hf; have := t.isLt; omega
    funext y
    show (dats m 0 c).flushed 8 t y = G8 m c (((cfg0.win 8).blk t).view.emb y)
    rw [flushed8]
    have hx : (cfg0.win 8).xinj (grid0.coords t) y = (ix2 (y 0) (y 1) : S8x1024.Idx) := by
      funext a; apply Fin.ext
      match a with
      | ⟨0, _⟩ => rfl
      | ⟨1, _⟩ => rfl
    show (outsAt0 m c t.val t.isLt).2 ((cfg0.win 8).xinj (grid0.coords t) y) = _
    rw [hx]
    refine (outs_8 m c (y 0) (y 1) t.val t.isLt).trans ?_
    rw [h15]
    refine (Sums.blocks 512 (term m c (y 0) (y 1)) 16).trans ?_
    have ea : (((cfg0.win 8).blk t).view.emb y 0 : Fin 8) = y 0 := by
      apply Fin.ext; show win0_8.index t (0 : Fin 2) * 8 + 1 * (y 0).val = (y 0).val; omega
    have eb : (((cfg0.win 8).blk t).view.emb y 1 : Fin 1024) = y 1 := by
      apply Fin.ext; show win0_8.index t (1 : Fin 2) * 1024 + 1 * (y 1).val = (y 1).val; omega
    exact (congrArg₂ (fun a b => (∑ k : Fin 8192, term m c a b k.val : EReal)) ea eb).symm
  · have hi0 : (i 0).val < 8 := (i 0).isLt
    have hi1 : (i 1).val < 1024 := (i 1).isLt
    have ht : 15 < cfg0.N := by omega
    obtain ⟨e0, e1⟩ := idx8 ⟨15, ht⟩
    refine ⟨⟨15, ht⟩, (flush0_8 _).mpr rfl, ?_⟩
    show i ∈ ((View.whole main_v0_1).slice (win0_8.rect ⟨15, ht⟩)).set
    rw [View.set_slice_whole, Rect.mem_set_unit]
    intro a
    match a with
    | ⟨0, _⟩ => show win0_8.index ⟨15, ht⟩ (0 : Fin 2) * 8 ≤ (i 0).val ∧ (i 0).val < win0_8.index ⟨15, ht⟩ (0 : Fin 2) * 8 + 8; rw [e0]; omega
    | ⟨1, _⟩ => show win0_8.index ⟨15, ht⟩ (1 : Fin 2) * 1024 ≤ (i 1).val ∧ (i 1).val < win0_8.index ⟨15, ht⟩ (1 : Fin 2) * 1024 + 1024; rw [e1]; omega

theorem G8_apply (c : Dev nD) (r : Fin 8) (q : Fin 1024) :
    G8 m c (ix2 r q) = (if r.val = 0 then ∑ k : Fin 8192, dH m c k q else if r.val = 1 then ∑ k : Fin 8192, dH m c k q * X m c (ix2 k q) else 0 : EReal) := by
  show (∑ k : Fin 8192, term m c r q k.val : EReal) = _
  have e : ∀ k : Fin 8192, term m c r q k.val = if r.val = 0 then dH m c k q else if r.val = 1 then dH m c k q * X m c (ix2 k q) else 0 := by
    intro k; unfold term; rw [dif_pos k.isLt]
  simp only [e]
  by_cases h0 : r.val = 0
  · simp only [if_pos h0]
  · by_cases h1 : r.val = 1
    · simp only [if_neg h0, if_pos h1]
    · simp only [if_neg h0, if_neg h1, Finset.sum_const_zero]

end Cert.DxFf

end
-- ==== Proof.DxFfRef.lean ====
module

public import proofs.«01_k».proof.Proof.Gen.ReferenceIdeal.Run
public import Idealize.ShloMosaic.Lib.Pointwise

@[expose] public section

set_option maxRecDepth 16384

noncomputable section

namespace Cert.DxFfRef

open Idealize.ShloMosaic Idealize.ShloMosaic.TcCoe Idealize.SL.Sem
open Cert.ReferenceIdeal Cert.ReferenceIdeal.Gen

variable (d1 d2 : Vec Ideal S8192x2816 .bf16) (w1 w2 : Vec Ideal S2816x1024 .bf16)
  (dr x : Vec Ideal S8192x1024 .f32) (mo : Vec Ideal S8x1024 .f32)

/-- The gradient of the modulated input, as the reference computes it. -/
abbrev dhv : Vec Ideal S8192x1024 .f32 :=
  addf (Host.dotGeneral dot_S8192x2816_S1024x2816_S8192x1024_1_1_0_0_n_n none (extf (F := Ideal) .f32 d2 bitsLt_bf16_f32) (transpose S1024x2816 [1, 0] (extf (F := Ideal) .f32 w2 bitsLt_bf16_f32) transposes_S2816x1024_S1024x2816_1_0))
    (Host.dotGeneral dot_S8192x2816_S1024x2816_S8192x1024_1_1_0_0_n_n none (extf (F := Ideal) .f32 d1 bitsLt_bf16_f32) (transpose S1024x2816 [1, 0] (extf (F := Ideal) .f32 w1 bitsLt_bf16_f32) transposes_S2816x1024_S1024x2816_1_0))

theorem dhv_apply (r : Fin 8192) (q : Fin 1024) :
    dhv d1 d2 w1 w2 (ix2 r q) = ((∑ k : Fin 2816, d1 (ix2 r k) * w1 (ix2 k q)) + ∑ k : Fin 2816, d2 (ix2 r k) * w2 (ix2 k q) : EReal) := by
  rw [add_comm]
  pointwise

/-- The reference's first result at an entry. -/
theorem dx_apply (r : Fin 8192) (q : Fin 1024) :
    (addf (mulf (broadcastInDim S8192x1024 ![] bcast_S_S8192x1024 (constant (F := Ideal) S_ .f32 0x3FD744FD#32)) dr)
      (mulf (dhv d1 d2 w1 w2) (broadcastInDim S8192x1024 ![0, 1] bcast_S1x1024_S8192x1024_0_1 (addf (broadcastInDim S1x1024 ![] bcast_S_S1x1024 (constant (F := Ideal) S_ .f32 0x3F800000#32)) (extractStridedSlice S1x1024 ![4, 0] mo slices_S8x1024_S1x1024_4_0)))) : Vec Ideal S8192x1024 .f32) (ix2 r q)
      = (Ideal.ofBits .f32 0x3FD744FD#32 * dr (ix2 r q) + dhv d1 d2 w1 w2 (ix2 r q) * (1 + mo (ix2 4 q)) : EReal) := by
  generalize dhv d1 d2 w1 w2 = h
  pointwise

/-- The reference's second result at an entry. -/
theorem rows_apply (r : Fin 8) (q : Fin 1024) :
    (concatenate S8x1024 0 [⟨S1x1024, (shapeCast _ (Host.reduceAdd (dhv d1 d2 w1 w2) (constant (F := Ideal) S_ .f32 0x00000000#32) reducesTo_S8192x1024_S1024_d0 h_S_) shapeCasts_S1024_S1x1024 : Vec Ideal S1x1024 .f32)⟩,
      ⟨S1x1024, (shapeCast _ (Host.reduceAdd (mulf x (dhv d1 d2 w1 w2)) (constant (F := Ideal) S_ .f32 0x00000000#32) reducesTo_S8192x1024_S1024_d0 h_S_) shapeCasts_S1024_S1x1024 : Vec Ideal S1x1024 .f32)⟩,
      ⟨S6x1024, (broadcastInDim S6x1024 ![] bcast_S_S6x1024 (constant (F := Ideal) S_ .f32 0x00000000#32) : Vec Ideal S6x1024 .f32)⟩] concatenates_S1x1024_S1x1024_S6x1024_S8x1024_d0 : Vec Ideal S8x1024 .f32) (ix2 r q)
      = (if r.val = 0 then ∑ k : Fin 8192, dhv d1 d2 w1 w2 (ix2 k q) else if r.val = 1 then ∑ k : Fin 8192, dhv d1 d2 w1 w2 (ix2 k q) * x (ix2 k q) else 0 : EReal) := by
  generalize dhv d1 d2 w1 w2 = h
  pointwise
  by_cases h0 : r.val = 0
  · rw [dif_pos (by omega), if_pos h0]
  · by_cases h1 : r.val = 1
    · rw [dif_neg (by omega), dif_pos (by omega), if_neg h0, if_pos h1]
      exact Finset.sum_congr rfl fun k _ => mul_comm _ _
    · rw [dif_neg (by omega), dif_neg (by omega), if_neg h0, if_neg h1]

theorem dx_at (r : Fin 8192) (q : Fin 1024) :
    (addf (mulf (broadcastInDim S8192x1024 ![] bcast_S_S8192x1024 (constant (F := Ideal) S_ .f32 0x3FD744FD#32)) dr)
      (mulf (dhv d1 d2 w1 w2) (broadcastInDim S8192x1024 ![0, 1] bcast_S1x1024_S8192x1024_0_1 (addf (broadcastInDim S1x1024 ![] bcast_S_S1x1024 (constant (F := Ideal) S_ .f32 0x3F800000#32)) (extractStridedSlice S1x1024 ![4, 0] mo slices_S8x1024_S1x1024_4_0)))) : Vec Ideal S8192x1024 .f32) (ix2 r q)
      = (Ideal.ofBits .f32 0x3FD744FD#32 * dr (ix2 r q) + ((∑ j : Fin 2816, d1 (ix2 r j) * w1 (ix2 j q)) + ∑ j : Fin 2816, d2 (ix2 r j) * w2 (ix2 j q)) * (1 + mo (ix2 4 q)) : EReal) := by
  rw [dx_apply, dhv_apply]

theorem rows_at (r : Fin 8) (q : Fin 1024) :
    (concatenate S8x1024 0 [⟨S1x1024, (shapeCast _ (Host.reduceAdd (dhv d1 d2 w1 w2) (constant (F := Ideal) S_ .f32 0x00000000#32) reducesTo_S8192x1024_S1024_d0 h_S_) shapeCasts_S1024_S1x1024 : Vec Ideal S1x1024 .f32)⟩,
      ⟨S1x1024, (shapeCast _ (Host.reduceAdd (mulf x (dhv d1 d2 w1 w2)) (constant (F := Ideal) S_ .f32 0x00000000#32) reducesTo_S8192x1024_S1024_d0 h_S_) shapeCasts_S1024_S1x1024 : Vec Ideal S1x1024 .f32)⟩,
      ⟨S6x1024, (broadcastInDim S6x1024 ![] bcast_S_S6x1024 (constant (F := Ideal) S_ .f32 0x00000000#32) : Vec Ideal S6x1024 .f32)⟩] concatenates_S1x1024_S1x1024_S6x1024_S8x1024_d0 : Vec Ideal S8x1024 .f32) (ix2 r q)
      = (if r.val = 0 then ∑ k : Fin 8192, ((∑ j : Fin 2816, d1 (ix2 k j) * w1 (ix2 j q)) + ∑ j : Fin 2816, d2 (ix2 k j) * w2 (ix2 j q)) else if r.val = 1 then ∑ k : Fin 8192, ((∑ j : Fin 2816, d1 (ix2 k j) * w1 (ix2 j q)) + ∑ j : Fin 2816, d2 (ix2 k j) * w2 (ix2 j q)) * x (ix2 k q) else 0 : EReal) := by
  rw [rows_apply]
  simp only [dhv_apply]

end Cert.DxFfRef

end
-- ==== Proof.DwFf.lean ====
module

public import proofs.«01_k».proof.Proof.Gen.Kernel4Ideal.Value
public import proofs.«01_k».proof.Proof.Gen.Reference4Ideal.Run
public import proofs.«01_k».proof.Proof.Sums
public import Idealize.ShloMosaic.Lib.Pointwise

@[expose] public section

set_option maxRecDepth 16384

noncomputable section

namespace Cert.DwFf

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ)

/-- The left operand as launched: one row of the features at each token. -/
abbrev A (c : Dev nD) : Vec Ideal S8192x2816 .bf16 := m ((c : Thread nD τ).loc main_arg0)
/-- The right operand as launched. -/
abbrev B (c : Dev nD) : Vec Ideal S8192x1024 .bf16 := m ((c : Thread nD τ).loc main_arg1)

theorem idxA : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem idxB : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The left block at a point: rows of one token block, columns of one half of the features. -/
theorem blkA (c : Dev nD) (t : Fin cfg0.N) (y : S1024x1408.Idx) (i : S8192x2816.Idx)
    (h0 : (i 0).val = t.val % 8 * 1024 + (y 0).val) (h1 : (i 1).val = t.val / 8 * 1408 + (y 1).val) :
    (iblk m c 0 t : Vec Ideal S1024x1408 .bf16) y = A m c i := by
  obtain ⟨e0, e1⟩ := idxA t
  show V m c main_arg0 (((cfg0.win 0).blk t).view.emb y) = _
  show m ((c : Thread nD τ).loc main_arg0) _ = m ((c : Thread nD τ).loc main_arg0) _
  congr 1
  funext a; apply Fin.ext
  match a with
  | ⟨0, _⟩ => show win0_0.index t (0 : Fin 2) * 1024 + 1 * (y 0).val = (i 0).val; omega
  | ⟨1, _⟩ => show win0_0.index t (1 : Fin 2) * 1408 + 1 * (y 1).val = (i 1).val; omega

theorem blkB (c : Dev nD) (t : Fin cfg0.N) (y : S1024x1024.Idx) (i : S8192x1024.Idx)
    (h0 : (i 0).val = t.val % 8 * 1024 + (y 0).val) (h1 : (i 1).val = (y 1).val) :
    (iblk m c 1 t : Vec Ideal S1024x1024 .bf16) y = B m c i := by
  obtain ⟨e0, e1⟩ := idxB t
  show m ((c : Thread nD τ).loc main_arg1) _ = m ((c : Thread nD τ).loc main_arg1) _
  congr 1
  funext a; apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- One block's product at an entry, over what the accumulator held. -/
theorem pay_apply (acc : Vec Ideal S1408x1024 .f32) (x : Vec Ideal S1024x1408 .bf16) (y : Vec Ideal S1024x1024 .bf16) (r : Fin 1408) (q : Fin 1024) :
    (k0_pay2 (F := Ideal) acc x y) (ix2 r q) = (acc (ix2 r q) + ∑ k : Fin 1024, x (ix2 k r) * y (ix2 k q) : EReal) := by
  pointwise [k0_pay2]

theorem zero_apply (r : Fin 1408) (q : Fin 1024) : (k0_pay1 (F := Ideal)) (ix2 r q) = (0 : EReal) := by
  pointwise [k0_pay1]

/-- What a pair of blocks adds to an entry. -/
def addend (x : Vec Ideal S1024x1408 .bf16) (z : Vec Ideal S1024x1024 .bf16) (y : S1408x1024.Idx) : EReal :=
  ∑ k : Fin 1024, x (ix2 k (y 0)) * z (ix2 k (y 1))

theorem pay_at (acc : Vec Ideal S1408x1024 .f32) (x : Vec Ideal S1024x1408 .bf16) (z : Vec Ideal S1024x1024 .bf16) (y : S1408x1024.Idx) :
    (k0_pay2 (F := Ideal) acc x z) y = (acc y + addend x z y : EReal) := by
  rw [eq_ix2 y]; exact pay_apply acc x z (y 0) (y 1)

theorem zero_at (y : S1408x1024.Idx) : (k0_pay1 (F := Ideal)) y = (0 : EReal) := by
  rw [eq_ix2 y]; exact zero_apply (y 0) (y 1)

/-- What the point numbered `n` adds. -/
def part (c : Dev nD) (n : ℕ) (y : S1408x1024.Idx) : EReal :=
  if h : n < cfg0.N then addend (iblk m c 0 ⟨n, h⟩) (iblk m c 1 ⟨n, h⟩) y else 0

/-- The product at one token position (nothing past the last token). -/
def term (c : Dev nD) (r : Fin 2816) (q : Fin 1024) (k : ℕ) : EReal :=
  if h : k < 8192 then A m c (ix2 ⟨k, h⟩ r) * B m c (ix2 ⟨k, h⟩ q) else 0

/-- What one point adds. -/
theorem block_sum (c : Dev nD) (t : Fin cfg0.N) (y : S1408x1024.Idx) (r : Fin 2816) (hr : r.val = t.val / 8 * 1408 + (y 0).val) :
    addend (iblk m c 0 t) (iblk m c 1 t) y
      = ∑ k : Fin 1024, term m c r (y 1) (t.val % 8 * 1024 + k.val) := by
  refine Finset.sum_congr rfl fun k _ => ?_
  have hk : t.val % 8 * 1024 + k.val < 8192 := by have := k.isLt; omega
  unfold term
  rw [dif_pos hk, blkA m c t (ix2 k (y 0)) (ix2 ⟨_, hk⟩ r) rfl hr, blkB m c t (ix2 k (y 1)) (ix2 ⟨_, hk⟩ (y 1)) rfl rfl]

/-- The array the call leaves: the sum over all tokens. -/
theorem G2_apply (c : Dev nD) (r : Fin 2816) (q : Fin 1024) :
    G2 m c (ix2 r q) = (∑ k : Fin 8192, A m c (ix2 k r) * B m c (ix2 k q) : EReal) := by
  have hN : cfg0.N = 16 := N_0
  have hr2 : run2Of (ix2 r q) = r.val / 1408 := by
    show 1 * (r.val / 1408 - 0) + 1 * (q.val / 1024 - 0) = _
    have := q.isLt; omega
  have hrun : 8 * run2Of (ix2 r q) + 7 < cfg0.N := by rw [hr2, hN]; have := r.isLt; omega
  unfold G2
  rw [dif_pos hrun]
  have hq : run2Of (ix2 r q) < 2 := by rw [hr2]; have := r.isLt; omega
  have key := Pipeline.accAt_add_apply (β := EReal) (reset2 m c) (step2 m c) (fun _ => (0 : EReal)) (part m c) (8 * run2Of (ix2 r q)) 7
    (fun h y => by
      unfold part
      rw [dif_pos h]
      exact (pay_at _ _ _ y).trans (congrArg (· + _) (zero_at y)))
    (fun n h acc y _ _ => by
      unfold part
      rw [dif_pos h]
      exact pay_at _ _ _ y) 7 le_rfl hrun (loc2Of (ix2 r q))
  refine key.trans ?_
  rw [zero_add]
  have hs : ∀ s ∈ Finset.range (7 + 1), part m c
      (8 * run2Of (ix2 r q) + s) (loc2Of (ix2 r q)) = ∑ k : Fin 1024, term m c r q (s * 1024 + k.val) := by
    intro s hs
    have hs' : s < 8 := Finset.mem_range.mp hs
    have hn : 8 * run2Of (ix2 r q) + s < cfg0.N := by rw [hN]; omega
    unfold part
    rw [dif_pos hn, block_sum m c ⟨_, hn⟩ (loc2Of (ix2 r q)) r (by
      show r.val = (8 * run2Of (ix2 r q) + s) / 8 * 1408 + r.val % 1408
      rw [hr2]; omega)]
    have e : (8 * run2Of (ix2 r q) + s) % 8 = s := by omega
    have e1 : loc2Of (ix2 r q) 1 = q := Fin.ext (Nat.mod_eq_of_lt q.isLt)
    rw [e1]
    show ∑ k : Fin 1024, term m c r q ((8 * run2Of (ix2 r q) + s) % 8 * 1024 + k.val) = _
    rw [e]
  rw [Finset.sum_congr rfl hs, Sums.blocks 1024 (term m c r q) 8]
  refine Finset.sum_congr rfl fun k _ => ?_
  unfold term
  rw [dif_pos k.isLt]

end Cert.DwFf

namespace Cert.DwFfRef

open Idealize.ShloMosaic Idealize.ShloMosaic.TcCoe Idealize.SL.Sem
open Cert.Reference4Ideal Cert.Reference4Ideal.Gen

/-- The reference's result at an entry. -/
theorem ref_apply (a : Vec Ideal S8192x2816 .bf16) (b : Vec Ideal S8192x1024 .bf16) (r : Fin 2816) (q : Fin 1024) :
    (transpose S2816x1024 [1, 0] (Host.dotGeneral dot_S8192x1024_S8192x2816_S1024x2816_0_0_1_1_n_n none (extf (F := Ideal) .f32 b bitsLt_bf16_f32) (extf .f32 a bitsLt_bf16_f32)) transposes_S1024x2816_S2816x1024_1_0 : Vec Ideal S2816x1024 .f32) (ix2 r q)
      = (∑ k : Fin 8192, a (ix2 k r) * b (ix2 k q) : EReal) := by
  pointwise
  exact Finset.sum_congr rfl fun k _ => mul_comm _ _

end Cert.DwFfRef

end
-- ==== Proof.DwO.lean ====
module

public import proofs.«01_k».proof.Proof.Gen.Kernel6Ideal.Value
public import proofs.«01_k».proof.Proof.Gen.Reference6Ideal.Run
public import proofs.«01_k».proof.Proof.Sums
public import Idealize.ShloMosaic.Lib.Pointwise

@[expose] public section

set_option maxRecDepth 16384

noncomputable section

namespace Cert.DwO

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- The left operand as launched: one row of the features at each token. -/
abbrev A (c : Dev nD) : Vec Ideal S8192x1024 .bf16 := m ((c : Thread nD τ).loc main_arg0)
/-- The right operand as launched. -/
abbrev B (c : Dev nD) : Vec Ideal S8192x1024 .bf16 := m ((c : Thread nD τ).loc main_arg1)

theorem idxA : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem idxB : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The left block at a point: rows of one token block, columns of one half of the features. -/
theorem blkA (c : Dev nD) (t : Fin cfg0.N) (y : S1024x512.Idx) (i : S8192x1024.Idx)
    (h0 : (i 0).val = t.val % 8 * 1024 + (y 0).val) (h1 : (i 1).val = t.val / 8 * 512 + (y 1).val) :
    (iblk m c 0 t : Vec Ideal S1024x512 .bf16) y = A m c i := by
  obtain ⟨e0, e1⟩ := idxA t
  show V m c main_arg0 (((cfg0.win 0).blk t).view.emb y) = _
  show m ((c : Thread nD τ).loc main_arg0) _ = m ((c : Thread nD τ).loc main_arg0) _
  congr 1
  funext a; apply Fin.ext
  match a with
  | ⟨0, _⟩ => show win0_0.index t (0 : Fin 2) * 1024 + 1 * (y 0).val = (i 0).val; omega
  | ⟨1, _⟩ => show win0_0.index t (1 : Fin 2) * 512 + 1 * (y 1).val = (i 1).val; omega

theorem blkB (c : Dev nD) (t : Fin cfg0.N) (y : S1024x1024.Idx) (i : S8192x1024.Idx)
    (h0 : (i 0).val = t.val % 8 * 1024 + (y 0).val) (h1 : (i 1).val = (y 1).val) :
    (iblk m c 1 t : Vec Ideal S1024x1024 .bf16) y = B m c i := by
  obtain ⟨e0, e1⟩ := idxB t
  show m ((c : Thread nD τ).loc main_arg1) _ = m ((c : Thread nD τ).loc main_arg1) _
  congr 1
  funext a; apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- One block's product at an entry, over what the accumulator held. -/
theorem pay_apply (acc : Vec Ideal S512x1024 .f32) (x : Vec Ideal S1024x512 .bf16) (y : Vec Ideal S1024x1024 .bf16) (r : Fin 512) (q : Fin 1024) :
    (k0_pay2 (F := Ideal) acc x y) (ix2 r q) = (acc (ix2 r q) + ∑ k : Fin 1024, x (ix2 k r) * y (ix2 k q) : EReal) := by
  pointwise [k0_pay2]

theorem zero_apply (r : Fin 512) (q : Fin 1024) : (k0_pay1 (F := Ideal)) (ix2 r q) = (0 : EReal) := by
  pointwise [k0_pay1]

/-- What a pair of blocks adds to an entry. -/
def addend (x : Vec Ideal S1024x512 .bf16) (z : Vec Ideal S1024x1024 .bf16) (y : S512x1024.Idx) : EReal :=
  ∑ k : Fin 1024, x (ix2 k (y 0)) * z (ix2 k (y 1))

theorem pay_at (acc : Vec Ideal S512x1024 .f32) (x : Vec Ideal S1024x512 .bf16) (z : Vec Ideal S1024x1024 .bf16) (y : S512x1024.Idx) :
    (k0_pay2 (F := Ideal) acc x z) y = (acc y + addend x z y : EReal) := by
  rw [eq_ix2 y]; exact pay_apply acc x z (y 0) (y 1)

theorem zero_at (y : S512x1024.Idx) : (k0_pay1 (F := Ideal)) y = (0 : EReal) := by
  rw [eq_ix2 y]; exact zero_apply (y 0) (y 1)

/-- What the point numbered `n` adds. -/
def part (c : Dev nD) (n : ℕ) (y : S512x1024.Idx) : EReal :=
  if h : n < cfg0.N then addend (iblk m c 0 ⟨n, h⟩) (iblk m c 1 ⟨n, h⟩) y else 0

/-- The product at one token position (nothing past the last token). -/
def term (c : Dev nD) (r : Fin 1024) (q : Fin 1024) (k : ℕ) : EReal :=
  if h : k < 8192 then A m c (ix2 ⟨k, h⟩ r) * B m c (ix2 ⟨k, h⟩ q) else 0

/-- What one point adds. -/
theorem block_sum (c : Dev nD) (t : Fin cfg0.N) (y : S512x1024.Idx) (r : Fin 1024) (hr : r.val = t.val / 8 * 512 + (y 0).val) :
    addend (iblk m c 0 t) (iblk m c 1 t) y
      = ∑ k : Fin 1024, term m c r (y 1) (t.val % 8 * 1024 + k.val) := by
  refine Finset.sum_congr rfl fun k _ => ?_
  have hk : t.val % 8 * 1024 + k.val < 8192 := by have := k.isLt; omega
  unfold term
  rw [dif_pos hk, blkA m c t (ix2 k (y 0)) (ix2 ⟨_, hk⟩ r) rfl hr, blkB m c t (ix2 k (y 1)) (ix2 ⟨_, hk⟩ (y 1)) rfl rfl]

/-- The array the call leaves: the sum over all tokens. -/
theorem G2_apply (c : Dev nD) (r : Fin 1024) (q : Fin 1024) :
    G2 m c (ix2 r q) = (∑ k : Fin 8192, A m c (ix2 k r) * B m c (ix2 k q) : EReal) := by
  have hN : cfg0.N = 16 := N_0
  have hr2 : run2Of (ix2 r q) = r.val / 512 := by
    show 1 * (r.val / 512 - 0) + 1 * (q.val / 1024 - 0) = _
    have := q.isLt; omega
  have hrun : 8 * run2Of (ix2 r q) + 7 < cfg0.N := by rw [hr2, hN]; have := r.isLt; omega
  unfold G2
  rw [dif_pos hrun]
  have hq : run2Of (ix2 r q) < 2 := by rw [hr2]; have := r.isLt; omega
  have key := Pipeline.accAt_add_apply (β := EReal) (reset2 m c) (step2 m c) (fun _ => (0 : EReal)) (part m c) (8 * run2Of (ix2 r q)) 7
    (fun h y => by
      unfold part
      rw [dif_pos h]
      exact (pay_at _ _ _ y).trans (congrArg (· + _) (zero_at y)))
    (fun n h acc y _ _ => by
      unfold part
      rw [dif_pos h]
      exact pay_at _ _ _ y) 7 le_rfl hrun (loc2Of (ix2 r q))
  refine key.trans ?_
  rw [zero_add]
  have hs : ∀ s ∈ Finset.range (7 + 1), part m c
      (8 * run2Of (ix2 r q) + s) (loc2Of (ix2 r q)) = ∑ k : Fin 1024, term m c r q (s * 1024 + k.val) := by
    intro s hs
    have hs' : s < 8 := Finset.mem_range.mp hs
    have hn : 8 * run2Of (ix2 r q) + s < cfg0.N := by rw [hN]; omega
    unfold part
    rw [dif_pos hn, block_sum m c ⟨_, hn⟩ (loc2Of (ix2 r q)) r (by
      show r.val = (8 * run2Of (ix2 r q) + s) / 8 * 512 + r.val % 512
      rw [hr2]; omega)]
    have e : (8 * run2Of (ix2 r q) + s) % 8 = s := by omega
    have e1 : loc2Of (ix2 r q) 1 = q := Fin.ext (Nat.mod_eq_of_lt q.isLt)
    rw [e1]
    show ∑ k : Fin 1024, term m c r q ((8 * run2Of (ix2 r q) + s) % 8 * 1024 + k.val) = _
    rw [e]
  rw [Finset.sum_congr rfl hs, Sums.blocks 1024 (term m c r q) 8]
  refine Finset.sum_congr rfl fun k _ => ?_
  unfold term
  rw [dif_pos k.isLt]

end Cert.DwO

namespace Cert.DwORef

open Idealize.ShloMosaic Idealize.ShloMosaic.TcCoe Idealize.SL.Sem
open Cert.Reference6Ideal Cert.Reference6Ideal.Gen

/-- The reference's result at an entry. -/
theorem ref_apply (a : Vec Ideal S8192x1024 .bf16) (b : Vec Ideal S8192x1024 .bf16) (r : Fin 1024) (q : Fin 1024) :
    (transpose S1024x1024 [1, 0] (Host.dotGeneral dot_S8192x1024_S8192x1024_S1024x1024_0_0_1_1_n_n none (extf (F := Ideal) .f32 b bitsLt_bf16_f32) (extf .f32 a bitsLt_bf16_f32)) transposes_S1024x1024_S1024x1024_1_0 : Vec Ideal S1024x1024 .f32) (ix2 r q)
      = (∑ k : Fin 8192, a (ix2 k r) * b (ix2 k q) : EReal) := by
  pointwise
  exact Finset.sum_congr rfl fun k _ => mul_comm _ _

end Cert.DwORef

end
-- ==== Proof.DwIn.lean ====
module

public import proofs.«01_k».proof.Proof.Gen.Kernel7Ideal.Value
public import proofs.«01_k».proof.Proof.Gen.Reference7Ideal.Run
public import proofs.«01_k».proof.Proof.Sums
public import Idealize.ShloMosaic.Lib.Pointwise

@[expose] public section

set_option maxRecDepth 16384

noncomputable section

namespace Cert.DwIn

open Idealize.ShloMosaic Idealize.ShloMosaic.TcCoe Idealize.SL.Sem
open Cert.Kernel7Ideal Cert.Kernel7Ideal.Gen Cert.Kernel7Ideal.Value

variable (m : (ℓ : Loc nD τ sig) → Buf (Elt Ideal) ℓ)

/-- The left operand as launched: one row of the features at each token. -/
abbrev A (c : Dev nD) : Vec Ideal S8192x1792 .bf16 := m ((c : Thread nD τ).loc main_arg0)
/-- The right operand as launched. -/
abbrev B (c : Dev nD) : Vec Ideal S8192x1024 .bf16 := m ((c : Thread nD τ).loc main_arg1)

theorem idxA : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)
theorem idxB : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- The left block at a point: rows of one token block, columns of one half of the features. -/
theorem blkA (c : Dev nD) (t : Fin cfg0.N) (y : S1024x896.Idx) (i : S8192x1792.Idx)
    (h0 : (i 0).val = t.val % 8 * 1024 + (y 0).val) (h1 : (i 1).val = t.val / 8 * 896 + (y 1).val) :
    (iblk m c 0 t : Vec Ideal S1024x896 .bf16) y = A m c i := by
  obtain ⟨e0, e1⟩ := idxA t
  show V m c main_arg0 (((cfg0.win 0).blk t).view.emb y) = _
  show m ((c : Thread nD τ).loc main_arg0) _ = m ((c : Thread nD τ).loc main_arg0) _
  congr 1
  funext a; apply Fin.ext
  match a with
  | ⟨0, _⟩ => show win0_0.index t (0 : Fin 2) * 1024 + 1 * (y 0).val = (i 0).val; omega
  | ⟨1, _⟩ => show win0_0.index t (1 : Fin 2) * 896 + 1 * (y 1).val = (i 1).val; omega

theorem blkB (c : Dev nD) (t : Fin cfg0.N) (y : S1024x1024.Idx) (i : S8192x1024.Idx)
    (h0 : (i 0).val = t.val % 8 * 1024 + (y 0).val) (h1 : (i 1).val = (y 1).val) :
    (iblk m c 1 t : Vec Ideal S1024x1024 .bf16) y = B m c i := by
  obtain ⟨e0, e1⟩ := idxB t
  show m ((c : Thread nD τ).loc main_arg1) _ = m ((c : Thread nD τ).loc main_arg1) _
  congr 1
  funext a; apply Fin.ext
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- One block's product at an entry, over what the accumulator held. -/
theorem pay_apply (acc : Vec Ideal S896x1024 .f32) (x : Vec Ideal S1024x896 .bf16) (y : Vec Ideal S1024x1024 .bf16) (r : Fin 896) (q : Fin 1024) :
    (k0_pay2 (F := Ideal) acc x y) (ix2 r q) = (acc (ix2 r q) + ∑ k : Fin 1024, x (ix2 k r) * y (ix2 k q) : EReal) := by
  pointwise [k0_pay2]

theorem zero_apply (r : Fin 896) (q : Fin 1024) : (k0_pay1 (F := Ideal)) (ix2 r q) = (0 : EReal) := by
  pointwise [k0_pay1]

/-- What a pair of blocks adds to an entry. -/
def addend (x : Vec Ideal S1024x896 .bf16) (z : Vec Ideal S1024x1024 .bf16) (y : S896x1024.Idx) : EReal :=
  ∑ k : Fin 1024, x (ix2 k (y 0)) * z (ix2 k (y 1))

theorem pay_at (acc : Vec Ideal S896x1024 .f32) (x : Vec Ideal S1024x896 .bf16) (z : Vec Ideal S1024x1024 .bf16) (y : S896x1024.Idx) :
    (k0_pay2 (F := Ideal) acc x z) y = (acc y + addend x z y : EReal) := by
  rw [eq_ix2 y]; exact pay_apply acc x z (y 0) (y 1)

theorem zero_at (y : S896x1024.Idx) : (k0_pay1 (F := Ideal)) y = (0 : EReal) := by
  rw [eq_ix2 y]; exact zero_apply (y 0) (y 1)

/-- What the point numbered `n` adds. -/
def part (c : Dev nD) (n : ℕ) (y : S896x1024.Idx) : EReal :=
  if h : n < cfg0.N then addend (iblk m c 0 ⟨n, h⟩) (iblk m c 1 ⟨n, h⟩) y else 0

/-- The product at one token position (nothing past the last token). -/
def term (c : Dev nD) (r : Fin 1792) (q : Fin 1024) (k : ℕ) : EReal :=
  if h : k < 8192 then A m c (ix2 ⟨k, h⟩ r) * B m c (ix2 ⟨k, h⟩ q) else 0

/-- What one point adds. -/
theorem block_sum (c : Dev nD) (t : Fin cfg0.N) (y : S896x1024.Idx) (r : Fin 1792) (hr : r.val = t.val / 8 * 896 + (y 0).val) :
    addend (iblk m c 0 t) (iblk m c 1 t) y
      = ∑ k : Fin 1024, term m c r (y 1) (t.val % 8 * 1024 + k.val) := by
  refine Finset.sum_congr rfl fun k _ => ?_
  have hk : t.val % 8 * 1024 + k.val < 8192 := by have := k.isLt; omega
  unfold term
  rw [dif_pos hk, blkA m c t (ix2 k (y 0)) (ix2 ⟨_, hk⟩ r) rfl hr, blkB m c t (ix2 k (y 1)) (ix2 ⟨_, hk⟩ (y 1)) rfl rfl]

/-- The array the call leaves: the sum over all tokens. -/
theorem G2_apply (c : Dev nD) (r : Fin 1792) (q : Fin 1024) :
    G2 m c (ix2 r q) = (∑ k : Fin 8192, A m c (ix2 k r) * B m c (ix2 k q) : EReal) := by
  have hN : cfg0.N = 16 := N_0
  have hr2 : run2Of (ix2 r q) = r.val / 896 := by
    show 1 * (r.val / 896 - 0) + 1 * (q.val / 1024 - 0) = _
    have := q.isLt; omega
  have hrun : 8 * run2Of (ix2 r q) + 7 < cfg0.N := by rw [hr2, hN]; have := r.isLt; omega
  unfold G2
  rw [dif_pos hrun]
  have hq : run2Of (ix2 r q) < 2 := by rw [hr2]; have := r.isLt; omega
  have key := Pipeline.accAt_add_apply (β := EReal) (reset2 m c) (step2 m c) (fun _ => (0 : EReal)) (part m c) (8 * run2Of (ix2 r q)) 7
    (fun h y => by
      unfold part
      rw [dif_pos h]
      exact (pay_at _ _ _ y).trans (congrArg (· + _) (zero_at y)))
    (fun n h acc y _ _ => by
      unfold part
      rw [dif_pos h]
      exact pay_at _ _ _ y) 7 le_rfl hrun (loc2Of (ix2 r q))
  refine key.trans ?_
  rw [zero_add]
  have hs : ∀ s ∈ Finset.range (7 + 1), part m c
      (8 * run2Of (ix2 r q) + s) (loc2Of (ix2 r q)) = ∑ k : Fin 1024, term m c r q (s * 1024 + k.val) := by
    intro s hs
    have hs' : s < 8 := Finset.mem_range.mp hs
    have hn : 8 * run2Of (ix2 r q) + s < cfg0.N := by rw [hN]; omega
    unfold part
    rw [dif_pos hn, block_sum m c ⟨_, hn⟩ (loc2Of (ix2 r q)) r (by
      show r.val = (8 * run2Of (ix2 r q) + s) / 8 * 896 + r.val % 896
      rw [hr2]; omega)]
    have e : (8 * run2Of (ix2 r q) + s) % 8 = s := by omega
    have e1 : loc2Of (ix2 r q) 1 = q := Fin.ext (Nat.mod_eq_of_lt q.isLt)
    rw [e1]
    show ∑ k : Fin 1024, term m c r q ((8 * run2Of (ix2 r q) + s) % 8 * 1024 + k.val) = _
    rw [e]
  rw [Finset.sum_congr rfl hs, Sums.blocks 1024 (term m c r q) 8]
  refine Finset.sum_congr rfl fun k _ => ?_
  unfold term
  rw [dif_pos k.isLt]

end Cert.DwIn

namespace Cert.DwInRef

open Idealize.ShloMosaic Idealize.ShloMosaic.TcCoe Idealize.SL.Sem
open Cert.Reference7Ideal Cert.Reference7Ideal.Gen

/-- The reference's result at an entry. -/
theorem ref_apply (a : Vec Ideal S8192x1792 .bf16) (b : Vec Ideal S8192x1024 .bf16) (r : Fin 1792) (q : Fin 1024) :
    (transpose S1792x1024 [1, 0] (Host.dotGeneral dot_S8192x1024_S8192x1792_S1024x1792_0_0_1_1_n_n none (extf (F := Ideal) .f32 b bitsLt_bf16_f32) (extf .f32 a bitsLt_bf16_f32)) transposes_S1024x1792_S1792x1024_1_0 : Vec Ideal S1792x1024 .f32) (ix2 r q)
      = (∑ k : Fin 8192, a (ix2 k r) * b (ix2 k q) : EReal) := by
  pointwise
  exact Finset.sum_congr rfl fun k _ => mul_comm _ _

end Cert.DwInRef

end
-- ==== Proof.DxIn.lean ====
module

public import proofs.«01_k».proof.Proof.Gen.Kernel8Ideal.Value
public import proofs.«01_k».proof.Proof.Sums
public import Idealize.ShloMosaic.Lib.Pointwise
public import Idealize.ShloMosaic.Lib.WritesUnit

@[expose] public section

set_option maxRecDepth 16384

noncomputable section

namespace Cert.DxIn

open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ)

theorem hz : (![0, 0] : Fin 2 → Nat) = fun _ => 0 := funext fun a => by fin_cases a <;> rfl

section Body

variable (c : Dev nD) (i : grid0.Coords)
  (a1 : Memref sig .tc .vmem S512x1792 .bf16) (h1 : a1.IsWhole) (a2 : Memref sig .tc .vmem S1792x1024 .bf16) (h2 : a2.IsWhole)
  (a3 : Memref sig .tc .vmem S512x1024 .f32) (h3 : a3.IsWhole) (a4 : Memref sig .tc .vmem S512x1024 .f32) (h4 : a4.IsWhole)
  (a5 : Memref sig .tc .vmem S8x1024 .f32) (h5 : a5.IsWhole) (a6 : Memref sig .tc .vmem S512x1024 .f32) (h6 : a6.IsWhole)
  (a7 : Memref sig .tc .vmem S8x1024 .f32) (h7 : a7.IsWhole)
  (x0 : Vec Ideal S512x1792 .bf16) (x1 : Vec Ideal S1792x1024 .bf16)
  (x2 x3 : Vec Ideal S512x1024 .f32) (x4 xo : Vec Ideal S8x1024 .f32)

/-- The gradient of the modulated input at an entry of the block. -/
def dh (x0 : Vec Ideal S512x1792 .bf16) (x1 : Vec Ideal S1792x1024 .bf16)
    (r : Fin 512) (q : Fin 1024) : EReal :=
  ∑ k : Fin 1792, x0 (ix2 r k) * x1 (ix2 k q)

theorem pay4_apply (v : Vec Ideal S1x1024 .f32) (q : Fin 1024) :
    (k0_pay4 (F := Ideal) x0 x1 v) (ix2 0 q) = (v (ix2 0 q) + ∑ r : Fin 512, dh x0 x1 r q : EReal) := by
  unfold dh
  pointwise [k0_pay4, k0_pay2]

theorem pay5_apply (v : Vec Ideal S1x1024 .f32) (q : Fin 1024) :
    (k0_pay5 (F := Ideal) x0 x1 v x3) (ix2 0 q) = (v (ix2 0 q) + ∑ r : Fin 512, dh x0 x1 r q * x3 (ix2 r q) : EReal) := by
  unfold dh
  pointwise [k0_pay5, k0_pay2]

theorem pay3_apply (v : Vec Ideal S1x1024 .f32) (r : Fin 512) (q : Fin 1024) :
    (k0_pay3 (F := Ideal) x0 x1 x2 v) (ix2 r q) = (Ideal.ofBits .f32 0x3FD744FD#32 * x2 (ix2 r q) + dh x0 x1 r q * (1 + v (ix2 0 q)) : EReal) := by
  unfold dh
  pointwise [k0_pay3, k0_pay2]

/-- What a point adds to the two sums it carries: to the first row the column sums of the gradient, to the second those of its product with the input. -/
def adds (x0 : Vec Ideal S512x1792 .bf16) (x1 : Vec Ideal S1792x1024 .bf16)
    (x3 : Vec Ideal S512x1024 .f32) (r : Fin 8) (q : Fin 1024) : EReal :=
  if r.val = 0 then ∑ k : Fin 512, dh x0 x1 k q
  else if r.val = 1 then ∑ k : Fin 512, dh x0 x1 k q * x3 (ix2 k q)
  else 0

theorem ld_all (x : Vec Ideal S512x1024 .f32) (inb : ∀ a, (![0, 0] : Fin 2 → ℕ) a + (![512, 1024] : Fin 2 → ℕ) a ≤ S512x1024.size a) :
    View.ld x (Rect.unit (s := S512x1024) ![0, 0] ![512, 1024] inb) = x := View.ld_unit_zero (S := S512x1024) hz inb x

theorem ld_row {o : ℕ} (ho : o < 8) (x : Vec Ideal S8x1024 .f32) {size : Fin 2 → ℕ} (hs : size = ![1, 1024]) (inb : ∀ a, (![o, 0] : Fin 2 → ℕ) a + size a ≤ S8x1024.size a)
    (y : (Rect.unit (s := S8x1024) ![o, 0] size inb).shape.Idx) (q : Fin 1024) (hy : (y 1).val = q.val) :
    View.ld x (Rect.unit (s := S8x1024) ![o, 0] size inb) y = x (ix2 ⟨o, ho⟩ q) := by
  subst hs
  show x _ = x _
  congr 1
  funext a; apply Fin.ext
  match a with
  | ⟨0, _⟩ => show o + 1 * (y 0).val = o; have : (y 0).val < 1 := (y 0).isLt; omega
  | ⟨1, _⟩ => show 0 + 1 * (y 1).val = q.val; omega

theorem out_B_6 (hc : ¬cond0_0 i) (r : Fin 8) (q : Fin 1024) :
    out0_B_6 c i a1 h1 a2 h2 a3 h3 a4 h4 a5 h5 a6 h6 a7 h7 hc x0 x1 x2 x3 x4 xo (ix2 r q)
      = (xo (ix2 r q) + adds x0 x1 x3 r q : EReal) := by
  unfold out0_B_6
  unfold kernelRun0_B
  dsimp only
  try sl_unfold_words
  unfold adds
  obtain hr | hr | hr : r.val = 0 ∨ r.val = 1 ∨ 2 ≤ r.val := by omega
  · obtain rfl : r = 0 := Fin.ext hr
    refine Eq.trans (View.read_writes_cons_rows_of_not_mem (o := 1) (W := 1) _ _ _ _ _ _ rfl rfl (Or.inl Nat.zero_lt_one)) ?_
    refine Eq.trans (View.read_writes_cons_rows_of_mem (o := 0) _ _ _ _ _ _ (ix2 (0 : Fin 1) q : S1x1024.Idx) rfl rfl rfl) ?_
    simp only [View.readAt_eq_ld, h1.read_unread, h2.read_unread, h7.read_unread, View.ld_unit_zero (S := S512x1792) hz, View.ld_unit_zero (S := S1792x1024) hz]
    refine (pay4_apply _ _ _ q).trans ?_
    rw [if_pos (show ((0 : Fin 8) : ℕ) = 0 from rfl)]
    exact congrArg (· + _) (ld_row (o := 0) (by decide) xo rfl _ (ix2 (0 : Fin 1) q) q rfl)
  · obtain rfl : r = 1 := Fin.ext hr
    refine Eq.trans (View.read_writes_cons_rows_of_mem (o := 1) _ _ _ _ _ _ (ix2 (0 : Fin 1) q : S1x1024.Idx) rfl rfl rfl) ?_
    simp only [View.readAt_eq_ld, h1.read_unread, h2.read_unread, h4.read_unread, h7.read_unread, View.ld_unit_zero (S := S512x1792) hz, View.ld_unit_zero (S := S1792x1024) hz, ld_all]
    refine (pay5_apply _ _ _ _ q).trans ?_
    rw [if_neg (show ¬((1 : Fin 8) : ℕ) = 0 by decide), if_pos (show ((1 : Fin 8) : ℕ) = 1 from rfl)]
    exact congrArg (· + _) (ld_row (o := 1) (by decide) xo rfl _ (ix2 (0 : Fin 1) q) q rfl)
  · refine Eq.trans (View.read_writes_cons_rows_of_not_mem (o := 1) (W := 1) _ _ _ _ _ _ rfl rfl (Or.inr hr)) ?_
    refine Eq.trans (View.read_writes_cons_rows_of_not_mem (o := 0) (W := 1) _ _ _ _ _ _ rfl rfl (Or.inr (by show 0 + 1 ≤ r.val; omega))) ?_
    rw [if_neg (by omega), if_neg (by omega), add_zero]
    exact congrFun (h7.read_unread xo) _

theorem pay1_apply (r : Fin 8) (q : Fin 1024) : (k0_pay1 (F := Ideal)) (ix2 r q) = (0 : EReal) := by
  pointwise [k0_pay1]

theorem out_A_6 (hc : cond0_0 i) (r : Fin 8) (q : Fin 1024) :
    out0_A_6 c i a1 h1 a2 h2 a3 h3 a4 h4 a5 h5 a6 h6 a7 h7 hc x0 x1 x2 x3 x4 (ix2 r q) = adds x0 x1 x3 r q := by
  unfold out0_A_6
  unfold kernelRun0_A
  dsimp only
  try sl_unfold_words
  unfold adds
  obtain hr | hr | hr : r.val = 0 ∨ r.val = 1 ∨ 2 ≤ r.val := by omega
  · obtain rfl : r = 0 := Fin.ext hr
    refine Eq.trans (View.read_writes_cons_rows_of_not_mem (o := 1) (W := 1) _ _ _ _ _ _ rfl rfl (Or.inl Nat.zero_lt_one)) ?_
    refine Eq.trans (View.read_writes_cons_rows_of_mem (o := 0) _ _ _ _ _ _ (ix2 (0 : Fin 1) q : S1x1024.Idx) rfl rfl rfl) ?_
    simp only [View.readAt_eq_ld, h1.read_unread, h2.read_unread, View.ld_unit_zero (S := S512x1792) hz, View.ld_unit_zero (S := S1792x1024) hz]
    refine (pay4_apply _ _ _ q).trans ?_
    rw [if_pos (show ((0 : Fin 8) : ℕ) = 0 from rfl)]
    refine (congrArg (· + _) ?_).trans (zero_add _)
    refine Eq.trans (View.read_writes_cons_rows_of_mem (o := 0) _ _ _ _ _ _ (ix2 0 q : S8x1024.Idx) rfl rfl (by show 0 + 1 * q.val = q.val; omega)) (pay1_apply 0 q)
  · obtain rfl : r = 1 := Fin.ext hr
    refine Eq.trans (View.read_writes_cons_rows_of_mem (o := 1) _ _ _ _ _ _ (ix2 (0 : Fin 1) q : S1x1024.Idx) rfl rfl rfl) ?_
    simp only [View.readAt_eq_ld, h1.read_unread, h2.read_unread, h4.read_unread, View.ld_unit_zero (S := S512x1792) hz, View.ld_unit_zero (S := S1792x1024) hz, ld_all]
    refine (pay5_apply _ _ _ _ q).trans ?_
    rw [if_neg (show ¬((1 : Fin 8) : ℕ) = 0 by decide), if_pos (show ((1 : Fin 8) : ℕ) = 1 from rfl)]
    refine (congrArg (· + _) ?_).trans (zero_add _)
    refine Eq.trans (View.read_writes_cons_rows_of_not_mem (o := 0) (W := 1) _ _ _ _ _ _ rfl rfl (Or.inr (Nat.le_refl _))) ?_
    exact Eq.trans (View.read_writes_cons_rows_of_mem (o := 0) _ _ _ _ _ _ (ix2 1 q : S8x1024.Idx) rfl rfl (by show 0 + 1 * q.val = q.val; omega)) (pay1_apply 1 q)
  · refine Eq.trans (View.read_writes_cons_rows_of_not_mem (o := 1) (W := 1) _ _ _ _ _ _ rfl rfl (Or.inr hr)) ?_
    refine Eq.trans (View.read_writes_cons_rows_of_not_mem (o := 0) (W := 1) _ _ _ _ _ _ rfl rfl (Or.inr (by show 0 + 1 ≤ r.val; omega))) ?_
    rw [if_neg (by omega), if_neg (by omega)]
    exact Eq.trans (View.read_writes_cons_rows_of_mem (o := 0) _ _ _ _ _ _ (ix2 r q : S8x1024.Idx) rfl (Nat.zero_add _).symm rfl) (pay1_apply r q)

/-- The gradient with respect to the input at an entry of the block. -/
def gx (x0 : Vec Ideal S512x1792 .bf16) (x1 : Vec Ideal S1792x1024 .bf16)
    (x2 : Vec Ideal S512x1024 .f32) (x4 : Vec Ideal S8x1024 .f32) (r : Fin 512) (q : Fin 1024) : EReal :=
  Ideal.ofBits .f32 0x3FD744FD#32 * x2 (ix2 r q) + dh x0 x1 r q * (1 + x4 (ix2 1 q))

theorem out_B_5 (hc : ¬cond0_0 i) (r : Fin 512) (q : Fin 1024) :
    out0_B_5 c i a1 h1 a2 h2 a3 h3 a4 h4 a5 h5 a6 h6 a7 h7 hc x0 x1 x2 x3 x4 xo (ix2 r q) = gx x0 x1 x2 x4 r q := by
  unfold out0_B_5
  unfold kernelRun0_B
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, h3.read_unread, h5.read_unread, View.ld_unit_zero (S := S512x1792) hz, View.ld_unit_zero (S := S1792x1024) hz, ld_all]
  refine (pay3_apply _ _ _ _ r q).trans ?_
  exact congrArg (fun z => _ + dh x0 x1 r q * (1 + z)) (ld_row (o := 1) (by decide) x4 rfl _ (ix2 (0 : Fin 1) q) q rfl)

theorem out_A_5 (hc : cond0_0 i) (r : Fin 512) (q : Fin 1024) :
    out0_A_5 c i a1 h1 a2 h2 a3 h3 a4 h4 a5 h5 a6 h6 a7 h7 hc x0 x1 x2 x3 x4 (ix2 r q) = gx x0 x1 x2 x4 r q := by
  unfold out0_A_5
  unfold kernelRun0_A
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, h3.read_unread, h5.read_unread, View.ld_unit_zero (S := S512x1792) hz, View.ld_unit_zero (S := S1792x1024) hz, ld_all]
  refine (pay3_apply _ _ _ _ r q).trans ?_
  exact congrArg (fun z => _ + dh x0 x1 r q * (1 + z)) (ld_row (o := 1) (by decide) x4 rfl _ (ix2 (0 : Fin 1) q) q rfl)

end Body

/-! ## The arrays -/

/-- The gradient of the product and its weight, as launched. -/
abbrev D1 (c : Dev nD) : Vec Ideal S8192x1792 .bf16 := m ((c : Thread nD τ).loc main_arg0)
abbrev W1 (c : Dev nD) : Vec Ideal S1792x1024 .bf16 := m ((c : Thread nD τ).loc main_arg1)
/-- The gradient that came round the product, the input and the modulation rows. -/
abbrev Dr (c : Dev nD) : Vec Ideal S8192x1024 .f32 := m ((c : Thread nD τ).loc main_arg2)
abbrev X (c : Dev nD) : Vec Ideal S8192x1024 .f32 := m ((c : Thread nD τ).loc main_arg3)
abbrev M (c : Dev nD) : Vec Ideal S8x1024 .f32 := m ((c : Thread nD τ).loc main_arg4)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 1792) : (iblk m c 0 t : Vec Ideal S512x1792 .bf16) (ix2 r q) = D1 m c (ix2 (rowAt t r) q) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 1792 + 1 * q.val = q.val; omega
theorem blk1 (c : Dev nD) (t : Fin cfg0.N) (r : Fin 1792) (q : Fin 1024) : (iblk m c 1 t : Vec Ideal S1792x1024 .bf16) (ix2 r q) = W1 m c (ix2 (r) q) := by
  obtain ⟨e0, e1⟩ := idx1 t
  show m _ _ = m _ _
  congr 1
  funext a; apply Fin.ext
  match a with
  | ⟨0, _⟩ => show win0_1.index t (0 : Fin 2) * 1792 + 1 * r.val = r.val; omega
  | ⟨1, _⟩ => show win0_1.index t (1 : Fin 2) * 1024 + 1 * q.val = q.val; omega
theorem blk2 (c : Dev nD) (t : Fin cfg0.N) (r : Fin 512) (q : Fin 1024) : (iblk m c 2 t : Vec Ideal S512x1024 .f32) (ix2 r q) = Dr m c (ix2 (rowAt t r) q) := by
  obtain ⟨e0, e1⟩ := idx2 t
  show m _ _ = m _ _
  congr 1
  funext a; apply Fin.ext
  match a with
  | ⟨0, _⟩ => show win0_2.index t (0 : Fin 2) * 512 + 1 * r.val = t.val * 512 + r.val; omega
  | ⟨1, _⟩ => show win0_2.index t (1 : Fin 2) * 1024 + 1 * q.val = q.val; omega
theorem blk3 (c : Dev nD) (t : Fin cfg0.N) (r : Fin 512) (q : Fin 1024) : (iblk m c 3 t : Vec Ideal S512x1024 .f32) (ix2 r q) = X m c (ix2 (rowAt t r) q) := by
  obtain ⟨e0, e1⟩ := idx3 t
  show m _ _ = m _ _
  congr 1
  funext a; apply Fin.ext
  match a with
  | ⟨0, _⟩ => show win0_3.index t (0 : Fin 2) * 512 + 1 * r.val = t.val * 512 + r.val; omega
  | ⟨1, _⟩ => show win0_3.index t (1 : Fin 2) * 1024 + 1 * q.val = q.val; omega
theorem blk4 (c : Dev nD) (t : Fin cfg0.N) (r : Fin 8) (q : Fin 1024) : (iblk m c 4 t : Vec Ideal S8x1024 .f32) (ix2 r q) = M m c (ix2 (r) q) := by
  obtain ⟨e0, e1⟩ := idx4 t
  show m _ _ = m _ _
  congr 1
  funext a; apply Fin.ext
  match a with
  | ⟨0, _⟩ => show win0_4.index t (0 : Fin 2) * 8 + 1 * r.val = r.val; omega
  | ⟨1, _⟩ => show win0_4.index t (1 : Fin 2) * 1024 + 1 * q.val = q.val; omega

/-- The gradient of the modulated input at a token. -/
def dH (c : Dev nD) (r : Fin 8192) (q : Fin 1024) : EReal :=
  ∑ k : Fin 1792, D1 m c (ix2 r k) * W1 m c (ix2 k q)

theorem dh_blk (c : Dev nD) (t : Fin cfg0.N) (r : Fin 512) (q : Fin 1024) :
    dh (iblk m c 0 t) (iblk m c 1 t) r q = dH m c (rowAt t r) q := by
  unfold dh dH
  exact Finset.sum_congr rfl fun k _ => congrArg₂ (· * ·) (blk0 m c t r k) (blk1 m c t k q)

/-- The gradient with respect to the input, at a token. -/
def gX (c : Dev nD) (r : Fin 8192) (q : Fin 1024) : EReal :=
  Ideal.ofBits .f32 0x3FD744FD#32 * Dr m c (ix2 r q) + dH m c r q * (1 + M m c (ix2 1 q))

theorem gx_blk (c : Dev nD) (t : Fin cfg0.N) (r : Fin 512) (q : Fin 1024) :
    gx (iblk m c 0 t) (iblk m c 1 t) (iblk m c 2 t) (iblk m c 4 t) r q = gX m c (rowAt t r) q := by
  unfold gx gX
  rw [dh_blk]
  exact congrArg₂ (· + ·) (congrArg (_ * ·) (blk2 m c t r q)) (congrArg (fun z => _ * (1 + z)) (blk4 m c t 1 q))

/-- What each of the eight rows sums over the tokens. -/
def term (c : Dev nD) (r : Fin 8) (q : Fin 1024) (k : ℕ) : EReal :=
  if h : k < 8192 then
    if r.val = 0 then dH m c ⟨k, h⟩ q else if r.val = 1 then dH m c ⟨k, h⟩ q * X m c (ix2 ⟨k, h⟩ q) else 0
  else 0

theorem adds_blk (c : Dev nD) (t : Fin cfg0.N) (r : Fin 8) (q : Fin 1024) :
    adds (iblk m c 0 t) (iblk m c 1 t) (iblk m c 3 t) r q
      = ∑ k : Fin 512, term m c r q (t.val * 512 + k.val) := by
  have hk : ∀ k : Fin 512, t.val * 512 + k.val < 8192 := fun k => (rowAt t k).isLt
  unfold adds term
  by_cases h0 : r.val = 0
  · rw [if_pos h0]
    refine Finset.sum_congr rfl fun k _ => ?_
    rw [dif_pos (hk k), if_pos h0]; exact dh_blk m c t k q
  · by_cases h1 : r.val = 1
    · rw [if_neg h0, if_pos h1]
      refine Finset.sum_congr rfl fun k _ => ?_
      rw [dif_pos (hk k), if_neg h0, if_pos h1]
      exact congrArg₂ (· * ·) (dh_blk m c t k q) (blk3 m c t k q)
    · rw [if_neg h0, if_neg h1]
      refine (Finset.sum_eq_zero fun k _ => ?_).symm
      rw [dif_pos (hk k), if_neg h0, if_neg h1]

/-! ## What the points leave -/

theorem ptA_5 (c : Dev nD) (t : Fin cfg0.N) (hc : cond0_0 (grid0.coords t)) (r : Fin 512) (q : Fin 1024) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk m c 0 t) (iblk m c 1 t) (iblk m c 2 t) (iblk m c 3 t) (iblk m c 4 t) (ix2 r q) = (gX m c (rowAt t r) q : EReal) :=
  (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) hc r q).trans (gx_blk m c t r q)

theorem ptB_5 (c : Dev nD) (t : Fin cfg0.N) (xo : Vec Ideal S8x1024 .f32) (hc : ¬cond0_0 (grid0.coords t)) (r : Fin 512) (q : Fin 1024) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk m c 0 t) (iblk m c 1 t) (iblk m c 2 t) (iblk m c 3 t) (iblk m c 4 t) xo (ix2 r q) = (gX m c (rowAt t r) q : EReal) :=
  (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) xo hc r q).trans (gx_blk m c t r q)

theorem ptA_6 (c : Dev nD) (t : Fin cfg0.N) (hc : cond0_0 (grid0.coords t)) (r : Fin 8) (q : Fin 1024) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk m c 0 t) (iblk m c 1 t) (iblk m c 2 t) (iblk m c 3 t) (iblk m c 4 t) (ix2 r q) = (∑ k : Fin 512, term m c r q (t.val * 512 + k.val) : EReal) :=
  (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) hc r q).trans (adds_blk m c t r q)

theorem ptB_6 (c : Dev nD) (t : Fin cfg0.N) (xo : Vec Ideal S8x1024 .f32) (hc : ¬cond0_0 (grid0.coords t)) (r : Fin 8) (q : Fin 1024) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk m c 0 t) (iblk m c 1 t) (iblk m c 2 t) (iblk m c 3 t) (iblk m c 4 t) xo (ix2 r q) = (xo (ix2 r q) + ∑ k : Fin 512, term m c r q (t.val * 512 + k.val) : EReal) :=
  (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) xo hc r q).trans (congrArg (xo (ix2 r q) + ·) (adds_blk m c t r q))

theorem outs_5 (c : Dev nD) (t : Fin cfg0.N) (r : Fin 512) (q : Fin 1024) :
    (outsAt0 m c t.val t.isLt).1 (ix2 r q) = (gX m c (rowAt t r) q : EReal) := by
  by_cases h0 : t.val % 16 = 0
  · refine Eq.trans (congrArg (fun z => z.1 (ix2 r q)) (outsAt0_A m c t h0)) ?_
    have e := ptA_5 m c t ((hcond0_0 t).mpr h0) r q
    dsimp only
    rw [e]
  · refine Eq.trans (congrArg (fun z => z.1 (ix2 r q)) (outsAt0_B m c t h0)) ?_
    dsimp only
    rw [ptB_5 m c t _ (fun hc => h0 ((hcond0_0 t).mp hc)) r q]

theorem outs_6 (c : Dev nD) (r : Fin 8) (q : Fin 1024) : ∀ (n : ℕ) (h : n < cfg0.N),
    (outsAt0 m c n h).2 (ix2 r q) = (∑ s ∈ Finset.range (n + 1), ∑ k : Fin 512, term m c r q (s * 512 + k.val) : EReal)
  | 0, h => by
    refine Eq.trans (congrArg (fun z => z.2 (ix2 r q)) (outsAt0_A m c ⟨0, h⟩ rfl)) ?_
    rw [Finset.sum_range_one]
    have e := ptA_6 m c ⟨0, h⟩ ((hcond0_0 ⟨0, h⟩).mpr rfl) r q
    dsimp only
    rw [e]
  | n + 1, h => by
    have hN : cfg0.N = 16 := N_0
    have hB : ¬(⟨n + 1, h⟩ : Fin cfg0.N).val % 16 = 0 := by dsimp only; omega
    refine Eq.trans (congrArg (fun z => z.2 (ix2 r q)) (outsAt0_B m c ⟨n + 1, h⟩ hB)) ?_
    rw [Finset.sum_range_succ]
    exact (ptB_6 m c ⟨n + 1, h⟩ _ (fun hc => hB ((hcond0_0 _).mp hc)) r q).trans (congrArg (· + _) (outs_6 c r q n _))

/-- The two arrays of the results. -/
def G5 (c : Dev nD) : Buf (Elt Ideal) ((c : Thread nD τ).loc main_v0_0) := fun i => gX m c (i 0) (i 1)
def G6 (c : Dev nD) : Buf (Elt Ideal) ((c : Thread nD τ).loc main_v0_1) := fun i => (∑ k : Fin 8192, term m c (i 0) (i 1) k.val : EReal)

theorem final5 (c : Dev nD) : (dats m 0 c).arrAt 5 cfg0.N = G5 m c := by
  have hN : cfg0.N = 16 := N_0
  refine (dats m 0 c).arrAt_eq_of_cover 5 (G5 m c) (fun t hf => ?_) fun i => ?_
  · obtain ⟨e0, e1⟩ := idx5 t
    funext y
    show (dats m 0 c).flushed 5 t y = G5 m c (((cfg0.win 5).blk t).view.emb y)
    rw [flushed5]
    have hx : (cfg0.win 5).xinj (grid0.coords t) y = (ix2 (y 0) (y 1) : S512x1024.Idx) := by
      funext a; apply Fin.ext
      match a with
      | ⟨0, _⟩ => rfl
      | ⟨1, _⟩ => rfl
    show (outsAt0 m c t.val t.isLt).1 ((cfg0.win 5).xinj (grid0.coords t) y) = _
    rw [hx]
    refine (outs_5 m c t (y 0) (y 1)).trans ?_
    have ea : (((cfg0.win 5).blk t).view.emb y 0 : Fin 8192) = rowAt t (y 0) := by
      apply Fin.ext; show win0_5.index t (0 : Fin 2) * 512 + 1 * (y 0).val = t.val * 512 + (y 0).val; omega
    have eb : (((cfg0.win 5).blk t).view.emb y 1 : Fin 1024) = y 1 := by
      apply Fin.ext; show win0_5.index t (1 : Fin 2) * 1024 + 1 * (y 1).val = (y 1).val; omega
    exact (congrArg₂ (gX m c) ea eb).symm
  · have hi0 : (i 0).val < 8192 := (i 0).isLt
    have hi1 : (i 1).val < 1024 := (i 1).isLt
    have ht : (i 0).val / 512 < cfg0.N := by omega
    obtain ⟨e0, e1⟩ := idx5 ⟨(i 0).val / 512, ht⟩
    refine ⟨⟨(i 0).val / 512, ht⟩, flush0_5 _, ?_⟩
    show i ∈ ((View.whole main_v0_0).slice (win0_5.rect ⟨(i 0).val / 512, ht⟩)).set
    rw [View.set_slice_whole, Rect.mem_set_unit]
    intro a
    match a with
    | ⟨0, _⟩ => show win0_5.index ⟨(i 0).val / 512, ht⟩ (0 : Fin 2) * 512 ≤ (i 0).val ∧ (i 0).val < win0_5.index ⟨(i 0).val / 512, ht⟩ (0 : Fin 2) * 512 + 512; rw [e0]; dsimp only; omega
    | ⟨1, _⟩ => show win0_5.index ⟨(i 0).val / 512, ht⟩ (1 : Fin 2) * 1024 ≤ (i 1).val ∧ (i 1).val < win0_5.index ⟨(i 0).val / 512, ht⟩ (1 : Fin 2) * 1024 + 1024; rw [e1]; omega

theorem final6 (c : Dev nD) : (dats m 0 c).arrAt 6 cfg0.N = G6 m c := by
  have hN : cfg0.N = 16 := N_0
  refine (dats m 0 c).arrAt_eq_of_cover 6 (G6 m c) (fun t hf => ?_) fun i => ?_
  · obtain ⟨e0, e1⟩ := idx6 t
    have h15 : t.val = 15 := by have := (flush0_6 t).mp hf; have := t.isLt; omega
    funext y
    show (dats m 0 c).flushed 6 t y = G6 m c (((cfg0.win 6).blk t).view.emb y)
    rw [flushed6]
    have hx : (cfg0.win 6).xinj (grid0.coords t) y = (ix2 (y 0) (y 1) : S8x1024.Idx) := by
      funext a; apply Fin.ext
      match a with
      | ⟨0, _⟩ => rfl
      | ⟨1, _⟩ => rfl
    show (outsAt0 m c t.val t.isLt).2 ((cfg0.win 6).xinj (grid0.coords t) y) = _
    rw [hx]
    refine (outs_6 m c (y 0) (y 1) t.val t.isLt).trans ?_
    rw [h15]
    refine (Sums.blocks 512 (term m c (y 0) (y 1)) 16).trans ?_
    have ea : (((cfg0.win 6).blk t).view.emb y 0 : Fin 8) = y 0 := by
      apply Fin.ext; show win0_6.index t (0 : Fin 2) * 8 + 1 * (y 0).val = (y 0).val; omega
    have eb : (((cfg0.win 6).blk t).view.emb y 1 : Fin 1024) = y 1 := by
      apply Fin.ext; show win0_6.index t (1 : Fin 2) * 1024 + 1 * (y 1).val = (y 1).val; omega
    exact (congrArg₂ (fun a b => (∑ k : Fin 8192, term m c a b k.val : EReal)) ea eb).symm
  · have hi0 : (i 0).val < 8 := (i 0).isLt
    have hi1 : (i 1).val < 1024 := (i 1).isLt
    have ht : 15 < cfg0.N := by omega
    obtain ⟨e0, e1⟩ := idx6 ⟨15, ht⟩
    refine ⟨⟨15, ht⟩, (flush0_6 _).mpr rfl, ?_⟩
    show i ∈ ((View.whole main_v0_1).slice (win0_6.rect ⟨15, ht⟩)).set
    rw [View.set_slice_whole, Rect.mem_set_unit]
    intro a
    match a with
    | ⟨0, _⟩ => show win0_6.index ⟨15, ht⟩ (0 : Fin 2) * 8 ≤ (i 0).val ∧ (i 0).val < win0_6.index ⟨15, ht⟩ (0 : Fin 2) * 8 + 8; rw [e0]; omega
    | ⟨1, _⟩ => show win0_6.index ⟨15, ht⟩ (1 : Fin 2) * 1024 ≤ (i 1).val ∧ (i 1).val < win0_6.index ⟨15, ht⟩ (1 : Fin 2) * 1024 + 1024; rw [e1]; omega

theorem G6_apply (c : Dev nD) (r : Fin 8) (q : Fin 1024) :
    G6 m c (ix2 r q) = (if r.val = 0 then ∑ k : Fin 8192, dH m c k q else if r.val = 1 then ∑ k : Fin 8192, dH m c k q * X m c (ix2 k q) else 0 : EReal) := by
  show (∑ k : Fin 8192, term m c r q k.val : EReal) = _
  have e : ∀ k : Fin 8192, term m c r q k.val = if r.val = 0 then dH m c k q else if r.val = 1 then dH m c k q * X m c (ix2 k q) else 0 := by
    intro k; unfold term; rw [dif_pos k.isLt]
  simp only [e]
  by_cases h0 : r.val = 0
  · simp only [if_pos h0]
  · by_cases h1 : r.val = 1
    · simp only [if_neg h0, if_pos h1]
    · simp only [if_neg h0, if_neg h1, Finset.sum_const_zero]

end Cert.DxIn

end
-- ==== Proof.DxInRef.lean ====
module

public import proofs.«01_k».proof.Proof.Gen.Reference8Ideal.Run
public import Idealize.ShloMosaic.Lib.Pointwise

@[expose] public section

set_option maxRecDepth 16384

noncomputable section

namespace Cert.DxInRef

open Idealize.ShloMosaic Idealize.ShloMosaic.TcCoe Idealize.SL.Sem
open Cert.Reference8Ideal Cert.Reference8Ideal.Gen

variable (d1 : Vec Ideal S8192x1792 .bf16) (w1 : Vec Ideal S1792x1024 .bf16)
  (dr x : Vec Ideal S8192x1024 .f32) (mo : Vec Ideal S8x1024 .f32)

/-- The gradient of the modulated input, as the reference computes it. -/
abbrev dhv : Vec Ideal S8192x1024 .f32 :=
  Host.dotGeneral dot_S8192x1792_S1024x1792_S8192x1024_1_1_0_0_n_n none (extf (F := Ideal) .f32 d1 bitsLt_bf16_f32) (transpose S1024x1792 [1, 0] (extf (F := Ideal) .f32 w1 bitsLt_bf16_f32) transposes_S1792x1024_S1024x1792_1_0)

theorem dhv_apply (r : Fin 8192) (q : Fin 1024) :
    dhv d1 w1 (ix2 r q) = (∑ k : Fin 1792, d1 (ix2 r k) * w1 (ix2 k q) : EReal) := by
  pointwise

/-- The reference's first result at an entry. -/
theorem dx_apply (r : Fin 8192) (q : Fin 1024) :
    (addf (mulf (broadcastInDim S8192x1024 ![] bcast_S_S8192x1024 (constant (F := Ideal) S_ .f32 0x3FD744FD#32)) dr)
      (mulf (dhv d1 w1) (broadcastInDim S8192x1024 ![0, 1] bcast_S1x1024_S8192x1024_0_1 (addf (broadcastInDim S1x1024 ![] bcast_S_S1x1024 (constant (F := Ideal) S_ .f32 0x3F800000#32)) (extractStridedSlice S1x1024 ![1, 0] mo slices_S8x1024_S1x1024_1_0)))) : Vec Ideal S8192x1024 .f32) (ix2 r q)
      = (Ideal.ofBits .f32 0x3FD744FD#32 * dr (ix2 r q) + dhv d1 w1 (ix2 r q) * (1 + mo (ix2 1 q)) : EReal) := by
  generalize dhv d1 w1 = h
  pointwise

/-- The reference's second result at an entry. -/
theorem rows_apply (r : Fin 8) (q : Fin 1024) :
    (concatenate S8x1024 0 [⟨S1x1024, (shapeCast _ (Host.reduceAdd (dhv d1 w1) (constant (F := Ideal) S_ .f32 0x00000000#32) reducesTo_S8192x1024_S1024_d0 h_S_) shapeCasts_S1024_S1x1024 : Vec Ideal S1x1024 .f32)⟩,
      ⟨S1x1024, (shapeCast _ (Host.reduceAdd (mulf x (dhv d1 w1)) (constant (F := Ideal) S_ .f32 0x00000000#32) reducesTo_S8192x1024_S1024_d0 h_S_) shapeCasts_S1024_S1x1024 : Vec Ideal S1x1024 .f32)⟩,
      ⟨S6x1024, (broadcastInDim S6x1024 ![] bcast_S_S6x1024 (constant (F := Ideal) S_ .f32 0x00000000#32) : Vec Ideal S6x1024 .f32)⟩] concatenates_S1x1024_S1x1024_S6x1024_S8x1024_d0 : Vec Ideal S8x1024 .f32) (ix2 r q)
      = (if r.val = 0 then ∑ k : Fin 8192, dhv d1 w1 (ix2 k q) else if r.val = 1 then ∑ k : Fin 8192, dhv d1 w1 (ix2 k q) * x (ix2 k q) else 0 : EReal) := by
  generalize dhv d1 w1 = h
  pointwise
  by_cases h0 : r.val = 0
  · rw [dif_pos (by omega), if_pos h0]
  · by_cases h1 : r.val = 1
    · rw [dif_neg (by omega), dif_pos (by omega), if_neg h0, if_pos h1]
      exact Finset.sum_congr rfl fun k _ => mul_comm _ _
    · rw [dif_neg (by omega), dif_neg (by omega), if_neg h0, if_neg h1]

theorem dx_at (r : Fin 8192) (q : Fin 1024) :
    (addf (mulf (broadcastInDim S8192x1024 ![] bcast_S_S8192x1024 (constant (F := Ideal) S_ .f32 0x3FD744FD#32)) dr)
      (mulf (dhv d1 w1) (broadcastInDim S8192x1024 ![0, 1] bcast_S1x1024_S8192x1024_0_1 (addf (broadcastInDim S1x1024 ![] bcast_S_S1x1024 (constant (F := Ideal) S_ .f32 0x3F800000#32)) (extractStridedSlice S1x1024 ![1, 0] mo slices_S8x1024_S1x1024_1_0)))) : Vec Ideal S8192x1024 .f32) (ix2 r q)
      = (Ideal.ofBits .f32 0x3FD744FD#32 * dr (ix2 r q) + (∑ j : Fin 1792, d1 (ix2 r j) * w1 (ix2 j q)) * (1 + mo (ix2 1 q)) : EReal) := by
  rw [dx_apply, dhv_apply]

theorem rows_at (r : Fin 8) (q : Fin 1024) :
    (concatenate S8x1024 0 [⟨S1x1024, (shapeCast _ (Host.reduceAdd (dhv d1 w1) (constant (F := Ideal) S_ .f32 0x00000000#32) reducesTo_S8192x1024_S1024_d0 h_S_) shapeCasts_S1024_S1x1024 : Vec Ideal S1x1024 .f32)⟩,
      ⟨S1x1024, (shapeCast _ (Host.reduceAdd (mulf x (dhv d1 w1)) (constant (F := Ideal) S_ .f32 0x00000000#32) reducesTo_S8192x1024_S1024_d0 h_S_) shapeCasts_S1024_S1x1024 : Vec Ideal S1x1024 .f32)⟩,
      ⟨S6x1024, (broadcastInDim S6x1024 ![] bcast_S_S6x1024 (constant (F := Ideal) S_ .f32 0x00000000#32) : Vec Ideal S6x1024 .f32)⟩] concatenates_S1x1024_S1x1024_S6x1024_S8x1024_d0 : Vec Ideal S8x1024 .f32) (ix2 r q)
      = (if r.val = 0 then ∑ k : Fin 8192, (∑ j : Fin 1792, d1 (ix2 k j) * w1 (ix2 j q)) else if r.val = 1 then ∑ k : Fin 8192, (∑ j : Fin 1792, d1 (ix2 k j) * w1 (ix2 j q)) * x (ix2 k q) else 0 : EReal) := by
  rw [rows_apply]
  simp only [dhv_apply]

end Cert.DxInRef

end
-- ==== Proof.Sigm.lean ====
module

public import Idealize.ShloMosaic.Lib.Pointwise

@[expose] public section

noncomputable section

namespace Cert.Sigm

open Idealize.ShloMosaic

/-- The constant one half. -/
theorem half : Ideal.ofBits .f32 0x3F000000#32 = ((1 / 2 : ℝ) : EReal) := by
  simp [Ideal.ofBits, Ideal.ieee, -EReal.coe_mul]; norm_num

/-- The logistic function through the hyperbolic tangent of half the argument. -/
theorem tanh_half (x : EReal) :
    (Ideal.ofBits .f32 0x3F000000#32 * Ideal.tanh (Ideal.ofBits .f32 0x3F000000#32 * x) + Ideal.ofBits .f32 0x3F000000#32 : EReal)
      = Ideal.div 1 (1 + Ideal.exp (-x)) := by
  rw [half]
  induction x with
  | bot =>
    rw [EReal.coe_mul_bot_of_pos (by norm_num), Ideal.tanh_bot, EReal.neg_bot, Ideal.exp_top, EReal.add_top_of_ne_bot (by decide)]
    unfold Ideal.div
    rw [if_neg (by decide), EReal.inv_top, mul_zero]
    rw [← EReal.coe_one, ← EReal.coe_neg, ← EReal.coe_mul, ← EReal.coe_add]
    norm_num
  | top =>
    rw [EReal.coe_mul_top_of_pos (by norm_num), Ideal.tanh_top, EReal.neg_top, Ideal.exp_bot, add_zero]
    unfold Ideal.div
    rw [if_neg one_ne_zero, inv_one, mul_one, ← EReal.coe_add]
    norm_num
  | coe r =>
    rw [← EReal.coe_mul, Ideal.tanh_coe, ← EReal.coe_mul, ← EReal.coe_add, ← EReal.coe_neg, Ideal.exp_coe, ← EReal.coe_one, ← EReal.coe_add]
    have hp : (0 : ℝ) < 1 + Real.exp (-r) := by positivity
    unfold Ideal.div
    rw [if_neg (by rw [← EReal.coe_zero]; exact fun h => hp.ne' (EReal.coe_injective h)), ← EReal.coe_inv, ← EReal.coe_mul]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have ha := Real.exp_pos (1 / 2 * r)
    have hb := Real.exp_pos (-(1 / 2 * r))
    rw [h1] at hp ⊢
    generalize Real.exp (1 / 2 * r) = a at *
    generalize Real.exp (-(1 / 2 * r)) = b at *
    field_simp
    linear_combination (2 * b) * h2
end Cert.Sigm

end
-- ==== Proof.GateUp.lean ====
module

public import proofs.«01_k».proof.Proof.Gen.Kernel9Ideal.Value
public import proofs.«01_k».proof.Proof.Sigm
public import Idealize.ShloMosaic.Lib.Pointwise

@[expose] public section

set_option maxRecDepth 16384

noncomputable section

namespace Cert.GateUp

open Idealize.ShloMosaic Idealize.ShloMosaic.TcCoe Idealize.SL.Sem
open Cert.Kernel9Ideal Cert.Kernel9Ideal.Gen Cert.Kernel9Ideal.Value

variable (m : (ℓ : Loc nD τ sig) → Buf (Elt Ideal) ℓ)

theorem hz : (![0, 0] : Fin 2 → Nat) = fun _ => 0 := funext fun a => by fin_cases a <;> rfl

/-- The logistic function. -/
def sg (x : EReal) : EReal := Ideal.div 1 (1 + Ideal.exp (-x))

section Body

variable (x0 : Vec Ideal S512x1024 .bf16) (x1 x2 : Vec Ideal S1408x1024 .bf16)

/-- A row of the input against a row of a weight. -/
def pr (x0 : Vec Ideal S512x1024 .bf16) (x1 : Vec Ideal S1408x1024 .bf16) (r : Fin 512) (q : Fin 1408) : EReal :=
  ∑ k : Fin 1024, x0 (ix2 r k) * x1 (ix2 q k)

theorem pay3_apply (r : Fin 512) (q : Fin 1408) : (k0_pay3 (F := Ideal) x0 x1) (ix2 r q) = pr x0 x1 r q := by
  unfold pr
  pointwise [k0_pay3, k0_pay1]

theorem pay4_apply (r : Fin 512) (q : Fin 1408) : (k0_pay4 (F := Ideal) x0 x1) (ix2 r q) = pr x0 x1 r q := by
  unfold pr
  pointwise [k0_pay4, k0_pay2]

theorem pay1_apply (r : Fin 512) (q : Fin 1408) : (k0_pay1 (F := Ideal) x0 x1) (ix2 r q) = pr x0 x1 r q := by
  unfold pr
  pointwise [k0_pay1]

theorem pay2_apply (r : Fin 512) (q : Fin 1408) : (k0_pay2 (F := Ideal) x0 x1) (ix2 r q) = pr x0 x1 r q := by
  unfold pr
  pointwise [k0_pay2]

theorem pay5_apply (r : Fin 512) (q : Fin 1408) :
    (k0_pay5 (F := Ideal) x0 x1 x2) (ix2 r q) = (pr x0 x1 r q * sg (pr x0 x1 r q) * pr x0 x2 r q : EReal) := by
  pointwise [k0_pay5]
  rw [pay1_apply, pay2_apply, Sigm.tanh_half]
  rfl

theorem out_3 (r : Fin 512) (q : Fin 1408) : out0_3 x0 x1 x2 (ix2 r q) = pr x0 x1 r q := by
  unfold out0_3
  rw [View.canon_cons_unit_zero hz, View.ld_unit_zero hz, View.ld_unit_zero hz]
  exact pay3_apply _ _ r q

theorem out_4 (r : Fin 512) (q : Fin 1408) : out0_4 x0 x1 x2 (ix2 r q) = pr x0 x2 r q := by
  unfold out0_4
  rw [View.canon_cons_unit_zero hz, View.ld_unit_zero hz, View.ld_unit_zero hz]
  exact pay4_apply _ _ r q

theorem out_5 (r : Fin 512) (q : Fin 1408) : out0_5 x0 x1 x2 (ix2 r q) = (pr x0 x1 r q * sg (pr x0 x1 r q) * pr x0 x2 r q : EReal) := by
  unfold out0_5
  rw [View.canon_cons_unit_zero hz, View.ld_unit_zero hz, View.ld_unit_zero hz, View.ld_unit_zero hz]
  exact pay5_apply _ _ _ r q

end Body

/-- The input and the two weights as launched. -/
abbrev H (c : Dev nD) : Vec Ideal S8192x1024 .bf16 := m ((c : Thread nD τ).loc main_arg0)
abbrev Wg (c : Dev nD) : Vec Ideal S2816x1024 .bf16 := m ((c : Thread nD τ).loc main_arg1)
abbrev Wu (c : Dev nD) : Vec Ideal S2816x1024 .bf16 := m ((c : Thread nD τ).loc main_arg2)

theorem idx0 : ∀ t : Fin cfg0.N, win0_0.index t (0 : Fin 2) = t.val % 16 ∧ win0_0.index t (1 : Fin 2) = 0 :=
  (by decide +kernel : ∀ t : Fin grid0.N, win0_0.index t (0 : Fin 2) = t.val % 16 ∧ win0_0.index t (1 : Fin 2) = 0)
theorem idx1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem idx2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx3 : ∀ t : Fin cfg0.N, win0_3.index t (0 : Fin 2) = t.val % 16 ∧ win0_3.index t (1 : Fin 2) = t.val / 16 :=
  (by decide +kernel : ∀ t : Fin grid0.N, win0_3.index t (0 : Fin 2) = t.val % 16 ∧ win0_3.index t (1 : Fin 2) = t.val / 16)
theorem idx4 : ∀ t : Fin cfg0.N, win0_4.index t (0 : Fin 2) = t.val % 16 ∧ win0_4.index t (1 : Fin 2) = t.val / 16 :=
  (by decide +kernel : ∀ t : Fin grid0.N, win0_4.index t (0 : Fin 2) = t.val % 16 ∧ win0_4.index t (1 : Fin 2) = t.val / 16)
theorem idx5 : ∀ t : Fin cfg0.N, win0_5.index t (0 : Fin 2) = t.val % 16 ∧ win0_5.index t (1 : Fin 2) = t.val / 16 :=
  (by decide +kernel : ∀ t : Fin grid0.N, win0_5.index t (0 : Fin 2) = t.val % 16 ∧ win0_5.index t (1 : Fin 2) = t.val / 16)

/-- Row and column of a point's block in the array. -/
abbrev rowAt (t : Fin cfg0.N) (r : Fin 512) : Fin 8192 :=
  ⟨t.val % 16 * 512 + r.val, by have := t.isLt; have hN : cfg0.N = 32 := N_0; have := r.isLt; omega⟩
abbrev colAt (t : Fin cfg0.N) (r : Fin 1408) : Fin 2816 :=
  ⟨t.val / 16 * 1408 + r.val, by have := t.isLt; have hN : cfg0.N = 32 := N_0; have := r.isLt; omega⟩

theorem blk0 (c : Dev nD) (t : Fin cfg0.N) (r : Fin 512) (q : Fin 1024) : (iblk m c 0 t : Vec Ideal S512x1024 .bf16) (ix2 r q) = H m c (ix2 (rowAt t r) (q)) := by
  obtain ⟨e0, e1⟩ := idx0 t
  show m _ _ = m _ _
  congr 1
  funext a; apply Fin.ext
  match a with
  | ⟨0, _⟩ => show win0_0.index t (0 : Fin 2) * 512 + 1 * r.val = t.val % 16 * 512 + r.val; omega
  | ⟨1, _⟩ => show win0_0.index t (1 : Fin 2) * 1024 + 1 * q.val = q.val; omega
theorem blk1 (c : Dev nD) (t : Fin cfg0.N) (r : Fin 1408) (q : Fin 1024) : (iblk m c 1 t : Vec Ideal S1408x1024 .bf16) (ix2 r q) = Wg m c (ix2 (colAt t r) (q)) := by
  obtain ⟨e0, e1⟩ := idx1 t
  show m _ _ = m _ _
  congr 1
  funext a; apply Fin.ext
  match a with
  | ⟨0, _⟩ => show win0_1.index t (0 : Fin 2) * 1408 + 1 * r.val = t.val / 16 * 1408 + r.val; omega
  | ⟨1, _⟩ => show win0_1.index t (1 : Fin 2) * 1024 + 1 * q.val = q.val; omega
theorem blk2 (c : Dev nD) (t : Fin cfg0.N) (r : Fin 1408) (q : Fin 1024) : (iblk m c 2 t : Vec Ideal S1408x1024 .bf16) (ix2 r q) = Wu m c (ix2 (colAt t r) (q)) := by
  obtain ⟨e0, e1⟩ := idx2 t
  show m _ _ = m _ _
  congr 1
  funext a; apply Fin.ext
  match a with
  | ⟨0, _⟩ => show win0_2.index t (0 : Fin 2) * 1408 + 1 * r.val = t.val / 16 * 1408 + r.val; omega
  | ⟨1, _⟩ => show win0_2.index t (1 : Fin 2) * 1024 + 1 * q.val = q.val; omega

/-- The two products, and the gated one, at an entry. -/
def gate (c : Dev nD) (r : Fin 8192) (q : Fin 2816) : EReal := ∑ k : Fin 1024, H m c (ix2 r k) * Wg m c (ix2 q k)
def up (c : Dev nD) (r : Fin 8192) (q : Fin 2816) : EReal := ∑ k : Fin 1024, H m c (ix2 r k) * Wu m c (ix2 q k)
def act (c : Dev nD) (r : Fin 8192) (q : Fin 2816) : EReal := gate m c r q * sg (gate m c r q) * up m c r q

theorem gate_blk (c : Dev nD) (t : Fin cfg0.N) (r : Fin 512) (q : Fin 1408) :
    pr (iblk m c 0 t) (iblk m c 1 t) r q = gate m c (rowAt t r) (colAt t q) :=
  Finset.sum_congr rfl fun k _ => congrArg₂ (· * ·) (blk0 m c t r k) (blk1 m c t q k)
theorem up_blk (c : Dev nD) (t : Fin cfg0.N) (r : Fin 512) (q : Fin 1408) :
    pr (iblk m c 0 t) (iblk m c 2 t) r q = up m c (rowAt t r) (colAt t q) :=
  Finset.sum_congr rfl fun k _ => congrArg₂ (· * ·) (blk0 m c t r k) (blk2 m c t q k)

theorem out3_at (c : Dev nD) (t : Fin cfg0.N) (r : Fin 512) (q : Fin 1408) :
    out0_3 (iblk m c 0 t) (iblk m c 1 t) (iblk m c 2 t) (ix2 r q) = gate m c (rowAt t r) (colAt t q) :=
  (out_3 _ _ _ r q).trans (gate_blk m c t r q)
theorem out4_at (c : Dev nD) (t : Fin cfg0.N) (r : Fin 512) (q : Fin 1408) :
    out0_4 (iblk m c 0 t) (iblk m c 1 t) (iblk m c 2 t) (ix2 r q) = up m c (rowAt t r) (colAt t q) :=
  (out_4 _ _ _ r q).trans (up_blk m c t r q)
theorem out5_at (c : Dev nD) (t : Fin cfg0.N) (r : Fin 512) (q : Fin 1408) :
    out0_5 (iblk m c 0 t) (iblk m c 1 t) (iblk m c 2 t) (ix2 r q) = act m c (rowAt t r) (colAt t q) := by
  refine (out_5 _ _ _ r q).trans ?_
  rw [gate_blk, up_blk]
  rfl

/-- The array of this result. -/
def G3 (c : Dev nD) : Buf (Elt Ideal) ((c : Thread nD τ).loc main_v0_0) := fun i => gate m c (i 0) (i 1)

theorem final3 (c : Dev nD) : (dats m 0 c).arrAt 3 cfg0.N = G3 m c := by
  have hN : cfg0.N = 32 := N_0
  refine (dats m 0 c).arrAt_eq_of_cover 3 (G3 m c) (fun t hf => ?_) fun i => ?_
  · obtain ⟨e0, e1⟩ := idx3 t
    funext y
    show (dats m 0 c).flushed 3 t y = G3 m c (((cfg0.win 3).blk t).view.emb y)
    rw [flushed3]
    have hx : (cfg0.win 3).xinj (grid0.coords t) y = (ix2 (y 0) (y 1) : S512x1408.Idx) := by
      funext a; apply Fin.ext
      match a with
      | ⟨0, _⟩ => rfl
      | ⟨1, _⟩ => rfl
    show out0_3 (iblk m c 0 t) (iblk m c 1 t) (iblk m c 2 t) ((cfg0.win 3).xinj (grid0.coords t) y) = _
    rw [hx]
    refine (out3_at m c t (y 0) (y 1)).trans ?_
    have ea : (((cfg0.win 3).blk t).view.emb y 0 : Fin 8192) = rowAt t (y 0) := by
      apply Fin.ext; show win0_3.index t (0 : Fin 2) * 512 + 1 * (y 0).val = t.val % 16 * 512 + (y 0).val; omega
    have eb : (((cfg0.win 3).blk t).view.emb y 1 : Fin 2816) = colAt t (y 1) := by
      apply Fin.ext; show win0_3.index t (1 : Fin 2) * 1408 + 1 * (y 1).val = t.val / 16 * 1408 + (y 1).val; omega
    exact (congrArg₂ (gate m c) ea eb).symm
  · have hi0 : (i 0).val < 8192 := (i 0).isLt
    have hi1 : (i 1).val < 2816 := (i 1).isLt
    have ht : ((i 1).val / 1408 * 16 + (i 0).val / 512) < cfg0.N := by omega
    obtain ⟨e0, e1⟩ := idx3 ⟨((i 1).val / 1408 * 16 + (i 0).val / 512), ht⟩
    refine ⟨⟨((i 1).val / 1408 * 16 + (i 0).val / 512), ht⟩, flush0_3 _, ?_⟩
    show i ∈ ((View.whole main_v0_0).slice (win0_3.rect ⟨((i 1).val / 1408 * 16 + (i 0).val / 512), ht⟩)).set
    rw [View.set_slice_whole, Rect.mem_set_unit]
    intro a
    match a with
    | ⟨0, _⟩ => show win0_3.index ⟨((i 1).val / 1408 * 16 + (i 0).val / 512), ht⟩ (0 : Fin 2) * 512 ≤ (i 0).val ∧ (i 0).val < win0_3.index ⟨((i 1).val / 1408 * 16 + (i 0).val / 512), ht⟩ (0 : Fin 2) * 512 + 512; rw [e0]; dsimp only; omega
    | ⟨1, _⟩ => show win0_3.index ⟨((i 1).val / 1408 * 16 + (i 0).val / 512), ht⟩ (1 : Fin 2) * 1408 ≤ (i 1).val ∧ (i 1).val < win0_3.index ⟨((i 1).val / 1408 * 16 + (i 0).val / 512), ht⟩ (1 : Fin 2) * 1408 + 1408; rw [e1]; dsimp only; omega

/-- The array of this result. -/
def G4 (c : Dev nD) : Buf (Elt Ideal) ((c : Thread nD τ).loc main_v0_1) := fun i => up m c (i 0) (i 1)

theorem final4 (c : Dev nD) : (dats m 0 c).arrAt 4 cfg0.N = G4 m c := by
  have hN : cfg0.N = 32 := N_0
  refine (dats m 0 c).arrAt_eq_of_cover 4 (G4 m c) (fun t hf => ?_) fun i => ?_
  · obtain ⟨e0, e1⟩ := idx4 t
    funext y
    show (dats m 0 c).flushed 4 t y = G4 m c (((cfg0.win 4).blk t).view.emb y)
    rw [flushed4]
    have hx : (cfg0.win 4).xinj (grid0.coords t) y = (ix2 (y 0) (y 1) : S512x1408.Idx) := by
      funext a; apply Fin.ext
      match a with
      | ⟨0, _⟩ => rfl
      | ⟨1, _⟩ => rfl
    show out0_4 (iblk m c 0 t) (iblk m c 1 t) (iblk m c 2 t) ((cfg0.win 4).xinj (grid0.coords t) y) = _
    rw [hx]
    refine (out4_at m c t (y 0) (y 1)).trans ?_
    have ea : (((cfg0.win 4).blk t).view.emb y 0 : Fin 8192) = rowAt t (y 0) := by
      apply Fin.ext; show win0_4.index t (0 : Fin 2) * 512 + 1 * (y 0).val = t.val % 16 * 512 + (y 0).val; omega
    have eb : (((cfg0.win 4).blk t).view.emb y 1 : Fin 2816) = colAt t (y 1) := by
      apply Fin.ext; show win0_4.index t (1 : Fin 2) * 1408 + 1 * (y 1).val = t.val / 16 * 1408 + (y 1).val; omega
    exact (congrArg₂ (up m c) ea eb).symm
  · have hi0 : (i 0).val < 8192 := (i 0).isLt
    have hi1 : (i 1).val < 2816 := (i 1).isLt
    have ht : ((i 1).val / 1408 * 16 + (i 0).val / 512) < cfg0.N := by omega
    obtain ⟨e0, e1⟩ := idx4 ⟨((i 1).val / 1408 * 16 + (i 0).val / 512), ht⟩
    refine ⟨⟨((i 1).val / 1408 * 16 + (i 0).val / 512), ht⟩, flush0_4 _, ?_⟩
    show i ∈ ((View.whole main_v0_1).slice (win0_4.rect ⟨((i 1).val / 1408 * 16 + (i 0).val / 512), ht⟩)).set
    rw [View.set_slice_whole, Rect.mem_set_unit]
    intro a
    match a with
    | ⟨0, _⟩ => show win0_4.index ⟨((i 1).val / 1408 * 16 + (i 0).val / 512), ht⟩ (0 : Fin 2) * 512 ≤ (i 0).val ∧ (i 0).val < win0_4.index ⟨((i 1).val / 1408 * 16 + (i 0).val / 512), ht⟩ (0 : Fin 2) * 512 + 512; rw [e0]; dsimp only; omega
    | ⟨1, _⟩ => show win0_4.index ⟨((i 1).val / 1408 * 16 + (i 0).val / 512), ht⟩ (1 : Fin 2) * 1408 ≤ (i 1).val ∧ (i 1).val < win0_4.index ⟨((i 1).val / 1408 * 16 + (i 0).val / 512), ht⟩ (1 : Fin 2) * 1408 + 1408; rw [e1]; dsimp only; omega

/-- The array of this result. -/
def G5 (c : Dev nD) : Buf (Elt Ideal) ((c : Thread nD τ).loc main_v0_2) := fun i => act m c (i 0) (i 1)

theorem final5 (c : Dev nD) : (dats m 0 c).arrAt 5 cfg0.N = G5 m c := by
  have hN : cfg0.N = 32 := N_0
  refine (dats m 0 c).arrAt_eq_of_cover 5 (G5 m c) (fun t hf => ?_) fun i => ?_
  · obtain ⟨e0, e1⟩ := idx5 t
    funext y
    show (dats m 0 c).flushed 5 t y = G5 m c (((cfg0.win 5).blk t).view.emb y)
    rw [flushed5]
    have hx : (cfg0.win 5).xinj (grid0.coords t) y = (ix2 (y 0) (y 1) : S512x1408.Idx) := by
      funext a; apply Fin.ext
      match a with
      | ⟨0, _⟩ => rfl
      | ⟨1, _⟩ => rfl
    show out0_5 (iblk m c 0 t) (iblk m c 1 t) (iblk m c 2 t) ((cfg0.win 5).xinj (grid0.coords t) y) = _
    rw [hx]
    refine (out5_at m c t (y 0) (y 1)).trans ?_
    have ea : (((cfg0.win 5).blk t).view.emb y 0 : Fin 8192) = rowAt t (y 0) := by
      apply Fin.ext; show win0_5.index t (0 : Fin 2) * 512 + 1 * (y 0).val = t.val % 16 * 512 + (y 0).val; omega
    have eb : (((cfg0.win 5).blk t).view.emb y 1 : Fin 2816) = colAt t (y 1) := by
      apply Fin.ext; show win0_5.index t (1 : Fin 2) * 1408 + 1 * (y 1).val = t.val / 16 * 1408 + (y 1).val; omega
    exact (congrArg₂ (act m c) ea eb).symm
  · have hi0 : (i 0).val < 8192 := (i 0).isLt
    have hi1 : (i 1).val < 2816 := (i 1).isLt
    have ht : ((i 1).val / 1408 * 16 + (i 0).val / 512) < cfg0.N := by omega
    obtain ⟨e0, e1⟩ := idx5 ⟨((i 1).val / 1408 * 16 + (i 0).val / 512), ht⟩
    refine ⟨⟨((i 1).val / 1408 * 16 + (i 0).val / 512), ht⟩, flush0_5 _, ?_⟩
    show i ∈ ((View.whole main_v0_2).slice (win0_5.rect ⟨((i 1).val / 1408 * 16 + (i 0).val / 512), ht⟩)).set
    rw [View.set_slice_whole, Rect.mem_set_unit]
    intro a
    match a with
    | ⟨0, _⟩ => show win0_5.index ⟨((i 1).val / 1408 * 16 + (i 0).val / 512), ht⟩ (0 : Fin 2) * 512 ≤ (i 0).val ∧ (i 0).val < win0_5.index ⟨((i 1).val / 1408 * 16 + (i 0).val / 512), ht⟩ (0 : Fin 2) * 512 + 512; rw [e0]; dsimp only; omega
    | ⟨1, _⟩ => show win0_5.index ⟨((i 1).val / 1408 * 16 + (i 0).val / 512), ht⟩ (1 : Fin 2) * 1408 ≤ (i 1).val ∧ (i 1).val < win0_5.index ⟨((i 1).val / 1408 * 16 + (i 0).val / 512), ht⟩ (1 : Fin 2) * 1408 + 1408; rw [e1]; dsimp only; omega

end Cert.GateUp

end
-- ==== Proof.GateUpRef.lean ====
module

public import proofs.«01_k».proof.Proof.Gen.Reference9Ideal.Run
public import proofs.«01_k».proof.Proof.Sigm
public import Idealize.ShloMosaic.Lib.Pointwise

@[expose] public section

set_option maxRecDepth 16384

noncomputable section

namespace Cert.GateUpRef

open Idealize.ShloMosaic Idealize.ShloMosaic.TcCoe Idealize.SL.Sem
open Cert.Reference9Ideal Cert.Reference9Ideal.Gen

variable (h : Vec Ideal S8192x1024 .bf16) (w v : Vec Ideal S2816x1024 .bf16)

/-- One product of the reference. -/
abbrev P : Vec Ideal S8192x2816 .f32 := (Host.dotGeneral dot_S8192x1024_S1024x2816_S8192x2816_1_0_0_1_n_n none (extf (F := Ideal) .f32 h bitsLt_bf16_f32) (transpose S1024x2816 [1, 0] (extf (F := Ideal) .f32 w bitsLt_bf16_f32) transposes_S2816x1024_S1024x2816_1_0))

theorem P_apply (r : Fin 8192) (q : Fin 2816) : P h w (ix2 r q) = (∑ k : Fin 1024, h (ix2 r k) * w (ix2 q k) : EReal) := by
  pointwise

theorem prod_at (r : Fin 8192) (q : Fin 2816) :
    (truncf (F := Ideal) .bf16 (P h w) bitsLt_bf16_f32 : Vec Ideal S8192x2816 .bf16) (ix2 r q) = (∑ k : Fin 1024, h (ix2 r k) * w (ix2 q k) : EReal) :=
  P_apply h w r q

theorem act_gen (g u : Vec Ideal S8192x2816 .f32) (r : Fin 8192) (q : Fin 2816) :
    (truncf .bf16 (mulf (mulf g (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf g))))) u) bitsLt_bf16_f32 : Vec Ideal S8192x2816 .bf16) (ix2 r q)
      = (g (ix2 r q) * Ideal.div 1 (1 + Ideal.exp (-g (ix2 r q))) * u (ix2 r q) : EReal) := by
  pointwise

theorem act_at (r : Fin 8192) (q : Fin 2816) :
    (truncf .bf16 (mulf (mulf (P h w) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (P h w)))))) (P h v)) bitsLt_bf16_f32 : Vec Ideal S8192x2816 .bf16) (ix2 r q)
      = ((∑ k : Fin 1024, h (ix2 r k) * w (ix2 q k)) * Ideal.div 1 (1 + Ideal.exp (-(∑ k : Fin 1024, h (ix2 r k) * w (ix2 q k)))) * (∑ k : Fin 1024, h (ix2 r k) * v (ix2 q k)) : EReal) := by
  rw [act_gen, P_apply, P_apply]

end Cert.GateUpRef

end
-- ==== Proof.InFwd.lean ====
module

public import proofs.«01_k».proof.Proof.Gen.Kernel10Ideal.Value
public import Idealize.ShloMosaic.Lib.Pointwise

@[expose] public section

set_option maxRecDepth 16384

noncomputable section

namespace Cert.InFwd

open Idealize.ShloMosaic Idealize.ShloMosaic.TcCoe Idealize.SL.Sem
open Cert.Kernel10Ideal Cert.Kernel10Ideal.Gen Cert.Kernel10Ideal.Value

variable (m : (ℓ : Loc nD τ sig) → Buf (Elt Ideal) ℓ)

theorem hz : (![0, 0] : Fin 2 → Nat) = fun _ => 0 := funext fun a => by fin_cases a <;> rfl

section Body

variable (x0 : Vec Ideal S512x1024 .f32) (x1 : Vec Ideal S8x1024 .f32) (x2 : Vec Ideal S1792x1024 .bf16) (x3 : Vec Ideal S1x1792 .f32)

/-- The modulated input at an entry of the block. -/
def hb (x0 : Vec Ideal S512x1024 .f32) (x1 : Vec Ideal S8x1024 .f32) (r : Fin 512) (q : Fin 1024) : EReal :=
  x0 (ix2 r q) * (1 + x1 (ix2 1 q)) + x1 (ix2 0 q)

theorem pay1_apply (a b : Vec Ideal S1x1024 .f32) (r : Fin 512) (q : Fin 1024) :
    (k0_pay1 (F := Ideal) x0 a b) (ix2 r q) = (x0 (ix2 r q) * (1 + a (ix2 0 q)) + b (ix2 0 q) : EReal) := by
  pointwise [k0_pay1]

theorem pay2_apply (a b : Vec Ideal S1x1024 .f32) (r : Fin 512) (q : Fin 1792) :
    (k0_pay2 (F := Ideal) x0 a b x2 x3) (ix2 r q) = ((∑ k : Fin 1024, (x0 (ix2 r k) * (1 + a (ix2 0 k)) + b (ix2 0 k)) * x2 (ix2 q k)) + x3 (ix2 0 q) : EReal) := by
  pointwise [k0_pay2, k0_pay1]

theorem ld_row {o : ℕ} (ho : o < 8) (x : Vec Ideal S8x1024 .f32) {size : Fin 2 → ℕ} (hs : size = ![1, 1024]) (inb : ∀ a, (![o, 0] : Fin 2 → ℕ) a + size a ≤ S8x1024.size a)
    (y : (Rect.unit (s := S8x1024) ![o, 0] size inb).shape.Idx) (q : Fin 1024) (hy : (y 1).val = q.val) :
    View.ld x (Rect.unit (s := S8x1024) ![o, 0] size inb) y = x (ix2 ⟨o, ho⟩ q) := by
  subst hs
  show x _ = x _
  congr 1
  funext a; apply Fin.ext
  match a with
  | ⟨0, _⟩ => show o + 1 * (y 0).val = o; have : (y 0).val < 1 := (y 0).isLt; omega
  | ⟨1, _⟩ => show 0 + 1 * (y 1).val = q.val; omega

theorem row1 (q : Fin 1024) : View.ld x1 r0_1 (ix2 (0 : Fin 1) q : S1x1024.Idx) = x1 (ix2 1 q) := ld_row (o := 1) (by decide) x1 rfl _ (ix2 (0 : Fin 1) q) q rfl
theorem row0 (q : Fin 1024) : View.ld x1 r0_2 (ix2 (0 : Fin 1) q : S1x1024.Idx) = x1 (ix2 0 q) := ld_row (o := 0) (by decide) x1 rfl _ (ix2 (0 : Fin 1) q) q rfl

theorem out_4 (r : Fin 512) (q : Fin 1792) : out0_4 x0 x1 x2 x3 (ix2 r q) = ((∑ k : Fin 1024, hb x0 x1 r k * x2 (ix2 q k)) + x3 (ix2 0 q) : EReal) := by
  unfold out0_4
  rw [View.canon_cons_unit_zero hz, View.ld_unit_zero hz, View.ld_unit_zero hz, View.ld_unit_zero hz]
  refine (pay2_apply _ _ _ _ _ r q).trans (congrArg (· + _) (Finset.sum_congr rfl fun k _ => ?_))
  exact congrArg (· * _) (congrArg₂ (fun a b => x0 (ix2 r k) * (1 + a) + b) (row1 x1 k) (row0 x1 k))

theorem out_5 (r : Fin 512) (q : Fin 1024) : out0_5 x0 x1 x2 x3 (ix2 r q) = hb x0 x1 r q := by
  unfold out0_5
  rw [View.canon_cons_unit_zero hz, View.ld_unit_zero hz]
  refine (pay1_apply _ _ _ r q).trans ?_
  exact congrArg₂ (fun a b => x0 (ix2 r q) * (1 + a) + b) (row1 x1 q) (row0 x1 q)

end Body

/-- The input, the modulation rows, the weight and its bias as launched. -/
abbrev X (c : Dev nD) : Vec Ideal S8192x1024 .f32 := m ((c : Thread nD τ).loc main_arg0)
abbrev Mo (c : Dev nD) : Vec Ideal S8x1024 .f32 := m ((c : Thread nD τ).loc main_arg1)
abbrev W (c : Dev nD) : Vec Ideal S1792x1024 .bf16 := m ((c : Thread nD τ).loc main_arg2)
abbrev B (c : Dev nD) : Vec Ideal S1x1792 .f32 := m ((c : Thread nD τ).loc main_arg3)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 1024) : (iblk m c 0 t : Vec Ideal S512x1024 .f32) (ix2 r q) = X m c (ix2 (rowAt t r) (q)) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * q.val = q.val; omega
theorem blk1 (c : Dev nD) (t : Fin cfg0.N) (r : Fin 8) (q : Fin 1024) : (iblk m c 1 t : Vec Ideal S8x1024 .f32) (ix2 r q) = Mo m c (ix2 (r) (q)) := by
  obtain ⟨e0, e1⟩ := idx1 t
  show m _ _ = m _ _
  congr 1
  funext a; apply Fin.ext
  match a with
  | ⟨0, _⟩ => show win0_1.index t (0 : Fin 2) * 8 + 1 * r.val = r.val; omega
  | ⟨1, _⟩ => show win0_1.index t (1 : Fin 2) * 1024 + 1 * q.val = q.val; omega
theorem blk2 (c : Dev nD) (t : Fin cfg0.N) (r : Fin 1792) (q : Fin 1024) : (iblk m c 2 t : Vec Ideal S1792x1024 .bf16) (ix2 r q) = W m c (ix2 (r) (q)) := by
  obtain ⟨e0, e1⟩ := idx2 t
  show m _ _ = m _ _
  congr 1
  funext a; apply Fin.ext
  match a with
  | ⟨0, _⟩ => show win0_2.index t (0 : Fin 2) * 1792 + 1 * r.val = r.val; omega
  | ⟨1, _⟩ => show win0_2.index t (1 : Fin 2) * 1024 + 1 * q.val = q.val; omega
theorem blk3 (c : Dev nD) (t : Fin cfg0.N) (r : Fin 1) (q : Fin 1792) : (iblk m c 3 t : Vec Ideal S1x1792 .f32) (ix2 r q) = B m c (ix2 (r) (q)) := by
  obtain ⟨e0, e1⟩ := idx3 t
  show m _ _ = m _ _
  congr 1
  funext a; apply Fin.ext
  match a with
  | ⟨0, _⟩ => show win0_3.index t (0 : Fin 2) * 1 + 1 * r.val = r.val; omega
  | ⟨1, _⟩ => show win0_3.index t (1 : Fin 2) * 1792 + 1 * q.val = q.val; omega

/-- The modulated input, and the product with its bias, at a token. -/
def hin (c : Dev nD) (r : Fin 8192) (q : Fin 1024) : EReal := X m c (ix2 r q) * (1 + Mo m c (ix2 1 q)) + Mo m c (ix2 0 q)
def z (c : Dev nD) (r : Fin 8192) (q : Fin 1792) : EReal := (∑ k : Fin 1024, hin m c r k * W m c (ix2 q k)) + B m c (ix2 0 q)

theorem hb_blk (c : Dev nD) (t : Fin cfg0.N) (r : Fin 512) (q : Fin 1024) : hb (iblk m c 0 t) (iblk m c 1 t) r q = hin m c (rowAt t r) q := by
  unfold hb hin
  exact congrArg₂ (· + ·) (congrArg₂ (fun a b => a * (1 + b)) (blk0 m c t r q) (blk1 m c t 1 q)) (blk1 m c t 0 q)

theorem out4_at (c : Dev nD) (t : Fin cfg0.N) (r : Fin 512) (q : Fin 1792) :
    out0_4 (iblk m c 0 t) (iblk m c 1 t) (iblk m c 2 t) (iblk m c 3 t) (ix2 r q) = z m c (rowAt t r) q := by
  refine (out_4 _ _ _ _ r q).trans ?_
  unfold z
  exact congrArg₂ (· + ·) (Finset.sum_congr rfl fun k _ => congrArg₂ (· * ·) (hb_blk m c t r k) (blk2 m c t q k)) (blk3 m c t 0 q)
theorem out5_at (c : Dev nD) (t : Fin cfg0.N) (r : Fin 512) (q : Fin 1024) :
    out0_5 (iblk m c 0 t) (iblk m c 1 t) (iblk m c 2 t) (iblk m c 3 t) (ix2 r q) = hin m c (rowAt t r) q :=
  (out_5 _ _ _ _ r q).trans (hb_blk m c t r q)

/-- The array of this result. -/
def G4 (c : Dev nD) : Buf (Elt Ideal) ((c : Thread nD τ).loc main_v0_0) := fun i => z m c (i 0) (i 1)

theorem final4 (c : Dev nD) : (dats m 0 c).arrAt 4 cfg0.N = G4 m c := by
  have hN : cfg0.N = 16 := N_0
  refine (dats m 0 c).arrAt_eq_of_cover 4 (G4 m c) (fun t hf => ?_) fun i => ?_
  · obtain ⟨e0, e1⟩ := idx4 t
    funext y
    show (dats m 0 c).flushed 4 t y = G4 m c (((cfg0.win 4).blk t).view.emb y)
    rw [flushed4]
    have hx : (cfg0.win 4).xinj (grid0.coords t) y = (ix2 (y 0) (y 1) : S512x1792.Idx) := by
      funext a; apply Fin.ext
      match a with
      | ⟨0, _⟩ => rfl
      | ⟨1, _⟩ => rfl
    show out0_4 (iblk m c 0 t) (iblk m c 1 t) (iblk m c 2 t) (iblk m c 3 t) ((cfg0.win 4).xinj (grid0.coords t) y) = _
    rw [hx]
    refine (out4_at m c t (y 0) (y 1)).trans ?_
    have ea : (((cfg0.win 4).blk t).view.emb y 0 : Fin 8192) = rowAt t (y 0) := by
      apply Fin.ext; show win0_4.index t (0 : Fin 2) * 512 + 1 * (y 0).val = t.val * 512 + (y 0).val; omega
    have eb : (((cfg0.win 4).blk t).view.emb y 1 : Fin 1792) = y 1 := by
      apply Fin.ext; show win0_4.index t (1 : Fin 2) * 1792 + 1 * (y 1).val = (y 1).val; omega
    exact (congrArg₂ (z m c) ea eb).symm
  · have hi0 : (i 0).val < 8192 := (i 0).isLt
    have hi1 : (i 1).val < 1792 := (i 1).isLt
    have ht : ((i 0).val / 512) < cfg0.N := by omega
    obtain ⟨e0, e1⟩ := idx4 ⟨((i 0).val / 512), ht⟩
    refine ⟨⟨((i 0).val / 512), ht⟩, flush0_4 _, ?_⟩
    show i ∈ ((View.whole main_v0_0).slice (win0_4.rect ⟨((i 0).val / 512), ht⟩)).set
    rw [View.set_slice_whole, Rect.mem_set_unit]
    intro a
    match a with
    | ⟨0, _⟩ => show win0_4.index ⟨((i 0).val / 512), ht⟩ (0 : Fin 2) * 512 ≤ (i 0).val ∧ (i 0).val < win0_4.index ⟨((i 0).val / 512), ht⟩ (0 : Fin 2) * 512 + 512; rw [e0]; dsimp only; omega
    | ⟨1, _⟩ => show win0_4.index ⟨((i 0).val / 512), ht⟩ (1 : Fin 2) * 1792 ≤ (i 1).val ∧ (i 1).val < win0_4.index ⟨((i 0).val / 512), ht⟩ (1 : Fin 2) * 1792 + 1792; rw [e1]; dsimp only; omega

/-- The array of this result. -/
def G5 (c : Dev nD) : Buf (Elt Ideal) ((c : Thread nD τ).loc main_v0_1) := fun i => hin m c (i 0) (i 1)

theorem final5 (c : Dev nD) : (dats m 0 c).arrAt 5 cfg0.N = G5 m c := by
  have hN : cfg0.N = 16 := N_0
  refine (dats m 0 c).arrAt_eq_of_cover 5 (G5 m c) (fun t hf => ?_) fun i => ?_
  · obtain ⟨e0, e1⟩ := idx5 t
    funext y
    show (dats m 0 c).flushed 5 t y = G5 m c (((cfg0.win 5).blk t).view.emb y)
    rw [flushed5]
    have hx : (cfg0.win 5).xinj (grid0.coords t) y = (ix2 (y 0) (y 1) : S512x1024.Idx) := by
      funext a; apply Fin.ext
      match a with
      | ⟨0, _⟩ => rfl
      | ⟨1, _⟩ => rfl
    show out0_5 (iblk m c 0 t) (iblk m c 1 t) (iblk m c 2 t) (iblk m c 3 t) ((cfg0.win 5).xinj (grid0.coords t) y) = _
    rw [hx]
    refine (out5_at m c t (y 0) (y 1)).trans ?_
    have ea : (((cfg0.win 5).blk t).view.emb y 0 : Fin 8192) = rowAt t (y 0) := by
      apply Fin.ext; show win0_5.index t (0 : Fin 2) * 512 + 1 * (y 0).val = t.val * 512 + (y 0).val; omega
    have eb : (((cfg0.win 5).blk t).view.emb y 1 : Fin 1024) = y 1 := by
      apply Fin.ext; show win0_5.index t (1 : Fin 2) * 1024 + 1 * (y 1).val = (y 1).val; omega
    exact (congrArg₂ (hin m c) ea eb).symm
  · have hi0 : (i 0).val < 8192 := (i 0).isLt
    have hi1 : (i 1).val < 1024 := (i 1).isLt
    have ht : ((i 0).val / 512) < cfg0.N := by omega
    obtain ⟨e0, e1⟩ := idx5 ⟨((i 0).val / 512), ht⟩
    refine ⟨⟨((i 0).val / 512), ht⟩, flush0_5 _, ?_⟩
    show i ∈ ((View.whole main_v0_1).slice (win0_5.rect ⟨((i 0).val / 512), ht⟩)).set
    rw [View.set_slice_whole, Rect.mem_set_unit]
    intro a
    match a with
    | ⟨0, _⟩ => show win0_5.index ⟨((i 0).val / 512), ht⟩ (0 : Fin 2) * 512 ≤ (i 0).val ∧ (i 0).val < win0_5.index ⟨((i 0).val / 512), ht⟩ (0 : Fin 2) * 512 + 512; rw [e0]; dsimp only; omega
    | ⟨1, _⟩ => show win0_5.index ⟨((i 0).val / 512), ht⟩ (1 : Fin 2) * 1024 ≤ (i 1).val ∧ (i 1).val < win0_5.index ⟨((i 0).val / 512), ht⟩ (1 : Fin 2) * 1024 + 1024; rw [e1]; dsimp only; omega

end Cert.InFwd

end
-- ==== Proof.InFwdRef.lean ====
module

public import proofs.«01_k».proof.Proof.Gen.Reference10Ideal.Run
public import Idealize.ShloMosaic.Lib.Pointwise

@[expose] public section

set_option maxRecDepth 16384

noncomputable section

namespace Cert.InFwdRef

open Idealize.ShloMosaic Idealize.ShloMosaic.TcCoe Idealize.SL.Sem
open Cert.Reference10Ideal Cert.Reference10Ideal.Gen

variable (x : Vec Ideal S8192x1024 .f32) (mo : Vec Ideal S8x1024 .f32) (w : Vec Ideal S1792x1024 .bf16) (b : Vec Ideal S1x1792 .f32)

/-- The modulated input of the reference. -/
abbrev hv : FVec Ideal S8192x1024 .f32 := (addf (mulf x (broadcastInDim S8192x1024 ![0, 1] bcast_S1x1024_S8192x1024_0_1 (addf (broadcastInDim S1x1024 ![] bcast_S_S1x1024 (constant (F := Ideal) S_ .f32 0x3F800000#32)) (extractStridedSlice S1x1024 ![1, 0] mo slices_S8x1024_S1x1024_1_0)))) (broadcastInDim S8192x1024 ![0, 1] bcast_S1x1024_S8192x1024_0_1 (extractStridedSlice S1x1024 ![0, 0] mo slices_S8x1024_S1x1024_0_0)))

theorem hv_apply (r : Fin 8192) (q : Fin 1024) : hv x mo (ix2 r q) = (x (ix2 r q) * (1 + mo (ix2 1 q)) + mo (ix2 0 q) : EReal) := by
  pointwise

theorem h_at (r : Fin 8192) (q : Fin 1024) :
    (truncf (F := Ideal) .bf16 (hv x mo) bitsLt_bf16_f32 : Vec Ideal S8192x1024 .bf16) (ix2 r q) = (x (ix2 r q) * (1 + mo (ix2 1 q)) + mo (ix2 0 q) : EReal) :=
  hv_apply x mo r q

theorem z_gen (h : FVec Ideal S8192x1024 .f32) (r : Fin 8192) (q : Fin 1792) :
    (addf (Host.dotGeneral dot_S8192x1024_S1024x1792_S8192x1792_1_0_0_1_n_n none h (transpose S1024x1792 [1, 0] (extf (F := Ideal) .f32 w bitsLt_bf16_f32) transposes_S1792x1024_S1024x1792_1_0)) (broadcastInDim S8192x1792 ![0, 1] bcast_S1x1792_S8192x1792_0_1 b) : Vec Ideal S8192x1792 .f32) (ix2 r q)
      = ((∑ k : Fin 1024, h (ix2 r k) * w (ix2 q k)) + b (ix2 0 q) : EReal) := by
  pointwise

theorem z_at (r : Fin 8192) (q : Fin 1792) :
    (addf (Host.dotGeneral dot_S8192x1024_S1024x1792_S8192x1792_1_0_0_1_n_n none (hv x mo) (transpose S1024x1792 [1, 0] (extf (F := Ideal) .f32 w bitsLt_bf16_f32) transposes_S1792x1024_S1024x1792_1_0)) (broadcastInDim S8192x1792 ![0, 1] bcast_S1x1792_S8192x1792_0_1 b) : Vec Ideal S8192x1792 .f32) (ix2 r q)
      = ((∑ k : Fin 1024, (x (ix2 r k) * (1 + mo (ix2 1 k)) + mo (ix2 0 k)) * w (ix2 q k)) + b (ix2 0 q) : EReal) := by
  rw [z_gen]
  simp only [hv_apply]

end Cert.InFwdRef

end
-- ==== Proof.Adam.lean ====
module

public import Idealize.ShloMosaic.Lib.Pointwise

@[expose] public section

noncomputable section

namespace Cert.Adam

open Idealize.ShloMosaic

/-- The first moment's step at one position. -/
abbrev m1 (g u : Ideal .f32) : Ideal .f32 :=
  FloatOps.addf (FloatOps.mulf (Scalar.ofBits .f32 0x3F666666#32) u) (FloatOps.mulf (Scalar.ofBits .f32 0x3DCCCCCD#32) g)

/-- The second moment's step at one position. -/
abbrev m2 (g v : Ideal .f32) : Ideal .f32 :=
  FloatOps.addf (FloatOps.mulf (Scalar.ofBits .f32 0x3F7FBE77#32) v) (FloatOps.mulf (Scalar.ofBits .f32 0x3A83126F#32) (FloatOps.mulf g g))

/-- The weight's step at one position. -/
abbrev dl (w g u v : Ideal .f32) : Ideal .f32 :=
  FloatOps.mulf (Scalar.ofBits .f32 0xBA83126F#32) (FloatOps.addf (FloatOps.divf (FloatOps.divf (m1 g u) (Scalar.ofBits .f32 0x3F26BD02#32)) (FloatOps.addf (FloatOps.sqrt (FloatOps.divf (m2 g v) (Scalar.ofBits .f32 0x3C231ACC#32))) (Scalar.ofBits .f32 0x322BCC77#32))) (FloatOps.mulf (Scalar.ofBits .f32 0x3C23D70A#32) w))

section Host

variable {P S : Shape} {d : Fin P.rank → Fin S.rank} (h : P.BroadcastsInDim S d) (w g u v w' g' u' v' : FVec Ideal S .f32)

/-- The host's first moment over any shape. -/
theorem mom1 (e1 : g' = g) (e2 : u' = u) :
    addf (mulf (broadcastInDim S d h (constant P .f32 0x3F666666#32)) u') (mulf (broadcastInDim S d h (constant P .f32 0x3DCCCCCD#32)) g')
      = fun i => m1 (g i) (u i) := by
  subst e1 e2
  rfl

/-- The host's second moment over any shape. -/
theorem mom2 (e1 : g' = g) (e3 : v' = v) :
    addf (mulf (broadcastInDim S d h (constant P .f32 0x3F7FBE77#32)) v') (mulf (broadcastInDim S d h (constant P .f32 0x3A83126F#32)) (mulf g' g'))
      = fun i => m2 (g i) (v i) := by
  subst e1 e3
  rfl

/-- The host's step of a weight over any shape. -/
theorem delta (e0 : w' = w) (e1 : g' = g) (e2 : u' = u) (e3 : v' = v) :
    mulf (broadcastInDim S d h (constant P .f32 0xBA83126F#32)) (addf (Host.divf (Host.divf (addf (mulf (broadcastInDim S d h (constant P .f32 0x3F666666#32)) u') (mulf (broadcastInDim S d h (constant P .f32 0x3DCCCCCD#32)) g')) (broadcastInDim S d h (constant P .f32 0x3F26BD02#32))) (addf (Host.sqrt (Host.divf (addf (mulf (broadcastInDim S d h (constant P .f32 0x3F7FBE77#32)) v') (mulf (broadcastInDim S d h (constant P .f32 0x3A83126F#32)) (mulf g' g'))) (broadcastInDim S d h (constant P .f32 0x3C231ACC#32)))) (broadcastInDim S d h (constant P .f32 0x322BCC77#32)))) (mulf (broadcastInDim S d h (constant P .f32 0x3C23D70A#32)) w'))
      = fun i => dl (w i) (g i) (u i) (v i) := by
  subst e0 e1 e2 e3
  rfl

end Host

end Cert.Adam

end
-- ==== Proof.Norm.lean ====
module

public import Idealize.ShloMosaic.Lib.Pointwise

@[expose] public section

noncomputable section

namespace Cert.Norm

open Idealize.ShloMosaic

/-- The residual's scale, the row length and the variance's small constant, as printed. -/
abbrev alpha : EReal := Ideal.ofBits .f32 0x3FD744FD#32
abbrev len : EReal := Ideal.ofBits .f32 0x44800000#32
abbrev eps : EReal := Ideal.ofBits .f32 0x3727C5AC#32

/-- The mean of a row. -/
def mean (f : Fin 1024 → EReal) : EReal := Ideal.div (∑ k : Fin 1024, f k) len

/-- The mean square distance of a row to its mean. -/
def var (f : Fin 1024 → EReal) : EReal := Ideal.div (∑ k : Fin 1024, (f k - mean f) * (f k - mean f)) len

/-- A row brought to mean zero and variance one, at a position. -/
def norm (f : Fin 1024 → EReal) (q : Fin 1024) : EReal := (f q - mean f) * Ideal.rsqrt (var f + eps)

end Cert.Norm

end
-- ==== Proof.Loss.lean ====
module

public import proofs.«01_k».proof.Proof.Gen.Kernel18Ideal.Value
public import proofs.«01_k».proof.Proof.Sums
public import proofs.«01_k».proof.Proof.Norm
public import Idealize.ShloMosaic.Lib.Pointwise
public import Idealize.ShloMosaic.Lib.WritesUnit

@[expose] public section

set_option maxRecDepth 16384

noncomputable section

namespace Cert.Loss

open Idealize.ShloMosaic Idealize.ShloMosaic.TcCoe Idealize.SL.Sem
open Cert.Kernel18Ideal Cert.Kernel18Ideal.Gen Cert.Kernel18Ideal.Value

variable (m : (ℓ : Loc nD τ sig) → Buf (Elt Ideal) ℓ)

theorem hz : (![0, 0] : Fin 2 → Nat) = fun _ => 0 := funext fun a => by fin_cases a <;> rfl

/-- One half, as printed. -/
abbrev half : EReal := Ideal.ofBits .f32 0x3F000000#32

theorem half_mul_add (a b : EReal) : half * (a + b) = half * a + half * b := by
  have e : half = ((1 / 2 : ℝ) : EReal) := by
    simp [half, Ideal.ofBits, Ideal.ieee, -EReal.coe_mul]; norm_num
  rw [e]
  exact EReal.left_distrib_of_nonneg_of_ne_top (EReal.coe_nonneg.mpr (by norm_num)) (EReal.coe_ne_top _) a b

section Body

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S8x128 .f32) (h3 : a3.IsWhole) (a4 : Memref sig .tc .vmem S512x1024 .f32) (h4 : a4.IsWhole)
  (x0 x1 : Vec Ideal S512x1024 .f32) (xo : Vec Ideal S8x128 .f32)

/-- The mean square error of a row of the block. -/
def rowb (x0 x1 : Vec Ideal S512x1024 .f32) (r : Fin 512) : EReal :=
  Ideal.div (∑ q : Fin 1024, (x0 (ix2 r q) - x1 (ix2 r q)) * (x0 (ix2 r q) - x1 (ix2 r q))) Norm.len

/-- The gradient at an entry of the block. -/
def gradb (x0 x1 : Vec Ideal S512x1024 .f32) (r : Fin 512) (q : Fin 1024) : EReal :=
  (x0 (ix2 r q) - x1 (ix2 r q)) * Ideal.ofBits .f32 0x3A800000#32

theorem pay4_apply (v : Vec Ideal S8x128 .f32) (r : Fin 8) (q : Fin 128) :
    (k0_pay4 (F := Ideal) x0 x1 v) (ix2 r q) = (v (ix2 r q) + half * ∑ k : Fin 512, rowb x0 x1 k : EReal) := by
  unfold rowb
  pointwise [k0_pay4, k0_pay2]

theorem pay3_apply (r : Fin 512) (q : Fin 1024) :
    (k0_pay3 (F := Ideal) x0 x1) (ix2 r q) = gradb x0 x1 r q := by
  unfold gradb
  pointwise [k0_pay3, k0_pay2]

theorem pay1_apply (r : Fin 8) (q : Fin 128) : (k0_pay1 (F := Ideal)) (ix2 r q) = (0 : EReal) := by
  pointwise [k0_pay1]

theorem ld_all {n k : ℕ} (x : Vec Ideal (⟨2, ![n, k]⟩ : Shape) .f32) (inb : ∀ a, (![0, 0] : Fin 2 → ℕ) a + (![n, k] : Fin 2 → ℕ) a ≤ (⟨2, ![n, k]⟩ : Shape).size a) :
    View.ld x (Rect.unit (s := (⟨2, ![n, k]⟩ : Shape)) ![0, 0] ![n, k] inb) = x := View.ld_unit_zero hz inb x

theorem out_B_2 (hc : ¬cond0_0 i) (r : Fin 8) (q : Fin 128) :
    out0_B_2 c i a1 h1 a2 h2 a3 h3 a4 h4 hc x0 x1 xo (ix2 r q) = (xo (ix2 r q) + half * ∑ k : Fin 512, rowb x0 x1 k : EReal) := by
  unfold out0_B_2
  unfold kernelRun0_B
  dsimp only
  try sl_unfold_words
  refine Eq.trans (View.read_writes_cons_rows_of_mem (o := 0) _ _ _ _ _ _ (ix2 r q : S8x128.Idx) rfl (Nat.zero_add _).symm rfl) ?_
  simp only [View.readAt_eq_ld, h1.read_unread, h2.read_unread, h3.read_unread, View.ld_unit_zero (S := S512x1024) hz, View.ld_unit_zero (S := S8x128) hz]
  exact pay4_apply _ _ _ r q

theorem out_A_2 (hc : cond0_0 i) (r : Fin 8) (q : Fin 128) :
    out0_A_2 c i a1 h1 a2 h2 a3 h3 a4 h4 hc x0 x1 (ix2 r q) = (half * ∑ k : Fin 512, rowb x0 x1 k : EReal) := by
  unfold out0_A_2
  unfold kernelRun0_A
  dsimp only
  try sl_unfold_words
  refine Eq.trans (View.read_writes_cons_rows_of_mem (o := 0) _ _ _ _ _ _ (ix2 r q : S8x128.Idx) rfl (Nat.zero_add _).symm rfl) ?_
  simp only [View.readAt_eq_ld, h1.read_unread, h2.read_unread, View.ld_unit_zero (S := S512x1024) hz]
  refine (pay4_apply _ _ _ r q).trans ((congrArg (· + _) ?_).trans (zero_add _))
  exact Eq.trans (View.read_writes_cons_rows_of_mem (o := 0) _ _ _ _ _ _ (ix2 r q : S8x128.Idx) rfl (by show 0 + 1 * r.val = 0 + r.val; omega) (by show 0 + 1 * q.val = q.val; omega)) (pay1_apply r q)

theorem out_B_3 (hc : ¬cond0_0 i) (r : Fin 512) (q : Fin 1024) :
    out0_B_3 c i a1 h1 a2 h2 a3 h3 a4 h4 hc x0 x1 xo (ix2 r q) = gradb x0 x1 r q := by
  unfold out0_B_3
  unfold kernelRun0_B
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, View.ld_unit_zero (S := S512x1024) hz]
  exact pay3_apply _ _ r q

theorem out_A_3 (hc : cond0_0 i) (r : Fin 512) (q : Fin 1024) :
    out0_A_3 c i a1 h1 a2 h2 a3 h3 a4 h4 hc x0 x1 (ix2 r q) = gradb x0 x1 r q := by
  unfold out0_A_3
  unfold kernelRun0_A
  dsimp only
  try sl_unfold_words
  refine Eq.trans (View.read_writes_cons_rows_of_mem (o := 0) _ _ _ _ _ _ (ix2 r q : S512x1024.Idx) rfl (Nat.zero_add _).symm rfl) ?_
  simp only [View.readAt_eq_ld, h1.read_unread, h2.read_unread, View.ld_unit_zero (S := S512x1024) hz]
  exact pay3_apply _ _ r q

end Body

/-- The output of the last layer and its target as launched. -/
abbrev X (c : Dev nD) : Vec Ideal S8192x1024 .f32 := m ((c : Thread nD τ).loc main_arg0)
abbrev T (c : Dev nD) : Vec Ideal S8192x1024 .f32 := m ((c : Thread nD τ).loc main_arg1)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 1024) : (iblk m c 0 t : Vec Ideal S512x1024 .f32) (ix2 r q) = X m c (ix2 (rowAt t r) (q)) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * q.val = q.val; omega
theorem blk1 (c : Dev nD) (t : Fin cfg0.N) (r : Fin 512) (q : Fin 1024) : (iblk m c 1 t : Vec Ideal S512x1024 .f32) (ix2 r q) = T m c (ix2 (rowAt t r) (q)) := by
  obtain ⟨e0, e1⟩ := idx1 t
  show m _ _ = m _ _
  congr 1
  funext a; apply Fin.ext
  match a with
  | ⟨0, _⟩ => show win0_1.index t (0 : Fin 2) * 512 + 1 * r.val = t.val * 512 + r.val; omega
  | ⟨1, _⟩ => show win0_1.index t (1 : Fin 2) * 1024 + 1 * q.val = q.val; omega

/-- The mean square error of a token, also by its number, and the gradient of the loss. -/
def row (c : Dev nD) (r : Fin 8192) : EReal :=
  Ideal.div (∑ q : Fin 1024, (X m c (ix2 r q) - T m c (ix2 r q)) * (X m c (ix2 r q) - T m c (ix2 r q))) Norm.len
def rowN (c : Dev nD) (k : ℕ) : EReal := if h : k < 8192 then row m c ⟨k, h⟩ else 0
def grad (c : Dev nD) (r : Fin 8192) (q : Fin 1024) : EReal := (X m c (ix2 r q) - T m c (ix2 r q)) * Ideal.ofBits .f32 0x3A800000#32

theorem row_blk (c : Dev nD) (t : Fin cfg0.N) (r : Fin 512) : rowb (iblk m c 0 t) (iblk m c 1 t) r = rowN m c (t.val * 512 + r.val) := by
  unfold rowb rowN
  rw [dif_pos (rowAt t r).isLt]
  unfold row
  refine congrArg (Ideal.div · Norm.len) (Finset.sum_congr rfl fun q _ => ?_)
  exact congrArg₂ (fun a b : EReal => (a - b) * (a - b)) (blk0 m c t r q) (blk1 m c t r q)

theorem grad_blk (c : Dev nD) (t : Fin cfg0.N) (r : Fin 512) (q : Fin 1024) :
    gradb (iblk m c 0 t) (iblk m c 1 t) r q = grad m c (rowAt t r) q :=
  congrArg₂ (fun a b : EReal => (a - b) * Ideal.ofBits .f32 0x3A800000#32) (blk0 m c t r q) (blk1 m c t r q)

theorem adds_blk (c : Dev nD) (t : Fin cfg0.N) :
    (half * ∑ k : Fin 512, rowb (iblk m c 0 t) (iblk m c 1 t) k : EReal) = half * ∑ k : Fin 512, rowN m c (t.val * 512 + k.val) :=
  congrArg (half * ·) (Finset.sum_congr rfl fun k _ => row_blk m c t k)

/-! ## What the points leave -/

theorem ptA_3 (c : Dev nD) (t : Fin cfg0.N) (hc : cond0_0 (grid0.coords t)) (r : Fin 512) (q : Fin 1024) :
    out0_A_3 c (grid0.coords t) (ms0_0 t) (hs0_0 t) (ms0_1 t) (hs0_1 t) (ms0_2 t) (hs0_2 t) (ms0_3 t) (hs0_3 t) hc (iblk m c 0 t) (iblk m c 1 t) (ix2 r q) = (grad m c (rowAt t r) q : EReal) :=
  (out_A_3 c (grid0.coords t) (ms0_0 t) (hs0_0 t) (ms0_1 t) (hs0_1 t) (ms0_2 t) (hs0_2 t) (ms0_3 t) (hs0_3 t) (iblk m c 0 t) (iblk m c 1 t) hc r q).trans (grad_blk m c t r q)

theorem ptB_3 (c : Dev nD) (t : Fin cfg0.N) (xo : Vec Ideal S8x128 .f32) (hc : ¬cond0_0 (grid0.coords t)) (r : Fin 512) (q : Fin 1024) :
    out0_B_3 c (grid0.coords t) (ms0_0 t) (hs0_0 t) (ms0_1 t) (hs0_1 t) (ms0_2 t) (hs0_2 t) (ms0_3 t) (hs0_3 t) hc (iblk m c 0 t) (iblk m c 1 t) xo (ix2 r q) = (grad m c (rowAt t r) q : EReal) :=
  (out_B_3 c (grid0.coords t) (ms0_0 t) (hs0_0 t) (ms0_1 t) (hs0_1 t) (ms0_2 t) (hs0_2 t) (ms0_3 t) (hs0_3 t) (iblk m c 0 t) (iblk m c 1 t) xo hc r q).trans (grad_blk m c t r q)

theorem ptA_2 (c : Dev nD) (t : Fin cfg0.N) (hc : cond0_0 (grid0.coords t)) (r : Fin 8) (q : Fin 128) :
    out0_A_2 c (grid0.coords t) (ms0_0 t) (hs0_0 t) (ms0_1 t) (hs0_1 t) (ms0_2 t) (hs0_2 t) (ms0_3 t) (hs0_3 t) hc (iblk m c 0 t) (iblk m c 1 t) (ix2 r q) = (half * ∑ k : Fin 512, rowN m c (t.val * 512 + k.val) : EReal) :=
  (out_A_2 c (grid0.coords t) (ms0_0 t) (hs0_0 t) (ms0_1 t) (hs0_1 t) (ms0_2 t) (hs0_2 t) (ms0_3 t) (hs0_3 t) (iblk m c 0 t) (iblk m c 1 t) hc r q).trans (adds_blk m c t)

theorem ptB_2 (c : Dev nD) (t : Fin cfg0.N) (xo : Vec Ideal S8x128 .f32) (hc : ¬cond0_0 (grid0.coords t)) (r : Fin 8) (q : Fin 128) :
    out0_B_2 c (grid0.coords t) (ms0_0 t) (hs0_0 t) (ms0_1 t) (hs0_1 t) (ms0_2 t) (hs0_2 t) (ms0_3 t) (hs0_3 t) hc (iblk m c 0 t) (iblk m c 1 t) xo (ix2 r q) = (xo (ix2 r q) + half * ∑ k : Fin 512, rowN m c (t.val * 512 + k.val) : EReal) :=
  (out_B_2 c (grid0.coords t) (ms0_0 t) (hs0_0 t) (ms0_1 t) (hs0_1 t) (ms0_2 t) (hs0_2 t) (ms0_3 t) (hs0_3 t) (iblk m c 0 t) (iblk m c 1 t) xo hc r q).trans (congrArg (xo (ix2 r q) + ·) (adds_blk m c t))

theorem outs_3 (c : Dev nD) (t : Fin cfg0.N) (r : Fin 512) (q : Fin 1024) :
    (outsAt0 m c t.val t.isLt).2 (ix2 r q) = (grad m c (rowAt t r) q : EReal) := by
  by_cases h0 : t.val % 16 = 0
  · refine Eq.trans (congrArg (fun z => z.2 (ix2 r q)) (outsAt0_A m c t h0)) ?_
    have e := ptA_3 m c t ((hcond0_0 t).mpr h0) r q
    dsimp only
    rw [e]
  · refine Eq.trans (congrArg (fun z => z.2 (ix2 r q)) (outsAt0_B m c t h0)) ?_
    dsimp only
    rw [ptB_3 m c t _ (fun hc => h0 ((hcond0_0 t).mp hc)) r q]

theorem outs_2 (c : Dev nD) (r : Fin 8) (q : Fin 128) : ∀ (n : ℕ) (h : n < cfg0.N),
    (outsAt0 m c n h).1 (ix2 r q) = (half * ∑ s ∈ Finset.range (n + 1), ∑ k : Fin 512, rowN m c (s * 512 + k.val) : EReal)
  | 0, h => by
    refine Eq.trans (congrArg (fun z => z.1 (ix2 r q)) (outsAt0_A m c ⟨0, h⟩ rfl)) ?_
    rw [Finset.sum_range_one]
    have e := ptA_2 m c ⟨0, h⟩ ((hcond0_0 ⟨0, h⟩).mpr rfl) r q
    dsimp only
    rw [e]
  | n + 1, h => by
    have hN : cfg0.N = 16 := N_0
    have hB : ¬(⟨n + 1, h⟩ : Fin cfg0.N).val % 16 = 0 := by dsimp only; omega
    refine Eq.trans (congrArg (fun z => z.1 (ix2 r q)) (outsAt0_B m c ⟨n + 1, h⟩ hB)) ?_
    rw [Finset.sum_range_succ, half_mul_add]
    exact (ptB_2 m c ⟨n + 1, h⟩ _ (fun hc => hB ((hcond0_0 _).mp hc)) r q).trans (congrArg (· + _) (outs_2 c r q n _))

/-- The loss in every entry of its array, and the gradient's array. -/
def loss (c : Dev nD) : EReal := half * ∑ k : Fin 8192, row m c k
def G2 (c : Dev nD) : Buf (Elt Ideal) ((c : Thread nD τ).loc main_v0_0) := fun _ => loss m c

theorem final2 (c : Dev nD) : (dats m 0 c).arrAt 2 cfg0.N = G2 m c := by
  have hN : cfg0.N = 16 := N_0
  refine (dats m 0 c).arrAt_eq_of_cover 2 (G2 m c) (fun t hf => ?_) fun i => ?_
  · have h15 : t.val = 15 := by have := (flush0_2 t).mp hf; have := t.isLt; omega
    funext y
    show (dats m 0 c).flushed 2 t y = loss m c
    rw [flushed2]
    have hx : (cfg0.win 2).xinj (grid0.coords t) y = (ix2 (y 0) (y 1) : S8x128.Idx) := by
      funext a; apply Fin.ext
      match a with
      | ⟨0, _⟩ => rfl
      | ⟨1, _⟩ => rfl
    show (outsAt0 m c t.val t.isLt).1 ((cfg0.win 2).xinj (grid0.coords t) y) = _
    rw [hx]
    refine (outs_2 m c (y 0) (y 1) t.val t.isLt).trans ?_
    rw [h15]
    refine congrArg (half * ·) ((Sums.blocks 512 (rowN m c) 16).trans (Finset.sum_congr rfl fun k _ => ?_))
    exact dif_pos k.isLt
  · have hi0 : (i 0).val < 8 := (i 0).isLt
    have hi1 : (i 1).val < 128 := (i 1).isLt
    have ht : 15 < cfg0.N := by omega
    obtain ⟨e0, e1⟩ := idx2 ⟨15, ht⟩
    refine ⟨⟨15, ht⟩, (flush0_2 _).mpr rfl, ?_⟩
    show i ∈ ((View.whole main_v0_0).slice (win0_2.rect ⟨15, ht⟩)).set
    rw [View.set_slice_whole, Rect.mem_set_unit]
    intro a
    match a with
    | ⟨0, _⟩ => show win0_2.index ⟨15, ht⟩ (0 : Fin 2) * 8 ≤ (i 0).val ∧ (i 0).val < win0_2.index ⟨15, ht⟩ (0 : Fin 2) * 8 + 8; rw [e0]; omega
    | ⟨1, _⟩ => show win0_2.index ⟨15, ht⟩ (1 : Fin 2) * 128 ≤ (i 1).val ∧ (i 1).val < win0_2.index ⟨15, ht⟩ (1 : Fin 2) * 128 + 128; rw [e1]; omega

/-- The array of this result. -/
def G3 (c : Dev nD) : Buf (Elt Ideal) ((c : Thread nD τ).loc main_v0_1) := fun i => grad m c (i 0) (i 1)

theorem final3 (c : Dev nD) : (dats m 0 c).arrAt 3 cfg0.N = G3 m c := by
  have hN : cfg0.N = 16 := N_0
  refine (dats m 0 c).arrAt_eq_of_cover 3 (G3 m c) (fun t hf => ?_) fun i => ?_
  · obtain ⟨e0, e1⟩ := idx3 t
    funext y
    show (dats m 0 c).flushed 3 t y = G3 m c (((cfg0.win 3).blk t).view.emb y)
    rw [flushed3]
    have hx : (cfg0.win 3).xinj (grid0.coords t) y = (ix2 (y 0) (y 1) : S512x1024.Idx) := by
      funext a; apply Fin.ext
      match a with
      | ⟨0, _⟩ => rfl
      | ⟨1, _⟩ => rfl
    show (outsAt0 m c t.val t.isLt).2 ((cfg0.win 3).xinj (grid0.coords t) y) = _
    rw [hx]
    refine (outs_3 m c t (y 0) (y 1)).trans ?_
    have ea : (((cfg0.win 3).blk t).view.emb y 0 : Fin 8192) = rowAt t (y 0) := by
      apply Fin.ext; show win0_3.index t (0 : Fin 2) * 512 + 1 * (y 0).val = t.val * 512 + (y 0).val; omega
    have eb : (((cfg0.win 3).blk t).view.emb y 1 : Fin 1024) = y 1 := by
      apply Fin.ext; show win0_3.index t (1 : Fin 2) * 1024 + 1 * (y 1).val = (y 1).val; omega
    exact (congrArg₂ (grad m c) ea eb).symm
  · have hi0 : (i 0).val < 8192 := (i 0).isLt
    have hi1 : (i 1).val < 1024 := (i 1).isLt
    have ht : ((i 0).val / 512) < cfg0.N := by omega
    obtain ⟨e0, e1⟩ := idx3 ⟨((i 0).val / 512), ht⟩
    refine ⟨⟨((i 0).val / 512), ht⟩, flush0_3 _, ?_⟩
    show i ∈ ((View.whole main_v0_1).slice (win0_3.rect ⟨((i 0).val / 512), ht⟩)).set
    rw [View.set_slice_whole, Rect.mem_set_unit]
    intro a
    match a with
    | ⟨0, _⟩ => show win0_3.index ⟨((i 0).val / 512), ht⟩ (0 : Fin 2) * 512 ≤ (i 0).val ∧ (i 0).val < win0_3.index ⟨((i 0).val / 512), ht⟩ (0 : Fin 2) * 512 + 512; rw [e0]; dsimp only; omega
    | ⟨1, _⟩ => show win0_3.index ⟨((i 0).val / 512), ht⟩ (1 : Fin 2) * 1024 ≤ (i 1).val ∧ (i 1).val < win0_3.index ⟨((i 0).val / 512), ht⟩ (1 : Fin 2) * 1024 + 1024; rw [e1]; dsimp only; omega

end Cert.Loss

end
-- ==== Proof.LossRef.lean ====
module

public import proofs.«01_k».proof.Proof.Gen.Reference18Ideal.Run
public import proofs.«01_k».proof.Proof.Loss
public import Idealize.ShloMosaic.Lib.Pointwise

@[expose] public section

set_option maxRecDepth 16384

noncomputable section

namespace Cert.LossRef

open Idealize.ShloMosaic Idealize.ShloMosaic.TcCoe Idealize.SL.Sem
open Cert.Reference18Ideal Cert.Reference18Ideal.Gen

variable (x t : Vec Ideal S8192x1024 .f32)

/-- The squared errors and the mean of each row of the reference. -/
abbrev sq : FVec Ideal S8192x1024 .f32 := mulf (F := Ideal) (subf x t) (subf x t)
abbrev mean : FVec Ideal S8192 .f32 := Host.divf (Host.reduceAdd (sq x t) (constant (F := Ideal) S_ .f32 0x00000000#32) reducesTo_S8192x1024_S8192_d1 h_S_) (broadcastInDim S8192 ![] bcast_S_S8192 (constant (F := Ideal) S_ .f32 0x44800000#32))

theorem loss_at (r : Fin 8) (q : Fin 128) :
    (broadcastInDim S8x128 ![] bcast_S_S8x128 (mulf (constant (F := Ideal) S_ .f32 0x3F000000#32) (Host.reduceAdd (mean x t) (constant (F := Ideal) S_ .f32 0x00000000#32) reducesTo_S8192_S_d0 h_S_)) : FVec Ideal S8x128 .f32) (ix2 r q)
      = (Loss.half * ∑ k : Fin 8192, Ideal.div (∑ q : Fin 1024, (x (ix2 k q) - t (ix2 k q)) * (x (ix2 k q) - t (ix2 k q))) Norm.len : EReal) := by
  pointwise

theorem scale (e : EReal) : Ideal.div (Ideal.ofBits .f32 0x3F000000#32) (Ideal.ofBits .f32 0x44800000#32) * (Ideal.ofBits .f32 0x40000000#32 * e) = e * Ideal.ofBits .f32 0x3A800000#32 := by
  rw [← mul_assoc, mul_comm e]
  congr 1
  have e0 : Ideal.ofBits .f32 0x3F000000#32 = ((1 / 2 : ℝ) : EReal) := by simp [Ideal.ofBits, Ideal.ieee, -EReal.coe_mul]; norm_num
  have e1 : Ideal.ofBits .f32 0x44800000#32 = ((1024 : ℝ) : EReal) := by simp [Ideal.ofBits, Ideal.ieee, -EReal.coe_mul]; norm_num
  have e2 : Ideal.ofBits .f32 0x40000000#32 = ((2 : ℝ) : EReal) := by simp [Ideal.ofBits, Ideal.ieee, -EReal.coe_mul]; norm_num
  have e3 : Ideal.ofBits .f32 0x3A800000#32 = ((1 / 1024 : ℝ) : EReal) := by simp [Ideal.ofBits, Ideal.ieee, -EReal.coe_mul]; norm_num
  rw [e0, e1, e2, e3]
  unfold Ideal.div
  rw [if_neg (by exact_mod_cast (by norm_num : (1024 : ℝ) ≠ 0)), ← EReal.coe_inv, ← EReal.coe_mul, ← EReal.coe_mul]
  congr 1
  norm_num

theorem grad_at (r : Fin 8192) (q : Fin 1024) :
    (mulf (broadcastInDim S8192x1024 ![0] bcast_S8192_S8192x1024_0 (Host.divf (broadcastInDim S8192 ![] bcast_S_S8192 (mulf (constant (F := Ideal) S_ .f32 0x3F000000#32) (constant (F := Ideal) S_ .f32 0x3F800000#32))) (broadcastInDim S8192 ![] bcast_S_S8192 (constant (F := Ideal) S_ .f32 0x44800000#32)))) (mulf (broadcastInDim S8192x1024 ![] bcast_S_S8192x1024 (constant (F := Ideal) S_ .f32 0x40000000#32)) (subf x t)) : FVec Ideal S8192x1024 .f32) (ix2 r q)
      = ((x (ix2 r q) - t (ix2 r q)) * Ideal.ofBits .f32 0x3A800000#32 : EReal) := by
  refine Eq.trans ?_ (scale _)
  pointwise

end Cert.LossRef

end
-- ==== Proof.AdaGrad.lean ====
module

public import proofs.«01_k».proof.Proof.Gen.Kernel19Ideal.Value
public import proofs.«01_k».proof.Proof.Sigm
public import Idealize.ShloMosaic.Lib.Pointwise

@[expose] public section

set_option maxRecDepth 16384

noncomputable section

namespace Cert.AdaGrad

open Idealize.ShloMosaic Idealize.ShloMosaic.TcCoe Idealize.SL.Sem
open Cert.Kernel19Ideal Cert.Kernel19Ideal.Gen Cert.Kernel19Ideal.Value

variable (m : (ℓ : Loc nD τ sig) → Buf (Elt Ideal) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- The gated conditioning at an entry. -/
def cond (x : Vec Ideal S8x1024 .f32) (b : Fin 8) (d : Fin 1024) : EReal := x (ix2 b d) * Ideal.div 1 (1 + Ideal.exp (-x (ix2 b d)))

section Body

variable (x0 : Vec Ideal S8x1024 .f32) (x1 : Vec Ideal S1x8x512 .f32)

theorem pay1_apply (l : Fin 1) (r : Fin 1024) (q : Fin 512) :
    (k0_pay1 (F := Ideal) x0 x1) (ix3 l r q) = (∑ b : Fin 8, cond x0 b r * x1 (ix3 0 b q) : EReal) := by
  unfold cond
  simp only [← Sigm.tanh_half]
  obtain rfl : l = 0 := Subsingleton.elim _ _
  pointwise [k0_pay1]

theorem out_2 (l : Fin 1) (r : Fin 1024) (q : Fin 512) : out0_2 x0 x1 (ix3 l r q) = (∑ b : Fin 8, cond x0 b r * x1 (ix3 0 b q) : EReal) := by
  unfold out0_2
  rw [View.canon_cons_unit_zero hz3, View.ld_unit_zero hz, View.ld_unit_zero hz3]
  exact pay1_apply _ _ l r q

end Body

/-- The conditioning, and the other operand, as launched. -/
abbrev C (c : Dev nD) : Vec Ideal S8x1024 .f32 := m ((c : Thread nD τ).loc main_arg0)
abbrev W (c : Dev nD) : Vec Ideal S4x8x1536 .f32 := m ((c : Thread nD τ).loc main_arg1)

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 3) = t.val / 3 ∧ win0_1.index t (1 : Fin 3) = 0 ∧ win0_1.index t (2 : Fin 3) = t.val % 3 :=
  (by decide +kernel : ∀ t : Fin grid0.N, win0_1.index t (0 : Fin 3) = t.val / 3 ∧ win0_1.index t (1 : Fin 3) = 0 ∧ win0_1.index t (2 : Fin 3) = t.val % 3)
theorem idx2 : ∀ t : Fin cfg0.N, win0_2.index t (0 : Fin 3) = t.val / 3 ∧ win0_2.index t (1 : Fin 3) = 0 ∧ win0_2.index t (2 : Fin 3) = t.val % 3 :=
  (by decide +kernel : ∀ t : Fin grid0.N, win0_2.index t (0 : Fin 3) = t.val / 3 ∧ win0_2.index t (1 : Fin 3) = 0 ∧ win0_2.index t (2 : Fin 3) = t.val % 3)

/-- Layer and column of a point's block. -/
abbrev layAt (t : Fin cfg0.N) : Fin 4 := ⟨t.val / 3, by have := t.isLt; have hN : cfg0.N = 12 := N_0; omega⟩
abbrev colAt (t : Fin cfg0.N) (q : Fin 512) : Fin 1536 := ⟨t.val % 3 * 512 + q.val, by have := q.isLt; omega⟩

theorem blk0 (c : Dev nD) (t : Fin cfg0.N) (r : Fin 8) (q : Fin 1024) : (iblk m c 0 t : Vec Ideal S8x1024 .f32) (ix2 r q) = C m c (ix2 (r) (q)) := by
  obtain ⟨e0, e1⟩ := idx0 t
  show m _ _ = m _ _
  congr 1
  funext a; apply Fin.ext
  match a with
  | ⟨0, _⟩ => show win0_0.index t (0 : Fin 2) * 8 + 1 * r.val = r.val; omega
  | ⟨1, _⟩ => show win0_0.index t (1 : Fin 2) * 1024 + 1 * q.val = q.val; omega
theorem blk1 (c : Dev nD) (t : Fin cfg0.N) (r : Fin 8) (q : Fin 512) : (iblk m c 1 t : Vec Ideal S1x8x512 .f32) (ix3 0 r q) = W m c (ix3 (layAt t) r (colAt t q)) := by
  obtain ⟨e0, e1, e2⟩ := idx1 t
  show m _ _ = m _ _
  congr 1
  funext a; apply Fin.ext
  match a with
  | ⟨0, _⟩ => show win0_1.index t (0 : Fin 3) * 1 + 1 * 0 = t.val / 3; omega
  | ⟨1, _⟩ => show win0_1.index t (1 : Fin 3) * 8 + 1 * r.val = r.val; omega
  | ⟨2, _⟩ => show win0_1.index t (2 : Fin 3) * 512 + 1 * q.val = t.val % 3 * 512 + q.val; omega

/-- The weight's gradient at an entry. -/
def val (c : Dev nD) (l : Fin 4) (r : Fin 1024) (q : Fin 1536) : EReal := ∑ b : Fin 8, cond (C m c) b r * W m c (ix3 l b q)

theorem cond_blk (c : Dev nD) (t : Fin cfg0.N) (b : Fin 8) (d : Fin 1024) : cond (iblk m c 0 t) b d = cond (C m c) b d := by
  unfold cond
  rw [blk0]

theorem out2_at (c : Dev nD) (t : Fin cfg0.N) (l : Fin 1) (r : Fin 1024) (q : Fin 512) :
    out0_2 (iblk m c 0 t) (iblk m c 1 t) (ix3 l r q) = val m c (layAt t) r (colAt t q) :=
  (out_2 _ _ l r q).trans (Finset.sum_congr rfl fun k _ => congrArg₂ (· * ·) (cond_blk m c t k r) (blk1 m c t k q))

/-- The array of this result. -/
def G2 (c : Dev nD) : Buf (Elt Ideal) ((c : Thread nD τ).loc main_v0) := fun i => val m c (i 0) (i 1) (i 2)

theorem final2 (c : Dev nD) : (dats m 0 c).arrAt 2 cfg0.N = G2 m c := by
  have hN : cfg0.N = 12 := N_0
  refine (dats m 0 c).arrAt_eq_of_cover 2 (G2 m c) (fun t hf => ?_) fun i => ?_
  · obtain ⟨e0, e1, e2⟩ := idx2 t
    funext y
    show (dats m 0 c).flushed 2 t y = G2 m c (((cfg0.win 2).blk t).view.emb y)
    rw [flushed2]
    have hx : (cfg0.win 2).xinj (grid0.coords t) y = (ix3 (y 0) (y 1) (y 2) : S1x1024x512.Idx) := by
      funext a; apply Fin.ext
      match a with
      | ⟨0, _⟩ => rfl
      | ⟨1, _⟩ => rfl
      | ⟨2, _⟩ => rfl
    have y0 : (y 0).val < 1 := (y 0).isLt
    show out0_2 (iblk m c 0 t) (iblk m c 1 t) ((cfg0.win 2).xinj (grid0.coords t) y) = _
    rw [hx]
    refine (out2_at m c t (y 0) (y 1) (y 2)).trans ?_
    have ea : (((cfg0.win 2).blk t).view.emb y 0 : Fin 4) = layAt t := by
      apply Fin.ext; show win0_2.index t (0 : Fin 3) * 1 + 1 * (y 0).val = t.val / 3; omega
    have eb : (((cfg0.win 2).blk t).view.emb y 1 : Fin 1024) = y 1 := by
      apply Fin.ext; show win0_2.index t (1 : Fin 3) * 1024 + 1 * (y 1).val = (y 1).val; omega
    have ec : (((cfg0.win 2).blk t).view.emb y 2 : Fin 1536) = colAt t (y 2) := by
      apply Fin.ext; show win0_2.index t (2 : Fin 3) * 512 + 1 * (y 2).val = t.val % 3 * 512 + (y 2).val; omega
    show _ = val m c _ _ _
    rw [ea, eb, ec]
  · have hi0 : (i 0).val < 4 := (i 0).isLt
    have hi1 : (i 1).val < 1024 := (i 1).isLt
    have hi2 : (i 2).val < 1536 := (i 2).isLt
    have ht : (i 0).val * 3 + (i 2).val / 512 < cfg0.N := by omega
    obtain ⟨e0, e1, e2⟩ := idx2 ⟨(i 0).val * 3 + (i 2).val / 512, ht⟩
    refine ⟨⟨(i 0).val * 3 + (i 2).val / 512, ht⟩, flush0_2 _, ?_⟩
    show i ∈ ((View.whole main_v0).slice (win0_2.rect ⟨(i 0).val * 3 + (i 2).val / 512, ht⟩)).set
    rw [View.set_slice_whole, Rect.mem_set_unit]
    intro a
    match a with
    | ⟨0, _⟩ => show win0_2.index ⟨(i 0).val * 3 + (i 2).val / 512, ht⟩ (0 : Fin 3) * 1 ≤ (i 0).val ∧ (i 0).val < win0_2.index ⟨(i 0).val * 3 + (i 2).val / 512, ht⟩ (0 : Fin 3) * 1 + 1; rw [e0]; dsimp only; omega
    | ⟨1, _⟩ => show win0_2.index ⟨(i 0).val * 3 + (i 2).val / 512, ht⟩ (1 : Fin 3) * 1024 ≤ (i 1).val ∧ (i 1).val < win0_2.index ⟨(i 0).val * 3 + (i 2).val / 512, ht⟩ (1 : Fin 3) * 1024 + 1024; rw [e1]; dsimp only; omega
    | ⟨2, _⟩ => show win0_2.index ⟨(i 0).val * 3 + (i 2).val / 512, ht⟩ (2 : Fin 3) * 512 ≤ (i 2).val ∧ (i 2).val < win0_2.index ⟨(i 0).val * 3 + (i 2).val / 512, ht⟩ (2 : Fin 3) * 512 + 512; rw [e2]; dsimp only; omega

end Cert.AdaGrad

end
-- ==== Proof.AdaGradRef.lean ====
module

public import proofs.«01_k».proof.Proof.Gen.Reference19Ideal.Run
public import Idealize.ShloMosaic.Lib.Pointwise

@[expose] public section

set_option maxRecDepth 16384

noncomputable section

namespace Cert.AdaGradRef

open Idealize.ShloMosaic Idealize.ShloMosaic.TcCoe Idealize.SL.Sem
open Cert.Reference19Ideal Cert.Reference19Ideal.Gen

variable (x : FVec Ideal S8x1024 .f32) (w : FVec Ideal S4x8x1536 .f32)

/-- The gated conditioning of the reference. -/
abbrev S : FVec Ideal S8x1024 .f32 := (mulf x (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf x)))))

theorem S_apply (b : Fin 8) (d : Fin 1024) : S x (ix2 b d) = (x (ix2 b d) * Ideal.div 1 (1 + Ideal.exp (-x (ix2 b d))) : EReal) := by
  pointwise

theorem gen (s : FVec Ideal S8x1024 .f32) (l : Fin 4) (r : Fin 1024) (q : Fin 1536) :
    (transpose S4x1024x1536 [0, 2, 1] (Host.dotGeneral dot_S4x1536x8_S8x1024_S4x1536x1024_2_0_01_1_n_n none (transpose S4x1536x8 [0, 2, 1] w transposes_S4x8x1536_S4x1536x8_0_2_1) s) transposes_S4x1536x1024_S4x1024x1536_0_2_1 : FVec Ideal _ .f32) (ix3 l r q) = (∑ b : Fin 8, w (ix3 l b q) * s (ix2 b r) : EReal) := by
  pointwise

theorem val_at (l : Fin 4) (r : Fin 1024) (q : Fin 1536) :
    (transpose S4x1024x1536 [0, 2, 1] (Host.dotGeneral dot_S4x1536x8_S8x1024_S4x1536x1024_2_0_01_1_n_n none (transpose S4x1536x8 [0, 2, 1] w transposes_S4x8x1536_S4x1536x8_0_2_1) (S x)) transposes_S4x1536x1024_S4x1024x1536_0_2_1 : FVec Ideal _ .f32) (ix3 l r q) = (∑ b : Fin 8, (x (ix2 b r) * Ideal.div 1 (1 + Ideal.exp (-x (ix2 b r)))) * w (ix3 l b q) : EReal) := by
  rw [gen]
  exact Finset.sum_congr rfl fun k _ => by rw [mul_comm, S_apply]

end Cert.AdaGradRef

end
-- ==== Proof.AdaFwd.lean ====
module

public import proofs.«01_k».proof.Proof.Gen.Kernel20Ideal.Value
public import proofs.«01_k».proof.Proof.Sigm
public import Idealize.ShloMosaic.Lib.Pointwise

@[expose] public section

set_option maxRecDepth 16384

noncomputable section

namespace Cert.AdaFwd

open Idealize.ShloMosaic Idealize.ShloMosaic.TcCoe Idealize.SL.Sem
open Cert.Kernel20Ideal Cert.Kernel20Ideal.Gen Cert.Kernel20Ideal.Value

variable (m : (ℓ : Loc nD τ sig) → Buf (Elt Ideal) ℓ)

theorem hz : (![0, 0] : Fin 2 → Nat) = fun _ => 0 := funext fun a => by fin_cases a <;> rfl

theorem hz3 : (![0, 0, 0] : Fin 3 → Nat) = fun _ => 0 := funext fun a => by fin_cases a <;> rfl

/-- The gated conditioning at an entry. -/
def cond (x : Vec Ideal S8x1024 .f32) (b : Fin 8) (d : Fin 1024) : EReal := x (ix2 b d) * Ideal.div 1 (1 + Ideal.exp (-x (ix2 b d)))

section Body

variable (x0 : Vec Ideal S8x1024 .f32) (x1 : Vec Ideal S1x1024x512 .f32)

theorem pay1_apply (l : Fin 1) (r : Fin 8) (q : Fin 512) :
    (k0_pay1 (F := Ideal) x0 x1) (ix3 l r q) = (∑ d : Fin 1024, cond x0 r d * x1 (ix3 0 d q) : EReal) := by
  unfold cond
  simp only [← Sigm.tanh_half]
  obtain rfl : l = 0 := Subsingleton.elim _ _
  pointwise [k0_pay1]

theorem out_2 (l : Fin 1) (r : Fin 8) (q : Fin 512) : out0_2 x0 x1 (ix3 l r q) = (∑ d : Fin 1024, cond x0 r d * x1 (ix3 0 d q) : EReal) := by
  unfold out0_2
  rw [View.canon_cons_unit_zero hz3, View.ld_unit_zero hz, View.ld_unit_zero hz3]
  exact pay1_apply _ _ l r q

end Body

/-- The conditioning, and the other operand, as launched. -/
abbrev C (c : Dev nD) : Vec Ideal S8x1024 .f32 := m ((c : Thread nD τ).loc main_arg0)
abbrev W (c : Dev nD) : Vec Ideal S4x1024x1536 .f32 := m ((c : Thread nD τ).loc main_arg1)

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 3) = t.val / 3 ∧ win0_1.index t (1 : Fin 3) = 0 ∧ win0_1.index t (2 : Fin 3) = t.val % 3 :=
  (by decide +kernel : ∀ t : Fin grid0.N, win0_1.index t (0 : Fin 3) = t.val / 3 ∧ win0_1.index t (1 : Fin 3) = 0 ∧ win0_1.index t (2 : Fin 3) = t.val % 3)
theorem idx2 : ∀ t : Fin cfg0.N, win0_2.index t (0 : Fin 3) = t.val / 3 ∧ win0_2.index t (1 : Fin 3) = 0 ∧ win0_2.index t (2 : Fin 3) = t.val % 3 :=
  (by decide +kernel : ∀ t : Fin grid0.N, win0_2.index t (0 : Fin 3) = t.val / 3 ∧ win0_2.index t (1 : Fin 3) = 0 ∧ win0_2.index t (2 : Fin 3) = t.val % 3)

/-- Layer and column of a point's block. -/
abbrev layAt (t : Fin cfg0.N) : Fin 4 := ⟨t.val / 3, by have := t.isLt; have hN : cfg0.N = 12 := N_0; omega⟩
abbrev colAt (t : Fin cfg0.N) (q : Fin 512) : Fin 1536 := ⟨t.val % 3 * 512 + q.val, by have := q.isLt; omega⟩

theorem blk0 (c : Dev nD) (t : Fin cfg0.N) (r : Fin 8) (q : Fin 1024) : (iblk m c 0 t : Vec Ideal S8x1024 .f32) (ix2 r q) = C m c (ix2 (r) (q)) := by
  obtain ⟨e0, e1⟩ := idx0 t
  show m _ _ = m _ _
  congr 1
  funext a; apply Fin.ext
  match a with
  | ⟨0, _⟩ => show win0_0.index t (0 : Fin 2) * 8 + 1 * r.val = r.val; omega
  | ⟨1, _⟩ => show win0_0.index t (1 : Fin 2) * 1024 + 1 * q.val = q.val; omega
theorem blk1 (c : Dev nD) (t : Fin cfg0.N) (r : Fin 1024) (q : Fin 512) : (iblk m c 1 t : Vec Ideal S1x1024x512 .f32) (ix3 0 r q) = W m c (ix3 (layAt t) r (colAt t q)) := by
  obtain ⟨e0, e1, e2⟩ := idx1 t
  show m _ _ = m _ _
  congr 1
  funext a; apply Fin.ext
  match a with
  | ⟨0, _⟩ => show win0_1.index t (0 : Fin 3) * 1 + 1 * 0 = t.val / 3; omega
  | ⟨1, _⟩ => show win0_1.index t (1 : Fin 3) * 1024 + 1 * r.val = r.val; omega
  | ⟨2, _⟩ => show win0_1.index t (2 : Fin 3) * 512 + 1 * q.val = t.val % 3 * 512 + q.val; omega

/-- The modulation at an entry. -/
def val (c : Dev nD) (l : Fin 4) (r : Fin 8) (q : Fin 1536) : EReal := ∑ d : Fin 1024, cond (C m c) r d * W m c (ix3 l d q)

theorem cond_blk (c : Dev nD) (t : Fin cfg0.N) (b : Fin 8) (d : Fin 1024) : cond (iblk m c 0 t) b d = cond (C m c) b d := by
  unfold cond
  rw [blk0]

theorem out2_at (c : Dev nD) (t : Fin cfg0.N) (l : Fin 1) (r : Fin 8) (q : Fin 512) :
    out0_2 (iblk m c 0 t) (iblk m c 1 t) (ix3 l r q) = val m c (layAt t) r (colAt t q) :=
  (out_2 _ _ l r q).trans (Finset.sum_congr rfl fun k _ => congrArg₂ (· * ·) (cond_blk m c t r k) (blk1 m c t k q))

/-- The array of this result. -/
def G2 (c : Dev nD) : Buf (Elt Ideal) ((c : Thread nD τ).loc main_v0) := fun i => val m c (i 0) (i 1) (i 2)

theorem final2 (c : Dev nD) : (dats m 0 c).arrAt 2 cfg0.N = G2 m c := by
  have hN : cfg0.N = 12 := N_0
  refine (dats m 0 c).arrAt_eq_of_cover 2 (G2 m c) (fun t hf => ?_) fun i => ?_
  · obtain ⟨e0, e1, e2⟩ := idx2 t
    funext y
    show (dats m 0 c).flushed 2 t y = G2 m c (((cfg0.win 2).blk t).view.emb y)
    rw [flushed2]
    have hx : (cfg0.win 2).xinj (grid0.coords t) y = (ix3 (y 0) (y 1) (y 2) : S1x8x512.Idx) := by
      funext a; apply Fin.ext
      match a with
      | ⟨0, _⟩ => rfl
      | ⟨1, _⟩ => rfl
      | ⟨2, _⟩ => rfl
    have y0 : (y 0).val < 1 := (y 0).isLt
    show out0_2 (iblk m c 0 t) (iblk m c 1 t) ((cfg0.win 2).xinj (grid0.coords t) y) = _
    rw [hx]
    refine (out2_at m c t (y 0) (y 1) (y 2)).trans ?_
    have ea : (((cfg0.win 2).blk t).view.emb y 0 : Fin 4) = layAt t := by
      apply Fin.ext; show win0_2.index t (0 : Fin 3) * 1 + 1 * (y 0).val = t.val / 3; omega
    have eb : (((cfg0.win 2).blk t).view.emb y 1 : Fin 8) = y 1 := by
      apply Fin.ext; show win0_2.index t (1 : Fin 3) * 8 + 1 * (y 1).val = (y 1).val; omega
    have ec : (((cfg0.win 2).blk t).view.emb y 2 : Fin 1536) = colAt t (y 2) := by
      apply Fin.ext; show win0_2.index t (2 : Fin 3) * 512 + 1 * (y 2).val = t.val % 3 * 512 + (y 2).val; omega
    show _ = val m c _ _ _
    rw [ea, eb, ec]
  · have hi0 : (i 0).val < 4 := (i 0).isLt
    have hi1 : (i 1).val < 8 := (i 1).isLt
    have hi2 : (i 2).val < 1536 := (i 2).isLt
    have ht : (i 0).val * 3 + (i 2).val / 512 < cfg0.N := by omega
    obtain ⟨e0, e1, e2⟩ := idx2 ⟨(i 0).val * 3 + (i 2).val / 512, ht⟩
    refine ⟨⟨(i 0).val * 3 + (i 2).val / 512, ht⟩, flush0_2 _, ?_⟩
    show i ∈ ((View.whole main_v0).slice (win0_2.rect ⟨(i 0).val * 3 + (i 2).val / 512, ht⟩)).set
    rw [View.set_slice_whole, Rect.mem_set_unit]
    intro a
    match a with
    | ⟨0, _⟩ => show win0_2.index ⟨(i 0).val * 3 + (i 2).val / 512, ht⟩ (0 : Fin 3) * 1 ≤ (i 0).val ∧ (i 0).val < win0_2.index ⟨(i 0).val * 3 + (i 2).val / 512, ht⟩ (0 : Fin 3) * 1 + 1; rw [e0]; dsimp only; omega
    | ⟨1, _⟩ => show win0_2.index ⟨(i 0).val * 3 + (i 2).val / 512, ht⟩ (1 : Fin 3) * 8 ≤ (i 1).val ∧ (i 1).val < win0_2.index ⟨(i 0).val * 3 + (i 2).val / 512, ht⟩ (1 : Fin 3) * 8 + 8; rw [e1]; dsimp only; omega
    | ⟨2, _⟩ => show win0_2.index ⟨(i 0).val * 3 + (i 2).val / 512, ht⟩ (2 : Fin 3) * 512 ≤ (i 2).val ∧ (i 2).val < win0_2.index ⟨(i 0).val * 3 + (i 2).val / 512, ht⟩ (2 : Fin 3) * 512 + 512; rw [e2]; dsimp only; omega

end Cert.AdaFwd

end
-- ==== Proof.AdaFwdRef.lean ====
module

public import proofs.«01_k».proof.Proof.Gen.Reference20Ideal.Run
public import Idealize.ShloMosaic.Lib.Pointwise

@[expose] public section

set_option maxRecDepth 16384

noncomputable section

namespace Cert.AdaFwdRef

open Idealize.ShloMosaic Idealize.ShloMosaic.TcCoe Idealize.SL.Sem
open Cert.Reference20Ideal Cert.Reference20Ideal.Gen

variable (x : FVec Ideal S8x1024 .f32) (w : FVec Ideal S4x1024x1536 .f32)

/-- The gated conditioning of the reference. -/
abbrev S : FVec Ideal S8x1024 .f32 := (mulf x (Host.divf (broadcastInDim S8x1024 ![] bcast_S_S8x1024 (constant (F := Ideal) S_ .f32 0x3F800000#32)) (addf (broadcastInDim S8x1024 ![] bcast_S_S8x1024 (constant (F := Ideal) S_ .f32 0x3F800000#32)) (Host.exp (Host.negf x)))))

theorem S_apply (b : Fin 8) (d : Fin 1024) : S x (ix2 b d) = (x (ix2 b d) * Ideal.div 1 (1 + Ideal.exp (-x (ix2 b d))) : EReal) := by
  pointwise

theorem gen (s : FVec Ideal S8x1024 .f32) (l : Fin 4) (r : Fin 8) (q : Fin 1536) :
    (transpose S4x8x1536 [0, 2, 1] (Host.dotGeneral dot_S4x1024x1536_S8x1024_S4x1536x8_1_1_02_0_n_n none w s) transposes_S4x1536x8_S4x8x1536_0_2_1 : FVec Ideal _ .f32) (ix3 l r q) = (∑ d : Fin 1024, w (ix3 l d q) * s (ix2 r d) : EReal) := by
  pointwise

theorem val_at (l : Fin 4) (r : Fin 8) (q : Fin 1536) :
    (transpose S4x8x1536 [0, 2, 1] (Host.dotGeneral dot_S4x1024x1536_S8x1024_S4x1536x8_1_1_02_0_n_n none w (S x)) transposes_S4x1536x8_S4x8x1536_0_2_1 : FVec Ideal _ .f32) (ix3 l r q) = (∑ d : Fin 1024, (x (ix2 r d) * Ideal.div 1 (1 + Ideal.exp (-x (ix2 r d)))) * w (ix3 l d q) : EReal) := by
  rw [gen]
  exact Finset.sum_congr rfl fun k _ => by rw [mul_comm, S_apply]

end Cert.AdaFwdRef

end
-- ==== Proof.Sum8.lean ====
module

public import Idealize.ShloMosaic.Lib.Pointwise

@[expose] public section

noncomputable section

namespace Cert.Sum8

open Idealize.ShloMosaic

variable {P : Shape} {M m n : ℕ} (hM : M = 8 * m)

/-- A row of one of the eight parts laid one below another. -/
abbrev pos (k : Fin 8) (r : Fin m) : Fin M :=
  ⟨k.val * m + r.val, by have := r.isLt; have := Nat.mul_le_mul_right m (Nat.le_of_lt_succ k.isLt); omega⟩

/-- The host's sum over the leading axis of the eight parts, at an entry. -/
theorem host (x : FVec Ideal (⟨2, ![M, n]⟩ : Shape) .f32)
    (hc : (⟨2, ![M, n]⟩ : Shape).ShapeCasts ⟨3, ![8, m, n]⟩) (hr : (⟨3, ![8, m, n]⟩ : Shape).ReducesTo [0] ⟨2, ![m, n]⟩) (hp : 0 < P.numel) (r : Fin m) (q : Fin n) :
    (Host.reduceAdd (shapeCast (⟨3, ![8, m, n]⟩ : Shape) x hc) (constant (F := Ideal) P .f32 0x00000000#32) hr hp : FVec Ideal (⟨2, ![m, n]⟩ : Shape) .f32) (ix2 r q)
      = (∑ k : Fin 8, x (ix2 (pos hM k r) q) : EReal) := by
  have e : ∀ k : Fin 8, Shape.reshapeEquiv hc (ix3 k r q) = ix2 (pos hM k r) q := fun k =>
    Shape.reshapeEquiv_eq_of_rowMajor hc (by
      rw [Shape.rowMajor_val_three, Shape.rowMajor_val_two]
      rfl)
  pointwise
  simp only [e]

variable (i0 : ∀ a, (![0 * m, 0] : Fin 2 → ℕ) a + (![m, n] : Fin 2 → ℕ) a ≤ (⟨2, ![M, n]⟩ : Shape).size a)
  (i1 : ∀ a, (![1 * m, 0] : Fin 2 → ℕ) a + (![m, n] : Fin 2 → ℕ) a ≤ (⟨2, ![M, n]⟩ : Shape).size a)
  (i2 : ∀ a, (![2 * m, 0] : Fin 2 → ℕ) a + (![m, n] : Fin 2 → ℕ) a ≤ (⟨2, ![M, n]⟩ : Shape).size a)
  (i3 : ∀ a, (![3 * m, 0] : Fin 2 → ℕ) a + (![m, n] : Fin 2 → ℕ) a ≤ (⟨2, ![M, n]⟩ : Shape).size a)
  (i4 : ∀ a, (![4 * m, 0] : Fin 2 → ℕ) a + (![m, n] : Fin 2 → ℕ) a ≤ (⟨2, ![M, n]⟩ : Shape).size a)
  (i5 : ∀ a, (![5 * m, 0] : Fin 2 → ℕ) a + (![m, n] : Fin 2 → ℕ) a ≤ (⟨2, ![M, n]⟩ : Shape).size a)
  (i6 : ∀ a, (![6 * m, 0] : Fin 2 → ℕ) a + (![m, n] : Fin 2 → ℕ) a ≤ (⟨2, ![M, n]⟩ : Shape).size a)
  (i7 : ∀ a, (![7 * m, 0] : Fin 2 → ℕ) a + (![m, n] : Fin 2 → ℕ) a ≤ (⟨2, ![M, n]⟩ : Shape).size a)

/-- One part of the eight, at an entry. -/
theorem part (x : FVec Ideal (⟨2, ![M, n]⟩ : Shape) .f32) (k : Fin 8)
    (i : ∀ a, (![k.val * m, 0] : Fin 2 → ℕ) a + (![m, n] : Fin 2 → ℕ) a ≤ (⟨2, ![M, n]⟩ : Shape).size a) (r : Fin m) (q : Fin n) :
    (View.ld (e' := .f32) (Val := Elt Ideal) x (Rect.unit (s := ⟨2, ![M, n]⟩) ![k.val * m, 0] ![m, n] i) : FVec Ideal (⟨2, ![m, n]⟩ : Shape) .f32) (ix2 r q) = x (ix2 (pos hM k r) q) := by
  show x _ = x _
  congr 1
  funext a; apply Fin.ext
  match a with
  | ⟨0, _⟩ => show k.val * m + 1 * r.val = k.val * m + r.val; omega
  | ⟨1, _⟩ => show 0 + 1 * q.val = q.val; omega

include hM in
/-- The eight parts added one after another are the host's sum. -/
theorem eight (x : FVec Ideal (⟨2, ![M, n]⟩ : Shape) .f32)
    (hc : (⟨2, ![M, n]⟩ : Shape).ShapeCasts ⟨3, ![8, m, n]⟩) (hr : (⟨3, ![8, m, n]⟩ : Shape).ReducesTo [0] ⟨2, ![m, n]⟩) (hp : 0 < P.numel) :
    (Host.reduceAdd (shapeCast (⟨3, ![8, m, n]⟩ : Shape) x hc) (constant (F := Ideal) P .f32 0x00000000#32) hr hp : FVec Ideal (⟨2, ![m, n]⟩ : Shape) .f32)
      = (addf (addf (addf (addf (addf (addf (addf
          (View.ld (e' := .f32) (Val := Elt Ideal) x (Rect.unit (s := ⟨2, ![M, n]⟩) ![0 * m, 0] ![m, n] i0))
          (View.ld (e' := .f32) (Val := Elt Ideal) x (Rect.unit (s := ⟨2, ![M, n]⟩) ![1 * m, 0] ![m, n] i1)))
          (View.ld (e' := .f32) (Val := Elt Ideal) x (Rect.unit (s := ⟨2, ![M, n]⟩) ![2 * m, 0] ![m, n] i2)))
          (View.ld (e' := .f32) (Val := Elt Ideal) x (Rect.unit (s := ⟨2, ![M, n]⟩) ![3 * m, 0] ![m, n] i3)))
          (View.ld (e' := .f32) (Val := Elt Ideal) x (Rect.unit (s := ⟨2, ![M, n]⟩) ![4 * m, 0] ![m, n] i4)))
          (View.ld (e' := .f32) (Val := Elt Ideal) x (Rect.unit (s := ⟨2, ![M, n]⟩) ![5 * m, 0] ![m, n] i5)))
          (View.ld (e' := .f32) (Val := Elt Ideal) x (Rect.unit (s := ⟨2, ![M, n]⟩) ![6 * m, 0] ![m, n] i6)))
          (View.ld (e' := .f32) (Val := Elt Ideal) x (Rect.unit (s := ⟨2, ![M, n]⟩) ![7 * m, 0] ![m, n] i7)) : FVec Ideal (⟨2, ![m, n]⟩ : Shape) .f32) := by
  funext j
  rw [eq_ix2 j]
  refine (host hM x hc hr hp (j 0) (j 1)).trans ((Fin.sum_univ_eight _).trans ?_)
  rw [← part hM x 0 i0 (j 0) (j 1), ← part hM x 1 i1 (j 0) (j 1), ← part hM x 2 i2 (j 0) (j 1), ← part hM x 3 i3 (j 0) (j 1), ← part hM x 4 i4 (j 0) (j 1), ← part hM x 5 i5 (j 0) (j 1), ← part hM x 6 i6 (j 0) (j 1), ← part hM x 7 i7 (j 0) (j 1)]
  rfl

include hM in
/-- Each of the eight parts lies inside the whole. -/
theorem bound (k : Fin 8) : ∀ a, (![k.val * m, 0] : Fin 2 → ℕ) a + (![m, n] : Fin 2 → ℕ) a ≤ (⟨2, ![M, n]⟩ : Shape).size a := fun a => by
  have h := Nat.mul_le_mul_right m (Nat.succ_le_of_lt k.isLt)
  rw [Nat.succ_mul] at h
  match a with
  | ⟨0, _⟩ => show k.val * m + m ≤ M; omega
  | ⟨1, _⟩ => show 0 + n ≤ n; omega

variable {L l : ℕ}

include hM in
/-- The eight parts in layers: the host's sum over the leading axis is the eight parts added one after another, cut into the layers. -/
theorem layers (hL : m = L * l) (x : FVec Ideal (⟨2, ![M, n]⟩ : Shape) .f32)
    (hc : (⟨2, ![M, n]⟩ : Shape).ShapeCasts ⟨4, ![8, L, l, n]⟩) (hr : (⟨4, ![8, L, l, n]⟩ : Shape).ReducesTo [0] ⟨3, ![L, l, n]⟩)
    (hl : (⟨2, ![m, n]⟩ : Shape).ShapeCasts ⟨3, ![L, l, n]⟩) (hp : 0 < P.numel) :
    (Host.reduceAdd (shapeCast (⟨4, ![8, L, l, n]⟩ : Shape) x hc) (constant (F := Ideal) P .f32 0x00000000#32) hr hp : FVec Ideal (⟨3, ![L, l, n]⟩ : Shape) .f32)
      = shapeCast (⟨3, ![L, l, n]⟩ : Shape) (addf (addf (addf (addf (addf (addf (addf
          (View.ld (e' := .f32) (Val := Elt Ideal) x (Rect.unit (s := ⟨2, ![M, n]⟩) ![0 * m, 0] ![m, n] i0))
          (View.ld (e' := .f32) (Val := Elt Ideal) x (Rect.unit (s := ⟨2, ![M, n]⟩) ![1 * m, 0] ![m, n] i1)))
          (View.ld (e' := .f32) (Val := Elt Ideal) x (Rect.unit (s := ⟨2, ![M, n]⟩) ![2 * m, 0] ![m, n] i2)))
          (View.ld (e' := .f32) (Val := Elt Ideal) x (Rect.unit (s := ⟨2, ![M, n]⟩) ![3 * m, 0] ![m, n] i3)))
          (View.ld (e' := .f32) (Val := Elt Ideal) x (Rect.unit (s := ⟨2, ![M, n]⟩) ![4 * m, 0] ![m, n] i4)))
          (View.ld (e' := .f32) (Val := Elt Ideal) x (Rect.unit (s := ⟨2, ![M, n]⟩) ![5 * m, 0] ![m, n] i5)))
          (View.ld (e' := .f32) (Val := Elt Ideal) x (Rect.unit (s := ⟨2, ![M, n]⟩) ![6 * m, 0] ![m, n] i6)))
          (View.ld (e' := .f32) (Val := Elt Ideal) x (Rect.unit (s := ⟨2, ![M, n]⟩) ![7 * m, 0] ![m, n] i7)) : FVec Ideal (⟨2, ![m, n]⟩ : Shape) .f32) hl := by
  funext j
  obtain ⟨a, b, q, rfl⟩ : ∃ (a : Fin L) (b : Fin l) (q : Fin n), j = ix3 a b q := ⟨j 0, j 1, j 2, eq_ix3 j⟩
  have hrow : a.val * l + b.val < m := by
    have h0 := a.isLt
    have h1 := b.isLt
    have := Nat.mul_le_mul_right l (Nat.succ_le_of_lt h0)
    rw [Nat.succ_mul] at this
    omega
  have e : ∀ k : Fin 8, Shape.reshapeEquiv hc (ix4 k a b q) = ix2 (pos hM k ⟨a.val * l + b.val, hrow⟩) q := fun k =>
    Shape.reshapeEquiv_eq_of_rowMajor hc (by
      rw [Shape.rowMajor_val_four, Shape.rowMajor_val_two]
      show (k.val * m + (a.val * l + b.val)) * n + q.val = ((k.val * L + a.val) * l + b.val) * n + q.val
      rw [hL]; ring)
  have e' : Shape.reshapeEquiv hl (ix3 a b q) = ix2 ⟨a.val * l + b.val, hrow⟩ q :=
    Shape.reshapeEquiv_eq_of_rowMajor hl (by
      rw [Shape.rowMajor_val_three, Shape.rowMajor_val_two]
      rfl)
  have hs : (Host.reduceAdd (shapeCast (⟨4, ![8, L, l, n]⟩ : Shape) x hc) (constant (F := Ideal) P .f32 0x00000000#32) hr hp : FVec Ideal (⟨3, ![L, l, n]⟩ : Shape) .f32) (ix3 a b q)
      = (∑ k : Fin 8, x (ix2 (pos hM k ⟨a.val * l + b.val, hrow⟩) q) : EReal) := by
    pointwise
    simp only [e]
  refine hs.trans ?_
  show _ = (addf _ _ : FVec Ideal (⟨2, ![m, n]⟩ : Shape) .f32) (Shape.reshapeEquiv hl (ix3 a b q))
  rw [e']
  refine (Fin.sum_univ_eight _).trans ?_
  rw [← part hM x 0 i0 _ q, ← part hM x 1 i1 _ q, ← part hM x 2 i2 _ q, ← part hM x 3 i3 _ q, ← part hM x 4 i4 _ q, ← part hM x 5 i5 _ q, ← part hM x 6 i6 _ q, ← part hM x 7 i7 _ q]
  rfl

end Cert.Sum8

end
-- ==== Proof.DownLn.lean ====
module

public import proofs.«01_k».proof.Proof.Gen.Kernel22Ideal.Value
public import proofs.«01_k».proof.Proof.Norm
public import Idealize.ShloMosaic.Lib.Pointwise

@[expose] public section

set_option maxRecDepth 16384

noncomputable section

namespace Cert.DownLn

open Idealize.ShloMosaic Idealize.ShloMosaic.TcCoe Idealize.SL.Sem
open Cert.Kernel22Ideal Cert.Kernel22Ideal.Gen Cert.Kernel22Ideal.Value

variable (m : (ℓ : Loc nD τ sig) → Buf (Elt Ideal) ℓ)

theorem hz : (![0, 0] : Fin 2 → Nat) = fun _ => 0 := funext fun a => by fin_cases a <;> rfl

theorem ld_row {o : ℕ} (ho : o < 8) (x : Vec Ideal S8x1024 .f32) {size : Fin 2 → ℕ} (hs : size = ![1, 1024]) (inb : ∀ a, (![o, 0] : Fin 2 → ℕ) a + size a ≤ S8x1024.size a)
    (y : (Rect.unit (s := S8x1024) ![o, 0] size inb).shape.Idx) (q : Fin 1024) (hy : (y 1).val = q.val) :
    View.ld x (Rect.unit (s := S8x1024) ![o, 0] size inb) y = x (ix2 ⟨o, ho⟩ q) := by
  subst hs
  show x _ = x _
  congr 1
  funext a; apply Fin.ext
  match a with
  | ⟨0, _⟩ => show o + 1 * (y 0).val = o; have : (y 0).val < 1 := (y 0).isLt; omega
  | ⟨1, _⟩ => show 0 + 1 * (y 1).val = q.val; omega

section Body

variable (x0 : Vec Ideal S512x2816 .bf16) (x1 : Vec Ideal S2816x1024 .bf16) (x2 : Vec Ideal S512x1024 .f32) (x3 x4 : Vec Ideal S8x1024 .f32)

theorem gate (x : Vec Ideal S8x1024 .f32) (q : Fin 1024) : View.ld x r0_3 (ix2 (0 : Fin 1) q : S1x1024.Idx) = x (ix2 5 q) := ld_row (o := 5) (by decide) x rfl _ (ix2 (0 : Fin 1) q) q rfl
theorem scale (x : Vec Ideal S8x1024 .f32) (q : Fin 1024) : View.ld x r0_4 (ix2 (0 : Fin 1) q : S1x1024.Idx) = x (ix2 2 q) := ld_row (o := 2) (by decide) x rfl _ (ix2 (0 : Fin 1) q) q rfl
theorem shift (x : Vec Ideal S8x1024 .f32) (q : Fin 1024) : View.ld x r0_5 (ix2 (0 : Fin 1) q : S1x1024.Idx) = x (ix2 3 q) := ld_row (o := 3) (by decide) x rfl _ (ix2 (0 : Fin 1) q) q rfl

/-- The product at an entry of the block. -/
def pb (r : Fin 512) (q : Fin 1024) : EReal := ∑ k : Fin 2816, x0 (ix2 r k) * x1 (ix2 k q)

/-- The residual stream after the product at an entry of the block. -/
def rb (r : Fin 512) (q : Fin 1024) : EReal := Norm.alpha * x2 (ix2 r q) + (1 + x3 (ix2 5 q)) * pb x0 x1 r q

/-- Its normalised row. -/
def nb (r : Fin 512) (q : Fin 1024) : EReal := Norm.norm (rb x0 x1 x2 x3 r) q * x4 (ix2 2 q) + x4 (ix2 3 q)

theorem pay3_apply (r : Fin 512) (q : Fin 1024) : (k0_pay3 (F := Ideal) x0 x1) (ix2 r q) = pb x0 x1 r q := by
  unfold pb
  pointwise [k0_pay3, k0_pay2]

theorem pay4_apply (a : Vec Ideal S1x1024 .f32) (r : Fin 512) (q : Fin 1024) :
    (k0_pay4 (F := Ideal) x0 x1 x2 a) (ix2 r q) = (Norm.alpha * x2 (ix2 r q) + (1 + a (ix2 0 q)) * pb x0 x1 r q : EReal) := by
  unfold pb
  pointwise [k0_pay4, k0_pay2]

theorem res_apply (r : Fin 512) (q : Fin 1024) :
    (k0_pay4 (F := Ideal) x0 x1 x2 (View.ld x3 r0_3)) (ix2 r q) = rb x0 x1 x2 x3 r q :=
  (pay4_apply x0 x1 x2 _ r q).trans (congrArg (fun a => Norm.alpha * x2 (ix2 r q) + (1 + a) * pb x0 x1 r q) (gate x3 q))

theorem pay5_apply (a b : Vec Ideal S1x1024 .f32) (r : Fin 512) (q : Fin 1024) :
    (k0_pay5 (F := Ideal) x0 x1 x2 a b) (ix2 r q) = (Norm.norm (fun k => (k0_pay4 (F := Ideal) x0 x1 x2 a) (ix2 r k)) q * b (ix2 0 q) : EReal) := by
  unfold Norm.norm Norm.var Norm.mean
  pointwise [k0_pay5]

theorem pay1_apply (v : Vec Ideal S512x1024 .f32) (b : Vec Ideal S1x1024 .f32) (r : Fin 512) (q : Fin 1024) :
    (k0_pay1 (F := Ideal) v b) (ix2 r q) = (v (ix2 r q) + b (ix2 0 q) : EReal) := by
  pointwise [k0_pay1]

theorem nb_apply (r : Fin 512) (q : Fin 1024) :
    (k0_pay1 (F := Ideal) (k0_pay5 (F := Ideal) x0 x1 x2 (View.ld x3 r0_3) (View.ld x4 r0_4)) (View.ld x4 r0_5)) (ix2 r q) = nb x0 x1 x2 x3 x4 r q := by
  refine (pay1_apply _ _ r q).trans ?_
  unfold nb
  refine congrArg₂ (· + ·) ((pay5_apply _ _ _ _ _ r q).trans (congrArg₂ (fun f b => Norm.norm f q * b) (funext fun k => res_apply x0 x1 x2 x3 r k) (scale x4 q))) (shift x4 q)

theorem out_5 (r : Fin 512) (q : Fin 1024) : out0_5 x0 x1 x2 x3 x4 (ix2 r q) = pb x0 x1 r q := by
  unfold out0_5
  rw [View.canon_cons_unit_zero hz, View.ld_unit_zero hz, View.ld_unit_zero hz]
  exact pay3_apply _ _ r q

theorem out_6 (r : Fin 512) (q : Fin 1024) : out0_6 x0 x1 x2 x3 x4 (ix2 r q) = rb x0 x1 x2 x3 r q := by
  unfold out0_6
  rw [View.canon_cons_unit_zero hz, View.ld_unit_zero hz, View.ld_unit_zero hz, View.ld_unit_zero hz]
  exact res_apply _ _ _ _ r q

theorem out_7 (r : Fin 512) (q : Fin 1024) : out0_7 x0 x1 x2 x3 x4 (ix2 r q) = nb x0 x1 x2 x3 x4 r q := by
  unfold out0_7
  rw [View.canon_cons_unit_zero hz, View.ld_unit_zero hz, View.ld_unit_zero hz, View.ld_unit_zero hz]
  exact nb_apply _ _ _ _ _ r q

end Body

/-- The product's two factors, the residual stream, the modulation rows and the norm's rows as launched. -/
abbrev A (c : Dev nD) : Vec Ideal S8192x2816 .bf16 := m ((c : Thread nD τ).loc main_arg0)
abbrev W (c : Dev nD) : Vec Ideal S2816x1024 .bf16 := m ((c : Thread nD τ).loc main_arg1)
abbrev X (c : Dev nD) : Vec Ideal S8192x1024 .f32 := m ((c : Thread nD τ).loc main_arg2)
abbrev Mo (c : Dev nD) : Vec Ideal S8x1024 .f32 := m ((c : Thread nD τ).loc main_arg3)
abbrev L (c : Dev nD) : Vec Ideal S8x1024 .f32 := m ((c : Thread nD τ).loc main_arg4)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 2816) : (iblk m c 0 t : Vec Ideal S512x2816 .bf16) (ix2 r q) = A m c (ix2 (rowAt t r) (q)) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 2816 + 1 * q.val = q.val; omega
theorem blk1 (c : Dev nD) (t : Fin cfg0.N) (r : Fin 2816) (q : Fin 1024) : (iblk m c 1 t : Vec Ideal S2816x1024 .bf16) (ix2 r q) = W m c (ix2 (r) (q)) := by
  obtain ⟨e0, e1⟩ := idx1 t
  show m _ _ = m _ _
  congr 1
  funext a; apply Fin.ext
  match a with
  | ⟨0, _⟩ => show win0_1.index t (0 : Fin 2) * 2816 + 1 * r.val = r.val; omega
  | ⟨1, _⟩ => show win0_1.index t (1 : Fin 2) * 1024 + 1 * q.val = q.val; omega
theorem blk2 (c : Dev nD) (t : Fin cfg0.N) (r : Fin 512) (q : Fin 1024) : (iblk m c 2 t : Vec Ideal S512x1024 .f32) (ix2 r q) = X m c (ix2 (rowAt t r) (q)) := by
  obtain ⟨e0, e1⟩ := idx2 t
  show m _ _ = m _ _
  congr 1
  funext a; apply Fin.ext
  match a with
  | ⟨0, _⟩ => show win0_2.index t (0 : Fin 2) * 512 + 1 * r.val = t.val * 512 + r.val; omega
  | ⟨1, _⟩ => show win0_2.index t (1 : Fin 2) * 1024 + 1 * q.val = q.val; omega
theorem blk3 (c : Dev nD) (t : Fin cfg0.N) (r : Fin 8) (q : Fin 1024) : (iblk m c 3 t : Vec Ideal S8x1024 .f32) (ix2 r q) = Mo m c (ix2 (r) (q)) := by
  obtain ⟨e0, e1⟩ := idx3 t
  show m _ _ = m _ _
  congr 1
  funext a; apply Fin.ext
  match a with
  | ⟨0, _⟩ => show win0_3.index t (0 : Fin 2) * 8 + 1 * r.val = r.val; omega
  | ⟨1, _⟩ => show win0_3.index t (1 : Fin 2) * 1024 + 1 * q.val = q.val; omega
theorem blk4 (c : Dev nD) (t : Fin cfg0.N) (r : Fin 8) (q : Fin 1024) : (iblk m c 4 t : Vec Ideal S8x1024 .f32) (ix2 r q) = L m c (ix2 (r) (q)) := by
  obtain ⟨e0, e1⟩ := idx4 t
  show m _ _ = m _ _
  congr 1
  funext a; apply Fin.ext
  match a with
  | ⟨0, _⟩ => show win0_4.index t (0 : Fin 2) * 8 + 1 * r.val = r.val; omega
  | ⟨1, _⟩ => show win0_4.index t (1 : Fin 2) * 1024 + 1 * q.val = q.val; omega

/-- The product, the residual stream after it and its normalised row, at a token. -/
def prod (c : Dev nD) (r : Fin 8192) (q : Fin 1024) : EReal := ∑ k : Fin 2816, A m c (ix2 r k) * W m c (ix2 k q)
def res (c : Dev nD) (r : Fin 8192) (q : Fin 1024) : EReal := Norm.alpha * X m c (ix2 r q) + (1 + Mo m c (ix2 5 q)) * prod m c r q
def nrm (c : Dev nD) (r : Fin 8192) (q : Fin 1024) : EReal := Norm.norm (res m c r) q * L m c (ix2 2 q) + L m c (ix2 3 q)

theorem pb_blk (c : Dev nD) (t : Fin cfg0.N) (r : Fin 512) (q : Fin 1024) : pb (iblk m c 0 t) (iblk m c 1 t) r q = prod m c (rowAt t r) q := by
  unfold pb prod
  exact Finset.sum_congr rfl fun k _ => congrArg₂ (· * ·) (blk0 m c t r k) (blk1 m c t k q)
theorem rb_blk (c : Dev nD) (t : Fin cfg0.N) (r : Fin 512) (q : Fin 1024) : rb (iblk m c 0 t) (iblk m c 1 t) (iblk m c 2 t) (iblk m c 3 t) r q = res m c (rowAt t r) q := by
  unfold rb res
  exact congrArg₂ (· + ·) (congrArg (Norm.alpha * ·) (blk2 m c t r q)) (congrArg₂ (fun a b => (1 + a) * b) (blk3 m c t 5 q) (pb_blk m c t r q))
theorem nb_blk (c : Dev nD) (t : Fin cfg0.N) (r : Fin 512) (q : Fin 1024) : nb (iblk m c 0 t) (iblk m c 1 t) (iblk m c 2 t) (iblk m c 3 t) (iblk m c 4 t) r q = nrm m c (rowAt t r) q := by
  unfold nb nrm
  exact congrArg₂ (· + ·) (congrArg₂ (fun f b => Norm.norm f q * b) (funext fun k => rb_blk m c t r k) (blk4 m c t 2 q)) (blk4 m c t 3 q)

theorem out5_at (c : Dev nD) (t : Fin cfg0.N) (r : Fin 512) (q : Fin 1024) : out0_5 (iblk m c 0 t) (iblk m c 1 t) (iblk m c 2 t) (iblk m c 3 t) (iblk m c 4 t) (ix2 r q) = prod m c (rowAt t r) q :=
  (out_5 _ _ _ _ _ r q).trans (pb_blk m c t r q)
theorem out6_at (c : Dev nD) (t : Fin cfg0.N) (r : Fin 512) (q : Fin 1024) : out0_6 (iblk m c 0 t) (iblk m c 1 t) (iblk m c 2 t) (iblk m c 3 t) (iblk m c 4 t) (ix2 r q) = res m c (rowAt t r) q :=
  (out_6 _ _ _ _ _ r q).trans (rb_blk m c t r q)
theorem out7_at (c : Dev nD) (t : Fin cfg0.N) (r : Fin 512) (q : Fin 1024) : out0_7 (iblk m c 0 t) (iblk m c 1 t) (iblk m c 2 t) (iblk m c 3 t) (iblk m c 4 t) (ix2 r q) = nrm m c (rowAt t r) q :=
  (out_7 _ _ _ _ _ r q).trans (nb_blk m c t r q)

/-- The array of this result. -/
def G5 (c : Dev nD) : Buf (Elt Ideal) ((c : Thread nD τ).loc main_v0_0) := fun i => prod m c (i 0) (i 1)

theorem final5 (c : Dev nD) : (dats m 0 c).arrAt 5 cfg0.N = G5 m c := by
  have hN : cfg0.N = 16 := N_0
  refine (dats m 0 c).arrAt_eq_of_cover 5 (G5 m c) (fun t hf => ?_) fun i => ?_
  · obtain ⟨e0, e1⟩ := idx5 t
    funext y
    show (dats m 0 c).flushed 5 t y = G5 m c (((cfg0.win 5).blk t).view.emb y)
    rw [flushed5]
    have hx : (cfg0.win 5).xinj (grid0.coords t) y = (ix2 (y 0) (y 1) : S512x1024.Idx) := by
      funext a; apply Fin.ext
      match a with
      | ⟨0, _⟩ => rfl
      | ⟨1, _⟩ => rfl
    show out0_5 (iblk m c 0 t) (iblk m c 1 t) (iblk m c 2 t) (iblk m c 3 t) (iblk m c 4 t) ((cfg0.win 5).xinj (grid0.coords t) y) = _
    rw [hx]
    refine (out5_at m c t (y 0) (y 1)).trans ?_
    have ea : (((cfg0.win 5).blk t).view.emb y 0 : Fin 8192) = rowAt t (y 0) := by
      apply Fin.ext; show win0_5.index t (0 : Fin 2) * 512 + 1 * (y 0).val = t.val * 512 + (y 0).val; omega
    have eb : (((cfg0.win 5).blk t).view.emb y 1 : Fin 1024) = y 1 := by
      apply Fin.ext; show win0_5.index t (1 : Fin 2) * 1024 + 1 * (y 1).val = (y 1).val; omega
    exact (congrArg₂ (prod m c) ea eb).symm
  · have hi0 : (i 0).val < 8192 := (i 0).isLt
    have hi1 : (i 1).val < 1024 := (i 1).isLt
    have ht : ((i 0).val / 512) < cfg0.N := by omega
    obtain ⟨e0, e1⟩ := idx5 ⟨((i 0).val / 512), ht⟩
    refine ⟨⟨((i 0).val / 512), ht⟩, flush0_5 _, ?_⟩
    show i ∈ ((View.whole main_v0_0).slice (win0_5.rect ⟨((i 0).val / 512), ht⟩)).set
    rw [View.set_slice_whole, Rect.mem_set_unit]
    intro a
    match a with
    | ⟨0, _⟩ => show win0_5.index ⟨((i 0).val / 512), ht⟩ (0 : Fin 2) * 512 ≤ (i 0).val ∧ (i 0).val < win0_5.index ⟨((i 0).val / 512), ht⟩ (0 : Fin 2) * 512 + 512; rw [e0]; dsimp only; omega
    | ⟨1, _⟩ => show win0_5.index ⟨((i 0).val / 512), ht⟩ (1 : Fin 2) * 1024 ≤ (i 1).val ∧ (i 1).val < win0_5.index ⟨((i 0).val / 512), ht⟩ (1 : Fin 2) * 1024 + 1024; rw [e1]; dsimp only; omega

/-- The array of this result. -/
def G6 (c : Dev nD) : Buf (Elt Ideal) ((c : Thread nD τ).loc main_v0_1) := fun i => res m c (i 0) (i 1)

theorem final6 (c : Dev nD) : (dats m 0 c).arrAt 6 cfg0.N = G6 m c := by
  have hN : cfg0.N = 16 := N_0
  refine (dats m 0 c).arrAt_eq_of_cover 6 (G6 m c) (fun t hf => ?_) fun i => ?_
  · obtain ⟨e0, e1⟩ := idx6 t
    funext y
    show (dats m 0 c).flushed 6 t y = G6 m c (((cfg0.win 6).blk t).view.emb y)
    rw [flushed6]
    have hx : (cfg0.win 6).xinj (grid0.coords t) y = (ix2 (y 0) (y 1) : S512x1024.Idx) := by
      funext a; apply Fin.ext
      match a with
      | ⟨0, _⟩ => rfl
      | ⟨1, _⟩ => rfl
    show out0_6 (iblk m c 0 t) (iblk m c 1 t) (iblk m c 2 t) (iblk m c 3 t) (iblk m c 4 t) ((cfg0.win 6).xinj (grid0.coords t) y) = _
    rw [hx]
    refine (out6_at m c t (y 0) (y 1)).trans ?_
    have ea : (((cfg0.win 6).blk t).view.emb y 0 : Fin 8192) = rowAt t (y 0) := by
      apply Fin.ext; show win0_6.index t (0 : Fin 2) * 512 + 1 * (y 0).val = t.val * 512 + (y 0).val; omega
    have eb : (((cfg0.win 6).blk t).view.emb y 1 : Fin 1024) = y 1 := by
      apply Fin.ext; show win0_6.index t (1 : Fin 2) * 1024 + 1 * (y 1).val = (y 1).val; omega
    exact (congrArg₂ (res m c) ea eb).symm
  · have hi0 : (i 0).val < 8192 := (i 0).isLt
    have hi1 : (i 1).val < 1024 := (i 1).isLt
    have ht : ((i 0).val / 512) < cfg0.N := by omega
    obtain ⟨e0, e1⟩ := idx6 ⟨((i 0).val / 512), ht⟩
    refine ⟨⟨((i 0).val / 512), ht⟩, flush0_6 _, ?_⟩
    show i ∈ ((View.whole main_v0_1).slice (win0_6.rect ⟨((i 0).val / 512), ht⟩)).set
    rw [View.set_slice_whole, Rect.mem_set_unit]
    intro a
    match a with
    | ⟨0, _⟩ => show win0_6.index ⟨((i 0).val / 512), ht⟩ (0 : Fin 2) * 512 ≤ (i 0).val ∧ (i 0).val < win0_6.index ⟨((i 0).val / 512), ht⟩ (0 : Fin 2) * 512 + 512; rw [e0]; dsimp only; omega
    | ⟨1, _⟩ => show win0_6.index ⟨((i 0).val / 512), ht⟩ (1 : Fin 2) * 1024 ≤ (i 1).val ∧ (i 1).val < win0_6.index ⟨((i 0).val / 512), ht⟩ (1 : Fin 2) * 1024 + 1024; rw [e1]; dsimp only; omega

/-- The array of this result. -/
def G7 (c : Dev nD) : Buf (Elt Ideal) ((c : Thread nD τ).loc main_v0_2) := fun i => nrm m c (i 0) (i 1)

theorem final7 (c : Dev nD) : (dats m 0 c).arrAt 7 cfg0.N = G7 m c := by
  have hN : cfg0.N = 16 := N_0
  refine (dats m 0 c).arrAt_eq_of_cover 7 (G7 m c) (fun t hf => ?_) fun i => ?_
  · obtain ⟨e0, e1⟩ := idx7 t
    funext y
    show (dats m 0 c).flushed 7 t y = G7 m c (((cfg0.win 7).blk t).view.emb y)
    rw [flushed7]
    have hx : (cfg0.win 7).xinj (grid0.coords t) y = (ix2 (y 0) (y 1) : S512x1024.Idx) := by
      funext a; apply Fin.ext
      match a with
      | ⟨0, _⟩ => rfl
      | ⟨1, _⟩ => rfl
    show out0_7 (iblk m c 0 t) (iblk m c 1 t) (iblk m c 2 t) (iblk m c 3 t) (iblk m c 4 t) ((cfg0.win 7).xinj (grid0.coords t) y) = _
    rw [hx]
    refine (out7_at m c t (y 0) (y 1)).trans ?_
    have ea : (((cfg0.win 7).blk t).view.emb y 0 : Fin 8192) = rowAt t (y 0) := by
      apply Fin.ext; show win0_7.index t (0 : Fin 2) * 512 + 1 * (y 0).val = t.val * 512 + (y 0).val; omega
    have eb : (((cfg0.win 7).blk t).view.emb y 1 : Fin 1024) = y 1 := by
      apply Fin.ext; show win0_7.index t (1 : Fin 2) * 1024 + 1 * (y 1).val = (y 1).val; omega
    exact (congrArg₂ (nrm m c) ea eb).symm
  · have hi0 : (i 0).val < 8192 := (i 0).isLt
    have hi1 : (i 1).val < 1024 := (i 1).isLt
    have ht : ((i 0).val / 512) < cfg0.N := by omega
    obtain ⟨e0, e1⟩ := idx7 ⟨((i 0).val / 512), ht⟩
    refine ⟨⟨((i 0).val / 512), ht⟩, flush0_7 _, ?_⟩
    show i ∈ ((View.whole main_v0_2).slice (win0_7.rect ⟨((i 0).val / 512), ht⟩)).set
    rw [View.set_slice_whole, Rect.mem_set_unit]
    intro a
    match a with
    | ⟨0, _⟩ => show win0_7.index ⟨((i 0).val / 512), ht⟩ (0 : Fin 2) * 512 ≤ (i 0).val ∧ (i 0).val < win0_7.index ⟨((i 0).val / 512), ht⟩ (0 : Fin 2) * 512 + 512; rw [e0]; dsimp only; omega
    | ⟨1, _⟩ => show win0_7.index ⟨((i 0).val / 512), ht⟩ (1 : Fin 2) * 1024 ≤ (i 1).val ∧ (i 1).val < win0_7.index ⟨((i 0).val / 512), ht⟩ (1 : Fin 2) * 1024 + 1024; rw [e1]; dsimp only; omega

end Cert.DownLn

end
-- ==== Proof.DownLnRef.lean ====
module

public import proofs.«01_k».proof.Proof.Gen.Reference22Ideal.Run
public import proofs.«01_k».proof.Proof.Norm
public import Idealize.ShloMosaic.Lib.Pointwise

@[expose] public section

set_option maxRecDepth 16384

noncomputable section

namespace Cert.DownLnRef

open Idealize.ShloMosaic Idealize.ShloMosaic.TcCoe Idealize.SL.Sem
open Cert.Reference22Ideal Cert.Reference22Ideal.Gen

variable (a : Vec Ideal S8192x2816 .bf16) (w : Vec Ideal S2816x1024 .bf16) (x : Vec Ideal S8192x1024 .f32) (mo l : Vec Ideal S8x1024 .f32)

/-- The product of the reference. -/
abbrev P : FVec Ideal S8192x1024 .f32 := Host.dotGeneral dot_S8192x2816_S2816x1024_S8192x1024_1_0_0_1_n_n none (extf (F := Ideal) .f32 a bitsLt_bf16_f32) (extf (F := Ideal) .f32 w bitsLt_bf16_f32)

/-- Its residual stream after the product. -/
abbrev R : FVec Ideal S8192x1024 .f32 := addf (mulf (broadcastInDim S8192x1024 ![] bcast_S_S8192x1024 (constant (F := Ideal) S_ .f32 0x3FD744FD#32)) x) (mulf (broadcastInDim S8192x1024 ![0, 1] bcast_S1x1024_S8192x1024_0_1 (addf (broadcastInDim S1x1024 ![] bcast_S_S1x1024 (constant (F := Ideal) S_ .f32 0x3F800000#32)) (extractStridedSlice S1x1024 ![5, 0] mo slices_S8x1024_S1x1024_5_0))) (P a w))

theorem P_apply (r : Fin 8192) (q : Fin 1024) : P a w (ix2 r q) = (∑ k : Fin 2816, a (ix2 r k) * w (ix2 k q) : EReal) := by
  pointwise

theorem prod_at (r : Fin 8192) (q : Fin 1024) : (truncf (F := Ideal) .bf16 (P a w) bitsLt_bf16_f32 : Vec Ideal S8192x1024 .bf16) (ix2 r q) = (∑ k : Fin 2816, a (ix2 r k) * w (ix2 k q) : EReal) :=
  P_apply a w r q

theorem res_at (r : Fin 8192) (q : Fin 1024) : R a w x mo (ix2 r q) = (Norm.alpha * x (ix2 r q) + (1 + mo (ix2 5 q)) * (∑ k : Fin 2816, a (ix2 r k) * w (ix2 k q)) : EReal) := by
  pointwise

section Norm

variable (v : FVec Ideal S8192x1024 .f32)

/-- The means of the rows, the rows less their means, and the norm's scale of each row. -/
abbrev mn : FVec Ideal S8192x1 .f32 := Host.divf (broadcastInDim S8192x1 ![0] bcast_S8192_S8192x1_0 (Host.reduceAdd v (constant (F := Ideal) S_ .f32 0x00000000#32) reducesTo_S8192x1024_S8192_d1 h_S_)) (broadcastInDim S8192x1 ![] bcast_S_S8192x1 (constant (F := Ideal) S_ .f32 0x44800000#32))
abbrev ce : FVec Ideal S8192x1024 .f32 := subf v (broadcastInDim S8192x1024 ![0, 1] bcast_S8192x1_S8192x1024_0_1 (mn v))
abbrev rs : FVec Ideal S8192x1 .f32 := Host.rsqrt (addf (mn (mulf (ce v) (ce v))) (broadcastInDim S8192x1 ![] bcast_S_S8192x1 (constant (F := Ideal) S_ .f32 0x3727C5AC#32)))
abbrev ln : FVec Ideal S8192x1024 .f32 := addf (mulf (mulf (ce v) (broadcastInDim S8192x1024 ![0, 1] bcast_S8192x1_S8192x1024_0_1 (rs v))) (broadcastInDim S8192x1024 ![0, 1] bcast_S1x1024_S8192x1024_0_1 (extractStridedSlice S1x1024 ![2, 0] l slices_S8x1024_S1x1024_2_0))) (broadcastInDim S8192x1024 ![0, 1] bcast_S1x1024_S8192x1024_0_1 (extractStridedSlice S1x1024 ![3, 0] l slices_S8x1024_S1x1024_3_0))

theorem mn_apply (r : Fin 8192) : mn v (ix2 r 0) = Norm.mean (fun k => v (ix2 r k)) := by
  unfold Norm.mean
  pointwise

theorem ce_apply (r : Fin 8192) (q : Fin 1024) : ce v (ix2 r q) = (v (ix2 r q) - Norm.mean (fun k => v (ix2 r k)) : EReal) := by
  unfold Norm.mean
  pointwise

theorem rs_apply (r : Fin 8192) : rs v (ix2 r 0) = Ideal.rsqrt (Norm.var (fun k => v (ix2 r k)) + Norm.eps) := by
  refine congrArg (fun z : EReal => Ideal.rsqrt (z + Norm.eps)) ((mn_apply (mulf (ce v) (ce v)) r).trans ?_)
  unfold Norm.var
  refine congrArg (fun z : EReal => Ideal.div z Norm.len) (Finset.sum_congr rfl fun k _ => ?_)
  exact congrArg₂ (fun a b : EReal => a * b) (ce_apply v r k) (ce_apply v r k)

theorem ln_gen (e : FVec Ideal S8192x1024 .f32) (u : FVec Ideal S8192x1 .f32) (r : Fin 8192) (q : Fin 1024) :
    (addf (mulf (mulf e (broadcastInDim S8192x1024 ![0, 1] bcast_S8192x1_S8192x1024_0_1 u)) (broadcastInDim S8192x1024 ![0, 1] bcast_S1x1024_S8192x1024_0_1 (extractStridedSlice S1x1024 ![2, 0] l slices_S8x1024_S1x1024_2_0))) (broadcastInDim S8192x1024 ![0, 1] bcast_S1x1024_S8192x1024_0_1 (extractStridedSlice S1x1024 ![3, 0] l slices_S8x1024_S1x1024_3_0)) : FVec Ideal S8192x1024 .f32) (ix2 r q)
      = (e (ix2 r q) * u (ix2 r 0) * l (ix2 2 q) + l (ix2 3 q) : EReal) := by
  pointwise

theorem ln_apply (r : Fin 8192) (q : Fin 1024) : ln l v (ix2 r q) = (Norm.norm (fun k => v (ix2 r k)) q * l (ix2 2 q) + l (ix2 3 q) : EReal) := by
  refine (ln_gen l (ce v) (rs v) r q).trans ?_
  rw [ce_apply, rs_apply]
  rfl

end Norm

theorem nrm_at (r : Fin 8192) (q : Fin 1024) : ln l (R a w x mo) (ix2 r q)
    = (Norm.norm (fun q => Norm.alpha * x (ix2 r q) + (1 + mo (ix2 5 q)) * (∑ k : Fin 2816, a (ix2 r k) * w (ix2 k q))) q * l (ix2 2 q) + l (ix2 3 q) : EReal) := by
  rw [ln_apply]
  exact congrArg (fun f => Norm.norm f q * l (ix2 2 q) + l (ix2 3 q)) (funext fun k => res_at a w x mo r k)

end Cert.DownLnRef

end
-- ==== Proof.OutLn.lean ====
module

public import proofs.«01_k».proof.Proof.Gen.Kernel23Ideal.Value
public import proofs.«01_k».proof.Proof.Norm
public import Idealize.ShloMosaic.Lib.Pointwise

@[expose] public section

set_option maxRecDepth 16384

noncomputable section

namespace Cert.OutLn

open Idealize.ShloMosaic Idealize.ShloMosaic.TcCoe Idealize.SL.Sem
open Cert.Kernel23Ideal Cert.Kernel23Ideal.Gen Cert.Kernel23Ideal.Value

variable (m : (ℓ : Loc nD τ sig) → Buf (Elt Ideal) ℓ)

theorem hz : (![0, 0] : Fin 2 → Nat) = fun _ => 0 := funext fun a => by fin_cases a <;> rfl

theorem ld_row {o : ℕ} (ho : o < 8) (x : Vec Ideal S8x1024 .f32) {size : Fin 2 → ℕ} (hs : size = ![1, 1024]) (inb : ∀ a, (![o, 0] : Fin 2 → ℕ) a + size a ≤ S8x1024.size a)
    (y : (Rect.unit (s := S8x1024) ![o, 0] size inb).shape.Idx) (q : Fin 1024) (hy : (y 1).val = q.val) :
    View.ld x (Rect.unit (s := S8x1024) ![o, 0] size inb) y = x (ix2 ⟨o, ho⟩ q) := by
  subst hs
  show x _ = x _
  congr 1
  funext a; apply Fin.ext
  match a with
  | ⟨0, _⟩ => show o + 1 * (y 0).val = o; have : (y 0).val < 1 := (y 0).isLt; omega
  | ⟨1, _⟩ => show 0 + 1 * (y 1).val = q.val; omega

section Body

variable (x0 : Vec Ideal S512x1024 .bf16) (x1 : Vec Ideal S1024x1024 .bf16) (x2 : Vec Ideal S512x1024 .f32) (x3 x4 : Vec Ideal S8x1024 .f32)

theorem gate (x : Vec Ideal S8x1024 .f32) (q : Fin 1024) : View.ld x r0_2 (ix2 (0 : Fin 1) q : S1x1024.Idx) = x (ix2 2 q) := ld_row (o := 2) (by decide) x rfl _ (ix2 (0 : Fin 1) q) q rfl
theorem scale (x : Vec Ideal S8x1024 .f32) (q : Fin 1024) : View.ld x r0_3 (ix2 (0 : Fin 1) q : S1x1024.Idx) = x (ix2 0 q) := ld_row (o := 0) (by decide) x rfl _ (ix2 (0 : Fin 1) q) q rfl
theorem shift (x : Vec Ideal S8x1024 .f32) (q : Fin 1024) : View.ld x r0_4 (ix2 (0 : Fin 1) q : S1x1024.Idx) = x (ix2 1 q) := ld_row (o := 1) (by decide) x rfl _ (ix2 (0 : Fin 1) q) q rfl
theorem mscale (x : Vec Ideal S8x1024 .f32) (q : Fin 1024) : View.ld x r0_5 (ix2 (0 : Fin 1) q : S1x1024.Idx) = x (ix2 4 q) := ld_row (o := 4) (by decide) x rfl _ (ix2 (0 : Fin 1) q) q rfl
theorem mshift (x : Vec Ideal S8x1024 .f32) (q : Fin 1024) : View.ld x r0_6 (ix2 (0 : Fin 1) q : S1x1024.Idx) = x (ix2 3 q) := ld_row (o := 3) (by decide) x rfl _ (ix2 (0 : Fin 1) q) q rfl

/-- The product at an entry of the block. -/
def pb (r : Fin 512) (q : Fin 1024) : EReal := ∑ k : Fin 1024, x0 (ix2 r k) * x1 (ix2 k q)

/-- The residual stream after the product at an entry of the block. -/
def rb (r : Fin 512) (q : Fin 1024) : EReal := Norm.alpha * x2 (ix2 r q) + (1 + x3 (ix2 2 q)) * pb x0 x1 r q

/-- Its normalised row. -/
def nb (r : Fin 512) (q : Fin 1024) : EReal := Norm.norm (rb x0 x1 x2 x3 r) q * x4 (ix2 0 q) + x4 (ix2 1 q)

theorem pay4_apply (r : Fin 512) (q : Fin 1024) : (k0_pay4 (F := Ideal) x0 x1) (ix2 r q) = pb x0 x1 r q := by
  unfold pb
  pointwise [k0_pay4, k0_pay3]

theorem pay5_apply (a : Vec Ideal S1x1024 .f32) (r : Fin 512) (q : Fin 1024) :
    (k0_pay5 (F := Ideal) x0 x1 x2 a) (ix2 r q) = (Norm.alpha * x2 (ix2 r q) + (1 + a (ix2 0 q)) * pb x0 x1 r q : EReal) := by
  unfold pb
  pointwise [k0_pay5, k0_pay3]

theorem res_apply (r : Fin 512) (q : Fin 1024) :
    (k0_pay5 (F := Ideal) x0 x1 x2 (View.ld x3 r0_2)) (ix2 r q) = rb x0 x1 x2 x3 r q :=
  (pay5_apply x0 x1 x2 _ r q).trans (congrArg (fun a => Norm.alpha * x2 (ix2 r q) + (1 + a) * pb x0 x1 r q) (gate x3 q))

theorem pay6_apply (a b : Vec Ideal S1x1024 .f32) (r : Fin 512) (q : Fin 1024) :
    (k0_pay6 (F := Ideal) x0 x1 x2 a b) (ix2 r q) = (Norm.norm (fun k => (k0_pay5 (F := Ideal) x0 x1 x2 a) (ix2 r k)) q * b (ix2 0 q) : EReal) := by
  unfold Norm.norm Norm.var Norm.mean
  pointwise [k0_pay6]

theorem pay1_apply (v : Vec Ideal S512x1024 .f32) (b : Vec Ideal S1x1024 .f32) (r : Fin 512) (q : Fin 1024) :
    (k0_pay1 (F := Ideal) v b) (ix2 r q) = (v (ix2 r q) + b (ix2 0 q) : EReal) := by
  pointwise [k0_pay1]

theorem nb_apply (r : Fin 512) (q : Fin 1024) :
    (k0_pay1 (F := Ideal) (k0_pay6 (F := Ideal) x0 x1 x2 (View.ld x3 r0_2) (View.ld x4 r0_3)) (View.ld x4 r0_4)) (ix2 r q) = nb x0 x1 x2 x3 x4 r q := by
  refine (pay1_apply _ _ r q).trans ?_
  unfold nb
  refine congrArg₂ (· + ·) ((pay6_apply _ _ _ _ _ r q).trans (congrArg₂ (fun f b => Norm.norm f q * b) (funext fun k => res_apply x0 x1 x2 x3 r k) (scale x4 q))) (shift x4 q)

theorem out_5 (r : Fin 512) (q : Fin 1024) : out0_5 x0 x1 x2 x3 x4 (ix2 r q) = pb x0 x1 r q := by
  unfold out0_5
  rw [View.canon_cons_unit_zero hz, View.ld_unit_zero hz, View.ld_unit_zero hz]
  exact pay4_apply _ _ r q

theorem out_6 (r : Fin 512) (q : Fin 1024) : out0_6 x0 x1 x2 x3 x4 (ix2 r q) = rb x0 x1 x2 x3 r q := by
  unfold out0_6
  rw [View.canon_cons_unit_zero hz, View.ld_unit_zero hz, View.ld_unit_zero hz, View.ld_unit_zero hz]
  exact res_apply _ _ _ _ r q

theorem out_7 (r : Fin 512) (q : Fin 1024) : out0_7 x0 x1 x2 x3 x4 (ix2 r q) = nb x0 x1 x2 x3 x4 r q := by
  unfold out0_7 k0_pay7
  rw [View.canon_cons_unit_zero hz, View.ld_unit_zero hz, View.ld_unit_zero hz, View.ld_unit_zero hz]
  exact nb_apply _ _ _ _ _ r q

/-- The normalised row modulated. -/
def hb (r : Fin 512) (q : Fin 1024) : EReal := nb x0 x1 x2 x3 x4 r q * (1 + x3 (ix2 4 q)) + x3 (ix2 3 q)

theorem pay2_apply (v : Vec Ideal S512x1024 .f32) (b d e : Vec Ideal S1x1024 .f32) (r : Fin 512) (q : Fin 1024) :
    (k0_pay2 (F := Ideal) v b d e) (ix2 r q) = ((k0_pay1 (F := Ideal) v b) (ix2 r q) * (1 + d (ix2 0 q)) + e (ix2 0 q) : EReal) := by
  pointwise [k0_pay2]

theorem out_8 (r : Fin 512) (q : Fin 1024) : out0_8 x0 x1 x2 x3 x4 (ix2 r q) = hb x0 x1 x2 x3 x4 r q := by
  unfold out0_8 k0_pay7
  rw [View.canon_cons_unit_zero hz, View.ld_unit_zero hz, View.ld_unit_zero hz, View.ld_unit_zero hz]
  refine (pay2_apply _ _ _ _ r q).trans ?_
  unfold hb
  exact congrArg₂ (· + ·) (congrArg₂ (fun a b => a * (1 + b)) (nb_apply _ _ _ _ _ r q) (mscale x3 q)) (mshift x3 q)

end Body

/-- The product's two factors, the residual stream, the modulation rows and the norm's rows as launched. -/
abbrev A (c : Dev nD) : Vec Ideal S8192x1024 .bf16 := m ((c : Thread nD τ).loc main_arg0)
abbrev W (c : Dev nD) : Vec Ideal S1024x1024 .bf16 := m ((c : Thread nD τ).loc main_arg1)
abbrev X (c : Dev nD) : Vec Ideal S8192x1024 .f32 := m ((c : Thread nD τ).loc main_arg2)
abbrev Mo (c : Dev nD) : Vec Ideal S8x1024 .f32 := m ((c : Thread nD τ).loc main_arg3)
abbrev L (c : Dev nD) : Vec Ideal S8x1024 .f32 := m ((c : Thread nD τ).loc main_arg4)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Row `r` of the block of a point is this row of the array. -/
abbrev rowAt (t : Fin cfg0.N) (r : Fin 512) : Fin 8192 :=
  ⟨t.val * 512 + r.val, by have := t.isLt; have hN : cfg0.N = 16 := N_0; have := r.isLt; omega⟩

theorem blk0 (c : Dev nD) (t : Fin cfg0.N) (r : Fin 512) (q : Fin 1024) : (iblk m c 0 t : Vec Ideal S512x1024 .bf16) (ix2 r q) = A m c (ix2 (rowAt t r) (q)) := by
  obtain ⟨e0, e1⟩ := idx0 t
  show m _ _ = m _ _
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * q.val = q.val; omega
theorem blk1 (c : Dev nD) (t : Fin cfg0.N) (r : Fin 1024) (q : Fin 1024) : (iblk m c 1 t : Vec Ideal S1024x1024 .bf16) (ix2 r q) = W m c (ix2 (r) (q)) := by
  obtain ⟨e0, e1⟩ := idx1 t
  show m _ _ = m _ _
  congr 1
  funext a; apply Fin.ext
  match a with
  | ⟨0, _⟩ => show win0_1.index t (0 : Fin 2) * 1024 + 1 * r.val = r.val; omega
  | ⟨1, _⟩ => show win0_1.index t (1 : Fin 2) * 1024 + 1 * q.val = q.val; omega
theorem blk2 (c : Dev nD) (t : Fin cfg0.N) (r : Fin 512) (q : Fin 1024) : (iblk m c 2 t : Vec Ideal S512x1024 .f32) (ix2 r q) = X m c (ix2 (rowAt t r) (q)) := by
  obtain ⟨e0, e1⟩ := idx2 t
  show m _ _ = m _ _
  congr 1
  funext a; apply Fin.ext
  match a with
  | ⟨0, _⟩ => show win0_2.index t (0 : Fin 2) * 512 + 1 * r.val = t.val * 512 + r.val; omega
  | ⟨1, _⟩ => show win0_2.index t (1 : Fin 2) * 1024 + 1 * q.val = q.val; omega
theorem blk3 (c : Dev nD) (t : Fin cfg0.N) (r : Fin 8) (q : Fin 1024) : (iblk m c 3 t : Vec Ideal S8x1024 .f32) (ix2 r q) = Mo m c (ix2 (r) (q)) := by
  obtain ⟨e0, e1⟩ := idx3 t
  show m _ _ = m _ _
  congr 1
  funext a; apply Fin.ext
  match a with
  | ⟨0, _⟩ => show win0_3.index t (0 : Fin 2) * 8 + 1 * r.val = r.val; omega
  | ⟨1, _⟩ => show win0_3.index t (1 : Fin 2) * 1024 + 1 * q.val = q.val; omega
theorem blk4 (c : Dev nD) (t : Fin cfg0.N) (r : Fin 8) (q : Fin 1024) : (iblk m c 4 t : Vec Ideal S8x1024 .f32) (ix2 r q) = L m c (ix2 (r) (q)) := by
  obtain ⟨e0, e1⟩ := idx4 t
  show m _ _ = m _ _
  congr 1
  funext a; apply Fin.ext
  match a with
  | ⟨0, _⟩ => show win0_4.index t (0 : Fin 2) * 8 + 1 * r.val = r.val; omega
  | ⟨1, _⟩ => show win0_4.index t (1 : Fin 2) * 1024 + 1 * q.val = q.val; omega

/-- The product, the residual stream after it and its normalised row, at a token. -/
def prod (c : Dev nD) (r : Fin 8192) (q : Fin 1024) : EReal := ∑ k : Fin 1024, A m c (ix2 r k) * W m c (ix2 k q)
def res (c : Dev nD) (r : Fin 8192) (q : Fin 1024) : EReal := Norm.alpha * X m c (ix2 r q) + (1 + Mo m c (ix2 2 q)) * prod m c r q
def nrm (c : Dev nD) (r : Fin 8192) (q : Fin 1024) : EReal := Norm.norm (res m c r) q * L m c (ix2 0 q) + L m c (ix2 1 q)

theorem pb_blk (c : Dev nD) (t : Fin cfg0.N) (r : Fin 512) (q : Fin 1024) : pb (iblk m c 0 t) (iblk m c 1 t) r q = prod m c (rowAt t r) q := by
  unfold pb prod
  exact Finset.sum_congr rfl fun k _ => congrArg₂ (· * ·) (blk0 m c t r k) (blk1 m c t k q)
theorem rb_blk (c : Dev nD) (t : Fin cfg0.N) (r : Fin 512) (q : Fin 1024) : rb (iblk m c 0 t) (iblk m c 1 t) (iblk m c 2 t) (iblk m c 3 t) r q = res m c (rowAt t r) q := by
  unfold rb res
  exact congrArg₂ (· + ·) (congrArg (Norm.alpha * ·) (blk2 m c t r q)) (congrArg₂ (fun a b => (1 + a) * b) (blk3 m c t 2 q) (pb_blk m c t r q))
theorem nb_blk (c : Dev nD) (t : Fin cfg0.N) (r : Fin 512) (q : Fin 1024) : nb (iblk m c 0 t) (iblk m c 1 t) (iblk m c 2 t) (iblk m c 3 t) (iblk m c 4 t) r q = nrm m c (rowAt t r) q := by
  unfold nb nrm
  exact congrArg₂ (· + ·) (congrArg₂ (fun f b => Norm.norm f q * b) (funext fun k => rb_blk m c t r k) (blk4 m c t 0 q)) (blk4 m c t 1 q)

theorem out5_at (c : Dev nD) (t : Fin cfg0.N) (r : Fin 512) (q : Fin 1024) : out0_5 (iblk m c 0 t) (iblk m c 1 t) (iblk m c 2 t) (iblk m c 3 t) (iblk m c 4 t) (ix2 r q) = prod m c (rowAt t r) q :=
  (out_5 _ _ _ _ _ r q).trans (pb_blk m c t r q)
theorem out6_at (c : Dev nD) (t : Fin cfg0.N) (r : Fin 512) (q : Fin 1024) : out0_6 (iblk m c 0 t) (iblk m c 1 t) (iblk m c 2 t) (iblk m c 3 t) (iblk m c 4 t) (ix2 r q) = res m c (rowAt t r) q :=
  (out_6 _ _ _ _ _ r q).trans (rb_blk m c t r q)
theorem out7_at (c : Dev nD) (t : Fin cfg0.N) (r : Fin 512) (q : Fin 1024) : out0_7 (iblk m c 0 t) (iblk m c 1 t) (iblk m c 2 t) (iblk m c 3 t) (iblk m c 4 t) (ix2 r q) = nrm m c (rowAt t r) q :=
  (out_7 _ _ _ _ _ r q).trans (nb_blk m c t r q)

/-- The normalised row modulated, at a token. -/
def hid (c : Dev nD) (r : Fin 8192) (q : Fin 1024) : EReal := nrm m c r q * (1 + Mo m c (ix2 4 q)) + Mo m c (ix2 3 q)

theorem out8_at (c : Dev nD) (t : Fin cfg0.N) (r : Fin 512) (q : Fin 1024) : out0_8 (iblk m c 0 t) (iblk m c 1 t) (iblk m c 2 t) (iblk m c 3 t) (iblk m c 4 t) (ix2 r q) = hid m c (rowAt t r) q := by
  refine (out_8 _ _ _ _ _ r q).trans ?_
  unfold hb hid
  exact congrArg₂ (· + ·) (congrArg₂ (fun a b => a * (1 + b)) (nb_blk m c t r q) (blk3 m c t 4 q)) (blk3 m c t 3 q)

/-- The array of this result. -/
def G5 (c : Dev nD) : Buf (Elt Ideal) ((c : Thread nD τ).loc main_v0_0) := fun i => prod m c (i 0) (i 1)

theorem final5 (c : Dev nD) : (dats m 0 c).arrAt 5 cfg0.N = G5 m c := by
  have hN : cfg0.N = 16 := N_0
  refine (dats m 0 c).arrAt_eq_of_cover 5 (G5 m c) (fun t hf => ?_) fun i => ?_
  · obtain ⟨e0, e1⟩ := idx5 t
    funext y
    show (dats m 0 c).flushed 5 t y = G5 m c (((cfg0.win 5).blk t).view.emb y)
    rw [flushed5]
    have hx : (cfg0.win 5).xinj (grid0.coords t) y = (ix2 (y 0) (y 1) : S512x1024.Idx) := by
      funext a; apply Fin.ext
      match a with
      | ⟨0, _⟩ => rfl
      | ⟨1, _⟩ => rfl
    show out0_5 (iblk m c 0 t) (iblk m c 1 t) (iblk m c 2 t) (iblk m c 3 t) (iblk m c 4 t) ((cfg0.win 5).xinj (grid0.coords t) y) = _
    rw [hx]
    refine (out5_at m c t (y 0) (y 1)).trans ?_
    have ea : (((cfg0.win 5).blk t).view.emb y 0 : Fin 8192) = rowAt t (y 0) := by
      apply Fin.ext; show win0_5.index t (0 : Fin 2) * 512 + 1 * (y 0).val = t.val * 512 + (y 0).val; omega
    have eb : (((cfg0.win 5).blk t).view.emb y 1 : Fin 1024) = y 1 := by
      apply Fin.ext; show win0_5.index t (1 : Fin 2) * 1024 + 1 * (y 1).val = (y 1).val; omega
    exact (congrArg₂ (prod m c) ea eb).symm
  · have hi0 : (i 0).val < 8192 := (i 0).isLt
    have hi1 : (i 1).val < 1024 := (i 1).isLt
    have ht : ((i 0).val / 512) < cfg0.N := by omega
    obtain ⟨e0, e1⟩ := idx5 ⟨((i 0).val / 512), ht⟩
    refine ⟨⟨((i 0).val / 512), ht⟩, flush0_5 _, ?_⟩
    show i ∈ ((View.whole main_v0_0).slice (win0_5.rect ⟨((i 0).val / 512), ht⟩)).set
    rw [View.set_slice_whole, Rect.mem_set_unit]
    intro a
    match a with
    | ⟨0, _⟩ => show win0_5.index ⟨((i 0).val / 512), ht⟩ (0 : Fin 2) * 512 ≤ (i 0).val ∧ (i 0).val < win0_5.index ⟨((i 0).val / 512), ht⟩ (0 : Fin 2) * 512 + 512; rw [e0]; dsimp only; omega
    | ⟨1, _⟩ => show win0_5.index ⟨((i 0).val / 512), ht⟩ (1 : Fin 2) * 1024 ≤ (i 1).val ∧ (i 1).val < win0_5.index ⟨((i 0).val / 512), ht⟩ (1 : Fin 2) * 1024 + 1024; rw [e1]; dsimp only; omega

/-- The array of this result. -/
def G6 (c : Dev nD) : Buf (Elt Ideal) ((c : Thread nD τ).loc main_v0_1) := fun i => res m c (i 0) (i 1)

theorem final6 (c : Dev nD) : (dats m 0 c).arrAt 6 cfg0.N = G6 m c := by
  have hN : cfg0.N = 16 := N_0
  refine (dats m 0 c).arrAt_eq_of_cover 6 (G6 m c) (fun t hf => ?_) fun i => ?_
  · obtain ⟨e0, e1⟩ := idx6 t
    funext y
    show (dats m 0 c).flushed 6 t y = G6 m c (((cfg0.win 6).blk t).view.emb y)
    rw [flushed6]
    have hx : (cfg0.win 6).xinj (grid0.coords t) y = (ix2 (y 0) (y 1) : S512x1024.Idx) := by
      funext a; apply Fin.ext
      match a with
      | ⟨0, _⟩ => rfl
      | ⟨1, _⟩ => rfl
    show out0_6 (iblk m c 0 t) (iblk m c 1 t) (iblk m c 2 t) (iblk m c 3 t) (iblk m c 4 t) ((cfg0.win 6).xinj (grid0.coords t) y) = _
    rw [hx]
    refine (out6_at m c t (y 0) (y 1)).trans ?_
    have ea : (((cfg0.win 6).blk t).view.emb y 0 : Fin 8192) = rowAt t (y 0) := by
      apply Fin.ext; show win0_6.index t (0 : Fin 2) * 512 + 1 * (y 0).val = t.val * 512 + (y 0).val; omega
    have eb : (((cfg0.win 6).blk t).view.emb y 1 : Fin 1024) = y 1 := by
      apply Fin.ext; show win0_6.index t (1 : Fin 2) * 1024 + 1 * (y 1).val = (y 1).val; omega
    exact (congrArg₂ (res m c) ea eb).symm
  · have hi0 : (i 0).val < 8192 := (i 0).isLt
    have hi1 : (i 1).val < 1024 := (i 1).isLt
    have ht : ((i 0).val / 512) < cfg0.N := by omega
    obtain ⟨e0, e1⟩ := idx6 ⟨((i 0).val / 512), ht⟩
    refine ⟨⟨((i 0).val / 512), ht⟩, flush0_6 _, ?_⟩
    show i ∈ ((View.whole main_v0_1).slice (win0_6.rect ⟨((i 0).val / 512), ht⟩)).set
    rw [View.set_slice_whole, Rect.mem_set_unit]
    intro a
    match a with
    | ⟨0, _⟩ => show win0_6.index ⟨((i 0).val / 512), ht⟩ (0 : Fin 2) * 512 ≤ (i 0).val ∧ (i 0).val < win0_6.index ⟨((i 0).val / 512), ht⟩ (0 : Fin 2) * 512 + 512; rw [e0]; dsimp only; omega
    | ⟨1, _⟩ => show win0_6.index ⟨((i 0).val / 512), ht⟩ (1 : Fin 2) * 1024 ≤ (i 1).val ∧ (i 1).val < win0_6.index ⟨((i 0).val / 512), ht⟩ (1 : Fin 2) * 1024 + 1024; rw [e1]; dsimp only; omega

/-- The array of this result. -/
def G7 (c : Dev nD) : Buf (Elt Ideal) ((c : Thread nD τ).loc main_v0_2) := fun i => nrm m c (i 0) (i 1)

theorem final7 (c : Dev nD) : (dats m 0 c).arrAt 7 cfg0.N = G7 m c := by
  have hN : cfg0.N = 16 := N_0
  refine (dats m 0 c).arrAt_eq_of_cover 7 (G7 m c) (fun t hf => ?_) fun i => ?_
  · obtain ⟨e0, e1⟩ := idx7 t
    funext y
    show (dats m 0 c).flushed 7 t y = G7 m c (((cfg0.win 7).blk t).view.emb y)
    rw [flushed7]
    have hx : (cfg0.win 7).xinj (grid0.coords t) y = (ix2 (y 0) (y 1) : S512x1024.Idx) := by
      funext a; apply Fin.ext
      match a with
      | ⟨0, _⟩ => rfl
      | ⟨1, _⟩ => rfl
    show out0_7 (iblk m c 0 t) (iblk m c 1 t) (iblk m c 2 t) (iblk m c 3 t) (iblk m c 4 t) ((cfg0.win 7).xinj (grid0.coords t) y) = _
    rw [hx]
    refine (out7_at m c t (y 0) (y 1)).trans ?_
    have ea : (((cfg0.win 7).blk t).view.emb y 0 : Fin 8192) = rowAt t (y 0) := by
      apply Fin.ext; show win0_7.index t (0 : Fin 2) * 512 + 1 * (y 0).val = t.val * 512 + (y 0).val; omega
    have eb : (((cfg0.win 7).blk t).view.emb y 1 : Fin 1024) = y 1 := by
      apply Fin.ext; show win0_7.index t (1 : Fin 2) * 1024 + 1 * (y 1).val = (y 1).val; omega
    exact (congrArg₂ (nrm m c) ea eb).symm
  · have hi0 : (i 0).val < 8192 := (i 0).isLt
    have hi1 : (i 1).val < 1024 := (i 1).isLt
    have ht : ((i 0).val / 512) < cfg0.N := by omega
    obtain ⟨e0, e1⟩ := idx7 ⟨((i 0).val / 512), ht⟩
    refine ⟨⟨((i 0).val / 512), ht⟩, flush0_7 _, ?_⟩
    show i ∈ ((View.whole main_v0_2).slice (win0_7.rect ⟨((i 0).val / 512), ht⟩)).set
    rw [View.set_slice_whole, Rect.mem_set_unit]
    intro a
    match a with
    | ⟨0, _⟩ => show win0_7.index ⟨((i 0).val / 512), ht⟩ (0 : Fin 2) * 512 ≤ (i 0).val ∧ (i 0).val < win0_7.index ⟨((i 0).val / 512), ht⟩ (0 : Fin 2) * 512 + 512; rw [e0]; dsimp only; omega
    | ⟨1, _⟩ => show win0_7.index ⟨((i 0).val / 512), ht⟩ (1 : Fin 2) * 1024 ≤ (i 1).val ∧ (i 1).val < win0_7.index ⟨((i 0).val / 512), ht⟩ (1 : Fin 2) * 1024 + 1024; rw [e1]; dsimp only; omega

/-- The array of this result. -/
def G8 (c : Dev nD) : Buf (Elt Ideal) ((c : Thread nD τ).loc main_v0_3) := fun i => hid m c (i 0) (i 1)

theorem final8 (c : Dev nD) : (dats m 0 c).arrAt 8 cfg0.N = G8 m c := by
  have hN : cfg0.N = 16 := N_0
  refine (dats m 0 c).arrAt_eq_of_cover 8 (G8 m c) (fun t hf => ?_) fun i => ?_
  · obtain ⟨e0, e1⟩ := idx8 t
    funext y
    show (dats m 0 c).flushed 8 t y = G8 m c (((cfg0.win 8).blk t).view.emb y)
    rw [flushed8]
    have hx : (cfg0.win 8).xinj (grid0.coords t) y = (ix2 (y 0) (y 1) : S512x1024.Idx) := by
      funext a; apply Fin.ext
      match a with
      | ⟨0, _⟩ => rfl
      | ⟨1, _⟩ => rfl
    show out0_8 (iblk m c 0 t) (iblk m c 1 t) (iblk m c 2 t) (iblk m c 3 t) (iblk m c 4 t) ((cfg0.win 8).xinj (grid0.coords t) y) = _
    rw [hx]
    refine (out8_at m c t (y 0) (y 1)).trans ?_
    have ea : (((cfg0.win 8).blk t).view.emb y 0 : Fin 8192) = rowAt t (y 0) := by
      apply Fin.ext; show win0_8.index t (0 : Fin 2) * 512 + 1 * (y 0).val = t.val * 512 + (y 0).val; omega
    have eb : (((cfg0.win 8).blk t).view.emb y 1 : Fin 1024) = y 1 := by
      apply Fin.ext; show win0_8.index t (1 : Fin 2) * 1024 + 1 * (y 1).val = (y 1).val; omega
    exact (congrArg₂ (hid m c) ea eb).symm
  · have hi0 : (i 0).val < 8192 := (i 0).isLt
    have hi1 : (i 1).val < 1024 := (i 1).isLt
    have ht : ((i 0).val / 512) < cfg0.N := by omega
    obtain ⟨e0, e1⟩ := idx8 ⟨((i 0).val / 512), ht⟩
    refine ⟨⟨((i 0).val / 512), ht⟩, flush0_8 _, ?_⟩
    show i ∈ ((View.whole main_v0_3).slice (win0_8.rect ⟨((i 0).val / 512), ht⟩)).set
    rw [View.set_slice_whole, Rect.mem_set_unit]
    intro a
    match a with
    | ⟨0, _⟩ => show win0_8.index ⟨((i 0).val / 512), ht⟩ (0 : Fin 2) * 512 ≤ (i 0).val ∧ (i 0).val < win0_8.index ⟨((i 0).val / 512), ht⟩ (0 : Fin 2) * 512 + 512; rw [e0]; dsimp only; omega
    | ⟨1, _⟩ => show win0_8.index ⟨((i 0).val / 512), ht⟩ (1 : Fin 2) * 1024 ≤ (i 1).val ∧ (i 1).val < win0_8.index ⟨((i 0).val / 512), ht⟩ (1 : Fin 2) * 1024 + 1024; rw [e1]; dsimp only; omega

end Cert.OutLn

end
-- ==== Proof.OutLnRef.lean ====
module

public import proofs.«01_k».proof.Proof.Gen.Reference23Ideal.Run
public import proofs.«01_k».proof.Proof.Norm
public import Idealize.ShloMosaic.Lib.Pointwise

@[expose] public section

set_option maxRecDepth 16384

noncomputable section

namespace Cert.OutLnRef

open Idealize.ShloMosaic Idealize.ShloMosaic.TcCoe Idealize.SL.Sem
open Cert.Reference23Ideal Cert.Reference23Ideal.Gen

variable (a : Vec Ideal S8192x1024 .bf16) (w : Vec Ideal S1024x1024 .bf16) (x : Vec Ideal S8192x1024 .f32) (mo l : Vec Ideal S8x1024 .f32)

/-- The product of the reference. -/
abbrev P : FVec Ideal S8192x1024 .f32 := Host.dotGeneral dot_S8192x1024_S1024x1024_S8192x1024_1_0_0_1_n_n none (extf (F := Ideal) .f32 a bitsLt_bf16_f32) (extf (F := Ideal) .f32 w bitsLt_bf16_f32)

/-- Its residual stream after the product. -/
abbrev R : FVec Ideal S8192x1024 .f32 := addf (mulf (broadcastInDim S8192x1024 ![] bcast_S_S8192x1024 (constant (F := Ideal) S_ .f32 0x3FD744FD#32)) x) (mulf (broadcastInDim S8192x1024 ![0, 1] bcast_S1x1024_S8192x1024_0_1 (addf (broadcastInDim S1x1024 ![] bcast_S_S1x1024 (constant (F := Ideal) S_ .f32 0x3F800000#32)) (extractStridedSlice S1x1024 ![2, 0] mo slices_S8x1024_S1x1024_2_0))) (P a w))

theorem P_apply (r : Fin 8192) (q : Fin 1024) : P a w (ix2 r q) = (∑ k : Fin 1024, a (ix2 r k) * w (ix2 k q) : EReal) := by
  pointwise

theorem prod_at (r : Fin 8192) (q : Fin 1024) : (truncf (F := Ideal) .bf16 (P a w) bitsLt_bf16_f32 : Vec Ideal S8192x1024 .bf16) (ix2 r q) = (∑ k : Fin 1024, a (ix2 r k) * w (ix2 k q) : EReal) :=
  P_apply a w r q

theorem res_at (r : Fin 8192) (q : Fin 1024) : R a w x mo (ix2 r q) = (Norm.alpha * x (ix2 r q) + (1 + mo (ix2 2 q)) * (∑ k : Fin 1024, a (ix2 r k) * w (ix2 k q)) : EReal) := by
  pointwise

section Norm

variable (v : FVec Ideal S8192x1024 .f32)

/-- The means of the rows, the rows less their means, and the norm's scale of each row. -/
abbrev mn : FVec Ideal S8192x1 .f32 := Host.divf (broadcastInDim S8192x1 ![0] bcast_S8192_S8192x1_0 (Host.reduceAdd v (constant (F := Ideal) S_ .f32 0x00000000#32) reducesTo_S8192x1024_S8192_d1 h_S_)) (broadcastInDim S8192x1 ![] bcast_S_S8192x1 (constant (F := Ideal) S_ .f32 0x44800000#32))
abbrev ce : FVec Ideal S8192x1024 .f32 := subf v (broadcastInDim S8192x1024 ![0, 1] bcast_S8192x1_S8192x1024_0_1 (mn v))
abbrev rs : FVec Ideal S8192x1 .f32 := Host.rsqrt (addf (mn (mulf (ce v) (ce v))) (broadcastInDim S8192x1 ![] bcast_S_S8192x1 (constant (F := Ideal) S_ .f32 0x3727C5AC#32)))
abbrev ln : FVec Ideal S8192x1024 .f32 := addf (mulf (mulf (ce v) (broadcastInDim S8192x1024 ![0, 1] bcast_S8192x1_S8192x1024_0_1 (rs v))) (broadcastInDim S8192x1024 ![0, 1] bcast_S1x1024_S8192x1024_0_1 (extractStridedSlice S1x1024 ![0, 0] l slices_S8x1024_S1x1024_0_0))) (broadcastInDim S8192x1024 ![0, 1] bcast_S1x1024_S8192x1024_0_1 (extractStridedSlice S1x1024 ![1, 0] l slices_S8x1024_S1x1024_1_0))

theorem mn_apply (r : Fin 8192) : mn v (ix2 r 0) = Norm.mean (fun k => v (ix2 r k)) := by
  unfold Norm.mean
  pointwise

theorem ce_apply (r : Fin 8192) (q : Fin 1024) : ce v (ix2 r q) = (v (ix2 r q) - Norm.mean (fun k => v (ix2 r k)) : EReal) := by
  unfold Norm.mean
  pointwise

theorem rs_apply (r : Fin 8192) : rs v (ix2 r 0) = Ideal.rsqrt (Norm.var (fun k => v (ix2 r k)) + Norm.eps) := by
  refine congrArg (fun z : EReal => Ideal.rsqrt (z + Norm.eps)) ((mn_apply (mulf (ce v) (ce v)) r).trans ?_)
  unfold Norm.var
  refine congrArg (fun z : EReal => Ideal.div z Norm.len) (Finset.sum_congr rfl fun k _ => ?_)
  exact congrArg₂ (fun a b : EReal => a * b) (ce_apply v r k) (ce_apply v r k)

theorem ln_gen (e : FVec Ideal S8192x1024 .f32) (u : FVec Ideal S8192x1 .f32) (r : Fin 8192) (q : Fin 1024) :
    (addf (mulf (mulf e (broadcastInDim S8192x1024 ![0, 1] bcast_S8192x1_S8192x1024_0_1 u)) (broadcastInDim S8192x1024 ![0, 1] bcast_S1x1024_S8192x1024_0_1 (extractStridedSlice S1x1024 ![0, 0] l slices_S8x1024_S1x1024_0_0))) (broadcastInDim S8192x1024 ![0, 1] bcast_S1x1024_S8192x1024_0_1 (extractStridedSlice S1x1024 ![1, 0] l slices_S8x1024_S1x1024_1_0)) : FVec Ideal S8192x1024 .f32) (ix2 r q)
      = (e (ix2 r q) * u (ix2 r 0) * l (ix2 0 q) + l (ix2 1 q) : EReal) := by
  pointwise

theorem ln_apply (r : Fin 8192) (q : Fin 1024) : ln l v (ix2 r q) = (Norm.norm (fun k => v (ix2 r k)) q * l (ix2 0 q) + l (ix2 1 q) : EReal) := by
  refine (ln_gen l (ce v) (rs v) r q).trans ?_
  rw [ce_apply, rs_apply]
  rfl

end Norm

theorem nrm_at (r : Fin 8192) (q : Fin 1024) : ln l (R a w x mo) (ix2 r q)
    = (Norm.norm (fun q => Norm.alpha * x (ix2 r q) + (1 + mo (ix2 2 q)) * (∑ k : Fin 1024, a (ix2 r k) * w (ix2 k q))) q * l (ix2 0 q) + l (ix2 1 q) : EReal) := by
  rw [ln_apply]
  exact congrArg (fun f => Norm.norm f q * l (ix2 0 q) + l (ix2 1 q)) (funext fun k => res_at a w x mo r k)

theorem hid_gen (v : FVec Ideal S8192x1024 .f32) (r : Fin 8192) (q : Fin 1024) :
    (truncf .bf16 (addf (mulf v (broadcastInDim S8192x1024 ![0, 1] bcast_S1x1024_S8192x1024_0_1 (addf (broadcastInDim S1x1024 ![] bcast_S_S1x1024 (constant (F := Ideal) S_ .f32 0x3F800000#32)) (extractStridedSlice S1x1024 ![4, 0] mo slices_S8x1024_S1x1024_4_0)))) (broadcastInDim S8192x1024 ![0, 1] bcast_S1x1024_S8192x1024_0_1 (extractStridedSlice S1x1024 ![3, 0] mo slices_S8x1024_S1x1024_3_0))) bitsLt_bf16_f32 : FVec Ideal S8192x1024 .bf16) (ix2 r q)
      = (v (ix2 r q) * (1 + mo (ix2 4 q)) + mo (ix2 3 q) : EReal) := by
  pointwise

theorem hid_at (r : Fin 8192) (q : Fin 1024) :
    (truncf .bf16 (addf (mulf (ln l (R a w x mo)) (broadcastInDim S8192x1024 ![0, 1] bcast_S1x1024_S8192x1024_0_1 (addf (broadcastInDim S1x1024 ![] bcast_S_S1x1024 (constant (F := Ideal) S_ .f32 0x3F800000#32)) (extractStridedSlice S1x1024 ![4, 0] mo slices_S8x1024_S1x1024_4_0)))) (broadcastInDim S8192x1024 ![0, 1] bcast_S1x1024_S8192x1024_0_1 (extractStridedSlice S1x1024 ![3, 0] mo slices_S8x1024_S1x1024_3_0))) bitsLt_bf16_f32 : FVec Ideal S8192x1024 .bf16) (ix2 r q)
      = ((Norm.norm (fun q => Norm.alpha * x (ix2 r q) + (1 + mo (ix2 2 q)) * (∑ k : Fin 1024, a (ix2 r k) * w (ix2 k q))) q * l (ix2 0 q) + l (ix2 1 q)) * (1 + mo (ix2 4 q)) + mo (ix2 3 q) : EReal) := by
  rw [hid_gen]
  exact congrArg (fun z => z * (1 + mo (ix2 4 q)) + mo (ix2 3 q)) (nrm_at a w x mo l r q)

end Cert.OutLnRef

end
-- ==== Proof.SmallGrads.lean ====
module

public import Idealize.ShloMosaic.Lib.StableHlo.RunClose
public import proofs.«01_k».proof.Proof.Gen.Kernel24Ideal.Frame
public import proofs.«01_k».proof.Proof.Gen.Reference24Ideal.Run
public import proofs.«01_k».proof.Proof.Sum8
public import Idealize.ShloMosaic.Lib.Pipeline.ValueKit

@[expose] public section

set_option maxRecDepth 16384

noncomputable section

namespace Cert.SmallGrads

open Idealize.ShloMosaic Idealize.ShloMosaic.TcCoe Idealize.SL.Sem
open Cert.Kernel24Ideal Cert.Kernel24Ideal.Gen

variable (m : (ℓ : Loc nD τ sig) → Buf (Elt Ideal) ℓ)

/-- Every window is one block, its whole array. -/
theorem idx_zero : ∀ (w : Fin cfg0.W) (t : Fin cfg0.N) (a : Fin (cfg0.win w).shape.rank), (cfg0.win w).index t a = 0 := by
  decide +kernel

theorem in0 (c : Dev nD) (t : Fin cfg0.N) : iblk m c 0 t = m ((c : Thread nD τ).loc main_arg1) := by
  funext j
  show m ((c : Thread nD τ).loc main_arg1) (((cfg0.win 0).rect t).emb j) = _
  congr 1; funext a; apply Fin.ext
  exact Pipeline.Window.rect_emb_val_of_index_zero _ t a (idx_zero 0 t a) j

theorem in1 (c : Dev nD) (t : Fin cfg0.N) : iblk m c 1 t = m ((c : Thread nD τ).loc main_arg2) := by
  funext j
  show m ((c : Thread nD τ).loc main_arg2) (((cfg0.win 1).rect t).emb j) = _
  congr 1; funext a; apply Fin.ext
  exact Pipeline.Window.rect_emb_val_of_index_zero _ t a (idx_zero 1 t a) j

theorem in2 (c : Dev nD) (t : Fin cfg0.N) : iblk m c 2 t = m ((c : Thread nD τ).loc main_arg3) := by
  funext j
  show m ((c : Thread nD τ).loc main_arg3) (((cfg0.win 2).rect t).emb j) = _
  congr 1; funext a; apply Fin.ext
  exact Pipeline.Window.rect_emb_val_of_index_zero _ t a (idx_zero 2 t a) j

theorem in3 (c : Dev nD) (t : Fin cfg0.N) : iblk m c 3 t = m ((c : Thread nD τ).loc main_arg4) := by
  funext j
  show m ((c : Thread nD τ).loc main_arg4) (((cfg0.win 3).rect t).emb j) = _
  congr 1; funext a; apply Fin.ext
  exact Pipeline.Window.rect_emb_val_of_index_zero _ t a (idx_zero 3 t a) j

theorem in5 (c : Dev nD) (t : Fin cfg0.N) : iblk m c 5 t = m ((c : Thread nD τ).loc main_arg6) := by
  funext j
  show m ((c : Thread nD τ).loc main_arg6) (((cfg0.win 5).rect t).emb j) = _
  congr 1; funext a; apply Fin.ext
  exact Pipeline.Window.rect_emb_val_of_index_zero _ t a (idx_zero 5 t a) j

theorem in7 (c : Dev nD) (t : Fin cfg0.N) : iblk m c 7 t = m ((c : Thread nD τ).loc main_arg8) := by
  funext j
  show m ((c : Thread nD τ).loc main_arg8) (((cfg0.win 7).rect t).emb j) = _
  congr 1; funext a; apply Fin.ext
  exact Pipeline.Window.rect_emb_val_of_index_zero _ t a (idx_zero 7 t a) j

/-- The memory the host operations after the region find: the windows' arrays as the region leaves them. -/
irreducible_def W (c : Dev nD) : Valuation τ sig (Elt Ideal) :=
  Pipeline.withArrays spec0 c (V0 m c) fun w => (dats m 0 c).arrAt w cfg0.N

theorem W_arr (c : Dev nD) (w : Fin cfg0.W) : W m c (Proc.devRef .tc (Pipeline.arrRef spec0 w)) = (dats m 0 c).arrAt w cfg0.N := by
  rw [W]
  exact Pipeline.withArrays_arr spec0 winFacts0.arr_inj c _ _ w

theorem W_chip (c : Dev nD) : W m c (Proc.devRef .tc main_arg0) = m ((c : Thread nD τ).loc main_arg0) := by
  rw [W]
  exact Pipeline.withArrays_of_ne spec0 c _ _ main_arg0 (by exact (by decide : ∀ w, Pipeline.arrRef spec0 w ≠ main_arg0))

theorem sum0 (c : Dev nD) (h : S128x1024.ShapeCasts S4x32x1024) (hc : S1024x1024.ShapeCasts Reference24Ideal.S8x4x32x1024) (hr : Reference24Ideal.S8x4x32x1024.ReducesTo [0] S4x32x1024) (hp : 0 < S_.numel) :
    (shapeCast S4x32x1024 (W m c (Proc.devRef .tc main_v0_0) : FVec Ideal S128x1024 .f32) h : FVec Ideal S4x32x1024 .f32)
      = Host.reduceAdd (shapeCast Reference24Ideal.S8x4x32x1024 (m ((c : Thread nD τ).loc main_arg1) : FVec Ideal S1024x1024 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S128x1024 .f32 => shapeCast S4x32x1024 y h) (Eq.symm ((W_arr m c 8).trans ?_))
  refine (dats m 0 c).arrAt_eq_of_after_last 8 ⟨0, by decide⟩ (by decide +kernel) _ fun j => ?_
  rw [after0_8, in0]
  unfold out0_8
  rw [View.canon_unit_zero (funext fun a => by fin_cases a <;> rfl)]
  rfl

theorem sum1 (c : Dev nD) (h : S224x256.ShapeCasts S4x56x256) (hc : S1792x256.ShapeCasts Reference24Ideal.S8x4x56x256) (hr : Reference24Ideal.S8x4x56x256.ReducesTo [0] S4x56x256) (hp : 0 < S_.numel) :
    (shapeCast S4x56x256 (W m c (Proc.devRef .tc main_v0_1) : FVec Ideal S224x256 .f32) h : FVec Ideal S4x56x256 .f32)
      = Host.reduceAdd (shapeCast Reference24Ideal.S8x4x56x256 (m ((c : Thread nD τ).loc main_arg2) : FVec Ideal S1792x256 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S224x256 .f32 => shapeCast S4x56x256 y h) (Eq.symm ((W_arr m c 9).trans ?_))
  refine (dats m 0 c).arrAt_eq_of_after_last 9 ⟨0, by decide⟩ (by decide +kernel) _ fun j => ?_
  rw [after0_9, in1]
  unfold out0_9
  rw [View.canon_unit_zero (funext fun a => by fin_cases a <;> rfl)]
  rfl

theorem sum2 (c : Dev nD) (h : S32x256.ShapeCasts S4x8x256) (hc : S256x256.ShapeCasts Reference24Ideal.S8x4x8x256) (hr : Reference24Ideal.S8x4x8x256.ReducesTo [0] S4x8x256) (hp : 0 < S_.numel) :
    (shapeCast S4x8x256 (W m c (Proc.devRef .tc main_v0_2) : FVec Ideal S32x256 .f32) h : FVec Ideal S4x8x256 .f32)
      = Host.reduceAdd (shapeCast Reference24Ideal.S8x4x8x256 (m ((c : Thread nD τ).loc main_arg3) : FVec Ideal S256x256 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S32x256 .f32 => shapeCast S4x8x256 y h) (Eq.symm ((W_arr m c 10).trans ?_))
  refine (dats m 0 c).arrAt_eq_of_after_last 10 ⟨0, by decide⟩ (by decide +kernel) _ fun j => ?_
  rw [after0_10, in2]
  unfold out0_10
  rw [View.canon_unit_zero (funext fun a => by fin_cases a <;> rfl)]
  rfl

theorem sum3 (c : Dev nD) (h : S1024x64.ShapeCasts S4x256x64) (hc : S8192x64.ShapeCasts Reference24Ideal.S8x4x256x64) (hr : Reference24Ideal.S8x4x256x64.ReducesTo [0] S4x256x64) (hp : 0 < S_.numel) :
    (shapeCast S4x256x64 (W m c (Proc.devRef .tc main_v0_3) : FVec Ideal S1024x64 .f32) h : FVec Ideal S4x256x64 .f32)
      = Host.reduceAdd (shapeCast Reference24Ideal.S8x4x256x64 (m ((c : Thread nD τ).loc main_arg4) : FVec Ideal S8192x64 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S1024x64 .f32 => shapeCast S4x256x64 y h) (Eq.symm ((W_arr m c 11).trans ?_))
  refine (dats m 0 c).arrAt_eq_of_after_last 11 ⟨0, by decide⟩ (by decide +kernel) _ fun j => ?_
  rw [after0_11, in3]
  unfold out0_11
  rw [View.canon_unit_zero (funext fun a => by fin_cases a <;> rfl)]
  rfl

theorem sum5 (c : Dev nD) (h : S1024x128.ShapeCasts S4x256x128) (hc : S8192x128.ShapeCasts Reference24Ideal.S8x4x256x128) (hr : Reference24Ideal.S8x4x256x128.ReducesTo [0] S4x256x128) (hp : 0 < S_.numel) :
    (shapeCast S4x256x128 (W m c (Proc.devRef .tc main_v0_5) : FVec Ideal S1024x128 .f32) h : FVec Ideal S4x256x128 .f32)
      = Host.reduceAdd (shapeCast Reference24Ideal.S8x4x256x128 (m ((c : Thread nD τ).loc main_arg6) : FVec Ideal S8192x128 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S1024x128 .f32 => shapeCast S4x256x128 y h) (Eq.symm ((W_arr m c 13).trans ?_))
  refine (dats m 0 c).arrAt_eq_of_after_last 13 ⟨0, by decide⟩ (by decide +kernel) _ fun j => ?_
  rw [after0_13, in5]
  unfold out0_13
  rw [View.canon_unit_zero (funext fun a => by fin_cases a <;> rfl)]
  rfl

theorem sum7 (c : Dev nD) (h : S32x1536.ShapeCasts S4x8x1536) (hc : S256x1536.ShapeCasts Reference24Ideal.S8x4x8x1536) (hr : Reference24Ideal.S8x4x8x1536.ReducesTo [0] S4x8x1536) (hp : 0 < S_.numel) :
    (shapeCast S4x8x1536 (W m c (Proc.devRef .tc main_v0_7) : FVec Ideal S32x1536 .f32) h : FVec Ideal S4x8x1536 .f32)
      = Host.reduceAdd (shapeCast Reference24Ideal.S8x4x8x1536 (m ((c : Thread nD τ).loc main_arg8) : FVec Ideal S256x1536 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S32x1536 .f32 => shapeCast S4x8x1536 y h) (Eq.symm ((W_arr m c 15).trans ?_))
  refine (dats m 0 c).arrAt_eq_of_after_last 15 ⟨0, by decide⟩ (by decide +kernel) _ fun j => ?_
  rw [after0_15, in7]
  unfold out0_15
  rw [View.canon_unit_zero (funext fun a => by fin_cases a <;> rfl)]
  rfl

/-- What a buffer no window stages holds at the end. -/
def fin (c : Dev nD) (b : Ref sig .tc) : Buf (Elt Ideal) ((c.tc : Thread nD τ).loc b) := StableHlo.after hostOps1 (W m c) (Proc.devRef .tc b)

/-- Every run ends with those contents, and the arguments unchanged. -/
theorem run (ρ : Dev nD → PrngReg) : θ_run defs (onTc (τ := τ) (main (F := Ideal))) ⟨m, fun _ => 0, ρ⟩ (fun r => ∀ c : Dev nD,
      (∀ b ∈ Pipeline.restRefs sig spec0, r.2.mem ((c.tc : Thread nD τ).loc b) = fin m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨fun b hb => ?_, h.2 c⟩) (θ_run_and (run_main m ρ) (unchanged m ρ))
  refine ((h.1 c).2 b hb).trans ?_
  unfold Pipeline.afterTail₀ fin
  rw [W]
  rfl

/-- Equal pieces, equal concatenations. -/
theorem concat_congr {t : Shape} {a : Fin t.rank} {xs ys : List ((s : Shape) × (s.Idx → EReal))} (e : xs = ys) {h h'} :
    concatenate t a xs h = concatenate t a ys h' := by
  subst e; rfl

/-- The same pieces one by one. -/
theorem cons_congr {s : Shape} {x y : s.Idx → EReal} {l l' : List ((s : Shape) × (s.Idx → EReal))} (e : x = y) (e' : l = l') :
    ((⟨s, x⟩ : (s : Shape) × (s.Idx → EReal)) :: l) = ⟨s, y⟩ :: l' := by
  subst e; subst e'; rfl

/-- Equal operands and starts, equal slices. -/
theorem slice_congr {s t : Shape} {x y : s.Idx → EReal} {i j : Fin s.rank → Int} (e : x = y) (e' : i = j) {h h'} :
    Host.dynamicSlice t x i h = Host.dynamicSlice t y j h' := by
  subst e; subst e'; rfl

end Cert.SmallGrads

end
-- ==== Proof.SsmParams.lean ====
module

public import Idealize.ShloMosaic.Lib.StableHlo.RunClose
public import proofs.«01_k».proof.Proof.Gen.Kernel25Ideal.Frame
public import proofs.«01_k».proof.Proof.Gen.Reference25Ideal.Run
public import proofs.«01_k».proof.Proof.Sum8
public import Idealize.ShloMosaic.Lib.Pipeline.ValueKit

@[expose] public section

set_option maxRecDepth 16384

noncomputable section

namespace Cert.SsmParams

open Idealize.ShloMosaic Idealize.ShloMosaic.TcCoe Idealize.SL.Sem
open Cert.Kernel25Ideal Cert.Kernel25Ideal.Gen

variable (m : (ℓ : Loc nD τ sig) → Buf (Elt Ideal) ℓ)

/-- Every window is one block, its whole array. -/
theorem idx_zero : ∀ (w : Fin cfg0.W) (t : Fin cfg0.N) (a : Fin (cfg0.win w).shape.rank), (cfg0.win w).index t a = 0 := by
  decide +kernel

theorem in4 (c : Dev nD) (t : Fin cfg0.N) : iblk m c 4 t = m ((c : Thread nD τ).loc main_arg9) := by
  funext j
  show m ((c : Thread nD τ).loc main_arg9) (((cfg0.win 4).rect t).emb j) = _
  congr 1; funext a; apply Fin.ext
  exact Pipeline.Window.rect_emb_val_of_index_zero _ t a (idx_zero 4 t a) j

theorem in6 (c : Dev nD) (t : Fin cfg0.N) : iblk m c 6 t = m ((c : Thread nD τ).loc main_arg11) := by
  funext j
  show m ((c : Thread nD τ).loc main_arg11) (((cfg0.win 6).rect t).emb j) = _
  congr 1; funext a; apply Fin.ext
  exact Pipeline.Window.rect_emb_val_of_index_zero _ t a (idx_zero 6 t a) j

/-- The memory the host operations after the region find: the windows' arrays as the region leaves them. -/
irreducible_def W (c : Dev nD) : Valuation τ sig (Elt Ideal) :=
  Pipeline.withArrays spec0 c (V0 m c) fun w => (dats m 0 c).arrAt w cfg0.N

theorem W_arr (c : Dev nD) (w : Fin cfg0.W) : W m c (Proc.devRef .tc (Pipeline.arrRef spec0 w)) = (dats m 0 c).arrAt w cfg0.N := by
  rw [W]
  exact Pipeline.withArrays_arr spec0 winFacts0.arr_inj c _ _ w

theorem W_arg0 (c : Dev nD) : W m c (Proc.devRef .tc main_arg0) = m ((c : Thread nD τ).loc main_arg0) := by
  rw [W]
  exact Pipeline.withArrays_of_ne spec0 c _ _ main_arg0 (by exact (by decide : ∀ w, Pipeline.arrRef spec0 w ≠ main_arg0))

theorem W_arg1 (c : Dev nD) : W m c (Proc.devRef .tc main_arg1) = m ((c : Thread nD τ).loc main_arg1) := by
  rw [W]
  exact Pipeline.withArrays_of_ne spec0 c _ _ main_arg1 (by exact (by decide : ∀ w, Pipeline.arrRef spec0 w ≠ main_arg1))

theorem W_arg2 (c : Dev nD) : W m c (Proc.devRef .tc main_arg2) = m ((c : Thread nD τ).loc main_arg2) := by
  rw [W]
  exact Pipeline.withArrays_of_ne spec0 c _ _ main_arg2 (by exact (by decide : ∀ w, Pipeline.arrRef spec0 w ≠ main_arg2))

theorem W_arg3 (c : Dev nD) : W m c (Proc.devRef .tc main_arg3) = m ((c : Thread nD τ).loc main_arg3) := by
  rw [W]
  exact Pipeline.withArrays_of_ne spec0 c _ _ main_arg3 (by exact (by decide : ∀ w, Pipeline.arrRef spec0 w ≠ main_arg3))

theorem W_arg4 (c : Dev nD) : W m c (Proc.devRef .tc main_arg4) = m ((c : Thread nD τ).loc main_arg4) := by
  rw [W]
  exact Pipeline.withArrays_of_ne spec0 c _ _ main_arg4 (by exact (by decide : ∀ w, Pipeline.arrRef spec0 w ≠ main_arg4))

theorem sum4 (c : Dev nD) (h : S1024x128.ShapeCasts S4x256x128) (hc : S8192x128.ShapeCasts Reference25Ideal.S8x4x256x128) (hr : Reference25Ideal.S8x4x256x128.ReducesTo [0] S4x256x128) (hp : 0 < S_.numel) :
    (shapeCast S4x256x128 (W m c (Proc.devRef .tc main_v0_4) : FVec Ideal S1024x128 .f32) h : FVec Ideal S4x256x128 .f32)
      = Host.reduceAdd (shapeCast Reference25Ideal.S8x4x256x128 (m ((c : Thread nD τ).loc main_arg9) : FVec Ideal S8192x128 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S1024x128 .f32 => shapeCast S4x256x128 y h) (Eq.symm ((W_arr m c 12).trans ?_))
  refine (dats m 0 c).arrAt_eq_of_after_last 12 ⟨0, by decide⟩ (by decide +kernel) _ fun j => ?_
  rw [after0_12, in4]
  unfold out0_12
  rw [View.canon_unit_zero (funext fun a => by fin_cases a <;> rfl)]
  rfl

theorem sum6 (c : Dev nD) (h : S32x2048.ShapeCasts S4x8x2048) (hc : S256x2048.ShapeCasts Reference25Ideal.S8x4x8x2048) (hr : Reference25Ideal.S8x4x8x2048.ReducesTo [0] S4x8x2048) (hp : 0 < S_.numel) :
    (shapeCast S4x8x2048 (W m c (Proc.devRef .tc main_v0_6) : FVec Ideal S32x2048 .f32) h : FVec Ideal S4x8x2048 .f32)
      = Host.reduceAdd (shapeCast Reference25Ideal.S8x4x8x2048 (m ((c : Thread nD τ).loc main_arg11) : FVec Ideal S256x2048 .f32) hc) (constant (F := Ideal) S_ .f32 0x00000000#32) hr hp := by
  refine ((Sum8.layers (P := S_) rfl (Sum8.bound rfl 0) (Sum8.bound rfl 1) (Sum8.bound rfl 2) (Sum8.bound rfl 3) (Sum8.bound rfl 4) (Sum8.bound rfl 5) (Sum8.bound rfl 6) (Sum8.bound rfl 7) rfl _ hc hr h hp).trans ?_).symm
  refine congrArg (fun y : FVec Ideal S32x2048 .f32 => shapeCast S4x8x2048 y h) (Eq.symm ((W_arr m c 14).trans ?_))
  refine (dats m 0 c).arrAt_eq_of_after_last 14 ⟨0, by decide⟩ (by decide +kernel) _ fun j => ?_
  rw [after0_14, in6]
  unfold out0_14
  rw [View.canon_unit_zero (funext fun a => by fin_cases a <;> rfl)]
  rfl

/-- What a buffer no window stages holds at the end. -/
def fin (c : Dev nD) (b : Ref sig .tc) : Buf (Elt Ideal) ((c.tc : Thread nD τ).loc b) := StableHlo.after hostOps1 (W m c) (Proc.devRef .tc b)

/-- Every run ends with those contents, and the arguments unchanged. -/
theorem run (ρ : Dev nD → PrngReg) : θ_run defs (onTc (τ := τ) (main (F := Ideal))) ⟨m, fun _ => 0, ρ⟩ (fun r => ∀ c : Dev nD,
      (∀ b ∈ Pipeline.restRefs sig spec0, r.2.mem ((c.tc : Thread nD τ).loc b) = fin m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun r h c => ⟨fun b hb => ?_, h.2 c⟩) (θ_run_and (run_main m ρ) (unchanged m ρ))
  refine ((h.1 c).2 b hb).trans ?_
  unfold Pipeline.afterTail₀ fin
  rw [W]
  rfl

end Cert.SsmParams

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel2
public import proofs.«01_k».proof.Proof.Gen.Kernel2Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.KernelIdeal.Frame
public import proofs.«01_k».proof.Proof.Gen.ReferenceIdeal.Run
public import proofs.«01_k».proof.Proof.Gen.Kernel3Ideal.Frame
public import proofs.«01_k».proof.Proof.Gen.Reference3Ideal.Run
public import proofs.«01_k».proof.Proof.Gen.Kernel4Ideal.Frame
public import proofs.«01_k».proof.Proof.Gen.Reference4Ideal.Run
public import proofs.«01_k».proof.Proof.Gen.Kernel5Ideal.Frame
public import proofs.«01_k».proof.Proof.Gen.Reference5Ideal.Run
public import proofs.«01_k».proof.Proof.Gen.Kernel6Ideal.Frame
public import proofs.«01_k».proof.Proof.Gen.Reference6Ideal.Run
public import proofs.«01_k».proof.Proof.Gen.Kernel7Ideal.Frame
public import proofs.«01_k».proof.Proof.Gen.Reference7Ideal.Run
public import proofs.«01_k».proof.Proof.Gen.Kernel8Ideal.Frame
public import proofs.«01_k».proof.Proof.Gen.Reference8Ideal.Run
public import proofs.«01_k».proof.Proof.Gen.Kernel9Ideal.Frame
public import proofs.«01_k».proof.Proof.Gen.Reference9Ideal.Run
public import proofs.«01_k».proof.Proof.Gen.Kernel10Ideal.Frame
public import proofs.«01_k».proof.Proof.Gen.Reference10Ideal.Run
public import proofs.«01_k».proof.Proof.SsmFrame
public import proofs.«01_k».proof.Proof.Gen.Kernel11Ideal.Frame
public import proofs.«01_k».proof.Proof.Gen.Reference11Ideal.Run
public import proofs.«01_k».proof.Proof.Gen.Kernel12Ideal.Frame
public import proofs.«01_k».proof.Proof.Gen.Reference12Ideal.Run
public import proofs.«01_k».proof.Proof.Gen.Kernel13Ideal.Frame
public import proofs.«01_k».proof.Proof.Gen.Reference13Ideal.Run
public import proofs.«01_k».proof.Proof.Gen.Kernel14Ideal.Frame
public import proofs.«01_k».proof.Proof.Gen.Reference14Ideal.Run
public import proofs.«01_k».proof.Proof.Gen.Kernel15Ideal.Frame
public import proofs.«01_k».proof.Proof.Gen.Reference15Ideal.Run
public import proofs.«01_k».proof.Proof.Gen.Kernel16Ideal.Frame
public import proofs.«01_k».proof.Proof.Gen.Reference16Ideal.Run
public import proofs.«01_k».proof.Proof.AdamManyValue
public import proofs.«01_k».proof.Proof.Gen.Reference17Ideal.Run
public import proofs.«01_k».proof.Proof.Gen.Kernel18Ideal.Frame
public import proofs.«01_k».proof.Proof.Gen.Reference18Ideal.Run
public import proofs.«01_k».proof.Proof.Gen.Kernel19Ideal.Frame
public import proofs.«01_k».proof.Proof.Gen.Reference19Ideal.Run
public import proofs.«01_k».proof.Proof.Gen.Kernel20Ideal.Frame
public import proofs.«01_k».proof.Proof.Gen.Reference20Ideal.Run
public import proofs.«01_k».proof.Proof.Gen.Kernel21Ideal.Frame
public import proofs.«01_k».proof.Proof.Gen.Reference21Ideal.Run
public import proofs.«01_k».proof.Proof.Gen.Kernel22Ideal.Frame
public import proofs.«01_k».proof.Proof.Gen.Reference22Ideal.Run
public import proofs.«01_k».proof.Proof.Gen.Kernel23Ideal.Frame
public import proofs.«01_k».proof.Proof.Gen.Reference23Ideal.Run
public import proofs.«01_k».proof.Proof.Gen.Kernel24Ideal.Frame
public import proofs.«01_k».proof.Proof.Gen.Reference24Ideal.Run
public import proofs.«01_k».proof.Proof.Gen.Kernel25Ideal.Frame
public import proofs.«01_k».proof.Proof.Gen.Reference25Ideal.Run
public import proofs.«01_k».proof.Proof.DxFf
public import proofs.«01_k».proof.Proof.DxFfRef
public import proofs.«01_k».proof.Proof.DwFf
public import proofs.«01_k».proof.Proof.DwO
public import proofs.«01_k».proof.Proof.DwIn
public import proofs.«01_k».proof.Proof.DxIn
public import proofs.«01_k».proof.Proof.DxInRef
public import proofs.«01_k».proof.Proof.GateUp
public import proofs.«01_k».proof.Proof.GateUpRef
public import proofs.«01_k».proof.Proof.InFwd
public import proofs.«01_k».proof.Proof.InFwdRef
public import proofs.«01_k».proof.Proof.Adam
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Loss
public import proofs.«01_k».proof.Proof.LossRef
public import proofs.«01_k».proof.Proof.AdaGrad
public import proofs.«01_k».proof.Proof.AdaGradRef
public import proofs.«01_k».proof.Proof.AdaFwd
public import proofs.«01_k».proof.Proof.AdaFwdRef
public import proofs.«01_k».proof.Proof.Sum8
public import proofs.«01_k».proof.Proof.Gen.Kernel21Ideal.Value
public import proofs.«01_k».proof.Proof.DownLn
public import proofs.«01_k».proof.Proof.DownLnRef
public import proofs.«01_k».proof.Proof.OutLn
public import proofs.«01_k».proof.Proof.OutLnRef
public import proofs.«01_k».proof.Proof.SmallGrads
public import proofs.«01_k».proof.Proof.SsmParams

@[expose] public section

set_option maxRecDepth 16384

namespace Cert.Proof

open Idealize.ShloMosaic Idealize.ShloMosaic.TcCoe Idealize.SL.Sem

/-- The kernel ends with its arguments kept. -/
theorem frame_KernelIdeal : quiescent_KernelIdeal :=
  fun m ρ _ => Cert.KernelIdeal.Gen.frame (F := Ideal) m ρ

/-- The printed programs run the same body. -/
theorem body_Kernel : Cert.Kernel.defs₀ (F := Bits) = Cert.KernelIdeal.defs₀ := by
  refine congrArg Defs.onTc (funext fun l => funext fun a => ?_)
  match l, a with
  | 0, (t, s) => rfl

theorem frame_Kernel : quiescent_Kernel := by
  intro m ρ _
  rw [show Cert.Kernel.defs (F := Bits) = Cert.KernelIdeal.defs from congrArg (Pipeline.defs _) body_Kernel]
  exact (θ_run Cert.KernelIdeal.defs _ _).mono (fun _ h => h) (Cert.KernelIdeal.Gen.frame (F := Bits) m ρ)

/-- The reference ends with its arguments kept. -/
theorem frame_ReferenceIdeal : quiescent_ReferenceIdeal :=
  fun m ρ _ => (θ_run _ _ _).mono (fun r h => ⟨fun c => (h c).2.2, sem_eq_zero_of_no_sems (by decide) r.2⟩)
    (Cert.ReferenceIdeal.Value.run (F := Ideal) m ρ)

/-- The kernel ends with its arguments kept. -/
theorem frame_Kernel3Ideal : quiescent_Kernel3Ideal :=
  fun m ρ _ => Cert.Kernel3Ideal.Gen.frame (F := Ideal) m ρ

/-- The printed programs run the same body. -/
theorem body_Kernel3 : Cert.Kernel3.defs₀ (F := Bits) = Cert.Kernel3Ideal.defs₀ := by
  refine congrArg Defs.onTc (funext fun l => funext fun a => ?_)
  match l, a with
  | 0, (t, s) => rfl

theorem frame_Kernel3 : quiescent_Kernel3 := by
  intro m ρ _
  rw [show Cert.Kernel3.defs (F := Bits) = Cert.Kernel3Ideal.defs from congrArg (Pipeline.defs _) body_Kernel3]
  exact (θ_run Cert.Kernel3Ideal.defs _ _).mono (fun _ h => h) (Cert.Kernel3Ideal.Gen.frame (F := Bits) m ρ)

/-- The reference ends with its arguments kept. -/
theorem frame_Reference3Ideal : quiescent_Reference3Ideal :=
  fun m ρ _ => (θ_run _ _ _).mono (fun r h => ⟨fun c => (h c).2.2, sem_eq_zero_of_no_sems (by decide) r.2⟩)
    (Cert.Reference3Ideal.Value.run (F := Ideal) m ρ)

/-- The kernel ends with its arguments kept. -/
theorem frame_Kernel4Ideal : quiescent_Kernel4Ideal :=
  fun m ρ _ => Cert.Kernel4Ideal.Gen.frame (F := Ideal) m ρ

/-- The printed programs run the same body. -/
theorem body_Kernel4 : Cert.Kernel4.defs₀ (F := Bits) = Cert.Kernel4Ideal.defs₀ := by
  refine congrArg Defs.onTc (funext fun l => funext fun a => ?_)
  match l, a with
  | 0, (t, s) => rfl

theorem frame_Kernel4 : quiescent_Kernel4 := by
  intro m ρ _
  rw [show Cert.Kernel4.defs (F := Bits) = Cert.Kernel4Ideal.defs from congrArg (Pipeline.defs _) body_Kernel4]
  exact (θ_run Cert.Kernel4Ideal.defs _ _).mono (fun _ h => h) (Cert.Kernel4Ideal.Gen.frame (F := Bits) m ρ)

/-- The reference ends with its arguments kept. -/
theorem frame_Reference4Ideal : quiescent_Reference4Ideal :=
  fun m ρ _ => (θ_run _ _ _).mono (fun r h => ⟨fun c => (h c).2, sem_eq_zero_of_no_sems (by decide) r.2⟩)
    (Cert.Reference4Ideal.Value.run (F := Ideal) m ρ)

/-- The kernel ends with its arguments kept. -/
theorem frame_Kernel5Ideal : quiescent_Kernel5Ideal :=
  fun m ρ _ => Cert.Kernel5Ideal.Gen.frame (F := Ideal) m ρ

/-- The printed programs run the same body. -/
theorem body_Kernel5 : Cert.Kernel5.defs₀ (F := Bits) = Cert.Kernel5Ideal.defs₀ := by
  refine congrArg Defs.onTc (funext fun l => funext fun a => ?_)
  match l, a with
  | 0, (t, s) => rfl

theorem frame_Kernel5 : quiescent_Kernel5 := by
  intro m ρ _
  rw [show Cert.Kernel5.defs (F := Bits) = Cert.Kernel5Ideal.defs from congrArg (Pipeline.defs _) body_Kernel5]
  exact (θ_run Cert.Kernel5Ideal.defs _ _).mono (fun _ h => h) (Cert.Kernel5Ideal.Gen.frame (F := Bits) m ρ)

/-- The reference ends with its arguments kept. -/
theorem frame_Reference5Ideal : quiescent_Reference5Ideal :=
  fun m ρ _ => (θ_run _ _ _).mono (fun r h => ⟨fun c => (h c).2.2.2, sem_eq_zero_of_no_sems (by decide) r.2⟩)
    (Cert.Reference5Ideal.Value.run (F := Ideal) m ρ)

/-- The kernel ends with its arguments kept. -/
theorem frame_Kernel6Ideal : quiescent_Kernel6Ideal :=
  fun m ρ _ => Cert.Kernel6Ideal.Gen.frame (F := Ideal) m ρ

/-- The printed programs run the same body. -/
theorem body_Kernel6 : Cert.Kernel6.defs₀ (F := Bits) = Cert.Kernel6Ideal.defs₀ := by
  refine congrArg Defs.onTc (funext fun l => funext fun a => ?_)
  match l, a with
  | 0, (t, s) => rfl

theorem frame_Kernel6 : quiescent_Kernel6 := by
  intro m ρ _
  rw [show Cert.Kernel6.defs (F := Bits) = Cert.Kernel6Ideal.defs from congrArg (Pipeline.defs _) body_Kernel6]
  exact (θ_run Cert.Kernel6Ideal.defs _ _).mono (fun _ h => h) (Cert.Kernel6Ideal.Gen.frame (F := Bits) m ρ)

/-- The reference ends with its arguments kept. -/
theorem frame_Reference6Ideal : quiescent_Reference6Ideal :=
  fun m ρ _ => (θ_run _ _ _).mono (fun r h => ⟨fun c => (h c).2, sem_eq_zero_of_no_sems (by decide) r.2⟩)
    (Cert.Reference6Ideal.Value.run (F := Ideal) m ρ)

/-- The kernel ends with its arguments kept. -/
theorem frame_Kernel7Ideal : quiescent_Kernel7Ideal :=
  fun m ρ _ => Cert.Kernel7Ideal.Gen.frame (F := Ideal) m ρ

/-- The printed programs run the same body. -/
theorem body_Kernel7 : Cert.Kernel7.defs₀ (F := Bits) = Cert.Kernel7Ideal.defs₀ := by
  refine congrArg Defs.onTc (funext fun l => funext fun a => ?_)
  match l, a with
  | 0, (t, s) => rfl

theorem frame_Kernel7 : quiescent_Kernel7 := by
  intro m ρ _
  rw [show Cert.Kernel7.defs (F := Bits) = Cert.Kernel7Ideal.defs from congrArg (Pipeline.defs _) body_Kernel7]
  exact (θ_run Cert.Kernel7Ideal.defs _ _).mono (fun _ h => h) (Cert.Kernel7Ideal.Gen.frame (F := Bits) m ρ)

/-- The reference ends with its arguments kept. -/
theorem frame_Reference7Ideal : quiescent_Reference7Ideal :=
  fun m ρ _ => (θ_run _ _ _).mono (fun r h => ⟨fun c => (h c).2, sem_eq_zero_of_no_sems (by decide) r.2⟩)
    (Cert.Reference7Ideal.Value.run (F := Ideal) m ρ)

/-- The kernel ends with its arguments kept. -/
theorem frame_Kernel8Ideal : quiescent_Kernel8Ideal :=
  fun m ρ _ => Cert.Kernel8Ideal.Gen.frame (F := Ideal) m ρ

/-- The printed programs run the same body. -/
theorem body_Kernel8 : Cert.Kernel8.defs₀ (F := Bits) = Cert.Kernel8Ideal.defs₀ := by
  refine congrArg Defs.onTc (funext fun l => funext fun a => ?_)
  match l, a with
  | 0, (t, s) => rfl

theorem frame_Kernel8 : quiescent_Kernel8 := by
  intro m ρ _
  rw [show Cert.Kernel8.defs (F := Bits) = Cert.Kernel8Ideal.defs from congrArg (Pipeline.defs _) body_Kernel8]
  exact (θ_run Cert.Kernel8Ideal.defs _ _).mono (fun _ h => h) (Cert.Kernel8Ideal.Gen.frame (F := Bits) m ρ)

/-- The reference ends with its arguments kept. -/
theorem frame_Reference8Ideal : quiescent_Reference8Ideal :=
  fun m ρ _ => (θ_run _ _ _).mono (fun r h => ⟨fun c => (h c).2.2, sem_eq_zero_of_no_sems (by decide) r.2⟩)
    (Cert.Reference8Ideal.Value.run (F := Ideal) m ρ)

/-- The kernel ends with its arguments kept. -/
theorem frame_Kernel9Ideal : quiescent_Kernel9Ideal :=
  fun m ρ _ => Cert.Kernel9Ideal.Gen.frame (F := Ideal) m ρ

/-- The printed programs run the same body. -/
theorem body_Kernel9 : Cert.Kernel9.defs₀ (F := Bits) = Cert.Kernel9Ideal.defs₀ := by
  refine congrArg Defs.onTc (funext fun l => funext fun a => ?_)
  match l, a with
  | 0, (t, s) => rfl

theorem frame_Kernel9 : quiescent_Kernel9 := by
  intro m ρ _
  rw [show Cert.Kernel9.defs (F := Bits) = Cert.Kernel9Ideal.defs from congrArg (Pipeline.defs _) body_Kernel9]
  exact (θ_run Cert.Kernel9Ideal.defs _ _).mono (fun _ h => h) (Cert.Kernel9Ideal.Gen.frame (F := Bits) m ρ)

/-- The reference ends with its arguments kept. -/
theorem frame_Reference9Ideal : quiescent_Reference9Ideal :=
  fun m ρ _ => (θ_run _ _ _).mono (fun r h => ⟨fun c => (h c).2.2.2, sem_eq_zero_of_no_sems (by decide) r.2⟩)
    (Cert.Reference9Ideal.Value.run (F := Ideal) m ρ)

/-- The kernel ends with its arguments kept. -/
theorem frame_Kernel10Ideal : quiescent_Kernel10Ideal :=
  fun m ρ _ => Cert.Kernel10Ideal.Gen.frame (F := Ideal) m ρ

/-- The printed programs run the same body. -/
theorem body_Kernel10 : Cert.Kernel10.defs₀ (F := Bits) = Cert.Kernel10Ideal.defs₀ := by
  refine congrArg Defs.onTc (funext fun l => funext fun a => ?_)
  match l, a with
  | 0, (t, s) => rfl

theorem frame_Kernel10 : quiescent_Kernel10 := by
  intro m ρ _
  rw [show Cert.Kernel10.defs (F := Bits) = Cert.Kernel10Ideal.defs from congrArg (Pipeline.defs _) body_Kernel10]
  exact (θ_run Cert.Kernel10Ideal.defs _ _).mono (fun _ h => h) (Cert.Kernel10Ideal.Gen.frame (F := Bits) m ρ)

/-- The reference ends with its arguments kept. -/
theorem frame_Reference10Ideal : quiescent_Reference10Ideal :=
  fun m ρ _ => (θ_run _ _ _).mono (fun r h => ⟨fun c => (h c).2.2, sem_eq_zero_of_no_sems (by decide) r.2⟩)
    (Cert.Reference10Ideal.Value.run (F := Ideal) m ρ)

/-- The kernel ends with its arguments kept. -/
theorem frame_Kernel2Ideal : quiescent_Kernel2Ideal :=
  fun m ρ _ => Cert.Ssm.frame (F := Ideal) m ρ

/-- The printed programs run the same body. -/
theorem body_Kernel2 : Cert.Kernel2.defs₀ (F := Bits) = Cert.Kernel2Ideal.defs₀ := by
  refine congrArg Defs.onTc (funext fun l => funext fun a => ?_)
  match l, a with
  | 0, (t, s) => rfl

theorem frame_Kernel2 : quiescent_Kernel2 := by
  intro m ρ _
  rw [show Cert.Kernel2.defs (F := Bits) = Cert.Kernel2Ideal.defs from congrArg (Pipeline.defs _) body_Kernel2]
  exact (θ_run Cert.Kernel2Ideal.defs _ _).mono (fun _ h => h) (Cert.Ssm.frame (F := Bits) m ρ)

/-- The kernel ends with its arguments kept. -/
theorem frame_Kernel11Ideal : quiescent_Kernel11Ideal :=
  fun m ρ _ => Cert.Kernel11Ideal.Gen.frame (F := Ideal) m ρ

/-- The printed programs run the same body. -/
theorem body_Kernel11 : Cert.Kernel11.defs₀ (F := Bits) = Cert.Kernel11Ideal.defs₀ := by
  refine congrArg Defs.onTc (funext fun l => funext fun a => ?_)
  match l, a with
  | 0, (t, s) => rfl

theorem frame_Kernel11 : quiescent_Kernel11 := by
  intro m ρ _
  rw [show Cert.Kernel11.defs (F := Bits) = Cert.Kernel11Ideal.defs from congrArg (Pipeline.defs _) body_Kernel11]
  exact (θ_run Cert.Kernel11Ideal.defs _ _).mono (fun _ h => h) (Cert.Kernel11Ideal.Gen.frame (F := Bits) m ρ)

/-- The reference ends with its arguments kept. -/
theorem frame_Reference11Ideal : quiescent_Reference11Ideal :=
  fun m ρ _ => (θ_run _ _ _).mono (fun r h => ⟨fun c => (h c).2.2.2, sem_eq_zero_of_no_sems (by decide) r.2⟩)
    (Cert.Reference11Ideal.Value.run (F := Ideal) m ρ)

/-- The kernel ends with its arguments kept. -/
theorem frame_Kernel12Ideal : quiescent_Kernel12Ideal :=
  fun m ρ _ => Cert.Kernel12Ideal.Gen.frame (F := Ideal) m ρ

/-- The printed programs run the same body. -/
theorem body_Kernel12 : Cert.Kernel12.defs₀ (F := Bits) = Cert.Kernel12Ideal.defs₀ := by
  refine congrArg Defs.onTc (funext fun l => funext fun a => ?_)
  match l, a with
  | 0, (t, s) => rfl

theorem frame_Kernel12 : quiescent_Kernel12 := by
  intro m ρ _
  rw [show Cert.Kernel12.defs (F := Bits) = Cert.Kernel12Ideal.defs from congrArg (Pipeline.defs _) body_Kernel12]
  exact (θ_run Cert.Kernel12Ideal.defs _ _).mono (fun _ h => h) (Cert.Kernel12Ideal.Gen.frame (F := Bits) m ρ)

/-- The reference ends with its arguments kept. -/
theorem frame_Reference12Ideal : quiescent_Reference12Ideal :=
  fun m ρ _ => (θ_run _ _ _).mono (fun r h => ⟨fun c => (h c).2.2.2, sem_eq_zero_of_no_sems (by decide) r.2⟩)
    (Cert.Reference12Ideal.Value.run (F := Ideal) m ρ)

/-- The kernel ends with its arguments kept. -/
theorem frame_Kernel13Ideal : quiescent_Kernel13Ideal :=
  fun m ρ _ => Cert.Kernel13Ideal.Gen.frame (F := Ideal) m ρ

/-- The printed programs run the same body. -/
theorem body_Kernel13 : Cert.Kernel13.defs₀ (F := Bits) = Cert.Kernel13Ideal.defs₀ := by
  refine congrArg Defs.onTc (funext fun l => funext fun a => ?_)
  match l, a with
  | 0, (t, s) => rfl

theorem frame_Kernel13 : quiescent_Kernel13 := by
  intro m ρ _
  rw [show Cert.Kernel13.defs (F := Bits) = Cert.Kernel13Ideal.defs from congrArg (Pipeline.defs _) body_Kernel13]
  exact (θ_run Cert.Kernel13Ideal.defs _ _).mono (fun _ h => h) (Cert.Kernel13Ideal.Gen.frame (F := Bits) m ρ)

/-- The reference ends with its arguments kept. -/
theorem frame_Reference13Ideal : quiescent_Reference13Ideal :=
  fun m ρ _ => (θ_run _ _ _).mono (fun r h => ⟨fun c => (h c).2.2.2, sem_eq_zero_of_no_sems (by decide) r.2⟩)
    (Cert.Reference13Ideal.Value.run (F := Ideal) m ρ)

/-- The kernel ends with its arguments kept. -/
theorem frame_Kernel14Ideal : quiescent_Kernel14Ideal :=
  fun m ρ _ => Cert.Kernel14Ideal.Gen.frame (F := Ideal) m ρ

/-- The printed programs run the same body. -/
theorem body_Kernel14 : Cert.Kernel14.defs₀ (F := Bits) = Cert.Kernel14Ideal.defs₀ := by
  refine congrArg Defs.onTc (funext fun l => funext fun a => ?_)
  match l, a with
  | 0, (t, s) => rfl

theorem frame_Kernel14 : quiescent_Kernel14 := by
  intro m ρ _
  rw [show Cert.Kernel14.defs (F := Bits) = Cert.Kernel14Ideal.defs from congrArg (Pipeline.defs _) body_Kernel14]
  exact (θ_run Cert.Kernel14Ideal.defs _ _).mono (fun _ h => h) (Cert.Kernel14Ideal.Gen.frame (F := Bits) m ρ)

/-- The reference ends with its arguments kept. -/
theorem frame_Reference14Ideal : quiescent_Reference14Ideal :=
  fun m ρ _ => (θ_run _ _ _).mono (fun r h => ⟨fun c => (h c).2.2.2, sem_eq_zero_of_no_sems (by decide) r.2⟩)
    (Cert.Reference14Ideal.Value.run (F := Ideal) m ρ)

/-- The kernel ends with its arguments kept. -/
theorem frame_Kernel15Ideal : quiescent_Kernel15Ideal :=
  fun m ρ _ => Cert.Kernel15Ideal.Gen.frame (F := Ideal) m ρ

/-- The printed programs run the same body. -/
theorem body_Kernel15 : Cert.Kernel15.defs₀ (F := Bits) = Cert.Kernel15Ideal.defs₀ := by
  refine congrArg Defs.onTc (funext fun l => funext fun a => ?_)
  match l, a with
  | 0, (t, s) => rfl

theorem frame_Kernel15 : quiescent_Kernel15 := by
  intro m ρ _
  rw [show Cert.Kernel15.defs (F := Bits) = Cert.Kernel15Ideal.defs from congrArg (Pipeline.defs _) body_Kernel15]
  exact (θ_run Cert.Kernel15Ideal.defs _ _).mono (fun _ h => h) (Cert.Kernel15Ideal.Gen.frame (F := Bits) m ρ)

/-- The reference ends with its arguments kept. -/
theorem frame_Reference15Ideal : quiescent_Reference15Ideal :=
  fun m ρ _ => (θ_run _ _ _).mono (fun r h => ⟨fun c => (h c).2.2.2, sem_eq_zero_of_no_sems (by decide) r.2⟩)
    (Cert.Reference15Ideal.Value.run (F := Ideal) m ρ)

/-- The kernel ends with its arguments kept. -/
theorem frame_Kernel16Ideal : quiescent_Kernel16Ideal :=
  fun m ρ _ => Cert.Kernel16Ideal.Gen.frame (F := Ideal) m ρ

/-- The printed programs run the same body. -/
theorem body_Kernel16 : Cert.Kernel16.defs₀ (F := Bits) = Cert.Kernel16Ideal.defs₀ := by
  refine congrArg Defs.onTc (funext fun l => funext fun a => ?_)
  match l, a with
  | 0, (t, s) => rfl

theorem frame_Kernel16 : quiescent_Kernel16 := by
  intro m ρ _
  rw [show Cert.Kernel16.defs (F := Bits) = Cert.Kernel16Ideal.defs from congrArg (Pipeline.defs _) body_Kernel16]
  exact (θ_run Cert.Kernel16Ideal.defs _ _).mono (fun _ h => h) (Cert.Kernel16Ideal.Gen.frame (F := Bits) m ρ)

/-- The reference ends with its arguments kept. -/
theorem frame_Reference16Ideal : quiescent_Reference16Ideal :=
  fun m ρ _ => (θ_run _ _ _).mono (fun r h => ⟨fun c => (h c).2.2.2, sem_eq_zero_of_no_sems (by decide) r.2⟩)
    (Cert.Reference16Ideal.Value.run (F := Ideal) m ρ)

/-- The kernel ends with its arguments kept. -/
theorem frame_Kernel17Ideal : quiescent_Kernel17Ideal :=
  fun m ρ _ => Cert.AdamMany.frame (F := Ideal) m ρ

set_option maxHeartbeats 8000000 in
/-- The printed programs run the same body. -/
theorem body_Kernel17 : Cert.Kernel17.defs₀ (F := Bits) = Cert.Kernel17Ideal.defs₀ := by
  refine congrArg Defs.onTc (funext fun l => funext fun a => ?_)
  match l, a with
  | 0, (t, s) => rfl

set_option maxHeartbeats 8000000 in
theorem frame_Kernel17 : quiescent_Kernel17 := by
  intro m ρ _
  rw [show Cert.Kernel17.defs (F := Bits) = Cert.Kernel17Ideal.defs from congrArg (Pipeline.defs _) body_Kernel17]
  exact (θ_run Cert.Kernel17Ideal.defs _ _).mono (fun _ h => h) (Cert.AdamMany.frame (F := Bits) m ρ)

/-- The reference ends with its arguments kept. -/
theorem frame_Reference17Ideal : quiescent_Reference17Ideal :=
  fun m ρ _ => (θ_run _ _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.Reference17Ideal.Value.run (F := Ideal) m ρ)

/-- The kernel ends with its arguments kept. -/
theorem frame_Kernel18Ideal : quiescent_Kernel18Ideal :=
  fun m ρ _ => Cert.Kernel18Ideal.Gen.frame (F := Ideal) m ρ

/-- The printed programs run the same body. -/
theorem body_Kernel18 : Cert.Kernel18.defs₀ (F := Bits) = Cert.Kernel18Ideal.defs₀ := by
  refine congrArg Defs.onTc (funext fun l => funext fun a => ?_)
  match l, a with
  | 0, (t, s) => rfl

theorem frame_Kernel18 : quiescent_Kernel18 := by
  intro m ρ _
  rw [show Cert.Kernel18.defs (F := Bits) = Cert.Kernel18Ideal.defs from congrArg (Pipeline.defs _) body_Kernel18]
  exact (θ_run Cert.Kernel18Ideal.defs _ _).mono (fun _ h => h) (Cert.Kernel18Ideal.Gen.frame (F := Bits) m ρ)

/-- The reference ends with its arguments kept. -/
theorem frame_Reference18Ideal : quiescent_Reference18Ideal :=
  fun m ρ _ => (θ_run _ _ _).mono (fun r h => ⟨fun c => (h c).2.2, sem_eq_zero_of_no_sems (by decide) r.2⟩)
    (Cert.Reference18Ideal.Value.run (F := Ideal) m ρ)

/-- The kernel ends with its arguments kept. -/
theorem frame_Kernel19Ideal : quiescent_Kernel19Ideal :=
  fun m ρ _ => Cert.Kernel19Ideal.Gen.frame (F := Ideal) m ρ

/-- The printed programs run the same body. -/
theorem body_Kernel19 : Cert.Kernel19.defs₀ (F := Bits) = Cert.Kernel19Ideal.defs₀ := by
  refine congrArg Defs.onTc (funext fun l => funext fun a => ?_)
  match l, a with
  | 0, (t, s) => rfl

theorem frame_Kernel19 : quiescent_Kernel19 := by
  intro m ρ _
  rw [show Cert.Kernel19.defs (F := Bits) = Cert.Kernel19Ideal.defs from congrArg (Pipeline.defs _) body_Kernel19]
  exact (θ_run Cert.Kernel19Ideal.defs _ _).mono (fun _ h => h) (Cert.Kernel19Ideal.Gen.frame (F := Bits) m ρ)

/-- The reference ends with its arguments kept. -/
theorem frame_Reference19Ideal : quiescent_Reference19Ideal :=
  fun m ρ _ => (θ_run _ _ _).mono (fun r h => ⟨fun c => (h c).2, sem_eq_zero_of_no_sems (by decide) r.2⟩)
    (Cert.Reference19Ideal.Value.run (F := Ideal) m ρ)

/-- The kernel ends with its arguments kept. -/
theorem frame_Kernel20Ideal : quiescent_Kernel20Ideal :=
  fun m ρ _ => Cert.Kernel20Ideal.Gen.frame (F := Ideal) m ρ

/-- The printed programs run the same body. -/
theorem body_Kernel20 : Cert.Kernel20.defs₀ (F := Bits) = Cert.Kernel20Ideal.defs₀ := by
  refine congrArg Defs.onTc (funext fun l => funext fun a => ?_)
  match l, a with
  | 0, (t, s) => rfl

theorem frame_Kernel20 : quiescent_Kernel20 := by
  intro m ρ _
  rw [show Cert.Kernel20.defs (F := Bits) = Cert.Kernel20Ideal.defs from congrArg (Pipeline.defs _) body_Kernel20]
  exact (θ_run Cert.Kernel20Ideal.defs _ _).mono (fun _ h => h) (Cert.Kernel20Ideal.Gen.frame (F := Bits) m ρ)

/-- The reference ends with its arguments kept. -/
theorem frame_Reference20Ideal : quiescent_Reference20Ideal :=
  fun m ρ _ => (θ_run _ _ _).mono (fun r h => ⟨fun c => (h c).2, sem_eq_zero_of_no_sems (by decide) r.2⟩)
    (Cert.Reference20Ideal.Value.run (F := Ideal) m ρ)

/-- The kernel ends with its arguments kept. -/
theorem frame_Kernel21Ideal : quiescent_Kernel21Ideal :=
  fun m ρ _ => Cert.Kernel21Ideal.Gen.frame (F := Ideal) m ρ

/-- The printed programs run the same body. -/
theorem body_Kernel21 : Cert.Kernel21.defs₀ (F := Bits) = Cert.Kernel21Ideal.defs₀ := by
  refine congrArg Defs.onTc (funext fun l => funext fun a => ?_)
  match l, a with
  | 0, (t, s) => rfl

theorem frame_Kernel21 : quiescent_Kernel21 := by
  intro m ρ _
  rw [show Cert.Kernel21.defs (F := Bits) = Cert.Kernel21Ideal.defs from congrArg (Pipeline.defs _) body_Kernel21]
  exact (θ_run Cert.Kernel21Ideal.defs _ _).mono (fun _ h => h) (Cert.Kernel21Ideal.Gen.frame (F := Bits) m ρ)

/-- The reference ends with its arguments kept. -/
theorem frame_Reference21Ideal : quiescent_Reference21Ideal :=
  fun m ρ _ => (θ_run _ _ _).mono (fun r h => ⟨fun c => (h c).2.2.2.2.2.2.2.2, sem_eq_zero_of_no_sems (by decide) r.2⟩)
    (Cert.Reference21Ideal.Value.run (F := Ideal) m ρ)

/-- The kernel ends with its arguments kept. -/
theorem frame_Kernel22Ideal : quiescent_Kernel22Ideal :=
  fun m ρ _ => Cert.Kernel22Ideal.Gen.frame (F := Ideal) m ρ

/-- The printed programs run the same body. -/
theorem body_Kernel22 : Cert.Kernel22.defs₀ (F := Bits) = Cert.Kernel22Ideal.defs₀ := by
  refine congrArg Defs.onTc (funext fun l => funext fun a => ?_)
  match l, a with
  | 0, (t, s) => rfl

theorem frame_Kernel22 : quiescent_Kernel22 := by
  intro m ρ _
  rw [show Cert.Kernel22.defs (F := Bits) = Cert.Kernel22Ideal.defs from congrArg (Pipeline.defs _) body_Kernel22]
  exact (θ_run Cert.Kernel22Ideal.defs _ _).mono (fun _ h => h) (Cert.Kernel22Ideal.Gen.frame (F := Bits) m ρ)

/-- The reference ends with its arguments kept. -/
theorem frame_Reference22Ideal : quiescent_Reference22Ideal :=
  fun m ρ _ => (θ_run _ _ _).mono (fun r h => ⟨fun c => (h c).2.2.2, sem_eq_zero_of_no_sems (by decide) r.2⟩)
    (Cert.Reference22Ideal.Value.run (F := Ideal) m ρ)

/-- The kernel ends with its arguments kept. -/
theorem frame_Kernel23Ideal : quiescent_Kernel23Ideal :=
  fun m ρ _ => Cert.Kernel23Ideal.Gen.frame (F := Ideal) m ρ

/-- The printed programs run the same body. -/
theorem body_Kernel23 : Cert.Kernel23.defs₀ (F := Bits) = Cert.Kernel23Ideal.defs₀ := by
  refine congrArg Defs.onTc (funext fun l => funext fun a => ?_)
  match l, a with
  | 0, (t, s) => rfl

theorem frame_Kernel23 : quiescent_Kernel23 := by
  intro m ρ _
  rw [show Cert.Kernel23.defs (F := Bits) = Cert.Kernel23Ideal.defs from congrArg (Pipeline.defs _) body_Kernel23]
  exact (θ_run Cert.Kernel23Ideal.defs _ _).mono (fun _ h => h) (Cert.Kernel23Ideal.Gen.frame (F := Bits) m ρ)

/-- The reference ends with its arguments kept. -/
theorem frame_Reference23Ideal : quiescent_Reference23Ideal :=
  fun m ρ _ => (θ_run _ _ _).mono (fun r h => ⟨fun c => (h c).2.2.2.2, sem_eq_zero_of_no_sems (by decide) r.2⟩)
    (Cert.Reference23Ideal.Value.run (F := Ideal) m ρ)

/-- The kernel ends with its arguments kept. -/
theorem frame_Kernel24Ideal : quiescent_Kernel24Ideal :=
  fun m ρ _ => Cert.Kernel24Ideal.Gen.frame (F := Ideal) m ρ

/-- The printed programs run the same body. -/
theorem body_Kernel24 : Cert.Kernel24.defs₀ (F := Bits) = Cert.Kernel24Ideal.defs₀ := by
  refine congrArg Defs.onTc (funext fun l => funext fun a => ?_)
  match l, a with
  | 0, (t, s) => rfl

set_option maxHeartbeats 1000000 in
theorem frame_Kernel24 : quiescent_Kernel24 := by
  intro m ρ _
  rw [show Cert.Kernel24.defs (F := Bits) = Cert.Kernel24Ideal.defs from congrArg (Pipeline.defs _) body_Kernel24]
  exact (θ_run Cert.Kernel24Ideal.defs _ _).mono (fun _ h => h) (Cert.Kernel24Ideal.Gen.frame (F := Bits) m ρ)

/-- The reference ends with its arguments kept. -/
theorem frame_Reference24Ideal : quiescent_Reference24Ideal :=
  fun m ρ _ => (θ_run _ _ _).mono (fun r h => ⟨fun c => (h c).2.2.2.2.2.2.2.2.2.2.2.2.2.2.2.2.2, sem_eq_zero_of_no_sems (by decide) r.2⟩)
    (Cert.Reference24Ideal.Value.run (F := Ideal) m ρ)

/-- The kernel ends with its arguments kept. -/
theorem frame_Kernel25Ideal : quiescent_Kernel25Ideal :=
  fun m ρ _ => Cert.Kernel25Ideal.Gen.frame (F := Ideal) m ρ

/-- The printed programs run the same body. -/
theorem body_Kernel25 : Cert.Kernel25.defs₀ (F := Bits) = Cert.Kernel25Ideal.defs₀ := by
  refine congrArg Defs.onTc (funext fun l => funext fun a => ?_)
  match l, a with
  | 0, (t, s) => rfl

set_option maxHeartbeats 1000000 in
theorem frame_Kernel25 : quiescent_Kernel25 := by
  intro m ρ _
  rw [show Cert.Kernel25.defs (F := Bits) = Cert.Kernel25Ideal.defs from congrArg (Pipeline.defs _) body_Kernel25]
  exact (θ_run Cert.Kernel25Ideal.defs _ _).mono (fun _ h => h) (Cert.Kernel25Ideal.Gen.frame (F := Bits) m ρ)

/-- The reference ends with its arguments kept. -/
theorem frame_Reference25Ideal : quiescent_Reference25Ideal :=
  fun m ρ _ => (θ_run _ _ _).mono (fun r h => ⟨fun c => (h c).2.2.2.2.2, sem_eq_zero_of_no_sems (by decide) r.2⟩)
    (Cert.Reference25Ideal.Value.run (F := Ideal) m ρ)

/-- The gradient through the feed-forward block's two products and its modulated input. -/
theorem value_KernelIdeal_ReferenceIdeal : algebraic_KernelIdeal_ReferenceIdeal := by
  intro m ρ m' ρ' _ hagree
  refine ⟨fun c => DxFf.G7 m c, fun c => DxFf.G8 m c, ?_, ?_⟩
  · exact (θ_run _ _ _).mono (fun _ h c => ⟨(h c).1.trans (DxFf.final7 m c), (h c).2.1.trans (DxFf.final8 m c), (h c).2.2⟩)
      (Cert.KernelIdeal.Value.run_blocks (F := Ideal) m ρ)
  · refine (θ_run _ _ _).mono (fun _ h c => ⟨(h c).1.trans ?_, (h c).2.1.trans ?_, (h c).2.2⟩) (Cert.ReferenceIdeal.Value.run (F := Ideal) m' ρ')
    · obtain ⟨e0, e1, e2, e3, e4, e5, e6⟩ := hagree c
      rw [e0, e1, e2, e3, e4, e6]
      funext i
      rw [eq_ix2 i]
      exact DxFfRef.dx_at _ _ _ _ _ _ (i 0) (i 1)
    · obtain ⟨e0, e1, e2, e3, e4, e5, e6⟩ := hagree c
      rw [e0, e1, e2, e3, e5]
      funext i
      rw [eq_ix2 i]
      exact (DxFfRef.rows_at _ _ _ _ _ (i 0) (i 1)).trans (DxFf.G8_apply m c (i 0) (i 1)).symm

/-- The gradient of a feed-forward weight. -/
theorem value_Kernel4Ideal_Reference4Ideal : algebraic_Kernel4Ideal_Reference4Ideal := by
  intro m ρ m' ρ' _ hagree
  refine ⟨fun c => Cert.Kernel4Ideal.Value.G2 m c, Cert.Kernel4Ideal.Value.run (F := Ideal) m ρ, ?_⟩
  refine (θ_run _ _ _).mono (fun _ h c => ⟨(h c).1.trans ?_, (h c).2⟩) (Cert.Reference4Ideal.Value.run (F := Ideal) m' ρ')
  obtain ⟨e0, e1⟩ := hagree c
  rw [e0, e1]
  funext i
  rw [eq_ix2 i]
  exact (DwFfRef.ref_apply _ _ (i 0) (i 1)).trans (DwFf.G2_apply m c (i 0) (i 1)).symm

/-- The gradient of the mixing block's output weight. -/
theorem value_Kernel6Ideal_Reference6Ideal : algebraic_Kernel6Ideal_Reference6Ideal := by
  intro m ρ m' ρ' _ hagree
  refine ⟨fun c => Cert.Kernel6Ideal.Value.G2 m c, Cert.Kernel6Ideal.Value.run (F := Ideal) m ρ, ?_⟩
  refine (θ_run _ _ _).mono (fun _ h c => ⟨(h c).1.trans ?_, (h c).2⟩) (Cert.Reference6Ideal.Value.run (F := Ideal) m' ρ')
  obtain ⟨e0, e1⟩ := hagree c
  rw [e0, e1]
  funext i
  rw [eq_ix2 i]
  exact (DwORef.ref_apply _ _ (i 0) (i 1)).trans (DwO.G2_apply m c (i 0) (i 1)).symm

/-- The gradient of the mixing block's input weight. -/
theorem value_Kernel7Ideal_Reference7Ideal : algebraic_Kernel7Ideal_Reference7Ideal := by
  intro m ρ m' ρ' _ hagree
  refine ⟨fun c => Cert.Kernel7Ideal.Value.G2 m c, Cert.Kernel7Ideal.Value.run (F := Ideal) m ρ, ?_⟩
  refine (θ_run _ _ _).mono (fun _ h c => ⟨(h c).1.trans ?_, (h c).2⟩) (Cert.Reference7Ideal.Value.run (F := Ideal) m' ρ')
  obtain ⟨e0, e1⟩ := hagree c
  rw [e0, e1]
  funext i
  rw [eq_ix2 i]
  exact (DwInRef.ref_apply _ _ (i 0) (i 1)).trans (DwIn.G2_apply m c (i 0) (i 1)).symm

/-- The gradient through the mixing block's input product and its modulated input. -/
theorem value_Kernel8Ideal_Reference8Ideal : algebraic_Kernel8Ideal_Reference8Ideal := by
  intro m ρ m' ρ' _ hagree
  refine ⟨fun c => DxIn.G5 m c, fun c => DxIn.G6 m c, ?_, ?_⟩
  · exact (θ_run _ _ _).mono (fun _ h c => ⟨(h c).1.trans (DxIn.final5 m c), (h c).2.1.trans (DxIn.final6 m c), (h c).2.2⟩)
      (Cert.Kernel8Ideal.Value.run_blocks (F := Ideal) m ρ)
  · refine (θ_run _ _ _).mono (fun _ h c => ⟨(h c).1.trans ?_, (h c).2.1.trans ?_, (h c).2.2⟩) (Cert.Reference8Ideal.Value.run (F := Ideal) m' ρ')
    · obtain ⟨e0, e1, e2, e3, e4⟩ := hagree c
      rw [e0, e1, e2, e4]
      funext i
      rw [eq_ix2 i]
      exact DxInRef.dx_at _ _ _ _ (i 0) (i 1)
    · obtain ⟨e0, e1, e2, e3, e4⟩ := hagree c
      rw [e0, e1, e3]
      funext i
      rw [eq_ix2 i]
      exact (DxInRef.rows_at _ _ _ (i 0) (i 1)).trans (DxIn.G6_apply m c (i 0) (i 1)).symm

/-- The feed-forward block's two input products and its gate. -/
theorem value_Kernel9Ideal_Reference9Ideal : algebraic_Kernel9Ideal_Reference9Ideal := by
  intro m ρ m' ρ' _ hagree
  refine ⟨fun c => GateUp.G3 m c, fun c => GateUp.G4 m c, fun c => GateUp.G5 m c, ?_, ?_⟩
  · exact (θ_run _ _ _).mono (fun _ h c => ⟨(h c).1.trans (GateUp.final3 m c), (h c).2.1.trans (GateUp.final4 m c), (h c).2.2.1.trans (GateUp.final5 m c), (h c).2.2.2⟩)
      (Cert.Kernel9Ideal.Value.run_blocks (F := Ideal) m ρ)
  · refine (θ_run _ _ _).mono (fun _ h c => ⟨(h c).1.trans ?_, (h c).2.1.trans ?_, (h c).2.2.1.trans ?_, (h c).2.2.2⟩) (Cert.Reference9Ideal.Value.run (F := Ideal) m' ρ')
    · obtain ⟨e0, e1, e2⟩ := hagree c
      rw [e0, e1]
      funext i
      rw [eq_ix2 i]
      exact GateUpRef.prod_at _ _ (i 0) (i 1)
    · obtain ⟨e0, e1, e2⟩ := hagree c
      rw [e0, e2]
      funext i
      rw [eq_ix2 i]
      exact GateUpRef.prod_at _ _ (i 0) (i 1)
    · obtain ⟨e0, e1, e2⟩ := hagree c
      rw [e0, e1, e2]
      funext i
      rw [eq_ix2 i]
      exact GateUpRef.act_at _ _ _ (i 0) (i 1)

/-- The mixing block's modulated input and its input product. -/
theorem value_Kernel10Ideal_Reference10Ideal : algebraic_Kernel10Ideal_Reference10Ideal := by
  intro m ρ m' ρ' _ hagree
  refine ⟨fun c => InFwd.G4 m c, fun c => InFwd.G5 m c, ?_, ?_⟩
  · exact (θ_run _ _ _).mono (fun _ h c => ⟨(h c).1.trans (InFwd.final4 m c), (h c).2.1.trans (InFwd.final5 m c), (h c).2.2⟩)
      (Cert.Kernel10Ideal.Value.run_blocks (F := Ideal) m ρ)
  · refine (θ_run _ _ _).mono (fun _ h c => ⟨(h c).1.trans ?_, (h c).2.1.trans ?_, (h c).2.2⟩) (Cert.Reference10Ideal.Value.run (F := Ideal) m' ρ')
    · obtain ⟨e0, e1, e2, e3⟩ := hagree c
      rw [e0, e1, e2, e3]
      funext i
      rw [eq_ix2 i]
      exact InFwdRef.z_at _ _ _ _ (i 0) (i 1)
    · obtain ⟨e0, e1, e2, e3⟩ := hagree c
      rw [e0, e1]
      funext i
      rw [eq_ix2 i]
      exact InFwdRef.h_at _ _ (i 0) (i 1)

/-- One step of the modulation's weight and of its moments. -/
theorem value_Kernel11Ideal_Reference11Ideal : algebraic_Kernel11Ideal_Reference11Ideal := by
  intro m ρ m' ρ' _ hagree
  refine ⟨_, _, _, Cert.Kernel11Ideal.Value.run (F := Ideal) m ρ, ?_⟩
  refine (θ_run _ _ _).mono (fun _ h c => ?_) (Cert.Reference11Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

/-- One step of the mixing block's input weight and of its moments. -/
theorem value_Kernel12Ideal_Reference12Ideal : algebraic_Kernel12Ideal_Reference12Ideal := by
  intro m ρ m' ρ' _ hagree
  refine ⟨_, _, _, Cert.Kernel12Ideal.Value.run (F := Ideal) m ρ, ?_⟩
  refine (θ_run _ _ _).mono (fun _ h c => ?_) (Cert.Reference12Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

/-- One step of the mixing block's output weight and of its moments. -/
theorem value_Kernel13Ideal_Reference13Ideal : algebraic_Kernel13Ideal_Reference13Ideal := by
  intro m ρ m' ρ' _ hagree
  refine ⟨_, _, _, Cert.Kernel13Ideal.Value.run (F := Ideal) m ρ, ?_⟩
  refine (θ_run _ _ _).mono (fun _ h c => ?_) (Cert.Reference13Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

/-- One step of a feed-forward input weight and of its moments. -/
theorem value_Kernel14Ideal_Reference14Ideal : algebraic_Kernel14Ideal_Reference14Ideal := by
  intro m ρ m' ρ' _ hagree
  refine ⟨_, _, _, Cert.Kernel14Ideal.Value.run (F := Ideal) m ρ, ?_⟩
  refine (θ_run _ _ _).mono (fun _ h c => ?_) (Cert.Reference14Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

/-- One step of the feed-forward output weight and of its moments. -/
theorem value_Kernel15Ideal_Reference15Ideal : algebraic_Kernel15Ideal_Reference15Ideal := by
  intro m ρ m' ρ' _ hagree
  refine ⟨_, _, _, Cert.Kernel15Ideal.Value.run (F := Ideal) m ρ, ?_⟩
  refine (θ_run _ _ _).mono (fun _ h c => ?_) (Cert.Reference15Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

/-- One step of the state space's output weight and of its moments. -/
theorem value_Kernel16Ideal_Reference16Ideal : algebraic_Kernel16Ideal_Reference16Ideal := by
  intro m ρ m' ρ' _ hagree
  refine ⟨_, _, _, Cert.Kernel16Ideal.Value.run (F := Ideal) m ρ, ?_⟩
  refine (θ_run _ _ _).mono (fun _ h c => ?_) (Cert.Reference16Ideal.Value.run (F := Ideal) m' ρ')
  obtain ⟨e0, e1, e2, e3⟩ := hagree c
  exact ⟨(h c).1.trans (Adam.delta _ _ _ _ _ _ _ _ _ e0 e1 e2 e3), (h c).2.1.trans (Adam.mom1 _ _ _ _ _ e1 e2), (h c).2.2.1.trans (Adam.mom2 _ _ _ _ _ e1 e3), (h c).2.2.2⟩

set_option maxHeartbeats 8000000 in
/-- One step of the small weights and of their moments. -/
theorem value_Kernel17Ideal_Reference17Ideal : algebraic_Kernel17Ideal_Reference17Ideal := by
  intro m ρ m' ρ' _ hagree
  refine ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, Cert.AdamMany.run (F := Ideal) m ρ, ?_⟩
  refine (θ_run _ _ _).mono (fun _ h c => ?_) (Cert.Reference17Ideal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87⟩ := hagree c
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, hr⟩ := h c
  exact ⟨h0.trans (Adam.delta _ _ _ _ _ _ _ _ _ e0 e22 e44 e66), h1.trans (Adam.delta _ _ _ _ _ _ _ _ _ e1 e23 e45 e67), h2.trans (Adam.delta _ _ _ _ _ _ _ _ _ e2 e24 e46 e68),
    h3.trans (Adam.delta _ _ _ _ _ _ _ _ _ e3 e25 e47 e69), h4.trans (Adam.delta _ _ _ _ _ _ _ _ _ e4 e26 e48 e70), h5.trans (Adam.delta _ _ _ _ _ _ _ _ _ e5 e27 e49 e71),
    h6.trans (Adam.delta _ _ _ _ _ _ _ _ _ e6 e28 e50 e72), h7.trans (Adam.delta _ _ _ _ _ _ _ _ _ e7 e29 e51 e73), h8.trans (Adam.delta _ _ _ _ _ _ _ _ _ e8 e30 e52 e74),
    h9.trans (Adam.delta _ _ _ _ _ _ _ _ _ e9 e31 e53 e75), h10.trans (Adam.delta _ _ _ _ _ _ _ _ _ e10 e32 e54 e76), h11.trans (Adam.delta _ _ _ _ _ _ _ _ _ e11 e33 e55 e77),
    h12.trans (Adam.delta _ _ _ _ _ _ _ _ _ e12 e34 e56 e78), h13.trans (Adam.delta _ _ _ _ _ _ _ _ _ e13 e35 e57 e79), h14.trans (Adam.delta _ _ _ _ _ _ _ _ _ e14 e36 e58 e80),
    h15.trans (Adam.delta _ _ _ _ _ _ _ _ _ e15 e37 e59 e81), h16.trans (Adam.delta _ _ _ _ _ _ _ _ _ e16 e38 e60 e82), h17.trans (Adam.delta _ _ _ _ _ _ _ _ _ e17 e39 e61 e83),
    h18.trans (Adam.delta _ _ _ _ _ _ _ _ _ e18 e40 e62 e84), h19.trans (Adam.delta _ _ _ _ _ _ _ _ _ e19 e41 e63 e85), h20.trans (Adam.delta _ _ _ _ _ _ _ _ _ e20 e42 e64 e86),
    h21.trans (Adam.delta _ _ _ _ _ _ _ _ _ e21 e43 e65 e87), h22.trans (Adam.mom1 _ _ _ _ _ e22 e44), h23.trans (Adam.mom1 _ _ _ _ _ e23 e45),
    h24.trans (Adam.mom1 _ _ _ _ _ e24 e46), h25.trans (Adam.mom1 _ _ _ _ _ e25 e47), h26.trans (Adam.mom1 _ _ _ _ _ e26 e48),
    h27.trans (Adam.mom1 _ _ _ _ _ e27 e49), h28.trans (Adam.mom1 _ _ _ _ _ e28 e50), h29.trans (Adam.mom1 _ _ _ _ _ e29 e51),
    h30.trans (Adam.mom1 _ _ _ _ _ e30 e52), h31.trans (Adam.mom1 _ _ _ _ _ e31 e53), h32.trans (Adam.mom1 _ _ _ _ _ e32 e54),
    h33.trans (Adam.mom1 _ _ _ _ _ e33 e55), h34.trans (Adam.mom1 _ _ _ _ _ e34 e56), h35.trans (Adam.mom1 _ _ _ _ _ e35 e57),
    h36.trans (Adam.mom1 _ _ _ _ _ e36 e58), h37.trans (Adam.mom1 _ _ _ _ _ e37 e59), h38.trans (Adam.mom1 _ _ _ _ _ e38 e60),
    h39.trans (Adam.mom1 _ _ _ _ _ e39 e61), h40.trans (Adam.mom1 _ _ _ _ _ e40 e62), h41.trans (Adam.mom1 _ _ _ _ _ e41 e63),
    h42.trans (Adam.mom1 _ _ _ _ _ e42 e64), h43.trans (Adam.mom1 _ _ _ _ _ e43 e65), h44.trans (Adam.mom2 _ _ _ _ _ e22 e66),
    h45.trans (Adam.mom2 _ _ _ _ _ e23 e67), h46.trans (Adam.mom2 _ _ _ _ _ e24 e68), h47.trans (Adam.mom2 _ _ _ _ _ e25 e69),
    h48.trans (Adam.mom2 _ _ _ _ _ e26 e70), h49.trans (Adam.mom2 _ _ _ _ _ e27 e71), h50.trans (Adam.mom2 _ _ _ _ _ e28 e72),
    h51.trans (Adam.mom2 _ _ _ _ _ e29 e73), h52.trans (Adam.mom2 _ _ _ _ _ e30 e74), h53.trans (Adam.mom2 _ _ _ _ _ e31 e75),
    h54.trans (Adam.mom2 _ _ _ _ _ e32 e76), h55.trans (Adam.mom2 _ _ _ _ _ e33 e77), h56.trans (Adam.mom2 _ _ _ _ _ e34 e78),
    h57.trans (Adam.mom2 _ _ _ _ _ e35 e79), h58.trans (Adam.mom2 _ _ _ _ _ e36 e80), h59.trans (Adam.mom2 _ _ _ _ _ e37 e81),
    h60.trans (Adam.mom2 _ _ _ _ _ e38 e82), h61.trans (Adam.mom2 _ _ _ _ _ e39 e83), h62.trans (Adam.mom2 _ _ _ _ _ e40 e84),
    h63.trans (Adam.mom2 _ _ _ _ _ e41 e85), h64.trans (Adam.mom2 _ _ _ _ _ e42 e86), h65.trans (Adam.mom2 _ _ _ _ _ e43 e87),
    hr⟩

/-- The loss and its gradient. -/
theorem value_Kernel18Ideal_Reference18Ideal : algebraic_Kernel18Ideal_Reference18Ideal := by
  intro m ρ m' ρ' _ hagree
  refine ⟨fun c => Loss.G2 m c, fun c => Loss.G3 m c, ?_, ?_⟩
  · exact (θ_run _ _ _).mono (fun _ h c => ⟨(h c).1.trans (Loss.final2 m c), (h c).2.1.trans (Loss.final3 m c), (h c).2.2⟩)
      (Cert.Kernel18Ideal.Value.run_blocks (F := Ideal) m ρ)
  · refine (θ_run _ _ _).mono (fun _ h c => ⟨(h c).1.trans ?_, (h c).2.1.trans ?_, (h c).2.2⟩) (Cert.Reference18Ideal.Value.run (F := Ideal) m' ρ')
    · obtain ⟨e0, e1⟩ := hagree c
      rw [e0, e1]
      funext i
      rw [eq_ix2 i]
      exact LossRef.loss_at _ _ (i 0) (i 1)
    · obtain ⟨e0, e1⟩ := hagree c
      rw [e0, e1]
      funext i
      rw [eq_ix2 i]
      exact LossRef.grad_at _ _ (i 0) (i 1)

/-- The gradient of the modulation's weight. -/
theorem value_Kernel19Ideal_Reference19Ideal : algebraic_Kernel19Ideal_Reference19Ideal := by
  intro m ρ m' ρ' _ hagree
  refine ⟨fun c => AdaGrad.G2 m c, ?_, ?_⟩
  · exact (θ_run _ _ _).mono (fun _ h c => ⟨(h c).1.trans (AdaGrad.final2 m c), (h c).2⟩)
      (Cert.Kernel19Ideal.Value.run_blocks (F := Ideal) m ρ)
  · refine (θ_run _ _ _).mono (fun _ h c => ⟨(h c).1.trans ?_, (h c).2⟩) (Cert.Reference19Ideal.Value.run (F := Ideal) m' ρ')
    obtain ⟨e0, e1⟩ := hagree c
    rw [e0, e1]
    funext i
    rw [eq_ix3 i]
    exact AdaGradRef.val_at _ _ (i 0) (i 1) (i 2)

/-- The modulation of every layer. -/
theorem value_Kernel20Ideal_Reference20Ideal : algebraic_Kernel20Ideal_Reference20Ideal := by
  intro m ρ m' ρ' _ hagree
  refine ⟨fun c => AdaFwd.G2 m c, ?_, ?_⟩
  · exact (θ_run _ _ _).mono (fun _ h c => ⟨(h c).1.trans (AdaFwd.final2 m c), (h c).2⟩)
      (Cert.Kernel20Ideal.Value.run_blocks (F := Ideal) m ρ)
  · refine (θ_run _ _ _).mono (fun _ h c => ⟨(h c).1.trans ?_, (h c).2⟩) (Cert.Reference20Ideal.Value.run (F := Ideal) m' ρ')
    obtain ⟨e0, e1⟩ := hagree c
    rw [e0, e1]
    funext i
    rw [eq_ix3 i]
    exact AdaFwdRef.val_at _ _ (i 0) (i 1) (i 2)

/-- The devices' partial sums, added. -/
theorem value_Kernel21Ideal_Reference21Ideal : algebraic_Kernel21Ideal_Reference21Ideal := by
  intro m ρ m' ρ' _ hagree
  refine ⟨_, _, _, _, _, _, _, _, Cert.Kernel21Ideal.Value.run (F := Ideal) m ρ, ?_⟩
  refine (θ_run _ _ _).mono (fun _ h c => ?_) (Cert.Reference21Ideal.Value.run (F := Ideal) m' ρ')
  obtain ⟨e0, e1, e2, e3, e4, e5, e6, e7⟩ := hagree c
  have k := h c
  rw [e0, e1, e2, e3, e4, e5, e6, e7] at k
  exact ⟨k.1.trans (Sum8.eight rfl _ _ _ _ _ _ _ _ _ _ _ _), k.2.1.trans (Sum8.eight rfl _ _ _ _ _ _ _ _ _ _ _ _), k.2.2.1.trans (Sum8.eight rfl _ _ _ _ _ _ _ _ _ _ _ _), k.2.2.2.1.trans (Sum8.eight rfl _ _ _ _ _ _ _ _ _ _ _ _), k.2.2.2.2.1.trans (Sum8.eight rfl _ _ _ _ _ _ _ _ _ _ _ _), k.2.2.2.2.2.1.trans (Sum8.eight rfl _ _ _ _ _ _ _ _ _ _ _ _), k.2.2.2.2.2.2.1.trans (Sum8.eight rfl _ _ _ _ _ _ _ _ _ _ _ _), k.2.2.2.2.2.2.2.1.trans (Sum8.eight rfl _ _ _ _ _ _ _ _ _ _ _ _),
    by rw [e0, e1, e2, e3, e4, e5, e6, e7]; exact k.2.2.2.2.2.2.2.2⟩

/-- The feed-forward block's output product, its residual sum and the normalized sum. -/
theorem value_Kernel22Ideal_Reference22Ideal : algebraic_Kernel22Ideal_Reference22Ideal := by
  intro m ρ m' ρ' _ hagree
  refine ⟨fun c => DownLn.G5 m c, fun c => DownLn.G6 m c, fun c => DownLn.G7 m c, ?_, ?_⟩
  · exact (θ_run _ _ _).mono (fun _ h c => ⟨(h c).1.trans (DownLn.final5 m c), (h c).2.1.trans (DownLn.final6 m c), (h c).2.2.1.trans (DownLn.final7 m c), (h c).2.2.2⟩)
      (Cert.Kernel22Ideal.Value.run_blocks (F := Ideal) m ρ)
  · refine (θ_run _ _ _).mono (fun _ h c => ⟨(h c).1.trans ?_, (h c).2.1.trans ?_, (h c).2.2.1.trans ?_, (h c).2.2.2⟩) (Cert.Reference22Ideal.Value.run (F := Ideal) m' ρ')
    · obtain ⟨e0, e1, e2, e3, e4⟩ := hagree c
      rw [e0, e1]
      funext i
      rw [eq_ix2 i]
      exact DownLnRef.prod_at _ _ (i 0) (i 1)
    · obtain ⟨e0, e1, e2, e3, e4⟩ := hagree c
      rw [e0, e1, e2, e3]
      funext i
      rw [eq_ix2 i]
      exact DownLnRef.res_at _ _ _ _ (i 0) (i 1)
    · obtain ⟨e0, e1, e2, e3, e4⟩ := hagree c
      unfold Cert.Reference22Ideal.Value.res_main_v35
      rw [e0, e1, e2, e3, e4]
      funext i
      rw [eq_ix2 i]
      exact DownLnRef.nrm_at _ _ _ _ _ (i 0) (i 1)

/-- The mixing block's output product, its residual sum, the normalized sum and the modulated one. -/
theorem value_Kernel23Ideal_Reference23Ideal : algebraic_Kernel23Ideal_Reference23Ideal := by
  intro m ρ m' ρ' _ hagree
  refine ⟨fun c => OutLn.G5 m c, fun c => OutLn.G6 m c, fun c => OutLn.G7 m c, fun c => OutLn.G8 m c, ?_, ?_⟩
  · exact (θ_run _ _ _).mono (fun _ h c => ⟨(h c).1.trans (OutLn.final5 m c), (h c).2.1.trans (OutLn.final6 m c), (h c).2.2.1.trans (OutLn.final7 m c), (h c).2.2.2.1.trans (OutLn.final8 m c), (h c).2.2.2.2⟩)
      (Cert.Kernel23Ideal.Value.run_blocks (F := Ideal) m ρ)
  · refine (θ_run _ _ _).mono (fun _ h c => ⟨(h c).1.trans ?_, (h c).2.1.trans ?_, (h c).2.2.1.trans ?_, (h c).2.2.2.1.trans ?_, (h c).2.2.2.2⟩) (Cert.Reference23Ideal.Value.run (F := Ideal) m' ρ')
    · obtain ⟨e0, e1, e2, e3, e4⟩ := hagree c
      rw [e0, e1]
      funext i
      rw [eq_ix2 i]
      exact OutLnRef.prod_at _ _ (i 0) (i 1)
    · obtain ⟨e0, e1, e2, e3, e4⟩ := hagree c
      rw [e0, e1, e2, e3]
      funext i
      rw [eq_ix2 i]
      exact OutLnRef.res_at _ _ _ _ (i 0) (i 1)
    · obtain ⟨e0, e1, e2, e3, e4⟩ := hagree c
      unfold Cert.Reference23Ideal.Value.res_main_v34
      rw [e0, e1, e2, e3, e4]
      funext i
      rw [eq_ix2 i]
      exact OutLnRef.nrm_at _ _ _ _ _ (i 0) (i 1)
    · obtain ⟨e0, e1, e2, e3, e4⟩ := hagree c
      unfold Cert.Reference23Ideal.Value.res_main_v44
      rw [e0, e1, e2, e3, e4]
      funext i
      rw [eq_ix2 i]
      exact OutLnRef.hid_at _ _ _ _ _ (i 0) (i 1)

set_option maxHeartbeats 1000000 in
theorem value_Kernel24Ideal_Reference24Ideal : algebraic_Kernel24Ideal_Reference24Ideal := by
  intro m ρ m' ρ' _ hagree
  refine ⟨fun c => SmallGrads.fin m c Kernel24Ideal.main_v21, fun c => SmallGrads.fin m c Kernel24Ideal.main_v59, fun c => SmallGrads.fin m c Kernel24Ideal.main_v36, fun c => SmallGrads.fin m c Kernel24Ideal.main_v50, fun c => SmallGrads.fin m c Kernel24Ideal.main_v49, fun c => SmallGrads.fin m c Kernel24Ideal.main_v41, fun c => SmallGrads.fin m c Kernel24Ideal.main_v43, fun c => SmallGrads.fin m c Kernel24Ideal.main_v45, fun c => SmallGrads.fin m c Kernel24Ideal.main_v47, fun c => SmallGrads.fin m c Kernel24Ideal.main_v62, fun c => SmallGrads.fin m c Kernel24Ideal.main_v65, fun c => SmallGrads.fin m c Kernel24Ideal.main_v52, fun c => SmallGrads.fin m c Kernel24Ideal.main_v54, fun c => SmallGrads.fin m c Kernel24Ideal.main_v23, fun c => SmallGrads.fin m c Kernel24Ideal.main_v25, fun c => SmallGrads.fin m c Kernel24Ideal.main_v27, fun c => SmallGrads.fin m c Kernel24Ideal.main_v29, (θ_run _ _ _).mono (fun _ h c => ?_) (SmallGrads.run m ρ), ?_⟩
  · have k := fun b hb => (h c).1 b hb
    refine ⟨k _ ?_, k _ ?_, k _ ?_, k _ ?_, k _ ?_, k _ ?_, k _ ?_, k _ ?_, k _ ?_, k _ ?_, k _ ?_, k _ ?_, k _ ?_, k _ ?_, k _ ?_, k _ ?_, k _ ?_, (h c).2⟩
    all_goals exact Pipeline.mem_restRefs_of _ (by decide) (by decide)
  refine (θ_run _ _ _).mono (fun _ h c => ?_) (Cert.Reference24Ideal.Value.run (F := Ideal) m' ρ')
  obtain ⟨e0, e1, e2, e3, e4, e5, e6, e7, e8⟩ := hagree c
  obtain ⟨k0, k1, k2, k3, k4, k5, k6, k7, k8, k9, k10, k11, k12, k13, k14, k15, k16, k⟩ := h c
  rw [e0] at k2 k5
  rw [e1] at k0 k13 k14 k15 k16
  rw [e2] at k2 k4 k5 k6 k7 k8
  rw [e3] at k1 k11 k12
  rw [e4] at k3
  rw [e6] at k9 k10
  rw [e8] at k1
  refine ⟨k0.trans ?_, k1.trans ?_, k2.trans ?_, k3.trans ?_, k4.trans ?_, k5.trans ?_, k6.trans ?_, k7.trans ?_, k8.trans ?_, k9.trans ?_, k10.trans ?_, k11.trans ?_, k12.trans ?_, k13.trans ?_, k14.trans ?_, k15.trans ?_, k16.trans ?_, k⟩
  · unfold SmallGrads.fin
    after_results_simp
    refine SmallGrads.concat_congr (SmallGrads.cons_congr ?_ (SmallGrads.cons_congr ?_ (SmallGrads.cons_congr ?_ (SmallGrads.cons_congr ?_ (SmallGrads.cons_congr ?_ (SmallGrads.cons_congr ?_ rfl))))))
    all_goals (try after_results_simp)
    all_goals exact congrArg (fun y : FVec Ideal Kernel24Ideal.S4x32x1024 .f32 => shapeCast _ (extractStridedSlice _ _ y _) _) (SmallGrads.sum0 m c _ _ _ _).symm
  · unfold SmallGrads.fin
    after_results_simp
    refine SmallGrads.concat_congr (SmallGrads.cons_congr ?_ (SmallGrads.cons_congr ?_ rfl))
    all_goals (try after_results_simp)
    · exact congrArg (fun y : FVec Ideal Kernel24Ideal.S4x8x1536 .f32 => shapeCast _ (extractStridedSlice _ _ y _) _) (SmallGrads.sum7 m c _ _ _ _).symm
    · exact congrArg (fun y : FVec Ideal Kernel24Ideal.S4x8x256 .f32 => shapeCast _ (extractStridedSlice _ _ y _) _) (SmallGrads.sum2 m c _ _ _ _).symm
  · unfold SmallGrads.fin
    after_results_simp_entrywise
    clear h hagree k0 k1 k2 k3 k4 k5 k6 k7 k8 k9 k10 k11 k12 k13 k14 k15 k16 k
    rw [SmallGrads.W_chip]
    refine SmallGrads.slice_congr ?_ ?_
    · exact congrArg (fun y : FVec Ideal Kernel24Ideal.S4x56x256 .f32 => extractStridedSlice _ _ y _) (SmallGrads.sum1 m c _ _ _ _).symm
    rfl
  · unfold SmallGrads.fin
    after_results_simp
    exact congrArg (fun y : FVec Ideal Kernel24Ideal.S4x256x64 .f32 => shapeCast _ y _) (SmallGrads.sum3 m c _ _ _ _).symm
  · unfold SmallGrads.fin
    after_results_simp
    exact congrArg (fun y : FVec Ideal Kernel24Ideal.S4x56x256 .f32 => shapeCast _ (extractStridedSlice _ _ y _) _) (SmallGrads.sum1 m c _ _ _ _).symm
  · unfold SmallGrads.fin
    after_results_simp_entrywise
    clear h hagree k0 k1 k2 k3 k4 k5 k6 k7 k8 k9 k10 k11 k12 k13 k14 k15 k16 k
    rw [SmallGrads.W_chip]
    refine SmallGrads.slice_congr ?_ ?_
    · exact congrArg (fun y : FVec Ideal Kernel24Ideal.S4x56x256 .f32 => extractStridedSlice _ _ y _) (SmallGrads.sum1 m c _ _ _ _).symm
    rfl
  iterate 3
    · unfold SmallGrads.fin
      after_results_simp
      exact congrArg (fun y : FVec Ideal Kernel24Ideal.S4x56x256 .f32 => shapeCast _ (extractStridedSlice _ _ y _) _) (SmallGrads.sum1 m c _ _ _ _).symm
  · unfold SmallGrads.fin
    after_results_simp
    exact congrArg (fun y : FVec Ideal Kernel24Ideal.S4x256x128 .f32 => shapeCast _ (extractStridedSlice _ _ (shapeCast _ y _) _) _) (SmallGrads.sum5 m c _ _ _ _).symm
  · unfold SmallGrads.fin
    after_results_simp
    exact congrArg (fun y : FVec Ideal Kernel24Ideal.S4x256x128 .f32 => Host.negf (shapeCast _ (extractStridedSlice _ _ (shapeCast _ y _) _) _)) (SmallGrads.sum5 m c _ _ _ _).symm
  iterate 2
    · unfold SmallGrads.fin
      after_results_simp
      exact congrArg (fun y : FVec Ideal Kernel24Ideal.S4x8x256 .f32 => shapeCast _ (extractStridedSlice _ _ y _) _) (SmallGrads.sum2 m c _ _ _ _).symm
  iterate 4
    · unfold SmallGrads.fin
      after_results_simp
      exact congrArg (fun y : FVec Ideal Kernel24Ideal.S4x32x1024 .f32 => shapeCast _ (extractStridedSlice _ _ y _) _) (SmallGrads.sum0 m c _ _ _ _).symm

set_option maxHeartbeats 8000000 in
/-- The gradients of the state-space parameters. -/
theorem value_Kernel25Ideal_Reference25Ideal : algebraic_Kernel25Ideal_Reference25Ideal := by
  intro m ρ m' ρ' _ hagree
  refine ⟨fun c => SsmParams.fin m c Kernel25Ideal.main_v161, fun c => SsmParams.fin m c Kernel25Ideal.main_v153, fun c => SsmParams.fin m c Kernel25Ideal.main_v163, fun c => SsmParams.fin m c Kernel25Ideal.main_v95, fun c => SsmParams.fin m c Kernel25Ideal.main_v87,
    (θ_run _ _ _).mono (fun _ h c => ?_) (SsmParams.run m ρ), ?_⟩
  · have k := fun b hb => (h c).1 b hb
    refine ⟨k _ ?_, k _ ?_, k _ ?_, k _ ?_, k _ ?_, (h c).2⟩
    all_goals exact Pipeline.mem_restRefs_of _ (by decide) (by decide)
  refine (θ_run _ _ _).mono (fun _ h c => ?_) (Cert.Reference25Ideal.Value.run (F := Ideal) m' ρ')
  obtain ⟨e0, e1, e2, e3, e4, e5, e6, e7, e8, e9, e10, e11, e12⟩ := hagree c
  obtain ⟨k0, k1, k2, k3, k4, k⟩ := h c
  refine ⟨k0.trans ?_, k1.trans ?_, k2.trans ?_, k3.trans ?_, k4.trans ?_, k⟩
  · unfold Reference25Ideal.Value.res_main_v156 SsmParams.fin
    after_results_simp
    rw [e0, e1, e2, e3, e4, e9, e11, SsmParams.W_arg0, SsmParams.W_arg1, SsmParams.W_arg2, SsmParams.W_arg3, SsmParams.W_arg4,
      ← SsmParams.sum4 m c Kernel25Ideal.Facts₀.shapeCasts_S1024x128_S4x256x128, ← SsmParams.sum6 m c Kernel25Ideal.Facts₀.shapeCasts_S32x2048_S4x8x2048]
    rfl
  · unfold Reference25Ideal.Value.res_main_v148 SsmParams.fin
    after_results_simp
    rw [e0, e1, e2, e3, e4, e9, e11, SsmParams.W_arg0, SsmParams.W_arg1, SsmParams.W_arg2, SsmParams.W_arg3, SsmParams.W_arg4,
      ← SsmParams.sum4 m c Kernel25Ideal.Facts₀.shapeCasts_S1024x128_S4x256x128, ← SsmParams.sum6 m c Kernel25Ideal.Facts₀.shapeCasts_S32x2048_S4x8x2048]
    rfl
  · unfold Reference25Ideal.Value.res_main_v158 SsmParams.fin
    after_results_simp
    rw [e0, e1, e2, e3, e4, e9, e11, SsmParams.W_arg0, SsmParams.W_arg1, SsmParams.W_arg2, SsmParams.W_arg3, SsmParams.W_arg4,
      ← SsmParams.sum4 m c Kernel25Ideal.Facts₀.shapeCasts_S1024x128_S4x256x128, ← SsmParams.sum6 m c Kernel25Ideal.Facts₀.shapeCasts_S32x2048_S4x8x2048]
    rfl
  all_goals
    unfold SsmParams.fin
    after_results_simp
    rw [e0, e1, e2, e9, SsmParams.W_arg0, SsmParams.W_arg1, SsmParams.W_arg2, ← SsmParams.sum4 m c Kernel25Ideal.Facts₀.shapeCasts_S1024x128_S4x256x128]
    rfl

/-- The claims, together. -/
theorem claim : Cert.Claim :=
  ⟨Cert.Kernel.Gen.facts,
    Cert.KernelIdeal.Gen.facts,
    Cert.ReferenceIdeal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel2.Gen.facts,
    Cert.Kernel2Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    frame_Kernel,
    frame_KernelIdeal,
    frame_ReferenceIdeal,
    frame_Kernel3,
    frame_Kernel3Ideal,
    frame_Reference3Ideal,
    frame_Kernel4,
    frame_Kernel4Ideal,
    frame_Reference4Ideal,
    frame_Kernel5,
    frame_Kernel5Ideal,
    frame_Reference5Ideal,
    frame_Kernel6,
    frame_Kernel6Ideal,
    frame_Reference6Ideal,
    frame_Kernel7,
    frame_Kernel7Ideal,
    frame_Reference7Ideal,
    frame_Kernel8,
    frame_Kernel8Ideal,
    frame_Reference8Ideal,
    frame_Kernel9,
    frame_Kernel9Ideal,
    frame_Reference9Ideal,
    frame_Kernel10,
    frame_Kernel10Ideal,
    frame_Reference10Ideal,
    frame_Kernel2,
    frame_Kernel2Ideal,
    frame_Kernel11,
    frame_Kernel11Ideal,
    frame_Reference11Ideal,
    frame_Kernel12,
    frame_Kernel12Ideal,
    frame_Reference12Ideal,
    frame_Kernel13,
    frame_Kernel13Ideal,
    frame_Reference13Ideal,
    frame_Kernel14,
    frame_Kernel14Ideal,
    frame_Reference14Ideal,
    frame_Kernel15,
    frame_Kernel15Ideal,
    frame_Reference15Ideal,
    frame_Kernel16,
    frame_Kernel16Ideal,
    frame_Reference16Ideal,
    frame_Kernel17,
    frame_Kernel17Ideal,
    frame_Reference17Ideal,
    frame_Kernel18,
    frame_Kernel18Ideal,
    frame_Reference18Ideal,
    frame_Kernel19,
    frame_Kernel19Ideal,
    frame_Reference19Ideal,
    frame_Kernel20,
    frame_Kernel20Ideal,
    frame_Reference20Ideal,
    frame_Kernel21,
    frame_Kernel21Ideal,
    frame_Reference21Ideal,
    frame_Kernel22,
    frame_Kernel22Ideal,
    frame_Reference22Ideal,
    frame_Kernel23,
    frame_Kernel23Ideal,
    frame_Reference23Ideal,
    frame_Kernel24,
    frame_Kernel24Ideal,
    frame_Reference24Ideal,
    frame_Kernel25,
    frame_Kernel25Ideal,
    frame_Reference25Ideal,
    trivial,
    trivial,
    trivial,
    trivial,
    trivial,
    trivial,
    trivial,
    trivial,
    trivial,
    value_KernelIdeal_ReferenceIdeal,
    value_Kernel4Ideal_Reference4Ideal,
    value_Kernel6Ideal_Reference6Ideal,
    value_Kernel7Ideal_Reference7Ideal,
    value_Kernel8Ideal_Reference8Ideal,
    value_Kernel9Ideal_Reference9Ideal,
    value_Kernel10Ideal_Reference10Ideal,
    trivial,
    trivial,
    value_Kernel11Ideal_Reference11Ideal,
    trivial,
    value_Kernel12Ideal_Reference12Ideal,
    trivial,
    value_Kernel13Ideal_Reference13Ideal,
    trivial,
    value_Kernel14Ideal_Reference14Ideal,
    trivial,
    value_Kernel15Ideal_Reference15Ideal,
    trivial,
    value_Kernel16Ideal_Reference16Ideal,
    trivial,
    value_Kernel17Ideal_Reference17Ideal,
    trivial,
    value_Kernel18Ideal_Reference18Ideal,
    trivial,
    value_Kernel19Ideal_Reference19Ideal,
    trivial,
    value_Kernel20Ideal_Reference20Ideal,
    trivial,
    value_Kernel21Ideal_Reference21Ideal,
    trivial,
    value_Kernel22Ideal_Reference22Ideal,
    trivial,
    value_Kernel23Ideal_Reference23Ideal,
    trivial,
    value_Kernel24Ideal_Reference24Ideal,
    trivial,
    value_Kernel25Ideal_Reference25Ideal⟩

end Cert.Proof

end
